-- ==== Defs.lean ====
def Pre_Kernel [hPre_ids_in_range : Cert.Pre_ids_in_range.Facts] (m : (ℓ : Loc Cert.Kernel.nD Cert.Kernel.τ Cert.Kernel.sig) → Buf (Elt Bits) ℓ) : Prop :=
  ∀ c : Dev Cert.Kernel.nD,
    (Cert.Pre_ids_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_ids_in_range : Cert.Pre_ids_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_KernelIdeal_ids_distinct [hPre_ids_distinct : Cert.Pre_ids_distinct.Facts] (m : (ℓ : Loc Cert.KernelIdeal.nD Cert.KernelIdeal.τ Cert.KernelIdeal.sig) → Buf (Elt Ideal) ℓ) : Prop :=
  ∀ c : Dev Cert.KernelIdeal.nD,
    (Cert.Pre_ids_distinct.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_distinct [hPre_ids_distinct : Cert.Pre_ids_distinct.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_distinct.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] [hPre_ids_in_range : Cert.Pre_ids_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_ids_distinct [hKernelIdeal : Cert.KernelIdeal.Facts] [hPre_ids_distinct : Cert.Pre_ids_distinct.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ids_distinct m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_ids_distinct [hReferenceIdeal : Cert.ReferenceIdeal.Facts] [hPre_ids_distinct : Cert.Pre_ids_distinct.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_distinct m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_ids_distinct [hKernelIdeal : Cert.KernelIdeal.Facts] [hReferenceIdeal : Cert.ReferenceIdeal.Facts] [hPre_ids_distinct : Cert.Pre_ids_distinct.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ids_distinct m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_ids_in_range : Cert.Pre_ids_in_range.Facts) (hPre_ids_distinct : Cert.Pre_ids_distinct.Facts),
    quiescent_Kernel (hKernel := hKernel) (hPre_ids_in_range := hPre_ids_in_range)
    ∧ quiescent_KernelIdeal (hKernelIdeal := hKernelIdeal) (hPre_ids_in_range := hPre_ids_in_range)
    ∧ quiescent_KernelIdeal_pre_ids_distinct (hKernelIdeal := hKernelIdeal) (hPre_ids_distinct := hPre_ids_distinct)
    ∧ quiescent_ReferenceIdeal (hReferenceIdeal := hReferenceIdeal)
    ∧ quiescent_ReferenceIdeal_pre_ids_distinct (hReferenceIdeal := hReferenceIdeal) (hPre_ids_distinct := hPre_ids_distinct)
    ∧ preserves_Kernel_KernelIdeal
    ∧ algebraic_KernelIdeal_ReferenceIdeal_pre_ids_distinct (hKernelIdeal := hKernelIdeal) (hReferenceIdeal := hReferenceIdeal) (hPre_ids_distinct := hPre_ids_distinct)
-- ==== Pre_ids_distinct.lean ====
abbrev S24x1x2048 : Shape := ⟨3, ![24, 1, 2048]⟩
abbrev S16x4096x1024 : Shape := ⟨3, ![16, 4096, 1024]⟩
abbrev S16x4096x16 : Shape := ⟨3, ![16, 4096, 16]⟩
abbrev S16x2048x1024 : Shape := ⟨3, ![16, 2048, 1024]⟩
abbrev S16x2048x16 : Shape := ⟨3, ![16, 2048, 16]⟩
abbrev S24x1x2 : Shape := ⟨3, ![24, 1, 2]⟩
abbrev S_ : Shape := ⟨0, ![]⟩
abbrev S24x1x1 : Shape := ⟨3, ![24, 1, 1]⟩

class Facts : Prop where
  bcast_S_S24x1x2 : S_.BroadcastsInDim S24x1x2 (![] : Fin 0 → Fin S24x1x2.rank)
  slices_S24x1x2_S24x1x1_0_0_0 : S24x1x2.Slices ![0, 0, 0] S24x1x1
  slices_S24x1x2_S24x1x1_0_0_1 : S24x1x2.Slices ![0, 0, 1] S24x1x1
  bcast_S24x1x1_S24x1x2_0_1_2 : S24x1x1.BroadcastsInDim S24x1x2 (![0, 1, 2] : Fin 3 → Fin S24x1x2.rank)

variable [Facts]

def fn {F : FTy → Type} [FloatOps F] (main_arg0 : FVec F S24x1x2048 .bf16) (main_arg1 : IVec S16x4096x1024 8) (main_arg2 : FVec F S16x4096x16 .bf16) (main_arg3 : IVec S16x2048x1024 8) (main_arg4 : FVec F S16x2048x16 .bf16) (main_arg5 : IVec S24x1x2 32) (main_arg6 : FVec F S24x1x2 .f32) : IVec S24x1x2 1 :=
  let main_c : IVec S_ 32 := constantI S_ 32 0#32
  let main_v0 : IVec S24x1x2 32 := broadcastInDim S24x1x2 ![] bcast_S_S24x1x2 main_c
  let main_v1 : IVec S24x1x2 1 := cmpi .sge main_arg5 main_v0
  let main_c_0 : IVec S_ 32 := constantI S_ 32 16#32
  let main_v2 : IVec S24x1x2 32 := broadcastInDim S24x1x2 ![] bcast_S_S24x1x2 main_c_0
  let main_v3 : IVec S24x1x2 1 := cmpi .slt main_arg5 main_v2
  let main_v4 : IVec S24x1x2 1 := andi main_v1 main_v3
  let main_v5 : IVec S24x1x1 32 := (extractStridedSlice S24x1x1 ![0, 0, 0] · slices_S24x1x2_S24x1x1_0_0_0) main_arg5
  let main_v6 : IVec S24x1x1 32 := (extractStridedSlice S24x1x1 ![0, 0, 1] · slices_S24x1x2_S24x1x1_0_0_1) main_arg5
  let main_v7 : IVec S24x1x1 1 := cmpi .ne main_v5 main_v6
  let main_v8 : IVec S24x1x2 1 := broadcastInDim S24x1x2 ![0, 1, 2] bcast_S24x1x1_S24x1x2_0_1_2 main_v7
  let main_v9 : IVec S24x1x2 1 := andi main_v4 main_v8
  main_v9
-- ==== Pre_ids_in_range.lean ====
abbrev S24x1x2048 : Shape := ⟨3, ![24, 1, 2048]⟩
abbrev S16x4096x1024 : Shape := ⟨3, ![16, 4096, 1024]⟩
abbrev S16x4096x16 : Shape := ⟨3, ![16, 4096, 16]⟩
abbrev S16x2048x1024 : Shape := ⟨3, ![16, 2048, 1024]⟩
abbrev S16x2048x16 : Shape := ⟨3, ![16, 2048, 16]⟩
abbrev S24x1x2 : Shape := ⟨3, ![24, 1, 2]⟩
abbrev S_ : Shape := ⟨0, ![]⟩

class Facts : Prop where
  bcast_S_S24x1x2 : S_.BroadcastsInDim S24x1x2 (![] : Fin 0 → Fin S24x1x2.rank)

variable [Facts]

def fn {F : FTy → Type} [FloatOps F] (main_arg0 : FVec F S24x1x2048 .bf16) (main_arg1 : IVec S16x4096x1024 8) (main_arg2 : FVec F S16x4096x16 .bf16) (main_arg3 : IVec S16x2048x1024 8) (main_arg4 : FVec F S16x2048x16 .bf16) (main_arg5 : IVec S24x1x2 32) (main_arg6 : FVec F S24x1x2 .f32) : IVec S24x1x2 1 :=
  let main_c : IVec S_ 32 := constantI S_ 32 0#32
  let main_v0 : IVec S24x1x2 32 := broadcastInDim S24x1x2 ![] bcast_S_S24x1x2 main_c
  let main_v1 : IVec S24x1x2 1 := cmpi .sge main_arg5 main_v0
  let main_c_0 : IVec S_ 32 := constantI S_ 32 16#32
  let main_v2 : IVec S24x1x2 32 := broadcastInDim S24x1x2 ![] bcast_S_S24x1x2 main_c_0
  let main_v3 : IVec S24x1x2 1 := cmpi .slt main_arg5 main_v2
  let main_v4 : IVec S24x1x2 1 := andi main_v1 main_v3
  main_v4
-- ==== Kernel.lean ====
abbrev S24x1x2048 : Shape := ⟨3, ![24, 1, 2048]⟩
abbrev S16x4096x1024 : Shape := ⟨3, ![16, 4096, 1024]⟩
abbrev S16x4096x16 : Shape := ⟨3, ![16, 4096, 16]⟩
abbrev S16x2048x1024 : Shape := ⟨3, ![16, 2048, 1024]⟩
abbrev S16x2048x16 : Shape := ⟨3, ![16, 2048, 16]⟩
abbrev S24x1x2 : Shape := ⟨3, ![24, 1, 2]⟩
abbrev S24x2 : Shape := ⟨2, ![24, 2]⟩
abbrev S24x2048 : Shape := ⟨2, ![24, 2048]⟩
abbrev S16x16x4096 : Shape := ⟨3, ![16, 16, 4096]⟩
abbrev S16x16x2048 : Shape := ⟨3, ![16, 16, 2048]⟩
abbrev S17 : Shape := ⟨1, ![17]⟩
abbrev S2x4096x1024 : Shape := ⟨3, ![2, 4096, 1024]⟩
abbrev S2x16x4096 : Shape := ⟨3, ![2, 16, 4096]⟩
abbrev S2x2048x1024 : Shape := ⟨3, ![2, 2048, 1024]⟩
abbrev S2x16x2048 : Shape := ⟨3, ![2, 16, 2048]⟩
abbrev S2x3 : Shape := ⟨2, ![2, 3]⟩
abbrev S1x1 : Shape := ⟨2, ![1, 1]⟩
abbrev S1 : Shape := ⟨1, ![1]⟩
abbrev S_ : Shape := ⟨0, ![]⟩
abbrev S1x16x4096 : Shape := ⟨3, ![1, 16, 4096]⟩
abbrev S16x4096 : Shape := ⟨2, ![16, 4096]⟩
abbrev S1x1024x1024 : Shape := ⟨3, ![1, 1024, 1024]⟩
abbrev S1024x1024 : Shape := ⟨2, ![1024, 1024]⟩
abbrev S1x16x2048 : Shape := ⟨3, ![1, 16, 2048]⟩
abbrev S16x2048 : Shape := ⟨2, ![16, 2048]⟩
abbrev S1x2048x1024 : Shape := ⟨3, ![1, 2048, 1024]⟩
abbrev S2048x1024 : Shape := ⟨2, ![2048, 1024]⟩
abbrev S24x256 : Shape := ⟨2, ![24, 256]⟩
abbrev S1x4096x1024 : Shape := ⟨3, ![1, 4096, 1024]⟩
abbrev S4096x1024 : Shape := ⟨2, ![4096, 1024]⟩
abbrev S256x128 : Shape := ⟨2, ![256, 128]⟩
abbrev S128x256 : Shape := ⟨2, ![128, 256]⟩
abbrev S128x1x256 : Shape := ⟨3, ![128, 1, 256]⟩
abbrev S128x2x256 : Shape := ⟨3, ![128, 2, 256]⟩
abbrev S256x256 : Shape := ⟨2, ![256, 256]⟩
abbrev S2x256 : Shape := ⟨2, ![2, 256]⟩
abbrev S1x256 : Shape := ⟨2, ![1, 256]⟩
abbrev S24 : Shape := ⟨1, ![24]⟩
abbrev S24x1 : Shape := ⟨2, ![24, 1]⟩

abbrev nBuf : Space → Nat
  | .hbm => 14
  | .vmem => 10
  | .smem => 2
  | _ => 0

abbrev bufTy : (tb : Table) → Fin (tcTables nBuf tb) → BufTy
  | .hbm, ⟨0, _⟩ => ⟨S24x1x2048, .bf16⟩
  | .hbm, ⟨1, _⟩ => ⟨S16x4096x1024, .i8⟩
  | .hbm, ⟨2, _⟩ => ⟨S16x4096x16, .bf16⟩
  | .hbm, ⟨3, _⟩ => ⟨S16x2048x1024, .i8⟩
  | .hbm, ⟨4, _⟩ => ⟨S16x2048x16, .bf16⟩
  | .hbm, ⟨5, _⟩ => ⟨S24x1x2, .i32⟩
  | .hbm, ⟨6, _⟩ => ⟨S24x1x2, .f32⟩
  | .hbm, ⟨7, _⟩ => ⟨S24x2, .i32⟩
  | .hbm, ⟨8, _⟩ => ⟨S24x2048, .bf16⟩
  | .hbm, ⟨9, _⟩ => ⟨S24x2, .f32⟩
  | .hbm, ⟨10, _⟩ => ⟨S16x16x4096, .bf16⟩
  | .hbm, ⟨11, _⟩ => ⟨S16x16x2048, .bf16⟩
  | .hbm, ⟨12, _⟩ => ⟨S24x2048, .bf16⟩
  | .hbm, ⟨13, _⟩ => ⟨S24x1x2048, .bf16⟩
  | .local _ .vmem, ⟨0, _⟩ => ⟨S24x2048, .bf16⟩
  | .local _ .vmem, ⟨1, _⟩ => ⟨S24x2, .i32⟩
  | .local _ .vmem, ⟨2, _⟩ => ⟨S24x2, .f32⟩
  | .local _ .vmem, ⟨3, _⟩ => ⟨S24x2048, .bf16⟩
  | .local _ .vmem, ⟨4, _⟩ => ⟨S2x4096x1024, .i8⟩
  | .local _ .vmem, ⟨5, _⟩ => ⟨S2x16x4096, .bf16⟩
  | .local _ .vmem, ⟨6, _⟩ => ⟨S2x2048x1024, .i8⟩
  | .local _ .vmem, ⟨7, _⟩ => ⟨S2x16x2048, .bf16⟩
  | .local _ .vmem, ⟨8, _⟩ => ⟨S24x2048, .bf16⟩
  | .local _ .vmem, ⟨9, _⟩ => ⟨S24x2048, .f32⟩
  | .local _ .smem, ⟨0, _⟩ => ⟨S24x2, .i32⟩
  | .local _ .smem, ⟨1, _⟩ => ⟨S17, .i32⟩
  | _, _ => ⟨S24x1x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_stg0_0 : Ref sig .tc := ⟨.smem, 0, rfl⟩
abbrev cc0_scratch0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

def k0_off1 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) : Fin 1 → Nat :=
  let c0_i32_123 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_2 : BitVec 32 := 1#32
  let v4 : BitVec 32 := Scalar.shli c1_i32_2 v3
  let v5 : BitVec 32 := Scalar.ori v2 v4
  let c1_i32_5 : BitVec 32 := 1#32
  let v7 : BitVec 32 := Scalar.shli c1_i32_5 v6
  let v8 : BitVec 32 := Scalar.ori v5 v7
  let c1_i32_8 : BitVec 32 := 1#32
  let v10 : BitVec 32 := Scalar.shli c1_i32_8 v9
  let v11 : BitVec 32 := Scalar.ori v8 v10
  let c1_i32_10 : BitVec 32 := 1#32
  let v13 : BitVec 32 := Scalar.shli c1_i32_10 v12
  let v14 : BitVec 32 := Scalar.ori v11 v13
  let c1_i32_13 : BitVec 32 := 1#32
  let v16 : BitVec 32 := Scalar.shli c1_i32_13 v15
  let v17 : BitVec 32 := Scalar.ori v14 v16
  let c1_i32_15 : BitVec 32 := 1#32
  let v19 : BitVec 32 := Scalar.shli c1_i32_15 v18
  let v20 : BitVec 32 := Scalar.ori v17 v19
  let c1_i32_18 : BitVec 32 := 1#32
  let v22 : BitVec 32 := Scalar.shli c1_i32_18 v21
  let v23 : BitVec 32 := Scalar.ori v20 v22
  let c1_i32_20 : BitVec 32 := 1#32
  let v25 : BitVec 32 := Scalar.shli c1_i32_20 v24
  let v26 : BitVec 32 := Scalar.ori v23 v25
  let c1_i32_23 : BitVec 32 := 1#32
  let v28 : BitVec 32 := Scalar.shli c1_i32_23 v27
  let v29 : BitVec 32 := Scalar.ori v26 v28
  let c1_i32_25 : BitVec 32 := 1#32
  let v31 : BitVec 32 := Scalar.shli c1_i32_25 v30
  let v32 : BitVec 32 := Scalar.ori v29 v31
  let c1_i32_28 : BitVec 32 := 1#32
  let v34 : BitVec 32 := Scalar.shli c1_i32_28 v33
  let v35 : BitVec 32 := Scalar.ori v32 v34
  let c1_i32_30 : BitVec 32 := 1#32
  let v37 : BitVec 32 := Scalar.shli c1_i32_30 v36
  let v38 : BitVec 32 := Scalar.ori v35 v37
  let c1_i32_33 : BitVec 32 := 1#32
  let v40 : BitVec 32 := Scalar.shli c1_i32_33 v39
  let v41 : BitVec 32 := Scalar.ori v38 v40
  let c1_i32_35 : BitVec 32 := 1#32
  let v43 : BitVec 32 := Scalar.shli c1_i32_35 v42
  let v44 : BitVec 32 := Scalar.ori v41 v43
  let c1_i32_38 : BitVec 32 := 1#32
  let v46 : BitVec 32 := Scalar.shli c1_i32_38 v45
  let v47 : BitVec 32 := Scalar.ori v44 v46
  let c1_i32_40 : BitVec 32 := 1#32
  let v49 : BitVec 32 := Scalar.shli c1_i32_40 v48
  let v50 : BitVec 32 := Scalar.ori v47 v49
  let c1_i32_43 : BitVec 32 := 1#32
  let v52 : BitVec 32 := Scalar.shli c1_i32_43 v51
  let v53 : BitVec 32 := Scalar.ori v50 v52
  let c1_i32_45 : BitVec 32 := 1#32
  let v55 : BitVec 32 := Scalar.shli c1_i32_45 v54
  let v56 : BitVec 32 := Scalar.ori v53 v55
  let c1_i32_48 : BitVec 32 := 1#32
  let v58 : BitVec 32 := Scalar.shli c1_i32_48 v57
  let v59 : BitVec 32 := Scalar.ori v56 v58
  let c1_i32_50 : BitVec 32 := 1#32
  let v61 : BitVec 32 := Scalar.shli c1_i32_50 v60
  let v62 : BitVec 32 := Scalar.ori v59 v61
  let c1_i32_53 : BitVec 32 := 1#32
  let v64 : BitVec 32 := Scalar.shli c1_i32_53 v63
  let v65 : BitVec 32 := Scalar.ori v62 v64
  let c1_i32_55 : BitVec 32 := 1#32
  let v67 : BitVec 32 := Scalar.shli c1_i32_55 v66
  let v68 : BitVec 32 := Scalar.ori v65 v67
  let c1_i32_58 : BitVec 32 := 1#32
  let v70 : BitVec 32 := Scalar.shli c1_i32_58 v69
  let v71 : BitVec 32 := Scalar.ori v68 v70
  let c1_i32_60 : BitVec 32 := 1#32
  let v73 : BitVec 32 := Scalar.shli c1_i32_60 v72
  let v74 : BitVec 32 := Scalar.ori v71 v73
  let c1_i32_63 : BitVec 32 := 1#32
  let v76 : BitVec 32 := Scalar.shli c1_i32_63 v75
  let v77 : BitVec 32 := Scalar.ori v74 v76
  let c1_i32_65 : BitVec 32 := 1#32
  let v79 : BitVec 32 := Scalar.shli c1_i32_65 v78
  let v80 : BitVec 32 := Scalar.ori v77 v79
  let c1_i32_68 : BitVec 32 := 1#32
  let v82 : BitVec 32 := Scalar.shli c1_i32_68 v81
  let v83 : BitVec 32 := Scalar.ori v80 v82
  let c1_i32_70 : BitVec 32 := 1#32
  let v85 : BitVec 32 := Scalar.shli c1_i32_70 v84
  let v86 : BitVec 32 := Scalar.ori v83 v85
  let c1_i32_73 : BitVec 32 := 1#32
  let v88 : BitVec 32 := Scalar.shli c1_i32_73 v87
  let v89 : BitVec 32 := Scalar.ori v86 v88
  let c1_i32_75 : BitVec 32 := 1#32
  let v91 : BitVec 32 := Scalar.shli c1_i32_75 v90
  let v92 : BitVec 32 := Scalar.ori v89 v91
  let c1_i32_78 : BitVec 32 := 1#32
  let v94 : BitVec 32 := Scalar.shli c1_i32_78 v93
  let v95 : BitVec 32 := Scalar.ori v92 v94
  let c1_i32_80 : BitVec 32 := 1#32
  let v97 : BitVec 32 := Scalar.shli c1_i32_80 v96
  let v98 : BitVec 32 := Scalar.ori v95 v97
  let c1_i32_83 : BitVec 32 := 1#32
  let v100 : BitVec 32 := Scalar.shli c1_i32_83 v99
  let v101 : BitVec 32 := Scalar.ori v98 v100
  let c1_i32_85 : BitVec 32 := 1#32
  let v103 : BitVec 32 := Scalar.shli c1_i32_85 v102
  let v104 : BitVec 32 := Scalar.ori v101 v103
  let c1_i32_88 : BitVec 32 := 1#32
  let v106 : BitVec 32 := Scalar.shli c1_i32_88 v105
  let v107 : BitVec 32 := Scalar.ori v104 v106
  let c1_i32_90 : BitVec 32 := 1#32
  let v109 : BitVec 32 := Scalar.shli c1_i32_90 v108
  let v110 : BitVec 32 := Scalar.ori v107 v109
  let c1_i32_93 : BitVec 32 := 1#32
  let v112 : BitVec 32 := Scalar.shli c1_i32_93 v111
  let v113 : BitVec 32 := Scalar.ori v110 v112
  let c1_i32_95 : BitVec 32 := 1#32
  let v115 : BitVec 32 := Scalar.shli c1_i32_95 v114
  let v116 : BitVec 32 := Scalar.ori v113 v115
  let c1_i32_98 : BitVec 32 := 1#32
  let v118 : BitVec 32 := Scalar.shli c1_i32_98 v117
  let v119 : BitVec 32 := Scalar.ori v116 v118
  let c1_i32_100 : BitVec 32 := 1#32
  let v121 : BitVec 32 := Scalar.shli c1_i32_100 v120
  let v122 : BitVec 32 := Scalar.ori v119 v121
  let c1_i32_103 : BitVec 32 := 1#32
  let v124 : BitVec 32 := Scalar.shli c1_i32_103 v123
  let v125 : BitVec 32 := Scalar.ori v122 v124
  let c1_i32_105 : BitVec 32 := 1#32
  let v127 : BitVec 32 := Scalar.shli c1_i32_105 v126
  let v128 : BitVec 32 := Scalar.ori v125 v127
  let c1_i32_108 : BitVec 32 := 1#32
  let v130 : BitVec 32 := Scalar.shli c1_i32_108 v129
  let v131 : BitVec 32 := Scalar.ori v128 v130
  let c1_i32_110 : BitVec 32 := 1#32
  let v133 : BitVec 32 := Scalar.shli c1_i32_110 v132
  let v134 : BitVec 32 := Scalar.ori v131 v133
  let c1_i32_113 : BitVec 32 := 1#32
  let v136 : BitVec 32 := Scalar.shli c1_i32_113 v135
  let v137 : BitVec 32 := Scalar.ori v134 v136
  let c1_i32_115 : BitVec 32 := 1#32
  let v139 : BitVec 32 := Scalar.shli c1_i32_115 v138
  let v140 : BitVec 32 := Scalar.ori v137 v139
  let c1_i32_118 : BitVec 32 := 1#32
  let v142 : BitVec 32 := Scalar.shli c1_i32_118 v141
  let v143 : BitVec 32 := Scalar.ori v140 v142
  let c0_i32_121 : BitVec 32 := 0#32
  let v145 : BitVec 32 := Scalar.shrsi v143 c0_i32_121
  let c1_i32_122 : BitVec 32 := 1#32
  let v146 : BitVec 32 := Scalar.andi v145 c1_i32_122
  let v147 : BitVec 32 := Scalar.addi c0_i32_123 v146
  let v148 : Index := Scalar.indexCast v147
  ![v148.toNat]

def k0_off2 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) : Fin 1 → Nat :=
  let c0_i32_123 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_2 : BitVec 32 := 1#32
  let v4 : BitVec 32 := Scalar.shli c1_i32_2 v3
  let v5 : BitVec 32 := Scalar.ori v2 v4
  let c1_i32_5 : BitVec 32 := 1#32
  let v7 : BitVec 32 := Scalar.shli c1_i32_5 v6
  let v8 : BitVec 32 := Scalar.ori v5 v7
  let c1_i32_8 : BitVec 32 := 1#32
  let v10 : BitVec 32 := Scalar.shli c1_i32_8 v9
  let v11 : BitVec 32 := Scalar.ori v8 v10
  let c1_i32_10 : BitVec 32 := 1#32
  let v13 : BitVec 32 := Scalar.shli c1_i32_10 v12
  let v14 : BitVec 32 := Scalar.ori v11 v13
  let c1_i32_13 : BitVec 32 := 1#32
  let v16 : BitVec 32 := Scalar.shli c1_i32_13 v15
  let v17 : BitVec 32 := Scalar.ori v14 v16
  let c1_i32_15 : BitVec 32 := 1#32
  let v19 : BitVec 32 := Scalar.shli c1_i32_15 v18
  let v20 : BitVec 32 := Scalar.ori v17 v19
  let c1_i32_18 : BitVec 32 := 1#32
  let v22 : BitVec 32 := Scalar.shli c1_i32_18 v21
  let v23 : BitVec 32 := Scalar.ori v20 v22
  let c1_i32_20 : BitVec 32 := 1#32
  let v25 : BitVec 32 := Scalar.shli c1_i32_20 v24
  let v26 : BitVec 32 := Scalar.ori v23 v25
  let c1_i32_23 : BitVec 32 := 1#32
  let v28 : BitVec 32 := Scalar.shli c1_i32_23 v27
  let v29 : BitVec 32 := Scalar.ori v26 v28
  let c1_i32_25 : BitVec 32 := 1#32
  let v31 : BitVec 32 := Scalar.shli c1_i32_25 v30
  let v32 : BitVec 32 := Scalar.ori v29 v31
  let c1_i32_28 : BitVec 32 := 1#32
  let v34 : BitVec 32 := Scalar.shli c1_i32_28 v33
  let v35 : BitVec 32 := Scalar.ori v32 v34
  let c1_i32_30 : BitVec 32 := 1#32
  let v37 : BitVec 32 := Scalar.shli c1_i32_30 v36
  let v38 : BitVec 32 := Scalar.ori v35 v37
  let c1_i32_33 : BitVec 32 := 1#32
  let v40 : BitVec 32 := Scalar.shli c1_i32_33 v39
  let v41 : BitVec 32 := Scalar.ori v38 v40
  let c1_i32_35 : BitVec 32 := 1#32
  let v43 : BitVec 32 := Scalar.shli c1_i32_35 v42
  let v44 : BitVec 32 := Scalar.ori v41 v43
  let c1_i32_38 : BitVec 32 := 1#32
  let v46 : BitVec 32 := Scalar.shli c1_i32_38 v45
  let v47 : BitVec 32 := Scalar.ori v44 v46
  let c1_i32_40 : BitVec 32 := 1#32
  let v49 : BitVec 32 := Scalar.shli c1_i32_40 v48
  let v50 : BitVec 32 := Scalar.ori v47 v49
  let c1_i32_43 : BitVec 32 := 1#32
  let v52 : BitVec 32 := Scalar.shli c1_i32_43 v51
  let v53 : BitVec 32 := Scalar.ori v50 v52
  let c1_i32_45 : BitVec 32 := 1#32
  let v55 : BitVec 32 := Scalar.shli c1_i32_45 v54
  let v56 : BitVec 32 := Scalar.ori v53 v55
  let c1_i32_48 : BitVec 32 := 1#32
  let v58 : BitVec 32 := Scalar.shli c1_i32_48 v57
  let v59 : BitVec 32 := Scalar.ori v56 v58
  let c1_i32_50 : BitVec 32 := 1#32
  let v61 : BitVec 32 := Scalar.shli c1_i32_50 v60
  let v62 : BitVec 32 := Scalar.ori v59 v61
  let c1_i32_53 : BitVec 32 := 1#32
  let v64 : BitVec 32 := Scalar.shli c1_i32_53 v63
  let v65 : BitVec 32 := Scalar.ori v62 v64
  let c1_i32_55 : BitVec 32 := 1#32
  let v67 : BitVec 32 := Scalar.shli c1_i32_55 v66
  let v68 : BitVec 32 := Scalar.ori v65 v67
  let c1_i32_58 : BitVec 32 := 1#32
  let v70 : BitVec 32 := Scalar.shli c1_i32_58 v69
  let v71 : BitVec 32 := Scalar.ori v68 v70
  let c1_i32_60 : BitVec 32 := 1#32
  let v73 : BitVec 32 := Scalar.shli c1_i32_60 v72
  let v74 : BitVec 32 := Scalar.ori v71 v73
  let c1_i32_63 : BitVec 32 := 1#32
  let v76 : BitVec 32 := Scalar.shli c1_i32_63 v75
  let v77 : BitVec 32 := Scalar.ori v74 v76
  let c1_i32_65 : BitVec 32 := 1#32
  let v79 : BitVec 32 := Scalar.shli c1_i32_65 v78
  let v80 : BitVec 32 := Scalar.ori v77 v79
  let c1_i32_68 : BitVec 32 := 1#32
  let v82 : BitVec 32 := Scalar.shli c1_i32_68 v81
  let v83 : BitVec 32 := Scalar.ori v80 v82
  let c1_i32_70 : BitVec 32 := 1#32
  let v85 : BitVec 32 := Scalar.shli c1_i32_70 v84
  let v86 : BitVec 32 := Scalar.ori v83 v85
  let c1_i32_73 : BitVec 32 := 1#32
  let v88 : BitVec 32 := Scalar.shli c1_i32_73 v87
  let v89 : BitVec 32 := Scalar.ori v86 v88
  let c1_i32_75 : BitVec 32 := 1#32
  let v91 : BitVec 32 := Scalar.shli c1_i32_75 v90
  let v92 : BitVec 32 := Scalar.ori v89 v91
  let c1_i32_78 : BitVec 32 := 1#32
  let v94 : BitVec 32 := Scalar.shli c1_i32_78 v93
  let v95 : BitVec 32 := Scalar.ori v92 v94
  let c1_i32_80 : BitVec 32 := 1#32
  let v97 : BitVec 32 := Scalar.shli c1_i32_80 v96
  let v98 : BitVec 32 := Scalar.ori v95 v97
  let c1_i32_83 : BitVec 32 := 1#32
  let v100 : BitVec 32 := Scalar.shli c1_i32_83 v99
  let v101 : BitVec 32 := Scalar.ori v98 v100
  let c1_i32_85 : BitVec 32 := 1#32
  let v103 : BitVec 32 := Scalar.shli c1_i32_85 v102
  let v104 : BitVec 32 := Scalar.ori v101 v103
  let c1_i32_88 : BitVec 32 := 1#32
  let v106 : BitVec 32 := Scalar.shli c1_i32_88 v105
  let v107 : BitVec 32 := Scalar.ori v104 v106
  let c1_i32_90 : BitVec 32 := 1#32
  let v109 : BitVec 32 := Scalar.shli c1_i32_90 v108
  let v110 : BitVec 32 := Scalar.ori v107 v109
  let c1_i32_93 : BitVec 32 := 1#32
  let v112 : BitVec 32 := Scalar.shli c1_i32_93 v111
  let v113 : BitVec 32 := Scalar.ori v110 v112
  let c1_i32_95 : BitVec 32 := 1#32
  let v115 : BitVec 32 := Scalar.shli c1_i32_95 v114
  let v116 : BitVec 32 := Scalar.ori v113 v115
  let c1_i32_98 : BitVec 32 := 1#32
  let v118 : BitVec 32 := Scalar.shli c1_i32_98 v117
  let v119 : BitVec 32 := Scalar.ori v116 v118
  let c1_i32_100 : BitVec 32 := 1#32
  let v121 : BitVec 32 := Scalar.shli c1_i32_100 v120
  let v122 : BitVec 32 := Scalar.ori v119 v121
  let c1_i32_103 : BitVec 32 := 1#32
  let v124 : BitVec 32 := Scalar.shli c1_i32_103 v123
  let v125 : BitVec 32 := Scalar.ori v122 v124
  let c1_i32_105 : BitVec 32 := 1#32
  let v127 : BitVec 32 := Scalar.shli c1_i32_105 v126
  let v128 : BitVec 32 := Scalar.ori v125 v127
  let c1_i32_108 : BitVec 32 := 1#32
  let v130 : BitVec 32 := Scalar.shli c1_i32_108 v129
  let v131 : BitVec 32 := Scalar.ori v128 v130
  let c1_i32_110 : BitVec 32 := 1#32
  let v133 : BitVec 32 := Scalar.shli c1_i32_110 v132
  let v134 : BitVec 32 := Scalar.ori v131 v133
  let c1_i32_113 : BitVec 32 := 1#32
  let v136 : BitVec 32 := Scalar.shli c1_i32_113 v135
  let v137 : BitVec 32 := Scalar.ori v134 v136
  let c1_i32_115 : BitVec 32 := 1#32
  let v139 : BitVec 32 := Scalar.shli c1_i32_115 v138
  let v140 : BitVec 32 := Scalar.ori v137 v139
  let c1_i32_118 : BitVec 32 := 1#32
  let v142 : BitVec 32 := Scalar.shli c1_i32_118 v141
  let v143 : BitVec 32 := Scalar.ori v140 v142
  let c0_i32_121 : BitVec 32 := 0#32
  let v145 : BitVec 32 := Scalar.shrsi v143 c0_i32_121
  let c1_i32_122 : BitVec 32 := 1#32
  let v146 : BitVec 32 := Scalar.andi v145 c1_i32_122
  let v147 : BitVec 32 := Scalar.addi c0_i32_123 v146
  let c1_i32_125 : BitVec 32 := 1#32
  let v150 : BitVec 32 := Scalar.shrsi v143 c1_i32_125
  let c1_i32_126 : BitVec 32 := 1#32
  let v151 : BitVec 32 := Scalar.andi v150 c1_i32_126
  let v152 : BitVec 32 := Scalar.addi v147 v151
  let v153 : Index := Scalar.indexCast v152
  ![v153.toNat]
def k0_off3 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) : Fin 1 → Nat :=
  let c0_i32_123 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_2 : BitVec 32 := 1#32
  let v4 : BitVec 32 := Scalar.shli c1_i32_2 v3
  let v5 : BitVec 32 := Scalar.ori v2 v4
  let c1_i32_5 : BitVec 32 := 1#32
  let v7 : BitVec 32 := Scalar.shli c1_i32_5 v6
  let v8 : BitVec 32 := Scalar.ori v5 v7
  let c1_i32_8 : BitVec 32 := 1#32
  let v10 : BitVec 32 := Scalar.shli c1_i32_8 v9
  let v11 : BitVec 32 := Scalar.ori v8 v10
  let c1_i32_10 : BitVec 32 := 1#32
  let v13 : BitVec 32 := Scalar.shli c1_i32_10 v12
  let v14 : BitVec 32 := Scalar.ori v11 v13
  let c1_i32_13 : BitVec 32 := 1#32
  let v16 : BitVec 32 := Scalar.shli c1_i32_13 v15
  let v17 : BitVec 32 := Scalar.ori v14 v16
  let c1_i32_15 : BitVec 32 := 1#32
  let v19 : BitVec 32 := Scalar.shli c1_i32_15 v18
  let v20 : BitVec 32 := Scalar.ori v17 v19
  let c1_i32_18 : BitVec 32 := 1#32
  let v22 : BitVec 32 := Scalar.shli c1_i32_18 v21
  let v23 : BitVec 32 := Scalar.ori v20 v22
  let c1_i32_20 : BitVec 32 := 1#32
  let v25 : BitVec 32 := Scalar.shli c1_i32_20 v24
  let v26 : BitVec 32 := Scalar.ori v23 v25
  let c1_i32_23 : BitVec 32 := 1#32
  let v28 : BitVec 32 := Scalar.shli c1_i32_23 v27
  let v29 : BitVec 32 := Scalar.ori v26 v28
  let c1_i32_25 : BitVec 32 := 1#32
  let v31 : BitVec 32 := Scalar.shli c1_i32_25 v30
  let v32 : BitVec 32 := Scalar.ori v29 v31
  let c1_i32_28 : BitVec 32 := 1#32
  let v34 : BitVec 32 := Scalar.shli c1_i32_28 v33
  let v35 : BitVec 32 := Scalar.ori v32 v34
  let c1_i32_30 : BitVec 32 := 1#32
  let v37 : BitVec 32 := Scalar.shli c1_i32_30 v36
  let v38 : BitVec 32 := Scalar.ori v35 v37
  let c1_i32_33 : BitVec 32 := 1#32
  let v40 : BitVec 32 := Scalar.shli c1_i32_33 v39
  let v41 : BitVec 32 := Scalar.ori v38 v40
  let c1_i32_35 : BitVec 32 := 1#32
  let v43 : BitVec 32 := Scalar.shli c1_i32_35 v42
  let v44 : BitVec 32 := Scalar.ori v41 v43
  let c1_i32_38 : BitVec 32 := 1#32
  let v46 : BitVec 32 := Scalar.shli c1_i32_38 v45
  let v47 : BitVec 32 := Scalar.ori v44 v46
  let c1_i32_40 : BitVec 32 := 1#32
  let v49 : BitVec 32 := Scalar.shli c1_i32_40 v48
  let v50 : BitVec 32 := Scalar.ori v47 v49
  let c1_i32_43 : BitVec 32 := 1#32
  let v52 : BitVec 32 := Scalar.shli c1_i32_43 v51
  let v53 : BitVec 32 := Scalar.ori v50 v52
  let c1_i32_45 : BitVec 32 := 1#32
  let v55 : BitVec 32 := Scalar.shli c1_i32_45 v54
  let v56 : BitVec 32 := Scalar.ori v53 v55
  let c1_i32_48 : BitVec 32 := 1#32
  let v58 : BitVec 32 := Scalar.shli c1_i32_48 v57
  let v59 : BitVec 32 := Scalar.ori v56 v58
  let c1_i32_50 : BitVec 32 := 1#32
  let v61 : BitVec 32 := Scalar.shli c1_i32_50 v60
  let v62 : BitVec 32 := Scalar.ori v59 v61
  let c1_i32_53 : BitVec 32 := 1#32
  let v64 : BitVec 32 := Scalar.shli c1_i32_53 v63
  let v65 : BitVec 32 := Scalar.ori v62 v64
  let c1_i32_55 : BitVec 32 := 1#32
  let v67 : BitVec 32 := Scalar.shli c1_i32_55 v66
  let v68 : BitVec 32 := Scalar.ori v65 v67
  let c1_i32_58 : BitVec 32 := 1#32
  let v70 : BitVec 32 := Scalar.shli c1_i32_58 v69
  let v71 : BitVec 32 := Scalar.ori v68 v70
  let c1_i32_60 : BitVec 32 := 1#32
  let v73 : BitVec 32 := Scalar.shli c1_i32_60 v72
  let v74 : BitVec 32 := Scalar.ori v71 v73
  let c1_i32_63 : BitVec 32 := 1#32
  let v76 : BitVec 32 := Scalar.shli c1_i32_63 v75
  let v77 : BitVec 32 := Scalar.ori v74 v76
  let c1_i32_65 : BitVec 32 := 1#32
  let v79 : BitVec 32 := Scalar.shli c1_i32_65 v78
  let v80 : BitVec 32 := Scalar.ori v77 v79
  let c1_i32_68 : BitVec 32 := 1#32
  let v82 : BitVec 32 := Scalar.shli c1_i32_68 v81
  let v83 : BitVec 32 := Scalar.ori v80 v82
  let c1_i32_70 : BitVec 32 := 1#32
  let v85 : BitVec 32 := Scalar.shli c1_i32_70 v84
  let v86 : BitVec 32 := Scalar.ori v83 v85
  let c1_i32_73 : BitVec 32 := 1#32
  let v88 : BitVec 32 := Scalar.shli c1_i32_73 v87
  let v89 : BitVec 32 := Scalar.ori v86 v88
  let c1_i32_75 : BitVec 32 := 1#32
  let v91 : BitVec 32 := Scalar.shli c1_i32_75 v90
  let v92 : BitVec 32 := Scalar.ori v89 v91
  let c1_i32_78 : BitVec 32 := 1#32
  let v94 : BitVec 32 := Scalar.shli c1_i32_78 v93
  let v95 : BitVec 32 := Scalar.ori v92 v94
  let c1_i32_80 : BitVec 32 := 1#32
  let v97 : BitVec 32 := Scalar.shli c1_i32_80 v96
  let v98 : BitVec 32 := Scalar.ori v95 v97
  let c1_i32_83 : BitVec 32 := 1#32
  let v100 : BitVec 32 := Scalar.shli c1_i32_83 v99
  let v101 : BitVec 32 := Scalar.ori v98 v100
  let c1_i32_85 : BitVec 32 := 1#32
  let v103 : BitVec 32 := Scalar.shli c1_i32_85 v102
  let v104 : BitVec 32 := Scalar.ori v101 v103
  let c1_i32_88 : BitVec 32 := 1#32
  let v106 : BitVec 32 := Scalar.shli c1_i32_88 v105
  let v107 : BitVec 32 := Scalar.ori v104 v106
  let c1_i32_90 : BitVec 32 := 1#32
  let v109 : BitVec 32 := Scalar.shli c1_i32_90 v108
  let v110 : BitVec 32 := Scalar.ori v107 v109
  let c1_i32_93 : BitVec 32 := 1#32
  let v112 : BitVec 32 := Scalar.shli c1_i32_93 v111
  let v113 : BitVec 32 := Scalar.ori v110 v112
  let c1_i32_95 : BitVec 32 := 1#32
  let v115 : BitVec 32 := Scalar.shli c1_i32_95 v114
  let v116 : BitVec 32 := Scalar.ori v113 v115
  let c1_i32_98 : BitVec 32 := 1#32
  let v118 : BitVec 32 := Scalar.shli c1_i32_98 v117
  let v119 : BitVec 32 := Scalar.ori v116 v118
  let c1_i32_100 : BitVec 32 := 1#32
  let v121 : BitVec 32 := Scalar.shli c1_i32_100 v120
  let v122 : BitVec 32 := Scalar.ori v119 v121
  let c1_i32_103 : BitVec 32 := 1#32
  let v124 : BitVec 32 := Scalar.shli c1_i32_103 v123
  let v125 : BitVec 32 := Scalar.ori v122 v124
  let c1_i32_105 : BitVec 32 := 1#32
  let v127 : BitVec 32 := Scalar.shli c1_i32_105 v126
  let v128 : BitVec 32 := Scalar.ori v125 v127
  let c1_i32_108 : BitVec 32 := 1#32
  let v130 : BitVec 32 := Scalar.shli c1_i32_108 v129
  let v131 : BitVec 32 := Scalar.ori v128 v130
  let c1_i32_110 : BitVec 32 := 1#32
  let v133 : BitVec 32 := Scalar.shli c1_i32_110 v132
  let v134 : BitVec 32 := Scalar.ori v131 v133
  let c1_i32_113 : BitVec 32 := 1#32
  let v136 : BitVec 32 := Scalar.shli c1_i32_113 v135
  let v137 : BitVec 32 := Scalar.ori v134 v136
  let c1_i32_115 : BitVec 32 := 1#32
  let v139 : BitVec 32 := Scalar.shli c1_i32_115 v138
  let v140 : BitVec 32 := Scalar.ori v137 v139
  let c1_i32_118 : BitVec 32 := 1#32
  let v142 : BitVec 32 := Scalar.shli c1_i32_118 v141
  let v143 : BitVec 32 := Scalar.ori v140 v142
  let c0_i32_121 : BitVec 32 := 0#32
  let v145 : BitVec 32 := Scalar.shrsi v143 c0_i32_121
  let c1_i32_122 : BitVec 32 := 1#32
  let v146 : BitVec 32 := Scalar.andi v145 c1_i32_122
  let v147 : BitVec 32 := Scalar.addi c0_i32_123 v146
  let c1_i32_125 : BitVec 32 := 1#32
  let v150 : BitVec 32 := Scalar.shrsi v143 c1_i32_125
  let c1_i32_126 : BitVec 32 := 1#32
  let v151 : BitVec 32 := Scalar.andi v150 c1_i32_126
  let v152 : BitVec 32 := Scalar.addi v147 v151
  let c2_i32_127 : BitVec 32 := 2#32
  let v155 : BitVec 32 := Scalar.shrsi v143 c2_i32_127
  let c1_i32_128 : BitVec 32 := 1#32
  let v156 : BitVec 32 := Scalar.andi v155 c1_i32_128
  let v157 : BitVec 32 := Scalar.addi v152 v156
  let v158 : Index := Scalar.indexCast v157
  ![v158.toNat]
def k0_off4 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) : Fin 1 → Nat :=
  let c0_i32_123 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_2 : BitVec 32 := 1#32
  let v4 : BitVec 32 := Scalar.shli c1_i32_2 v3
  let v5 : BitVec 32 := Scalar.ori v2 v4
  let c1_i32_5 : BitVec 32 := 1#32
  let v7 : BitVec 32 := Scalar.shli c1_i32_5 v6
  let v8 : BitVec 32 := Scalar.ori v5 v7
  let c1_i32_8 : BitVec 32 := 1#32
  let v10 : BitVec 32 := Scalar.shli c1_i32_8 v9
  let v11 : BitVec 32 := Scalar.ori v8 v10
  let c1_i32_10 : BitVec 32 := 1#32
  let v13 : BitVec 32 := Scalar.shli c1_i32_10 v12
  let v14 : BitVec 32 := Scalar.ori v11 v13
  let c1_i32_13 : BitVec 32 := 1#32
  let v16 : BitVec 32 := Scalar.shli c1_i32_13 v15
  let v17 : BitVec 32 := Scalar.ori v14 v16
  let c1_i32_15 : BitVec 32 := 1#32
  let v19 : BitVec 32 := Scalar.shli c1_i32_15 v18
  let v20 : BitVec 32 := Scalar.ori v17 v19
  let c1_i32_18 : BitVec 32 := 1#32
  let v22 : BitVec 32 := Scalar.shli c1_i32_18 v21
  let v23 : BitVec 32 := Scalar.ori v20 v22
  let c1_i32_20 : BitVec 32 := 1#32
  let v25 : BitVec 32 := Scalar.shli c1_i32_20 v24
  let v26 : BitVec 32 := Scalar.ori v23 v25
  let c1_i32_23 : BitVec 32 := 1#32
  let v28 : BitVec 32 := Scalar.shli c1_i32_23 v27
  let v29 : BitVec 32 := Scalar.ori v26 v28
  let c1_i32_25 : BitVec 32 := 1#32
  let v31 : BitVec 32 := Scalar.shli c1_i32_25 v30
  let v32 : BitVec 32 := Scalar.ori v29 v31
  let c1_i32_28 : BitVec 32 := 1#32
  let v34 : BitVec 32 := Scalar.shli c1_i32_28 v33
  let v35 : BitVec 32 := Scalar.ori v32 v34
  let c1_i32_30 : BitVec 32 := 1#32
  let v37 : BitVec 32 := Scalar.shli c1_i32_30 v36
  let v38 : BitVec 32 := Scalar.ori v35 v37
  let c1_i32_33 : BitVec 32 := 1#32
  let v40 : BitVec 32 := Scalar.shli c1_i32_33 v39
  let v41 : BitVec 32 := Scalar.ori v38 v40
  let c1_i32_35 : BitVec 32 := 1#32
  let v43 : BitVec 32 := Scalar.shli c1_i32_35 v42
  let v44 : BitVec 32 := Scalar.ori v41 v43
  let c1_i32_38 : BitVec 32 := 1#32
  let v46 : BitVec 32 := Scalar.shli c1_i32_38 v45
  let v47 : BitVec 32 := Scalar.ori v44 v46
  let c1_i32_40 : BitVec 32 := 1#32
  let v49 : BitVec 32 := Scalar.shli c1_i32_40 v48
  let v50 : BitVec 32 := Scalar.ori v47 v49
  let c1_i32_43 : BitVec 32 := 1#32
  let v52 : BitVec 32 := Scalar.shli c1_i32_43 v51
  let v53 : BitVec 32 := Scalar.ori v50 v52
  let c1_i32_45 : BitVec 32 := 1#32
  let v55 : BitVec 32 := Scalar.shli c1_i32_45 v54
  let v56 : BitVec 32 := Scalar.ori v53 v55
  let c1_i32_48 : BitVec 32 := 1#32
  let v58 : BitVec 32 := Scalar.shli c1_i32_48 v57
  let v59 : BitVec 32 := Scalar.ori v56 v58
  let c1_i32_50 : BitVec 32 := 1#32
  let v61 : BitVec 32 := Scalar.shli c1_i32_50 v60
  let v62 : BitVec 32 := Scalar.ori v59 v61
  let c1_i32_53 : BitVec 32 := 1#32
  let v64 : BitVec 32 := Scalar.shli c1_i32_53 v63
  let v65 : BitVec 32 := Scalar.ori v62 v64
  let c1_i32_55 : BitVec 32 := 1#32
  let v67 : BitVec 32 := Scalar.shli c1_i32_55 v66
  let v68 : BitVec 32 := Scalar.ori v65 v67
  let c1_i32_58 : BitVec 32 := 1#32
  let v70 : BitVec 32 := Scalar.shli c1_i32_58 v69
  let v71 : BitVec 32 := Scalar.ori v68 v70
  let c1_i32_60 : BitVec 32 := 1#32
  let v73 : BitVec 32 := Scalar.shli c1_i32_60 v72
  let v74 : BitVec 32 := Scalar.ori v71 v73
  let c1_i32_63 : BitVec 32 := 1#32
  let v76 : BitVec 32 := Scalar.shli c1_i32_63 v75
  let v77 : BitVec 32 := Scalar.ori v74 v76
  let c1_i32_65 : BitVec 32 := 1#32
  let v79 : BitVec 32 := Scalar.shli c1_i32_65 v78
  let v80 : BitVec 32 := Scalar.ori v77 v79
  let c1_i32_68 : BitVec 32 := 1#32
  let v82 : BitVec 32 := Scalar.shli c1_i32_68 v81
  let v83 : BitVec 32 := Scalar.ori v80 v82
  let c1_i32_70 : BitVec 32 := 1#32
  let v85 : BitVec 32 := Scalar.shli c1_i32_70 v84
  let v86 : BitVec 32 := Scalar.ori v83 v85
  let c1_i32_73 : BitVec 32 := 1#32
  let v88 : BitVec 32 := Scalar.shli c1_i32_73 v87
  let v89 : BitVec 32 := Scalar.ori v86 v88
  let c1_i32_75 : BitVec 32 := 1#32
  let v91 : BitVec 32 := Scalar.shli c1_i32_75 v90
  let v92 : BitVec 32 := Scalar.ori v89 v91
  let c1_i32_78 : BitVec 32 := 1#32
  let v94 : BitVec 32 := Scalar.shli c1_i32_78 v93
  let v95 : BitVec 32 := Scalar.ori v92 v94
  let c1_i32_80 : BitVec 32 := 1#32
  let v97 : BitVec 32 := Scalar.shli c1_i32_80 v96
  let v98 : BitVec 32 := Scalar.ori v95 v97
  let c1_i32_83 : BitVec 32 := 1#32
  let v100 : BitVec 32 := Scalar.shli c1_i32_83 v99
  let v101 : BitVec 32 := Scalar.ori v98 v100
  let c1_i32_85 : BitVec 32 := 1#32
  let v103 : BitVec 32 := Scalar.shli c1_i32_85 v102
  let v104 : BitVec 32 := Scalar.ori v101 v103
  let c1_i32_88 : BitVec 32 := 1#32
  let v106 : BitVec 32 := Scalar.shli c1_i32_88 v105
  let v107 : BitVec 32 := Scalar.ori v104 v106
  let c1_i32_90 : BitVec 32 := 1#32
  let v109 : BitVec 32 := Scalar.shli c1_i32_90 v108
  let v110 : BitVec 32 := Scalar.ori v107 v109
  let c1_i32_93 : BitVec 32 := 1#32
  let v112 : BitVec 32 := Scalar.shli c1_i32_93 v111
  let v113 : BitVec 32 := Scalar.ori v110 v112
  let c1_i32_95 : BitVec 32 := 1#32
  let v115 : BitVec 32 := Scalar.shli c1_i32_95 v114
  let v116 : BitVec 32 := Scalar.ori v113 v115
  let c1_i32_98 : BitVec 32 := 1#32
  let v118 : BitVec 32 := Scalar.shli c1_i32_98 v117
  let v119 : BitVec 32 := Scalar.ori v116 v118
  let c1_i32_100 : BitVec 32 := 1#32
  let v121 : BitVec 32 := Scalar.shli c1_i32_100 v120
  let v122 : BitVec 32 := Scalar.ori v119 v121
  let c1_i32_103 : BitVec 32 := 1#32
  let v124 : BitVec 32 := Scalar.shli c1_i32_103 v123
  let v125 : BitVec 32 := Scalar.ori v122 v124
  let c1_i32_105 : BitVec 32 := 1#32
  let v127 : BitVec 32 := Scalar.shli c1_i32_105 v126
  let v128 : BitVec 32 := Scalar.ori v125 v127
  let c1_i32_108 : BitVec 32 := 1#32
  let v130 : BitVec 32 := Scalar.shli c1_i32_108 v129
  let v131 : BitVec 32 := Scalar.ori v128 v130
  let c1_i32_110 : BitVec 32 := 1#32
  let v133 : BitVec 32 := Scalar.shli c1_i32_110 v132
  let v134 : BitVec 32 := Scalar.ori v131 v133
  let c1_i32_113 : BitVec 32 := 1#32
  let v136 : BitVec 32 := Scalar.shli c1_i32_113 v135
  let v137 : BitVec 32 := Scalar.ori v134 v136
  let c1_i32_115 : BitVec 32 := 1#32
  let v139 : BitVec 32 := Scalar.shli c1_i32_115 v138
  let v140 : BitVec 32 := Scalar.ori v137 v139
  let c1_i32_118 : BitVec 32 := 1#32
  let v142 : BitVec 32 := Scalar.shli c1_i32_118 v141
  let v143 : BitVec 32 := Scalar.ori v140 v142
  let c0_i32_121 : BitVec 32 := 0#32
  let v145 : BitVec 32 := Scalar.shrsi v143 c0_i32_121
  let c1_i32_122 : BitVec 32 := 1#32
  let v146 : BitVec 32 := Scalar.andi v145 c1_i32_122
  let v147 : BitVec 32 := Scalar.addi c0_i32_123 v146
  let c1_i32_125 : BitVec 32 := 1#32
  let v150 : BitVec 32 := Scalar.shrsi v143 c1_i32_125
  let c1_i32_126 : BitVec 32 := 1#32
  let v151 : BitVec 32 := Scalar.andi v150 c1_i32_126
  let v152 : BitVec 32 := Scalar.addi v147 v151
  let c2_i32_127 : BitVec 32 := 2#32
  let v155 : BitVec 32 := Scalar.shrsi v143 c2_i32_127
  let c1_i32_128 : BitVec 32 := 1#32
  let v156 : BitVec 32 := Scalar.andi v155 c1_i32_128
  let v157 : BitVec 32 := Scalar.addi v152 v156
  let c3_i32_129 : BitVec 32 := 3#32
  let v160 : BitVec 32 := Scalar.shrsi v143 c3_i32_129
  let c1_i32_130 : BitVec 32 := 1#32
  let v161 : BitVec 32 := Scalar.andi v160 c1_i32_130
  let v162 : BitVec 32 := Scalar.addi v157 v161
  let v163 : Index := Scalar.indexCast v162
  ![v163.toNat]
def k0_off5 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) : Fin 1 → Nat :=
  let c0_i32_123 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_2 : BitVec 32 := 1#32
  let v4 : BitVec 32 := Scalar.shli c1_i32_2 v3
  let v5 : BitVec 32 := Scalar.ori v2 v4
  let c1_i32_5 : BitVec 32 := 1#32
  let v7 : BitVec 32 := Scalar.shli c1_i32_5 v6
  let v8 : BitVec 32 := Scalar.ori v5 v7
  let c1_i32_8 : BitVec 32 := 1#32
  let v10 : BitVec 32 := Scalar.shli c1_i32_8 v9
  let v11 : BitVec 32 := Scalar.ori v8 v10
  let c1_i32_10 : BitVec 32 := 1#32
  let v13 : BitVec 32 := Scalar.shli c1_i32_10 v12
  let v14 : BitVec 32 := Scalar.ori v11 v13
  let c1_i32_13 : BitVec 32 := 1#32
  let v16 : BitVec 32 := Scalar.shli c1_i32_13 v15
  let v17 : BitVec 32 := Scalar.ori v14 v16
  let c1_i32_15 : BitVec 32 := 1#32
  let v19 : BitVec 32 := Scalar.shli c1_i32_15 v18
  let v20 : BitVec 32 := Scalar.ori v17 v19
  let c1_i32_18 : BitVec 32 := 1#32
  let v22 : BitVec 32 := Scalar.shli c1_i32_18 v21
  let v23 : BitVec 32 := Scalar.ori v20 v22
  let c1_i32_20 : BitVec 32 := 1#32
  let v25 : BitVec 32 := Scalar.shli c1_i32_20 v24
  let v26 : BitVec 32 := Scalar.ori v23 v25
  let c1_i32_23 : BitVec 32 := 1#32
  let v28 : BitVec 32 := Scalar.shli c1_i32_23 v27
  let v29 : BitVec 32 := Scalar.ori v26 v28
  let c1_i32_25 : BitVec 32 := 1#32
  let v31 : BitVec 32 := Scalar.shli c1_i32_25 v30
  let v32 : BitVec 32 := Scalar.ori v29 v31
  let c1_i32_28 : BitVec 32 := 1#32
  let v34 : BitVec 32 := Scalar.shli c1_i32_28 v33
  let v35 : BitVec 32 := Scalar.ori v32 v34
  let c1_i32_30 : BitVec 32 := 1#32
  let v37 : BitVec 32 := Scalar.shli c1_i32_30 v36
  let v38 : BitVec 32 := Scalar.ori v35 v37
  let c1_i32_33 : BitVec 32 := 1#32
  let v40 : BitVec 32 := Scalar.shli c1_i32_33 v39
  let v41 : BitVec 32 := Scalar.ori v38 v40
  let c1_i32_35 : BitVec 32 := 1#32
  let v43 : BitVec 32 := Scalar.shli c1_i32_35 v42
  let v44 : BitVec 32 := Scalar.ori v41 v43
  let c1_i32_38 : BitVec 32 := 1#32
  let v46 : BitVec 32 := Scalar.shli c1_i32_38 v45
  let v47 : BitVec 32 := Scalar.ori v44 v46
  let c1_i32_40 : BitVec 32 := 1#32
  let v49 : BitVec 32 := Scalar.shli c1_i32_40 v48
  let v50 : BitVec 32 := Scalar.ori v47 v49
  let c1_i32_43 : BitVec 32 := 1#32
  let v52 : BitVec 32 := Scalar.shli c1_i32_43 v51
  let v53 : BitVec 32 := Scalar.ori v50 v52
  let c1_i32_45 : BitVec 32 := 1#32
  let v55 : BitVec 32 := Scalar.shli c1_i32_45 v54
  let v56 : BitVec 32 := Scalar.ori v53 v55
  let c1_i32_48 : BitVec 32 := 1#32
  let v58 : BitVec 32 := Scalar.shli c1_i32_48 v57
  let v59 : BitVec 32 := Scalar.ori v56 v58
  let c1_i32_50 : BitVec 32 := 1#32
  let v61 : BitVec 32 := Scalar.shli c1_i32_50 v60
  let v62 : BitVec 32 := Scalar.ori v59 v61
  let c1_i32_53 : BitVec 32 := 1#32
  let v64 : BitVec 32 := Scalar.shli c1_i32_53 v63
  let v65 : BitVec 32 := Scalar.ori v62 v64
  let c1_i32_55 : BitVec 32 := 1#32
  let v67 : BitVec 32 := Scalar.shli c1_i32_55 v66
  let v68 : BitVec 32 := Scalar.ori v65 v67
  let c1_i32_58 : BitVec 32 := 1#32
  let v70 : BitVec 32 := Scalar.shli c1_i32_58 v69
  let v71 : BitVec 32 := Scalar.ori v68 v70
  let c1_i32_60 : BitVec 32 := 1#32
  let v73 : BitVec 32 := Scalar.shli c1_i32_60 v72
  let v74 : BitVec 32 := Scalar.ori v71 v73
  let c1_i32_63 : BitVec 32 := 1#32
  let v76 : BitVec 32 := Scalar.shli c1_i32_63 v75
  let v77 : BitVec 32 := Scalar.ori v74 v76
  let c1_i32_65 : BitVec 32 := 1#32
  let v79 : BitVec 32 := Scalar.shli c1_i32_65 v78
  let v80 : BitVec 32 := Scalar.ori v77 v79
  let c1_i32_68 : BitVec 32 := 1#32
  let v82 : BitVec 32 := Scalar.shli c1_i32_68 v81
  let v83 : BitVec 32 := Scalar.ori v80 v82
  let c1_i32_70 : BitVec 32 := 1#32
  let v85 : BitVec 32 := Scalar.shli c1_i32_70 v84
  let v86 : BitVec 32 := Scalar.ori v83 v85
  let c1_i32_73 : BitVec 32 := 1#32
  let v88 : BitVec 32 := Scalar.shli c1_i32_73 v87
  let v89 : BitVec 32 := Scalar.ori v86 v88
  let c1_i32_75 : BitVec 32 := 1#32
  let v91 : BitVec 32 := Scalar.shli c1_i32_75 v90
  let v92 : BitVec 32 := Scalar.ori v89 v91
  let c1_i32_78 : BitVec 32 := 1#32
  let v94 : BitVec 32 := Scalar.shli c1_i32_78 v93
  let v95 : BitVec 32 := Scalar.ori v92 v94
  let c1_i32_80 : BitVec 32 := 1#32
  let v97 : BitVec 32 := Scalar.shli c1_i32_80 v96
  let v98 : BitVec 32 := Scalar.ori v95 v97
  let c1_i32_83 : BitVec 32 := 1#32
  let v100 : BitVec 32 := Scalar.shli c1_i32_83 v99
  let v101 : BitVec 32 := Scalar.ori v98 v100
  let c1_i32_85 : BitVec 32 := 1#32
  let v103 : BitVec 32 := Scalar.shli c1_i32_85 v102
  let v104 : BitVec 32 := Scalar.ori v101 v103
  let c1_i32_88 : BitVec 32 := 1#32
  let v106 : BitVec 32 := Scalar.shli c1_i32_88 v105
  let v107 : BitVec 32 := Scalar.ori v104 v106
  let c1_i32_90 : BitVec 32 := 1#32
  let v109 : BitVec 32 := Scalar.shli c1_i32_90 v108
  let v110 : BitVec 32 := Scalar.ori v107 v109
  let c1_i32_93 : BitVec 32 := 1#32
  let v112 : BitVec 32 := Scalar.shli c1_i32_93 v111
  let v113 : BitVec 32 := Scalar.ori v110 v112
  let c1_i32_95 : BitVec 32 := 1#32
  let v115 : BitVec 32 := Scalar.shli c1_i32_95 v114
  let v116 : BitVec 32 := Scalar.ori v113 v115
  let c1_i32_98 : BitVec 32 := 1#32
  let v118 : BitVec 32 := Scalar.shli c1_i32_98 v117
  let v119 : BitVec 32 := Scalar.ori v116 v118
  let c1_i32_100 : BitVec 32 := 1#32
  let v121 : BitVec 32 := Scalar.shli c1_i32_100 v120
  let v122 : BitVec 32 := Scalar.ori v119 v121
  let c1_i32_103 : BitVec 32 := 1#32
  let v124 : BitVec 32 := Scalar.shli c1_i32_103 v123
  let v125 : BitVec 32 := Scalar.ori v122 v124
  let c1_i32_105 : BitVec 32 := 1#32
  let v127 : BitVec 32 := Scalar.shli c1_i32_105 v126
  let v128 : BitVec 32 := Scalar.ori v125 v127
  let c1_i32_108 : BitVec 32 := 1#32
  let v130 : BitVec 32 := Scalar.shli c1_i32_108 v129
  let v131 : BitVec 32 := Scalar.ori v128 v130
  let c1_i32_110 : BitVec 32 := 1#32
  let v133 : BitVec 32 := Scalar.shli c1_i32_110 v132
  let v134 : BitVec 32 := Scalar.ori v131 v133
  let c1_i32_113 : BitVec 32 := 1#32
  let v136 : BitVec 32 := Scalar.shli c1_i32_113 v135
  let v137 : BitVec 32 := Scalar.ori v134 v136
  let c1_i32_115 : BitVec 32 := 1#32
  let v139 : BitVec 32 := Scalar.shli c1_i32_115 v138
  let v140 : BitVec 32 := Scalar.ori v137 v139
  let c1_i32_118 : BitVec 32 := 1#32
  let v142 : BitVec 32 := Scalar.shli c1_i32_118 v141
  let v143 : BitVec 32 := Scalar.ori v140 v142
  let c0_i32_121 : BitVec 32 := 0#32
  let v145 : BitVec 32 := Scalar.shrsi v143 c0_i32_121
  let c1_i32_122 : BitVec 32 := 1#32
  let v146 : BitVec 32 := Scalar.andi v145 c1_i32_122
  let v147 : BitVec 32 := Scalar.addi c0_i32_123 v146
  let c1_i32_125 : BitVec 32 := 1#32
  let v150 : BitVec 32 := Scalar.shrsi v143 c1_i32_125
  let c1_i32_126 : BitVec 32 := 1#32
  let v151 : BitVec 32 := Scalar.andi v150 c1_i32_126
  let v152 : BitVec 32 := Scalar.addi v147 v151
  let c2_i32_127 : BitVec 32 := 2#32
  let v155 : BitVec 32 := Scalar.shrsi v143 c2_i32_127
  let c1_i32_128 : BitVec 32 := 1#32
  let v156 : BitVec 32 := Scalar.andi v155 c1_i32_128
  let v157 : BitVec 32 := Scalar.addi v152 v156
  let c3_i32_129 : BitVec 32 := 3#32
  let v160 : BitVec 32 := Scalar.shrsi v143 c3_i32_129
  let c1_i32_130 : BitVec 32 := 1#32
  let v161 : BitVec 32 := Scalar.andi v160 c1_i32_130
  let v162 : BitVec 32 := Scalar.addi v157 v161
  let c4_i32_131 : BitVec 32 := 4#32
  let v165 : BitVec 32 := Scalar.shrsi v143 c4_i32_131
  let c1_i32_132 : BitVec 32 := 1#32
  let v166 : BitVec 32 := Scalar.andi v165 c1_i32_132
  let v167 : BitVec 32 := Scalar.addi v162 v166
  let v168 : Index := Scalar.indexCast v167
  ![v168.toNat]
def k0_off6 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) : Fin 1 → Nat :=
  let c0_i32_123 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_2 : BitVec 32 := 1#32
  let v4 : BitVec 32 := Scalar.shli c1_i32_2 v3
  let v5 : BitVec 32 := Scalar.ori v2 v4
  let c1_i32_5 : BitVec 32 := 1#32
  let v7 : BitVec 32 := Scalar.shli c1_i32_5 v6
  let v8 : BitVec 32 := Scalar.ori v5 v7
  let c1_i32_8 : BitVec 32 := 1#32
  let v10 : BitVec 32 := Scalar.shli c1_i32_8 v9
  let v11 : BitVec 32 := Scalar.ori v8 v10
  let c1_i32_10 : BitVec 32 := 1#32
  let v13 : BitVec 32 := Scalar.shli c1_i32_10 v12
  let v14 : BitVec 32 := Scalar.ori v11 v13
  let c1_i32_13 : BitVec 32 := 1#32
  let v16 : BitVec 32 := Scalar.shli c1_i32_13 v15
  let v17 : BitVec 32 := Scalar.ori v14 v16
  let c1_i32_15 : BitVec 32 := 1#32
  let v19 : BitVec 32 := Scalar.shli c1_i32_15 v18
  let v20 : BitVec 32 := Scalar.ori v17 v19
  let c1_i32_18 : BitVec 32 := 1#32
  let v22 : BitVec 32 := Scalar.shli c1_i32_18 v21
  let v23 : BitVec 32 := Scalar.ori v20 v22
  let c1_i32_20 : BitVec 32 := 1#32
  let v25 : BitVec 32 := Scalar.shli c1_i32_20 v24
  let v26 : BitVec 32 := Scalar.ori v23 v25
  let c1_i32_23 : BitVec 32 := 1#32
  let v28 : BitVec 32 := Scalar.shli c1_i32_23 v27
  let v29 : BitVec 32 := Scalar.ori v26 v28
  let c1_i32_25 : BitVec 32 := 1#32
  let v31 : BitVec 32 := Scalar.shli c1_i32_25 v30
  let v32 : BitVec 32 := Scalar.ori v29 v31
  let c1_i32_28 : BitVec 32 := 1#32
  let v34 : BitVec 32 := Scalar.shli c1_i32_28 v33
  let v35 : BitVec 32 := Scalar.ori v32 v34
  let c1_i32_30 : BitVec 32 := 1#32
  let v37 : BitVec 32 := Scalar.shli c1_i32_30 v36
  let v38 : BitVec 32 := Scalar.ori v35 v37
  let c1_i32_33 : BitVec 32 := 1#32
  let v40 : BitVec 32 := Scalar.shli c1_i32_33 v39
  let v41 : BitVec 32 := Scalar.ori v38 v40
  let c1_i32_35 : BitVec 32 := 1#32
  let v43 : BitVec 32 := Scalar.shli c1_i32_35 v42
  let v44 : BitVec 32 := Scalar.ori v41 v43
  let c1_i32_38 : BitVec 32 := 1#32
  let v46 : BitVec 32 := Scalar.shli c1_i32_38 v45
  let v47 : BitVec 32 := Scalar.ori v44 v46
  let c1_i32_40 : BitVec 32 := 1#32
  let v49 : BitVec 32 := Scalar.shli c1_i32_40 v48
  let v50 : BitVec 32 := Scalar.ori v47 v49
  let c1_i32_43 : BitVec 32 := 1#32
  let v52 : BitVec 32 := Scalar.shli c1_i32_43 v51
  let v53 : BitVec 32 := Scalar.ori v50 v52
  let c1_i32_45 : BitVec 32 := 1#32
  let v55 : BitVec 32 := Scalar.shli c1_i32_45 v54
  let v56 : BitVec 32 := Scalar.ori v53 v55
  let c1_i32_48 : BitVec 32 := 1#32
  let v58 : BitVec 32 := Scalar.shli c1_i32_48 v57
  let v59 : BitVec 32 := Scalar.ori v56 v58
  let c1_i32_50 : BitVec 32 := 1#32
  let v61 : BitVec 32 := Scalar.shli c1_i32_50 v60
  let v62 : BitVec 32 := Scalar.ori v59 v61
  let c1_i32_53 : BitVec 32 := 1#32
  let v64 : BitVec 32 := Scalar.shli c1_i32_53 v63
  let v65 : BitVec 32 := Scalar.ori v62 v64
  let c1_i32_55 : BitVec 32 := 1#32
  let v67 : BitVec 32 := Scalar.shli c1_i32_55 v66
  let v68 : BitVec 32 := Scalar.ori v65 v67
  let c1_i32_58 : BitVec 32 := 1#32
  let v70 : BitVec 32 := Scalar.shli c1_i32_58 v69
  let v71 : BitVec 32 := Scalar.ori v68 v70
  let c1_i32_60 : BitVec 32 := 1#32
  let v73 : BitVec 32 := Scalar.shli c1_i32_60 v72
  let v74 : BitVec 32 := Scalar.ori v71 v73
  let c1_i32_63 : BitVec 32 := 1#32
  let v76 : BitVec 32 := Scalar.shli c1_i32_63 v75
  let v77 : BitVec 32 := Scalar.ori v74 v76
  let c1_i32_65 : BitVec 32 := 1#32
  let v79 : BitVec 32 := Scalar.shli c1_i32_65 v78
  let v80 : BitVec 32 := Scalar.ori v77 v79
  let c1_i32_68 : BitVec 32 := 1#32
  let v82 : BitVec 32 := Scalar.shli c1_i32_68 v81
  let v83 : BitVec 32 := Scalar.ori v80 v82
  let c1_i32_70 : BitVec 32 := 1#32
  let v85 : BitVec 32 := Scalar.shli c1_i32_70 v84
  let v86 : BitVec 32 := Scalar.ori v83 v85
  let c1_i32_73 : BitVec 32 := 1#32
  let v88 : BitVec 32 := Scalar.shli c1_i32_73 v87
  let v89 : BitVec 32 := Scalar.ori v86 v88
  let c1_i32_75 : BitVec 32 := 1#32
  let v91 : BitVec 32 := Scalar.shli c1_i32_75 v90
  let v92 : BitVec 32 := Scalar.ori v89 v91
  let c1_i32_78 : BitVec 32 := 1#32
  let v94 : BitVec 32 := Scalar.shli c1_i32_78 v93
  let v95 : BitVec 32 := Scalar.ori v92 v94
  let c1_i32_80 : BitVec 32 := 1#32
  let v97 : BitVec 32 := Scalar.shli c1_i32_80 v96
  let v98 : BitVec 32 := Scalar.ori v95 v97
  let c1_i32_83 : BitVec 32 := 1#32
  let v100 : BitVec 32 := Scalar.shli c1_i32_83 v99
  let v101 : BitVec 32 := Scalar.ori v98 v100
  let c1_i32_85 : BitVec 32 := 1#32
  let v103 : BitVec 32 := Scalar.shli c1_i32_85 v102
  let v104 : BitVec 32 := Scalar.ori v101 v103
  let c1_i32_88 : BitVec 32 := 1#32
  let v106 : BitVec 32 := Scalar.shli c1_i32_88 v105
  let v107 : BitVec 32 := Scalar.ori v104 v106
  let c1_i32_90 : BitVec 32 := 1#32
  let v109 : BitVec 32 := Scalar.shli c1_i32_90 v108
  let v110 : BitVec 32 := Scalar.ori v107 v109
  let c1_i32_93 : BitVec 32 := 1#32
  let v112 : BitVec 32 := Scalar.shli c1_i32_93 v111
  let v113 : BitVec 32 := Scalar.ori v110 v112
  let c1_i32_95 : BitVec 32 := 1#32
  let v115 : BitVec 32 := Scalar.shli c1_i32_95 v114
  let v116 : BitVec 32 := Scalar.ori v113 v115
  let c1_i32_98 : BitVec 32 := 1#32
  let v118 : BitVec 32 := Scalar.shli c1_i32_98 v117
  let v119 : BitVec 32 := Scalar.ori v116 v118
  let c1_i32_100 : BitVec 32 := 1#32
  let v121 : BitVec 32 := Scalar.shli c1_i32_100 v120
  let v122 : BitVec 32 := Scalar.ori v119 v121
  let c1_i32_103 : BitVec 32 := 1#32
  let v124 : BitVec 32 := Scalar.shli c1_i32_103 v123
  let v125 : BitVec 32 := Scalar.ori v122 v124
  let c1_i32_105 : BitVec 32 := 1#32
  let v127 : BitVec 32 := Scalar.shli c1_i32_105 v126
  let v128 : BitVec 32 := Scalar.ori v125 v127
  let c1_i32_108 : BitVec 32 := 1#32
  let v130 : BitVec 32 := Scalar.shli c1_i32_108 v129
  let v131 : BitVec 32 := Scalar.ori v128 v130
  let c1_i32_110 : BitVec 32 := 1#32
  let v133 : BitVec 32 := Scalar.shli c1_i32_110 v132
  let v134 : BitVec 32 := Scalar.ori v131 v133
  let c1_i32_113 : BitVec 32 := 1#32
  let v136 : BitVec 32 := Scalar.shli c1_i32_113 v135
  let v137 : BitVec 32 := Scalar.ori v134 v136
  let c1_i32_115 : BitVec 32 := 1#32
  let v139 : BitVec 32 := Scalar.shli c1_i32_115 v138
  let v140 : BitVec 32 := Scalar.ori v137 v139
  let c1_i32_118 : BitVec 32 := 1#32
  let v142 : BitVec 32 := Scalar.shli c1_i32_118 v141
  let v143 : BitVec 32 := Scalar.ori v140 v142
  let c0_i32_121 : BitVec 32 := 0#32
  let v145 : BitVec 32 := Scalar.shrsi v143 c0_i32_121
  let c1_i32_122 : BitVec 32 := 1#32
  let v146 : BitVec 32 := Scalar.andi v145 c1_i32_122
  let v147 : BitVec 32 := Scalar.addi c0_i32_123 v146
  let c1_i32_125 : BitVec 32 := 1#32
  let v150 : BitVec 32 := Scalar.shrsi v143 c1_i32_125
  let c1_i32_126 : BitVec 32 := 1#32
  let v151 : BitVec 32 := Scalar.andi v150 c1_i32_126
  let v152 : BitVec 32 := Scalar.addi v147 v151
  let c2_i32_127 : BitVec 32 := 2#32
  let v155 : BitVec 32 := Scalar.shrsi v143 c2_i32_127
  let c1_i32_128 : BitVec 32 := 1#32
  let v156 : BitVec 32 := Scalar.andi v155 c1_i32_128
  let v157 : BitVec 32 := Scalar.addi v152 v156
  let c3_i32_129 : BitVec 32 := 3#32
  let v160 : BitVec 32 := Scalar.shrsi v143 c3_i32_129
  let c1_i32_130 : BitVec 32 := 1#32
  let v161 : BitVec 32 := Scalar.andi v160 c1_i32_130
  let v162 : BitVec 32 := Scalar.addi v157 v161
  let c4_i32_131 : BitVec 32 := 4#32
  let v165 : BitVec 32 := Scalar.shrsi v143 c4_i32_131
  let c1_i32_132 : BitVec 32 := 1#32
  let v166 : BitVec 32 := Scalar.andi v165 c1_i32_132
  let v167 : BitVec 32 := Scalar.addi v162 v166
  let c5_i32_133 : BitVec 32 := 5#32
  let v170 : BitVec 32 := Scalar.shrsi v143 c5_i32_133
  let c1_i32_134 : BitVec 32 := 1#32
  let v171 : BitVec 32 := Scalar.andi v170 c1_i32_134
  let v172 : BitVec 32 := Scalar.addi v167 v171
  let v173 : Index := Scalar.indexCast v172
  ![v173.toNat]
def k0_off7 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) : Fin 1 → Nat :=
  let c0_i32_123 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_2 : BitVec 32 := 1#32
  let v4 : BitVec 32 := Scalar.shli c1_i32_2 v3
  let v5 : BitVec 32 := Scalar.ori v2 v4
  let c1_i32_5 : BitVec 32 := 1#32
  let v7 : BitVec 32 := Scalar.shli c1_i32_5 v6
  let v8 : BitVec 32 := Scalar.ori v5 v7
  let c1_i32_8 : BitVec 32 := 1#32
  let v10 : BitVec 32 := Scalar.shli c1_i32_8 v9
  let v11 : BitVec 32 := Scalar.ori v8 v10
  let c1_i32_10 : BitVec 32 := 1#32
  let v13 : BitVec 32 := Scalar.shli c1_i32_10 v12
  let v14 : BitVec 32 := Scalar.ori v11 v13
  let c1_i32_13 : BitVec 32 := 1#32
  let v16 : BitVec 32 := Scalar.shli c1_i32_13 v15
  let v17 : BitVec 32 := Scalar.ori v14 v16
  let c1_i32_15 : BitVec 32 := 1#32
  let v19 : BitVec 32 := Scalar.shli c1_i32_15 v18
  let v20 : BitVec 32 := Scalar.ori v17 v19
  let c1_i32_18 : BitVec 32 := 1#32
  let v22 : BitVec 32 := Scalar.shli c1_i32_18 v21
  let v23 : BitVec 32 := Scalar.ori v20 v22
  let c1_i32_20 : BitVec 32 := 1#32
  let v25 : BitVec 32 := Scalar.shli c1_i32_20 v24
  let v26 : BitVec 32 := Scalar.ori v23 v25
  let c1_i32_23 : BitVec 32 := 1#32
  let v28 : BitVec 32 := Scalar.shli c1_i32_23 v27
  let v29 : BitVec 32 := Scalar.ori v26 v28
  let c1_i32_25 : BitVec 32 := 1#32
  let v31 : BitVec 32 := Scalar.shli c1_i32_25 v30
  let v32 : BitVec 32 := Scalar.ori v29 v31
  let c1_i32_28 : BitVec 32 := 1#32
  let v34 : BitVec 32 := Scalar.shli c1_i32_28 v33
  let v35 : BitVec 32 := Scalar.ori v32 v34
  let c1_i32_30 : BitVec 32 := 1#32
  let v37 : BitVec 32 := Scalar.shli c1_i32_30 v36
  let v38 : BitVec 32 := Scalar.ori v35 v37
  let c1_i32_33 : BitVec 32 := 1#32
  let v40 : BitVec 32 := Scalar.shli c1_i32_33 v39
  let v41 : BitVec 32 := Scalar.ori v38 v40
  let c1_i32_35 : BitVec 32 := 1#32
  let v43 : BitVec 32 := Scalar.shli c1_i32_35 v42
  let v44 : BitVec 32 := Scalar.ori v41 v43
  let c1_i32_38 : BitVec 32 := 1#32
  let v46 : BitVec 32 := Scalar.shli c1_i32_38 v45
  let v47 : BitVec 32 := Scalar.ori v44 v46
  let c1_i32_40 : BitVec 32 := 1#32
  let v49 : BitVec 32 := Scalar.shli c1_i32_40 v48
  let v50 : BitVec 32 := Scalar.ori v47 v49
  let c1_i32_43 : BitVec 32 := 1#32
  let v52 : BitVec 32 := Scalar.shli c1_i32_43 v51
  let v53 : BitVec 32 := Scalar.ori v50 v52
  let c1_i32_45 : BitVec 32 := 1#32
  let v55 : BitVec 32 := Scalar.shli c1_i32_45 v54
  let v56 : BitVec 32 := Scalar.ori v53 v55
  let c1_i32_48 : BitVec 32 := 1#32
  let v58 : BitVec 32 := Scalar.shli c1_i32_48 v57
  let v59 : BitVec 32 := Scalar.ori v56 v58
  let c1_i32_50 : BitVec 32 := 1#32
  let v61 : BitVec 32 := Scalar.shli c1_i32_50 v60
  let v62 : BitVec 32 := Scalar.ori v59 v61
  let c1_i32_53 : BitVec 32 := 1#32
  let v64 : BitVec 32 := Scalar.shli c1_i32_53 v63
  let v65 : BitVec 32 := Scalar.ori v62 v64
  let c1_i32_55 : BitVec 32 := 1#32
  let v67 : BitVec 32 := Scalar.shli c1_i32_55 v66
  let v68 : BitVec 32 := Scalar.ori v65 v67
  let c1_i32_58 : BitVec 32 := 1#32
  let v70 : BitVec 32 := Scalar.shli c1_i32_58 v69
  let v71 : BitVec 32 := Scalar.ori v68 v70
  let c1_i32_60 : BitVec 32 := 1#32
  let v73 : BitVec 32 := Scalar.shli c1_i32_60 v72
  let v74 : BitVec 32 := Scalar.ori v71 v73
  let c1_i32_63 : BitVec 32 := 1#32
  let v76 : BitVec 32 := Scalar.shli c1_i32_63 v75
  let v77 : BitVec 32 := Scalar.ori v74 v76
  let c1_i32_65 : BitVec 32 := 1#32
  let v79 : BitVec 32 := Scalar.shli c1_i32_65 v78
  let v80 : BitVec 32 := Scalar.ori v77 v79
  let c1_i32_68 : BitVec 32 := 1#32
  let v82 : BitVec 32 := Scalar.shli c1_i32_68 v81
  let v83 : BitVec 32 := Scalar.ori v80 v82
  let c1_i32_70 : BitVec 32 := 1#32
  let v85 : BitVec 32 := Scalar.shli c1_i32_70 v84
  let v86 : BitVec 32 := Scalar.ori v83 v85
  let c1_i32_73 : BitVec 32 := 1#32
  let v88 : BitVec 32 := Scalar.shli c1_i32_73 v87
  let v89 : BitVec 32 := Scalar.ori v86 v88
  let c1_i32_75 : BitVec 32 := 1#32
  let v91 : BitVec 32 := Scalar.shli c1_i32_75 v90
  let v92 : BitVec 32 := Scalar.ori v89 v91
  let c1_i32_78 : BitVec 32 := 1#32
  let v94 : BitVec 32 := Scalar.shli c1_i32_78 v93
  let v95 : BitVec 32 := Scalar.ori v92 v94
  let c1_i32_80 : BitVec 32 := 1#32
  let v97 : BitVec 32 := Scalar.shli c1_i32_80 v96
  let v98 : BitVec 32 := Scalar.ori v95 v97
  let c1_i32_83 : BitVec 32 := 1#32
  let v100 : BitVec 32 := Scalar.shli c1_i32_83 v99
  let v101 : BitVec 32 := Scalar.ori v98 v100
  let c1_i32_85 : BitVec 32 := 1#32
  let v103 : BitVec 32 := Scalar.shli c1_i32_85 v102
  let v104 : BitVec 32 := Scalar.ori v101 v103
  let c1_i32_88 : BitVec 32 := 1#32
  let v106 : BitVec 32 := Scalar.shli c1_i32_88 v105
  let v107 : BitVec 32 := Scalar.ori v104 v106
  let c1_i32_90 : BitVec 32 := 1#32
  let v109 : BitVec 32 := Scalar.shli c1_i32_90 v108
  let v110 : BitVec 32 := Scalar.ori v107 v109
  let c1_i32_93 : BitVec 32 := 1#32
  let v112 : BitVec 32 := Scalar.shli c1_i32_93 v111
  let v113 : BitVec 32 := Scalar.ori v110 v112
  let c1_i32_95 : BitVec 32 := 1#32
  let v115 : BitVec 32 := Scalar.shli c1_i32_95 v114
  let v116 : BitVec 32 := Scalar.ori v113 v115
  let c1_i32_98 : BitVec 32 := 1#32
  let v118 : BitVec 32 := Scalar.shli c1_i32_98 v117
  let v119 : BitVec 32 := Scalar.ori v116 v118
  let c1_i32_100 : BitVec 32 := 1#32
  let v121 : BitVec 32 := Scalar.shli c1_i32_100 v120
  let v122 : BitVec 32 := Scalar.ori v119 v121
  let c1_i32_103 : BitVec 32 := 1#32
  let v124 : BitVec 32 := Scalar.shli c1_i32_103 v123
  let v125 : BitVec 32 := Scalar.ori v122 v124
  let c1_i32_105 : BitVec 32 := 1#32
  let v127 : BitVec 32 := Scalar.shli c1_i32_105 v126
  let v128 : BitVec 32 := Scalar.ori v125 v127
  let c1_i32_108 : BitVec 32 := 1#32
  let v130 : BitVec 32 := Scalar.shli c1_i32_108 v129
  let v131 : BitVec 32 := Scalar.ori v128 v130
  let c1_i32_110 : BitVec 32 := 1#32
  let v133 : BitVec 32 := Scalar.shli c1_i32_110 v132
  let v134 : BitVec 32 := Scalar.ori v131 v133
  let c1_i32_113 : BitVec 32 := 1#32
  let v136 : BitVec 32 := Scalar.shli c1_i32_113 v135
  let v137 : BitVec 32 := Scalar.ori v134 v136
  let c1_i32_115 : BitVec 32 := 1#32
  let v139 : BitVec 32 := Scalar.shli c1_i32_115 v138
  let v140 : BitVec 32 := Scalar.ori v137 v139
  let c1_i32_118 : BitVec 32 := 1#32
  let v142 : BitVec 32 := Scalar.shli c1_i32_118 v141
  let v143 : BitVec 32 := Scalar.ori v140 v142
  let c0_i32_121 : BitVec 32 := 0#32
  let v145 : BitVec 32 := Scalar.shrsi v143 c0_i32_121
  let c1_i32_122 : BitVec 32 := 1#32
  let v146 : BitVec 32 := Scalar.andi v145 c1_i32_122
  let v147 : BitVec 32 := Scalar.addi c0_i32_123 v146
  let c1_i32_125 : BitVec 32 := 1#32
  let v150 : BitVec 32 := Scalar.shrsi v143 c1_i32_125
  let c1_i32_126 : BitVec 32 := 1#32
  let v151 : BitVec 32 := Scalar.andi v150 c1_i32_126
  let v152 : BitVec 32 := Scalar.addi v147 v151
  let c2_i32_127 : BitVec 32 := 2#32
  let v155 : BitVec 32 := Scalar.shrsi v143 c2_i32_127
  let c1_i32_128 : BitVec 32 := 1#32
  let v156 : BitVec 32 := Scalar.andi v155 c1_i32_128
  let v157 : BitVec 32 := Scalar.addi v152 v156
  let c3_i32_129 : BitVec 32 := 3#32
  let v160 : BitVec 32 := Scalar.shrsi v143 c3_i32_129
  let c1_i32_130 : BitVec 32 := 1#32
  let v161 : BitVec 32 := Scalar.andi v160 c1_i32_130
  let v162 : BitVec 32 := Scalar.addi v157 v161
  let c4_i32_131 : BitVec 32 := 4#32
  let v165 : BitVec 32 := Scalar.shrsi v143 c4_i32_131
  let c1_i32_132 : BitVec 32 := 1#32
  let v166 : BitVec 32 := Scalar.andi v165 c1_i32_132
  let v167 : BitVec 32 := Scalar.addi v162 v166
  let c5_i32_133 : BitVec 32 := 5#32
  let v170 : BitVec 32 := Scalar.shrsi v143 c5_i32_133
  let c1_i32_134 : BitVec 32 := 1#32
  let v171 : BitVec 32 := Scalar.andi v170 c1_i32_134
  let v172 : BitVec 32 := Scalar.addi v167 v171
  let c6_i32_135 : BitVec 32 := 6#32
  let v175 : BitVec 32 := Scalar.shrsi v143 c6_i32_135
  let c1_i32_136 : BitVec 32 := 1#32
  let v176 : BitVec 32 := Scalar.andi v175 c1_i32_136
  let v177 : BitVec 32 := Scalar.addi v172 v176
  let v178 : Index := Scalar.indexCast v177
  ![v178.toNat]
def k0_off8 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) : Fin 1 → Nat :=
  let c0_i32_123 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_2 : BitVec 32 := 1#32
  let v4 : BitVec 32 := Scalar.shli c1_i32_2 v3
  let v5 : BitVec 32 := Scalar.ori v2 v4
  let c1_i32_5 : BitVec 32 := 1#32
  let v7 : BitVec 32 := Scalar.shli c1_i32_5 v6
  let v8 : BitVec 32 := Scalar.ori v5 v7
  let c1_i32_8 : BitVec 32 := 1#32
  let v10 : BitVec 32 := Scalar.shli c1_i32_8 v9
  let v11 : BitVec 32 := Scalar.ori v8 v10
  let c1_i32_10 : BitVec 32 := 1#32
  let v13 : BitVec 32 := Scalar.shli c1_i32_10 v12
  let v14 : BitVec 32 := Scalar.ori v11 v13
  let c1_i32_13 : BitVec 32 := 1#32
  let v16 : BitVec 32 := Scalar.shli c1_i32_13 v15
  let v17 : BitVec 32 := Scalar.ori v14 v16
  let c1_i32_15 : BitVec 32 := 1#32
  let v19 : BitVec 32 := Scalar.shli c1_i32_15 v18
  let v20 : BitVec 32 := Scalar.ori v17 v19
  let c1_i32_18 : BitVec 32 := 1#32
  let v22 : BitVec 32 := Scalar.shli c1_i32_18 v21
  let v23 : BitVec 32 := Scalar.ori v20 v22
  let c1_i32_20 : BitVec 32 := 1#32
  let v25 : BitVec 32 := Scalar.shli c1_i32_20 v24
  let v26 : BitVec 32 := Scalar.ori v23 v25
  let c1_i32_23 : BitVec 32 := 1#32
  let v28 : BitVec 32 := Scalar.shli c1_i32_23 v27
  let v29 : BitVec 32 := Scalar.ori v26 v28
  let c1_i32_25 : BitVec 32 := 1#32
  let v31 : BitVec 32 := Scalar.shli c1_i32_25 v30
  let v32 : BitVec 32 := Scalar.ori v29 v31
  let c1_i32_28 : BitVec 32 := 1#32
  let v34 : BitVec 32 := Scalar.shli c1_i32_28 v33
  let v35 : BitVec 32 := Scalar.ori v32 v34
  let c1_i32_30 : BitVec 32 := 1#32
  let v37 : BitVec 32 := Scalar.shli c1_i32_30 v36
  let v38 : BitVec 32 := Scalar.ori v35 v37
  let c1_i32_33 : BitVec 32 := 1#32
  let v40 : BitVec 32 := Scalar.shli c1_i32_33 v39
  let v41 : BitVec 32 := Scalar.ori v38 v40
  let c1_i32_35 : BitVec 32 := 1#32
  let v43 : BitVec 32 := Scalar.shli c1_i32_35 v42
  let v44 : BitVec 32 := Scalar.ori v41 v43
  let c1_i32_38 : BitVec 32 := 1#32
  let v46 : BitVec 32 := Scalar.shli c1_i32_38 v45
  let v47 : BitVec 32 := Scalar.ori v44 v46
  let c1_i32_40 : BitVec 32 := 1#32
  let v49 : BitVec 32 := Scalar.shli c1_i32_40 v48
  let v50 : BitVec 32 := Scalar.ori v47 v49
  let c1_i32_43 : BitVec 32 := 1#32
  let v52 : BitVec 32 := Scalar.shli c1_i32_43 v51
  let v53 : BitVec 32 := Scalar.ori v50 v52
  let c1_i32_45 : BitVec 32 := 1#32
  let v55 : BitVec 32 := Scalar.shli c1_i32_45 v54
  let v56 : BitVec 32 := Scalar.ori v53 v55
  let c1_i32_48 : BitVec 32 := 1#32
  let v58 : BitVec 32 := Scalar.shli c1_i32_48 v57
  let v59 : BitVec 32 := Scalar.ori v56 v58
  let c1_i32_50 : BitVec 32 := 1#32
  let v61 : BitVec 32 := Scalar.shli c1_i32_50 v60
  let v62 : BitVec 32 := Scalar.ori v59 v61
  let c1_i32_53 : BitVec 32 := 1#32
  let v64 : BitVec 32 := Scalar.shli c1_i32_53 v63
  let v65 : BitVec 32 := Scalar.ori v62 v64
  let c1_i32_55 : BitVec 32 := 1#32
  let v67 : BitVec 32 := Scalar.shli c1_i32_55 v66
  let v68 : BitVec 32 := Scalar.ori v65 v67
  let c1_i32_58 : BitVec 32 := 1#32
  let v70 : BitVec 32 := Scalar.shli c1_i32_58 v69
  let v71 : BitVec 32 := Scalar.ori v68 v70
  let c1_i32_60 : BitVec 32 := 1#32
  let v73 : BitVec 32 := Scalar.shli c1_i32_60 v72
  let v74 : BitVec 32 := Scalar.ori v71 v73
  let c1_i32_63 : BitVec 32 := 1#32
  let v76 : BitVec 32 := Scalar.shli c1_i32_63 v75
  let v77 : BitVec 32 := Scalar.ori v74 v76
  let c1_i32_65 : BitVec 32 := 1#32
  let v79 : BitVec 32 := Scalar.shli c1_i32_65 v78
  let v80 : BitVec 32 := Scalar.ori v77 v79
  let c1_i32_68 : BitVec 32 := 1#32
  let v82 : BitVec 32 := Scalar.shli c1_i32_68 v81
  let v83 : BitVec 32 := Scalar.ori v80 v82
  let c1_i32_70 : BitVec 32 := 1#32
  let v85 : BitVec 32 := Scalar.shli c1_i32_70 v84
  let v86 : BitVec 32 := Scalar.ori v83 v85
  let c1_i32_73 : BitVec 32 := 1#32
  let v88 : BitVec 32 := Scalar.shli c1_i32_73 v87
  let v89 : BitVec 32 := Scalar.ori v86 v88
  let c1_i32_75 : BitVec 32 := 1#32
  let v91 : BitVec 32 := Scalar.shli c1_i32_75 v90
  let v92 : BitVec 32 := Scalar.ori v89 v91
  let c1_i32_78 : BitVec 32 := 1#32
  let v94 : BitVec 32 := Scalar.shli c1_i32_78 v93
  let v95 : BitVec 32 := Scalar.ori v92 v94
  let c1_i32_80 : BitVec 32 := 1#32
  let v97 : BitVec 32 := Scalar.shli c1_i32_80 v96
  let v98 : BitVec 32 := Scalar.ori v95 v97
  let c1_i32_83 : BitVec 32 := 1#32
  let v100 : BitVec 32 := Scalar.shli c1_i32_83 v99
  let v101 : BitVec 32 := Scalar.ori v98 v100
  let c1_i32_85 : BitVec 32 := 1#32
  let v103 : BitVec 32 := Scalar.shli c1_i32_85 v102
  let v104 : BitVec 32 := Scalar.ori v101 v103
  let c1_i32_88 : BitVec 32 := 1#32
  let v106 : BitVec 32 := Scalar.shli c1_i32_88 v105
  let v107 : BitVec 32 := Scalar.ori v104 v106
  let c1_i32_90 : BitVec 32 := 1#32
  let v109 : BitVec 32 := Scalar.shli c1_i32_90 v108
  let v110 : BitVec 32 := Scalar.ori v107 v109
  let c1_i32_93 : BitVec 32 := 1#32
  let v112 : BitVec 32 := Scalar.shli c1_i32_93 v111
  let v113 : BitVec 32 := Scalar.ori v110 v112
  let c1_i32_95 : BitVec 32 := 1#32
  let v115 : BitVec 32 := Scalar.shli c1_i32_95 v114
  let v116 : BitVec 32 := Scalar.ori v113 v115
  let c1_i32_98 : BitVec 32 := 1#32
  let v118 : BitVec 32 := Scalar.shli c1_i32_98 v117
  let v119 : BitVec 32 := Scalar.ori v116 v118
  let c1_i32_100 : BitVec 32 := 1#32
  let v121 : BitVec 32 := Scalar.shli c1_i32_100 v120
  let v122 : BitVec 32 := Scalar.ori v119 v121
  let c1_i32_103 : BitVec 32 := 1#32
  let v124 : BitVec 32 := Scalar.shli c1_i32_103 v123
  let v125 : BitVec 32 := Scalar.ori v122 v124
  let c1_i32_105 : BitVec 32 := 1#32
  let v127 : BitVec 32 := Scalar.shli c1_i32_105 v126
  let v128 : BitVec 32 := Scalar.ori v125 v127
  let c1_i32_108 : BitVec 32 := 1#32
  let v130 : BitVec 32 := Scalar.shli c1_i32_108 v129
  let v131 : BitVec 32 := Scalar.ori v128 v130
  let c1_i32_110 : BitVec 32 := 1#32
  let v133 : BitVec 32 := Scalar.shli c1_i32_110 v132
  let v134 : BitVec 32 := Scalar.ori v131 v133
  let c1_i32_113 : BitVec 32 := 1#32
  let v136 : BitVec 32 := Scalar.shli c1_i32_113 v135
  let v137 : BitVec 32 := Scalar.ori v134 v136
  let c1_i32_115 : BitVec 32 := 1#32
  let v139 : BitVec 32 := Scalar.shli c1_i32_115 v138
  let v140 : BitVec 32 := Scalar.ori v137 v139
  let c1_i32_118 : BitVec 32 := 1#32
  let v142 : BitVec 32 := Scalar.shli c1_i32_118 v141
  let v143 : BitVec 32 := Scalar.ori v140 v142
  let c0_i32_121 : BitVec 32 := 0#32
  let v145 : BitVec 32 := Scalar.shrsi v143 c0_i32_121
  let c1_i32_122 : BitVec 32 := 1#32
  let v146 : BitVec 32 := Scalar.andi v145 c1_i32_122
  let v147 : BitVec 32 := Scalar.addi c0_i32_123 v146
  let c1_i32_125 : BitVec 32 := 1#32
  let v150 : BitVec 32 := Scalar.shrsi v143 c1_i32_125
  let c1_i32_126 : BitVec 32 := 1#32
  let v151 : BitVec 32 := Scalar.andi v150 c1_i32_126
  let v152 : BitVec 32 := Scalar.addi v147 v151
  let c2_i32_127 : BitVec 32 := 2#32
  let v155 : BitVec 32 := Scalar.shrsi v143 c2_i32_127
  let c1_i32_128 : BitVec 32 := 1#32
  let v156 : BitVec 32 := Scalar.andi v155 c1_i32_128
  let v157 : BitVec 32 := Scalar.addi v152 v156
  let c3_i32_129 : BitVec 32 := 3#32
  let v160 : BitVec 32 := Scalar.shrsi v143 c3_i32_129
  let c1_i32_130 : BitVec 32 := 1#32
  let v161 : BitVec 32 := Scalar.andi v160 c1_i32_130
  let v162 : BitVec 32 := Scalar.addi v157 v161
  let c4_i32_131 : BitVec 32 := 4#32
  let v165 : BitVec 32 := Scalar.shrsi v143 c4_i32_131
  let c1_i32_132 : BitVec 32 := 1#32
  let v166 : BitVec 32 := Scalar.andi v165 c1_i32_132
  let v167 : BitVec 32 := Scalar.addi v162 v166
  let c5_i32_133 : BitVec 32 := 5#32
  let v170 : BitVec 32 := Scalar.shrsi v143 c5_i32_133
  let c1_i32_134 : BitVec 32 := 1#32
  let v171 : BitVec 32 := Scalar.andi v170 c1_i32_134
  let v172 : BitVec 32 := Scalar.addi v167 v171
  let c6_i32_135 : BitVec 32 := 6#32
  let v175 : BitVec 32 := Scalar.shrsi v143 c6_i32_135
  let c1_i32_136 : BitVec 32 := 1#32
  let v176 : BitVec 32 := Scalar.andi v175 c1_i32_136
  let v177 : BitVec 32 := Scalar.addi v172 v176
  let c7_i32_137 : BitVec 32 := 7#32
  let v180 : BitVec 32 := Scalar.shrsi v143 c7_i32_137
  let c1_i32_138 : BitVec 32 := 1#32
  let v181 : BitVec 32 := Scalar.andi v180 c1_i32_138
  let v182 : BitVec 32 := Scalar.addi v177 v181
  let v183 : Index := Scalar.indexCast v182
  ![v183.toNat]
def k0_off9 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) : Fin 1 → Nat :=
  let c0_i32_123 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_2 : BitVec 32 := 1#32
  let v4 : BitVec 32 := Scalar.shli c1_i32_2 v3
  let v5 : BitVec 32 := Scalar.ori v2 v4
  let c1_i32_5 : BitVec 32 := 1#32
  let v7 : BitVec 32 := Scalar.shli c1_i32_5 v6
  let v8 : BitVec 32 := Scalar.ori v5 v7
  let c1_i32_8 : BitVec 32 := 1#32
  let v10 : BitVec 32 := Scalar.shli c1_i32_8 v9
  let v11 : BitVec 32 := Scalar.ori v8 v10
  let c1_i32_10 : BitVec 32 := 1#32
  let v13 : BitVec 32 := Scalar.shli c1_i32_10 v12
  let v14 : BitVec 32 := Scalar.ori v11 v13
  let c1_i32_13 : BitVec 32 := 1#32
  let v16 : BitVec 32 := Scalar.shli c1_i32_13 v15
  let v17 : BitVec 32 := Scalar.ori v14 v16
  let c1_i32_15 : BitVec 32 := 1#32
  let v19 : BitVec 32 := Scalar.shli c1_i32_15 v18
  let v20 : BitVec 32 := Scalar.ori v17 v19
  let c1_i32_18 : BitVec 32 := 1#32
  let v22 : BitVec 32 := Scalar.shli c1_i32_18 v21
  let v23 : BitVec 32 := Scalar.ori v20 v22
  let c1_i32_20 : BitVec 32 := 1#32
  let v25 : BitVec 32 := Scalar.shli c1_i32_20 v24
  let v26 : BitVec 32 := Scalar.ori v23 v25
  let c1_i32_23 : BitVec 32 := 1#32
  let v28 : BitVec 32 := Scalar.shli c1_i32_23 v27
  let v29 : BitVec 32 := Scalar.ori v26 v28
  let c1_i32_25 : BitVec 32 := 1#32
  let v31 : BitVec 32 := Scalar.shli c1_i32_25 v30
  let v32 : BitVec 32 := Scalar.ori v29 v31
  let c1_i32_28 : BitVec 32 := 1#32
  let v34 : BitVec 32 := Scalar.shli c1_i32_28 v33
  let v35 : BitVec 32 := Scalar.ori v32 v34
  let c1_i32_30 : BitVec 32 := 1#32
  let v37 : BitVec 32 := Scalar.shli c1_i32_30 v36
  let v38 : BitVec 32 := Scalar.ori v35 v37
  let c1_i32_33 : BitVec 32 := 1#32
  let v40 : BitVec 32 := Scalar.shli c1_i32_33 v39
  let v41 : BitVec 32 := Scalar.ori v38 v40
  let c1_i32_35 : BitVec 32 := 1#32
  let v43 : BitVec 32 := Scalar.shli c1_i32_35 v42
  let v44 : BitVec 32 := Scalar.ori v41 v43
  let c1_i32_38 : BitVec 32 := 1#32
  let v46 : BitVec 32 := Scalar.shli c1_i32_38 v45
  let v47 : BitVec 32 := Scalar.ori v44 v46
  let c1_i32_40 : BitVec 32 := 1#32
  let v49 : BitVec 32 := Scalar.shli c1_i32_40 v48
  let v50 : BitVec 32 := Scalar.ori v47 v49
  let c1_i32_43 : BitVec 32 := 1#32
  let v52 : BitVec 32 := Scalar.shli c1_i32_43 v51
  let v53 : BitVec 32 := Scalar.ori v50 v52
  let c1_i32_45 : BitVec 32 := 1#32
  let v55 : BitVec 32 := Scalar.shli c1_i32_45 v54
  let v56 : BitVec 32 := Scalar.ori v53 v55
  let c1_i32_48 : BitVec 32 := 1#32
  let v58 : BitVec 32 := Scalar.shli c1_i32_48 v57
  let v59 : BitVec 32 := Scalar.ori v56 v58
  let c1_i32_50 : BitVec 32 := 1#32
  let v61 : BitVec 32 := Scalar.shli c1_i32_50 v60
  let v62 : BitVec 32 := Scalar.ori v59 v61
  let c1_i32_53 : BitVec 32 := 1#32
  let v64 : BitVec 32 := Scalar.shli c1_i32_53 v63
  let v65 : BitVec 32 := Scalar.ori v62 v64
  let c1_i32_55 : BitVec 32 := 1#32
  let v67 : BitVec 32 := Scalar.shli c1_i32_55 v66
  let v68 : BitVec 32 := Scalar.ori v65 v67
  let c1_i32_58 : BitVec 32 := 1#32
  let v70 : BitVec 32 := Scalar.shli c1_i32_58 v69
  let v71 : BitVec 32 := Scalar.ori v68 v70
  let c1_i32_60 : BitVec 32 := 1#32
  let v73 : BitVec 32 := Scalar.shli c1_i32_60 v72
  let v74 : BitVec 32 := Scalar.ori v71 v73
  let c1_i32_63 : BitVec 32 := 1#32
  let v76 : BitVec 32 := Scalar.shli c1_i32_63 v75
  let v77 : BitVec 32 := Scalar.ori v74 v76
  let c1_i32_65 : BitVec 32 := 1#32
  let v79 : BitVec 32 := Scalar.shli c1_i32_65 v78
  let v80 : BitVec 32 := Scalar.ori v77 v79
  let c1_i32_68 : BitVec 32 := 1#32
  let v82 : BitVec 32 := Scalar.shli c1_i32_68 v81
  let v83 : BitVec 32 := Scalar.ori v80 v82
  let c1_i32_70 : BitVec 32 := 1#32
  let v85 : BitVec 32 := Scalar.shli c1_i32_70 v84
  let v86 : BitVec 32 := Scalar.ori v83 v85
  let c1_i32_73 : BitVec 32 := 1#32
  let v88 : BitVec 32 := Scalar.shli c1_i32_73 v87
  let v89 : BitVec 32 := Scalar.ori v86 v88
  let c1_i32_75 : BitVec 32 := 1#32
  let v91 : BitVec 32 := Scalar.shli c1_i32_75 v90
  let v92 : BitVec 32 := Scalar.ori v89 v91
  let c1_i32_78 : BitVec 32 := 1#32
  let v94 : BitVec 32 := Scalar.shli c1_i32_78 v93
  let v95 : BitVec 32 := Scalar.ori v92 v94
  let c1_i32_80 : BitVec 32 := 1#32
  let v97 : BitVec 32 := Scalar.shli c1_i32_80 v96
  let v98 : BitVec 32 := Scalar.ori v95 v97
  let c1_i32_83 : BitVec 32 := 1#32
  let v100 : BitVec 32 := Scalar.shli c1_i32_83 v99
  let v101 : BitVec 32 := Scalar.ori v98 v100
  let c1_i32_85 : BitVec 32 := 1#32
  let v103 : BitVec 32 := Scalar.shli c1_i32_85 v102
  let v104 : BitVec 32 := Scalar.ori v101 v103
  let c1_i32_88 : BitVec 32 := 1#32
  let v106 : BitVec 32 := Scalar.shli c1_i32_88 v105
  let v107 : BitVec 32 := Scalar.ori v104 v106
  let c1_i32_90 : BitVec 32 := 1#32
  let v109 : BitVec 32 := Scalar.shli c1_i32_90 v108
  let v110 : BitVec 32 := Scalar.ori v107 v109
  let c1_i32_93 : BitVec 32 := 1#32
  let v112 : BitVec 32 := Scalar.shli c1_i32_93 v111
  let v113 : BitVec 32 := Scalar.ori v110 v112
  let c1_i32_95 : BitVec 32 := 1#32
  let v115 : BitVec 32 := Scalar.shli c1_i32_95 v114
  let v116 : BitVec 32 := Scalar.ori v113 v115
  let c1_i32_98 : BitVec 32 := 1#32
  let v118 : BitVec 32 := Scalar.shli c1_i32_98 v117
  let v119 : BitVec 32 := Scalar.ori v116 v118
  let c1_i32_100 : BitVec 32 := 1#32
  let v121 : BitVec 32 := Scalar.shli c1_i32_100 v120
  let v122 : BitVec 32 := Scalar.ori v119 v121
  let c1_i32_103 : BitVec 32 := 1#32
  let v124 : BitVec 32 := Scalar.shli c1_i32_103 v123
  let v125 : BitVec 32 := Scalar.ori v122 v124
  let c1_i32_105 : BitVec 32 := 1#32
  let v127 : BitVec 32 := Scalar.shli c1_i32_105 v126
  let v128 : BitVec 32 := Scalar.ori v125 v127
  let c1_i32_108 : BitVec 32 := 1#32
  let v130 : BitVec 32 := Scalar.shli c1_i32_108 v129
  let v131 : BitVec 32 := Scalar.ori v128 v130
  let c1_i32_110 : BitVec 32 := 1#32
  let v133 : BitVec 32 := Scalar.shli c1_i32_110 v132
  let v134 : BitVec 32 := Scalar.ori v131 v133
  let c1_i32_113 : BitVec 32 := 1#32
  let v136 : BitVec 32 := Scalar.shli c1_i32_113 v135
  let v137 : BitVec 32 := Scalar.ori v134 v136
  let c1_i32_115 : BitVec 32 := 1#32
  let v139 : BitVec 32 := Scalar.shli c1_i32_115 v138
  let v140 : BitVec 32 := Scalar.ori v137 v139
  let c1_i32_118 : BitVec 32 := 1#32
  let v142 : BitVec 32 := Scalar.shli c1_i32_118 v141
  let v143 : BitVec 32 := Scalar.ori v140 v142
  let c0_i32_121 : BitVec 32 := 0#32
  let v145 : BitVec 32 := Scalar.shrsi v143 c0_i32_121
  let c1_i32_122 : BitVec 32 := 1#32
  let v146 : BitVec 32 := Scalar.andi v145 c1_i32_122
  let v147 : BitVec 32 := Scalar.addi c0_i32_123 v146
  let c1_i32_125 : BitVec 32 := 1#32
  let v150 : BitVec 32 := Scalar.shrsi v143 c1_i32_125
  let c1_i32_126 : BitVec 32 := 1#32
  let v151 : BitVec 32 := Scalar.andi v150 c1_i32_126
  let v152 : BitVec 32 := Scalar.addi v147 v151
  let c2_i32_127 : BitVec 32 := 2#32
  let v155 : BitVec 32 := Scalar.shrsi v143 c2_i32_127
  let c1_i32_128 : BitVec 32 := 1#32
  let v156 : BitVec 32 := Scalar.andi v155 c1_i32_128
  let v157 : BitVec 32 := Scalar.addi v152 v156
  let c3_i32_129 : BitVec 32 := 3#32
  let v160 : BitVec 32 := Scalar.shrsi v143 c3_i32_129
  let c1_i32_130 : BitVec 32 := 1#32
  let v161 : BitVec 32 := Scalar.andi v160 c1_i32_130
  let v162 : BitVec 32 := Scalar.addi v157 v161
  let c4_i32_131 : BitVec 32 := 4#32
  let v165 : BitVec 32 := Scalar.shrsi v143 c4_i32_131
  let c1_i32_132 : BitVec 32 := 1#32
  let v166 : BitVec 32 := Scalar.andi v165 c1_i32_132
  let v167 : BitVec 32 := Scalar.addi v162 v166
  let c5_i32_133 : BitVec 32 := 5#32
  let v170 : BitVec 32 := Scalar.shrsi v143 c5_i32_133
  let c1_i32_134 : BitVec 32 := 1#32
  let v171 : BitVec 32 := Scalar.andi v170 c1_i32_134
  let v172 : BitVec 32 := Scalar.addi v167 v171
  let c6_i32_135 : BitVec 32 := 6#32
  let v175 : BitVec 32 := Scalar.shrsi v143 c6_i32_135
  let c1_i32_136 : BitVec 32 := 1#32
  let v176 : BitVec 32 := Scalar.andi v175 c1_i32_136
  let v177 : BitVec 32 := Scalar.addi v172 v176
  let c7_i32_137 : BitVec 32 := 7#32
  let v180 : BitVec 32 := Scalar.shrsi v143 c7_i32_137
  let c1_i32_138 : BitVec 32 := 1#32
  let v181 : BitVec 32 := Scalar.andi v180 c1_i32_138
  let v182 : BitVec 32 := Scalar.addi v177 v181
  let c8_i32_139 : BitVec 32 := 8#32
  let v185 : BitVec 32 := Scalar.shrsi v143 c8_i32_139
  let c1_i32_140 : BitVec 32 := 1#32
  let v186 : BitVec 32 := Scalar.andi v185 c1_i32_140
  let v187 : BitVec 32 := Scalar.addi v182 v186
  let v188 : Index := Scalar.indexCast v187
  ![v188.toNat]
def k0_off10 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) : Fin 1 → Nat :=
  let c0_i32_123 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_2 : BitVec 32 := 1#32
  let v4 : BitVec 32 := Scalar.shli c1_i32_2 v3
  let v5 : BitVec 32 := Scalar.ori v2 v4
  let c1_i32_5 : BitVec 32 := 1#32
  let v7 : BitVec 32 := Scalar.shli c1_i32_5 v6
  let v8 : BitVec 32 := Scalar.ori v5 v7
  let c1_i32_8 : BitVec 32 := 1#32
  let v10 : BitVec 32 := Scalar.shli c1_i32_8 v9
  let v11 : BitVec 32 := Scalar.ori v8 v10
  let c1_i32_10 : BitVec 32 := 1#32
  let v13 : BitVec 32 := Scalar.shli c1_i32_10 v12
  let v14 : BitVec 32 := Scalar.ori v11 v13
  let c1_i32_13 : BitVec 32 := 1#32
  let v16 : BitVec 32 := Scalar.shli c1_i32_13 v15
  let v17 : BitVec 32 := Scalar.ori v14 v16
  let c1_i32_15 : BitVec 32 := 1#32
  let v19 : BitVec 32 := Scalar.shli c1_i32_15 v18
  let v20 : BitVec 32 := Scalar.ori v17 v19
  let c1_i32_18 : BitVec 32 := 1#32
  let v22 : BitVec 32 := Scalar.shli c1_i32_18 v21
  let v23 : BitVec 32 := Scalar.ori v20 v22
  let c1_i32_20 : BitVec 32 := 1#32
  let v25 : BitVec 32 := Scalar.shli c1_i32_20 v24
  let v26 : BitVec 32 := Scalar.ori v23 v25
  let c1_i32_23 : BitVec 32 := 1#32
  let v28 : BitVec 32 := Scalar.shli c1_i32_23 v27
  let v29 : BitVec 32 := Scalar.ori v26 v28
  let c1_i32_25 : BitVec 32 := 1#32
  let v31 : BitVec 32 := Scalar.shli c1_i32_25 v30
  let v32 : BitVec 32 := Scalar.ori v29 v31
  let c1_i32_28 : BitVec 32 := 1#32
  let v34 : BitVec 32 := Scalar.shli c1_i32_28 v33
  let v35 : BitVec 32 := Scalar.ori v32 v34
  let c1_i32_30 : BitVec 32 := 1#32
  let v37 : BitVec 32 := Scalar.shli c1_i32_30 v36
  let v38 : BitVec 32 := Scalar.ori v35 v37
  let c1_i32_33 : BitVec 32 := 1#32
  let v40 : BitVec 32 := Scalar.shli c1_i32_33 v39
  let v41 : BitVec 32 := Scalar.ori v38 v40
  let c1_i32_35 : BitVec 32 := 1#32
  let v43 : BitVec 32 := Scalar.shli c1_i32_35 v42
  let v44 : BitVec 32 := Scalar.ori v41 v43
  let c1_i32_38 : BitVec 32 := 1#32
  let v46 : BitVec 32 := Scalar.shli c1_i32_38 v45
  let v47 : BitVec 32 := Scalar.ori v44 v46
  let c1_i32_40 : BitVec 32 := 1#32
  let v49 : BitVec 32 := Scalar.shli c1_i32_40 v48
  let v50 : BitVec 32 := Scalar.ori v47 v49
  let c1_i32_43 : BitVec 32 := 1#32
  let v52 : BitVec 32 := Scalar.shli c1_i32_43 v51
  let v53 : BitVec 32 := Scalar.ori v50 v52
  let c1_i32_45 : BitVec 32 := 1#32
  let v55 : BitVec 32 := Scalar.shli c1_i32_45 v54
  let v56 : BitVec 32 := Scalar.ori v53 v55
  let c1_i32_48 : BitVec 32 := 1#32
  let v58 : BitVec 32 := Scalar.shli c1_i32_48 v57
  let v59 : BitVec 32 := Scalar.ori v56 v58
  let c1_i32_50 : BitVec 32 := 1#32
  let v61 : BitVec 32 := Scalar.shli c1_i32_50 v60
  let v62 : BitVec 32 := Scalar.ori v59 v61
  let c1_i32_53 : BitVec 32 := 1#32
  let v64 : BitVec 32 := Scalar.shli c1_i32_53 v63
  let v65 : BitVec 32 := Scalar.ori v62 v64
  let c1_i32_55 : BitVec 32 := 1#32
  let v67 : BitVec 32 := Scalar.shli c1_i32_55 v66
  let v68 : BitVec 32 := Scalar.ori v65 v67
  let c1_i32_58 : BitVec 32 := 1#32
  let v70 : BitVec 32 := Scalar.shli c1_i32_58 v69
  let v71 : BitVec 32 := Scalar.ori v68 v70
  let c1_i32_60 : BitVec 32 := 1#32
  let v73 : BitVec 32 := Scalar.shli c1_i32_60 v72
  let v74 : BitVec 32 := Scalar.ori v71 v73
  let c1_i32_63 : BitVec 32 := 1#32
  let v76 : BitVec 32 := Scalar.shli c1_i32_63 v75
  let v77 : BitVec 32 := Scalar.ori v74 v76
  let c1_i32_65 : BitVec 32 := 1#32
  let v79 : BitVec 32 := Scalar.shli c1_i32_65 v78
  let v80 : BitVec 32 := Scalar.ori v77 v79
  let c1_i32_68 : BitVec 32 := 1#32
  let v82 : BitVec 32 := Scalar.shli c1_i32_68 v81
  let v83 : BitVec 32 := Scalar.ori v80 v82
  let c1_i32_70 : BitVec 32 := 1#32
  let v85 : BitVec 32 := Scalar.shli c1_i32_70 v84
  let v86 : BitVec 32 := Scalar.ori v83 v85
  let c1_i32_73 : BitVec 32 := 1#32
  let v88 : BitVec 32 := Scalar.shli c1_i32_73 v87
  let v89 : BitVec 32 := Scalar.ori v86 v88
  let c1_i32_75 : BitVec 32 := 1#32
  let v91 : BitVec 32 := Scalar.shli c1_i32_75 v90
  let v92 : BitVec 32 := Scalar.ori v89 v91
  let c1_i32_78 : BitVec 32 := 1#32
  let v94 : BitVec 32 := Scalar.shli c1_i32_78 v93
  let v95 : BitVec 32 := Scalar.ori v92 v94
  let c1_i32_80 : BitVec 32 := 1#32
  let v97 : BitVec 32 := Scalar.shli c1_i32_80 v96
  let v98 : BitVec 32 := Scalar.ori v95 v97
  let c1_i32_83 : BitVec 32 := 1#32
  let v100 : BitVec 32 := Scalar.shli c1_i32_83 v99
  let v101 : BitVec 32 := Scalar.ori v98 v100
  let c1_i32_85 : BitVec 32 := 1#32
  let v103 : BitVec 32 := Scalar.shli c1_i32_85 v102
  let v104 : BitVec 32 := Scalar.ori v101 v103
  let c1_i32_88 : BitVec 32 := 1#32
  let v106 : BitVec 32 := Scalar.shli c1_i32_88 v105
  let v107 : BitVec 32 := Scalar.ori v104 v106
  let c1_i32_90 : BitVec 32 := 1#32
  let v109 : BitVec 32 := Scalar.shli c1_i32_90 v108
  let v110 : BitVec 32 := Scalar.ori v107 v109
  let c1_i32_93 : BitVec 32 := 1#32
  let v112 : BitVec 32 := Scalar.shli c1_i32_93 v111
  let v113 : BitVec 32 := Scalar.ori v110 v112
  let c1_i32_95 : BitVec 32 := 1#32
  let v115 : BitVec 32 := Scalar.shli c1_i32_95 v114
  let v116 : BitVec 32 := Scalar.ori v113 v115
  let c1_i32_98 : BitVec 32 := 1#32
  let v118 : BitVec 32 := Scalar.shli c1_i32_98 v117
  let v119 : BitVec 32 := Scalar.ori v116 v118
  let c1_i32_100 : BitVec 32 := 1#32
  let v121 : BitVec 32 := Scalar.shli c1_i32_100 v120
  let v122 : BitVec 32 := Scalar.ori v119 v121
  let c1_i32_103 : BitVec 32 := 1#32
  let v124 : BitVec 32 := Scalar.shli c1_i32_103 v123
  let v125 : BitVec 32 := Scalar.ori v122 v124
  let c1_i32_105 : BitVec 32 := 1#32
  let v127 : BitVec 32 := Scalar.shli c1_i32_105 v126
  let v128 : BitVec 32 := Scalar.ori v125 v127
  let c1_i32_108 : BitVec 32 := 1#32
  let v130 : BitVec 32 := Scalar.shli c1_i32_108 v129
  let v131 : BitVec 32 := Scalar.ori v128 v130
  let c1_i32_110 : BitVec 32 := 1#32
  let v133 : BitVec 32 := Scalar.shli c1_i32_110 v132
  let v134 : BitVec 32 := Scalar.ori v131 v133
  let c1_i32_113 : BitVec 32 := 1#32
  let v136 : BitVec 32 := Scalar.shli c1_i32_113 v135
  let v137 : BitVec 32 := Scalar.ori v134 v136
  let c1_i32_115 : BitVec 32 := 1#32
  let v139 : BitVec 32 := Scalar.shli c1_i32_115 v138
  let v140 : BitVec 32 := Scalar.ori v137 v139
  let c1_i32_118 : BitVec 32 := 1#32
  let v142 : BitVec 32 := Scalar.shli c1_i32_118 v141
  let v143 : BitVec 32 := Scalar.ori v140 v142
  let c0_i32_121 : BitVec 32 := 0#32
  let v145 : BitVec 32 := Scalar.shrsi v143 c0_i32_121
  let c1_i32_122 : BitVec 32 := 1#32
  let v146 : BitVec 32 := Scalar.andi v145 c1_i32_122
  let v147 : BitVec 32 := Scalar.addi c0_i32_123 v146
  let c1_i32_125 : BitVec 32 := 1#32
  let v150 : BitVec 32 := Scalar.shrsi v143 c1_i32_125
  let c1_i32_126 : BitVec 32 := 1#32
  let v151 : BitVec 32 := Scalar.andi v150 c1_i32_126
  let v152 : BitVec 32 := Scalar.addi v147 v151
  let c2_i32_127 : BitVec 32 := 2#32
  let v155 : BitVec 32 := Scalar.shrsi v143 c2_i32_127
  let c1_i32_128 : BitVec 32 := 1#32
  let v156 : BitVec 32 := Scalar.andi v155 c1_i32_128
  let v157 : BitVec 32 := Scalar.addi v152 v156
  let c3_i32_129 : BitVec 32 := 3#32
  let v160 : BitVec 32 := Scalar.shrsi v143 c3_i32_129
  let c1_i32_130 : BitVec 32 := 1#32
  let v161 : BitVec 32 := Scalar.andi v160 c1_i32_130
  let v162 : BitVec 32 := Scalar.addi v157 v161
  let c4_i32_131 : BitVec 32 := 4#32
  let v165 : BitVec 32 := Scalar.shrsi v143 c4_i32_131
  let c1_i32_132 : BitVec 32 := 1#32
  let v166 : BitVec 32 := Scalar.andi v165 c1_i32_132
  let v167 : BitVec 32 := Scalar.addi v162 v166
  let c5_i32_133 : BitVec 32 := 5#32
  let v170 : BitVec 32 := Scalar.shrsi v143 c5_i32_133
  let c1_i32_134 : BitVec 32 := 1#32
  let v171 : BitVec 32 := Scalar.andi v170 c1_i32_134
  let v172 : BitVec 32 := Scalar.addi v167 v171
  let c6_i32_135 : BitVec 32 := 6#32
  let v175 : BitVec 32 := Scalar.shrsi v143 c6_i32_135
  let c1_i32_136 : BitVec 32 := 1#32
  let v176 : BitVec 32 := Scalar.andi v175 c1_i32_136
  let v177 : BitVec 32 := Scalar.addi v172 v176
  let c7_i32_137 : BitVec 32 := 7#32
  let v180 : BitVec 32 := Scalar.shrsi v143 c7_i32_137
  let c1_i32_138 : BitVec 32 := 1#32
  let v181 : BitVec 32 := Scalar.andi v180 c1_i32_138
  let v182 : BitVec 32 := Scalar.addi v177 v181
  let c8_i32_139 : BitVec 32 := 8#32
  let v185 : BitVec 32 := Scalar.shrsi v143 c8_i32_139
  let c1_i32_140 : BitVec 32 := 1#32
  let v186 : BitVec 32 := Scalar.andi v185 c1_i32_140
  let v187 : BitVec 32 := Scalar.addi v182 v186
  let c9_i32_141 : BitVec 32 := 9#32
  let v190 : BitVec 32 := Scalar.shrsi v143 c9_i32_141
  let c1_i32_142 : BitVec 32 := 1#32
  let v191 : BitVec 32 := Scalar.andi v190 c1_i32_142
  let v192 : BitVec 32 := Scalar.addi v187 v191
  let v193 : Index := Scalar.indexCast v192
  ![v193.toNat]
def k0_off11 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) : Fin 1 → Nat :=
  let c0_i32_123 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_2 : BitVec 32 := 1#32
  let v4 : BitVec 32 := Scalar.shli c1_i32_2 v3
  let v5 : BitVec 32 := Scalar.ori v2 v4
  let c1_i32_5 : BitVec 32 := 1#32
  let v7 : BitVec 32 := Scalar.shli c1_i32_5 v6
  let v8 : BitVec 32 := Scalar.ori v5 v7
  let c1_i32_8 : BitVec 32 := 1#32
  let v10 : BitVec 32 := Scalar.shli c1_i32_8 v9
  let v11 : BitVec 32 := Scalar.ori v8 v10
  let c1_i32_10 : BitVec 32 := 1#32
  let v13 : BitVec 32 := Scalar.shli c1_i32_10 v12
  let v14 : BitVec 32 := Scalar.ori v11 v13
  let c1_i32_13 : BitVec 32 := 1#32
  let v16 : BitVec 32 := Scalar.shli c1_i32_13 v15
  let v17 : BitVec 32 := Scalar.ori v14 v16
  let c1_i32_15 : BitVec 32 := 1#32
  let v19 : BitVec 32 := Scalar.shli c1_i32_15 v18
  let v20 : BitVec 32 := Scalar.ori v17 v19
  let c1_i32_18 : BitVec 32 := 1#32
  let v22 : BitVec 32 := Scalar.shli c1_i32_18 v21
  let v23 : BitVec 32 := Scalar.ori v20 v22
  let c1_i32_20 : BitVec 32 := 1#32
  let v25 : BitVec 32 := Scalar.shli c1_i32_20 v24
  let v26 : BitVec 32 := Scalar.ori v23 v25
  let c1_i32_23 : BitVec 32 := 1#32
  let v28 : BitVec 32 := Scalar.shli c1_i32_23 v27
  let v29 : BitVec 32 := Scalar.ori v26 v28
  let c1_i32_25 : BitVec 32 := 1#32
  let v31 : BitVec 32 := Scalar.shli c1_i32_25 v30
  let v32 : BitVec 32 := Scalar.ori v29 v31
  let c1_i32_28 : BitVec 32 := 1#32
  let v34 : BitVec 32 := Scalar.shli c1_i32_28 v33
  let v35 : BitVec 32 := Scalar.ori v32 v34
  let c1_i32_30 : BitVec 32 := 1#32
  let v37 : BitVec 32 := Scalar.shli c1_i32_30 v36
  let v38 : BitVec 32 := Scalar.ori v35 v37
  let c1_i32_33 : BitVec 32 := 1#32
  let v40 : BitVec 32 := Scalar.shli c1_i32_33 v39
  let v41 : BitVec 32 := Scalar.ori v38 v40
  let c1_i32_35 : BitVec 32 := 1#32
  let v43 : BitVec 32 := Scalar.shli c1_i32_35 v42
  let v44 : BitVec 32 := Scalar.ori v41 v43
  let c1_i32_38 : BitVec 32 := 1#32
  let v46 : BitVec 32 := Scalar.shli c1_i32_38 v45
  let v47 : BitVec 32 := Scalar.ori v44 v46
  let c1_i32_40 : BitVec 32 := 1#32
  let v49 : BitVec 32 := Scalar.shli c1_i32_40 v48
  let v50 : BitVec 32 := Scalar.ori v47 v49
  let c1_i32_43 : BitVec 32 := 1#32
  let v52 : BitVec 32 := Scalar.shli c1_i32_43 v51
  let v53 : BitVec 32 := Scalar.ori v50 v52
  let c1_i32_45 : BitVec 32 := 1#32
  let v55 : BitVec 32 := Scalar.shli c1_i32_45 v54
  let v56 : BitVec 32 := Scalar.ori v53 v55
  let c1_i32_48 : BitVec 32 := 1#32
  let v58 : BitVec 32 := Scalar.shli c1_i32_48 v57
  let v59 : BitVec 32 := Scalar.ori v56 v58
  let c1_i32_50 : BitVec 32 := 1#32
  let v61 : BitVec 32 := Scalar.shli c1_i32_50 v60
  let v62 : BitVec 32 := Scalar.ori v59 v61
  let c1_i32_53 : BitVec 32 := 1#32
  let v64 : BitVec 32 := Scalar.shli c1_i32_53 v63
  let v65 : BitVec 32 := Scalar.ori v62 v64
  let c1_i32_55 : BitVec 32 := 1#32
  let v67 : BitVec 32 := Scalar.shli c1_i32_55 v66
  let v68 : BitVec 32 := Scalar.ori v65 v67
  let c1_i32_58 : BitVec 32 := 1#32
  let v70 : BitVec 32 := Scalar.shli c1_i32_58 v69
  let v71 : BitVec 32 := Scalar.ori v68 v70
  let c1_i32_60 : BitVec 32 := 1#32
  let v73 : BitVec 32 := Scalar.shli c1_i32_60 v72
  let v74 : BitVec 32 := Scalar.ori v71 v73
  let c1_i32_63 : BitVec 32 := 1#32
  let v76 : BitVec 32 := Scalar.shli c1_i32_63 v75
  let v77 : BitVec 32 := Scalar.ori v74 v76
  let c1_i32_65 : BitVec 32 := 1#32
  let v79 : BitVec 32 := Scalar.shli c1_i32_65 v78
  let v80 : BitVec 32 := Scalar.ori v77 v79
  let c1_i32_68 : BitVec 32 := 1#32
  let v82 : BitVec 32 := Scalar.shli c1_i32_68 v81
  let v83 : BitVec 32 := Scalar.ori v80 v82
  let c1_i32_70 : BitVec 32 := 1#32
  let v85 : BitVec 32 := Scalar.shli c1_i32_70 v84
  let v86 : BitVec 32 := Scalar.ori v83 v85
  let c1_i32_73 : BitVec 32 := 1#32
  let v88 : BitVec 32 := Scalar.shli c1_i32_73 v87
  let v89 : BitVec 32 := Scalar.ori v86 v88
  let c1_i32_75 : BitVec 32 := 1#32
  let v91 : BitVec 32 := Scalar.shli c1_i32_75 v90
  let v92 : BitVec 32 := Scalar.ori v89 v91
  let c1_i32_78 : BitVec 32 := 1#32
  let v94 : BitVec 32 := Scalar.shli c1_i32_78 v93
  let v95 : BitVec 32 := Scalar.ori v92 v94
  let c1_i32_80 : BitVec 32 := 1#32
  let v97 : BitVec 32 := Scalar.shli c1_i32_80 v96
  let v98 : BitVec 32 := Scalar.ori v95 v97
  let c1_i32_83 : BitVec 32 := 1#32
  let v100 : BitVec 32 := Scalar.shli c1_i32_83 v99
  let v101 : BitVec 32 := Scalar.ori v98 v100
  let c1_i32_85 : BitVec 32 := 1#32
  let v103 : BitVec 32 := Scalar.shli c1_i32_85 v102
  let v104 : BitVec 32 := Scalar.ori v101 v103
  let c1_i32_88 : BitVec 32 := 1#32
  let v106 : BitVec 32 := Scalar.shli c1_i32_88 v105
  let v107 : BitVec 32 := Scalar.ori v104 v106
  let c1_i32_90 : BitVec 32 := 1#32
  let v109 : BitVec 32 := Scalar.shli c1_i32_90 v108
  let v110 : BitVec 32 := Scalar.ori v107 v109
  let c1_i32_93 : BitVec 32 := 1#32
  let v112 : BitVec 32 := Scalar.shli c1_i32_93 v111
  let v113 : BitVec 32 := Scalar.ori v110 v112
  let c1_i32_95 : BitVec 32 := 1#32
  let v115 : BitVec 32 := Scalar.shli c1_i32_95 v114
  let v116 : BitVec 32 := Scalar.ori v113 v115
  let c1_i32_98 : BitVec 32 := 1#32
  let v118 : BitVec 32 := Scalar.shli c1_i32_98 v117
  let v119 : BitVec 32 := Scalar.ori v116 v118
  let c1_i32_100 : BitVec 32 := 1#32
  let v121 : BitVec 32 := Scalar.shli c1_i32_100 v120
  let v122 : BitVec 32 := Scalar.ori v119 v121
  let c1_i32_103 : BitVec 32 := 1#32
  let v124 : BitVec 32 := Scalar.shli c1_i32_103 v123
  let v125 : BitVec 32 := Scalar.ori v122 v124
  let c1_i32_105 : BitVec 32 := 1#32
  let v127 : BitVec 32 := Scalar.shli c1_i32_105 v126
  let v128 : BitVec 32 := Scalar.ori v125 v127
  let c1_i32_108 : BitVec 32 := 1#32
  let v130 : BitVec 32 := Scalar.shli c1_i32_108 v129
  let v131 : BitVec 32 := Scalar.ori v128 v130
  let c1_i32_110 : BitVec 32 := 1#32
  let v133 : BitVec 32 := Scalar.shli c1_i32_110 v132
  let v134 : BitVec 32 := Scalar.ori v131 v133
  let c1_i32_113 : BitVec 32 := 1#32
  let v136 : BitVec 32 := Scalar.shli c1_i32_113 v135
  let v137 : BitVec 32 := Scalar.ori v134 v136
  let c1_i32_115 : BitVec 32 := 1#32
  let v139 : BitVec 32 := Scalar.shli c1_i32_115 v138
  let v140 : BitVec 32 := Scalar.ori v137 v139
  let c1_i32_118 : BitVec 32 := 1#32
  let v142 : BitVec 32 := Scalar.shli c1_i32_118 v141
  let v143 : BitVec 32 := Scalar.ori v140 v142
  let c0_i32_121 : BitVec 32 := 0#32
  let v145 : BitVec 32 := Scalar.shrsi v143 c0_i32_121
  let c1_i32_122 : BitVec 32 := 1#32
  let v146 : BitVec 32 := Scalar.andi v145 c1_i32_122
  let v147 : BitVec 32 := Scalar.addi c0_i32_123 v146
  let c1_i32_125 : BitVec 32 := 1#32
  let v150 : BitVec 32 := Scalar.shrsi v143 c1_i32_125
  let c1_i32_126 : BitVec 32 := 1#32
  let v151 : BitVec 32 := Scalar.andi v150 c1_i32_126
  let v152 : BitVec 32 := Scalar.addi v147 v151
  let c2_i32_127 : BitVec 32 := 2#32
  let v155 : BitVec 32 := Scalar.shrsi v143 c2_i32_127
  let c1_i32_128 : BitVec 32 := 1#32
  let v156 : BitVec 32 := Scalar.andi v155 c1_i32_128
  let v157 : BitVec 32 := Scalar.addi v152 v156
  let c3_i32_129 : BitVec 32 := 3#32
  let v160 : BitVec 32 := Scalar.shrsi v143 c3_i32_129
  let c1_i32_130 : BitVec 32 := 1#32
  let v161 : BitVec 32 := Scalar.andi v160 c1_i32_130
  let v162 : BitVec 32 := Scalar.addi v157 v161
  let c4_i32_131 : BitVec 32 := 4#32
  let v165 : BitVec 32 := Scalar.shrsi v143 c4_i32_131
  let c1_i32_132 : BitVec 32 := 1#32
  let v166 : BitVec 32 := Scalar.andi v165 c1_i32_132
  let v167 : BitVec 32 := Scalar.addi v162 v166
  let c5_i32_133 : BitVec 32 := 5#32
  let v170 : BitVec 32 := Scalar.shrsi v143 c5_i32_133
  let c1_i32_134 : BitVec 32 := 1#32
  let v171 : BitVec 32 := Scalar.andi v170 c1_i32_134
  let v172 : BitVec 32 := Scalar.addi v167 v171
  let c6_i32_135 : BitVec 32 := 6#32
  let v175 : BitVec 32 := Scalar.shrsi v143 c6_i32_135
  let c1_i32_136 : BitVec 32 := 1#32
  let v176 : BitVec 32 := Scalar.andi v175 c1_i32_136
  let v177 : BitVec 32 := Scalar.addi v172 v176
  let c7_i32_137 : BitVec 32 := 7#32
  let v180 : BitVec 32 := Scalar.shrsi v143 c7_i32_137
  let c1_i32_138 : BitVec 32 := 1#32
  let v181 : BitVec 32 := Scalar.andi v180 c1_i32_138
  let v182 : BitVec 32 := Scalar.addi v177 v181
  let c8_i32_139 : BitVec 32 := 8#32
  let v185 : BitVec 32 := Scalar.shrsi v143 c8_i32_139
  let c1_i32_140 : BitVec 32 := 1#32
  let v186 : BitVec 32 := Scalar.andi v185 c1_i32_140
  let v187 : BitVec 32 := Scalar.addi v182 v186
  let c9_i32_141 : BitVec 32 := 9#32
  let v190 : BitVec 32 := Scalar.shrsi v143 c9_i32_141
  let c1_i32_142 : BitVec 32 := 1#32
  let v191 : BitVec 32 := Scalar.andi v190 c1_i32_142
  let v192 : BitVec 32 := Scalar.addi v187 v191
  let c10_i32_143 : BitVec 32 := 10#32
  let v195 : BitVec 32 := Scalar.shrsi v143 c10_i32_143
  let c1_i32_144 : BitVec 32 := 1#32
  let v196 : BitVec 32 := Scalar.andi v195 c1_i32_144
  let v197 : BitVec 32 := Scalar.addi v192 v196
  let v198 : Index := Scalar.indexCast v197
  ![v198.toNat]
def k0_off12 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) : Fin 1 → Nat :=
  let c0_i32_123 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_2 : BitVec 32 := 1#32
  let v4 : BitVec 32 := Scalar.shli c1_i32_2 v3
  let v5 : BitVec 32 := Scalar.ori v2 v4
  let c1_i32_5 : BitVec 32 := 1#32
  let v7 : BitVec 32 := Scalar.shli c1_i32_5 v6
  let v8 : BitVec 32 := Scalar.ori v5 v7
  let c1_i32_8 : BitVec 32 := 1#32
  let v10 : BitVec 32 := Scalar.shli c1_i32_8 v9
  let v11 : BitVec 32 := Scalar.ori v8 v10
  let c1_i32_10 : BitVec 32 := 1#32
  let v13 : BitVec 32 := Scalar.shli c1_i32_10 v12
  let v14 : BitVec 32 := Scalar.ori v11 v13
  let c1_i32_13 : BitVec 32 := 1#32
  let v16 : BitVec 32 := Scalar.shli c1_i32_13 v15
  let v17 : BitVec 32 := Scalar.ori v14 v16
  let c1_i32_15 : BitVec 32 := 1#32
  let v19 : BitVec 32 := Scalar.shli c1_i32_15 v18
  let v20 : BitVec 32 := Scalar.ori v17 v19
  let c1_i32_18 : BitVec 32 := 1#32
  let v22 : BitVec 32 := Scalar.shli c1_i32_18 v21
  let v23 : BitVec 32 := Scalar.ori v20 v22
  let c1_i32_20 : BitVec 32 := 1#32
  let v25 : BitVec 32 := Scalar.shli c1_i32_20 v24
  let v26 : BitVec 32 := Scalar.ori v23 v25
  let c1_i32_23 : BitVec 32 := 1#32
  let v28 : BitVec 32 := Scalar.shli c1_i32_23 v27
  let v29 : BitVec 32 := Scalar.ori v26 v28
  let c1_i32_25 : BitVec 32 := 1#32
  let v31 : BitVec 32 := Scalar.shli c1_i32_25 v30
  let v32 : BitVec 32 := Scalar.ori v29 v31
  let c1_i32_28 : BitVec 32 := 1#32
  let v34 : BitVec 32 := Scalar.shli c1_i32_28 v33
  let v35 : BitVec 32 := Scalar.ori v32 v34
  let c1_i32_30 : BitVec 32 := 1#32
  let v37 : BitVec 32 := Scalar.shli c1_i32_30 v36
  let v38 : BitVec 32 := Scalar.ori v35 v37
  let c1_i32_33 : BitVec 32 := 1#32
  let v40 : BitVec 32 := Scalar.shli c1_i32_33 v39
  let v41 : BitVec 32 := Scalar.ori v38 v40
  let c1_i32_35 : BitVec 32 := 1#32
  let v43 : BitVec 32 := Scalar.shli c1_i32_35 v42
  let v44 : BitVec 32 := Scalar.ori v41 v43
  let c1_i32_38 : BitVec 32 := 1#32
  let v46 : BitVec 32 := Scalar.shli c1_i32_38 v45
  let v47 : BitVec 32 := Scalar.ori v44 v46
  let c1_i32_40 : BitVec 32 := 1#32
  let v49 : BitVec 32 := Scalar.shli c1_i32_40 v48
  let v50 : BitVec 32 := Scalar.ori v47 v49
  let c1_i32_43 : BitVec 32 := 1#32
  let v52 : BitVec 32 := Scalar.shli c1_i32_43 v51
  let v53 : BitVec 32 := Scalar.ori v50 v52
  let c1_i32_45 : BitVec 32 := 1#32
  let v55 : BitVec 32 := Scalar.shli c1_i32_45 v54
  let v56 : BitVec 32 := Scalar.ori v53 v55
  let c1_i32_48 : BitVec 32 := 1#32
  let v58 : BitVec 32 := Scalar.shli c1_i32_48 v57
  let v59 : BitVec 32 := Scalar.ori v56 v58
  let c1_i32_50 : BitVec 32 := 1#32
  let v61 : BitVec 32 := Scalar.shli c1_i32_50 v60
  let v62 : BitVec 32 := Scalar.ori v59 v61
  let c1_i32_53 : BitVec 32 := 1#32
  let v64 : BitVec 32 := Scalar.shli c1_i32_53 v63
  let v65 : BitVec 32 := Scalar.ori v62 v64
  let c1_i32_55 : BitVec 32 := 1#32
  let v67 : BitVec 32 := Scalar.shli c1_i32_55 v66
  let v68 : BitVec 32 := Scalar.ori v65 v67
  let c1_i32_58 : BitVec 32 := 1#32
  let v70 : BitVec 32 := Scalar.shli c1_i32_58 v69
  let v71 : BitVec 32 := Scalar.ori v68 v70
  let c1_i32_60 : BitVec 32 := 1#32
  let v73 : BitVec 32 := Scalar.shli c1_i32_60 v72
  let v74 : BitVec 32 := Scalar.ori v71 v73
  let c1_i32_63 : BitVec 32 := 1#32
  let v76 : BitVec 32 := Scalar.shli c1_i32_63 v75
  let v77 : BitVec 32 := Scalar.ori v74 v76
  let c1_i32_65 : BitVec 32 := 1#32
  let v79 : BitVec 32 := Scalar.shli c1_i32_65 v78
  let v80 : BitVec 32 := Scalar.ori v77 v79
  let c1_i32_68 : BitVec 32 := 1#32
  let v82 : BitVec 32 := Scalar.shli c1_i32_68 v81
  let v83 : BitVec 32 := Scalar.ori v80 v82
  let c1_i32_70 : BitVec 32 := 1#32
  let v85 : BitVec 32 := Scalar.shli c1_i32_70 v84
  let v86 : BitVec 32 := Scalar.ori v83 v85
  let c1_i32_73 : BitVec 32 := 1#32
  let v88 : BitVec 32 := Scalar.shli c1_i32_73 v87
  let v89 : BitVec 32 := Scalar.ori v86 v88
  let c1_i32_75 : BitVec 32 := 1#32
  let v91 : BitVec 32 := Scalar.shli c1_i32_75 v90
  let v92 : BitVec 32 := Scalar.ori v89 v91
  let c1_i32_78 : BitVec 32 := 1#32
  let v94 : BitVec 32 := Scalar.shli c1_i32_78 v93
  let v95 : BitVec 32 := Scalar.ori v92 v94
  let c1_i32_80 : BitVec 32 := 1#32
  let v97 : BitVec 32 := Scalar.shli c1_i32_80 v96
  let v98 : BitVec 32 := Scalar.ori v95 v97
  let c1_i32_83 : BitVec 32 := 1#32
  let v100 : BitVec 32 := Scalar.shli c1_i32_83 v99
  let v101 : BitVec 32 := Scalar.ori v98 v100
  let c1_i32_85 : BitVec 32 := 1#32
  let v103 : BitVec 32 := Scalar.shli c1_i32_85 v102
  let v104 : BitVec 32 := Scalar.ori v101 v103
  let c1_i32_88 : BitVec 32 := 1#32
  let v106 : BitVec 32 := Scalar.shli c1_i32_88 v105
  let v107 : BitVec 32 := Scalar.ori v104 v106
  let c1_i32_90 : BitVec 32 := 1#32
  let v109 : BitVec 32 := Scalar.shli c1_i32_90 v108
  let v110 : BitVec 32 := Scalar.ori v107 v109
  let c1_i32_93 : BitVec 32 := 1#32
  let v112 : BitVec 32 := Scalar.shli c1_i32_93 v111
  let v113 : BitVec 32 := Scalar.ori v110 v112
  let c1_i32_95 : BitVec 32 := 1#32
  let v115 : BitVec 32 := Scalar.shli c1_i32_95 v114
  let v116 : BitVec 32 := Scalar.ori v113 v115
  let c1_i32_98 : BitVec 32 := 1#32
  let v118 : BitVec 32 := Scalar.shli c1_i32_98 v117
  let v119 : BitVec 32 := Scalar.ori v116 v118
  let c1_i32_100 : BitVec 32 := 1#32
  let v121 : BitVec 32 := Scalar.shli c1_i32_100 v120
  let v122 : BitVec 32 := Scalar.ori v119 v121
  let c1_i32_103 : BitVec 32 := 1#32
  let v124 : BitVec 32 := Scalar.shli c1_i32_103 v123
  let v125 : BitVec 32 := Scalar.ori v122 v124
  let c1_i32_105 : BitVec 32 := 1#32
  let v127 : BitVec 32 := Scalar.shli c1_i32_105 v126
  let v128 : BitVec 32 := Scalar.ori v125 v127
  let c1_i32_108 : BitVec 32 := 1#32
  let v130 : BitVec 32 := Scalar.shli c1_i32_108 v129
  let v131 : BitVec 32 := Scalar.ori v128 v130
  let c1_i32_110 : BitVec 32 := 1#32
  let v133 : BitVec 32 := Scalar.shli c1_i32_110 v132
  let v134 : BitVec 32 := Scalar.ori v131 v133
  let c1_i32_113 : BitVec 32 := 1#32
  let v136 : BitVec 32 := Scalar.shli c1_i32_113 v135
  let v137 : BitVec 32 := Scalar.ori v134 v136
  let c1_i32_115 : BitVec 32 := 1#32
  let v139 : BitVec 32 := Scalar.shli c1_i32_115 v138
  let v140 : BitVec 32 := Scalar.ori v137 v139
  let c1_i32_118 : BitVec 32 := 1#32
  let v142 : BitVec 32 := Scalar.shli c1_i32_118 v141
  let v143 : BitVec 32 := Scalar.ori v140 v142
  let c0_i32_121 : BitVec 32 := 0#32
  let v145 : BitVec 32 := Scalar.shrsi v143 c0_i32_121
  let c1_i32_122 : BitVec 32 := 1#32
  let v146 : BitVec 32 := Scalar.andi v145 c1_i32_122
  let v147 : BitVec 32 := Scalar.addi c0_i32_123 v146
  let c1_i32_125 : BitVec 32 := 1#32
  let v150 : BitVec 32 := Scalar.shrsi v143 c1_i32_125
  let c1_i32_126 : BitVec 32 := 1#32
  let v151 : BitVec 32 := Scalar.andi v150 c1_i32_126
  let v152 : BitVec 32 := Scalar.addi v147 v151
  let c2_i32_127 : BitVec 32 := 2#32
  let v155 : BitVec 32 := Scalar.shrsi v143 c2_i32_127
  let c1_i32_128 : BitVec 32 := 1#32
  let v156 : BitVec 32 := Scalar.andi v155 c1_i32_128
  let v157 : BitVec 32 := Scalar.addi v152 v156
  let c3_i32_129 : BitVec 32 := 3#32
  let v160 : BitVec 32 := Scalar.shrsi v143 c3_i32_129
  let c1_i32_130 : BitVec 32 := 1#32
  let v161 : BitVec 32 := Scalar.andi v160 c1_i32_130
  let v162 : BitVec 32 := Scalar.addi v157 v161
  let c4_i32_131 : BitVec 32 := 4#32
  let v165 : BitVec 32 := Scalar.shrsi v143 c4_i32_131
  let c1_i32_132 : BitVec 32 := 1#32
  let v166 : BitVec 32 := Scalar.andi v165 c1_i32_132
  let v167 : BitVec 32 := Scalar.addi v162 v166
  let c5_i32_133 : BitVec 32 := 5#32
  let v170 : BitVec 32 := Scalar.shrsi v143 c5_i32_133
  let c1_i32_134 : BitVec 32 := 1#32
  let v171 : BitVec 32 := Scalar.andi v170 c1_i32_134
  let v172 : BitVec 32 := Scalar.addi v167 v171
  let c6_i32_135 : BitVec 32 := 6#32
  let v175 : BitVec 32 := Scalar.shrsi v143 c6_i32_135
  let c1_i32_136 : BitVec 32 := 1#32
  let v176 : BitVec 32 := Scalar.andi v175 c1_i32_136
  let v177 : BitVec 32 := Scalar.addi v172 v176
  let c7_i32_137 : BitVec 32 := 7#32
  let v180 : BitVec 32 := Scalar.shrsi v143 c7_i32_137
  let c1_i32_138 : BitVec 32 := 1#32
  let v181 : BitVec 32 := Scalar.andi v180 c1_i32_138
  let v182 : BitVec 32 := Scalar.addi v177 v181
  let c8_i32_139 : BitVec 32 := 8#32
  let v185 : BitVec 32 := Scalar.shrsi v143 c8_i32_139
  let c1_i32_140 : BitVec 32 := 1#32
  let v186 : BitVec 32 := Scalar.andi v185 c1_i32_140
  let v187 : BitVec 32 := Scalar.addi v182 v186
  let c9_i32_141 : BitVec 32 := 9#32
  let v190 : BitVec 32 := Scalar.shrsi v143 c9_i32_141
  let c1_i32_142 : BitVec 32 := 1#32
  let v191 : BitVec 32 := Scalar.andi v190 c1_i32_142
  let v192 : BitVec 32 := Scalar.addi v187 v191
  let c10_i32_143 : BitVec 32 := 10#32
  let v195 : BitVec 32 := Scalar.shrsi v143 c10_i32_143
  let c1_i32_144 : BitVec 32 := 1#32
  let v196 : BitVec 32 := Scalar.andi v195 c1_i32_144
  let v197 : BitVec 32 := Scalar.addi v192 v196
  let c11_i32_145 : BitVec 32 := 11#32
  let v200 : BitVec 32 := Scalar.shrsi v143 c11_i32_145
  let c1_i32_146 : BitVec 32 := 1#32
  let v201 : BitVec 32 := Scalar.andi v200 c1_i32_146
  let v202 : BitVec 32 := Scalar.addi v197 v201
  let v203 : Index := Scalar.indexCast v202
  ![v203.toNat]
def k0_off13 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) : Fin 1 → Nat :=
  let c0_i32_123 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_2 : BitVec 32 := 1#32
  let v4 : BitVec 32 := Scalar.shli c1_i32_2 v3
  let v5 : BitVec 32 := Scalar.ori v2 v4
  let c1_i32_5 : BitVec 32 := 1#32
  let v7 : BitVec 32 := Scalar.shli c1_i32_5 v6
  let v8 : BitVec 32 := Scalar.ori v5 v7
  let c1_i32_8 : BitVec 32 := 1#32
  let v10 : BitVec 32 := Scalar.shli c1_i32_8 v9
  let v11 : BitVec 32 := Scalar.ori v8 v10
  let c1_i32_10 : BitVec 32 := 1#32
  let v13 : BitVec 32 := Scalar.shli c1_i32_10 v12
  let v14 : BitVec 32 := Scalar.ori v11 v13
  let c1_i32_13 : BitVec 32 := 1#32
  let v16 : BitVec 32 := Scalar.shli c1_i32_13 v15
  let v17 : BitVec 32 := Scalar.ori v14 v16
  let c1_i32_15 : BitVec 32 := 1#32
  let v19 : BitVec 32 := Scalar.shli c1_i32_15 v18
  let v20 : BitVec 32 := Scalar.ori v17 v19
  let c1_i32_18 : BitVec 32 := 1#32
  let v22 : BitVec 32 := Scalar.shli c1_i32_18 v21
  let v23 : BitVec 32 := Scalar.ori v20 v22
  let c1_i32_20 : BitVec 32 := 1#32
  let v25 : BitVec 32 := Scalar.shli c1_i32_20 v24
  let v26 : BitVec 32 := Scalar.ori v23 v25
  let c1_i32_23 : BitVec 32 := 1#32
  let v28 : BitVec 32 := Scalar.shli c1_i32_23 v27
  let v29 : BitVec 32 := Scalar.ori v26 v28
  let c1_i32_25 : BitVec 32 := 1#32
  let v31 : BitVec 32 := Scalar.shli c1_i32_25 v30
  let v32 : BitVec 32 := Scalar.ori v29 v31
  let c1_i32_28 : BitVec 32 := 1#32
  let v34 : BitVec 32 := Scalar.shli c1_i32_28 v33
  let v35 : BitVec 32 := Scalar.ori v32 v34
  let c1_i32_30 : BitVec 32 := 1#32
  let v37 : BitVec 32 := Scalar.shli c1_i32_30 v36
  let v38 : BitVec 32 := Scalar.ori v35 v37
  let c1_i32_33 : BitVec 32 := 1#32
  let v40 : BitVec 32 := Scalar.shli c1_i32_33 v39
  let v41 : BitVec 32 := Scalar.ori v38 v40
  let c1_i32_35 : BitVec 32 := 1#32
  let v43 : BitVec 32 := Scalar.shli c1_i32_35 v42
  let v44 : BitVec 32 := Scalar.ori v41 v43
  let c1_i32_38 : BitVec 32 := 1#32
  let v46 : BitVec 32 := Scalar.shli c1_i32_38 v45
  let v47 : BitVec 32 := Scalar.ori v44 v46
  let c1_i32_40 : BitVec 32 := 1#32
  let v49 : BitVec 32 := Scalar.shli c1_i32_40 v48
  let v50 : BitVec 32 := Scalar.ori v47 v49
  let c1_i32_43 : BitVec 32 := 1#32
  let v52 : BitVec 32 := Scalar.shli c1_i32_43 v51
  let v53 : BitVec 32 := Scalar.ori v50 v52
  let c1_i32_45 : BitVec 32 := 1#32
  let v55 : BitVec 32 := Scalar.shli c1_i32_45 v54
  let v56 : BitVec 32 := Scalar.ori v53 v55
  let c1_i32_48 : BitVec 32 := 1#32
  let v58 : BitVec 32 := Scalar.shli c1_i32_48 v57
  let v59 : BitVec 32 := Scalar.ori v56 v58
  let c1_i32_50 : BitVec 32 := 1#32
  let v61 : BitVec 32 := Scalar.shli c1_i32_50 v60
  let v62 : BitVec 32 := Scalar.ori v59 v61
  let c1_i32_53 : BitVec 32 := 1#32
  let v64 : BitVec 32 := Scalar.shli c1_i32_53 v63
  let v65 : BitVec 32 := Scalar.ori v62 v64
  let c1_i32_55 : BitVec 32 := 1#32
  let v67 : BitVec 32 := Scalar.shli c1_i32_55 v66
  let v68 : BitVec 32 := Scalar.ori v65 v67
  let c1_i32_58 : BitVec 32 := 1#32
  let v70 : BitVec 32 := Scalar.shli c1_i32_58 v69
  let v71 : BitVec 32 := Scalar.ori v68 v70
  let c1_i32_60 : BitVec 32 := 1#32
  let v73 : BitVec 32 := Scalar.shli c1_i32_60 v72
  let v74 : BitVec 32 := Scalar.ori v71 v73
  let c1_i32_63 : BitVec 32 := 1#32
  let v76 : BitVec 32 := Scalar.shli c1_i32_63 v75
  let v77 : BitVec 32 := Scalar.ori v74 v76
  let c1_i32_65 : BitVec 32 := 1#32
  let v79 : BitVec 32 := Scalar.shli c1_i32_65 v78
  let v80 : BitVec 32 := Scalar.ori v77 v79
  let c1_i32_68 : BitVec 32 := 1#32
  let v82 : BitVec 32 := Scalar.shli c1_i32_68 v81
  let v83 : BitVec 32 := Scalar.ori v80 v82
  let c1_i32_70 : BitVec 32 := 1#32
  let v85 : BitVec 32 := Scalar.shli c1_i32_70 v84
  let v86 : BitVec 32 := Scalar.ori v83 v85
  let c1_i32_73 : BitVec 32 := 1#32
  let v88 : BitVec 32 := Scalar.shli c1_i32_73 v87
  let v89 : BitVec 32 := Scalar.ori v86 v88
  let c1_i32_75 : BitVec 32 := 1#32
  let v91 : BitVec 32 := Scalar.shli c1_i32_75 v90
  let v92 : BitVec 32 := Scalar.ori v89 v91
  let c1_i32_78 : BitVec 32 := 1#32
  let v94 : BitVec 32 := Scalar.shli c1_i32_78 v93
  let v95 : BitVec 32 := Scalar.ori v92 v94
  let c1_i32_80 : BitVec 32 := 1#32
  let v97 : BitVec 32 := Scalar.shli c1_i32_80 v96
  let v98 : BitVec 32 := Scalar.ori v95 v97
  let c1_i32_83 : BitVec 32 := 1#32
  let v100 : BitVec 32 := Scalar.shli c1_i32_83 v99
  let v101 : BitVec 32 := Scalar.ori v98 v100
  let c1_i32_85 : BitVec 32 := 1#32
  let v103 : BitVec 32 := Scalar.shli c1_i32_85 v102
  let v104 : BitVec 32 := Scalar.ori v101 v103
  let c1_i32_88 : BitVec 32 := 1#32
  let v106 : BitVec 32 := Scalar.shli c1_i32_88 v105
  let v107 : BitVec 32 := Scalar.ori v104 v106
  let c1_i32_90 : BitVec 32 := 1#32
  let v109 : BitVec 32 := Scalar.shli c1_i32_90 v108
  let v110 : BitVec 32 := Scalar.ori v107 v109
  let c1_i32_93 : BitVec 32 := 1#32
  let v112 : BitVec 32 := Scalar.shli c1_i32_93 v111
  let v113 : BitVec 32 := Scalar.ori v110 v112
  let c1_i32_95 : BitVec 32 := 1#32
  let v115 : BitVec 32 := Scalar.shli c1_i32_95 v114
  let v116 : BitVec 32 := Scalar.ori v113 v115
  let c1_i32_98 : BitVec 32 := 1#32
  let v118 : BitVec 32 := Scalar.shli c1_i32_98 v117
  let v119 : BitVec 32 := Scalar.ori v116 v118
  let c1_i32_100 : BitVec 32 := 1#32
  let v121 : BitVec 32 := Scalar.shli c1_i32_100 v120
  let v122 : BitVec 32 := Scalar.ori v119 v121
  let c1_i32_103 : BitVec 32 := 1#32
  let v124 : BitVec 32 := Scalar.shli c1_i32_103 v123
  let v125 : BitVec 32 := Scalar.ori v122 v124
  let c1_i32_105 : BitVec 32 := 1#32
  let v127 : BitVec 32 := Scalar.shli c1_i32_105 v126
  let v128 : BitVec 32 := Scalar.ori v125 v127
  let c1_i32_108 : BitVec 32 := 1#32
  let v130 : BitVec 32 := Scalar.shli c1_i32_108 v129
  let v131 : BitVec 32 := Scalar.ori v128 v130
  let c1_i32_110 : BitVec 32 := 1#32
  let v133 : BitVec 32 := Scalar.shli c1_i32_110 v132
  let v134 : BitVec 32 := Scalar.ori v131 v133
  let c1_i32_113 : BitVec 32 := 1#32
  let v136 : BitVec 32 := Scalar.shli c1_i32_113 v135
  let v137 : BitVec 32 := Scalar.ori v134 v136
  let c1_i32_115 : BitVec 32 := 1#32
  let v139 : BitVec 32 := Scalar.shli c1_i32_115 v138
  let v140 : BitVec 32 := Scalar.ori v137 v139
  let c1_i32_118 : BitVec 32 := 1#32
  let v142 : BitVec 32 := Scalar.shli c1_i32_118 v141
  let v143 : BitVec 32 := Scalar.ori v140 v142
  let c0_i32_121 : BitVec 32 := 0#32
  let v145 : BitVec 32 := Scalar.shrsi v143 c0_i32_121
  let c1_i32_122 : BitVec 32 := 1#32
  let v146 : BitVec 32 := Scalar.andi v145 c1_i32_122
  let v147 : BitVec 32 := Scalar.addi c0_i32_123 v146
  let c1_i32_125 : BitVec 32 := 1#32
  let v150 : BitVec 32 := Scalar.shrsi v143 c1_i32_125
  let c1_i32_126 : BitVec 32 := 1#32
  let v151 : BitVec 32 := Scalar.andi v150 c1_i32_126
  let v152 : BitVec 32 := Scalar.addi v147 v151
  let c2_i32_127 : BitVec 32 := 2#32
  let v155 : BitVec 32 := Scalar.shrsi v143 c2_i32_127
  let c1_i32_128 : BitVec 32 := 1#32
  let v156 : BitVec 32 := Scalar.andi v155 c1_i32_128
  let v157 : BitVec 32 := Scalar.addi v152 v156
  let c3_i32_129 : BitVec 32 := 3#32
  let v160 : BitVec 32 := Scalar.shrsi v143 c3_i32_129
  let c1_i32_130 : BitVec 32 := 1#32
  let v161 : BitVec 32 := Scalar.andi v160 c1_i32_130
  let v162 : BitVec 32 := Scalar.addi v157 v161
  let c4_i32_131 : BitVec 32 := 4#32
  let v165 : BitVec 32 := Scalar.shrsi v143 c4_i32_131
  let c1_i32_132 : BitVec 32 := 1#32
  let v166 : BitVec 32 := Scalar.andi v165 c1_i32_132
  let v167 : BitVec 32 := Scalar.addi v162 v166
  let c5_i32_133 : BitVec 32 := 5#32
  let v170 : BitVec 32 := Scalar.shrsi v143 c5_i32_133
  let c1_i32_134 : BitVec 32 := 1#32
  let v171 : BitVec 32 := Scalar.andi v170 c1_i32_134
  let v172 : BitVec 32 := Scalar.addi v167 v171
  let c6_i32_135 : BitVec 32 := 6#32
  let v175 : BitVec 32 := Scalar.shrsi v143 c6_i32_135
  let c1_i32_136 : BitVec 32 := 1#32
  let v176 : BitVec 32 := Scalar.andi v175 c1_i32_136
  let v177 : BitVec 32 := Scalar.addi v172 v176
  let c7_i32_137 : BitVec 32 := 7#32
  let v180 : BitVec 32 := Scalar.shrsi v143 c7_i32_137
  let c1_i32_138 : BitVec 32 := 1#32
  let v181 : BitVec 32 := Scalar.andi v180 c1_i32_138
  let v182 : BitVec 32 := Scalar.addi v177 v181
  let c8_i32_139 : BitVec 32 := 8#32
  let v185 : BitVec 32 := Scalar.shrsi v143 c8_i32_139
  let c1_i32_140 : BitVec 32 := 1#32
  let v186 : BitVec 32 := Scalar.andi v185 c1_i32_140
  let v187 : BitVec 32 := Scalar.addi v182 v186
  let c9_i32_141 : BitVec 32 := 9#32
  let v190 : BitVec 32 := Scalar.shrsi v143 c9_i32_141
  let c1_i32_142 : BitVec 32 := 1#32
  let v191 : BitVec 32 := Scalar.andi v190 c1_i32_142
  let v192 : BitVec 32 := Scalar.addi v187 v191
  let c10_i32_143 : BitVec 32 := 10#32
  let v195 : BitVec 32 := Scalar.shrsi v143 c10_i32_143
  let c1_i32_144 : BitVec 32 := 1#32
  let v196 : BitVec 32 := Scalar.andi v195 c1_i32_144
  let v197 : BitVec 32 := Scalar.addi v192 v196
  let c11_i32_145 : BitVec 32 := 11#32
  let v200 : BitVec 32 := Scalar.shrsi v143 c11_i32_145
  let c1_i32_146 : BitVec 32 := 1#32
  let v201 : BitVec 32 := Scalar.andi v200 c1_i32_146
  let v202 : BitVec 32 := Scalar.addi v197 v201
  let c12_i32_147 : BitVec 32 := 12#32
  let v205 : BitVec 32 := Scalar.shrsi v143 c12_i32_147
  let c1_i32_148 : BitVec 32 := 1#32
  let v206 : BitVec 32 := Scalar.andi v205 c1_i32_148
  let v207 : BitVec 32 := Scalar.addi v202 v206
  let v208 : Index := Scalar.indexCast v207
  ![v208.toNat]
def k0_off14 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) : Fin 1 → Nat :=
  let c0_i32_123 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_2 : BitVec 32 := 1#32
  let v4 : BitVec 32 := Scalar.shli c1_i32_2 v3
  let v5 : BitVec 32 := Scalar.ori v2 v4
  let c1_i32_5 : BitVec 32 := 1#32
  let v7 : BitVec 32 := Scalar.shli c1_i32_5 v6
  let v8 : BitVec 32 := Scalar.ori v5 v7
  let c1_i32_8 : BitVec 32 := 1#32
  let v10 : BitVec 32 := Scalar.shli c1_i32_8 v9
  let v11 : BitVec 32 := Scalar.ori v8 v10
  let c1_i32_10 : BitVec 32 := 1#32
  let v13 : BitVec 32 := Scalar.shli c1_i32_10 v12
  let v14 : BitVec 32 := Scalar.ori v11 v13
  let c1_i32_13 : BitVec 32 := 1#32
  let v16 : BitVec 32 := Scalar.shli c1_i32_13 v15
  let v17 : BitVec 32 := Scalar.ori v14 v16
  let c1_i32_15 : BitVec 32 := 1#32
  let v19 : BitVec 32 := Scalar.shli c1_i32_15 v18
  let v20 : BitVec 32 := Scalar.ori v17 v19
  let c1_i32_18 : BitVec 32 := 1#32
  let v22 : BitVec 32 := Scalar.shli c1_i32_18 v21
  let v23 : BitVec 32 := Scalar.ori v20 v22
  let c1_i32_20 : BitVec 32 := 1#32
  let v25 : BitVec 32 := Scalar.shli c1_i32_20 v24
  let v26 : BitVec 32 := Scalar.ori v23 v25
  let c1_i32_23 : BitVec 32 := 1#32
  let v28 : BitVec 32 := Scalar.shli c1_i32_23 v27
  let v29 : BitVec 32 := Scalar.ori v26 v28
  let c1_i32_25 : BitVec 32 := 1#32
  let v31 : BitVec 32 := Scalar.shli c1_i32_25 v30
  let v32 : BitVec 32 := Scalar.ori v29 v31
  let c1_i32_28 : BitVec 32 := 1#32
  let v34 : BitVec 32 := Scalar.shli c1_i32_28 v33
  let v35 : BitVec 32 := Scalar.ori v32 v34
  let c1_i32_30 : BitVec 32 := 1#32
  let v37 : BitVec 32 := Scalar.shli c1_i32_30 v36
  let v38 : BitVec 32 := Scalar.ori v35 v37
  let c1_i32_33 : BitVec 32 := 1#32
  let v40 : BitVec 32 := Scalar.shli c1_i32_33 v39
  let v41 : BitVec 32 := Scalar.ori v38 v40
  let c1_i32_35 : BitVec 32 := 1#32
  let v43 : BitVec 32 := Scalar.shli c1_i32_35 v42
  let v44 : BitVec 32 := Scalar.ori v41 v43
  let c1_i32_38 : BitVec 32 := 1#32
  let v46 : BitVec 32 := Scalar.shli c1_i32_38 v45
  let v47 : BitVec 32 := Scalar.ori v44 v46
  let c1_i32_40 : BitVec 32 := 1#32
  let v49 : BitVec 32 := Scalar.shli c1_i32_40 v48
  let v50 : BitVec 32 := Scalar.ori v47 v49
  let c1_i32_43 : BitVec 32 := 1#32
  let v52 : BitVec 32 := Scalar.shli c1_i32_43 v51
  let v53 : BitVec 32 := Scalar.ori v50 v52
  let c1_i32_45 : BitVec 32 := 1#32
  let v55 : BitVec 32 := Scalar.shli c1_i32_45 v54
  let v56 : BitVec 32 := Scalar.ori v53 v55
  let c1_i32_48 : BitVec 32 := 1#32
  let v58 : BitVec 32 := Scalar.shli c1_i32_48 v57
  let v59 : BitVec 32 := Scalar.ori v56 v58
  let c1_i32_50 : BitVec 32 := 1#32
  let v61 : BitVec 32 := Scalar.shli c1_i32_50 v60
  let v62 : BitVec 32 := Scalar.ori v59 v61
  let c1_i32_53 : BitVec 32 := 1#32
  let v64 : BitVec 32 := Scalar.shli c1_i32_53 v63
  let v65 : BitVec 32 := Scalar.ori v62 v64
  let c1_i32_55 : BitVec 32 := 1#32
  let v67 : BitVec 32 := Scalar.shli c1_i32_55 v66
  let v68 : BitVec 32 := Scalar.ori v65 v67
  let c1_i32_58 : BitVec 32 := 1#32
  let v70 : BitVec 32 := Scalar.shli c1_i32_58 v69
  let v71 : BitVec 32 := Scalar.ori v68 v70
  let c1_i32_60 : BitVec 32 := 1#32
  let v73 : BitVec 32 := Scalar.shli c1_i32_60 v72
  let v74 : BitVec 32 := Scalar.ori v71 v73
  let c1_i32_63 : BitVec 32 := 1#32
  let v76 : BitVec 32 := Scalar.shli c1_i32_63 v75
  let v77 : BitVec 32 := Scalar.ori v74 v76
  let c1_i32_65 : BitVec 32 := 1#32
  let v79 : BitVec 32 := Scalar.shli c1_i32_65 v78
  let v80 : BitVec 32 := Scalar.ori v77 v79
  let c1_i32_68 : BitVec 32 := 1#32
  let v82 : BitVec 32 := Scalar.shli c1_i32_68 v81
  let v83 : BitVec 32 := Scalar.ori v80 v82
  let c1_i32_70 : BitVec 32 := 1#32
  let v85 : BitVec 32 := Scalar.shli c1_i32_70 v84
  let v86 : BitVec 32 := Scalar.ori v83 v85
  let c1_i32_73 : BitVec 32 := 1#32
  let v88 : BitVec 32 := Scalar.shli c1_i32_73 v87
  let v89 : BitVec 32 := Scalar.ori v86 v88
  let c1_i32_75 : BitVec 32 := 1#32
  let v91 : BitVec 32 := Scalar.shli c1_i32_75 v90
  let v92 : BitVec 32 := Scalar.ori v89 v91
  let c1_i32_78 : BitVec 32 := 1#32
  let v94 : BitVec 32 := Scalar.shli c1_i32_78 v93
  let v95 : BitVec 32 := Scalar.ori v92 v94
  let c1_i32_80 : BitVec 32 := 1#32
  let v97 : BitVec 32 := Scalar.shli c1_i32_80 v96
  let v98 : BitVec 32 := Scalar.ori v95 v97
  let c1_i32_83 : BitVec 32 := 1#32
  let v100 : BitVec 32 := Scalar.shli c1_i32_83 v99
  let v101 : BitVec 32 := Scalar.ori v98 v100
  let c1_i32_85 : BitVec 32 := 1#32
  let v103 : BitVec 32 := Scalar.shli c1_i32_85 v102
  let v104 : BitVec 32 := Scalar.ori v101 v103
  let c1_i32_88 : BitVec 32 := 1#32
  let v106 : BitVec 32 := Scalar.shli c1_i32_88 v105
  let v107 : BitVec 32 := Scalar.ori v104 v106
  let c1_i32_90 : BitVec 32 := 1#32
  let v109 : BitVec 32 := Scalar.shli c1_i32_90 v108
  let v110 : BitVec 32 := Scalar.ori v107 v109
  let c1_i32_93 : BitVec 32 := 1#32
  let v112 : BitVec 32 := Scalar.shli c1_i32_93 v111
  let v113 : BitVec 32 := Scalar.ori v110 v112
  let c1_i32_95 : BitVec 32 := 1#32
  let v115 : BitVec 32 := Scalar.shli c1_i32_95 v114
  let v116 : BitVec 32 := Scalar.ori v113 v115
  let c1_i32_98 : BitVec 32 := 1#32
  let v118 : BitVec 32 := Scalar.shli c1_i32_98 v117
  let v119 : BitVec 32 := Scalar.ori v116 v118
  let c1_i32_100 : BitVec 32 := 1#32
  let v121 : BitVec 32 := Scalar.shli c1_i32_100 v120
  let v122 : BitVec 32 := Scalar.ori v119 v121
  let c1_i32_103 : BitVec 32 := 1#32
  let v124 : BitVec 32 := Scalar.shli c1_i32_103 v123
  let v125 : BitVec 32 := Scalar.ori v122 v124
  let c1_i32_105 : BitVec 32 := 1#32
  let v127 : BitVec 32 := Scalar.shli c1_i32_105 v126
  let v128 : BitVec 32 := Scalar.ori v125 v127
  let c1_i32_108 : BitVec 32 := 1#32
  let v130 : BitVec 32 := Scalar.shli c1_i32_108 v129
  let v131 : BitVec 32 := Scalar.ori v128 v130
  let c1_i32_110 : BitVec 32 := 1#32
  let v133 : BitVec 32 := Scalar.shli c1_i32_110 v132
  let v134 : BitVec 32 := Scalar.ori v131 v133
  let c1_i32_113 : BitVec 32 := 1#32
  let v136 : BitVec 32 := Scalar.shli c1_i32_113 v135
  let v137 : BitVec 32 := Scalar.ori v134 v136
  let c1_i32_115 : BitVec 32 := 1#32
  let v139 : BitVec 32 := Scalar.shli c1_i32_115 v138
  let v140 : BitVec 32 := Scalar.ori v137 v139
  let c1_i32_118 : BitVec 32 := 1#32
  let v142 : BitVec 32 := Scalar.shli c1_i32_118 v141
  let v143 : BitVec 32 := Scalar.ori v140 v142
  let c0_i32_121 : BitVec 32 := 0#32
  let v145 : BitVec 32 := Scalar.shrsi v143 c0_i32_121
  let c1_i32_122 : BitVec 32 := 1#32
  let v146 : BitVec 32 := Scalar.andi v145 c1_i32_122
  let v147 : BitVec 32 := Scalar.addi c0_i32_123 v146
  let c1_i32_125 : BitVec 32 := 1#32
  let v150 : BitVec 32 := Scalar.shrsi v143 c1_i32_125
  let c1_i32_126 : BitVec 32 := 1#32
  let v151 : BitVec 32 := Scalar.andi v150 c1_i32_126
  let v152 : BitVec 32 := Scalar.addi v147 v151
  let c2_i32_127 : BitVec 32 := 2#32
  let v155 : BitVec 32 := Scalar.shrsi v143 c2_i32_127
  let c1_i32_128 : BitVec 32 := 1#32
  let v156 : BitVec 32 := Scalar.andi v155 c1_i32_128
  let v157 : BitVec 32 := Scalar.addi v152 v156
  let c3_i32_129 : BitVec 32 := 3#32
  let v160 : BitVec 32 := Scalar.shrsi v143 c3_i32_129
  let c1_i32_130 : BitVec 32 := 1#32
  let v161 : BitVec 32 := Scalar.andi v160 c1_i32_130
  let v162 : BitVec 32 := Scalar.addi v157 v161
  let c4_i32_131 : BitVec 32 := 4#32
  let v165 : BitVec 32 := Scalar.shrsi v143 c4_i32_131
  let c1_i32_132 : BitVec 32 := 1#32
  let v166 : BitVec 32 := Scalar.andi v165 c1_i32_132
  let v167 : BitVec 32 := Scalar.addi v162 v166
  let c5_i32_133 : BitVec 32 := 5#32
  let v170 : BitVec 32 := Scalar.shrsi v143 c5_i32_133
  let c1_i32_134 : BitVec 32 := 1#32
  let v171 : BitVec 32 := Scalar.andi v170 c1_i32_134
  let v172 : BitVec 32 := Scalar.addi v167 v171
  let c6_i32_135 : BitVec 32 := 6#32
  let v175 : BitVec 32 := Scalar.shrsi v143 c6_i32_135
  let c1_i32_136 : BitVec 32 := 1#32
  let v176 : BitVec 32 := Scalar.andi v175 c1_i32_136
  let v177 : BitVec 32 := Scalar.addi v172 v176
  let c7_i32_137 : BitVec 32 := 7#32
  let v180 : BitVec 32 := Scalar.shrsi v143 c7_i32_137
  let c1_i32_138 : BitVec 32 := 1#32
  let v181 : BitVec 32 := Scalar.andi v180 c1_i32_138
  let v182 : BitVec 32 := Scalar.addi v177 v181
  let c8_i32_139 : BitVec 32 := 8#32
  let v185 : BitVec 32 := Scalar.shrsi v143 c8_i32_139
  let c1_i32_140 : BitVec 32 := 1#32
  let v186 : BitVec 32 := Scalar.andi v185 c1_i32_140
  let v187 : BitVec 32 := Scalar.addi v182 v186
  let c9_i32_141 : BitVec 32 := 9#32
  let v190 : BitVec 32 := Scalar.shrsi v143 c9_i32_141
  let c1_i32_142 : BitVec 32 := 1#32
  let v191 : BitVec 32 := Scalar.andi v190 c1_i32_142
  let v192 : BitVec 32 := Scalar.addi v187 v191
  let c10_i32_143 : BitVec 32 := 10#32
  let v195 : BitVec 32 := Scalar.shrsi v143 c10_i32_143
  let c1_i32_144 : BitVec 32 := 1#32
  let v196 : BitVec 32 := Scalar.andi v195 c1_i32_144
  let v197 : BitVec 32 := Scalar.addi v192 v196
  let c11_i32_145 : BitVec 32 := 11#32
  let v200 : BitVec 32 := Scalar.shrsi v143 c11_i32_145
  let c1_i32_146 : BitVec 32 := 1#32
  let v201 : BitVec 32 := Scalar.andi v200 c1_i32_146
  let v202 : BitVec 32 := Scalar.addi v197 v201
  let c12_i32_147 : BitVec 32 := 12#32
  let v205 : BitVec 32 := Scalar.shrsi v143 c12_i32_147
  let c1_i32_148 : BitVec 32 := 1#32
  let v206 : BitVec 32 := Scalar.andi v205 c1_i32_148
  let v207 : BitVec 32 := Scalar.addi v202 v206
  let c13_i32_149 : BitVec 32 := 13#32
  let v210 : BitVec 32 := Scalar.shrsi v143 c13_i32_149
  let c1_i32_150 : BitVec 32 := 1#32
  let v211 : BitVec 32 := Scalar.andi v210 c1_i32_150
  let v212 : BitVec 32 := Scalar.addi v207 v211
  let v213 : Index := Scalar.indexCast v212
  ![v213.toNat]
def k0_off15 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) : Fin 1 → Nat :=
  let c0_i32_123 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_2 : BitVec 32 := 1#32
  let v4 : BitVec 32 := Scalar.shli c1_i32_2 v3
  let v5 : BitVec 32 := Scalar.ori v2 v4
  let c1_i32_5 : BitVec 32 := 1#32
  let v7 : BitVec 32 := Scalar.shli c1_i32_5 v6
  let v8 : BitVec 32 := Scalar.ori v5 v7
  let c1_i32_8 : BitVec 32 := 1#32
  let v10 : BitVec 32 := Scalar.shli c1_i32_8 v9
  let v11 : BitVec 32 := Scalar.ori v8 v10
  let c1_i32_10 : BitVec 32 := 1#32
  let v13 : BitVec 32 := Scalar.shli c1_i32_10 v12
  let v14 : BitVec 32 := Scalar.ori v11 v13
  let c1_i32_13 : BitVec 32 := 1#32
  let v16 : BitVec 32 := Scalar.shli c1_i32_13 v15
  let v17 : BitVec 32 := Scalar.ori v14 v16
  let c1_i32_15 : BitVec 32 := 1#32
  let v19 : BitVec 32 := Scalar.shli c1_i32_15 v18
  let v20 : BitVec 32 := Scalar.ori v17 v19
  let c1_i32_18 : BitVec 32 := 1#32
  let v22 : BitVec 32 := Scalar.shli c1_i32_18 v21
  let v23 : BitVec 32 := Scalar.ori v20 v22
  let c1_i32_20 : BitVec 32 := 1#32
  let v25 : BitVec 32 := Scalar.shli c1_i32_20 v24
  let v26 : BitVec 32 := Scalar.ori v23 v25
  let c1_i32_23 : BitVec 32 := 1#32
  let v28 : BitVec 32 := Scalar.shli c1_i32_23 v27
  let v29 : BitVec 32 := Scalar.ori v26 v28
  let c1_i32_25 : BitVec 32 := 1#32
  let v31 : BitVec 32 := Scalar.shli c1_i32_25 v30
  let v32 : BitVec 32 := Scalar.ori v29 v31
  let c1_i32_28 : BitVec 32 := 1#32
  let v34 : BitVec 32 := Scalar.shli c1_i32_28 v33
  let v35 : BitVec 32 := Scalar.ori v32 v34
  let c1_i32_30 : BitVec 32 := 1#32
  let v37 : BitVec 32 := Scalar.shli c1_i32_30 v36
  let v38 : BitVec 32 := Scalar.ori v35 v37
  let c1_i32_33 : BitVec 32 := 1#32
  let v40 : BitVec 32 := Scalar.shli c1_i32_33 v39
  let v41 : BitVec 32 := Scalar.ori v38 v40
  let c1_i32_35 : BitVec 32 := 1#32
  let v43 : BitVec 32 := Scalar.shli c1_i32_35 v42
  let v44 : BitVec 32 := Scalar.ori v41 v43
  let c1_i32_38 : BitVec 32 := 1#32
  let v46 : BitVec 32 := Scalar.shli c1_i32_38 v45
  let v47 : BitVec 32 := Scalar.ori v44 v46
  let c1_i32_40 : BitVec 32 := 1#32
  let v49 : BitVec 32 := Scalar.shli c1_i32_40 v48
  let v50 : BitVec 32 := Scalar.ori v47 v49
  let c1_i32_43 : BitVec 32 := 1#32
  let v52 : BitVec 32 := Scalar.shli c1_i32_43 v51
  let v53 : BitVec 32 := Scalar.ori v50 v52
  let c1_i32_45 : BitVec 32 := 1#32
  let v55 : BitVec 32 := Scalar.shli c1_i32_45 v54
  let v56 : BitVec 32 := Scalar.ori v53 v55
  let c1_i32_48 : BitVec 32 := 1#32
  let v58 : BitVec 32 := Scalar.shli c1_i32_48 v57
  let v59 : BitVec 32 := Scalar.ori v56 v58
  let c1_i32_50 : BitVec 32 := 1#32
  let v61 : BitVec 32 := Scalar.shli c1_i32_50 v60
  let v62 : BitVec 32 := Scalar.ori v59 v61
  let c1_i32_53 : BitVec 32 := 1#32
  let v64 : BitVec 32 := Scalar.shli c1_i32_53 v63
  let v65 : BitVec 32 := Scalar.ori v62 v64
  let c1_i32_55 : BitVec 32 := 1#32
  let v67 : BitVec 32 := Scalar.shli c1_i32_55 v66
  let v68 : BitVec 32 := Scalar.ori v65 v67
  let c1_i32_58 : BitVec 32 := 1#32
  let v70 : BitVec 32 := Scalar.shli c1_i32_58 v69
  let v71 : BitVec 32 := Scalar.ori v68 v70
  let c1_i32_60 : BitVec 32 := 1#32
  let v73 : BitVec 32 := Scalar.shli c1_i32_60 v72
  let v74 : BitVec 32 := Scalar.ori v71 v73
  let c1_i32_63 : BitVec 32 := 1#32
  let v76 : BitVec 32 := Scalar.shli c1_i32_63 v75
  let v77 : BitVec 32 := Scalar.ori v74 v76
  let c1_i32_65 : BitVec 32 := 1#32
  let v79 : BitVec 32 := Scalar.shli c1_i32_65 v78
  let v80 : BitVec 32 := Scalar.ori v77 v79
  let c1_i32_68 : BitVec 32 := 1#32
  let v82 : BitVec 32 := Scalar.shli c1_i32_68 v81
  let v83 : BitVec 32 := Scalar.ori v80 v82
  let c1_i32_70 : BitVec 32 := 1#32
  let v85 : BitVec 32 := Scalar.shli c1_i32_70 v84
  let v86 : BitVec 32 := Scalar.ori v83 v85
  let c1_i32_73 : BitVec 32 := 1#32
  let v88 : BitVec 32 := Scalar.shli c1_i32_73 v87
  let v89 : BitVec 32 := Scalar.ori v86 v88
  let c1_i32_75 : BitVec 32 := 1#32
  let v91 : BitVec 32 := Scalar.shli c1_i32_75 v90
  let v92 : BitVec 32 := Scalar.ori v89 v91
  let c1_i32_78 : BitVec 32 := 1#32
  let v94 : BitVec 32 := Scalar.shli c1_i32_78 v93
  let v95 : BitVec 32 := Scalar.ori v92 v94
  let c1_i32_80 : BitVec 32 := 1#32
  let v97 : BitVec 32 := Scalar.shli c1_i32_80 v96
  let v98 : BitVec 32 := Scalar.ori v95 v97
  let c1_i32_83 : BitVec 32 := 1#32
  let v100 : BitVec 32 := Scalar.shli c1_i32_83 v99
  let v101 : BitVec 32 := Scalar.ori v98 v100
  let c1_i32_85 : BitVec 32 := 1#32
  let v103 : BitVec 32 := Scalar.shli c1_i32_85 v102
  let v104 : BitVec 32 := Scalar.ori v101 v103
  let c1_i32_88 : BitVec 32 := 1#32
  let v106 : BitVec 32 := Scalar.shli c1_i32_88 v105
  let v107 : BitVec 32 := Scalar.ori v104 v106
  let c1_i32_90 : BitVec 32 := 1#32
  let v109 : BitVec 32 := Scalar.shli c1_i32_90 v108
  let v110 : BitVec 32 := Scalar.ori v107 v109
  let c1_i32_93 : BitVec 32 := 1#32
  let v112 : BitVec 32 := Scalar.shli c1_i32_93 v111
  let v113 : BitVec 32 := Scalar.ori v110 v112
  let c1_i32_95 : BitVec 32 := 1#32
  let v115 : BitVec 32 := Scalar.shli c1_i32_95 v114
  let v116 : BitVec 32 := Scalar.ori v113 v115
  let c1_i32_98 : BitVec 32 := 1#32
  let v118 : BitVec 32 := Scalar.shli c1_i32_98 v117
  let v119 : BitVec 32 := Scalar.ori v116 v118
  let c1_i32_100 : BitVec 32 := 1#32
  let v121 : BitVec 32 := Scalar.shli c1_i32_100 v120
  let v122 : BitVec 32 := Scalar.ori v119 v121
  let c1_i32_103 : BitVec 32 := 1#32
  let v124 : BitVec 32 := Scalar.shli c1_i32_103 v123
  let v125 : BitVec 32 := Scalar.ori v122 v124
  let c1_i32_105 : BitVec 32 := 1#32
  let v127 : BitVec 32 := Scalar.shli c1_i32_105 v126
  let v128 : BitVec 32 := Scalar.ori v125 v127
  let c1_i32_108 : BitVec 32 := 1#32
  let v130 : BitVec 32 := Scalar.shli c1_i32_108 v129
  let v131 : BitVec 32 := Scalar.ori v128 v130
  let c1_i32_110 : BitVec 32 := 1#32
  let v133 : BitVec 32 := Scalar.shli c1_i32_110 v132
  let v134 : BitVec 32 := Scalar.ori v131 v133
  let c1_i32_113 : BitVec 32 := 1#32
  let v136 : BitVec 32 := Scalar.shli c1_i32_113 v135
  let v137 : BitVec 32 := Scalar.ori v134 v136
  let c1_i32_115 : BitVec 32 := 1#32
  let v139 : BitVec 32 := Scalar.shli c1_i32_115 v138
  let v140 : BitVec 32 := Scalar.ori v137 v139
  let c1_i32_118 : BitVec 32 := 1#32
  let v142 : BitVec 32 := Scalar.shli c1_i32_118 v141
  let v143 : BitVec 32 := Scalar.ori v140 v142
  let c0_i32_121 : BitVec 32 := 0#32
  let v145 : BitVec 32 := Scalar.shrsi v143 c0_i32_121
  let c1_i32_122 : BitVec 32 := 1#32
  let v146 : BitVec 32 := Scalar.andi v145 c1_i32_122
  let v147 : BitVec 32 := Scalar.addi c0_i32_123 v146
  let c1_i32_125 : BitVec 32 := 1#32
  let v150 : BitVec 32 := Scalar.shrsi v143 c1_i32_125
  let c1_i32_126 : BitVec 32 := 1#32
  let v151 : BitVec 32 := Scalar.andi v150 c1_i32_126
  let v152 : BitVec 32 := Scalar.addi v147 v151
  let c2_i32_127 : BitVec 32 := 2#32
  let v155 : BitVec 32 := Scalar.shrsi v143 c2_i32_127
  let c1_i32_128 : BitVec 32 := 1#32
  let v156 : BitVec 32 := Scalar.andi v155 c1_i32_128
  let v157 : BitVec 32 := Scalar.addi v152 v156
  let c3_i32_129 : BitVec 32 := 3#32
  let v160 : BitVec 32 := Scalar.shrsi v143 c3_i32_129
  let c1_i32_130 : BitVec 32 := 1#32
  let v161 : BitVec 32 := Scalar.andi v160 c1_i32_130
  let v162 : BitVec 32 := Scalar.addi v157 v161
  let c4_i32_131 : BitVec 32 := 4#32
  let v165 : BitVec 32 := Scalar.shrsi v143 c4_i32_131
  let c1_i32_132 : BitVec 32 := 1#32
  let v166 : BitVec 32 := Scalar.andi v165 c1_i32_132
  let v167 : BitVec 32 := Scalar.addi v162 v166
  let c5_i32_133 : BitVec 32 := 5#32
  let v170 : BitVec 32 := Scalar.shrsi v143 c5_i32_133
  let c1_i32_134 : BitVec 32 := 1#32
  let v171 : BitVec 32 := Scalar.andi v170 c1_i32_134
  let v172 : BitVec 32 := Scalar.addi v167 v171
  let c6_i32_135 : BitVec 32 := 6#32
  let v175 : BitVec 32 := Scalar.shrsi v143 c6_i32_135
  let c1_i32_136 : BitVec 32 := 1#32
  let v176 : BitVec 32 := Scalar.andi v175 c1_i32_136
  let v177 : BitVec 32 := Scalar.addi v172 v176
  let c7_i32_137 : BitVec 32 := 7#32
  let v180 : BitVec 32 := Scalar.shrsi v143 c7_i32_137
  let c1_i32_138 : BitVec 32 := 1#32
  let v181 : BitVec 32 := Scalar.andi v180 c1_i32_138
  let v182 : BitVec 32 := Scalar.addi v177 v181
  let c8_i32_139 : BitVec 32 := 8#32
  let v185 : BitVec 32 := Scalar.shrsi v143 c8_i32_139
  let c1_i32_140 : BitVec 32 := 1#32
  let v186 : BitVec 32 := Scalar.andi v185 c1_i32_140
  let v187 : BitVec 32 := Scalar.addi v182 v186
  let c9_i32_141 : BitVec 32 := 9#32
  let v190 : BitVec 32 := Scalar.shrsi v143 c9_i32_141
  let c1_i32_142 : BitVec 32 := 1#32
  let v191 : BitVec 32 := Scalar.andi v190 c1_i32_142
  let v192 : BitVec 32 := Scalar.addi v187 v191
  let c10_i32_143 : BitVec 32 := 10#32
  let v195 : BitVec 32 := Scalar.shrsi v143 c10_i32_143
  let c1_i32_144 : BitVec 32 := 1#32
  let v196 : BitVec 32 := Scalar.andi v195 c1_i32_144
  let v197 : BitVec 32 := Scalar.addi v192 v196
  let c11_i32_145 : BitVec 32 := 11#32
  let v200 : BitVec 32 := Scalar.shrsi v143 c11_i32_145
  let c1_i32_146 : BitVec 32 := 1#32
  let v201 : BitVec 32 := Scalar.andi v200 c1_i32_146
  let v202 : BitVec 32 := Scalar.addi v197 v201
  let c12_i32_147 : BitVec 32 := 12#32
  let v205 : BitVec 32 := Scalar.shrsi v143 c12_i32_147
  let c1_i32_148 : BitVec 32 := 1#32
  let v206 : BitVec 32 := Scalar.andi v205 c1_i32_148
  let v207 : BitVec 32 := Scalar.addi v202 v206
  let c13_i32_149 : BitVec 32 := 13#32
  let v210 : BitVec 32 := Scalar.shrsi v143 c13_i32_149
  let c1_i32_150 : BitVec 32 := 1#32
  let v211 : BitVec 32 := Scalar.andi v210 c1_i32_150
  let v212 : BitVec 32 := Scalar.addi v207 v211
  let c14_i32_151 : BitVec 32 := 14#32
  let v215 : BitVec 32 := Scalar.shrsi v143 c14_i32_151
  let c1_i32_152 : BitVec 32 := 1#32
  let v216 : BitVec 32 := Scalar.andi v215 c1_i32_152
  let v217 : BitVec 32 := Scalar.addi v212 v216
  let v218 : Index := Scalar.indexCast v217
  ![v218.toNat]
def k0_off16 (v223 : BitVec 32) : Fin 3 → Nat :=
  let c0_i32_161 : BitVec 32 := 0#32
  let c0_i32_162 : BitVec 32 := 0#32
  ![v223.toNat, 0, 0]

def k0_off17 (v223 : BitVec 32) : Fin 3 → Nat :=
  let c0_i32_168 : BitVec 32 := 0#32
  let c0_i32_169 : BitVec 32 := 0#32
  ![v223.toNat, 0, 0]
def k0_off18 (v223 : BitVec 32) : Fin 3 → Nat :=
  let c2048_i32_174 : BitVec 32 := 2048#32
  let c0_i32_175 : BitVec 32 := 0#32
  ![v223.toNat, 2048, 0]

def k0_chk2 (v223 : BitVec 32) : Prop :=
  (∀ a, (k0_off16 v223) a + S1x16x4096.size a ≤ S16x16x4096.size a) ∧
  (∀ (hinb : ∀ a, (k0_off16 v223) a + S1x16x4096.size a ≤ S16x16x4096.size a), (Rect.unit (s := S16x16x4096) (k0_off16 v223) S1x16x4096.size hinb).WholeWords (EltTy.packing .bf16)) ∧
  (∀ a, (k0_off17 v223) a + S1x1024x1024.size a ≤ S16x4096x1024.size a) ∧
  (∀ (hinb : ∀ a, (k0_off17 v223) a + S1x1024x1024.size a ≤ S16x4096x1024.size a), (Rect.unit (s := S16x4096x1024) (k0_off17 v223) S1x1024x1024.size hinb).WholeWords (EltTy.packing .i8)) ∧
  (∀ a, (k0_off18 v223) a + S1x1024x1024.size a ≤ S16x4096x1024.size a) ∧
  (∀ (hinb : ∀ a, (k0_off18 v223) a + S1x1024x1024.size a ≤ S16x4096x1024.size a), (Rect.unit (s := S16x4096x1024) (k0_off18 v223) S1x1024x1024.size hinb).WholeWords (EltTy.packing .i8))
theorem k0_off16_inb : ∀ (v223 : BitVec 32) (k0_hw2 : k0_chk2 v223), ∀ a, (k0_off16 v223) a + S1x16x4096.size a ≤ S16x16x4096.size a := fun v223 k0_hw2 => k0_hw2.1
theorem k0_off16_wordsbf16 : ∀ (v223 : BitVec 32) (k0_hw2 : k0_chk2 v223), (Rect.unit (s := S16x16x4096) (k0_off16 v223) S1x16x4096.size (k0_off16_inb v223 k0_hw2)).WholeWords (EltTy.packing .bf16) := fun v223 k0_hw2 => k0_hw2.2.1 (k0_off16_inb v223 k0_hw2)
theorem k0_off17_inb : ∀ (v223 : BitVec 32) (k0_hw2 : k0_chk2 v223), ∀ a, (k0_off17 v223) a + S1x1024x1024.size a ≤ S16x4096x1024.size a := fun v223 k0_hw2 => k0_hw2.2.2.1
theorem k0_off17_wordsi8 : ∀ (v223 : BitVec 32) (k0_hw2 : k0_chk2 v223), (Rect.unit (s := S16x4096x1024) (k0_off17 v223) S1x1024x1024.size (k0_off17_inb v223 k0_hw2)).WholeWords (EltTy.packing .i8) := fun v223 k0_hw2 => k0_hw2.2.2.2.1 (k0_off17_inb v223 k0_hw2)
theorem k0_off18_inb : ∀ (v223 : BitVec 32) (k0_hw2 : k0_chk2 v223), ∀ a, (k0_off18 v223) a + S1x1024x1024.size a ≤ S16x4096x1024.size a := fun v223 k0_hw2 => k0_hw2.2.2.2.2.1
theorem k0_off18_wordsi8 : ∀ (v223 : BitVec 32) (k0_hw2 : k0_chk2 v223), (Rect.unit (s := S16x4096x1024) (k0_off18 v223) S1x1024x1024.size (k0_off18_inb v223 k0_hw2)).WholeWords (EltTy.packing .i8) := fun v223 k0_hw2 => k0_hw2.2.2.2.2.2 (k0_off18_inb v223 k0_hw2)

def k0_off19 (v242 : BitVec 32) : Fin 3 → Nat :=
  let c1024_i32_181 : BitVec 32 := 1024#32
  let c0_i32_182 : BitVec 32 := 0#32
  ![v242.toNat, 1024, 0]

def k0_off20 (v242 : BitVec 32) : Fin 3 → Nat :=
  let c3072_i32_187 : BitVec 32 := 3072#32
  let c0_i32_188 : BitVec 32 := 0#32
  ![v242.toNat, 3072, 0]

def k0_chk3 (v242 : BitVec 32) : Prop :=
  (∀ a, (k0_off19 v242) a + S1x1024x1024.size a ≤ S16x4096x1024.size a) ∧
  (∀ (hinb : ∀ a, (k0_off19 v242) a + S1x1024x1024.size a ≤ S16x4096x1024.size a), (Rect.unit (s := S16x4096x1024) (k0_off19 v242) S1x1024x1024.size hinb).WholeWords (EltTy.packing .i8)) ∧
  (∀ a, (k0_off20 v242) a + S1x1024x1024.size a ≤ S16x4096x1024.size a) ∧
  (∀ (hinb : ∀ a, (k0_off20 v242) a + S1x1024x1024.size a ≤ S16x4096x1024.size a), (Rect.unit (s := S16x4096x1024) (k0_off20 v242) S1x1024x1024.size hinb).WholeWords (EltTy.packing .i8))
theorem k0_off19_inb : ∀ (v242 : BitVec 32) (k0_hw3 : k0_chk3 v242), ∀ a, (k0_off19 v242) a + S1x1024x1024.size a ≤ S16x4096x1024.size a := fun v242 k0_hw3 => k0_hw3.1
theorem k0_off19_wordsi8 : ∀ (v242 : BitVec 32) (k0_hw3 : k0_chk3 v242), (Rect.unit (s := S16x4096x1024) (k0_off19 v242) S1x1024x1024.size (k0_off19_inb v242 k0_hw3)).WholeWords (EltTy.packing .i8) := fun v242 k0_hw3 => k0_hw3.2.1 (k0_off19_inb v242 k0_hw3)
theorem k0_off20_inb : ∀ (v242 : BitVec 32) (k0_hw3 : k0_chk3 v242), ∀ a, (k0_off20 v242) a + S1x1024x1024.size a ≤ S16x4096x1024.size a := fun v242 k0_hw3 => k0_hw3.2.2.1
theorem k0_off20_wordsi8 : ∀ (v242 : BitVec 32) (k0_hw3 : k0_chk3 v242), (Rect.unit (s := S16x4096x1024) (k0_off20 v242) S1x1024x1024.size (k0_off20_inb v242 k0_hw3)).WholeWords (EltTy.packing .i8) := fun v242 k0_hw3 => k0_hw3.2.2.2 (k0_off20_inb v242 k0_hw3)

def k0_off21 (v255 : BitVec 32) : Fin 3 → Nat :=
  let c0_i32_195 : BitVec 32 := 0#32
  let c0_i32_196 : BitVec 32 := 0#32
  ![v255.toNat, 0, 0]

def k0_off22 (v255 : BitVec 32) : Fin 3 → Nat :=
  let c0_i32_202 : BitVec 32 := 0#32
  let c0_i32_203 : BitVec 32 := 0#32
  ![v255.toNat, 0, 0]

def k0_chk4 (v255 : BitVec 32) : Prop :=
  (∀ a, (k0_off21 v255) a + S1x16x2048.size a ≤ S16x16x2048.size a) ∧
  (∀ (hinb : ∀ a, (k0_off21 v255) a + S1x16x2048.size a ≤ S16x16x2048.size a), (Rect.unit (s := S16x16x2048) (k0_off21 v255) S1x16x2048.size hinb).WholeWords (EltTy.packing .bf16)) ∧
  (∀ a, (k0_off22 v255) a + S1x2048x1024.size a ≤ S16x2048x1024.size a) ∧
  (∀ (hinb : ∀ a, (k0_off22 v255) a + S1x2048x1024.size a ≤ S16x2048x1024.size a), (Rect.unit (s := S16x2048x1024) (k0_off22 v255) S1x2048x1024.size hinb).WholeWords (EltTy.packing .i8))
theorem k0_off21_inb : ∀ (v255 : BitVec 32) (k0_hw4 : k0_chk4 v255), ∀ a, (k0_off21 v255) a + S1x16x2048.size a ≤ S16x16x2048.size a := fun v255 k0_hw4 => k0_hw4.1
theorem k0_off21_wordsbf16 : ∀ (v255 : BitVec 32) (k0_hw4 : k0_chk4 v255), (Rect.unit (s := S16x16x2048) (k0_off21 v255) S1x16x2048.size (k0_off21_inb v255 k0_hw4)).WholeWords (EltTy.packing .bf16) := fun v255 k0_hw4 => k0_hw4.2.1 (k0_off21_inb v255 k0_hw4)
theorem k0_off22_inb : ∀ (v255 : BitVec 32) (k0_hw4 : k0_chk4 v255), ∀ a, (k0_off22 v255) a + S1x2048x1024.size a ≤ S16x2048x1024.size a := fun v255 k0_hw4 => k0_hw4.2.2.1
theorem k0_off22_wordsi8 : ∀ (v255 : BitVec 32) (k0_hw4 : k0_chk4 v255), (Rect.unit (s := S16x2048x1024) (k0_off22 v255) S1x2048x1024.size (k0_off22_inb v255 k0_hw4)).WholeWords (EltTy.packing .i8) := fun v255 k0_hw4 => k0_hw4.2.2.2 (k0_off22_inb v255 k0_hw4)

@[reducible] def k0_t1_loop (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) : Scf.Loop 32 :=
  let c0_i32_207 : BitVec 32 := 0#32
  let c0_i32_123 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_2 : BitVec 32 := 1#32
  let v4 : BitVec 32 := Scalar.shli c1_i32_2 v3
  let v5 : BitVec 32 := Scalar.ori v2 v4
  let c1_i32_5 : BitVec 32 := 1#32
  let v7 : BitVec 32 := Scalar.shli c1_i32_5 v6
  let v8 : BitVec 32 := Scalar.ori v5 v7
  let c1_i32_8 : BitVec 32 := 1#32
  let v10 : BitVec 32 := Scalar.shli c1_i32_8 v9
  let v11 : BitVec 32 := Scalar.ori v8 v10
  let c1_i32_10 : BitVec 32 := 1#32
  let v13 : BitVec 32 := Scalar.shli c1_i32_10 v12
  let v14 : BitVec 32 := Scalar.ori v11 v13
  let c1_i32_13 : BitVec 32 := 1#32
  let v16 : BitVec 32 := Scalar.shli c1_i32_13 v15
  let v17 : BitVec 32 := Scalar.ori v14 v16
  let c1_i32_15 : BitVec 32 := 1#32
  let v19 : BitVec 32 := Scalar.shli c1_i32_15 v18
  let v20 : BitVec 32 := Scalar.ori v17 v19
  let c1_i32_18 : BitVec 32 := 1#32
  let v22 : BitVec 32 := Scalar.shli c1_i32_18 v21
  let v23 : BitVec 32 := Scalar.ori v20 v22
  let c1_i32_20 : BitVec 32 := 1#32
  let v25 : BitVec 32 := Scalar.shli c1_i32_20 v24
  let v26 : BitVec 32 := Scalar.ori v23 v25
  let c1_i32_23 : BitVec 32 := 1#32
  let v28 : BitVec 32 := Scalar.shli c1_i32_23 v27
  let v29 : BitVec 32 := Scalar.ori v26 v28
  let c1_i32_25 : BitVec 32 := 1#32
  let v31 : BitVec 32 := Scalar.shli c1_i32_25 v30
  let v32 : BitVec 32 := Scalar.ori v29 v31
  let c1_i32_28 : BitVec 32 := 1#32
  let v34 : BitVec 32 := Scalar.shli c1_i32_28 v33
  let v35 : BitVec 32 := Scalar.ori v32 v34
  let c1_i32_30 : BitVec 32 := 1#32
  let v37 : BitVec 32 := Scalar.shli c1_i32_30 v36
  let v38 : BitVec 32 := Scalar.ori v35 v37
  let c1_i32_33 : BitVec 32 := 1#32
  let v40 : BitVec 32 := Scalar.shli c1_i32_33 v39
  let v41 : BitVec 32 := Scalar.ori v38 v40
  let c1_i32_35 : BitVec 32 := 1#32
  let v43 : BitVec 32 := Scalar.shli c1_i32_35 v42
  let v44 : BitVec 32 := Scalar.ori v41 v43
  let c1_i32_38 : BitVec 32 := 1#32
  let v46 : BitVec 32 := Scalar.shli c1_i32_38 v45
  let v47 : BitVec 32 := Scalar.ori v44 v46
  let c1_i32_40 : BitVec 32 := 1#32
  let v49 : BitVec 32 := Scalar.shli c1_i32_40 v48
  let v50 : BitVec 32 := Scalar.ori v47 v49
  let c1_i32_43 : BitVec 32 := 1#32
  let v52 : BitVec 32 := Scalar.shli c1_i32_43 v51
  let v53 : BitVec 32 := Scalar.ori v50 v52
  let c1_i32_45 : BitVec 32 := 1#32
  let v55 : BitVec 32 := Scalar.shli c1_i32_45 v54
  let v56 : BitVec 32 := Scalar.ori v53 v55
  let c1_i32_48 : BitVec 32 := 1#32
  let v58 : BitVec 32 := Scalar.shli c1_i32_48 v57
  let v59 : BitVec 32 := Scalar.ori v56 v58
  let c1_i32_50 : BitVec 32 := 1#32
  let v61 : BitVec 32 := Scalar.shli c1_i32_50 v60
  let v62 : BitVec 32 := Scalar.ori v59 v61
  let c1_i32_53 : BitVec 32 := 1#32
  let v64 : BitVec 32 := Scalar.shli c1_i32_53 v63
  let v65 : BitVec 32 := Scalar.ori v62 v64
  let c1_i32_55 : BitVec 32 := 1#32
  let v67 : BitVec 32 := Scalar.shli c1_i32_55 v66
  let v68 : BitVec 32 := Scalar.ori v65 v67
  let c1_i32_58 : BitVec 32 := 1#32
  let v70 : BitVec 32 := Scalar.shli c1_i32_58 v69
  let v71 : BitVec 32 := Scalar.ori v68 v70
  let c1_i32_60 : BitVec 32 := 1#32
  let v73 : BitVec 32 := Scalar.shli c1_i32_60 v72
  let v74 : BitVec 32 := Scalar.ori v71 v73
  let c1_i32_63 : BitVec 32 := 1#32
  let v76 : BitVec 32 := Scalar.shli c1_i32_63 v75
  let v77 : BitVec 32 := Scalar.ori v74 v76
  let c1_i32_65 : BitVec 32 := 1#32
  let v79 : BitVec 32 := Scalar.shli c1_i32_65 v78
  let v80 : BitVec 32 := Scalar.ori v77 v79
  let c1_i32_68 : BitVec 32 := 1#32
  let v82 : BitVec 32 := Scalar.shli c1_i32_68 v81
  let v83 : BitVec 32 := Scalar.ori v80 v82
  let c1_i32_70 : BitVec 32 := 1#32
  let v85 : BitVec 32 := Scalar.shli c1_i32_70 v84
  let v86 : BitVec 32 := Scalar.ori v83 v85
  let c1_i32_73 : BitVec 32 := 1#32
  let v88 : BitVec 32 := Scalar.shli c1_i32_73 v87
  let v89 : BitVec 32 := Scalar.ori v86 v88
  let c1_i32_75 : BitVec 32 := 1#32
  let v91 : BitVec 32 := Scalar.shli c1_i32_75 v90
  let v92 : BitVec 32 := Scalar.ori v89 v91
  let c1_i32_78 : BitVec 32 := 1#32
  let v94 : BitVec 32 := Scalar.shli c1_i32_78 v93
  let v95 : BitVec 32 := Scalar.ori v92 v94
  let c1_i32_80 : BitVec 32 := 1#32
  let v97 : BitVec 32 := Scalar.shli c1_i32_80 v96
  let v98 : BitVec 32 := Scalar.ori v95 v97
  let c1_i32_83 : BitVec 32 := 1#32
  let v100 : BitVec 32 := Scalar.shli c1_i32_83 v99
  let v101 : BitVec 32 := Scalar.ori v98 v100
  let c1_i32_85 : BitVec 32 := 1#32
  let v103 : BitVec 32 := Scalar.shli c1_i32_85 v102
  let v104 : BitVec 32 := Scalar.ori v101 v103
  let c1_i32_88 : BitVec 32 := 1#32
  let v106 : BitVec 32 := Scalar.shli c1_i32_88 v105
  let v107 : BitVec 32 := Scalar.ori v104 v106
  let c1_i32_90 : BitVec 32 := 1#32
  let v109 : BitVec 32 := Scalar.shli c1_i32_90 v108
  let v110 : BitVec 32 := Scalar.ori v107 v109
  let c1_i32_93 : BitVec 32 := 1#32
  let v112 : BitVec 32 := Scalar.shli c1_i32_93 v111
  let v113 : BitVec 32 := Scalar.ori v110 v112
  let c1_i32_95 : BitVec 32 := 1#32
  let v115 : BitVec 32 := Scalar.shli c1_i32_95 v114
  let v116 : BitVec 32 := Scalar.ori v113 v115
  let c1_i32_98 : BitVec 32 := 1#32
  let v118 : BitVec 32 := Scalar.shli c1_i32_98 v117
  let v119 : BitVec 32 := Scalar.ori v116 v118
  let c1_i32_100 : BitVec 32 := 1#32
  let v121 : BitVec 32 := Scalar.shli c1_i32_100 v120
  let v122 : BitVec 32 := Scalar.ori v119 v121
  let c1_i32_103 : BitVec 32 := 1#32
  let v124 : BitVec 32 := Scalar.shli c1_i32_103 v123
  let v125 : BitVec 32 := Scalar.ori v122 v124
  let c1_i32_105 : BitVec 32 := 1#32
  let v127 : BitVec 32 := Scalar.shli c1_i32_105 v126
  let v128 : BitVec 32 := Scalar.ori v125 v127
  let c1_i32_108 : BitVec 32 := 1#32
  let v130 : BitVec 32 := Scalar.shli c1_i32_108 v129
  let v131 : BitVec 32 := Scalar.ori v128 v130
  let c1_i32_110 : BitVec 32 := 1#32
  let v133 : BitVec 32 := Scalar.shli c1_i32_110 v132
  let v134 : BitVec 32 := Scalar.ori v131 v133
  let c1_i32_113 : BitVec 32 := 1#32
  let v136 : BitVec 32 := Scalar.shli c1_i32_113 v135
  let v137 : BitVec 32 := Scalar.ori v134 v136
  let c1_i32_115 : BitVec 32 := 1#32
  let v139 : BitVec 32 := Scalar.shli c1_i32_115 v138
  let v140 : BitVec 32 := Scalar.ori v137 v139
  let c1_i32_118 : BitVec 32 := 1#32
  let v142 : BitVec 32 := Scalar.shli c1_i32_118 v141
  let v143 : BitVec 32 := Scalar.ori v140 v142
  let c0_i32_121 : BitVec 32 := 0#32
  let v145 : BitVec 32 := Scalar.shrsi v143 c0_i32_121
  let c1_i32_122 : BitVec 32 := 1#32
  let v146 : BitVec 32 := Scalar.andi v145 c1_i32_122
  let v147 : BitVec 32 := Scalar.addi c0_i32_123 v146
  let c1_i32_125 : BitVec 32 := 1#32
  let v150 : BitVec 32 := Scalar.shrsi v143 c1_i32_125
  let c1_i32_126 : BitVec 32 := 1#32
  let v151 : BitVec 32 := Scalar.andi v150 c1_i32_126
  let v152 : BitVec 32 := Scalar.addi v147 v151
  let c2_i32_127 : BitVec 32 := 2#32
  let v155 : BitVec 32 := Scalar.shrsi v143 c2_i32_127
  let c1_i32_128 : BitVec 32 := 1#32
  let v156 : BitVec 32 := Scalar.andi v155 c1_i32_128
  let v157 : BitVec 32 := Scalar.addi v152 v156
  let c3_i32_129 : BitVec 32 := 3#32
  let v160 : BitVec 32 := Scalar.shrsi v143 c3_i32_129
  let c1_i32_130 : BitVec 32 := 1#32
  let v161 : BitVec 32 := Scalar.andi v160 c1_i32_130
  let v162 : BitVec 32 := Scalar.addi v157 v161
  let c4_i32_131 : BitVec 32 := 4#32
  let v165 : BitVec 32 := Scalar.shrsi v143 c4_i32_131
  let c1_i32_132 : BitVec 32 := 1#32
  let v166 : BitVec 32 := Scalar.andi v165 c1_i32_132
  let v167 : BitVec 32 := Scalar.addi v162 v166
  let c5_i32_133 : BitVec 32 := 5#32
  let v170 : BitVec 32 := Scalar.shrsi v143 c5_i32_133
  let c1_i32_134 : BitVec 32 := 1#32
  let v171 : BitVec 32 := Scalar.andi v170 c1_i32_134
  let v172 : BitVec 32 := Scalar.addi v167 v171
  let c6_i32_135 : BitVec 32 := 6#32
  let v175 : BitVec 32 := Scalar.shrsi v143 c6_i32_135
  let c1_i32_136 : BitVec 32 := 1#32
  let v176 : BitVec 32 := Scalar.andi v175 c1_i32_136
  let v177 : BitVec 32 := Scalar.addi v172 v176
  let c7_i32_137 : BitVec 32 := 7#32
  let v180 : BitVec 32 := Scalar.shrsi v143 c7_i32_137
  let c1_i32_138 : BitVec 32 := 1#32
  let v181 : BitVec 32 := Scalar.andi v180 c1_i32_138
  let v182 : BitVec 32 := Scalar.addi v177 v181
  let c8_i32_139 : BitVec 32 := 8#32
  let v185 : BitVec 32 := Scalar.shrsi v143 c8_i32_139
  let c1_i32_140 : BitVec 32 := 1#32
  let v186 : BitVec 32 := Scalar.andi v185 c1_i32_140
  let v187 : BitVec 32 := Scalar.addi v182 v186
  let c9_i32_141 : BitVec 32 := 9#32
  let v190 : BitVec 32 := Scalar.shrsi v143 c9_i32_141
  let c1_i32_142 : BitVec 32 := 1#32
  let v191 : BitVec 32 := Scalar.andi v190 c1_i32_142
  let v192 : BitVec 32 := Scalar.addi v187 v191
  let c10_i32_143 : BitVec 32 := 10#32
  let v195 : BitVec 32 := Scalar.shrsi v143 c10_i32_143
  let c1_i32_144 : BitVec 32 := 1#32
  let v196 : BitVec 32 := Scalar.andi v195 c1_i32_144
  let v197 : BitVec 32 := Scalar.addi v192 v196
  let c11_i32_145 : BitVec 32 := 11#32
  let v200 : BitVec 32 := Scalar.shrsi v143 c11_i32_145
  let c1_i32_146 : BitVec 32 := 1#32
  let v201 : BitVec 32 := Scalar.andi v200 c1_i32_146
  let v202 : BitVec 32 := Scalar.addi v197 v201
  let c12_i32_147 : BitVec 32 := 12#32
  let v205 : BitVec 32 := Scalar.shrsi v143 c12_i32_147
  let c1_i32_148 : BitVec 32 := 1#32
  let v206 : BitVec 32 := Scalar.andi v205 c1_i32_148
  let v207 : BitVec 32 := Scalar.addi v202 v206
  let c13_i32_149 : BitVec 32 := 13#32
  let v210 : BitVec 32 := Scalar.shrsi v143 c13_i32_149
  let c1_i32_150 : BitVec 32 := 1#32
  let v211 : BitVec 32 := Scalar.andi v210 c1_i32_150
  let v212 : BitVec 32 := Scalar.addi v207 v211
  let c14_i32_151 : BitVec 32 := 14#32
  let v215 : BitVec 32 := Scalar.shrsi v143 c14_i32_151
  let c1_i32_152 : BitVec 32 := 1#32
  let v216 : BitVec 32 := Scalar.andi v215 c1_i32_152
  let v217 : BitVec 32 := Scalar.addi v212 v216
  let c15_i32_153 : BitVec 32 := 15#32
  let v220 : BitVec 32 := Scalar.shrsi v143 c15_i32_153
  let c1_i32_154 : BitVec 32 := 1#32
  let v221 : BitVec 32 := Scalar.andi v220 c1_i32_154
  let v222 : BitVec 32 := Scalar.addi v217 v221
  let v272 : BitVec 32 := Scalar.subi v222 c0_i32_207
  let c1_i32_208 : BitVec 32 := 1#32
  let v274 : BitVec 32 := Scalar.divsi v272 c1_i32_208
  let v275 : BitVec 32 := Scalar.muli v274 c1_i32_208
  let v276 : BitVec 32 := Scalar.addi c0_i32_207 v275
  let c1_i32_209 : BitVec 32 := 1#32
  ⟨c0_i32_207, v276, c1_i32_209⟩
def k0_off23 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 1 → Nat :=
  let c0_i32_207 : BitVec 32 := 0#32
  let c1_i32_209 : BitVec 32 := 1#32
  let arg17 : BitVec 32 := Scf.iv c0_i32_207 c1_i32_209 k0_t1
  let v281 : Index := Scalar.indexCast arg17
  ![v281.toNat]
def k0_off24 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 1 → Nat :=
  let c0_i32_207 : BitVec 32 := 0#32
  let c1_i32_209 : BitVec 32 := 1#32
  let arg17 : BitVec 32 := Scf.iv c0_i32_207 c1_i32_209 k0_t1
  let c1_i32_3263 : BitVec 32 := 1#32
  let v7430 : BitVec 32 := Scalar.addi arg17 c1_i32_3263
  let v7433 : Index := Scalar.indexCast v7430
  ![v7433.toNat]
def k0_cond1 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : BitVec 1 :=
  let c0_i32_207 : BitVec 32 := 0#32
  let c1_i32_209 : BitVec 32 := 1#32
  let arg17 : BitVec 32 := Scf.iv c0_i32_207 c1_i32_209 k0_t1
  let c1_i32_216 : BitVec 32 := 1#32
  let v283 : BitVec 32 := Scalar.addi arg17 c1_i32_216
  let c0_i32_123 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_2 : BitVec 32 := 1#32
  let v4 : BitVec 32 := Scalar.shli c1_i32_2 v3
  let v5 : BitVec 32 := Scalar.ori v2 v4
  let c1_i32_5 : BitVec 32 := 1#32
  let v7 : BitVec 32 := Scalar.shli c1_i32_5 v6
  let v8 : BitVec 32 := Scalar.ori v5 v7
  let c1_i32_8 : BitVec 32 := 1#32
  let v10 : BitVec 32 := Scalar.shli c1_i32_8 v9
  let v11 : BitVec 32 := Scalar.ori v8 v10
  let c1_i32_10 : BitVec 32 := 1#32
  let v13 : BitVec 32 := Scalar.shli c1_i32_10 v12
  let v14 : BitVec 32 := Scalar.ori v11 v13
  let c1_i32_13 : BitVec 32 := 1#32
  let v16 : BitVec 32 := Scalar.shli c1_i32_13 v15
  let v17 : BitVec 32 := Scalar.ori v14 v16
  let c1_i32_15 : BitVec 32 := 1#32
  let v19 : BitVec 32 := Scalar.shli c1_i32_15 v18
  let v20 : BitVec 32 := Scalar.ori v17 v19
  let c1_i32_18 : BitVec 32 := 1#32
  let v22 : BitVec 32 := Scalar.shli c1_i32_18 v21
  let v23 : BitVec 32 := Scalar.ori v20 v22
  let c1_i32_20 : BitVec 32 := 1#32
  let v25 : BitVec 32 := Scalar.shli c1_i32_20 v24
  let v26 : BitVec 32 := Scalar.ori v23 v25
  let c1_i32_23 : BitVec 32 := 1#32
  let v28 : BitVec 32 := Scalar.shli c1_i32_23 v27
  let v29 : BitVec 32 := Scalar.ori v26 v28
  let c1_i32_25 : BitVec 32 := 1#32
  let v31 : BitVec 32 := Scalar.shli c1_i32_25 v30
  let v32 : BitVec 32 := Scalar.ori v29 v31
  let c1_i32_28 : BitVec 32 := 1#32
  let v34 : BitVec 32 := Scalar.shli c1_i32_28 v33
  let v35 : BitVec 32 := Scalar.ori v32 v34
  let c1_i32_30 : BitVec 32 := 1#32
  let v37 : BitVec 32 := Scalar.shli c1_i32_30 v36
  let v38 : BitVec 32 := Scalar.ori v35 v37
  let c1_i32_33 : BitVec 32 := 1#32
  let v40 : BitVec 32 := Scalar.shli c1_i32_33 v39
  let v41 : BitVec 32 := Scalar.ori v38 v40
  let c1_i32_35 : BitVec 32 := 1#32
  let v43 : BitVec 32 := Scalar.shli c1_i32_35 v42
  let v44 : BitVec 32 := Scalar.ori v41 v43
  let c1_i32_38 : BitVec 32 := 1#32
  let v46 : BitVec 32 := Scalar.shli c1_i32_38 v45
  let v47 : BitVec 32 := Scalar.ori v44 v46
  let c1_i32_40 : BitVec 32 := 1#32
  let v49 : BitVec 32 := Scalar.shli c1_i32_40 v48
  let v50 : BitVec 32 := Scalar.ori v47 v49
  let c1_i32_43 : BitVec 32 := 1#32
  let v52 : BitVec 32 := Scalar.shli c1_i32_43 v51
  let v53 : BitVec 32 := Scalar.ori v50 v52
  let c1_i32_45 : BitVec 32 := 1#32
  let v55 : BitVec 32 := Scalar.shli c1_i32_45 v54
  let v56 : BitVec 32 := Scalar.ori v53 v55
  let c1_i32_48 : BitVec 32 := 1#32
  let v58 : BitVec 32 := Scalar.shli c1_i32_48 v57
  let v59 : BitVec 32 := Scalar.ori v56 v58
  let c1_i32_50 : BitVec 32 := 1#32
  let v61 : BitVec 32 := Scalar.shli c1_i32_50 v60
  let v62 : BitVec 32 := Scalar.ori v59 v61
  let c1_i32_53 : BitVec 32 := 1#32
  let v64 : BitVec 32 := Scalar.shli c1_i32_53 v63
  let v65 : BitVec 32 := Scalar.ori v62 v64
  let c1_i32_55 : BitVec 32 := 1#32
  let v67 : BitVec 32 := Scalar.shli c1_i32_55 v66
  let v68 : BitVec 32 := Scalar.ori v65 v67
  let c1_i32_58 : BitVec 32 := 1#32
  let v70 : BitVec 32 := Scalar.shli c1_i32_58 v69
  let v71 : BitVec 32 := Scalar.ori v68 v70
  let c1_i32_60 : BitVec 32 := 1#32
  let v73 : BitVec 32 := Scalar.shli c1_i32_60 v72
  let v74 : BitVec 32 := Scalar.ori v71 v73
  let c1_i32_63 : BitVec 32 := 1#32
  let v76 : BitVec 32 := Scalar.shli c1_i32_63 v75
  let v77 : BitVec 32 := Scalar.ori v74 v76
  let c1_i32_65 : BitVec 32 := 1#32
  let v79 : BitVec 32 := Scalar.shli c1_i32_65 v78
  let v80 : BitVec 32 := Scalar.ori v77 v79
  let c1_i32_68 : BitVec 32 := 1#32
  let v82 : BitVec 32 := Scalar.shli c1_i32_68 v81
  let v83 : BitVec 32 := Scalar.ori v80 v82
  let c1_i32_70 : BitVec 32 := 1#32
  let v85 : BitVec 32 := Scalar.shli c1_i32_70 v84
  let v86 : BitVec 32 := Scalar.ori v83 v85
  let c1_i32_73 : BitVec 32 := 1#32
  let v88 : BitVec 32 := Scalar.shli c1_i32_73 v87
  let v89 : BitVec 32 := Scalar.ori v86 v88
  let c1_i32_75 : BitVec 32 := 1#32
  let v91 : BitVec 32 := Scalar.shli c1_i32_75 v90
  let v92 : BitVec 32 := Scalar.ori v89 v91
  let c1_i32_78 : BitVec 32 := 1#32
  let v94 : BitVec 32 := Scalar.shli c1_i32_78 v93
  let v95 : BitVec 32 := Scalar.ori v92 v94
  let c1_i32_80 : BitVec 32 := 1#32
  let v97 : BitVec 32 := Scalar.shli c1_i32_80 v96
  let v98 : BitVec 32 := Scalar.ori v95 v97
  let c1_i32_83 : BitVec 32 := 1#32
  let v100 : BitVec 32 := Scalar.shli c1_i32_83 v99
  let v101 : BitVec 32 := Scalar.ori v98 v100
  let c1_i32_85 : BitVec 32 := 1#32
  let v103 : BitVec 32 := Scalar.shli c1_i32_85 v102
  let v104 : BitVec 32 := Scalar.ori v101 v103
  let c1_i32_88 : BitVec 32 := 1#32
  let v106 : BitVec 32 := Scalar.shli c1_i32_88 v105
  let v107 : BitVec 32 := Scalar.ori v104 v106
  let c1_i32_90 : BitVec 32 := 1#32
  let v109 : BitVec 32 := Scalar.shli c1_i32_90 v108
  let v110 : BitVec 32 := Scalar.ori v107 v109
  let c1_i32_93 : BitVec 32 := 1#32
  let v112 : BitVec 32 := Scalar.shli c1_i32_93 v111
  let v113 : BitVec 32 := Scalar.ori v110 v112
  let c1_i32_95 : BitVec 32 := 1#32
  let v115 : BitVec 32 := Scalar.shli c1_i32_95 v114
  let v116 : BitVec 32 := Scalar.ori v113 v115
  let c1_i32_98 : BitVec 32 := 1#32
  let v118 : BitVec 32 := Scalar.shli c1_i32_98 v117
  let v119 : BitVec 32 := Scalar.ori v116 v118
  let c1_i32_100 : BitVec 32 := 1#32
  let v121 : BitVec 32 := Scalar.shli c1_i32_100 v120
  let v122 : BitVec 32 := Scalar.ori v119 v121
  let c1_i32_103 : BitVec 32 := 1#32
  let v124 : BitVec 32 := Scalar.shli c1_i32_103 v123
  let v125 : BitVec 32 := Scalar.ori v122 v124
  let c1_i32_105 : BitVec 32 := 1#32
  let v127 : BitVec 32 := Scalar.shli c1_i32_105 v126
  let v128 : BitVec 32 := Scalar.ori v125 v127
  let c1_i32_108 : BitVec 32 := 1#32
  let v130 : BitVec 32 := Scalar.shli c1_i32_108 v129
  let v131 : BitVec 32 := Scalar.ori v128 v130
  let c1_i32_110 : BitVec 32 := 1#32
  let v133 : BitVec 32 := Scalar.shli c1_i32_110 v132
  let v134 : BitVec 32 := Scalar.ori v131 v133
  let c1_i32_113 : BitVec 32 := 1#32
  let v136 : BitVec 32 := Scalar.shli c1_i32_113 v135
  let v137 : BitVec 32 := Scalar.ori v134 v136
  let c1_i32_115 : BitVec 32 := 1#32
  let v139 : BitVec 32 := Scalar.shli c1_i32_115 v138
  let v140 : BitVec 32 := Scalar.ori v137 v139
  let c1_i32_118 : BitVec 32 := 1#32
  let v142 : BitVec 32 := Scalar.shli c1_i32_118 v141
  let v143 : BitVec 32 := Scalar.ori v140 v142
  let c0_i32_121 : BitVec 32 := 0#32
  let v145 : BitVec 32 := Scalar.shrsi v143 c0_i32_121
  let c1_i32_122 : BitVec 32 := 1#32
  let v146 : BitVec 32 := Scalar.andi v145 c1_i32_122
  let v147 : BitVec 32 := Scalar.addi c0_i32_123 v146
  let c1_i32_125 : BitVec 32 := 1#32
  let v150 : BitVec 32 := Scalar.shrsi v143 c1_i32_125
  let c1_i32_126 : BitVec 32 := 1#32
  let v151 : BitVec 32 := Scalar.andi v150 c1_i32_126
  let v152 : BitVec 32 := Scalar.addi v147 v151
  let c2_i32_127 : BitVec 32 := 2#32
  let v155 : BitVec 32 := Scalar.shrsi v143 c2_i32_127
  let c1_i32_128 : BitVec 32 := 1#32
  let v156 : BitVec 32 := Scalar.andi v155 c1_i32_128
  let v157 : BitVec 32 := Scalar.addi v152 v156
  let c3_i32_129 : BitVec 32 := 3#32
  let v160 : BitVec 32 := Scalar.shrsi v143 c3_i32_129
  let c1_i32_130 : BitVec 32 := 1#32
  let v161 : BitVec 32 := Scalar.andi v160 c1_i32_130
  let v162 : BitVec 32 := Scalar.addi v157 v161
  let c4_i32_131 : BitVec 32 := 4#32
  let v165 : BitVec 32 := Scalar.shrsi v143 c4_i32_131
  let c1_i32_132 : BitVec 32 := 1#32
  let v166 : BitVec 32 := Scalar.andi v165 c1_i32_132
  let v167 : BitVec 32 := Scalar.addi v162 v166
  let c5_i32_133 : BitVec 32 := 5#32
  let v170 : BitVec 32 := Scalar.shrsi v143 c5_i32_133
  let c1_i32_134 : BitVec 32 := 1#32
  let v171 : BitVec 32 := Scalar.andi v170 c1_i32_134
  let v172 : BitVec 32 := Scalar.addi v167 v171
  let c6_i32_135 : BitVec 32 := 6#32
  let v175 : BitVec 32 := Scalar.shrsi v143 c6_i32_135
  let c1_i32_136 : BitVec 32 := 1#32
  let v176 : BitVec 32 := Scalar.andi v175 c1_i32_136
  let v177 : BitVec 32 := Scalar.addi v172 v176
  let c7_i32_137 : BitVec 32 := 7#32
  let v180 : BitVec 32 := Scalar.shrsi v143 c7_i32_137
  let c1_i32_138 : BitVec 32 := 1#32
  let v181 : BitVec 32 := Scalar.andi v180 c1_i32_138
  let v182 : BitVec 32 := Scalar.addi v177 v181
  let c8_i32_139 : BitVec 32 := 8#32
  let v185 : BitVec 32 := Scalar.shrsi v143 c8_i32_139
  let c1_i32_140 : BitVec 32 := 1#32
  let v186 : BitVec 32 := Scalar.andi v185 c1_i32_140
  let v187 : BitVec 32 := Scalar.addi v182 v186
  let c9_i32_141 : BitVec 32 := 9#32
  let v190 : BitVec 32 := Scalar.shrsi v143 c9_i32_141
  let c1_i32_142 : BitVec 32 := 1#32
  let v191 : BitVec 32 := Scalar.andi v190 c1_i32_142
  let v192 : BitVec 32 := Scalar.addi v187 v191
  let c10_i32_143 : BitVec 32 := 10#32
  let v195 : BitVec 32 := Scalar.shrsi v143 c10_i32_143
  let c1_i32_144 : BitVec 32 := 1#32
  let v196 : BitVec 32 := Scalar.andi v195 c1_i32_144
  let v197 : BitVec 32 := Scalar.addi v192 v196
  let c11_i32_145 : BitVec 32 := 11#32
  let v200 : BitVec 32 := Scalar.shrsi v143 c11_i32_145
  let c1_i32_146 : BitVec 32 := 1#32
  let v201 : BitVec 32 := Scalar.andi v200 c1_i32_146
  let v202 : BitVec 32 := Scalar.addi v197 v201
  let c12_i32_147 : BitVec 32 := 12#32
  let v205 : BitVec 32 := Scalar.shrsi v143 c12_i32_147
  let c1_i32_148 : BitVec 32 := 1#32
  let v206 : BitVec 32 := Scalar.andi v205 c1_i32_148
  let v207 : BitVec 32 := Scalar.addi v202 v206
  let c13_i32_149 : BitVec 32 := 13#32
  let v210 : BitVec 32 := Scalar.shrsi v143 c13_i32_149
  let c1_i32_150 : BitVec 32 := 1#32
  let v211 : BitVec 32 := Scalar.andi v210 c1_i32_150
  let v212 : BitVec 32 := Scalar.addi v207 v211
  let c14_i32_151 : BitVec 32 := 14#32
  let v215 : BitVec 32 := Scalar.shrsi v143 c14_i32_151
  let c1_i32_152 : BitVec 32 := 1#32
  let v216 : BitVec 32 := Scalar.andi v215 c1_i32_152
  let v217 : BitVec 32 := Scalar.addi v212 v216
  let c15_i32_153 : BitVec 32 := 15#32
  let v220 : BitVec 32 := Scalar.shrsi v143 c15_i32_153
  let c1_i32_154 : BitVec 32 := 1#32
  let v221 : BitVec 32 := Scalar.andi v220 c1_i32_154
  let v222 : BitVec 32 := Scalar.addi v217 v221
  let v284 : BitVec 1 := Scalar.cmpi .slt v283 v222
  let v285 : BitVec 32 := Scalar.extui v284
  let c0_i32_217 : BitVec 32 := 0#32
  let v286 : BitVec 1 := Scalar.cmpi .ne v285 c0_i32_217
  v286

def k0_off25 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 2 → Nat :=
  let c0_i32_207 : BitVec 32 := 0#32
  let c1_i32_209 : BitVec 32 := 1#32
  let arg17 : BitVec 32 := Scf.iv c0_i32_207 c1_i32_209 k0_t1
  let c1_i32_3264 : BitVec 32 := 1#32
  let v7431 : BitVec 32 := Scalar.addi arg17 c1_i32_3264
  let c2_i32_3265 : BitVec 32 := 2#32
  let v7432 : BitVec 32 := Scalar.remsi v7431 c2_i32_3265
  let c0_i32_3266 : BitVec 32 := 0#32
  ![v7432.toNat, 0]
def k0_off26 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 3 → Nat :=
  let c0_i32_207 : BitVec 32 := 0#32
  let c1_i32_209 : BitVec 32 := 1#32
  let arg17 : BitVec 32 := Scf.iv c0_i32_207 c1_i32_209 k0_t1
  let c1_i32_3264 : BitVec 32 := 1#32
  let v7431 : BitVec 32 := Scalar.addi arg17 c1_i32_3264
  let c2_i32_3265 : BitVec 32 := 2#32
  let v7432 : BitVec 32 := Scalar.remsi v7431 c2_i32_3265
  let c0_i32_3267 : BitVec 32 := 0#32
  let c0_i32_3268 : BitVec 32 := 0#32
  ![v7432.toNat, 0, 0]
def k0_off27 (v7434 : BitVec 32) : Fin 3 → Nat :=
  let c0_i32_3269 : BitVec 32 := 0#32
  let c0_i32_3270 : BitVec 32 := 0#32
  ![v7434.toNat, 0, 0]

def k0_off28 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 2 → Nat :=
  let c0_i32_207 : BitVec 32 := 0#32
  let c1_i32_209 : BitVec 32 := 1#32
  let arg17 : BitVec 32 := Scf.iv c0_i32_207 c1_i32_209 k0_t1
  let c1_i32_3264 : BitVec 32 := 1#32
  let v7431 : BitVec 32 := Scalar.addi arg17 c1_i32_3264
  let c2_i32_3265 : BitVec 32 := 2#32
  let v7432 : BitVec 32 := Scalar.remsi v7431 c2_i32_3265
  let c0_i32_3271 : BitVec 32 := 0#32
  ![v7432.toNat, 0]
def k0_off29 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 3 → Nat :=
  let c0_i32_207 : BitVec 32 := 0#32
  let c1_i32_209 : BitVec 32 := 1#32
  let arg17 : BitVec 32 := Scf.iv c0_i32_207 c1_i32_209 k0_t1
  let c1_i32_3264 : BitVec 32 := 1#32
  let v7431 : BitVec 32 := Scalar.addi arg17 c1_i32_3264
  let c2_i32_3265 : BitVec 32 := 2#32
  let v7432 : BitVec 32 := Scalar.remsi v7431 c2_i32_3265
  let c0_i32_3272 : BitVec 32 := 0#32
  let c0_i32_3273 : BitVec 32 := 0#32
  ![v7432.toNat, 0, 0]
def k0_off30 (v7434 : BitVec 32) : Fin 3 → Nat :=
  let c0_i32_3274 : BitVec 32 := 0#32
  let c0_i32_3275 : BitVec 32 := 0#32
  ![v7434.toNat, 0, 0]
def k0_off31 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 3 → Nat :=
  let c0_i32_207 : BitVec 32 := 0#32
  let c1_i32_209 : BitVec 32 := 1#32
  let arg17 : BitVec 32 := Scf.iv c0_i32_207 c1_i32_209 k0_t1
  let c1_i32_3264 : BitVec 32 := 1#32
  let v7431 : BitVec 32 := Scalar.addi arg17 c1_i32_3264
  let c2_i32_3265 : BitVec 32 := 2#32
  let v7432 : BitVec 32 := Scalar.remsi v7431 c2_i32_3265
  let c2048_i32_3277 : BitVec 32 := 2048#32
  let c0_i32_3278 : BitVec 32 := 0#32
  ![v7432.toNat, 2048, 0]
def k0_off32 (v7434 : BitVec 32) : Fin 3 → Nat :=
  let c2048_i32_3279 : BitVec 32 := 2048#32
  let c0_i32_3280 : BitVec 32 := 0#32
  ![v7434.toNat, 2048, 0]

def k0_chk5 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v7434 : BitVec 32) : Prop :=
  (∀ (k0_h1 : k0_cond1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ a, (k0_off27 v7434) a + S1x16x4096.size a ≤ S16x16x4096.size a) ∧
  (∀ (k0_h1 : k0_cond1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ (hinb : ∀ a, (k0_off27 v7434) a + S1x16x4096.size a ≤ S16x16x4096.size a), (Rect.unit (s := S16x16x4096) (k0_off27 v7434) S1x16x4096.size hinb).WholeWords (EltTy.packing .bf16)) ∧
  (∀ (k0_h1 : k0_cond1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ a, (k0_off30 v7434) a + S1x1024x1024.size a ≤ S16x4096x1024.size a) ∧
  (∀ (k0_h1 : k0_cond1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ (hinb : ∀ a, (k0_off30 v7434) a + S1x1024x1024.size a ≤ S16x4096x1024.size a), (Rect.unit (s := S16x4096x1024) (k0_off30 v7434) S1x1024x1024.size hinb).WholeWords (EltTy.packing .i8)) ∧
  (∀ (k0_h1 : k0_cond1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ a, (k0_off32 v7434) a + S1x1024x1024.size a ≤ S16x4096x1024.size a) ∧
  (∀ (k0_h1 : k0_cond1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ (hinb : ∀ a, (k0_off32 v7434) a + S1x1024x1024.size a ≤ S16x4096x1024.size a), (Rect.unit (s := S16x4096x1024) (k0_off32 v7434) S1x1024x1024.size hinb).WholeWords (EltTy.packing .i8))
theorem k0_off27_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v7434 : BitVec 32) (k0_hw5 : k0_chk5 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v7434), ∀ (k0_h1 : k0_cond1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ a, (k0_off27 v7434) a + S1x16x4096.size a ≤ S16x16x4096.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v7434 k0_hw5 k0_h1 => k0_hw5.1 k0_h1
theorem k0_off27_wordsbf16 : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v7434 : BitVec 32) (k0_hw5 : k0_chk5 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v7434), ∀ (k0_h1 : k0_cond1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), (Rect.unit (s := S16x16x4096) (k0_off27 v7434) S1x16x4096.size (k0_off27_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v7434 k0_hw5 k0_h1)).WholeWords (EltTy.packing .bf16) := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v7434 k0_hw5 k0_h1 => k0_hw5.2.1 k0_h1 (k0_off27_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v7434 k0_hw5 k0_h1)
theorem k0_off30_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v7434 : BitVec 32) (k0_hw5 : k0_chk5 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v7434), ∀ (k0_h1 : k0_cond1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ a, (k0_off30 v7434) a + S1x1024x1024.size a ≤ S16x4096x1024.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v7434 k0_hw5 k0_h1 => k0_hw5.2.2.1 k0_h1
theorem k0_off30_wordsi8 : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v7434 : BitVec 32) (k0_hw5 : k0_chk5 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v7434), ∀ (k0_h1 : k0_cond1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), (Rect.unit (s := S16x4096x1024) (k0_off30 v7434) S1x1024x1024.size (k0_off30_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v7434 k0_hw5 k0_h1)).WholeWords (EltTy.packing .i8) := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v7434 k0_hw5 k0_h1 => k0_hw5.2.2.2.1 k0_h1 (k0_off30_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v7434 k0_hw5 k0_h1)
theorem k0_off32_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v7434 : BitVec 32) (k0_hw5 : k0_chk5 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v7434), ∀ (k0_h1 : k0_cond1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ a, (k0_off32 v7434) a + S1x1024x1024.size a ≤ S16x4096x1024.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v7434 k0_hw5 k0_h1 => k0_hw5.2.2.2.2.1 k0_h1
theorem k0_off32_wordsi8 : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v7434 : BitVec 32) (k0_hw5 : k0_chk5 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v7434), ∀ (k0_h1 : k0_cond1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), (Rect.unit (s := S16x4096x1024) (k0_off32 v7434) S1x1024x1024.size (k0_off32_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v7434 k0_hw5 k0_h1)).WholeWords (EltTy.packing .i8) := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v7434 k0_hw5 k0_h1 => k0_hw5.2.2.2.2.2 k0_h1 (k0_off32_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v7434 k0_hw5 k0_h1)

def k0_off33 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 1 → Nat :=
  let c0_i32_207 : BitVec 32 := 0#32
  let c1_i32_209 : BitVec 32 := 1#32
  let arg17 : BitVec 32 := Scf.iv c0_i32_207 c1_i32_209 k0_t1
  let c1_i32_3263 : BitVec 32 := 1#32
  let v7430 : BitVec 32 := Scalar.addi arg17 c1_i32_3263
  let v7453 : Index := Scalar.indexCast v7430
  ![v7453.toNat]
def k0_off34 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 2 → Nat :=
  let c0_i32_207 : BitVec 32 := 0#32
  let c1_i32_209 : BitVec 32 := 1#32
  let arg17 : BitVec 32 := Scf.iv c0_i32_207 c1_i32_209 k0_t1
  let c1_i32_3264 : BitVec 32 := 1#32
  let v7431 : BitVec 32 := Scalar.addi arg17 c1_i32_3264
  let c2_i32_3265 : BitVec 32 := 2#32
  let v7432 : BitVec 32 := Scalar.remsi v7431 c2_i32_3265
  let c1_i32_3281 : BitVec 32 := 1#32
  ![v7432.toNat, 1]
def k0_off35 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 3 → Nat :=
  let c0_i32_207 : BitVec 32 := 0#32
  let c1_i32_209 : BitVec 32 := 1#32
  let arg17 : BitVec 32 := Scf.iv c0_i32_207 c1_i32_209 k0_t1
  let c1_i32_3264 : BitVec 32 := 1#32
  let v7431 : BitVec 32 := Scalar.addi arg17 c1_i32_3264
  let c2_i32_3265 : BitVec 32 := 2#32
  let v7432 : BitVec 32 := Scalar.remsi v7431 c2_i32_3265
  let c1024_i32_3282 : BitVec 32 := 1024#32
  let c0_i32_3283 : BitVec 32 := 0#32
  ![v7432.toNat, 1024, 0]
def k0_off36 (v7454 : BitVec 32) : Fin 3 → Nat :=
  let c1024_i32_3284 : BitVec 32 := 1024#32
  let c0_i32_3285 : BitVec 32 := 0#32
  ![v7454.toNat, 1024, 0]

def k0_off37 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 2 → Nat :=
  let c0_i32_207 : BitVec 32 := 0#32
  let c1_i32_209 : BitVec 32 := 1#32
  let arg17 : BitVec 32 := Scf.iv c0_i32_207 c1_i32_209 k0_t1
  let c1_i32_3264 : BitVec 32 := 1#32
  let v7431 : BitVec 32 := Scalar.addi arg17 c1_i32_3264
  let c2_i32_3265 : BitVec 32 := 2#32
  let v7432 : BitVec 32 := Scalar.remsi v7431 c2_i32_3265
  let c1_i32_3286 : BitVec 32 := 1#32
  ![v7432.toNat, 1]
def k0_off38 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 3 → Nat :=
  let c0_i32_207 : BitVec 32 := 0#32
  let c1_i32_209 : BitVec 32 := 1#32
  let arg17 : BitVec 32 := Scf.iv c0_i32_207 c1_i32_209 k0_t1
  let c1_i32_3264 : BitVec 32 := 1#32
  let v7431 : BitVec 32 := Scalar.addi arg17 c1_i32_3264
  let c2_i32_3265 : BitVec 32 := 2#32
  let v7432 : BitVec 32 := Scalar.remsi v7431 c2_i32_3265
  let c3072_i32_3287 : BitVec 32 := 3072#32
  let c0_i32_3288 : BitVec 32 := 0#32
  ![v7432.toNat, 3072, 0]
def k0_off39 (v7454 : BitVec 32) : Fin 3 → Nat :=
  let c3072_i32_3289 : BitVec 32 := 3072#32
  let c0_i32_3290 : BitVec 32 := 0#32
  ![v7454.toNat, 3072, 0]

def k0_chk6 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v7454 : BitVec 32) : Prop :=
  (∀ (k0_h1 : k0_cond1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ a, (k0_off36 v7454) a + S1x1024x1024.size a ≤ S16x4096x1024.size a) ∧
  (∀ (k0_h1 : k0_cond1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ (hinb : ∀ a, (k0_off36 v7454) a + S1x1024x1024.size a ≤ S16x4096x1024.size a), (Rect.unit (s := S16x4096x1024) (k0_off36 v7454) S1x1024x1024.size hinb).WholeWords (EltTy.packing .i8)) ∧
  (∀ (k0_h1 : k0_cond1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ a, (k0_off39 v7454) a + S1x1024x1024.size a ≤ S16x4096x1024.size a) ∧
  (∀ (k0_h1 : k0_cond1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ (hinb : ∀ a, (k0_off39 v7454) a + S1x1024x1024.size a ≤ S16x4096x1024.size a), (Rect.unit (s := S16x4096x1024) (k0_off39 v7454) S1x1024x1024.size hinb).WholeWords (EltTy.packing .i8))
theorem k0_off36_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v7454 : BitVec 32) (k0_hw6 : k0_chk6 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v7454), ∀ (k0_h1 : k0_cond1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ a, (k0_off36 v7454) a + S1x1024x1024.size a ≤ S16x4096x1024.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v7454 k0_hw6 k0_h1 => k0_hw6.1 k0_h1
theorem k0_off36_wordsi8 : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v7454 : BitVec 32) (k0_hw6 : k0_chk6 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v7454), ∀ (k0_h1 : k0_cond1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), (Rect.unit (s := S16x4096x1024) (k0_off36 v7454) S1x1024x1024.size (k0_off36_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v7454 k0_hw6 k0_h1)).WholeWords (EltTy.packing .i8) := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v7454 k0_hw6 k0_h1 => k0_hw6.2.1 k0_h1 (k0_off36_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v7454 k0_hw6 k0_h1)
theorem k0_off39_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v7454 : BitVec 32) (k0_hw6 : k0_chk6 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v7454), ∀ (k0_h1 : k0_cond1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ a, (k0_off39 v7454) a + S1x1024x1024.size a ≤ S16x4096x1024.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v7454 k0_hw6 k0_h1 => k0_hw6.2.2.1 k0_h1
theorem k0_off39_wordsi8 : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v7454 : BitVec 32) (k0_hw6 : k0_chk6 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v7454), ∀ (k0_h1 : k0_cond1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), (Rect.unit (s := S16x4096x1024) (k0_off39 v7454) S1x1024x1024.size (k0_off39_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v7454 k0_hw6 k0_h1)).WholeWords (EltTy.packing .i8) := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v7454 k0_hw6 k0_h1 => k0_hw6.2.2.2 k0_h1 (k0_off39_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v7454 k0_hw6 k0_h1)

def k0_off40 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 1 → Nat :=
  let c0_i32_207 : BitVec 32 := 0#32
  let c1_i32_209 : BitVec 32 := 1#32
  let arg17 : BitVec 32 := Scf.iv c0_i32_207 c1_i32_209 k0_t1
  let c1_i32_3263 : BitVec 32 := 1#32
  let v7430 : BitVec 32 := Scalar.addi arg17 c1_i32_3263
  let v7467 : Index := Scalar.indexCast v7430
  ![v7467.toNat]
def k0_off41 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 2 → Nat :=
  let c0_i32_207 : BitVec 32 := 0#32
  let c1_i32_209 : BitVec 32 := 1#32
  let arg17 : BitVec 32 := Scf.iv c0_i32_207 c1_i32_209 k0_t1
  let c1_i32_3264 : BitVec 32 := 1#32
  let v7431 : BitVec 32 := Scalar.addi arg17 c1_i32_3264
  let c2_i32_3265 : BitVec 32 := 2#32
  let v7432 : BitVec 32 := Scalar.remsi v7431 c2_i32_3265
  let c2_i32_3291 : BitVec 32 := 2#32
  ![v7432.toNat, 2]
def k0_off42 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 3 → Nat :=
  let c0_i32_207 : BitVec 32 := 0#32
  let c1_i32_209 : BitVec 32 := 1#32
  let arg17 : BitVec 32 := Scf.iv c0_i32_207 c1_i32_209 k0_t1
  let c1_i32_3264 : BitVec 32 := 1#32
  let v7431 : BitVec 32 := Scalar.addi arg17 c1_i32_3264
  let c2_i32_3265 : BitVec 32 := 2#32
  let v7432 : BitVec 32 := Scalar.remsi v7431 c2_i32_3265
  let c0_i32_3292 : BitVec 32 := 0#32
  let c0_i32_3293 : BitVec 32 := 0#32
  ![v7432.toNat, 0, 0]
def k0_off43 (v7468 : BitVec 32) : Fin 3 → Nat :=
  let c0_i32_3294 : BitVec 32 := 0#32
  let c0_i32_3295 : BitVec 32 := 0#32
  ![v7468.toNat, 0, 0]

def k0_off44 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 2 → Nat :=
  let c0_i32_207 : BitVec 32 := 0#32
  let c1_i32_209 : BitVec 32 := 1#32
  let arg17 : BitVec 32 := Scf.iv c0_i32_207 c1_i32_209 k0_t1
  let c1_i32_3264 : BitVec 32 := 1#32
  let v7431 : BitVec 32 := Scalar.addi arg17 c1_i32_3264
  let c2_i32_3265 : BitVec 32 := 2#32
  let v7432 : BitVec 32 := Scalar.remsi v7431 c2_i32_3265
  let c2_i32_3296 : BitVec 32 := 2#32
  ![v7432.toNat, 2]
def k0_off45 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 3 → Nat :=
  let c0_i32_207 : BitVec 32 := 0#32
  let c1_i32_209 : BitVec 32 := 1#32
  let arg17 : BitVec 32 := Scf.iv c0_i32_207 c1_i32_209 k0_t1
  let c1_i32_3264 : BitVec 32 := 1#32
  let v7431 : BitVec 32 := Scalar.addi arg17 c1_i32_3264
  let c2_i32_3265 : BitVec 32 := 2#32
  let v7432 : BitVec 32 := Scalar.remsi v7431 c2_i32_3265
  let c0_i32_3297 : BitVec 32 := 0#32
  let c0_i32_3298 : BitVec 32 := 0#32
  ![v7432.toNat, 0, 0]
def k0_off46 (v7468 : BitVec 32) : Fin 3 → Nat :=
  let c0_i32_3299 : BitVec 32 := 0#32
  let c0_i32_3300 : BitVec 32 := 0#32
  ![v7468.toNat, 0, 0]

def k0_chk7 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v7468 : BitVec 32) : Prop :=
  (∀ (k0_h1 : k0_cond1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ a, (k0_off43 v7468) a + S1x16x2048.size a ≤ S16x16x2048.size a) ∧
  (∀ (k0_h1 : k0_cond1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ (hinb : ∀ a, (k0_off43 v7468) a + S1x16x2048.size a ≤ S16x16x2048.size a), (Rect.unit (s := S16x16x2048) (k0_off43 v7468) S1x16x2048.size hinb).WholeWords (EltTy.packing .bf16)) ∧
  (∀ (k0_h1 : k0_cond1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ a, (k0_off46 v7468) a + S1x2048x1024.size a ≤ S16x2048x1024.size a) ∧
  (∀ (k0_h1 : k0_cond1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ (hinb : ∀ a, (k0_off46 v7468) a + S1x2048x1024.size a ≤ S16x2048x1024.size a), (Rect.unit (s := S16x2048x1024) (k0_off46 v7468) S1x2048x1024.size hinb).WholeWords (EltTy.packing .i8))
theorem k0_off43_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v7468 : BitVec 32) (k0_hw7 : k0_chk7 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v7468), ∀ (k0_h1 : k0_cond1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ a, (k0_off43 v7468) a + S1x16x2048.size a ≤ S16x16x2048.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v7468 k0_hw7 k0_h1 => k0_hw7.1 k0_h1
theorem k0_off43_wordsbf16 : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v7468 : BitVec 32) (k0_hw7 : k0_chk7 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v7468), ∀ (k0_h1 : k0_cond1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), (Rect.unit (s := S16x16x2048) (k0_off43 v7468) S1x16x2048.size (k0_off43_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v7468 k0_hw7 k0_h1)).WholeWords (EltTy.packing .bf16) := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v7468 k0_hw7 k0_h1 => k0_hw7.2.1 k0_h1 (k0_off43_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v7468 k0_hw7 k0_h1)
theorem k0_off46_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v7468 : BitVec 32) (k0_hw7 : k0_chk7 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v7468), ∀ (k0_h1 : k0_cond1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ a, (k0_off46 v7468) a + S1x2048x1024.size a ≤ S16x2048x1024.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v7468 k0_hw7 k0_h1 => k0_hw7.2.2.1 k0_h1
theorem k0_off46_wordsi8 : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v7468 : BitVec 32) (k0_hw7 : k0_chk7 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v7468), ∀ (k0_h1 : k0_cond1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), (Rect.unit (s := S16x2048x1024) (k0_off46 v7468) S1x2048x1024.size (k0_off46_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v7468 k0_hw7 k0_h1)).WholeWords (EltTy.packing .i8) := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v7468 k0_hw7 k0_h1 => k0_hw7.2.2.2 k0_h1 (k0_off46_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 v7468 k0_hw7 k0_h1)

def k0_off47 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 2 → Nat :=
  let c0_i32_207 : BitVec 32 := 0#32
  let c1_i32_209 : BitVec 32 := 1#32
  let arg17 : BitVec 32 := Scf.iv c0_i32_207 c1_i32_209 k0_t1
  let c2_i32_215 : BitVec 32 := 2#32
  let v280 : BitVec 32 := Scalar.remsi arg17 c2_i32_215
  let c0_i32_218 : BitVec 32 := 0#32
  ![v280.toNat, 0]
def k0_off48 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 3 → Nat :=
  let c0_i32_207 : BitVec 32 := 0#32
  let c1_i32_209 : BitVec 32 := 1#32
  let arg17 : BitVec 32 := Scf.iv c0_i32_207 c1_i32_209 k0_t1
  let c2_i32_215 : BitVec 32 := 2#32
  let v280 : BitVec 32 := Scalar.remsi arg17 c2_i32_215
  let c0_i32_219 : BitVec 32 := 0#32
  let c0_i32_220 : BitVec 32 := 0#32
  ![v280.toNat, 0, 0]
def k0_off49 (v288 : BitVec 32) : Fin 3 → Nat :=
  let c0_i32_221 : BitVec 32 := 0#32
  let c0_i32_222 : BitVec 32 := 0#32
  ![v288.toNat, 0, 0]

def k0_off50 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 2 → Nat :=
  let c0_i32_207 : BitVec 32 := 0#32
  let c1_i32_209 : BitVec 32 := 1#32
  let arg17 : BitVec 32 := Scf.iv c0_i32_207 c1_i32_209 k0_t1
  let c2_i32_215 : BitVec 32 := 2#32
  let v280 : BitVec 32 := Scalar.remsi arg17 c2_i32_215
  let c0_i32_223 : BitVec 32 := 0#32
  ![v280.toNat, 0]
def k0_off51 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 3 → Nat :=
  let c0_i32_207 : BitVec 32 := 0#32
  let c1_i32_209 : BitVec 32 := 1#32
  let arg17 : BitVec 32 := Scf.iv c0_i32_207 c1_i32_209 k0_t1
  let c2_i32_215 : BitVec 32 := 2#32
  let v280 : BitVec 32 := Scalar.remsi arg17 c2_i32_215
  let c0_i32_224 : BitVec 32 := 0#32
  let c0_i32_225 : BitVec 32 := 0#32
  ![v280.toNat, 0, 0]
def k0_off52 (v288 : BitVec 32) : Fin 3 → Nat :=
  let c0_i32_226 : BitVec 32 := 0#32
  let c0_i32_227 : BitVec 32 := 0#32
  ![v288.toNat, 0, 0]
def k0_off53 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 3 → Nat :=
  let c0_i32_207 : BitVec 32 := 0#32
  let c1_i32_209 : BitVec 32 := 1#32
  let arg17 : BitVec 32 := Scf.iv c0_i32_207 c1_i32_209 k0_t1
  let c2_i32_215 : BitVec 32 := 2#32
  let v280 : BitVec 32 := Scalar.remsi arg17 c2_i32_215
  let c2048_i32_229 : BitVec 32 := 2048#32
  let c0_i32_230 : BitVec 32 := 0#32
  ![v280.toNat, 2048, 0]
def k0_off54 (v288 : BitVec 32) : Fin 3 → Nat :=
  let c2048_i32_231 : BitVec 32 := 2048#32
  let c0_i32_232 : BitVec 32 := 0#32
  ![v288.toNat, 2048, 0]

def k0_chk8 (v288 : BitVec 32) : Prop :=
  (∀ a, (k0_off49 v288) a + S1x16x4096.size a ≤ S16x16x4096.size a) ∧
  (∀ (hinb : ∀ a, (k0_off49 v288) a + S1x16x4096.size a ≤ S16x16x4096.size a), (Rect.unit (s := S16x16x4096) (k0_off49 v288) S1x16x4096.size hinb).WholeWords (EltTy.packing .bf16)) ∧
  (∀ a, (k0_off52 v288) a + S1x1024x1024.size a ≤ S16x4096x1024.size a) ∧
  (∀ (hinb : ∀ a, (k0_off52 v288) a + S1x1024x1024.size a ≤ S16x4096x1024.size a), (Rect.unit (s := S16x4096x1024) (k0_off52 v288) S1x1024x1024.size hinb).WholeWords (EltTy.packing .i8)) ∧
  (∀ a, (k0_off54 v288) a + S1x1024x1024.size a ≤ S16x4096x1024.size a) ∧
  (∀ (hinb : ∀ a, (k0_off54 v288) a + S1x1024x1024.size a ≤ S16x4096x1024.size a), (Rect.unit (s := S16x4096x1024) (k0_off54 v288) S1x1024x1024.size hinb).WholeWords (EltTy.packing .i8))
theorem k0_off49_inb : ∀ (v288 : BitVec 32) (k0_hw8 : k0_chk8 v288), ∀ a, (k0_off49 v288) a + S1x16x4096.size a ≤ S16x16x4096.size a := fun v288 k0_hw8 => k0_hw8.1
theorem k0_off49_wordsbf16 : ∀ (v288 : BitVec 32) (k0_hw8 : k0_chk8 v288), (Rect.unit (s := S16x16x4096) (k0_off49 v288) S1x16x4096.size (k0_off49_inb v288 k0_hw8)).WholeWords (EltTy.packing .bf16) := fun v288 k0_hw8 => k0_hw8.2.1 (k0_off49_inb v288 k0_hw8)
theorem k0_off52_inb : ∀ (v288 : BitVec 32) (k0_hw8 : k0_chk8 v288), ∀ a, (k0_off52 v288) a + S1x1024x1024.size a ≤ S16x4096x1024.size a := fun v288 k0_hw8 => k0_hw8.2.2.1
theorem k0_off52_wordsi8 : ∀ (v288 : BitVec 32) (k0_hw8 : k0_chk8 v288), (Rect.unit (s := S16x4096x1024) (k0_off52 v288) S1x1024x1024.size (k0_off52_inb v288 k0_hw8)).WholeWords (EltTy.packing .i8) := fun v288 k0_hw8 => k0_hw8.2.2.2.1 (k0_off52_inb v288 k0_hw8)
theorem k0_off54_inb : ∀ (v288 : BitVec 32) (k0_hw8 : k0_chk8 v288), ∀ a, (k0_off54 v288) a + S1x1024x1024.size a ≤ S16x4096x1024.size a := fun v288 k0_hw8 => k0_hw8.2.2.2.2.1
theorem k0_off54_wordsi8 : ∀ (v288 : BitVec 32) (k0_hw8 : k0_chk8 v288), (Rect.unit (s := S16x4096x1024) (k0_off54 v288) S1x1024x1024.size (k0_off54_inb v288 k0_hw8)).WholeWords (EltTy.packing .i8) := fun v288 k0_hw8 => k0_hw8.2.2.2.2.2 (k0_off54_inb v288 k0_hw8)

def k0_off55 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 3 → Nat :=
  let c0_i32_207 : BitVec 32 := 0#32
  let c1_i32_209 : BitVec 32 := 1#32
  let arg17 : BitVec 32 := Scf.iv c0_i32_207 c1_i32_209 k0_t1
  let c2_i32_215 : BitVec 32 := 2#32
  let v280 : BitVec 32 := Scalar.remsi arg17 c2_i32_215
  let c0_i32_237 : BitVec 32 := 0#32
  let c0_i32_238 : BitVec 32 := 0#32
  ![v280.toNat, 0, 0]
def k0_off56 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 3 → Nat :=
  let c0_i32_207 : BitVec 32 := 0#32
  let c1_i32_209 : BitVec 32 := 1#32
  let arg17 : BitVec 32 := Scf.iv c0_i32_207 c1_i32_209 k0_t1
  let c2_i32_215 : BitVec 32 := 2#32
  let v280 : BitVec 32 := Scalar.remsi arg17 c2_i32_215
  let c0_i32_243 : BitVec 32 := 0#32
  let c0_i32_244 : BitVec 32 := 0#32
  ![v280.toNat, 0, 0]
def k0_off57 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 1 → Nat :=
  let c0_i32_207 : BitVec 32 := 0#32
  let c1_i32_209 : BitVec 32 := 1#32
  let arg17 : BitVec 32 := Scf.iv c0_i32_207 c1_i32_209 k0_t1
  let v2647 : Index := Scalar.indexCast arg17
  ![v2647.toNat]
def k0_off58 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 2 → Nat :=
  let c0_i32_207 : BitVec 32 := 0#32
  let c1_i32_209 : BitVec 32 := 1#32
  let arg17 : BitVec 32 := Scf.iv c0_i32_207 c1_i32_209 k0_t1
  let c2_i32_215 : BitVec 32 := 2#32
  let v280 : BitVec 32 := Scalar.remsi arg17 c2_i32_215
  let c1_i32_1191 : BitVec 32 := 1#32
  ![v280.toNat, 1]
def k0_off59 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 3 → Nat :=
  let c0_i32_207 : BitVec 32 := 0#32
  let c1_i32_209 : BitVec 32 := 1#32
  let arg17 : BitVec 32 := Scf.iv c0_i32_207 c1_i32_209 k0_t1
  let c2_i32_215 : BitVec 32 := 2#32
  let v280 : BitVec 32 := Scalar.remsi arg17 c2_i32_215
  let c1024_i32_1192 : BitVec 32 := 1024#32
  let c0_i32_1193 : BitVec 32 := 0#32
  ![v280.toNat, 1024, 0]
def k0_off60 (v2648 : BitVec 32) : Fin 3 → Nat :=
  let c1024_i32_1194 : BitVec 32 := 1024#32
  let c0_i32_1195 : BitVec 32 := 0#32
  ![v2648.toNat, 1024, 0]

def k0_off61 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 2 → Nat :=
  let c0_i32_207 : BitVec 32 := 0#32
  let c1_i32_209 : BitVec 32 := 1#32
  let arg17 : BitVec 32 := Scf.iv c0_i32_207 c1_i32_209 k0_t1
  let c2_i32_215 : BitVec 32 := 2#32
  let v280 : BitVec 32 := Scalar.remsi arg17 c2_i32_215
  let c1_i32_1196 : BitVec 32 := 1#32
  ![v280.toNat, 1]
def k0_off62 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 3 → Nat :=
  let c0_i32_207 : BitVec 32 := 0#32
  let c1_i32_209 : BitVec 32 := 1#32
  let arg17 : BitVec 32 := Scf.iv c0_i32_207 c1_i32_209 k0_t1
  let c2_i32_215 : BitVec 32 := 2#32
  let v280 : BitVec 32 := Scalar.remsi arg17 c2_i32_215
  let c3072_i32_1197 : BitVec 32 := 3072#32
  let c0_i32_1198 : BitVec 32 := 0#32
  ![v280.toNat, 3072, 0]
def k0_off63 (v2648 : BitVec 32) : Fin 3 → Nat :=
  let c3072_i32_1199 : BitVec 32 := 3072#32
  let c0_i32_1200 : BitVec 32 := 0#32
  ![v2648.toNat, 3072, 0]

def k0_chk9 (v2648 : BitVec 32) : Prop :=
  (∀ a, (k0_off60 v2648) a + S1x1024x1024.size a ≤ S16x4096x1024.size a) ∧
  (∀ (hinb : ∀ a, (k0_off60 v2648) a + S1x1024x1024.size a ≤ S16x4096x1024.size a), (Rect.unit (s := S16x4096x1024) (k0_off60 v2648) S1x1024x1024.size hinb).WholeWords (EltTy.packing .i8)) ∧
  (∀ a, (k0_off63 v2648) a + S1x1024x1024.size a ≤ S16x4096x1024.size a) ∧
  (∀ (hinb : ∀ a, (k0_off63 v2648) a + S1x1024x1024.size a ≤ S16x4096x1024.size a), (Rect.unit (s := S16x4096x1024) (k0_off63 v2648) S1x1024x1024.size hinb).WholeWords (EltTy.packing .i8))
theorem k0_off60_inb : ∀ (v2648 : BitVec 32) (k0_hw9 : k0_chk9 v2648), ∀ a, (k0_off60 v2648) a + S1x1024x1024.size a ≤ S16x4096x1024.size a := fun v2648 k0_hw9 => k0_hw9.1
theorem k0_off60_wordsi8 : ∀ (v2648 : BitVec 32) (k0_hw9 : k0_chk9 v2648), (Rect.unit (s := S16x4096x1024) (k0_off60 v2648) S1x1024x1024.size (k0_off60_inb v2648 k0_hw9)).WholeWords (EltTy.packing .i8) := fun v2648 k0_hw9 => k0_hw9.2.1 (k0_off60_inb v2648 k0_hw9)
theorem k0_off63_inb : ∀ (v2648 : BitVec 32) (k0_hw9 : k0_chk9 v2648), ∀ a, (k0_off63 v2648) a + S1x1024x1024.size a ≤ S16x4096x1024.size a := fun v2648 k0_hw9 => k0_hw9.2.2.1
theorem k0_off63_wordsi8 : ∀ (v2648 : BitVec 32) (k0_hw9 : k0_chk9 v2648), (Rect.unit (s := S16x4096x1024) (k0_off63 v2648) S1x1024x1024.size (k0_off63_inb v2648 k0_hw9)).WholeWords (EltTy.packing .i8) := fun v2648 k0_hw9 => k0_hw9.2.2.2 (k0_off63_inb v2648 k0_hw9)

def k0_off64 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 3 → Nat :=
  let c0_i32_207 : BitVec 32 := 0#32
  let c1_i32_209 : BitVec 32 := 1#32
  let arg17 : BitVec 32 := Scf.iv c0_i32_207 c1_i32_209 k0_t1
  let c2_i32_215 : BitVec 32 := 2#32
  let v280 : BitVec 32 := Scalar.remsi arg17 c2_i32_215
  let c0_i32_1205 : BitVec 32 := 0#32
  let c0_i32_1206 : BitVec 32 := 0#32
  ![v280.toNat, 0, 0]
def k0_off65 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 3 → Nat :=
  let c0_i32_207 : BitVec 32 := 0#32
  let c1_i32_209 : BitVec 32 := 1#32
  let arg17 : BitVec 32 := Scf.iv c0_i32_207 c1_i32_209 k0_t1
  let c2_i32_215 : BitVec 32 := 2#32
  let v280 : BitVec 32 := Scalar.remsi arg17 c2_i32_215
  let c0_i32_1214 : BitVec 32 := 0#32
  let c0_i32_1215 : BitVec 32 := 0#32
  ![v280.toNat, 0, 0]
def k0_off66 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 1 → Nat :=
  let c0_i32_207 : BitVec 32 := 0#32
  let c1_i32_209 : BitVec 32 := 1#32
  let arg17 : BitVec 32 := Scf.iv c0_i32_207 c1_i32_209 k0_t1
  let v5001 : Index := Scalar.indexCast arg17
  ![v5001.toNat]
def k0_off67 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 2 → Nat :=
  let c0_i32_207 : BitVec 32 := 0#32
  let c1_i32_209 : BitVec 32 := 1#32
  let arg17 : BitVec 32 := Scf.iv c0_i32_207 c1_i32_209 k0_t1
  let c2_i32_215 : BitVec 32 := 2#32
  let v280 : BitVec 32 := Scalar.remsi arg17 c2_i32_215
  let c2_i32_2173 : BitVec 32 := 2#32
  ![v280.toNat, 2]
def k0_off68 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 3 → Nat :=
  let c0_i32_207 : BitVec 32 := 0#32
  let c1_i32_209 : BitVec 32 := 1#32
  let arg17 : BitVec 32 := Scf.iv c0_i32_207 c1_i32_209 k0_t1
  let c2_i32_215 : BitVec 32 := 2#32
  let v280 : BitVec 32 := Scalar.remsi arg17 c2_i32_215
  let c0_i32_2174 : BitVec 32 := 0#32
  let c0_i32_2175 : BitVec 32 := 0#32
  ![v280.toNat, 0, 0]
def k0_off69 (v5002 : BitVec 32) : Fin 3 → Nat :=
  let c0_i32_2176 : BitVec 32 := 0#32
  let c0_i32_2177 : BitVec 32 := 0#32
  ![v5002.toNat, 0, 0]

def k0_off70 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 2 → Nat :=
  let c0_i32_207 : BitVec 32 := 0#32
  let c1_i32_209 : BitVec 32 := 1#32
  let arg17 : BitVec 32 := Scf.iv c0_i32_207 c1_i32_209 k0_t1
  let c2_i32_215 : BitVec 32 := 2#32
  let v280 : BitVec 32 := Scalar.remsi arg17 c2_i32_215
  let c2_i32_2178 : BitVec 32 := 2#32
  ![v280.toNat, 2]
def k0_off71 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 3 → Nat :=
  let c0_i32_207 : BitVec 32 := 0#32
  let c1_i32_209 : BitVec 32 := 1#32
  let arg17 : BitVec 32 := Scf.iv c0_i32_207 c1_i32_209 k0_t1
  let c2_i32_215 : BitVec 32 := 2#32
  let v280 : BitVec 32 := Scalar.remsi arg17 c2_i32_215
  let c0_i32_2179 : BitVec 32 := 0#32
  let c0_i32_2180 : BitVec 32 := 0#32
  ![v280.toNat, 0, 0]
def k0_off72 (v5002 : BitVec 32) : Fin 3 → Nat :=
  let c0_i32_2181 : BitVec 32 := 0#32
  let c0_i32_2182 : BitVec 32 := 0#32
  ![v5002.toNat, 0, 0]

def k0_chk10 (v5002 : BitVec 32) : Prop :=
  (∀ a, (k0_off69 v5002) a + S1x16x2048.size a ≤ S16x16x2048.size a) ∧
  (∀ (hinb : ∀ a, (k0_off69 v5002) a + S1x16x2048.size a ≤ S16x16x2048.size a), (Rect.unit (s := S16x16x2048) (k0_off69 v5002) S1x16x2048.size hinb).WholeWords (EltTy.packing .bf16)) ∧
  (∀ a, (k0_off72 v5002) a + S1x2048x1024.size a ≤ S16x2048x1024.size a) ∧
  (∀ (hinb : ∀ a, (k0_off72 v5002) a + S1x2048x1024.size a ≤ S16x2048x1024.size a), (Rect.unit (s := S16x2048x1024) (k0_off72 v5002) S1x2048x1024.size hinb).WholeWords (EltTy.packing .i8))
theorem k0_off69_inb : ∀ (v5002 : BitVec 32) (k0_hw10 : k0_chk10 v5002), ∀ a, (k0_off69 v5002) a + S1x16x2048.size a ≤ S16x16x2048.size a := fun v5002 k0_hw10 => k0_hw10.1
theorem k0_off69_wordsbf16 : ∀ (v5002 : BitVec 32) (k0_hw10 : k0_chk10 v5002), (Rect.unit (s := S16x16x2048) (k0_off69 v5002) S1x16x2048.size (k0_off69_inb v5002 k0_hw10)).WholeWords (EltTy.packing .bf16) := fun v5002 k0_hw10 => k0_hw10.2.1 (k0_off69_inb v5002 k0_hw10)
theorem k0_off72_inb : ∀ (v5002 : BitVec 32) (k0_hw10 : k0_chk10 v5002), ∀ a, (k0_off72 v5002) a + S1x2048x1024.size a ≤ S16x2048x1024.size a := fun v5002 k0_hw10 => k0_hw10.2.2.1
theorem k0_off72_wordsi8 : ∀ (v5002 : BitVec 32) (k0_hw10 : k0_chk10 v5002), (Rect.unit (s := S16x2048x1024) (k0_off72 v5002) S1x2048x1024.size (k0_off72_inb v5002 k0_hw10)).WholeWords (EltTy.packing .i8) := fun v5002 k0_hw10 => k0_hw10.2.2.2 (k0_off72_inb v5002 k0_hw10)

def k0_off73 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 3 → Nat :=
  let c0_i32_207 : BitVec 32 := 0#32
  let c1_i32_209 : BitVec 32 := 1#32
  let arg17 : BitVec 32 := Scf.iv c0_i32_207 c1_i32_209 k0_t1
  let c2_i32_215 : BitVec 32 := 2#32
  let v280 : BitVec 32 := Scalar.remsi arg17 c2_i32_215
  let c0_i32_2203 : BitVec 32 := 0#32
  let c0_i32_2204 : BitVec 32 := 0#32
  ![v280.toNat, 0, 0]
@[reducible] def k0_t2_loop (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) : Scf.Loop 32 :=
  let c0_i32_207 : BitVec 32 := 0#32
  let c0_i32_123 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_2 : BitVec 32 := 1#32
  let v4 : BitVec 32 := Scalar.shli c1_i32_2 v3
  let v5 : BitVec 32 := Scalar.ori v2 v4
  let c1_i32_5 : BitVec 32 := 1#32
  let v7 : BitVec 32 := Scalar.shli c1_i32_5 v6
  let v8 : BitVec 32 := Scalar.ori v5 v7
  let c1_i32_8 : BitVec 32 := 1#32
  let v10 : BitVec 32 := Scalar.shli c1_i32_8 v9
  let v11 : BitVec 32 := Scalar.ori v8 v10
  let c1_i32_10 : BitVec 32 := 1#32
  let v13 : BitVec 32 := Scalar.shli c1_i32_10 v12
  let v14 : BitVec 32 := Scalar.ori v11 v13
  let c1_i32_13 : BitVec 32 := 1#32
  let v16 : BitVec 32 := Scalar.shli c1_i32_13 v15
  let v17 : BitVec 32 := Scalar.ori v14 v16
  let c1_i32_15 : BitVec 32 := 1#32
  let v19 : BitVec 32 := Scalar.shli c1_i32_15 v18
  let v20 : BitVec 32 := Scalar.ori v17 v19
  let c1_i32_18 : BitVec 32 := 1#32
  let v22 : BitVec 32 := Scalar.shli c1_i32_18 v21
  let v23 : BitVec 32 := Scalar.ori v20 v22
  let c1_i32_20 : BitVec 32 := 1#32
  let v25 : BitVec 32 := Scalar.shli c1_i32_20 v24
  let v26 : BitVec 32 := Scalar.ori v23 v25
  let c1_i32_23 : BitVec 32 := 1#32
  let v28 : BitVec 32 := Scalar.shli c1_i32_23 v27
  let v29 : BitVec 32 := Scalar.ori v26 v28
  let c1_i32_25 : BitVec 32 := 1#32
  let v31 : BitVec 32 := Scalar.shli c1_i32_25 v30
  let v32 : BitVec 32 := Scalar.ori v29 v31
  let c1_i32_28 : BitVec 32 := 1#32
  let v34 : BitVec 32 := Scalar.shli c1_i32_28 v33
  let v35 : BitVec 32 := Scalar.ori v32 v34
  let c1_i32_30 : BitVec 32 := 1#32
  let v37 : BitVec 32 := Scalar.shli c1_i32_30 v36
  let v38 : BitVec 32 := Scalar.ori v35 v37
  let c1_i32_33 : BitVec 32 := 1#32
  let v40 : BitVec 32 := Scalar.shli c1_i32_33 v39
  let v41 : BitVec 32 := Scalar.ori v38 v40
  let c1_i32_35 : BitVec 32 := 1#32
  let v43 : BitVec 32 := Scalar.shli c1_i32_35 v42
  let v44 : BitVec 32 := Scalar.ori v41 v43
  let c1_i32_38 : BitVec 32 := 1#32
  let v46 : BitVec 32 := Scalar.shli c1_i32_38 v45
  let v47 : BitVec 32 := Scalar.ori v44 v46
  let c1_i32_40 : BitVec 32 := 1#32
  let v49 : BitVec 32 := Scalar.shli c1_i32_40 v48
  let v50 : BitVec 32 := Scalar.ori v47 v49
  let c1_i32_43 : BitVec 32 := 1#32
  let v52 : BitVec 32 := Scalar.shli c1_i32_43 v51
  let v53 : BitVec 32 := Scalar.ori v50 v52
  let c1_i32_45 : BitVec 32 := 1#32
  let v55 : BitVec 32 := Scalar.shli c1_i32_45 v54
  let v56 : BitVec 32 := Scalar.ori v53 v55
  let c1_i32_48 : BitVec 32 := 1#32
  let v58 : BitVec 32 := Scalar.shli c1_i32_48 v57
  let v59 : BitVec 32 := Scalar.ori v56 v58
  let c1_i32_50 : BitVec 32 := 1#32
  let v61 : BitVec 32 := Scalar.shli c1_i32_50 v60
  let v62 : BitVec 32 := Scalar.ori v59 v61
  let c1_i32_53 : BitVec 32 := 1#32
  let v64 : BitVec 32 := Scalar.shli c1_i32_53 v63
  let v65 : BitVec 32 := Scalar.ori v62 v64
  let c1_i32_55 : BitVec 32 := 1#32
  let v67 : BitVec 32 := Scalar.shli c1_i32_55 v66
  let v68 : BitVec 32 := Scalar.ori v65 v67
  let c1_i32_58 : BitVec 32 := 1#32
  let v70 : BitVec 32 := Scalar.shli c1_i32_58 v69
  let v71 : BitVec 32 := Scalar.ori v68 v70
  let c1_i32_60 : BitVec 32 := 1#32
  let v73 : BitVec 32 := Scalar.shli c1_i32_60 v72
  let v74 : BitVec 32 := Scalar.ori v71 v73
  let c1_i32_63 : BitVec 32 := 1#32
  let v76 : BitVec 32 := Scalar.shli c1_i32_63 v75
  let v77 : BitVec 32 := Scalar.ori v74 v76
  let c1_i32_65 : BitVec 32 := 1#32
  let v79 : BitVec 32 := Scalar.shli c1_i32_65 v78
  let v80 : BitVec 32 := Scalar.ori v77 v79
  let c1_i32_68 : BitVec 32 := 1#32
  let v82 : BitVec 32 := Scalar.shli c1_i32_68 v81
  let v83 : BitVec 32 := Scalar.ori v80 v82
  let c1_i32_70 : BitVec 32 := 1#32
  let v85 : BitVec 32 := Scalar.shli c1_i32_70 v84
  let v86 : BitVec 32 := Scalar.ori v83 v85
  let c1_i32_73 : BitVec 32 := 1#32
  let v88 : BitVec 32 := Scalar.shli c1_i32_73 v87
  let v89 : BitVec 32 := Scalar.ori v86 v88
  let c1_i32_75 : BitVec 32 := 1#32
  let v91 : BitVec 32 := Scalar.shli c1_i32_75 v90
  let v92 : BitVec 32 := Scalar.ori v89 v91
  let c1_i32_78 : BitVec 32 := 1#32
  let v94 : BitVec 32 := Scalar.shli c1_i32_78 v93
  let v95 : BitVec 32 := Scalar.ori v92 v94
  let c1_i32_80 : BitVec 32 := 1#32
  let v97 : BitVec 32 := Scalar.shli c1_i32_80 v96
  let v98 : BitVec 32 := Scalar.ori v95 v97
  let c1_i32_83 : BitVec 32 := 1#32
  let v100 : BitVec 32 := Scalar.shli c1_i32_83 v99
  let v101 : BitVec 32 := Scalar.ori v98 v100
  let c1_i32_85 : BitVec 32 := 1#32
  let v103 : BitVec 32 := Scalar.shli c1_i32_85 v102
  let v104 : BitVec 32 := Scalar.ori v101 v103
  let c1_i32_88 : BitVec 32 := 1#32
  let v106 : BitVec 32 := Scalar.shli c1_i32_88 v105
  let v107 : BitVec 32 := Scalar.ori v104 v106
  let c1_i32_90 : BitVec 32 := 1#32
  let v109 : BitVec 32 := Scalar.shli c1_i32_90 v108
  let v110 : BitVec 32 := Scalar.ori v107 v109
  let c1_i32_93 : BitVec 32 := 1#32
  let v112 : BitVec 32 := Scalar.shli c1_i32_93 v111
  let v113 : BitVec 32 := Scalar.ori v110 v112
  let c1_i32_95 : BitVec 32 := 1#32
  let v115 : BitVec 32 := Scalar.shli c1_i32_95 v114
  let v116 : BitVec 32 := Scalar.ori v113 v115
  let c1_i32_98 : BitVec 32 := 1#32
  let v118 : BitVec 32 := Scalar.shli c1_i32_98 v117
  let v119 : BitVec 32 := Scalar.ori v116 v118
  let c1_i32_100 : BitVec 32 := 1#32
  let v121 : BitVec 32 := Scalar.shli c1_i32_100 v120
  let v122 : BitVec 32 := Scalar.ori v119 v121
  let c1_i32_103 : BitVec 32 := 1#32
  let v124 : BitVec 32 := Scalar.shli c1_i32_103 v123
  let v125 : BitVec 32 := Scalar.ori v122 v124
  let c1_i32_105 : BitVec 32 := 1#32
  let v127 : BitVec 32 := Scalar.shli c1_i32_105 v126
  let v128 : BitVec 32 := Scalar.ori v125 v127
  let c1_i32_108 : BitVec 32 := 1#32
  let v130 : BitVec 32 := Scalar.shli c1_i32_108 v129
  let v131 : BitVec 32 := Scalar.ori v128 v130
  let c1_i32_110 : BitVec 32 := 1#32
  let v133 : BitVec 32 := Scalar.shli c1_i32_110 v132
  let v134 : BitVec 32 := Scalar.ori v131 v133
  let c1_i32_113 : BitVec 32 := 1#32
  let v136 : BitVec 32 := Scalar.shli c1_i32_113 v135
  let v137 : BitVec 32 := Scalar.ori v134 v136
  let c1_i32_115 : BitVec 32 := 1#32
  let v139 : BitVec 32 := Scalar.shli c1_i32_115 v138
  let v140 : BitVec 32 := Scalar.ori v137 v139
  let c1_i32_118 : BitVec 32 := 1#32
  let v142 : BitVec 32 := Scalar.shli c1_i32_118 v141
  let v143 : BitVec 32 := Scalar.ori v140 v142
  let c0_i32_121 : BitVec 32 := 0#32
  let v145 : BitVec 32 := Scalar.shrsi v143 c0_i32_121
  let c1_i32_122 : BitVec 32 := 1#32
  let v146 : BitVec 32 := Scalar.andi v145 c1_i32_122
  let v147 : BitVec 32 := Scalar.addi c0_i32_123 v146
  let c1_i32_125 : BitVec 32 := 1#32
  let v150 : BitVec 32 := Scalar.shrsi v143 c1_i32_125
  let c1_i32_126 : BitVec 32 := 1#32
  let v151 : BitVec 32 := Scalar.andi v150 c1_i32_126
  let v152 : BitVec 32 := Scalar.addi v147 v151
  let c2_i32_127 : BitVec 32 := 2#32
  let v155 : BitVec 32 := Scalar.shrsi v143 c2_i32_127
  let c1_i32_128 : BitVec 32 := 1#32
  let v156 : BitVec 32 := Scalar.andi v155 c1_i32_128
  let v157 : BitVec 32 := Scalar.addi v152 v156
  let c3_i32_129 : BitVec 32 := 3#32
  let v160 : BitVec 32 := Scalar.shrsi v143 c3_i32_129
  let c1_i32_130 : BitVec 32 := 1#32
  let v161 : BitVec 32 := Scalar.andi v160 c1_i32_130
  let v162 : BitVec 32 := Scalar.addi v157 v161
  let c4_i32_131 : BitVec 32 := 4#32
  let v165 : BitVec 32 := Scalar.shrsi v143 c4_i32_131
  let c1_i32_132 : BitVec 32 := 1#32
  let v166 : BitVec 32 := Scalar.andi v165 c1_i32_132
  let v167 : BitVec 32 := Scalar.addi v162 v166
  let c5_i32_133 : BitVec 32 := 5#32
  let v170 : BitVec 32 := Scalar.shrsi v143 c5_i32_133
  let c1_i32_134 : BitVec 32 := 1#32
  let v171 : BitVec 32 := Scalar.andi v170 c1_i32_134
  let v172 : BitVec 32 := Scalar.addi v167 v171
  let c6_i32_135 : BitVec 32 := 6#32
  let v175 : BitVec 32 := Scalar.shrsi v143 c6_i32_135
  let c1_i32_136 : BitVec 32 := 1#32
  let v176 : BitVec 32 := Scalar.andi v175 c1_i32_136
  let v177 : BitVec 32 := Scalar.addi v172 v176
  let c7_i32_137 : BitVec 32 := 7#32
  let v180 : BitVec 32 := Scalar.shrsi v143 c7_i32_137
  let c1_i32_138 : BitVec 32 := 1#32
  let v181 : BitVec 32 := Scalar.andi v180 c1_i32_138
  let v182 : BitVec 32 := Scalar.addi v177 v181
  let c8_i32_139 : BitVec 32 := 8#32
  let v185 : BitVec 32 := Scalar.shrsi v143 c8_i32_139
  let c1_i32_140 : BitVec 32 := 1#32
  let v186 : BitVec 32 := Scalar.andi v185 c1_i32_140
  let v187 : BitVec 32 := Scalar.addi v182 v186
  let c9_i32_141 : BitVec 32 := 9#32
  let v190 : BitVec 32 := Scalar.shrsi v143 c9_i32_141
  let c1_i32_142 : BitVec 32 := 1#32
  let v191 : BitVec 32 := Scalar.andi v190 c1_i32_142
  let v192 : BitVec 32 := Scalar.addi v187 v191
  let c10_i32_143 : BitVec 32 := 10#32
  let v195 : BitVec 32 := Scalar.shrsi v143 c10_i32_143
  let c1_i32_144 : BitVec 32 := 1#32
  let v196 : BitVec 32 := Scalar.andi v195 c1_i32_144
  let v197 : BitVec 32 := Scalar.addi v192 v196
  let c11_i32_145 : BitVec 32 := 11#32
  let v200 : BitVec 32 := Scalar.shrsi v143 c11_i32_145
  let c1_i32_146 : BitVec 32 := 1#32
  let v201 : BitVec 32 := Scalar.andi v200 c1_i32_146
  let v202 : BitVec 32 := Scalar.addi v197 v201
  let c12_i32_147 : BitVec 32 := 12#32
  let v205 : BitVec 32 := Scalar.shrsi v143 c12_i32_147
  let c1_i32_148 : BitVec 32 := 1#32
  let v206 : BitVec 32 := Scalar.andi v205 c1_i32_148
  let v207 : BitVec 32 := Scalar.addi v202 v206
  let c13_i32_149 : BitVec 32 := 13#32
  let v210 : BitVec 32 := Scalar.shrsi v143 c13_i32_149
  let c1_i32_150 : BitVec 32 := 1#32
  let v211 : BitVec 32 := Scalar.andi v210 c1_i32_150
  let v212 : BitVec 32 := Scalar.addi v207 v211
  let c14_i32_151 : BitVec 32 := 14#32
  let v215 : BitVec 32 := Scalar.shrsi v143 c14_i32_151
  let c1_i32_152 : BitVec 32 := 1#32
  let v216 : BitVec 32 := Scalar.andi v215 c1_i32_152
  let v217 : BitVec 32 := Scalar.addi v212 v216
  let c15_i32_153 : BitVec 32 := 15#32
  let v220 : BitVec 32 := Scalar.shrsi v143 c15_i32_153
  let c1_i32_154 : BitVec 32 := 1#32
  let v221 : BitVec 32 := Scalar.andi v220 c1_i32_154
  let v222 : BitVec 32 := Scalar.addi v217 v221
  let v272 : BitVec 32 := Scalar.subi v222 c0_i32_207
  let c1_i32_208 : BitVec 32 := 1#32
  let v274 : BitVec 32 := Scalar.divsi v272 c1_i32_208
  let v275 : BitVec 32 := Scalar.muli v274 c1_i32_208
  let v276 : BitVec 32 := Scalar.addi c0_i32_207 v275
  let v273 : BitVec 32 := Scalar.addi c0_i32_207 v272
  let c1_i32_210 : BitVec 32 := 1#32
  ⟨v276, v273, c1_i32_210⟩
def k0_off74 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 1 → Nat :=
  let c0_i32_207 : BitVec 32 := 0#32
  let c0_i32_123 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_2 : BitVec 32 := 1#32
  let v4 : BitVec 32 := Scalar.shli c1_i32_2 v3
  let v5 : BitVec 32 := Scalar.ori v2 v4
  let c1_i32_5 : BitVec 32 := 1#32
  let v7 : BitVec 32 := Scalar.shli c1_i32_5 v6
  let v8 : BitVec 32 := Scalar.ori v5 v7
  let c1_i32_8 : BitVec 32 := 1#32
  let v10 : BitVec 32 := Scalar.shli c1_i32_8 v9
  let v11 : BitVec 32 := Scalar.ori v8 v10
  let c1_i32_10 : BitVec 32 := 1#32
  let v13 : BitVec 32 := Scalar.shli c1_i32_10 v12
  let v14 : BitVec 32 := Scalar.ori v11 v13
  let c1_i32_13 : BitVec 32 := 1#32
  let v16 : BitVec 32 := Scalar.shli c1_i32_13 v15
  let v17 : BitVec 32 := Scalar.ori v14 v16
  let c1_i32_15 : BitVec 32 := 1#32
  let v19 : BitVec 32 := Scalar.shli c1_i32_15 v18
  let v20 : BitVec 32 := Scalar.ori v17 v19
  let c1_i32_18 : BitVec 32 := 1#32
  let v22 : BitVec 32 := Scalar.shli c1_i32_18 v21
  let v23 : BitVec 32 := Scalar.ori v20 v22
  let c1_i32_20 : BitVec 32 := 1#32
  let v25 : BitVec 32 := Scalar.shli c1_i32_20 v24
  let v26 : BitVec 32 := Scalar.ori v23 v25
  let c1_i32_23 : BitVec 32 := 1#32
  let v28 : BitVec 32 := Scalar.shli c1_i32_23 v27
  let v29 : BitVec 32 := Scalar.ori v26 v28
  let c1_i32_25 : BitVec 32 := 1#32
  let v31 : BitVec 32 := Scalar.shli c1_i32_25 v30
  let v32 : BitVec 32 := Scalar.ori v29 v31
  let c1_i32_28 : BitVec 32 := 1#32
  let v34 : BitVec 32 := Scalar.shli c1_i32_28 v33
  let v35 : BitVec 32 := Scalar.ori v32 v34
  let c1_i32_30 : BitVec 32 := 1#32
  let v37 : BitVec 32 := Scalar.shli c1_i32_30 v36
  let v38 : BitVec 32 := Scalar.ori v35 v37
  let c1_i32_33 : BitVec 32 := 1#32
  let v40 : BitVec 32 := Scalar.shli c1_i32_33 v39
  let v41 : BitVec 32 := Scalar.ori v38 v40
  let c1_i32_35 : BitVec 32 := 1#32
  let v43 : BitVec 32 := Scalar.shli c1_i32_35 v42
  let v44 : BitVec 32 := Scalar.ori v41 v43
  let c1_i32_38 : BitVec 32 := 1#32
  let v46 : BitVec 32 := Scalar.shli c1_i32_38 v45
  let v47 : BitVec 32 := Scalar.ori v44 v46
  let c1_i32_40 : BitVec 32 := 1#32
  let v49 : BitVec 32 := Scalar.shli c1_i32_40 v48
  let v50 : BitVec 32 := Scalar.ori v47 v49
  let c1_i32_43 : BitVec 32 := 1#32
  let v52 : BitVec 32 := Scalar.shli c1_i32_43 v51
  let v53 : BitVec 32 := Scalar.ori v50 v52
  let c1_i32_45 : BitVec 32 := 1#32
  let v55 : BitVec 32 := Scalar.shli c1_i32_45 v54
  let v56 : BitVec 32 := Scalar.ori v53 v55
  let c1_i32_48 : BitVec 32 := 1#32
  let v58 : BitVec 32 := Scalar.shli c1_i32_48 v57
  let v59 : BitVec 32 := Scalar.ori v56 v58
  let c1_i32_50 : BitVec 32 := 1#32
  let v61 : BitVec 32 := Scalar.shli c1_i32_50 v60
  let v62 : BitVec 32 := Scalar.ori v59 v61
  let c1_i32_53 : BitVec 32 := 1#32
  let v64 : BitVec 32 := Scalar.shli c1_i32_53 v63
  let v65 : BitVec 32 := Scalar.ori v62 v64
  let c1_i32_55 : BitVec 32 := 1#32
  let v67 : BitVec 32 := Scalar.shli c1_i32_55 v66
  let v68 : BitVec 32 := Scalar.ori v65 v67
  let c1_i32_58 : BitVec 32 := 1#32
  let v70 : BitVec 32 := Scalar.shli c1_i32_58 v69
  let v71 : BitVec 32 := Scalar.ori v68 v70
  let c1_i32_60 : BitVec 32 := 1#32
  let v73 : BitVec 32 := Scalar.shli c1_i32_60 v72
  let v74 : BitVec 32 := Scalar.ori v71 v73
  let c1_i32_63 : BitVec 32 := 1#32
  let v76 : BitVec 32 := Scalar.shli c1_i32_63 v75
  let v77 : BitVec 32 := Scalar.ori v74 v76
  let c1_i32_65 : BitVec 32 := 1#32
  let v79 : BitVec 32 := Scalar.shli c1_i32_65 v78
  let v80 : BitVec 32 := Scalar.ori v77 v79
  let c1_i32_68 : BitVec 32 := 1#32
  let v82 : BitVec 32 := Scalar.shli c1_i32_68 v81
  let v83 : BitVec 32 := Scalar.ori v80 v82
  let c1_i32_70 : BitVec 32 := 1#32
  let v85 : BitVec 32 := Scalar.shli c1_i32_70 v84
  let v86 : BitVec 32 := Scalar.ori v83 v85
  let c1_i32_73 : BitVec 32 := 1#32
  let v88 : BitVec 32 := Scalar.shli c1_i32_73 v87
  let v89 : BitVec 32 := Scalar.ori v86 v88
  let c1_i32_75 : BitVec 32 := 1#32
  let v91 : BitVec 32 := Scalar.shli c1_i32_75 v90
  let v92 : BitVec 32 := Scalar.ori v89 v91
  let c1_i32_78 : BitVec 32 := 1#32
  let v94 : BitVec 32 := Scalar.shli c1_i32_78 v93
  let v95 : BitVec 32 := Scalar.ori v92 v94
  let c1_i32_80 : BitVec 32 := 1#32
  let v97 : BitVec 32 := Scalar.shli c1_i32_80 v96
  let v98 : BitVec 32 := Scalar.ori v95 v97
  let c1_i32_83 : BitVec 32 := 1#32
  let v100 : BitVec 32 := Scalar.shli c1_i32_83 v99
  let v101 : BitVec 32 := Scalar.ori v98 v100
  let c1_i32_85 : BitVec 32 := 1#32
  let v103 : BitVec 32 := Scalar.shli c1_i32_85 v102
  let v104 : BitVec 32 := Scalar.ori v101 v103
  let c1_i32_88 : BitVec 32 := 1#32
  let v106 : BitVec 32 := Scalar.shli c1_i32_88 v105
  let v107 : BitVec 32 := Scalar.ori v104 v106
  let c1_i32_90 : BitVec 32 := 1#32
  let v109 : BitVec 32 := Scalar.shli c1_i32_90 v108
  let v110 : BitVec 32 := Scalar.ori v107 v109
  let c1_i32_93 : BitVec 32 := 1#32
  let v112 : BitVec 32 := Scalar.shli c1_i32_93 v111
  let v113 : BitVec 32 := Scalar.ori v110 v112
  let c1_i32_95 : BitVec 32 := 1#32
  let v115 : BitVec 32 := Scalar.shli c1_i32_95 v114
  let v116 : BitVec 32 := Scalar.ori v113 v115
  let c1_i32_98 : BitVec 32 := 1#32
  let v118 : BitVec 32 := Scalar.shli c1_i32_98 v117
  let v119 : BitVec 32 := Scalar.ori v116 v118
  let c1_i32_100 : BitVec 32 := 1#32
  let v121 : BitVec 32 := Scalar.shli c1_i32_100 v120
  let v122 : BitVec 32 := Scalar.ori v119 v121
  let c1_i32_103 : BitVec 32 := 1#32
  let v124 : BitVec 32 := Scalar.shli c1_i32_103 v123
  let v125 : BitVec 32 := Scalar.ori v122 v124
  let c1_i32_105 : BitVec 32 := 1#32
  let v127 : BitVec 32 := Scalar.shli c1_i32_105 v126
  let v128 : BitVec 32 := Scalar.ori v125 v127
  let c1_i32_108 : BitVec 32 := 1#32
  let v130 : BitVec 32 := Scalar.shli c1_i32_108 v129
  let v131 : BitVec 32 := Scalar.ori v128 v130
  let c1_i32_110 : BitVec 32 := 1#32
  let v133 : BitVec 32 := Scalar.shli c1_i32_110 v132
  let v134 : BitVec 32 := Scalar.ori v131 v133
  let c1_i32_113 : BitVec 32 := 1#32
  let v136 : BitVec 32 := Scalar.shli c1_i32_113 v135
  let v137 : BitVec 32 := Scalar.ori v134 v136
  let c1_i32_115 : BitVec 32 := 1#32
  let v139 : BitVec 32 := Scalar.shli c1_i32_115 v138
  let v140 : BitVec 32 := Scalar.ori v137 v139
  let c1_i32_118 : BitVec 32 := 1#32
  let v142 : BitVec 32 := Scalar.shli c1_i32_118 v141
  let v143 : BitVec 32 := Scalar.ori v140 v142
  let c0_i32_121 : BitVec 32 := 0#32
  let v145 : BitVec 32 := Scalar.shrsi v143 c0_i32_121
  let c1_i32_122 : BitVec 32 := 1#32
  let v146 : BitVec 32 := Scalar.andi v145 c1_i32_122
  let v147 : BitVec 32 := Scalar.addi c0_i32_123 v146
  let c1_i32_125 : BitVec 32 := 1#32
  let v150 : BitVec 32 := Scalar.shrsi v143 c1_i32_125
  let c1_i32_126 : BitVec 32 := 1#32
  let v151 : BitVec 32 := Scalar.andi v150 c1_i32_126
  let v152 : BitVec 32 := Scalar.addi v147 v151
  let c2_i32_127 : BitVec 32 := 2#32
  let v155 : BitVec 32 := Scalar.shrsi v143 c2_i32_127
  let c1_i32_128 : BitVec 32 := 1#32
  let v156 : BitVec 32 := Scalar.andi v155 c1_i32_128
  let v157 : BitVec 32 := Scalar.addi v152 v156
  let c3_i32_129 : BitVec 32 := 3#32
  let v160 : BitVec 32 := Scalar.shrsi v143 c3_i32_129
  let c1_i32_130 : BitVec 32 := 1#32
  let v161 : BitVec 32 := Scalar.andi v160 c1_i32_130
  let v162 : BitVec 32 := Scalar.addi v157 v161
  let c4_i32_131 : BitVec 32 := 4#32
  let v165 : BitVec 32 := Scalar.shrsi v143 c4_i32_131
  let c1_i32_132 : BitVec 32 := 1#32
  let v166 : BitVec 32 := Scalar.andi v165 c1_i32_132
  let v167 : BitVec 32 := Scalar.addi v162 v166
  let c5_i32_133 : BitVec 32 := 5#32
  let v170 : BitVec 32 := Scalar.shrsi v143 c5_i32_133
  let c1_i32_134 : BitVec 32 := 1#32
  let v171 : BitVec 32 := Scalar.andi v170 c1_i32_134
  let v172 : BitVec 32 := Scalar.addi v167 v171
  let c6_i32_135 : BitVec 32 := 6#32
  let v175 : BitVec 32 := Scalar.shrsi v143 c6_i32_135
  let c1_i32_136 : BitVec 32 := 1#32
  let v176 : BitVec 32 := Scalar.andi v175 c1_i32_136
  let v177 : BitVec 32 := Scalar.addi v172 v176
  let c7_i32_137 : BitVec 32 := 7#32
  let v180 : BitVec 32 := Scalar.shrsi v143 c7_i32_137
  let c1_i32_138 : BitVec 32 := 1#32
  let v181 : BitVec 32 := Scalar.andi v180 c1_i32_138
  let v182 : BitVec 32 := Scalar.addi v177 v181
  let c8_i32_139 : BitVec 32 := 8#32
  let v185 : BitVec 32 := Scalar.shrsi v143 c8_i32_139
  let c1_i32_140 : BitVec 32 := 1#32
  let v186 : BitVec 32 := Scalar.andi v185 c1_i32_140
  let v187 : BitVec 32 := Scalar.addi v182 v186
  let c9_i32_141 : BitVec 32 := 9#32
  let v190 : BitVec 32 := Scalar.shrsi v143 c9_i32_141
  let c1_i32_142 : BitVec 32 := 1#32
  let v191 : BitVec 32 := Scalar.andi v190 c1_i32_142
  let v192 : BitVec 32 := Scalar.addi v187 v191
  let c10_i32_143 : BitVec 32 := 10#32
  let v195 : BitVec 32 := Scalar.shrsi v143 c10_i32_143
  let c1_i32_144 : BitVec 32 := 1#32
  let v196 : BitVec 32 := Scalar.andi v195 c1_i32_144
  let v197 : BitVec 32 := Scalar.addi v192 v196
  let c11_i32_145 : BitVec 32 := 11#32
  let v200 : BitVec 32 := Scalar.shrsi v143 c11_i32_145
  let c1_i32_146 : BitVec 32 := 1#32
  let v201 : BitVec 32 := Scalar.andi v200 c1_i32_146
  let v202 : BitVec 32 := Scalar.addi v197 v201
  let c12_i32_147 : BitVec 32 := 12#32
  let v205 : BitVec 32 := Scalar.shrsi v143 c12_i32_147
  let c1_i32_148 : BitVec 32 := 1#32
  let v206 : BitVec 32 := Scalar.andi v205 c1_i32_148
  let v207 : BitVec 32 := Scalar.addi v202 v206
  let c13_i32_149 : BitVec 32 := 13#32
  let v210 : BitVec 32 := Scalar.shrsi v143 c13_i32_149
  let c1_i32_150 : BitVec 32 := 1#32
  let v211 : BitVec 32 := Scalar.andi v210 c1_i32_150
  let v212 : BitVec 32 := Scalar.addi v207 v211
  let c14_i32_151 : BitVec 32 := 14#32
  let v215 : BitVec 32 := Scalar.shrsi v143 c14_i32_151
  let c1_i32_152 : BitVec 32 := 1#32
  let v216 : BitVec 32 := Scalar.andi v215 c1_i32_152
  let v217 : BitVec 32 := Scalar.addi v212 v216
  let c15_i32_153 : BitVec 32 := 15#32
  let v220 : BitVec 32 := Scalar.shrsi v143 c15_i32_153
  let c1_i32_154 : BitVec 32 := 1#32
  let v221 : BitVec 32 := Scalar.andi v220 c1_i32_154
  let v222 : BitVec 32 := Scalar.addi v217 v221
  let v272 : BitVec 32 := Scalar.subi v222 c0_i32_207
  let c1_i32_208 : BitVec 32 := 1#32
  let v274 : BitVec 32 := Scalar.divsi v272 c1_i32_208
  let v275 : BitVec 32 := Scalar.muli v274 c1_i32_208
  let v276 : BitVec 32 := Scalar.addi c0_i32_207 v275
  let c1_i32_210 : BitVec 32 := 1#32
  let arg17 : BitVec 32 := Scf.iv v276 c1_i32_210 k0_t2
  let v281 : Index := Scalar.indexCast arg17
  ![v281.toNat]
def k0_off75 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 1 → Nat :=
  let c0_i32_207 : BitVec 32 := 0#32
  let c0_i32_123 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_2 : BitVec 32 := 1#32
  let v4 : BitVec 32 := Scalar.shli c1_i32_2 v3
  let v5 : BitVec 32 := Scalar.ori v2 v4
  let c1_i32_5 : BitVec 32 := 1#32
  let v7 : BitVec 32 := Scalar.shli c1_i32_5 v6
  let v8 : BitVec 32 := Scalar.ori v5 v7
  let c1_i32_8 : BitVec 32 := 1#32
  let v10 : BitVec 32 := Scalar.shli c1_i32_8 v9
  let v11 : BitVec 32 := Scalar.ori v8 v10
  let c1_i32_10 : BitVec 32 := 1#32
  let v13 : BitVec 32 := Scalar.shli c1_i32_10 v12
  let v14 : BitVec 32 := Scalar.ori v11 v13
  let c1_i32_13 : BitVec 32 := 1#32
  let v16 : BitVec 32 := Scalar.shli c1_i32_13 v15
  let v17 : BitVec 32 := Scalar.ori v14 v16
  let c1_i32_15 : BitVec 32 := 1#32
  let v19 : BitVec 32 := Scalar.shli c1_i32_15 v18
  let v20 : BitVec 32 := Scalar.ori v17 v19
  let c1_i32_18 : BitVec 32 := 1#32
  let v22 : BitVec 32 := Scalar.shli c1_i32_18 v21
  let v23 : BitVec 32 := Scalar.ori v20 v22
  let c1_i32_20 : BitVec 32 := 1#32
  let v25 : BitVec 32 := Scalar.shli c1_i32_20 v24
  let v26 : BitVec 32 := Scalar.ori v23 v25
  let c1_i32_23 : BitVec 32 := 1#32
  let v28 : BitVec 32 := Scalar.shli c1_i32_23 v27
  let v29 : BitVec 32 := Scalar.ori v26 v28
  let c1_i32_25 : BitVec 32 := 1#32
  let v31 : BitVec 32 := Scalar.shli c1_i32_25 v30
  let v32 : BitVec 32 := Scalar.ori v29 v31
  let c1_i32_28 : BitVec 32 := 1#32
  let v34 : BitVec 32 := Scalar.shli c1_i32_28 v33
  let v35 : BitVec 32 := Scalar.ori v32 v34
  let c1_i32_30 : BitVec 32 := 1#32
  let v37 : BitVec 32 := Scalar.shli c1_i32_30 v36
  let v38 : BitVec 32 := Scalar.ori v35 v37
  let c1_i32_33 : BitVec 32 := 1#32
  let v40 : BitVec 32 := Scalar.shli c1_i32_33 v39
  let v41 : BitVec 32 := Scalar.ori v38 v40
  let c1_i32_35 : BitVec 32 := 1#32
  let v43 : BitVec 32 := Scalar.shli c1_i32_35 v42
  let v44 : BitVec 32 := Scalar.ori v41 v43
  let c1_i32_38 : BitVec 32 := 1#32
  let v46 : BitVec 32 := Scalar.shli c1_i32_38 v45
  let v47 : BitVec 32 := Scalar.ori v44 v46
  let c1_i32_40 : BitVec 32 := 1#32
  let v49 : BitVec 32 := Scalar.shli c1_i32_40 v48
  let v50 : BitVec 32 := Scalar.ori v47 v49
  let c1_i32_43 : BitVec 32 := 1#32
  let v52 : BitVec 32 := Scalar.shli c1_i32_43 v51
  let v53 : BitVec 32 := Scalar.ori v50 v52
  let c1_i32_45 : BitVec 32 := 1#32
  let v55 : BitVec 32 := Scalar.shli c1_i32_45 v54
  let v56 : BitVec 32 := Scalar.ori v53 v55
  let c1_i32_48 : BitVec 32 := 1#32
  let v58 : BitVec 32 := Scalar.shli c1_i32_48 v57
  let v59 : BitVec 32 := Scalar.ori v56 v58
  let c1_i32_50 : BitVec 32 := 1#32
  let v61 : BitVec 32 := Scalar.shli c1_i32_50 v60
  let v62 : BitVec 32 := Scalar.ori v59 v61
  let c1_i32_53 : BitVec 32 := 1#32
  let v64 : BitVec 32 := Scalar.shli c1_i32_53 v63
  let v65 : BitVec 32 := Scalar.ori v62 v64
  let c1_i32_55 : BitVec 32 := 1#32
  let v67 : BitVec 32 := Scalar.shli c1_i32_55 v66
  let v68 : BitVec 32 := Scalar.ori v65 v67
  let c1_i32_58 : BitVec 32 := 1#32
  let v70 : BitVec 32 := Scalar.shli c1_i32_58 v69
  let v71 : BitVec 32 := Scalar.ori v68 v70
  let c1_i32_60 : BitVec 32 := 1#32
  let v73 : BitVec 32 := Scalar.shli c1_i32_60 v72
  let v74 : BitVec 32 := Scalar.ori v71 v73
  let c1_i32_63 : BitVec 32 := 1#32
  let v76 : BitVec 32 := Scalar.shli c1_i32_63 v75
  let v77 : BitVec 32 := Scalar.ori v74 v76
  let c1_i32_65 : BitVec 32 := 1#32
  let v79 : BitVec 32 := Scalar.shli c1_i32_65 v78
  let v80 : BitVec 32 := Scalar.ori v77 v79
  let c1_i32_68 : BitVec 32 := 1#32
  let v82 : BitVec 32 := Scalar.shli c1_i32_68 v81
  let v83 : BitVec 32 := Scalar.ori v80 v82
  let c1_i32_70 : BitVec 32 := 1#32
  let v85 : BitVec 32 := Scalar.shli c1_i32_70 v84
  let v86 : BitVec 32 := Scalar.ori v83 v85
  let c1_i32_73 : BitVec 32 := 1#32
  let v88 : BitVec 32 := Scalar.shli c1_i32_73 v87
  let v89 : BitVec 32 := Scalar.ori v86 v88
  let c1_i32_75 : BitVec 32 := 1#32
  let v91 : BitVec 32 := Scalar.shli c1_i32_75 v90
  let v92 : BitVec 32 := Scalar.ori v89 v91
  let c1_i32_78 : BitVec 32 := 1#32
  let v94 : BitVec 32 := Scalar.shli c1_i32_78 v93
  let v95 : BitVec 32 := Scalar.ori v92 v94
  let c1_i32_80 : BitVec 32 := 1#32
  let v97 : BitVec 32 := Scalar.shli c1_i32_80 v96
  let v98 : BitVec 32 := Scalar.ori v95 v97
  let c1_i32_83 : BitVec 32 := 1#32
  let v100 : BitVec 32 := Scalar.shli c1_i32_83 v99
  let v101 : BitVec 32 := Scalar.ori v98 v100
  let c1_i32_85 : BitVec 32 := 1#32
  let v103 : BitVec 32 := Scalar.shli c1_i32_85 v102
  let v104 : BitVec 32 := Scalar.ori v101 v103
  let c1_i32_88 : BitVec 32 := 1#32
  let v106 : BitVec 32 := Scalar.shli c1_i32_88 v105
  let v107 : BitVec 32 := Scalar.ori v104 v106
  let c1_i32_90 : BitVec 32 := 1#32
  let v109 : BitVec 32 := Scalar.shli c1_i32_90 v108
  let v110 : BitVec 32 := Scalar.ori v107 v109
  let c1_i32_93 : BitVec 32 := 1#32
  let v112 : BitVec 32 := Scalar.shli c1_i32_93 v111
  let v113 : BitVec 32 := Scalar.ori v110 v112
  let c1_i32_95 : BitVec 32 := 1#32
  let v115 : BitVec 32 := Scalar.shli c1_i32_95 v114
  let v116 : BitVec 32 := Scalar.ori v113 v115
  let c1_i32_98 : BitVec 32 := 1#32
  let v118 : BitVec 32 := Scalar.shli c1_i32_98 v117
  let v119 : BitVec 32 := Scalar.ori v116 v118
  let c1_i32_100 : BitVec 32 := 1#32
  let v121 : BitVec 32 := Scalar.shli c1_i32_100 v120
  let v122 : BitVec 32 := Scalar.ori v119 v121
  let c1_i32_103 : BitVec 32 := 1#32
  let v124 : BitVec 32 := Scalar.shli c1_i32_103 v123
  let v125 : BitVec 32 := Scalar.ori v122 v124
  let c1_i32_105 : BitVec 32 := 1#32
  let v127 : BitVec 32 := Scalar.shli c1_i32_105 v126
  let v128 : BitVec 32 := Scalar.ori v125 v127
  let c1_i32_108 : BitVec 32 := 1#32
  let v130 : BitVec 32 := Scalar.shli c1_i32_108 v129
  let v131 : BitVec 32 := Scalar.ori v128 v130
  let c1_i32_110 : BitVec 32 := 1#32
  let v133 : BitVec 32 := Scalar.shli c1_i32_110 v132
  let v134 : BitVec 32 := Scalar.ori v131 v133
  let c1_i32_113 : BitVec 32 := 1#32
  let v136 : BitVec 32 := Scalar.shli c1_i32_113 v135
  let v137 : BitVec 32 := Scalar.ori v134 v136
  let c1_i32_115 : BitVec 32 := 1#32
  let v139 : BitVec 32 := Scalar.shli c1_i32_115 v138
  let v140 : BitVec 32 := Scalar.ori v137 v139
  let c1_i32_118 : BitVec 32 := 1#32
  let v142 : BitVec 32 := Scalar.shli c1_i32_118 v141
  let v143 : BitVec 32 := Scalar.ori v140 v142
  let c0_i32_121 : BitVec 32 := 0#32
  let v145 : BitVec 32 := Scalar.shrsi v143 c0_i32_121
  let c1_i32_122 : BitVec 32 := 1#32
  let v146 : BitVec 32 := Scalar.andi v145 c1_i32_122
  let v147 : BitVec 32 := Scalar.addi c0_i32_123 v146
  let c1_i32_125 : BitVec 32 := 1#32
  let v150 : BitVec 32 := Scalar.shrsi v143 c1_i32_125
  let c1_i32_126 : BitVec 32 := 1#32
  let v151 : BitVec 32 := Scalar.andi v150 c1_i32_126
  let v152 : BitVec 32 := Scalar.addi v147 v151
  let c2_i32_127 : BitVec 32 := 2#32
  let v155 : BitVec 32 := Scalar.shrsi v143 c2_i32_127
  let c1_i32_128 : BitVec 32 := 1#32
  let v156 : BitVec 32 := Scalar.andi v155 c1_i32_128
  let v157 : BitVec 32 := Scalar.addi v152 v156
  let c3_i32_129 : BitVec 32 := 3#32
  let v160 : BitVec 32 := Scalar.shrsi v143 c3_i32_129
  let c1_i32_130 : BitVec 32 := 1#32
  let v161 : BitVec 32 := Scalar.andi v160 c1_i32_130
  let v162 : BitVec 32 := Scalar.addi v157 v161
  let c4_i32_131 : BitVec 32 := 4#32
  let v165 : BitVec 32 := Scalar.shrsi v143 c4_i32_131
  let c1_i32_132 : BitVec 32 := 1#32
  let v166 : BitVec 32 := Scalar.andi v165 c1_i32_132
  let v167 : BitVec 32 := Scalar.addi v162 v166
  let c5_i32_133 : BitVec 32 := 5#32
  let v170 : BitVec 32 := Scalar.shrsi v143 c5_i32_133
  let c1_i32_134 : BitVec 32 := 1#32
  let v171 : BitVec 32 := Scalar.andi v170 c1_i32_134
  let v172 : BitVec 32 := Scalar.addi v167 v171
  let c6_i32_135 : BitVec 32 := 6#32
  let v175 : BitVec 32 := Scalar.shrsi v143 c6_i32_135
  let c1_i32_136 : BitVec 32 := 1#32
  let v176 : BitVec 32 := Scalar.andi v175 c1_i32_136
  let v177 : BitVec 32 := Scalar.addi v172 v176
  let c7_i32_137 : BitVec 32 := 7#32
  let v180 : BitVec 32 := Scalar.shrsi v143 c7_i32_137
  let c1_i32_138 : BitVec 32 := 1#32
  let v181 : BitVec 32 := Scalar.andi v180 c1_i32_138
  let v182 : BitVec 32 := Scalar.addi v177 v181
  let c8_i32_139 : BitVec 32 := 8#32
  let v185 : BitVec 32 := Scalar.shrsi v143 c8_i32_139
  let c1_i32_140 : BitVec 32 := 1#32
  let v186 : BitVec 32 := Scalar.andi v185 c1_i32_140
  let v187 : BitVec 32 := Scalar.addi v182 v186
  let c9_i32_141 : BitVec 32 := 9#32
  let v190 : BitVec 32 := Scalar.shrsi v143 c9_i32_141
  let c1_i32_142 : BitVec 32 := 1#32
  let v191 : BitVec 32 := Scalar.andi v190 c1_i32_142
  let v192 : BitVec 32 := Scalar.addi v187 v191
  let c10_i32_143 : BitVec 32 := 10#32
  let v195 : BitVec 32 := Scalar.shrsi v143 c10_i32_143
  let c1_i32_144 : BitVec 32 := 1#32
  let v196 : BitVec 32 := Scalar.andi v195 c1_i32_144
  let v197 : BitVec 32 := Scalar.addi v192 v196
  let c11_i32_145 : BitVec 32 := 11#32
  let v200 : BitVec 32 := Scalar.shrsi v143 c11_i32_145
  let c1_i32_146 : BitVec 32 := 1#32
  let v201 : BitVec 32 := Scalar.andi v200 c1_i32_146
  let v202 : BitVec 32 := Scalar.addi v197 v201
  let c12_i32_147 : BitVec 32 := 12#32
  let v205 : BitVec 32 := Scalar.shrsi v143 c12_i32_147
  let c1_i32_148 : BitVec 32 := 1#32
  let v206 : BitVec 32 := Scalar.andi v205 c1_i32_148
  let v207 : BitVec 32 := Scalar.addi v202 v206
  let c13_i32_149 : BitVec 32 := 13#32
  let v210 : BitVec 32 := Scalar.shrsi v143 c13_i32_149
  let c1_i32_150 : BitVec 32 := 1#32
  let v211 : BitVec 32 := Scalar.andi v210 c1_i32_150
  let v212 : BitVec 32 := Scalar.addi v207 v211
  let c14_i32_151 : BitVec 32 := 14#32
  let v215 : BitVec 32 := Scalar.shrsi v143 c14_i32_151
  let c1_i32_152 : BitVec 32 := 1#32
  let v216 : BitVec 32 := Scalar.andi v215 c1_i32_152
  let v217 : BitVec 32 := Scalar.addi v212 v216
  let c15_i32_153 : BitVec 32 := 15#32
  let v220 : BitVec 32 := Scalar.shrsi v143 c15_i32_153
  let c1_i32_154 : BitVec 32 := 1#32
  let v221 : BitVec 32 := Scalar.andi v220 c1_i32_154
  let v222 : BitVec 32 := Scalar.addi v217 v221
  let v272 : BitVec 32 := Scalar.subi v222 c0_i32_207
  let c1_i32_208 : BitVec 32 := 1#32
  let v274 : BitVec 32 := Scalar.divsi v272 c1_i32_208
  let v275 : BitVec 32 := Scalar.muli v274 c1_i32_208
  let v276 : BitVec 32 := Scalar.addi c0_i32_207 v275
  let c1_i32_210 : BitVec 32 := 1#32
  let arg17 : BitVec 32 := Scf.iv v276 c1_i32_210 k0_t2
  let c1_i32_3263 : BitVec 32 := 1#32
  let v7430 : BitVec 32 := Scalar.addi arg17 c1_i32_3263
  let v7433 : Index := Scalar.indexCast v7430
  ![v7433.toNat]
def k0_cond2 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : BitVec 1 :=
  let c0_i32_207 : BitVec 32 := 0#32
  let c0_i32_123 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_2 : BitVec 32 := 1#32
  let v4 : BitVec 32 := Scalar.shli c1_i32_2 v3
  let v5 : BitVec 32 := Scalar.ori v2 v4
  let c1_i32_5 : BitVec 32 := 1#32
  let v7 : BitVec 32 := Scalar.shli c1_i32_5 v6
  let v8 : BitVec 32 := Scalar.ori v5 v7
  let c1_i32_8 : BitVec 32 := 1#32
  let v10 : BitVec 32 := Scalar.shli c1_i32_8 v9
  let v11 : BitVec 32 := Scalar.ori v8 v10
  let c1_i32_10 : BitVec 32 := 1#32
  let v13 : BitVec 32 := Scalar.shli c1_i32_10 v12
  let v14 : BitVec 32 := Scalar.ori v11 v13
  let c1_i32_13 : BitVec 32 := 1#32
  let v16 : BitVec 32 := Scalar.shli c1_i32_13 v15
  let v17 : BitVec 32 := Scalar.ori v14 v16
  let c1_i32_15 : BitVec 32 := 1#32
  let v19 : BitVec 32 := Scalar.shli c1_i32_15 v18
  let v20 : BitVec 32 := Scalar.ori v17 v19
  let c1_i32_18 : BitVec 32 := 1#32
  let v22 : BitVec 32 := Scalar.shli c1_i32_18 v21
  let v23 : BitVec 32 := Scalar.ori v20 v22
  let c1_i32_20 : BitVec 32 := 1#32
  let v25 : BitVec 32 := Scalar.shli c1_i32_20 v24
  let v26 : BitVec 32 := Scalar.ori v23 v25
  let c1_i32_23 : BitVec 32 := 1#32
  let v28 : BitVec 32 := Scalar.shli c1_i32_23 v27
  let v29 : BitVec 32 := Scalar.ori v26 v28
  let c1_i32_25 : BitVec 32 := 1#32
  let v31 : BitVec 32 := Scalar.shli c1_i32_25 v30
  let v32 : BitVec 32 := Scalar.ori v29 v31
  let c1_i32_28 : BitVec 32 := 1#32
  let v34 : BitVec 32 := Scalar.shli c1_i32_28 v33
  let v35 : BitVec 32 := Scalar.ori v32 v34
  let c1_i32_30 : BitVec 32 := 1#32
  let v37 : BitVec 32 := Scalar.shli c1_i32_30 v36
  let v38 : BitVec 32 := Scalar.ori v35 v37
  let c1_i32_33 : BitVec 32 := 1#32
  let v40 : BitVec 32 := Scalar.shli c1_i32_33 v39
  let v41 : BitVec 32 := Scalar.ori v38 v40
  let c1_i32_35 : BitVec 32 := 1#32
  let v43 : BitVec 32 := Scalar.shli c1_i32_35 v42
  let v44 : BitVec 32 := Scalar.ori v41 v43
  let c1_i32_38 : BitVec 32 := 1#32
  let v46 : BitVec 32 := Scalar.shli c1_i32_38 v45
  let v47 : BitVec 32 := Scalar.ori v44 v46
  let c1_i32_40 : BitVec 32 := 1#32
  let v49 : BitVec 32 := Scalar.shli c1_i32_40 v48
  let v50 : BitVec 32 := Scalar.ori v47 v49
  let c1_i32_43 : BitVec 32 := 1#32
  let v52 : BitVec 32 := Scalar.shli c1_i32_43 v51
  let v53 : BitVec 32 := Scalar.ori v50 v52
  let c1_i32_45 : BitVec 32 := 1#32
  let v55 : BitVec 32 := Scalar.shli c1_i32_45 v54
  let v56 : BitVec 32 := Scalar.ori v53 v55
  let c1_i32_48 : BitVec 32 := 1#32
  let v58 : BitVec 32 := Scalar.shli c1_i32_48 v57
  let v59 : BitVec 32 := Scalar.ori v56 v58
  let c1_i32_50 : BitVec 32 := 1#32
  let v61 : BitVec 32 := Scalar.shli c1_i32_50 v60
  let v62 : BitVec 32 := Scalar.ori v59 v61
  let c1_i32_53 : BitVec 32 := 1#32
  let v64 : BitVec 32 := Scalar.shli c1_i32_53 v63
  let v65 : BitVec 32 := Scalar.ori v62 v64
  let c1_i32_55 : BitVec 32 := 1#32
  let v67 : BitVec 32 := Scalar.shli c1_i32_55 v66
  let v68 : BitVec 32 := Scalar.ori v65 v67
  let c1_i32_58 : BitVec 32 := 1#32
  let v70 : BitVec 32 := Scalar.shli c1_i32_58 v69
  let v71 : BitVec 32 := Scalar.ori v68 v70
  let c1_i32_60 : BitVec 32 := 1#32
  let v73 : BitVec 32 := Scalar.shli c1_i32_60 v72
  let v74 : BitVec 32 := Scalar.ori v71 v73
  let c1_i32_63 : BitVec 32 := 1#32
  let v76 : BitVec 32 := Scalar.shli c1_i32_63 v75
  let v77 : BitVec 32 := Scalar.ori v74 v76
  let c1_i32_65 : BitVec 32 := 1#32
  let v79 : BitVec 32 := Scalar.shli c1_i32_65 v78
  let v80 : BitVec 32 := Scalar.ori v77 v79
  let c1_i32_68 : BitVec 32 := 1#32
  let v82 : BitVec 32 := Scalar.shli c1_i32_68 v81
  let v83 : BitVec 32 := Scalar.ori v80 v82
  let c1_i32_70 : BitVec 32 := 1#32
  let v85 : BitVec 32 := Scalar.shli c1_i32_70 v84
  let v86 : BitVec 32 := Scalar.ori v83 v85
  let c1_i32_73 : BitVec 32 := 1#32
  let v88 : BitVec 32 := Scalar.shli c1_i32_73 v87
  let v89 : BitVec 32 := Scalar.ori v86 v88
  let c1_i32_75 : BitVec 32 := 1#32
  let v91 : BitVec 32 := Scalar.shli c1_i32_75 v90
  let v92 : BitVec 32 := Scalar.ori v89 v91
  let c1_i32_78 : BitVec 32 := 1#32
  let v94 : BitVec 32 := Scalar.shli c1_i32_78 v93
  let v95 : BitVec 32 := Scalar.ori v92 v94
  let c1_i32_80 : BitVec 32 := 1#32
  let v97 : BitVec 32 := Scalar.shli c1_i32_80 v96
  let v98 : BitVec 32 := Scalar.ori v95 v97
  let c1_i32_83 : BitVec 32 := 1#32
  let v100 : BitVec 32 := Scalar.shli c1_i32_83 v99
  let v101 : BitVec 32 := Scalar.ori v98 v100
  let c1_i32_85 : BitVec 32 := 1#32
  let v103 : BitVec 32 := Scalar.shli c1_i32_85 v102
  let v104 : BitVec 32 := Scalar.ori v101 v103
  let c1_i32_88 : BitVec 32 := 1#32
  let v106 : BitVec 32 := Scalar.shli c1_i32_88 v105
  let v107 : BitVec 32 := Scalar.ori v104 v106
  let c1_i32_90 : BitVec 32 := 1#32
  let v109 : BitVec 32 := Scalar.shli c1_i32_90 v108
  let v110 : BitVec 32 := Scalar.ori v107 v109
  let c1_i32_93 : BitVec 32 := 1#32
  let v112 : BitVec 32 := Scalar.shli c1_i32_93 v111
  let v113 : BitVec 32 := Scalar.ori v110 v112
  let c1_i32_95 : BitVec 32 := 1#32
  let v115 : BitVec 32 := Scalar.shli c1_i32_95 v114
  let v116 : BitVec 32 := Scalar.ori v113 v115
  let c1_i32_98 : BitVec 32 := 1#32
  let v118 : BitVec 32 := Scalar.shli c1_i32_98 v117
  let v119 : BitVec 32 := Scalar.ori v116 v118
  let c1_i32_100 : BitVec 32 := 1#32
  let v121 : BitVec 32 := Scalar.shli c1_i32_100 v120
  let v122 : BitVec 32 := Scalar.ori v119 v121
  let c1_i32_103 : BitVec 32 := 1#32
  let v124 : BitVec 32 := Scalar.shli c1_i32_103 v123
  let v125 : BitVec 32 := Scalar.ori v122 v124
  let c1_i32_105 : BitVec 32 := 1#32
  let v127 : BitVec 32 := Scalar.shli c1_i32_105 v126
  let v128 : BitVec 32 := Scalar.ori v125 v127
  let c1_i32_108 : BitVec 32 := 1#32
  let v130 : BitVec 32 := Scalar.shli c1_i32_108 v129
  let v131 : BitVec 32 := Scalar.ori v128 v130
  let c1_i32_110 : BitVec 32 := 1#32
  let v133 : BitVec 32 := Scalar.shli c1_i32_110 v132
  let v134 : BitVec 32 := Scalar.ori v131 v133
  let c1_i32_113 : BitVec 32 := 1#32
  let v136 : BitVec 32 := Scalar.shli c1_i32_113 v135
  let v137 : BitVec 32 := Scalar.ori v134 v136
  let c1_i32_115 : BitVec 32 := 1#32
  let v139 : BitVec 32 := Scalar.shli c1_i32_115 v138
  let v140 : BitVec 32 := Scalar.ori v137 v139
  let c1_i32_118 : BitVec 32 := 1#32
  let v142 : BitVec 32 := Scalar.shli c1_i32_118 v141
  let v143 : BitVec 32 := Scalar.ori v140 v142
  let c0_i32_121 : BitVec 32 := 0#32
  let v145 : BitVec 32 := Scalar.shrsi v143 c0_i32_121
  let c1_i32_122 : BitVec 32 := 1#32
  let v146 : BitVec 32 := Scalar.andi v145 c1_i32_122
  let v147 : BitVec 32 := Scalar.addi c0_i32_123 v146
  let c1_i32_125 : BitVec 32 := 1#32
  let v150 : BitVec 32 := Scalar.shrsi v143 c1_i32_125
  let c1_i32_126 : BitVec 32 := 1#32
  let v151 : BitVec 32 := Scalar.andi v150 c1_i32_126
  let v152 : BitVec 32 := Scalar.addi v147 v151
  let c2_i32_127 : BitVec 32 := 2#32
  let v155 : BitVec 32 := Scalar.shrsi v143 c2_i32_127
  let c1_i32_128 : BitVec 32 := 1#32
  let v156 : BitVec 32 := Scalar.andi v155 c1_i32_128
  let v157 : BitVec 32 := Scalar.addi v152 v156
  let c3_i32_129 : BitVec 32 := 3#32
  let v160 : BitVec 32 := Scalar.shrsi v143 c3_i32_129
  let c1_i32_130 : BitVec 32 := 1#32
  let v161 : BitVec 32 := Scalar.andi v160 c1_i32_130
  let v162 : BitVec 32 := Scalar.addi v157 v161
  let c4_i32_131 : BitVec 32 := 4#32
  let v165 : BitVec 32 := Scalar.shrsi v143 c4_i32_131
  let c1_i32_132 : BitVec 32 := 1#32
  let v166 : BitVec 32 := Scalar.andi v165 c1_i32_132
  let v167 : BitVec 32 := Scalar.addi v162 v166
  let c5_i32_133 : BitVec 32 := 5#32
  let v170 : BitVec 32 := Scalar.shrsi v143 c5_i32_133
  let c1_i32_134 : BitVec 32 := 1#32
  let v171 : BitVec 32 := Scalar.andi v170 c1_i32_134
  let v172 : BitVec 32 := Scalar.addi v167 v171
  let c6_i32_135 : BitVec 32 := 6#32
  let v175 : BitVec 32 := Scalar.shrsi v143 c6_i32_135
  let c1_i32_136 : BitVec 32 := 1#32
  let v176 : BitVec 32 := Scalar.andi v175 c1_i32_136
  let v177 : BitVec 32 := Scalar.addi v172 v176
  let c7_i32_137 : BitVec 32 := 7#32
  let v180 : BitVec 32 := Scalar.shrsi v143 c7_i32_137
  let c1_i32_138 : BitVec 32 := 1#32
  let v181 : BitVec 32 := Scalar.andi v180 c1_i32_138
  let v182 : BitVec 32 := Scalar.addi v177 v181
  let c8_i32_139 : BitVec 32 := 8#32
  let v185 : BitVec 32 := Scalar.shrsi v143 c8_i32_139
  let c1_i32_140 : BitVec 32 := 1#32
  let v186 : BitVec 32 := Scalar.andi v185 c1_i32_140
  let v187 : BitVec 32 := Scalar.addi v182 v186
  let c9_i32_141 : BitVec 32 := 9#32
  let v190 : BitVec 32 := Scalar.shrsi v143 c9_i32_141
  let c1_i32_142 : BitVec 32 := 1#32
  let v191 : BitVec 32 := Scalar.andi v190 c1_i32_142
  let v192 : BitVec 32 := Scalar.addi v187 v191
  let c10_i32_143 : BitVec 32 := 10#32
  let v195 : BitVec 32 := Scalar.shrsi v143 c10_i32_143
  let c1_i32_144 : BitVec 32 := 1#32
  let v196 : BitVec 32 := Scalar.andi v195 c1_i32_144
  let v197 : BitVec 32 := Scalar.addi v192 v196
  let c11_i32_145 : BitVec 32 := 11#32
  let v200 : BitVec 32 := Scalar.shrsi v143 c11_i32_145
  let c1_i32_146 : BitVec 32 := 1#32
  let v201 : BitVec 32 := Scalar.andi v200 c1_i32_146
  let v202 : BitVec 32 := Scalar.addi v197 v201
  let c12_i32_147 : BitVec 32 := 12#32
  let v205 : BitVec 32 := Scalar.shrsi v143 c12_i32_147
  let c1_i32_148 : BitVec 32 := 1#32
  let v206 : BitVec 32 := Scalar.andi v205 c1_i32_148
  let v207 : BitVec 32 := Scalar.addi v202 v206
  let c13_i32_149 : BitVec 32 := 13#32
  let v210 : BitVec 32 := Scalar.shrsi v143 c13_i32_149
  let c1_i32_150 : BitVec 32 := 1#32
  let v211 : BitVec 32 := Scalar.andi v210 c1_i32_150
  let v212 : BitVec 32 := Scalar.addi v207 v211
  let c14_i32_151 : BitVec 32 := 14#32
  let v215 : BitVec 32 := Scalar.shrsi v143 c14_i32_151
  let c1_i32_152 : BitVec 32 := 1#32
  let v216 : BitVec 32 := Scalar.andi v215 c1_i32_152
  let v217 : BitVec 32 := Scalar.addi v212 v216
  let c15_i32_153 : BitVec 32 := 15#32
  let v220 : BitVec 32 := Scalar.shrsi v143 c15_i32_153
  let c1_i32_154 : BitVec 32 := 1#32
  let v221 : BitVec 32 := Scalar.andi v220 c1_i32_154
  let v222 : BitVec 32 := Scalar.addi v217 v221
  let v272 : BitVec 32 := Scalar.subi v222 c0_i32_207
  let c1_i32_208 : BitVec 32 := 1#32
  let v274 : BitVec 32 := Scalar.divsi v272 c1_i32_208
  let v275 : BitVec 32 := Scalar.muli v274 c1_i32_208
  let v276 : BitVec 32 := Scalar.addi c0_i32_207 v275
  let c1_i32_210 : BitVec 32 := 1#32
  let arg17 : BitVec 32 := Scf.iv v276 c1_i32_210 k0_t2
  let c1_i32_216 : BitVec 32 := 1#32
  let v283 : BitVec 32 := Scalar.addi arg17 c1_i32_216
  let v284 : BitVec 1 := Scalar.cmpi .slt v283 v222
  let v285 : BitVec 32 := Scalar.extui v284
  let c0_i32_217 : BitVec 32 := 0#32
  let v286 : BitVec 1 := Scalar.cmpi .ne v285 c0_i32_217
  v286

def k0_off76 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 2 → Nat :=
  let c0_i32_207 : BitVec 32 := 0#32
  let c0_i32_123 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_2 : BitVec 32 := 1#32
  let v4 : BitVec 32 := Scalar.shli c1_i32_2 v3
  let v5 : BitVec 32 := Scalar.ori v2 v4
  let c1_i32_5 : BitVec 32 := 1#32
  let v7 : BitVec 32 := Scalar.shli c1_i32_5 v6
  let v8 : BitVec 32 := Scalar.ori v5 v7
  let c1_i32_8 : BitVec 32 := 1#32
  let v10 : BitVec 32 := Scalar.shli c1_i32_8 v9
  let v11 : BitVec 32 := Scalar.ori v8 v10
  let c1_i32_10 : BitVec 32 := 1#32
  let v13 : BitVec 32 := Scalar.shli c1_i32_10 v12
  let v14 : BitVec 32 := Scalar.ori v11 v13
  let c1_i32_13 : BitVec 32 := 1#32
  let v16 : BitVec 32 := Scalar.shli c1_i32_13 v15
  let v17 : BitVec 32 := Scalar.ori v14 v16
  let c1_i32_15 : BitVec 32 := 1#32
  let v19 : BitVec 32 := Scalar.shli c1_i32_15 v18
  let v20 : BitVec 32 := Scalar.ori v17 v19
  let c1_i32_18 : BitVec 32 := 1#32
  let v22 : BitVec 32 := Scalar.shli c1_i32_18 v21
  let v23 : BitVec 32 := Scalar.ori v20 v22
  let c1_i32_20 : BitVec 32 := 1#32
  let v25 : BitVec 32 := Scalar.shli c1_i32_20 v24
  let v26 : BitVec 32 := Scalar.ori v23 v25
  let c1_i32_23 : BitVec 32 := 1#32
  let v28 : BitVec 32 := Scalar.shli c1_i32_23 v27
  let v29 : BitVec 32 := Scalar.ori v26 v28
  let c1_i32_25 : BitVec 32 := 1#32
  let v31 : BitVec 32 := Scalar.shli c1_i32_25 v30
  let v32 : BitVec 32 := Scalar.ori v29 v31
  let c1_i32_28 : BitVec 32 := 1#32
  let v34 : BitVec 32 := Scalar.shli c1_i32_28 v33
  let v35 : BitVec 32 := Scalar.ori v32 v34
  let c1_i32_30 : BitVec 32 := 1#32
  let v37 : BitVec 32 := Scalar.shli c1_i32_30 v36
  let v38 : BitVec 32 := Scalar.ori v35 v37
  let c1_i32_33 : BitVec 32 := 1#32
  let v40 : BitVec 32 := Scalar.shli c1_i32_33 v39
  let v41 : BitVec 32 := Scalar.ori v38 v40
  let c1_i32_35 : BitVec 32 := 1#32
  let v43 : BitVec 32 := Scalar.shli c1_i32_35 v42
  let v44 : BitVec 32 := Scalar.ori v41 v43
  let c1_i32_38 : BitVec 32 := 1#32
  let v46 : BitVec 32 := Scalar.shli c1_i32_38 v45
  let v47 : BitVec 32 := Scalar.ori v44 v46
  let c1_i32_40 : BitVec 32 := 1#32
  let v49 : BitVec 32 := Scalar.shli c1_i32_40 v48
  let v50 : BitVec 32 := Scalar.ori v47 v49
  let c1_i32_43 : BitVec 32 := 1#32
  let v52 : BitVec 32 := Scalar.shli c1_i32_43 v51
  let v53 : BitVec 32 := Scalar.ori v50 v52
  let c1_i32_45 : BitVec 32 := 1#32
  let v55 : BitVec 32 := Scalar.shli c1_i32_45 v54
  let v56 : BitVec 32 := Scalar.ori v53 v55
  let c1_i32_48 : BitVec 32 := 1#32
  let v58 : BitVec 32 := Scalar.shli c1_i32_48 v57
  let v59 : BitVec 32 := Scalar.ori v56 v58
  let c1_i32_50 : BitVec 32 := 1#32
  let v61 : BitVec 32 := Scalar.shli c1_i32_50 v60
  let v62 : BitVec 32 := Scalar.ori v59 v61
  let c1_i32_53 : BitVec 32 := 1#32
  let v64 : BitVec 32 := Scalar.shli c1_i32_53 v63
  let v65 : BitVec 32 := Scalar.ori v62 v64
  let c1_i32_55 : BitVec 32 := 1#32
  let v67 : BitVec 32 := Scalar.shli c1_i32_55 v66
  let v68 : BitVec 32 := Scalar.ori v65 v67
  let c1_i32_58 : BitVec 32 := 1#32
  let v70 : BitVec 32 := Scalar.shli c1_i32_58 v69
  let v71 : BitVec 32 := Scalar.ori v68 v70
  let c1_i32_60 : BitVec 32 := 1#32
  let v73 : BitVec 32 := Scalar.shli c1_i32_60 v72
  let v74 : BitVec 32 := Scalar.ori v71 v73
  let c1_i32_63 : BitVec 32 := 1#32
  let v76 : BitVec 32 := Scalar.shli c1_i32_63 v75
  let v77 : BitVec 32 := Scalar.ori v74 v76
  let c1_i32_65 : BitVec 32 := 1#32
  let v79 : BitVec 32 := Scalar.shli c1_i32_65 v78
  let v80 : BitVec 32 := Scalar.ori v77 v79
  let c1_i32_68 : BitVec 32 := 1#32
  let v82 : BitVec 32 := Scalar.shli c1_i32_68 v81
  let v83 : BitVec 32 := Scalar.ori v80 v82
  let c1_i32_70 : BitVec 32 := 1#32
  let v85 : BitVec 32 := Scalar.shli c1_i32_70 v84
  let v86 : BitVec 32 := Scalar.ori v83 v85
  let c1_i32_73 : BitVec 32 := 1#32
  let v88 : BitVec 32 := Scalar.shli c1_i32_73 v87
  let v89 : BitVec 32 := Scalar.ori v86 v88
  let c1_i32_75 : BitVec 32 := 1#32
  let v91 : BitVec 32 := Scalar.shli c1_i32_75 v90
  let v92 : BitVec 32 := Scalar.ori v89 v91
  let c1_i32_78 : BitVec 32 := 1#32
  let v94 : BitVec 32 := Scalar.shli c1_i32_78 v93
  let v95 : BitVec 32 := Scalar.ori v92 v94
  let c1_i32_80 : BitVec 32 := 1#32
  let v97 : BitVec 32 := Scalar.shli c1_i32_80 v96
  let v98 : BitVec 32 := Scalar.ori v95 v97
  let c1_i32_83 : BitVec 32 := 1#32
  let v100 : BitVec 32 := Scalar.shli c1_i32_83 v99
  let v101 : BitVec 32 := Scalar.ori v98 v100
  let c1_i32_85 : BitVec 32 := 1#32
  let v103 : BitVec 32 := Scalar.shli c1_i32_85 v102
  let v104 : BitVec 32 := Scalar.ori v101 v103
  let c1_i32_88 : BitVec 32 := 1#32
  let v106 : BitVec 32 := Scalar.shli c1_i32_88 v105
  let v107 : BitVec 32 := Scalar.ori v104 v106
  let c1_i32_90 : BitVec 32 := 1#32
  let v109 : BitVec 32 := Scalar.shli c1_i32_90 v108
  let v110 : BitVec 32 := Scalar.ori v107 v109
  let c1_i32_93 : BitVec 32 := 1#32
  let v112 : BitVec 32 := Scalar.shli c1_i32_93 v111
  let v113 : BitVec 32 := Scalar.ori v110 v112
  let c1_i32_95 : BitVec 32 := 1#32
  let v115 : BitVec 32 := Scalar.shli c1_i32_95 v114
  let v116 : BitVec 32 := Scalar.ori v113 v115
  let c1_i32_98 : BitVec 32 := 1#32
  let v118 : BitVec 32 := Scalar.shli c1_i32_98 v117
  let v119 : BitVec 32 := Scalar.ori v116 v118
  let c1_i32_100 : BitVec 32 := 1#32
  let v121 : BitVec 32 := Scalar.shli c1_i32_100 v120
  let v122 : BitVec 32 := Scalar.ori v119 v121
  let c1_i32_103 : BitVec 32 := 1#32
  let v124 : BitVec 32 := Scalar.shli c1_i32_103 v123
  let v125 : BitVec 32 := Scalar.ori v122 v124
  let c1_i32_105 : BitVec 32 := 1#32
  let v127 : BitVec 32 := Scalar.shli c1_i32_105 v126
  let v128 : BitVec 32 := Scalar.ori v125 v127
  let c1_i32_108 : BitVec 32 := 1#32
  let v130 : BitVec 32 := Scalar.shli c1_i32_108 v129
  let v131 : BitVec 32 := Scalar.ori v128 v130
  let c1_i32_110 : BitVec 32 := 1#32
  let v133 : BitVec 32 := Scalar.shli c1_i32_110 v132
  let v134 : BitVec 32 := Scalar.ori v131 v133
  let c1_i32_113 : BitVec 32 := 1#32
  let v136 : BitVec 32 := Scalar.shli c1_i32_113 v135
  let v137 : BitVec 32 := Scalar.ori v134 v136
  let c1_i32_115 : BitVec 32 := 1#32
  let v139 : BitVec 32 := Scalar.shli c1_i32_115 v138
  let v140 : BitVec 32 := Scalar.ori v137 v139
  let c1_i32_118 : BitVec 32 := 1#32
  let v142 : BitVec 32 := Scalar.shli c1_i32_118 v141
  let v143 : BitVec 32 := Scalar.ori v140 v142
  let c0_i32_121 : BitVec 32 := 0#32
  let v145 : BitVec 32 := Scalar.shrsi v143 c0_i32_121
  let c1_i32_122 : BitVec 32 := 1#32
  let v146 : BitVec 32 := Scalar.andi v145 c1_i32_122
  let v147 : BitVec 32 := Scalar.addi c0_i32_123 v146
  let c1_i32_125 : BitVec 32 := 1#32
  let v150 : BitVec 32 := Scalar.shrsi v143 c1_i32_125
  let c1_i32_126 : BitVec 32 := 1#32
  let v151 : BitVec 32 := Scalar.andi v150 c1_i32_126
  let v152 : BitVec 32 := Scalar.addi v147 v151
  let c2_i32_127 : BitVec 32 := 2#32
  let v155 : BitVec 32 := Scalar.shrsi v143 c2_i32_127
  let c1_i32_128 : BitVec 32 := 1#32
  let v156 : BitVec 32 := Scalar.andi v155 c1_i32_128
  let v157 : BitVec 32 := Scalar.addi v152 v156
  let c3_i32_129 : BitVec 32 := 3#32
  let v160 : BitVec 32 := Scalar.shrsi v143 c3_i32_129
  let c1_i32_130 : BitVec 32 := 1#32
  let v161 : BitVec 32 := Scalar.andi v160 c1_i32_130
  let v162 : BitVec 32 := Scalar.addi v157 v161
  let c4_i32_131 : BitVec 32 := 4#32
  let v165 : BitVec 32 := Scalar.shrsi v143 c4_i32_131
  let c1_i32_132 : BitVec 32 := 1#32
  let v166 : BitVec 32 := Scalar.andi v165 c1_i32_132
  let v167 : BitVec 32 := Scalar.addi v162 v166
  let c5_i32_133 : BitVec 32 := 5#32
  let v170 : BitVec 32 := Scalar.shrsi v143 c5_i32_133
  let c1_i32_134 : BitVec 32 := 1#32
  let v171 : BitVec 32 := Scalar.andi v170 c1_i32_134
  let v172 : BitVec 32 := Scalar.addi v167 v171
  let c6_i32_135 : BitVec 32 := 6#32
  let v175 : BitVec 32 := Scalar.shrsi v143 c6_i32_135
  let c1_i32_136 : BitVec 32 := 1#32
  let v176 : BitVec 32 := Scalar.andi v175 c1_i32_136
  let v177 : BitVec 32 := Scalar.addi v172 v176
  let c7_i32_137 : BitVec 32 := 7#32
  let v180 : BitVec 32 := Scalar.shrsi v143 c7_i32_137
  let c1_i32_138 : BitVec 32 := 1#32
  let v181 : BitVec 32 := Scalar.andi v180 c1_i32_138
  let v182 : BitVec 32 := Scalar.addi v177 v181
  let c8_i32_139 : BitVec 32 := 8#32
  let v185 : BitVec 32 := Scalar.shrsi v143 c8_i32_139
  let c1_i32_140 : BitVec 32 := 1#32
  let v186 : BitVec 32 := Scalar.andi v185 c1_i32_140
  let v187 : BitVec 32 := Scalar.addi v182 v186
  let c9_i32_141 : BitVec 32 := 9#32
  let v190 : BitVec 32 := Scalar.shrsi v143 c9_i32_141
  let c1_i32_142 : BitVec 32 := 1#32
  let v191 : BitVec 32 := Scalar.andi v190 c1_i32_142
  let v192 : BitVec 32 := Scalar.addi v187 v191
  let c10_i32_143 : BitVec 32 := 10#32
  let v195 : BitVec 32 := Scalar.shrsi v143 c10_i32_143
  let c1_i32_144 : BitVec 32 := 1#32
  let v196 : BitVec 32 := Scalar.andi v195 c1_i32_144
  let v197 : BitVec 32 := Scalar.addi v192 v196
  let c11_i32_145 : BitVec 32 := 11#32
  let v200 : BitVec 32 := Scalar.shrsi v143 c11_i32_145
  let c1_i32_146 : BitVec 32 := 1#32
  let v201 : BitVec 32 := Scalar.andi v200 c1_i32_146
  let v202 : BitVec 32 := Scalar.addi v197 v201
  let c12_i32_147 : BitVec 32 := 12#32
  let v205 : BitVec 32 := Scalar.shrsi v143 c12_i32_147
  let c1_i32_148 : BitVec 32 := 1#32
  let v206 : BitVec 32 := Scalar.andi v205 c1_i32_148
  let v207 : BitVec 32 := Scalar.addi v202 v206
  let c13_i32_149 : BitVec 32 := 13#32
  let v210 : BitVec 32 := Scalar.shrsi v143 c13_i32_149
  let c1_i32_150 : BitVec 32 := 1#32
  let v211 : BitVec 32 := Scalar.andi v210 c1_i32_150
  let v212 : BitVec 32 := Scalar.addi v207 v211
  let c14_i32_151 : BitVec 32 := 14#32
  let v215 : BitVec 32 := Scalar.shrsi v143 c14_i32_151
  let c1_i32_152 : BitVec 32 := 1#32
  let v216 : BitVec 32 := Scalar.andi v215 c1_i32_152
  let v217 : BitVec 32 := Scalar.addi v212 v216
  let c15_i32_153 : BitVec 32 := 15#32
  let v220 : BitVec 32 := Scalar.shrsi v143 c15_i32_153
  let c1_i32_154 : BitVec 32 := 1#32
  let v221 : BitVec 32 := Scalar.andi v220 c1_i32_154
  let v222 : BitVec 32 := Scalar.addi v217 v221
  let v272 : BitVec 32 := Scalar.subi v222 c0_i32_207
  let c1_i32_208 : BitVec 32 := 1#32
  let v274 : BitVec 32 := Scalar.divsi v272 c1_i32_208
  let v275 : BitVec 32 := Scalar.muli v274 c1_i32_208
  let v276 : BitVec 32 := Scalar.addi c0_i32_207 v275
  let c1_i32_210 : BitVec 32 := 1#32
  let arg17 : BitVec 32 := Scf.iv v276 c1_i32_210 k0_t2
  let c1_i32_3264 : BitVec 32 := 1#32
  let v7431 : BitVec 32 := Scalar.addi arg17 c1_i32_3264
  let c2_i32_3265 : BitVec 32 := 2#32
  let v7432 : BitVec 32 := Scalar.remsi v7431 c2_i32_3265
  let c0_i32_3266 : BitVec 32 := 0#32
  ![v7432.toNat, 0]
def k0_off77 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 3 → Nat :=
  let c0_i32_207 : BitVec 32 := 0#32
  let c0_i32_123 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_2 : BitVec 32 := 1#32
  let v4 : BitVec 32 := Scalar.shli c1_i32_2 v3
  let v5 : BitVec 32 := Scalar.ori v2 v4
  let c1_i32_5 : BitVec 32 := 1#32
  let v7 : BitVec 32 := Scalar.shli c1_i32_5 v6
  let v8 : BitVec 32 := Scalar.ori v5 v7
  let c1_i32_8 : BitVec 32 := 1#32
  let v10 : BitVec 32 := Scalar.shli c1_i32_8 v9
  let v11 : BitVec 32 := Scalar.ori v8 v10
  let c1_i32_10 : BitVec 32 := 1#32
  let v13 : BitVec 32 := Scalar.shli c1_i32_10 v12
  let v14 : BitVec 32 := Scalar.ori v11 v13
  let c1_i32_13 : BitVec 32 := 1#32
  let v16 : BitVec 32 := Scalar.shli c1_i32_13 v15
  let v17 : BitVec 32 := Scalar.ori v14 v16
  let c1_i32_15 : BitVec 32 := 1#32
  let v19 : BitVec 32 := Scalar.shli c1_i32_15 v18
  let v20 : BitVec 32 := Scalar.ori v17 v19
  let c1_i32_18 : BitVec 32 := 1#32
  let v22 : BitVec 32 := Scalar.shli c1_i32_18 v21
  let v23 : BitVec 32 := Scalar.ori v20 v22
  let c1_i32_20 : BitVec 32 := 1#32
  let v25 : BitVec 32 := Scalar.shli c1_i32_20 v24
  let v26 : BitVec 32 := Scalar.ori v23 v25
  let c1_i32_23 : BitVec 32 := 1#32
  let v28 : BitVec 32 := Scalar.shli c1_i32_23 v27
  let v29 : BitVec 32 := Scalar.ori v26 v28
  let c1_i32_25 : BitVec 32 := 1#32
  let v31 : BitVec 32 := Scalar.shli c1_i32_25 v30
  let v32 : BitVec 32 := Scalar.ori v29 v31
  let c1_i32_28 : BitVec 32 := 1#32
  let v34 : BitVec 32 := Scalar.shli c1_i32_28 v33
  let v35 : BitVec 32 := Scalar.ori v32 v34
  let c1_i32_30 : BitVec 32 := 1#32
  let v37 : BitVec 32 := Scalar.shli c1_i32_30 v36
  let v38 : BitVec 32 := Scalar.ori v35 v37
  let c1_i32_33 : BitVec 32 := 1#32
  let v40 : BitVec 32 := Scalar.shli c1_i32_33 v39
  let v41 : BitVec 32 := Scalar.ori v38 v40
  let c1_i32_35 : BitVec 32 := 1#32
  let v43 : BitVec 32 := Scalar.shli c1_i32_35 v42
  let v44 : BitVec 32 := Scalar.ori v41 v43
  let c1_i32_38 : BitVec 32 := 1#32
  let v46 : BitVec 32 := Scalar.shli c1_i32_38 v45
  let v47 : BitVec 32 := Scalar.ori v44 v46
  let c1_i32_40 : BitVec 32 := 1#32
  let v49 : BitVec 32 := Scalar.shli c1_i32_40 v48
  let v50 : BitVec 32 := Scalar.ori v47 v49
  let c1_i32_43 : BitVec 32 := 1#32
  let v52 : BitVec 32 := Scalar.shli c1_i32_43 v51
  let v53 : BitVec 32 := Scalar.ori v50 v52
  let c1_i32_45 : BitVec 32 := 1#32
  let v55 : BitVec 32 := Scalar.shli c1_i32_45 v54
  let v56 : BitVec 32 := Scalar.ori v53 v55
  let c1_i32_48 : BitVec 32 := 1#32
  let v58 : BitVec 32 := Scalar.shli c1_i32_48 v57
  let v59 : BitVec 32 := Scalar.ori v56 v58
  let c1_i32_50 : BitVec 32 := 1#32
  let v61 : BitVec 32 := Scalar.shli c1_i32_50 v60
  let v62 : BitVec 32 := Scalar.ori v59 v61
  let c1_i32_53 : BitVec 32 := 1#32
  let v64 : BitVec 32 := Scalar.shli c1_i32_53 v63
  let v65 : BitVec 32 := Scalar.ori v62 v64
  let c1_i32_55 : BitVec 32 := 1#32
  let v67 : BitVec 32 := Scalar.shli c1_i32_55 v66
  let v68 : BitVec 32 := Scalar.ori v65 v67
  let c1_i32_58 : BitVec 32 := 1#32
  let v70 : BitVec 32 := Scalar.shli c1_i32_58 v69
  let v71 : BitVec 32 := Scalar.ori v68 v70
  let c1_i32_60 : BitVec 32 := 1#32
  let v73 : BitVec 32 := Scalar.shli c1_i32_60 v72
  let v74 : BitVec 32 := Scalar.ori v71 v73
  let c1_i32_63 : BitVec 32 := 1#32
  let v76 : BitVec 32 := Scalar.shli c1_i32_63 v75
  let v77 : BitVec 32 := Scalar.ori v74 v76
  let c1_i32_65 : BitVec 32 := 1#32
  let v79 : BitVec 32 := Scalar.shli c1_i32_65 v78
  let v80 : BitVec 32 := Scalar.ori v77 v79
  let c1_i32_68 : BitVec 32 := 1#32
  let v82 : BitVec 32 := Scalar.shli c1_i32_68 v81
  let v83 : BitVec 32 := Scalar.ori v80 v82
  let c1_i32_70 : BitVec 32 := 1#32
  let v85 : BitVec 32 := Scalar.shli c1_i32_70 v84
  let v86 : BitVec 32 := Scalar.ori v83 v85
  let c1_i32_73 : BitVec 32 := 1#32
  let v88 : BitVec 32 := Scalar.shli c1_i32_73 v87
  let v89 : BitVec 32 := Scalar.ori v86 v88
  let c1_i32_75 : BitVec 32 := 1#32
  let v91 : BitVec 32 := Scalar.shli c1_i32_75 v90
  let v92 : BitVec 32 := Scalar.ori v89 v91
  let c1_i32_78 : BitVec 32 := 1#32
  let v94 : BitVec 32 := Scalar.shli c1_i32_78 v93
  let v95 : BitVec 32 := Scalar.ori v92 v94
  let c1_i32_80 : BitVec 32 := 1#32
  let v97 : BitVec 32 := Scalar.shli c1_i32_80 v96
  let v98 : BitVec 32 := Scalar.ori v95 v97
  let c1_i32_83 : BitVec 32 := 1#32
  let v100 : BitVec 32 := Scalar.shli c1_i32_83 v99
  let v101 : BitVec 32 := Scalar.ori v98 v100
  let c1_i32_85 : BitVec 32 := 1#32
  let v103 : BitVec 32 := Scalar.shli c1_i32_85 v102
  let v104 : BitVec 32 := Scalar.ori v101 v103
  let c1_i32_88 : BitVec 32 := 1#32
  let v106 : BitVec 32 := Scalar.shli c1_i32_88 v105
  let v107 : BitVec 32 := Scalar.ori v104 v106
  let c1_i32_90 : BitVec 32 := 1#32
  let v109 : BitVec 32 := Scalar.shli c1_i32_90 v108
  let v110 : BitVec 32 := Scalar.ori v107 v109
  let c1_i32_93 : BitVec 32 := 1#32
  let v112 : BitVec 32 := Scalar.shli c1_i32_93 v111
  let v113 : BitVec 32 := Scalar.ori v110 v112
  let c1_i32_95 : BitVec 32 := 1#32
  let v115 : BitVec 32 := Scalar.shli c1_i32_95 v114
  let v116 : BitVec 32 := Scalar.ori v113 v115
  let c1_i32_98 : BitVec 32 := 1#32
  let v118 : BitVec 32 := Scalar.shli c1_i32_98 v117
  let v119 : BitVec 32 := Scalar.ori v116 v118
  let c1_i32_100 : BitVec 32 := 1#32
  let v121 : BitVec 32 := Scalar.shli c1_i32_100 v120
  let v122 : BitVec 32 := Scalar.ori v119 v121
  let c1_i32_103 : BitVec 32 := 1#32
  let v124 : BitVec 32 := Scalar.shli c1_i32_103 v123
  let v125 : BitVec 32 := Scalar.ori v122 v124
  let c1_i32_105 : BitVec 32 := 1#32
  let v127 : BitVec 32 := Scalar.shli c1_i32_105 v126
  let v128 : BitVec 32 := Scalar.ori v125 v127
  let c1_i32_108 : BitVec 32 := 1#32
  let v130 : BitVec 32 := Scalar.shli c1_i32_108 v129
  let v131 : BitVec 32 := Scalar.ori v128 v130
  let c1_i32_110 : BitVec 32 := 1#32
  let v133 : BitVec 32 := Scalar.shli c1_i32_110 v132
  let v134 : BitVec 32 := Scalar.ori v131 v133
  let c1_i32_113 : BitVec 32 := 1#32
  let v136 : BitVec 32 := Scalar.shli c1_i32_113 v135
  let v137 : BitVec 32 := Scalar.ori v134 v136
  let c1_i32_115 : BitVec 32 := 1#32
  let v139 : BitVec 32 := Scalar.shli c1_i32_115 v138
  let v140 : BitVec 32 := Scalar.ori v137 v139
  let c1_i32_118 : BitVec 32 := 1#32
  let v142 : BitVec 32 := Scalar.shli c1_i32_118 v141
  let v143 : BitVec 32 := Scalar.ori v140 v142
  let c0_i32_121 : BitVec 32 := 0#32
  let v145 : BitVec 32 := Scalar.shrsi v143 c0_i32_121
  let c1_i32_122 : BitVec 32 := 1#32
  let v146 : BitVec 32 := Scalar.andi v145 c1_i32_122
  let v147 : BitVec 32 := Scalar.addi c0_i32_123 v146
  let c1_i32_125 : BitVec 32 := 1#32
  let v150 : BitVec 32 := Scalar.shrsi v143 c1_i32_125
  let c1_i32_126 : BitVec 32 := 1#32
  let v151 : BitVec 32 := Scalar.andi v150 c1_i32_126
  let v152 : BitVec 32 := Scalar.addi v147 v151
  let c2_i32_127 : BitVec 32 := 2#32
  let v155 : BitVec 32 := Scalar.shrsi v143 c2_i32_127
  let c1_i32_128 : BitVec 32 := 1#32
  let v156 : BitVec 32 := Scalar.andi v155 c1_i32_128
  let v157 : BitVec 32 := Scalar.addi v152 v156
  let c3_i32_129 : BitVec 32 := 3#32
  let v160 : BitVec 32 := Scalar.shrsi v143 c3_i32_129
  let c1_i32_130 : BitVec 32 := 1#32
  let v161 : BitVec 32 := Scalar.andi v160 c1_i32_130
  let v162 : BitVec 32 := Scalar.addi v157 v161
  let c4_i32_131 : BitVec 32 := 4#32
  let v165 : BitVec 32 := Scalar.shrsi v143 c4_i32_131
  let c1_i32_132 : BitVec 32 := 1#32
  let v166 : BitVec 32 := Scalar.andi v165 c1_i32_132
  let v167 : BitVec 32 := Scalar.addi v162 v166
  let c5_i32_133 : BitVec 32 := 5#32
  let v170 : BitVec 32 := Scalar.shrsi v143 c5_i32_133
  let c1_i32_134 : BitVec 32 := 1#32
  let v171 : BitVec 32 := Scalar.andi v170 c1_i32_134
  let v172 : BitVec 32 := Scalar.addi v167 v171
  let c6_i32_135 : BitVec 32 := 6#32
  let v175 : BitVec 32 := Scalar.shrsi v143 c6_i32_135
  let c1_i32_136 : BitVec 32 := 1#32
  let v176 : BitVec 32 := Scalar.andi v175 c1_i32_136
  let v177 : BitVec 32 := Scalar.addi v172 v176
  let c7_i32_137 : BitVec 32 := 7#32
  let v180 : BitVec 32 := Scalar.shrsi v143 c7_i32_137
  let c1_i32_138 : BitVec 32 := 1#32
  let v181 : BitVec 32 := Scalar.andi v180 c1_i32_138
  let v182 : BitVec 32 := Scalar.addi v177 v181
  let c8_i32_139 : BitVec 32 := 8#32
  let v185 : BitVec 32 := Scalar.shrsi v143 c8_i32_139
  let c1_i32_140 : BitVec 32 := 1#32
  let v186 : BitVec 32 := Scalar.andi v185 c1_i32_140
  let v187 : BitVec 32 := Scalar.addi v182 v186
  let c9_i32_141 : BitVec 32 := 9#32
  let v190 : BitVec 32 := Scalar.shrsi v143 c9_i32_141
  let c1_i32_142 : BitVec 32 := 1#32
  let v191 : BitVec 32 := Scalar.andi v190 c1_i32_142
  let v192 : BitVec 32 := Scalar.addi v187 v191
  let c10_i32_143 : BitVec 32 := 10#32
  let v195 : BitVec 32 := Scalar.shrsi v143 c10_i32_143
  let c1_i32_144 : BitVec 32 := 1#32
  let v196 : BitVec 32 := Scalar.andi v195 c1_i32_144
  let v197 : BitVec 32 := Scalar.addi v192 v196
  let c11_i32_145 : BitVec 32 := 11#32
  let v200 : BitVec 32 := Scalar.shrsi v143 c11_i32_145
  let c1_i32_146 : BitVec 32 := 1#32
  let v201 : BitVec 32 := Scalar.andi v200 c1_i32_146
  let v202 : BitVec 32 := Scalar.addi v197 v201
  let c12_i32_147 : BitVec 32 := 12#32
  let v205 : BitVec 32 := Scalar.shrsi v143 c12_i32_147
  let c1_i32_148 : BitVec 32 := 1#32
  let v206 : BitVec 32 := Scalar.andi v205 c1_i32_148
  let v207 : BitVec 32 := Scalar.addi v202 v206
  let c13_i32_149 : BitVec 32 := 13#32
  let v210 : BitVec 32 := Scalar.shrsi v143 c13_i32_149
  let c1_i32_150 : BitVec 32 := 1#32
  let v211 : BitVec 32 := Scalar.andi v210 c1_i32_150
  let v212 : BitVec 32 := Scalar.addi v207 v211
  let c14_i32_151 : BitVec 32 := 14#32
  let v215 : BitVec 32 := Scalar.shrsi v143 c14_i32_151
  let c1_i32_152 : BitVec 32 := 1#32
  let v216 : BitVec 32 := Scalar.andi v215 c1_i32_152
  let v217 : BitVec 32 := Scalar.addi v212 v216
  let c15_i32_153 : BitVec 32 := 15#32
  let v220 : BitVec 32 := Scalar.shrsi v143 c15_i32_153
  let c1_i32_154 : BitVec 32 := 1#32
  let v221 : BitVec 32 := Scalar.andi v220 c1_i32_154
  let v222 : BitVec 32 := Scalar.addi v217 v221
  let v272 : BitVec 32 := Scalar.subi v222 c0_i32_207
  let c1_i32_208 : BitVec 32 := 1#32
  let v274 : BitVec 32 := Scalar.divsi v272 c1_i32_208
  let v275 : BitVec 32 := Scalar.muli v274 c1_i32_208
  let v276 : BitVec 32 := Scalar.addi c0_i32_207 v275
  let c1_i32_210 : BitVec 32 := 1#32
  let arg17 : BitVec 32 := Scf.iv v276 c1_i32_210 k0_t2
  let c1_i32_3264 : BitVec 32 := 1#32
  let v7431 : BitVec 32 := Scalar.addi arg17 c1_i32_3264
  let c2_i32_3265 : BitVec 32 := 2#32
  let v7432 : BitVec 32 := Scalar.remsi v7431 c2_i32_3265
  let c0_i32_3267 : BitVec 32 := 0#32
  let c0_i32_3268 : BitVec 32 := 0#32
  ![v7432.toNat, 0, 0]
def k0_off78 (v7434 : BitVec 32) : Fin 3 → Nat :=
  let c0_i32_3269 : BitVec 32 := 0#32
  let c0_i32_3270 : BitVec 32 := 0#32
  ![v7434.toNat, 0, 0]

def k0_off79 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 2 → Nat :=
  let c0_i32_207 : BitVec 32 := 0#32
  let c0_i32_123 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_2 : BitVec 32 := 1#32
  let v4 : BitVec 32 := Scalar.shli c1_i32_2 v3
  let v5 : BitVec 32 := Scalar.ori v2 v4
  let c1_i32_5 : BitVec 32 := 1#32
  let v7 : BitVec 32 := Scalar.shli c1_i32_5 v6
  let v8 : BitVec 32 := Scalar.ori v5 v7
  let c1_i32_8 : BitVec 32 := 1#32
  let v10 : BitVec 32 := Scalar.shli c1_i32_8 v9
  let v11 : BitVec 32 := Scalar.ori v8 v10
  let c1_i32_10 : BitVec 32 := 1#32
  let v13 : BitVec 32 := Scalar.shli c1_i32_10 v12
  let v14 : BitVec 32 := Scalar.ori v11 v13
  let c1_i32_13 : BitVec 32 := 1#32
  let v16 : BitVec 32 := Scalar.shli c1_i32_13 v15
  let v17 : BitVec 32 := Scalar.ori v14 v16
  let c1_i32_15 : BitVec 32 := 1#32
  let v19 : BitVec 32 := Scalar.shli c1_i32_15 v18
  let v20 : BitVec 32 := Scalar.ori v17 v19
  let c1_i32_18 : BitVec 32 := 1#32
  let v22 : BitVec 32 := Scalar.shli c1_i32_18 v21
  let v23 : BitVec 32 := Scalar.ori v20 v22
  let c1_i32_20 : BitVec 32 := 1#32
  let v25 : BitVec 32 := Scalar.shli c1_i32_20 v24
  let v26 : BitVec 32 := Scalar.ori v23 v25
  let c1_i32_23 : BitVec 32 := 1#32
  let v28 : BitVec 32 := Scalar.shli c1_i32_23 v27
  let v29 : BitVec 32 := Scalar.ori v26 v28
  let c1_i32_25 : BitVec 32 := 1#32
  let v31 : BitVec 32 := Scalar.shli c1_i32_25 v30
  let v32 : BitVec 32 := Scalar.ori v29 v31
  let c1_i32_28 : BitVec 32 := 1#32
  let v34 : BitVec 32 := Scalar.shli c1_i32_28 v33
  let v35 : BitVec 32 := Scalar.ori v32 v34
  let c1_i32_30 : BitVec 32 := 1#32
  let v37 : BitVec 32 := Scalar.shli c1_i32_30 v36
  let v38 : BitVec 32 := Scalar.ori v35 v37
  let c1_i32_33 : BitVec 32 := 1#32
  let v40 : BitVec 32 := Scalar.shli c1_i32_33 v39
  let v41 : BitVec 32 := Scalar.ori v38 v40
  let c1_i32_35 : BitVec 32 := 1#32
  let v43 : BitVec 32 := Scalar.shli c1_i32_35 v42
  let v44 : BitVec 32 := Scalar.ori v41 v43
  let c1_i32_38 : BitVec 32 := 1#32
  let v46 : BitVec 32 := Scalar.shli c1_i32_38 v45
  let v47 : BitVec 32 := Scalar.ori v44 v46
  let c1_i32_40 : BitVec 32 := 1#32
  let v49 : BitVec 32 := Scalar.shli c1_i32_40 v48
  let v50 : BitVec 32 := Scalar.ori v47 v49
  let c1_i32_43 : BitVec 32 := 1#32
  let v52 : BitVec 32 := Scalar.shli c1_i32_43 v51
  let v53 : BitVec 32 := Scalar.ori v50 v52
  let c1_i32_45 : BitVec 32 := 1#32
  let v55 : BitVec 32 := Scalar.shli c1_i32_45 v54
  let v56 : BitVec 32 := Scalar.ori v53 v55
  let c1_i32_48 : BitVec 32 := 1#32
  let v58 : BitVec 32 := Scalar.shli c1_i32_48 v57
  let v59 : BitVec 32 := Scalar.ori v56 v58
  let c1_i32_50 : BitVec 32 := 1#32
  let v61 : BitVec 32 := Scalar.shli c1_i32_50 v60
  let v62 : BitVec 32 := Scalar.ori v59 v61
  let c1_i32_53 : BitVec 32 := 1#32
  let v64 : BitVec 32 := Scalar.shli c1_i32_53 v63
  let v65 : BitVec 32 := Scalar.ori v62 v64
  let c1_i32_55 : BitVec 32 := 1#32
  let v67 : BitVec 32 := Scalar.shli c1_i32_55 v66
  let v68 : BitVec 32 := Scalar.ori v65 v67
  let c1_i32_58 : BitVec 32 := 1#32
  let v70 : BitVec 32 := Scalar.shli c1_i32_58 v69
  let v71 : BitVec 32 := Scalar.ori v68 v70
  let c1_i32_60 : BitVec 32 := 1#32
  let v73 : BitVec 32 := Scalar.shli c1_i32_60 v72
  let v74 : BitVec 32 := Scalar.ori v71 v73
  let c1_i32_63 : BitVec 32 := 1#32
  let v76 : BitVec 32 := Scalar.shli c1_i32_63 v75
  let v77 : BitVec 32 := Scalar.ori v74 v76
  let c1_i32_65 : BitVec 32 := 1#32
  let v79 : BitVec 32 := Scalar.shli c1_i32_65 v78
  let v80 : BitVec 32 := Scalar.ori v77 v79
  let c1_i32_68 : BitVec 32 := 1#32
  let v82 : BitVec 32 := Scalar.shli c1_i32_68 v81
  let v83 : BitVec 32 := Scalar.ori v80 v82
  let c1_i32_70 : BitVec 32 := 1#32
  let v85 : BitVec 32 := Scalar.shli c1_i32_70 v84
  let v86 : BitVec 32 := Scalar.ori v83 v85
  let c1_i32_73 : BitVec 32 := 1#32
  let v88 : BitVec 32 := Scalar.shli c1_i32_73 v87
  let v89 : BitVec 32 := Scalar.ori v86 v88
  let c1_i32_75 : BitVec 32 := 1#32
  let v91 : BitVec 32 := Scalar.shli c1_i32_75 v90
  let v92 : BitVec 32 := Scalar.ori v89 v91
  let c1_i32_78 : BitVec 32 := 1#32
  let v94 : BitVec 32 := Scalar.shli c1_i32_78 v93
  let v95 : BitVec 32 := Scalar.ori v92 v94
  let c1_i32_80 : BitVec 32 := 1#32
  let v97 : BitVec 32 := Scalar.shli c1_i32_80 v96
  let v98 : BitVec 32 := Scalar.ori v95 v97
  let c1_i32_83 : BitVec 32 := 1#32
  let v100 : BitVec 32 := Scalar.shli c1_i32_83 v99
  let v101 : BitVec 32 := Scalar.ori v98 v100
  let c1_i32_85 : BitVec 32 := 1#32
  let v103 : BitVec 32 := Scalar.shli c1_i32_85 v102
  let v104 : BitVec 32 := Scalar.ori v101 v103
  let c1_i32_88 : BitVec 32 := 1#32
  let v106 : BitVec 32 := Scalar.shli c1_i32_88 v105
  let v107 : BitVec 32 := Scalar.ori v104 v106
  let c1_i32_90 : BitVec 32 := 1#32
  let v109 : BitVec 32 := Scalar.shli c1_i32_90 v108
  let v110 : BitVec 32 := Scalar.ori v107 v109
  let c1_i32_93 : BitVec 32 := 1#32
  let v112 : BitVec 32 := Scalar.shli c1_i32_93 v111
  let v113 : BitVec 32 := Scalar.ori v110 v112
  let c1_i32_95 : BitVec 32 := 1#32
  let v115 : BitVec 32 := Scalar.shli c1_i32_95 v114
  let v116 : BitVec 32 := Scalar.ori v113 v115
  let c1_i32_98 : BitVec 32 := 1#32
  let v118 : BitVec 32 := Scalar.shli c1_i32_98 v117
  let v119 : BitVec 32 := Scalar.ori v116 v118
  let c1_i32_100 : BitVec 32 := 1#32
  let v121 : BitVec 32 := Scalar.shli c1_i32_100 v120
  let v122 : BitVec 32 := Scalar.ori v119 v121
  let c1_i32_103 : BitVec 32 := 1#32
  let v124 : BitVec 32 := Scalar.shli c1_i32_103 v123
  let v125 : BitVec 32 := Scalar.ori v122 v124
  let c1_i32_105 : BitVec 32 := 1#32
  let v127 : BitVec 32 := Scalar.shli c1_i32_105 v126
  let v128 : BitVec 32 := Scalar.ori v125 v127
  let c1_i32_108 : BitVec 32 := 1#32
  let v130 : BitVec 32 := Scalar.shli c1_i32_108 v129
  let v131 : BitVec 32 := Scalar.ori v128 v130
  let c1_i32_110 : BitVec 32 := 1#32
  let v133 : BitVec 32 := Scalar.shli c1_i32_110 v132
  let v134 : BitVec 32 := Scalar.ori v131 v133
  let c1_i32_113 : BitVec 32 := 1#32
  let v136 : BitVec 32 := Scalar.shli c1_i32_113 v135
  let v137 : BitVec 32 := Scalar.ori v134 v136
  let c1_i32_115 : BitVec 32 := 1#32
  let v139 : BitVec 32 := Scalar.shli c1_i32_115 v138
  let v140 : BitVec 32 := Scalar.ori v137 v139
  let c1_i32_118 : BitVec 32 := 1#32
  let v142 : BitVec 32 := Scalar.shli c1_i32_118 v141
  let v143 : BitVec 32 := Scalar.ori v140 v142
  let c0_i32_121 : BitVec 32 := 0#32
  let v145 : BitVec 32 := Scalar.shrsi v143 c0_i32_121
  let c1_i32_122 : BitVec 32 := 1#32
  let v146 : BitVec 32 := Scalar.andi v145 c1_i32_122
  let v147 : BitVec 32 := Scalar.addi c0_i32_123 v146
  let c1_i32_125 : BitVec 32 := 1#32
  let v150 : BitVec 32 := Scalar.shrsi v143 c1_i32_125
  let c1_i32_126 : BitVec 32 := 1#32
  let v151 : BitVec 32 := Scalar.andi v150 c1_i32_126
  let v152 : BitVec 32 := Scalar.addi v147 v151
  let c2_i32_127 : BitVec 32 := 2#32
  let v155 : BitVec 32 := Scalar.shrsi v143 c2_i32_127
  let c1_i32_128 : BitVec 32 := 1#32
  let v156 : BitVec 32 := Scalar.andi v155 c1_i32_128
  let v157 : BitVec 32 := Scalar.addi v152 v156
  let c3_i32_129 : BitVec 32 := 3#32
  let v160 : BitVec 32 := Scalar.shrsi v143 c3_i32_129
  let c1_i32_130 : BitVec 32 := 1#32
  let v161 : BitVec 32 := Scalar.andi v160 c1_i32_130
  let v162 : BitVec 32 := Scalar.addi v157 v161
  let c4_i32_131 : BitVec 32 := 4#32
  let v165 : BitVec 32 := Scalar.shrsi v143 c4_i32_131
  let c1_i32_132 : BitVec 32 := 1#32
  let v166 : BitVec 32 := Scalar.andi v165 c1_i32_132
  let v167 : BitVec 32 := Scalar.addi v162 v166
  let c5_i32_133 : BitVec 32 := 5#32
  let v170 : BitVec 32 := Scalar.shrsi v143 c5_i32_133
  let c1_i32_134 : BitVec 32 := 1#32
  let v171 : BitVec 32 := Scalar.andi v170 c1_i32_134
  let v172 : BitVec 32 := Scalar.addi v167 v171
  let c6_i32_135 : BitVec 32 := 6#32
  let v175 : BitVec 32 := Scalar.shrsi v143 c6_i32_135
  let c1_i32_136 : BitVec 32 := 1#32
  let v176 : BitVec 32 := Scalar.andi v175 c1_i32_136
  let v177 : BitVec 32 := Scalar.addi v172 v176
  let c7_i32_137 : BitVec 32 := 7#32
  let v180 : BitVec 32 := Scalar.shrsi v143 c7_i32_137
  let c1_i32_138 : BitVec 32 := 1#32
  let v181 : BitVec 32 := Scalar.andi v180 c1_i32_138
  let v182 : BitVec 32 := Scalar.addi v177 v181
  let c8_i32_139 : BitVec 32 := 8#32
  let v185 : BitVec 32 := Scalar.shrsi v143 c8_i32_139
  let c1_i32_140 : BitVec 32 := 1#32
  let v186 : BitVec 32 := Scalar.andi v185 c1_i32_140
  let v187 : BitVec 32 := Scalar.addi v182 v186
  let c9_i32_141 : BitVec 32 := 9#32
  let v190 : BitVec 32 := Scalar.shrsi v143 c9_i32_141
  let c1_i32_142 : BitVec 32 := 1#32
  let v191 : BitVec 32 := Scalar.andi v190 c1_i32_142
  let v192 : BitVec 32 := Scalar.addi v187 v191
  let c10_i32_143 : BitVec 32 := 10#32
  let v195 : BitVec 32 := Scalar.shrsi v143 c10_i32_143
  let c1_i32_144 : BitVec 32 := 1#32
  let v196 : BitVec 32 := Scalar.andi v195 c1_i32_144
  let v197 : BitVec 32 := Scalar.addi v192 v196
  let c11_i32_145 : BitVec 32 := 11#32
  let v200 : BitVec 32 := Scalar.shrsi v143 c11_i32_145
  let c1_i32_146 : BitVec 32 := 1#32
  let v201 : BitVec 32 := Scalar.andi v200 c1_i32_146
  let v202 : BitVec 32 := Scalar.addi v197 v201
  let c12_i32_147 : BitVec 32 := 12#32
  let v205 : BitVec 32 := Scalar.shrsi v143 c12_i32_147
  let c1_i32_148 : BitVec 32 := 1#32
  let v206 : BitVec 32 := Scalar.andi v205 c1_i32_148
  let v207 : BitVec 32 := Scalar.addi v202 v206
  let c13_i32_149 : BitVec 32 := 13#32
  let v210 : BitVec 32 := Scalar.shrsi v143 c13_i32_149
  let c1_i32_150 : BitVec 32 := 1#32
  let v211 : BitVec 32 := Scalar.andi v210 c1_i32_150
  let v212 : BitVec 32 := Scalar.addi v207 v211
  let c14_i32_151 : BitVec 32 := 14#32
  let v215 : BitVec 32 := Scalar.shrsi v143 c14_i32_151
  let c1_i32_152 : BitVec 32 := 1#32
  let v216 : BitVec 32 := Scalar.andi v215 c1_i32_152
  let v217 : BitVec 32 := Scalar.addi v212 v216
  let c15_i32_153 : BitVec 32 := 15#32
  let v220 : BitVec 32 := Scalar.shrsi v143 c15_i32_153
  let c1_i32_154 : BitVec 32 := 1#32
  let v221 : BitVec 32 := Scalar.andi v220 c1_i32_154
  let v222 : BitVec 32 := Scalar.addi v217 v221
  let v272 : BitVec 32 := Scalar.subi v222 c0_i32_207
  let c1_i32_208 : BitVec 32 := 1#32
  let v274 : BitVec 32 := Scalar.divsi v272 c1_i32_208
  let v275 : BitVec 32 := Scalar.muli v274 c1_i32_208
  let v276 : BitVec 32 := Scalar.addi c0_i32_207 v275
  let c1_i32_210 : BitVec 32 := 1#32
  let arg17 : BitVec 32 := Scf.iv v276 c1_i32_210 k0_t2
  let c1_i32_3264 : BitVec 32 := 1#32
  let v7431 : BitVec 32 := Scalar.addi arg17 c1_i32_3264
  let c2_i32_3265 : BitVec 32 := 2#32
  let v7432 : BitVec 32 := Scalar.remsi v7431 c2_i32_3265
  let c0_i32_3271 : BitVec 32 := 0#32
  ![v7432.toNat, 0]
def k0_off80 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 3 → Nat :=
  let c0_i32_207 : BitVec 32 := 0#32
  let c0_i32_123 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_2 : BitVec 32 := 1#32
  let v4 : BitVec 32 := Scalar.shli c1_i32_2 v3
  let v5 : BitVec 32 := Scalar.ori v2 v4
  let c1_i32_5 : BitVec 32 := 1#32
  let v7 : BitVec 32 := Scalar.shli c1_i32_5 v6
  let v8 : BitVec 32 := Scalar.ori v5 v7
  let c1_i32_8 : BitVec 32 := 1#32
  let v10 : BitVec 32 := Scalar.shli c1_i32_8 v9
  let v11 : BitVec 32 := Scalar.ori v8 v10
  let c1_i32_10 : BitVec 32 := 1#32
  let v13 : BitVec 32 := Scalar.shli c1_i32_10 v12
  let v14 : BitVec 32 := Scalar.ori v11 v13
  let c1_i32_13 : BitVec 32 := 1#32
  let v16 : BitVec 32 := Scalar.shli c1_i32_13 v15
  let v17 : BitVec 32 := Scalar.ori v14 v16
  let c1_i32_15 : BitVec 32 := 1#32
  let v19 : BitVec 32 := Scalar.shli c1_i32_15 v18
  let v20 : BitVec 32 := Scalar.ori v17 v19
  let c1_i32_18 : BitVec 32 := 1#32
  let v22 : BitVec 32 := Scalar.shli c1_i32_18 v21
  let v23 : BitVec 32 := Scalar.ori v20 v22
  let c1_i32_20 : BitVec 32 := 1#32
  let v25 : BitVec 32 := Scalar.shli c1_i32_20 v24
  let v26 : BitVec 32 := Scalar.ori v23 v25
  let c1_i32_23 : BitVec 32 := 1#32
  let v28 : BitVec 32 := Scalar.shli c1_i32_23 v27
  let v29 : BitVec 32 := Scalar.ori v26 v28
  let c1_i32_25 : BitVec 32 := 1#32
  let v31 : BitVec 32 := Scalar.shli c1_i32_25 v30
  let v32 : BitVec 32 := Scalar.ori v29 v31
  let c1_i32_28 : BitVec 32 := 1#32
  let v34 : BitVec 32 := Scalar.shli c1_i32_28 v33
  let v35 : BitVec 32 := Scalar.ori v32 v34
  let c1_i32_30 : BitVec 32 := 1#32
  let v37 : BitVec 32 := Scalar.shli c1_i32_30 v36
  let v38 : BitVec 32 := Scalar.ori v35 v37
  let c1_i32_33 : BitVec 32 := 1#32
  let v40 : BitVec 32 := Scalar.shli c1_i32_33 v39
  let v41 : BitVec 32 := Scalar.ori v38 v40
  let c1_i32_35 : BitVec 32 := 1#32
  let v43 : BitVec 32 := Scalar.shli c1_i32_35 v42
  let v44 : BitVec 32 := Scalar.ori v41 v43
  let c1_i32_38 : BitVec 32 := 1#32
  let v46 : BitVec 32 := Scalar.shli c1_i32_38 v45
  let v47 : BitVec 32 := Scalar.ori v44 v46
  let c1_i32_40 : BitVec 32 := 1#32
  let v49 : BitVec 32 := Scalar.shli c1_i32_40 v48
  let v50 : BitVec 32 := Scalar.ori v47 v49
  let c1_i32_43 : BitVec 32 := 1#32
  let v52 : BitVec 32 := Scalar.shli c1_i32_43 v51
  let v53 : BitVec 32 := Scalar.ori v50 v52
  let c1_i32_45 : BitVec 32 := 1#32
  let v55 : BitVec 32 := Scalar.shli c1_i32_45 v54
  let v56 : BitVec 32 := Scalar.ori v53 v55
  let c1_i32_48 : BitVec 32 := 1#32
  let v58 : BitVec 32 := Scalar.shli c1_i32_48 v57
  let v59 : BitVec 32 := Scalar.ori v56 v58
  let c1_i32_50 : BitVec 32 := 1#32
  let v61 : BitVec 32 := Scalar.shli c1_i32_50 v60
  let v62 : BitVec 32 := Scalar.ori v59 v61
  let c1_i32_53 : BitVec 32 := 1#32
  let v64 : BitVec 32 := Scalar.shli c1_i32_53 v63
  let v65 : BitVec 32 := Scalar.ori v62 v64
  let c1_i32_55 : BitVec 32 := 1#32
  let v67 : BitVec 32 := Scalar.shli c1_i32_55 v66
  let v68 : BitVec 32 := Scalar.ori v65 v67
  let c1_i32_58 : BitVec 32 := 1#32
  let v70 : BitVec 32 := Scalar.shli c1_i32_58 v69
  let v71 : BitVec 32 := Scalar.ori v68 v70
  let c1_i32_60 : BitVec 32 := 1#32
  let v73 : BitVec 32 := Scalar.shli c1_i32_60 v72
  let v74 : BitVec 32 := Scalar.ori v71 v73
  let c1_i32_63 : BitVec 32 := 1#32
  let v76 : BitVec 32 := Scalar.shli c1_i32_63 v75
  let v77 : BitVec 32 := Scalar.ori v74 v76
  let c1_i32_65 : BitVec 32 := 1#32
  let v79 : BitVec 32 := Scalar.shli c1_i32_65 v78
  let v80 : BitVec 32 := Scalar.ori v77 v79
  let c1_i32_68 : BitVec 32 := 1#32
  let v82 : BitVec 32 := Scalar.shli c1_i32_68 v81
  let v83 : BitVec 32 := Scalar.ori v80 v82
  let c1_i32_70 : BitVec 32 := 1#32
  let v85 : BitVec 32 := Scalar.shli c1_i32_70 v84
  let v86 : BitVec 32 := Scalar.ori v83 v85
  let c1_i32_73 : BitVec 32 := 1#32
  let v88 : BitVec 32 := Scalar.shli c1_i32_73 v87
  let v89 : BitVec 32 := Scalar.ori v86 v88
  let c1_i32_75 : BitVec 32 := 1#32
  let v91 : BitVec 32 := Scalar.shli c1_i32_75 v90
  let v92 : BitVec 32 := Scalar.ori v89 v91
  let c1_i32_78 : BitVec 32 := 1#32
  let v94 : BitVec 32 := Scalar.shli c1_i32_78 v93
  let v95 : BitVec 32 := Scalar.ori v92 v94
  let c1_i32_80 : BitVec 32 := 1#32
  let v97 : BitVec 32 := Scalar.shli c1_i32_80 v96
  let v98 : BitVec 32 := Scalar.ori v95 v97
  let c1_i32_83 : BitVec 32 := 1#32
  let v100 : BitVec 32 := Scalar.shli c1_i32_83 v99
  let v101 : BitVec 32 := Scalar.ori v98 v100
  let c1_i32_85 : BitVec 32 := 1#32
  let v103 : BitVec 32 := Scalar.shli c1_i32_85 v102
  let v104 : BitVec 32 := Scalar.ori v101 v103
  let c1_i32_88 : BitVec 32 := 1#32
  let v106 : BitVec 32 := Scalar.shli c1_i32_88 v105
  let v107 : BitVec 32 := Scalar.ori v104 v106
  let c1_i32_90 : BitVec 32 := 1#32
  let v109 : BitVec 32 := Scalar.shli c1_i32_90 v108
  let v110 : BitVec 32 := Scalar.ori v107 v109
  let c1_i32_93 : BitVec 32 := 1#32
  let v112 : BitVec 32 := Scalar.shli c1_i32_93 v111
  let v113 : BitVec 32 := Scalar.ori v110 v112
  let c1_i32_95 : BitVec 32 := 1#32
  let v115 : BitVec 32 := Scalar.shli c1_i32_95 v114
  let v116 : BitVec 32 := Scalar.ori v113 v115
  let c1_i32_98 : BitVec 32 := 1#32
  let v118 : BitVec 32 := Scalar.shli c1_i32_98 v117
  let v119 : BitVec 32 := Scalar.ori v116 v118
  let c1_i32_100 : BitVec 32 := 1#32
  let v121 : BitVec 32 := Scalar.shli c1_i32_100 v120
  let v122 : BitVec 32 := Scalar.ori v119 v121
  let c1_i32_103 : BitVec 32 := 1#32
  let v124 : BitVec 32 := Scalar.shli c1_i32_103 v123
  let v125 : BitVec 32 := Scalar.ori v122 v124
  let c1_i32_105 : BitVec 32 := 1#32
  let v127 : BitVec 32 := Scalar.shli c1_i32_105 v126
  let v128 : BitVec 32 := Scalar.ori v125 v127
  let c1_i32_108 : BitVec 32 := 1#32
  let v130 : BitVec 32 := Scalar.shli c1_i32_108 v129
  let v131 : BitVec 32 := Scalar.ori v128 v130
  let c1_i32_110 : BitVec 32 := 1#32
  let v133 : BitVec 32 := Scalar.shli c1_i32_110 v132
  let v134 : BitVec 32 := Scalar.ori v131 v133
  let c1_i32_113 : BitVec 32 := 1#32
  let v136 : BitVec 32 := Scalar.shli c1_i32_113 v135
  let v137 : BitVec 32 := Scalar.ori v134 v136
  let c1_i32_115 : BitVec 32 := 1#32
  let v139 : BitVec 32 := Scalar.shli c1_i32_115 v138
  let v140 : BitVec 32 := Scalar.ori v137 v139
  let c1_i32_118 : BitVec 32 := 1#32
  let v142 : BitVec 32 := Scalar.shli c1_i32_118 v141
  let v143 : BitVec 32 := Scalar.ori v140 v142
  let c0_i32_121 : BitVec 32 := 0#32
  let v145 : BitVec 32 := Scalar.shrsi v143 c0_i32_121
  let c1_i32_122 : BitVec 32 := 1#32
  let v146 : BitVec 32 := Scalar.andi v145 c1_i32_122
  let v147 : BitVec 32 := Scalar.addi c0_i32_123 v146
  let c1_i32_125 : BitVec 32 := 1#32
  let v150 : BitVec 32 := Scalar.shrsi v143 c1_i32_125
  let c1_i32_126 : BitVec 32 := 1#32
  let v151 : BitVec 32 := Scalar.andi v150 c1_i32_126
  let v152 : BitVec 32 := Scalar.addi v147 v151
  let c2_i32_127 : BitVec 32 := 2#32
  let v155 : BitVec 32 := Scalar.shrsi v143 c2_i32_127
  let c1_i32_128 : BitVec 32 := 1#32
  let v156 : BitVec 32 := Scalar.andi v155 c1_i32_128
  let v157 : BitVec 32 := Scalar.addi v152 v156
  let c3_i32_129 : BitVec 32 := 3#32
  let v160 : BitVec 32 := Scalar.shrsi v143 c3_i32_129
  let c1_i32_130 : BitVec 32 := 1#32
  let v161 : BitVec 32 := Scalar.andi v160 c1_i32_130
  let v162 : BitVec 32 := Scalar.addi v157 v161
  let c4_i32_131 : BitVec 32 := 4#32
  let v165 : BitVec 32 := Scalar.shrsi v143 c4_i32_131
  let c1_i32_132 : BitVec 32 := 1#32
  let v166 : BitVec 32 := Scalar.andi v165 c1_i32_132
  let v167 : BitVec 32 := Scalar.addi v162 v166
  let c5_i32_133 : BitVec 32 := 5#32
  let v170 : BitVec 32 := Scalar.shrsi v143 c5_i32_133
  let c1_i32_134 : BitVec 32 := 1#32
  let v171 : BitVec 32 := Scalar.andi v170 c1_i32_134
  let v172 : BitVec 32 := Scalar.addi v167 v171
  let c6_i32_135 : BitVec 32 := 6#32
  let v175 : BitVec 32 := Scalar.shrsi v143 c6_i32_135
  let c1_i32_136 : BitVec 32 := 1#32
  let v176 : BitVec 32 := Scalar.andi v175 c1_i32_136
  let v177 : BitVec 32 := Scalar.addi v172 v176
  let c7_i32_137 : BitVec 32 := 7#32
  let v180 : BitVec 32 := Scalar.shrsi v143 c7_i32_137
  let c1_i32_138 : BitVec 32 := 1#32
  let v181 : BitVec 32 := Scalar.andi v180 c1_i32_138
  let v182 : BitVec 32 := Scalar.addi v177 v181
  let c8_i32_139 : BitVec 32 := 8#32
  let v185 : BitVec 32 := Scalar.shrsi v143 c8_i32_139
  let c1_i32_140 : BitVec 32 := 1#32
  let v186 : BitVec 32 := Scalar.andi v185 c1_i32_140
  let v187 : BitVec 32 := Scalar.addi v182 v186
  let c9_i32_141 : BitVec 32 := 9#32
  let v190 : BitVec 32 := Scalar.shrsi v143 c9_i32_141
  let c1_i32_142 : BitVec 32 := 1#32
  let v191 : BitVec 32 := Scalar.andi v190 c1_i32_142
  let v192 : BitVec 32 := Scalar.addi v187 v191
  let c10_i32_143 : BitVec 32 := 10#32
  let v195 : BitVec 32 := Scalar.shrsi v143 c10_i32_143
  let c1_i32_144 : BitVec 32 := 1#32
  let v196 : BitVec 32 := Scalar.andi v195 c1_i32_144
  let v197 : BitVec 32 := Scalar.addi v192 v196
  let c11_i32_145 : BitVec 32 := 11#32
  let v200 : BitVec 32 := Scalar.shrsi v143 c11_i32_145
  let c1_i32_146 : BitVec 32 := 1#32
  let v201 : BitVec 32 := Scalar.andi v200 c1_i32_146
  let v202 : BitVec 32 := Scalar.addi v197 v201
  let c12_i32_147 : BitVec 32 := 12#32
  let v205 : BitVec 32 := Scalar.shrsi v143 c12_i32_147
  let c1_i32_148 : BitVec 32 := 1#32
  let v206 : BitVec 32 := Scalar.andi v205 c1_i32_148
  let v207 : BitVec 32 := Scalar.addi v202 v206
  let c13_i32_149 : BitVec 32 := 13#32
  let v210 : BitVec 32 := Scalar.shrsi v143 c13_i32_149
  let c1_i32_150 : BitVec 32 := 1#32
  let v211 : BitVec 32 := Scalar.andi v210 c1_i32_150
  let v212 : BitVec 32 := Scalar.addi v207 v211
  let c14_i32_151 : BitVec 32 := 14#32
  let v215 : BitVec 32 := Scalar.shrsi v143 c14_i32_151
  let c1_i32_152 : BitVec 32 := 1#32
  let v216 : BitVec 32 := Scalar.andi v215 c1_i32_152
  let v217 : BitVec 32 := Scalar.addi v212 v216
  let c15_i32_153 : BitVec 32 := 15#32
  let v220 : BitVec 32 := Scalar.shrsi v143 c15_i32_153
  let c1_i32_154 : BitVec 32 := 1#32
  let v221 : BitVec 32 := Scalar.andi v220 c1_i32_154
  let v222 : BitVec 32 := Scalar.addi v217 v221
  let v272 : BitVec 32 := Scalar.subi v222 c0_i32_207
  let c1_i32_208 : BitVec 32 := 1#32
  let v274 : BitVec 32 := Scalar.divsi v272 c1_i32_208
  let v275 : BitVec 32 := Scalar.muli v274 c1_i32_208
  let v276 : BitVec 32 := Scalar.addi c0_i32_207 v275
  let c1_i32_210 : BitVec 32 := 1#32
  let arg17 : BitVec 32 := Scf.iv v276 c1_i32_210 k0_t2
  let c1_i32_3264 : BitVec 32 := 1#32
  let v7431 : BitVec 32 := Scalar.addi arg17 c1_i32_3264
  let c2_i32_3265 : BitVec 32 := 2#32
  let v7432 : BitVec 32 := Scalar.remsi v7431 c2_i32_3265
  let c0_i32_3272 : BitVec 32 := 0#32
  let c0_i32_3273 : BitVec 32 := 0#32
  ![v7432.toNat, 0, 0]
def k0_off81 (v7434 : BitVec 32) : Fin 3 → Nat :=
  let c0_i32_3274 : BitVec 32 := 0#32
  let c0_i32_3275 : BitVec 32 := 0#32
  ![v7434.toNat, 0, 0]
def k0_off82 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 3 → Nat :=
  let c0_i32_207 : BitVec 32 := 0#32
  let c0_i32_123 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_2 : BitVec 32 := 1#32
  let v4 : BitVec 32 := Scalar.shli c1_i32_2 v3
  let v5 : BitVec 32 := Scalar.ori v2 v4
  let c1_i32_5 : BitVec 32 := 1#32
  let v7 : BitVec 32 := Scalar.shli c1_i32_5 v6
  let v8 : BitVec 32 := Scalar.ori v5 v7
  let c1_i32_8 : BitVec 32 := 1#32
  let v10 : BitVec 32 := Scalar.shli c1_i32_8 v9
  let v11 : BitVec 32 := Scalar.ori v8 v10
  let c1_i32_10 : BitVec 32 := 1#32
  let v13 : BitVec 32 := Scalar.shli c1_i32_10 v12
  let v14 : BitVec 32 := Scalar.ori v11 v13
  let c1_i32_13 : BitVec 32 := 1#32
  let v16 : BitVec 32 := Scalar.shli c1_i32_13 v15
  let v17 : BitVec 32 := Scalar.ori v14 v16
  let c1_i32_15 : BitVec 32 := 1#32
  let v19 : BitVec 32 := Scalar.shli c1_i32_15 v18
  let v20 : BitVec 32 := Scalar.ori v17 v19
  let c1_i32_18 : BitVec 32 := 1#32
  let v22 : BitVec 32 := Scalar.shli c1_i32_18 v21
  let v23 : BitVec 32 := Scalar.ori v20 v22
  let c1_i32_20 : BitVec 32 := 1#32
  let v25 : BitVec 32 := Scalar.shli c1_i32_20 v24
  let v26 : BitVec 32 := Scalar.ori v23 v25
  let c1_i32_23 : BitVec 32 := 1#32
  let v28 : BitVec 32 := Scalar.shli c1_i32_23 v27
  let v29 : BitVec 32 := Scalar.ori v26 v28
  let c1_i32_25 : BitVec 32 := 1#32
  let v31 : BitVec 32 := Scalar.shli c1_i32_25 v30
  let v32 : BitVec 32 := Scalar.ori v29 v31
  let c1_i32_28 : BitVec 32 := 1#32
  let v34 : BitVec 32 := Scalar.shli c1_i32_28 v33
  let v35 : BitVec 32 := Scalar.ori v32 v34
  let c1_i32_30 : BitVec 32 := 1#32
  let v37 : BitVec 32 := Scalar.shli c1_i32_30 v36
  let v38 : BitVec 32 := Scalar.ori v35 v37
  let c1_i32_33 : BitVec 32 := 1#32
  let v40 : BitVec 32 := Scalar.shli c1_i32_33 v39
  let v41 : BitVec 32 := Scalar.ori v38 v40
  let c1_i32_35 : BitVec 32 := 1#32
  let v43 : BitVec 32 := Scalar.shli c1_i32_35 v42
  let v44 : BitVec 32 := Scalar.ori v41 v43
  let c1_i32_38 : BitVec 32 := 1#32
  let v46 : BitVec 32 := Scalar.shli c1_i32_38 v45
  let v47 : BitVec 32 := Scalar.ori v44 v46
  let c1_i32_40 : BitVec 32 := 1#32
  let v49 : BitVec 32 := Scalar.shli c1_i32_40 v48
  let v50 : BitVec 32 := Scalar.ori v47 v49
  let c1_i32_43 : BitVec 32 := 1#32
  let v52 : BitVec 32 := Scalar.shli c1_i32_43 v51
  let v53 : BitVec 32 := Scalar.ori v50 v52
  let c1_i32_45 : BitVec 32 := 1#32
  let v55 : BitVec 32 := Scalar.shli c1_i32_45 v54
  let v56 : BitVec 32 := Scalar.ori v53 v55
  let c1_i32_48 : BitVec 32 := 1#32
  let v58 : BitVec 32 := Scalar.shli c1_i32_48 v57
  let v59 : BitVec 32 := Scalar.ori v56 v58
  let c1_i32_50 : BitVec 32 := 1#32
  let v61 : BitVec 32 := Scalar.shli c1_i32_50 v60
  let v62 : BitVec 32 := Scalar.ori v59 v61
  let c1_i32_53 : BitVec 32 := 1#32
  let v64 : BitVec 32 := Scalar.shli c1_i32_53 v63
  let v65 : BitVec 32 := Scalar.ori v62 v64
  let c1_i32_55 : BitVec 32 := 1#32
  let v67 : BitVec 32 := Scalar.shli c1_i32_55 v66
  let v68 : BitVec 32 := Scalar.ori v65 v67
  let c1_i32_58 : BitVec 32 := 1#32
  let v70 : BitVec 32 := Scalar.shli c1_i32_58 v69
  let v71 : BitVec 32 := Scalar.ori v68 v70
  let c1_i32_60 : BitVec 32 := 1#32
  let v73 : BitVec 32 := Scalar.shli c1_i32_60 v72
  let v74 : BitVec 32 := Scalar.ori v71 v73
  let c1_i32_63 : BitVec 32 := 1#32
  let v76 : BitVec 32 := Scalar.shli c1_i32_63 v75
  let v77 : BitVec 32 := Scalar.ori v74 v76
  let c1_i32_65 : BitVec 32 := 1#32
  let v79 : BitVec 32 := Scalar.shli c1_i32_65 v78
  let v80 : BitVec 32 := Scalar.ori v77 v79
  let c1_i32_68 : BitVec 32 := 1#32
  let v82 : BitVec 32 := Scalar.shli c1_i32_68 v81
  let v83 : BitVec 32 := Scalar.ori v80 v82
  let c1_i32_70 : BitVec 32 := 1#32
  let v85 : BitVec 32 := Scalar.shli c1_i32_70 v84
  let v86 : BitVec 32 := Scalar.ori v83 v85
  let c1_i32_73 : BitVec 32 := 1#32
  let v88 : BitVec 32 := Scalar.shli c1_i32_73 v87
  let v89 : BitVec 32 := Scalar.ori v86 v88
  let c1_i32_75 : BitVec 32 := 1#32
  let v91 : BitVec 32 := Scalar.shli c1_i32_75 v90
  let v92 : BitVec 32 := Scalar.ori v89 v91
  let c1_i32_78 : BitVec 32 := 1#32
  let v94 : BitVec 32 := Scalar.shli c1_i32_78 v93
  let v95 : BitVec 32 := Scalar.ori v92 v94
  let c1_i32_80 : BitVec 32 := 1#32
  let v97 : BitVec 32 := Scalar.shli c1_i32_80 v96
  let v98 : BitVec 32 := Scalar.ori v95 v97
  let c1_i32_83 : BitVec 32 := 1#32
  let v100 : BitVec 32 := Scalar.shli c1_i32_83 v99
  let v101 : BitVec 32 := Scalar.ori v98 v100
  let c1_i32_85 : BitVec 32 := 1#32
  let v103 : BitVec 32 := Scalar.shli c1_i32_85 v102
  let v104 : BitVec 32 := Scalar.ori v101 v103
  let c1_i32_88 : BitVec 32 := 1#32
  let v106 : BitVec 32 := Scalar.shli c1_i32_88 v105
  let v107 : BitVec 32 := Scalar.ori v104 v106
  let c1_i32_90 : BitVec 32 := 1#32
  let v109 : BitVec 32 := Scalar.shli c1_i32_90 v108
  let v110 : BitVec 32 := Scalar.ori v107 v109
  let c1_i32_93 : BitVec 32 := 1#32
  let v112 : BitVec 32 := Scalar.shli c1_i32_93 v111
  let v113 : BitVec 32 := Scalar.ori v110 v112
  let c1_i32_95 : BitVec 32 := 1#32
  let v115 : BitVec 32 := Scalar.shli c1_i32_95 v114
  let v116 : BitVec 32 := Scalar.ori v113 v115
  let c1_i32_98 : BitVec 32 := 1#32
  let v118 : BitVec 32 := Scalar.shli c1_i32_98 v117
  let v119 : BitVec 32 := Scalar.ori v116 v118
  let c1_i32_100 : BitVec 32 := 1#32
  let v121 : BitVec 32 := Scalar.shli c1_i32_100 v120
  let v122 : BitVec 32 := Scalar.ori v119 v121
  let c1_i32_103 : BitVec 32 := 1#32
  let v124 : BitVec 32 := Scalar.shli c1_i32_103 v123
  let v125 : BitVec 32 := Scalar.ori v122 v124
  let c1_i32_105 : BitVec 32 := 1#32
  let v127 : BitVec 32 := Scalar.shli c1_i32_105 v126
  let v128 : BitVec 32 := Scalar.ori v125 v127
  let c1_i32_108 : BitVec 32 := 1#32
  let v130 : BitVec 32 := Scalar.shli c1_i32_108 v129
  let v131 : BitVec 32 := Scalar.ori v128 v130
  let c1_i32_110 : BitVec 32 := 1#32
  let v133 : BitVec 32 := Scalar.shli c1_i32_110 v132
  let v134 : BitVec 32 := Scalar.ori v131 v133
  let c1_i32_113 : BitVec 32 := 1#32
  let v136 : BitVec 32 := Scalar.shli c1_i32_113 v135
  let v137 : BitVec 32 := Scalar.ori v134 v136
  let c1_i32_115 : BitVec 32 := 1#32
  let v139 : BitVec 32 := Scalar.shli c1_i32_115 v138
  let v140 : BitVec 32 := Scalar.ori v137 v139
  let c1_i32_118 : BitVec 32 := 1#32
  let v142 : BitVec 32 := Scalar.shli c1_i32_118 v141
  let v143 : BitVec 32 := Scalar.ori v140 v142
  let c0_i32_121 : BitVec 32 := 0#32
  let v145 : BitVec 32 := Scalar.shrsi v143 c0_i32_121
  let c1_i32_122 : BitVec 32 := 1#32
  let v146 : BitVec 32 := Scalar.andi v145 c1_i32_122
  let v147 : BitVec 32 := Scalar.addi c0_i32_123 v146
  let c1_i32_125 : BitVec 32 := 1#32
  let v150 : BitVec 32 := Scalar.shrsi v143 c1_i32_125
  let c1_i32_126 : BitVec 32 := 1#32
  let v151 : BitVec 32 := Scalar.andi v150 c1_i32_126
  let v152 : BitVec 32 := Scalar.addi v147 v151
  let c2_i32_127 : BitVec 32 := 2#32
  let v155 : BitVec 32 := Scalar.shrsi v143 c2_i32_127
  let c1_i32_128 : BitVec 32 := 1#32
  let v156 : BitVec 32 := Scalar.andi v155 c1_i32_128
  let v157 : BitVec 32 := Scalar.addi v152 v156
  let c3_i32_129 : BitVec 32 := 3#32
  let v160 : BitVec 32 := Scalar.shrsi v143 c3_i32_129
  let c1_i32_130 : BitVec 32 := 1#32
  let v161 : BitVec 32 := Scalar.andi v160 c1_i32_130
  let v162 : BitVec 32 := Scalar.addi v157 v161
  let c4_i32_131 : BitVec 32 := 4#32
  let v165 : BitVec 32 := Scalar.shrsi v143 c4_i32_131
  let c1_i32_132 : BitVec 32 := 1#32
  let v166 : BitVec 32 := Scalar.andi v165 c1_i32_132
  let v167 : BitVec 32 := Scalar.addi v162 v166
  let c5_i32_133 : BitVec 32 := 5#32
  let v170 : BitVec 32 := Scalar.shrsi v143 c5_i32_133
  let c1_i32_134 : BitVec 32 := 1#32
  let v171 : BitVec 32 := Scalar.andi v170 c1_i32_134
  let v172 : BitVec 32 := Scalar.addi v167 v171
  let c6_i32_135 : BitVec 32 := 6#32
  let v175 : BitVec 32 := Scalar.shrsi v143 c6_i32_135
  let c1_i32_136 : BitVec 32 := 1#32
  let v176 : BitVec 32 := Scalar.andi v175 c1_i32_136
  let v177 : BitVec 32 := Scalar.addi v172 v176
  let c7_i32_137 : BitVec 32 := 7#32
  let v180 : BitVec 32 := Scalar.shrsi v143 c7_i32_137
  let c1_i32_138 : BitVec 32 := 1#32
  let v181 : BitVec 32 := Scalar.andi v180 c1_i32_138
  let v182 : BitVec 32 := Scalar.addi v177 v181
  let c8_i32_139 : BitVec 32 := 8#32
  let v185 : BitVec 32 := Scalar.shrsi v143 c8_i32_139
  let c1_i32_140 : BitVec 32 := 1#32
  let v186 : BitVec 32 := Scalar.andi v185 c1_i32_140
  let v187 : BitVec 32 := Scalar.addi v182 v186
  let c9_i32_141 : BitVec 32 := 9#32
  let v190 : BitVec 32 := Scalar.shrsi v143 c9_i32_141
  let c1_i32_142 : BitVec 32 := 1#32
  let v191 : BitVec 32 := Scalar.andi v190 c1_i32_142
  let v192 : BitVec 32 := Scalar.addi v187 v191
  let c10_i32_143 : BitVec 32 := 10#32
  let v195 : BitVec 32 := Scalar.shrsi v143 c10_i32_143
  let c1_i32_144 : BitVec 32 := 1#32
  let v196 : BitVec 32 := Scalar.andi v195 c1_i32_144
  let v197 : BitVec 32 := Scalar.addi v192 v196
  let c11_i32_145 : BitVec 32 := 11#32
  let v200 : BitVec 32 := Scalar.shrsi v143 c11_i32_145
  let c1_i32_146 : BitVec 32 := 1#32
  let v201 : BitVec 32 := Scalar.andi v200 c1_i32_146
  let v202 : BitVec 32 := Scalar.addi v197 v201
  let c12_i32_147 : BitVec 32 := 12#32
  let v205 : BitVec 32 := Scalar.shrsi v143 c12_i32_147
  let c1_i32_148 : BitVec 32 := 1#32
  let v206 : BitVec 32 := Scalar.andi v205 c1_i32_148
  let v207 : BitVec 32 := Scalar.addi v202 v206
  let c13_i32_149 : BitVec 32 := 13#32
  let v210 : BitVec 32 := Scalar.shrsi v143 c13_i32_149
  let c1_i32_150 : BitVec 32 := 1#32
  let v211 : BitVec 32 := Scalar.andi v210 c1_i32_150
  let v212 : BitVec 32 := Scalar.addi v207 v211
  let c14_i32_151 : BitVec 32 := 14#32
  let v215 : BitVec 32 := Scalar.shrsi v143 c14_i32_151
  let c1_i32_152 : BitVec 32 := 1#32
  let v216 : BitVec 32 := Scalar.andi v215 c1_i32_152
  let v217 : BitVec 32 := Scalar.addi v212 v216
  let c15_i32_153 : BitVec 32 := 15#32
  let v220 : BitVec 32 := Scalar.shrsi v143 c15_i32_153
  let c1_i32_154 : BitVec 32 := 1#32
  let v221 : BitVec 32 := Scalar.andi v220 c1_i32_154
  let v222 : BitVec 32 := Scalar.addi v217 v221
  let v272 : BitVec 32 := Scalar.subi v222 c0_i32_207
  let c1_i32_208 : BitVec 32 := 1#32
  let v274 : BitVec 32 := Scalar.divsi v272 c1_i32_208
  let v275 : BitVec 32 := Scalar.muli v274 c1_i32_208
  let v276 : BitVec 32 := Scalar.addi c0_i32_207 v275
  let c1_i32_210 : BitVec 32 := 1#32
  let arg17 : BitVec 32 := Scf.iv v276 c1_i32_210 k0_t2
  let c1_i32_3264 : BitVec 32 := 1#32
  let v7431 : BitVec 32 := Scalar.addi arg17 c1_i32_3264
  let c2_i32_3265 : BitVec 32 := 2#32
  let v7432 : BitVec 32 := Scalar.remsi v7431 c2_i32_3265
  let c2048_i32_3277 : BitVec 32 := 2048#32
  let c0_i32_3278 : BitVec 32 := 0#32
  ![v7432.toNat, 2048, 0]
def k0_off83 (v7434 : BitVec 32) : Fin 3 → Nat :=
  let c2048_i32_3279 : BitVec 32 := 2048#32
  let c0_i32_3280 : BitVec 32 := 0#32
  ![v7434.toNat, 2048, 0]

def k0_chk11 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v7434 : BitVec 32) : Prop :=
  (∀ (k0_h2 : k0_cond2 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ a, (k0_off78 v7434) a + S1x16x4096.size a ≤ S16x16x4096.size a) ∧
  (∀ (k0_h2 : k0_cond2 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ (hinb : ∀ a, (k0_off78 v7434) a + S1x16x4096.size a ≤ S16x16x4096.size a), (Rect.unit (s := S16x16x4096) (k0_off78 v7434) S1x16x4096.size hinb).WholeWords (EltTy.packing .bf16)) ∧
  (∀ (k0_h2 : k0_cond2 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ a, (k0_off81 v7434) a + S1x1024x1024.size a ≤ S16x4096x1024.size a) ∧
  (∀ (k0_h2 : k0_cond2 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ (hinb : ∀ a, (k0_off81 v7434) a + S1x1024x1024.size a ≤ S16x4096x1024.size a), (Rect.unit (s := S16x4096x1024) (k0_off81 v7434) S1x1024x1024.size hinb).WholeWords (EltTy.packing .i8)) ∧
  (∀ (k0_h2 : k0_cond2 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ a, (k0_off83 v7434) a + S1x1024x1024.size a ≤ S16x4096x1024.size a) ∧
  (∀ (k0_h2 : k0_cond2 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ (hinb : ∀ a, (k0_off83 v7434) a + S1x1024x1024.size a ≤ S16x4096x1024.size a), (Rect.unit (s := S16x4096x1024) (k0_off83 v7434) S1x1024x1024.size hinb).WholeWords (EltTy.packing .i8))
theorem k0_off78_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v7434 : BitVec 32) (k0_hw11 : k0_chk11 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v7434), ∀ (k0_h2 : k0_cond2 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ a, (k0_off78 v7434) a + S1x16x4096.size a ≤ S16x16x4096.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v7434 k0_hw11 k0_h2 => k0_hw11.1 k0_h2
theorem k0_off78_wordsbf16 : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v7434 : BitVec 32) (k0_hw11 : k0_chk11 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v7434), ∀ (k0_h2 : k0_cond2 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), (Rect.unit (s := S16x16x4096) (k0_off78 v7434) S1x16x4096.size (k0_off78_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v7434 k0_hw11 k0_h2)).WholeWords (EltTy.packing .bf16) := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v7434 k0_hw11 k0_h2 => k0_hw11.2.1 k0_h2 (k0_off78_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v7434 k0_hw11 k0_h2)
theorem k0_off81_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v7434 : BitVec 32) (k0_hw11 : k0_chk11 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v7434), ∀ (k0_h2 : k0_cond2 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ a, (k0_off81 v7434) a + S1x1024x1024.size a ≤ S16x4096x1024.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v7434 k0_hw11 k0_h2 => k0_hw11.2.2.1 k0_h2
theorem k0_off81_wordsi8 : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v7434 : BitVec 32) (k0_hw11 : k0_chk11 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v7434), ∀ (k0_h2 : k0_cond2 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), (Rect.unit (s := S16x4096x1024) (k0_off81 v7434) S1x1024x1024.size (k0_off81_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v7434 k0_hw11 k0_h2)).WholeWords (EltTy.packing .i8) := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v7434 k0_hw11 k0_h2 => k0_hw11.2.2.2.1 k0_h2 (k0_off81_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v7434 k0_hw11 k0_h2)
theorem k0_off83_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v7434 : BitVec 32) (k0_hw11 : k0_chk11 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v7434), ∀ (k0_h2 : k0_cond2 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ a, (k0_off83 v7434) a + S1x1024x1024.size a ≤ S16x4096x1024.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v7434 k0_hw11 k0_h2 => k0_hw11.2.2.2.2.1 k0_h2
theorem k0_off83_wordsi8 : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v7434 : BitVec 32) (k0_hw11 : k0_chk11 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v7434), ∀ (k0_h2 : k0_cond2 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), (Rect.unit (s := S16x4096x1024) (k0_off83 v7434) S1x1024x1024.size (k0_off83_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v7434 k0_hw11 k0_h2)).WholeWords (EltTy.packing .i8) := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v7434 k0_hw11 k0_h2 => k0_hw11.2.2.2.2.2 k0_h2 (k0_off83_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v7434 k0_hw11 k0_h2)

def k0_off84 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 1 → Nat :=
  let c0_i32_207 : BitVec 32 := 0#32
  let c0_i32_123 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_2 : BitVec 32 := 1#32
  let v4 : BitVec 32 := Scalar.shli c1_i32_2 v3
  let v5 : BitVec 32 := Scalar.ori v2 v4
  let c1_i32_5 : BitVec 32 := 1#32
  let v7 : BitVec 32 := Scalar.shli c1_i32_5 v6
  let v8 : BitVec 32 := Scalar.ori v5 v7
  let c1_i32_8 : BitVec 32 := 1#32
  let v10 : BitVec 32 := Scalar.shli c1_i32_8 v9
  let v11 : BitVec 32 := Scalar.ori v8 v10
  let c1_i32_10 : BitVec 32 := 1#32
  let v13 : BitVec 32 := Scalar.shli c1_i32_10 v12
  let v14 : BitVec 32 := Scalar.ori v11 v13
  let c1_i32_13 : BitVec 32 := 1#32
  let v16 : BitVec 32 := Scalar.shli c1_i32_13 v15
  let v17 : BitVec 32 := Scalar.ori v14 v16
  let c1_i32_15 : BitVec 32 := 1#32
  let v19 : BitVec 32 := Scalar.shli c1_i32_15 v18
  let v20 : BitVec 32 := Scalar.ori v17 v19
  let c1_i32_18 : BitVec 32 := 1#32
  let v22 : BitVec 32 := Scalar.shli c1_i32_18 v21
  let v23 : BitVec 32 := Scalar.ori v20 v22
  let c1_i32_20 : BitVec 32 := 1#32
  let v25 : BitVec 32 := Scalar.shli c1_i32_20 v24
  let v26 : BitVec 32 := Scalar.ori v23 v25
  let c1_i32_23 : BitVec 32 := 1#32
  let v28 : BitVec 32 := Scalar.shli c1_i32_23 v27
  let v29 : BitVec 32 := Scalar.ori v26 v28
  let c1_i32_25 : BitVec 32 := 1#32
  let v31 : BitVec 32 := Scalar.shli c1_i32_25 v30
  let v32 : BitVec 32 := Scalar.ori v29 v31
  let c1_i32_28 : BitVec 32 := 1#32
  let v34 : BitVec 32 := Scalar.shli c1_i32_28 v33
  let v35 : BitVec 32 := Scalar.ori v32 v34
  let c1_i32_30 : BitVec 32 := 1#32
  let v37 : BitVec 32 := Scalar.shli c1_i32_30 v36
  let v38 : BitVec 32 := Scalar.ori v35 v37
  let c1_i32_33 : BitVec 32 := 1#32
  let v40 : BitVec 32 := Scalar.shli c1_i32_33 v39
  let v41 : BitVec 32 := Scalar.ori v38 v40
  let c1_i32_35 : BitVec 32 := 1#32
  let v43 : BitVec 32 := Scalar.shli c1_i32_35 v42
  let v44 : BitVec 32 := Scalar.ori v41 v43
  let c1_i32_38 : BitVec 32 := 1#32
  let v46 : BitVec 32 := Scalar.shli c1_i32_38 v45
  let v47 : BitVec 32 := Scalar.ori v44 v46
  let c1_i32_40 : BitVec 32 := 1#32
  let v49 : BitVec 32 := Scalar.shli c1_i32_40 v48
  let v50 : BitVec 32 := Scalar.ori v47 v49
  let c1_i32_43 : BitVec 32 := 1#32
  let v52 : BitVec 32 := Scalar.shli c1_i32_43 v51
  let v53 : BitVec 32 := Scalar.ori v50 v52
  let c1_i32_45 : BitVec 32 := 1#32
  let v55 : BitVec 32 := Scalar.shli c1_i32_45 v54
  let v56 : BitVec 32 := Scalar.ori v53 v55
  let c1_i32_48 : BitVec 32 := 1#32
  let v58 : BitVec 32 := Scalar.shli c1_i32_48 v57
  let v59 : BitVec 32 := Scalar.ori v56 v58
  let c1_i32_50 : BitVec 32 := 1#32
  let v61 : BitVec 32 := Scalar.shli c1_i32_50 v60
  let v62 : BitVec 32 := Scalar.ori v59 v61
  let c1_i32_53 : BitVec 32 := 1#32
  let v64 : BitVec 32 := Scalar.shli c1_i32_53 v63
  let v65 : BitVec 32 := Scalar.ori v62 v64
  let c1_i32_55 : BitVec 32 := 1#32
  let v67 : BitVec 32 := Scalar.shli c1_i32_55 v66
  let v68 : BitVec 32 := Scalar.ori v65 v67
  let c1_i32_58 : BitVec 32 := 1#32
  let v70 : BitVec 32 := Scalar.shli c1_i32_58 v69
  let v71 : BitVec 32 := Scalar.ori v68 v70
  let c1_i32_60 : BitVec 32 := 1#32
  let v73 : BitVec 32 := Scalar.shli c1_i32_60 v72
  let v74 : BitVec 32 := Scalar.ori v71 v73
  let c1_i32_63 : BitVec 32 := 1#32
  let v76 : BitVec 32 := Scalar.shli c1_i32_63 v75
  let v77 : BitVec 32 := Scalar.ori v74 v76
  let c1_i32_65 : BitVec 32 := 1#32
  let v79 : BitVec 32 := Scalar.shli c1_i32_65 v78
  let v80 : BitVec 32 := Scalar.ori v77 v79
  let c1_i32_68 : BitVec 32 := 1#32
  let v82 : BitVec 32 := Scalar.shli c1_i32_68 v81
  let v83 : BitVec 32 := Scalar.ori v80 v82
  let c1_i32_70 : BitVec 32 := 1#32
  let v85 : BitVec 32 := Scalar.shli c1_i32_70 v84
  let v86 : BitVec 32 := Scalar.ori v83 v85
  let c1_i32_73 : BitVec 32 := 1#32
  let v88 : BitVec 32 := Scalar.shli c1_i32_73 v87
  let v89 : BitVec 32 := Scalar.ori v86 v88
  let c1_i32_75 : BitVec 32 := 1#32
  let v91 : BitVec 32 := Scalar.shli c1_i32_75 v90
  let v92 : BitVec 32 := Scalar.ori v89 v91
  let c1_i32_78 : BitVec 32 := 1#32
  let v94 : BitVec 32 := Scalar.shli c1_i32_78 v93
  let v95 : BitVec 32 := Scalar.ori v92 v94
  let c1_i32_80 : BitVec 32 := 1#32
  let v97 : BitVec 32 := Scalar.shli c1_i32_80 v96
  let v98 : BitVec 32 := Scalar.ori v95 v97
  let c1_i32_83 : BitVec 32 := 1#32
  let v100 : BitVec 32 := Scalar.shli c1_i32_83 v99
  let v101 : BitVec 32 := Scalar.ori v98 v100
  let c1_i32_85 : BitVec 32 := 1#32
  let v103 : BitVec 32 := Scalar.shli c1_i32_85 v102
  let v104 : BitVec 32 := Scalar.ori v101 v103
  let c1_i32_88 : BitVec 32 := 1#32
  let v106 : BitVec 32 := Scalar.shli c1_i32_88 v105
  let v107 : BitVec 32 := Scalar.ori v104 v106
  let c1_i32_90 : BitVec 32 := 1#32
  let v109 : BitVec 32 := Scalar.shli c1_i32_90 v108
  let v110 : BitVec 32 := Scalar.ori v107 v109
  let c1_i32_93 : BitVec 32 := 1#32
  let v112 : BitVec 32 := Scalar.shli c1_i32_93 v111
  let v113 : BitVec 32 := Scalar.ori v110 v112
  let c1_i32_95 : BitVec 32 := 1#32
  let v115 : BitVec 32 := Scalar.shli c1_i32_95 v114
  let v116 : BitVec 32 := Scalar.ori v113 v115
  let c1_i32_98 : BitVec 32 := 1#32
  let v118 : BitVec 32 := Scalar.shli c1_i32_98 v117
  let v119 : BitVec 32 := Scalar.ori v116 v118
  let c1_i32_100 : BitVec 32 := 1#32
  let v121 : BitVec 32 := Scalar.shli c1_i32_100 v120
  let v122 : BitVec 32 := Scalar.ori v119 v121
  let c1_i32_103 : BitVec 32 := 1#32
  let v124 : BitVec 32 := Scalar.shli c1_i32_103 v123
  let v125 : BitVec 32 := Scalar.ori v122 v124
  let c1_i32_105 : BitVec 32 := 1#32
  let v127 : BitVec 32 := Scalar.shli c1_i32_105 v126
  let v128 : BitVec 32 := Scalar.ori v125 v127
  let c1_i32_108 : BitVec 32 := 1#32
  let v130 : BitVec 32 := Scalar.shli c1_i32_108 v129
  let v131 : BitVec 32 := Scalar.ori v128 v130
  let c1_i32_110 : BitVec 32 := 1#32
  let v133 : BitVec 32 := Scalar.shli c1_i32_110 v132
  let v134 : BitVec 32 := Scalar.ori v131 v133
  let c1_i32_113 : BitVec 32 := 1#32
  let v136 : BitVec 32 := Scalar.shli c1_i32_113 v135
  let v137 : BitVec 32 := Scalar.ori v134 v136
  let c1_i32_115 : BitVec 32 := 1#32
  let v139 : BitVec 32 := Scalar.shli c1_i32_115 v138
  let v140 : BitVec 32 := Scalar.ori v137 v139
  let c1_i32_118 : BitVec 32 := 1#32
  let v142 : BitVec 32 := Scalar.shli c1_i32_118 v141
  let v143 : BitVec 32 := Scalar.ori v140 v142
  let c0_i32_121 : BitVec 32 := 0#32
  let v145 : BitVec 32 := Scalar.shrsi v143 c0_i32_121
  let c1_i32_122 : BitVec 32 := 1#32
  let v146 : BitVec 32 := Scalar.andi v145 c1_i32_122
  let v147 : BitVec 32 := Scalar.addi c0_i32_123 v146
  let c1_i32_125 : BitVec 32 := 1#32
  let v150 : BitVec 32 := Scalar.shrsi v143 c1_i32_125
  let c1_i32_126 : BitVec 32 := 1#32
  let v151 : BitVec 32 := Scalar.andi v150 c1_i32_126
  let v152 : BitVec 32 := Scalar.addi v147 v151
  let c2_i32_127 : BitVec 32 := 2#32
  let v155 : BitVec 32 := Scalar.shrsi v143 c2_i32_127
  let c1_i32_128 : BitVec 32 := 1#32
  let v156 : BitVec 32 := Scalar.andi v155 c1_i32_128
  let v157 : BitVec 32 := Scalar.addi v152 v156
  let c3_i32_129 : BitVec 32 := 3#32
  let v160 : BitVec 32 := Scalar.shrsi v143 c3_i32_129
  let c1_i32_130 : BitVec 32 := 1#32
  let v161 : BitVec 32 := Scalar.andi v160 c1_i32_130
  let v162 : BitVec 32 := Scalar.addi v157 v161
  let c4_i32_131 : BitVec 32 := 4#32
  let v165 : BitVec 32 := Scalar.shrsi v143 c4_i32_131
  let c1_i32_132 : BitVec 32 := 1#32
  let v166 : BitVec 32 := Scalar.andi v165 c1_i32_132
  let v167 : BitVec 32 := Scalar.addi v162 v166
  let c5_i32_133 : BitVec 32 := 5#32
  let v170 : BitVec 32 := Scalar.shrsi v143 c5_i32_133
  let c1_i32_134 : BitVec 32 := 1#32
  let v171 : BitVec 32 := Scalar.andi v170 c1_i32_134
  let v172 : BitVec 32 := Scalar.addi v167 v171
  let c6_i32_135 : BitVec 32 := 6#32
  let v175 : BitVec 32 := Scalar.shrsi v143 c6_i32_135
  let c1_i32_136 : BitVec 32 := 1#32
  let v176 : BitVec 32 := Scalar.andi v175 c1_i32_136
  let v177 : BitVec 32 := Scalar.addi v172 v176
  let c7_i32_137 : BitVec 32 := 7#32
  let v180 : BitVec 32 := Scalar.shrsi v143 c7_i32_137
  let c1_i32_138 : BitVec 32 := 1#32
  let v181 : BitVec 32 := Scalar.andi v180 c1_i32_138
  let v182 : BitVec 32 := Scalar.addi v177 v181
  let c8_i32_139 : BitVec 32 := 8#32
  let v185 : BitVec 32 := Scalar.shrsi v143 c8_i32_139
  let c1_i32_140 : BitVec 32 := 1#32
  let v186 : BitVec 32 := Scalar.andi v185 c1_i32_140
  let v187 : BitVec 32 := Scalar.addi v182 v186
  let c9_i32_141 : BitVec 32 := 9#32
  let v190 : BitVec 32 := Scalar.shrsi v143 c9_i32_141
  let c1_i32_142 : BitVec 32 := 1#32
  let v191 : BitVec 32 := Scalar.andi v190 c1_i32_142
  let v192 : BitVec 32 := Scalar.addi v187 v191
  let c10_i32_143 : BitVec 32 := 10#32
  let v195 : BitVec 32 := Scalar.shrsi v143 c10_i32_143
  let c1_i32_144 : BitVec 32 := 1#32
  let v196 : BitVec 32 := Scalar.andi v195 c1_i32_144
  let v197 : BitVec 32 := Scalar.addi v192 v196
  let c11_i32_145 : BitVec 32 := 11#32
  let v200 : BitVec 32 := Scalar.shrsi v143 c11_i32_145
  let c1_i32_146 : BitVec 32 := 1#32
  let v201 : BitVec 32 := Scalar.andi v200 c1_i32_146
  let v202 : BitVec 32 := Scalar.addi v197 v201
  let c12_i32_147 : BitVec 32 := 12#32
  let v205 : BitVec 32 := Scalar.shrsi v143 c12_i32_147
  let c1_i32_148 : BitVec 32 := 1#32
  let v206 : BitVec 32 := Scalar.andi v205 c1_i32_148
  let v207 : BitVec 32 := Scalar.addi v202 v206
  let c13_i32_149 : BitVec 32 := 13#32
  let v210 : BitVec 32 := Scalar.shrsi v143 c13_i32_149
  let c1_i32_150 : BitVec 32 := 1#32
  let v211 : BitVec 32 := Scalar.andi v210 c1_i32_150
  let v212 : BitVec 32 := Scalar.addi v207 v211
  let c14_i32_151 : BitVec 32 := 14#32
  let v215 : BitVec 32 := Scalar.shrsi v143 c14_i32_151
  let c1_i32_152 : BitVec 32 := 1#32
  let v216 : BitVec 32 := Scalar.andi v215 c1_i32_152
  let v217 : BitVec 32 := Scalar.addi v212 v216
  let c15_i32_153 : BitVec 32 := 15#32
  let v220 : BitVec 32 := Scalar.shrsi v143 c15_i32_153
  let c1_i32_154 : BitVec 32 := 1#32
  let v221 : BitVec 32 := Scalar.andi v220 c1_i32_154
  let v222 : BitVec 32 := Scalar.addi v217 v221
  let v272 : BitVec 32 := Scalar.subi v222 c0_i32_207
  let c1_i32_208 : BitVec 32 := 1#32
  let v274 : BitVec 32 := Scalar.divsi v272 c1_i32_208
  let v275 : BitVec 32 := Scalar.muli v274 c1_i32_208
  let v276 : BitVec 32 := Scalar.addi c0_i32_207 v275
  let c1_i32_210 : BitVec 32 := 1#32
  let arg17 : BitVec 32 := Scf.iv v276 c1_i32_210 k0_t2
  let c1_i32_3263 : BitVec 32 := 1#32
  let v7430 : BitVec 32 := Scalar.addi arg17 c1_i32_3263
  let v7453 : Index := Scalar.indexCast v7430
  ![v7453.toNat]
def k0_off85 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 2 → Nat :=
  let c0_i32_207 : BitVec 32 := 0#32
  let c0_i32_123 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_2 : BitVec 32 := 1#32
  let v4 : BitVec 32 := Scalar.shli c1_i32_2 v3
  let v5 : BitVec 32 := Scalar.ori v2 v4
  let c1_i32_5 : BitVec 32 := 1#32
  let v7 : BitVec 32 := Scalar.shli c1_i32_5 v6
  let v8 : BitVec 32 := Scalar.ori v5 v7
  let c1_i32_8 : BitVec 32 := 1#32
  let v10 : BitVec 32 := Scalar.shli c1_i32_8 v9
  let v11 : BitVec 32 := Scalar.ori v8 v10
  let c1_i32_10 : BitVec 32 := 1#32
  let v13 : BitVec 32 := Scalar.shli c1_i32_10 v12
  let v14 : BitVec 32 := Scalar.ori v11 v13
  let c1_i32_13 : BitVec 32 := 1#32
  let v16 : BitVec 32 := Scalar.shli c1_i32_13 v15
  let v17 : BitVec 32 := Scalar.ori v14 v16
  let c1_i32_15 : BitVec 32 := 1#32
  let v19 : BitVec 32 := Scalar.shli c1_i32_15 v18
  let v20 : BitVec 32 := Scalar.ori v17 v19
  let c1_i32_18 : BitVec 32 := 1#32
  let v22 : BitVec 32 := Scalar.shli c1_i32_18 v21
  let v23 : BitVec 32 := Scalar.ori v20 v22
  let c1_i32_20 : BitVec 32 := 1#32
  let v25 : BitVec 32 := Scalar.shli c1_i32_20 v24
  let v26 : BitVec 32 := Scalar.ori v23 v25
  let c1_i32_23 : BitVec 32 := 1#32
  let v28 : BitVec 32 := Scalar.shli c1_i32_23 v27
  let v29 : BitVec 32 := Scalar.ori v26 v28
  let c1_i32_25 : BitVec 32 := 1#32
  let v31 : BitVec 32 := Scalar.shli c1_i32_25 v30
  let v32 : BitVec 32 := Scalar.ori v29 v31
  let c1_i32_28 : BitVec 32 := 1#32
  let v34 : BitVec 32 := Scalar.shli c1_i32_28 v33
  let v35 : BitVec 32 := Scalar.ori v32 v34
  let c1_i32_30 : BitVec 32 := 1#32
  let v37 : BitVec 32 := Scalar.shli c1_i32_30 v36
  let v38 : BitVec 32 := Scalar.ori v35 v37
  let c1_i32_33 : BitVec 32 := 1#32
  let v40 : BitVec 32 := Scalar.shli c1_i32_33 v39
  let v41 : BitVec 32 := Scalar.ori v38 v40
  let c1_i32_35 : BitVec 32 := 1#32
  let v43 : BitVec 32 := Scalar.shli c1_i32_35 v42
  let v44 : BitVec 32 := Scalar.ori v41 v43
  let c1_i32_38 : BitVec 32 := 1#32
  let v46 : BitVec 32 := Scalar.shli c1_i32_38 v45
  let v47 : BitVec 32 := Scalar.ori v44 v46
  let c1_i32_40 : BitVec 32 := 1#32
  let v49 : BitVec 32 := Scalar.shli c1_i32_40 v48
  let v50 : BitVec 32 := Scalar.ori v47 v49
  let c1_i32_43 : BitVec 32 := 1#32
  let v52 : BitVec 32 := Scalar.shli c1_i32_43 v51
  let v53 : BitVec 32 := Scalar.ori v50 v52
  let c1_i32_45 : BitVec 32 := 1#32
  let v55 : BitVec 32 := Scalar.shli c1_i32_45 v54
  let v56 : BitVec 32 := Scalar.ori v53 v55
  let c1_i32_48 : BitVec 32 := 1#32
  let v58 : BitVec 32 := Scalar.shli c1_i32_48 v57
  let v59 : BitVec 32 := Scalar.ori v56 v58
  let c1_i32_50 : BitVec 32 := 1#32
  let v61 : BitVec 32 := Scalar.shli c1_i32_50 v60
  let v62 : BitVec 32 := Scalar.ori v59 v61
  let c1_i32_53 : BitVec 32 := 1#32
  let v64 : BitVec 32 := Scalar.shli c1_i32_53 v63
  let v65 : BitVec 32 := Scalar.ori v62 v64
  let c1_i32_55 : BitVec 32 := 1#32
  let v67 : BitVec 32 := Scalar.shli c1_i32_55 v66
  let v68 : BitVec 32 := Scalar.ori v65 v67
  let c1_i32_58 : BitVec 32 := 1#32
  let v70 : BitVec 32 := Scalar.shli c1_i32_58 v69
  let v71 : BitVec 32 := Scalar.ori v68 v70
  let c1_i32_60 : BitVec 32 := 1#32
  let v73 : BitVec 32 := Scalar.shli c1_i32_60 v72
  let v74 : BitVec 32 := Scalar.ori v71 v73
  let c1_i32_63 : BitVec 32 := 1#32
  let v76 : BitVec 32 := Scalar.shli c1_i32_63 v75
  let v77 : BitVec 32 := Scalar.ori v74 v76
  let c1_i32_65 : BitVec 32 := 1#32
  let v79 : BitVec 32 := Scalar.shli c1_i32_65 v78
  let v80 : BitVec 32 := Scalar.ori v77 v79
  let c1_i32_68 : BitVec 32 := 1#32
  let v82 : BitVec 32 := Scalar.shli c1_i32_68 v81
  let v83 : BitVec 32 := Scalar.ori v80 v82
  let c1_i32_70 : BitVec 32 := 1#32
  let v85 : BitVec 32 := Scalar.shli c1_i32_70 v84
  let v86 : BitVec 32 := Scalar.ori v83 v85
  let c1_i32_73 : BitVec 32 := 1#32
  let v88 : BitVec 32 := Scalar.shli c1_i32_73 v87
  let v89 : BitVec 32 := Scalar.ori v86 v88
  let c1_i32_75 : BitVec 32 := 1#32
  let v91 : BitVec 32 := Scalar.shli c1_i32_75 v90
  let v92 : BitVec 32 := Scalar.ori v89 v91
  let c1_i32_78 : BitVec 32 := 1#32
  let v94 : BitVec 32 := Scalar.shli c1_i32_78 v93
  let v95 : BitVec 32 := Scalar.ori v92 v94
  let c1_i32_80 : BitVec 32 := 1#32
  let v97 : BitVec 32 := Scalar.shli c1_i32_80 v96
  let v98 : BitVec 32 := Scalar.ori v95 v97
  let c1_i32_83 : BitVec 32 := 1#32
  let v100 : BitVec 32 := Scalar.shli c1_i32_83 v99
  let v101 : BitVec 32 := Scalar.ori v98 v100
  let c1_i32_85 : BitVec 32 := 1#32
  let v103 : BitVec 32 := Scalar.shli c1_i32_85 v102
  let v104 : BitVec 32 := Scalar.ori v101 v103
  let c1_i32_88 : BitVec 32 := 1#32
  let v106 : BitVec 32 := Scalar.shli c1_i32_88 v105
  let v107 : BitVec 32 := Scalar.ori v104 v106
  let c1_i32_90 : BitVec 32 := 1#32
  let v109 : BitVec 32 := Scalar.shli c1_i32_90 v108
  let v110 : BitVec 32 := Scalar.ori v107 v109
  let c1_i32_93 : BitVec 32 := 1#32
  let v112 : BitVec 32 := Scalar.shli c1_i32_93 v111
  let v113 : BitVec 32 := Scalar.ori v110 v112
  let c1_i32_95 : BitVec 32 := 1#32
  let v115 : BitVec 32 := Scalar.shli c1_i32_95 v114
  let v116 : BitVec 32 := Scalar.ori v113 v115
  let c1_i32_98 : BitVec 32 := 1#32
  let v118 : BitVec 32 := Scalar.shli c1_i32_98 v117
  let v119 : BitVec 32 := Scalar.ori v116 v118
  let c1_i32_100 : BitVec 32 := 1#32
  let v121 : BitVec 32 := Scalar.shli c1_i32_100 v120
  let v122 : BitVec 32 := Scalar.ori v119 v121
  let c1_i32_103 : BitVec 32 := 1#32
  let v124 : BitVec 32 := Scalar.shli c1_i32_103 v123
  let v125 : BitVec 32 := Scalar.ori v122 v124
  let c1_i32_105 : BitVec 32 := 1#32
  let v127 : BitVec 32 := Scalar.shli c1_i32_105 v126
  let v128 : BitVec 32 := Scalar.ori v125 v127
  let c1_i32_108 : BitVec 32 := 1#32
  let v130 : BitVec 32 := Scalar.shli c1_i32_108 v129
  let v131 : BitVec 32 := Scalar.ori v128 v130
  let c1_i32_110 : BitVec 32 := 1#32
  let v133 : BitVec 32 := Scalar.shli c1_i32_110 v132
  let v134 : BitVec 32 := Scalar.ori v131 v133
  let c1_i32_113 : BitVec 32 := 1#32
  let v136 : BitVec 32 := Scalar.shli c1_i32_113 v135
  let v137 : BitVec 32 := Scalar.ori v134 v136
  let c1_i32_115 : BitVec 32 := 1#32
  let v139 : BitVec 32 := Scalar.shli c1_i32_115 v138
  let v140 : BitVec 32 := Scalar.ori v137 v139
  let c1_i32_118 : BitVec 32 := 1#32
  let v142 : BitVec 32 := Scalar.shli c1_i32_118 v141
  let v143 : BitVec 32 := Scalar.ori v140 v142
  let c0_i32_121 : BitVec 32 := 0#32
  let v145 : BitVec 32 := Scalar.shrsi v143 c0_i32_121
  let c1_i32_122 : BitVec 32 := 1#32
  let v146 : BitVec 32 := Scalar.andi v145 c1_i32_122
  let v147 : BitVec 32 := Scalar.addi c0_i32_123 v146
  let c1_i32_125 : BitVec 32 := 1#32
  let v150 : BitVec 32 := Scalar.shrsi v143 c1_i32_125
  let c1_i32_126 : BitVec 32 := 1#32
  let v151 : BitVec 32 := Scalar.andi v150 c1_i32_126
  let v152 : BitVec 32 := Scalar.addi v147 v151
  let c2_i32_127 : BitVec 32 := 2#32
  let v155 : BitVec 32 := Scalar.shrsi v143 c2_i32_127
  let c1_i32_128 : BitVec 32 := 1#32
  let v156 : BitVec 32 := Scalar.andi v155 c1_i32_128
  let v157 : BitVec 32 := Scalar.addi v152 v156
  let c3_i32_129 : BitVec 32 := 3#32
  let v160 : BitVec 32 := Scalar.shrsi v143 c3_i32_129
  let c1_i32_130 : BitVec 32 := 1#32
  let v161 : BitVec 32 := Scalar.andi v160 c1_i32_130
  let v162 : BitVec 32 := Scalar.addi v157 v161
  let c4_i32_131 : BitVec 32 := 4#32
  let v165 : BitVec 32 := Scalar.shrsi v143 c4_i32_131
  let c1_i32_132 : BitVec 32 := 1#32
  let v166 : BitVec 32 := Scalar.andi v165 c1_i32_132
  let v167 : BitVec 32 := Scalar.addi v162 v166
  let c5_i32_133 : BitVec 32 := 5#32
  let v170 : BitVec 32 := Scalar.shrsi v143 c5_i32_133
  let c1_i32_134 : BitVec 32 := 1#32
  let v171 : BitVec 32 := Scalar.andi v170 c1_i32_134
  let v172 : BitVec 32 := Scalar.addi v167 v171
  let c6_i32_135 : BitVec 32 := 6#32
  let v175 : BitVec 32 := Scalar.shrsi v143 c6_i32_135
  let c1_i32_136 : BitVec 32 := 1#32
  let v176 : BitVec 32 := Scalar.andi v175 c1_i32_136
  let v177 : BitVec 32 := Scalar.addi v172 v176
  let c7_i32_137 : BitVec 32 := 7#32
  let v180 : BitVec 32 := Scalar.shrsi v143 c7_i32_137
  let c1_i32_138 : BitVec 32 := 1#32
  let v181 : BitVec 32 := Scalar.andi v180 c1_i32_138
  let v182 : BitVec 32 := Scalar.addi v177 v181
  let c8_i32_139 : BitVec 32 := 8#32
  let v185 : BitVec 32 := Scalar.shrsi v143 c8_i32_139
  let c1_i32_140 : BitVec 32 := 1#32
  let v186 : BitVec 32 := Scalar.andi v185 c1_i32_140
  let v187 : BitVec 32 := Scalar.addi v182 v186
  let c9_i32_141 : BitVec 32 := 9#32
  let v190 : BitVec 32 := Scalar.shrsi v143 c9_i32_141
  let c1_i32_142 : BitVec 32 := 1#32
  let v191 : BitVec 32 := Scalar.andi v190 c1_i32_142
  let v192 : BitVec 32 := Scalar.addi v187 v191
  let c10_i32_143 : BitVec 32 := 10#32
  let v195 : BitVec 32 := Scalar.shrsi v143 c10_i32_143
  let c1_i32_144 : BitVec 32 := 1#32
  let v196 : BitVec 32 := Scalar.andi v195 c1_i32_144
  let v197 : BitVec 32 := Scalar.addi v192 v196
  let c11_i32_145 : BitVec 32 := 11#32
  let v200 : BitVec 32 := Scalar.shrsi v143 c11_i32_145
  let c1_i32_146 : BitVec 32 := 1#32
  let v201 : BitVec 32 := Scalar.andi v200 c1_i32_146
  let v202 : BitVec 32 := Scalar.addi v197 v201
  let c12_i32_147 : BitVec 32 := 12#32
  let v205 : BitVec 32 := Scalar.shrsi v143 c12_i32_147
  let c1_i32_148 : BitVec 32 := 1#32
  let v206 : BitVec 32 := Scalar.andi v205 c1_i32_148
  let v207 : BitVec 32 := Scalar.addi v202 v206
  let c13_i32_149 : BitVec 32 := 13#32
  let v210 : BitVec 32 := Scalar.shrsi v143 c13_i32_149
  let c1_i32_150 : BitVec 32 := 1#32
  let v211 : BitVec 32 := Scalar.andi v210 c1_i32_150
  let v212 : BitVec 32 := Scalar.addi v207 v211
  let c14_i32_151 : BitVec 32 := 14#32
  let v215 : BitVec 32 := Scalar.shrsi v143 c14_i32_151
  let c1_i32_152 : BitVec 32 := 1#32
  let v216 : BitVec 32 := Scalar.andi v215 c1_i32_152
  let v217 : BitVec 32 := Scalar.addi v212 v216
  let c15_i32_153 : BitVec 32 := 15#32
  let v220 : BitVec 32 := Scalar.shrsi v143 c15_i32_153
  let c1_i32_154 : BitVec 32 := 1#32
  let v221 : BitVec 32 := Scalar.andi v220 c1_i32_154
  let v222 : BitVec 32 := Scalar.addi v217 v221
  let v272 : BitVec 32 := Scalar.subi v222 c0_i32_207
  let c1_i32_208 : BitVec 32 := 1#32
  let v274 : BitVec 32 := Scalar.divsi v272 c1_i32_208
  let v275 : BitVec 32 := Scalar.muli v274 c1_i32_208
  let v276 : BitVec 32 := Scalar.addi c0_i32_207 v275
  let c1_i32_210 : BitVec 32 := 1#32
  let arg17 : BitVec 32 := Scf.iv v276 c1_i32_210 k0_t2
  let c1_i32_3264 : BitVec 32 := 1#32
  let v7431 : BitVec 32 := Scalar.addi arg17 c1_i32_3264
  let c2_i32_3265 : BitVec 32 := 2#32
  let v7432 : BitVec 32 := Scalar.remsi v7431 c2_i32_3265
  let c1_i32_3281 : BitVec 32 := 1#32
  ![v7432.toNat, 1]
def k0_off86 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 3 → Nat :=
  let c0_i32_207 : BitVec 32 := 0#32
  let c0_i32_123 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_2 : BitVec 32 := 1#32
  let v4 : BitVec 32 := Scalar.shli c1_i32_2 v3
  let v5 : BitVec 32 := Scalar.ori v2 v4
  let c1_i32_5 : BitVec 32 := 1#32
  let v7 : BitVec 32 := Scalar.shli c1_i32_5 v6
  let v8 : BitVec 32 := Scalar.ori v5 v7
  let c1_i32_8 : BitVec 32 := 1#32
  let v10 : BitVec 32 := Scalar.shli c1_i32_8 v9
  let v11 : BitVec 32 := Scalar.ori v8 v10
  let c1_i32_10 : BitVec 32 := 1#32
  let v13 : BitVec 32 := Scalar.shli c1_i32_10 v12
  let v14 : BitVec 32 := Scalar.ori v11 v13
  let c1_i32_13 : BitVec 32 := 1#32
  let v16 : BitVec 32 := Scalar.shli c1_i32_13 v15
  let v17 : BitVec 32 := Scalar.ori v14 v16
  let c1_i32_15 : BitVec 32 := 1#32
  let v19 : BitVec 32 := Scalar.shli c1_i32_15 v18
  let v20 : BitVec 32 := Scalar.ori v17 v19
  let c1_i32_18 : BitVec 32 := 1#32
  let v22 : BitVec 32 := Scalar.shli c1_i32_18 v21
  let v23 : BitVec 32 := Scalar.ori v20 v22
  let c1_i32_20 : BitVec 32 := 1#32
  let v25 : BitVec 32 := Scalar.shli c1_i32_20 v24
  let v26 : BitVec 32 := Scalar.ori v23 v25
  let c1_i32_23 : BitVec 32 := 1#32
  let v28 : BitVec 32 := Scalar.shli c1_i32_23 v27
  let v29 : BitVec 32 := Scalar.ori v26 v28
  let c1_i32_25 : BitVec 32 := 1#32
  let v31 : BitVec 32 := Scalar.shli c1_i32_25 v30
  let v32 : BitVec 32 := Scalar.ori v29 v31
  let c1_i32_28 : BitVec 32 := 1#32
  let v34 : BitVec 32 := Scalar.shli c1_i32_28 v33
  let v35 : BitVec 32 := Scalar.ori v32 v34
  let c1_i32_30 : BitVec 32 := 1#32
  let v37 : BitVec 32 := Scalar.shli c1_i32_30 v36
  let v38 : BitVec 32 := Scalar.ori v35 v37
  let c1_i32_33 : BitVec 32 := 1#32
  let v40 : BitVec 32 := Scalar.shli c1_i32_33 v39
  let v41 : BitVec 32 := Scalar.ori v38 v40
  let c1_i32_35 : BitVec 32 := 1#32
  let v43 : BitVec 32 := Scalar.shli c1_i32_35 v42
  let v44 : BitVec 32 := Scalar.ori v41 v43
  let c1_i32_38 : BitVec 32 := 1#32
  let v46 : BitVec 32 := Scalar.shli c1_i32_38 v45
  let v47 : BitVec 32 := Scalar.ori v44 v46
  let c1_i32_40 : BitVec 32 := 1#32
  let v49 : BitVec 32 := Scalar.shli c1_i32_40 v48
  let v50 : BitVec 32 := Scalar.ori v47 v49
  let c1_i32_43 : BitVec 32 := 1#32
  let v52 : BitVec 32 := Scalar.shli c1_i32_43 v51
  let v53 : BitVec 32 := Scalar.ori v50 v52
  let c1_i32_45 : BitVec 32 := 1#32
  let v55 : BitVec 32 := Scalar.shli c1_i32_45 v54
  let v56 : BitVec 32 := Scalar.ori v53 v55
  let c1_i32_48 : BitVec 32 := 1#32
  let v58 : BitVec 32 := Scalar.shli c1_i32_48 v57
  let v59 : BitVec 32 := Scalar.ori v56 v58
  let c1_i32_50 : BitVec 32 := 1#32
  let v61 : BitVec 32 := Scalar.shli c1_i32_50 v60
  let v62 : BitVec 32 := Scalar.ori v59 v61
  let c1_i32_53 : BitVec 32 := 1#32
  let v64 : BitVec 32 := Scalar.shli c1_i32_53 v63
  let v65 : BitVec 32 := Scalar.ori v62 v64
  let c1_i32_55 : BitVec 32 := 1#32
  let v67 : BitVec 32 := Scalar.shli c1_i32_55 v66
  let v68 : BitVec 32 := Scalar.ori v65 v67
  let c1_i32_58 : BitVec 32 := 1#32
  let v70 : BitVec 32 := Scalar.shli c1_i32_58 v69
  let v71 : BitVec 32 := Scalar.ori v68 v70
  let c1_i32_60 : BitVec 32 := 1#32
  let v73 : BitVec 32 := Scalar.shli c1_i32_60 v72
  let v74 : BitVec 32 := Scalar.ori v71 v73
  let c1_i32_63 : BitVec 32 := 1#32
  let v76 : BitVec 32 := Scalar.shli c1_i32_63 v75
  let v77 : BitVec 32 := Scalar.ori v74 v76
  let c1_i32_65 : BitVec 32 := 1#32
  let v79 : BitVec 32 := Scalar.shli c1_i32_65 v78
  let v80 : BitVec 32 := Scalar.ori v77 v79
  let c1_i32_68 : BitVec 32 := 1#32
  let v82 : BitVec 32 := Scalar.shli c1_i32_68 v81
  let v83 : BitVec 32 := Scalar.ori v80 v82
  let c1_i32_70 : BitVec 32 := 1#32
  let v85 : BitVec 32 := Scalar.shli c1_i32_70 v84
  let v86 : BitVec 32 := Scalar.ori v83 v85
  let c1_i32_73 : BitVec 32 := 1#32
  let v88 : BitVec 32 := Scalar.shli c1_i32_73 v87
  let v89 : BitVec 32 := Scalar.ori v86 v88
  let c1_i32_75 : BitVec 32 := 1#32
  let v91 : BitVec 32 := Scalar.shli c1_i32_75 v90
  let v92 : BitVec 32 := Scalar.ori v89 v91
  let c1_i32_78 : BitVec 32 := 1#32
  let v94 : BitVec 32 := Scalar.shli c1_i32_78 v93
  let v95 : BitVec 32 := Scalar.ori v92 v94
  let c1_i32_80 : BitVec 32 := 1#32
  let v97 : BitVec 32 := Scalar.shli c1_i32_80 v96
  let v98 : BitVec 32 := Scalar.ori v95 v97
  let c1_i32_83 : BitVec 32 := 1#32
  let v100 : BitVec 32 := Scalar.shli c1_i32_83 v99
  let v101 : BitVec 32 := Scalar.ori v98 v100
  let c1_i32_85 : BitVec 32 := 1#32
  let v103 : BitVec 32 := Scalar.shli c1_i32_85 v102
  let v104 : BitVec 32 := Scalar.ori v101 v103
  let c1_i32_88 : BitVec 32 := 1#32
  let v106 : BitVec 32 := Scalar.shli c1_i32_88 v105
  let v107 : BitVec 32 := Scalar.ori v104 v106
  let c1_i32_90 : BitVec 32 := 1#32
  let v109 : BitVec 32 := Scalar.shli c1_i32_90 v108
  let v110 : BitVec 32 := Scalar.ori v107 v109
  let c1_i32_93 : BitVec 32 := 1#32
  let v112 : BitVec 32 := Scalar.shli c1_i32_93 v111
  let v113 : BitVec 32 := Scalar.ori v110 v112
  let c1_i32_95 : BitVec 32 := 1#32
  let v115 : BitVec 32 := Scalar.shli c1_i32_95 v114
  let v116 : BitVec 32 := Scalar.ori v113 v115
  let c1_i32_98 : BitVec 32 := 1#32
  let v118 : BitVec 32 := Scalar.shli c1_i32_98 v117
  let v119 : BitVec 32 := Scalar.ori v116 v118
  let c1_i32_100 : BitVec 32 := 1#32
  let v121 : BitVec 32 := Scalar.shli c1_i32_100 v120
  let v122 : BitVec 32 := Scalar.ori v119 v121
  let c1_i32_103 : BitVec 32 := 1#32
  let v124 : BitVec 32 := Scalar.shli c1_i32_103 v123
  let v125 : BitVec 32 := Scalar.ori v122 v124
  let c1_i32_105 : BitVec 32 := 1#32
  let v127 : BitVec 32 := Scalar.shli c1_i32_105 v126
  let v128 : BitVec 32 := Scalar.ori v125 v127
  let c1_i32_108 : BitVec 32 := 1#32
  let v130 : BitVec 32 := Scalar.shli c1_i32_108 v129
  let v131 : BitVec 32 := Scalar.ori v128 v130
  let c1_i32_110 : BitVec 32 := 1#32
  let v133 : BitVec 32 := Scalar.shli c1_i32_110 v132
  let v134 : BitVec 32 := Scalar.ori v131 v133
  let c1_i32_113 : BitVec 32 := 1#32
  let v136 : BitVec 32 := Scalar.shli c1_i32_113 v135
  let v137 : BitVec 32 := Scalar.ori v134 v136
  let c1_i32_115 : BitVec 32 := 1#32
  let v139 : BitVec 32 := Scalar.shli c1_i32_115 v138
  let v140 : BitVec 32 := Scalar.ori v137 v139
  let c1_i32_118 : BitVec 32 := 1#32
  let v142 : BitVec 32 := Scalar.shli c1_i32_118 v141
  let v143 : BitVec 32 := Scalar.ori v140 v142
  let c0_i32_121 : BitVec 32 := 0#32
  let v145 : BitVec 32 := Scalar.shrsi v143 c0_i32_121
  let c1_i32_122 : BitVec 32 := 1#32
  let v146 : BitVec 32 := Scalar.andi v145 c1_i32_122
  let v147 : BitVec 32 := Scalar.addi c0_i32_123 v146
  let c1_i32_125 : BitVec 32 := 1#32
  let v150 : BitVec 32 := Scalar.shrsi v143 c1_i32_125
  let c1_i32_126 : BitVec 32 := 1#32
  let v151 : BitVec 32 := Scalar.andi v150 c1_i32_126
  let v152 : BitVec 32 := Scalar.addi v147 v151
  let c2_i32_127 : BitVec 32 := 2#32
  let v155 : BitVec 32 := Scalar.shrsi v143 c2_i32_127
  let c1_i32_128 : BitVec 32 := 1#32
  let v156 : BitVec 32 := Scalar.andi v155 c1_i32_128
  let v157 : BitVec 32 := Scalar.addi v152 v156
  let c3_i32_129 : BitVec 32 := 3#32
  let v160 : BitVec 32 := Scalar.shrsi v143 c3_i32_129
  let c1_i32_130 : BitVec 32 := 1#32
  let v161 : BitVec 32 := Scalar.andi v160 c1_i32_130
  let v162 : BitVec 32 := Scalar.addi v157 v161
  let c4_i32_131 : BitVec 32 := 4#32
  let v165 : BitVec 32 := Scalar.shrsi v143 c4_i32_131
  let c1_i32_132 : BitVec 32 := 1#32
  let v166 : BitVec 32 := Scalar.andi v165 c1_i32_132
  let v167 : BitVec 32 := Scalar.addi v162 v166
  let c5_i32_133 : BitVec 32 := 5#32
  let v170 : BitVec 32 := Scalar.shrsi v143 c5_i32_133
  let c1_i32_134 : BitVec 32 := 1#32
  let v171 : BitVec 32 := Scalar.andi v170 c1_i32_134
  let v172 : BitVec 32 := Scalar.addi v167 v171
  let c6_i32_135 : BitVec 32 := 6#32
  let v175 : BitVec 32 := Scalar.shrsi v143 c6_i32_135
  let c1_i32_136 : BitVec 32 := 1#32
  let v176 : BitVec 32 := Scalar.andi v175 c1_i32_136
  let v177 : BitVec 32 := Scalar.addi v172 v176
  let c7_i32_137 : BitVec 32 := 7#32
  let v180 : BitVec 32 := Scalar.shrsi v143 c7_i32_137
  let c1_i32_138 : BitVec 32 := 1#32
  let v181 : BitVec 32 := Scalar.andi v180 c1_i32_138
  let v182 : BitVec 32 := Scalar.addi v177 v181
  let c8_i32_139 : BitVec 32 := 8#32
  let v185 : BitVec 32 := Scalar.shrsi v143 c8_i32_139
  let c1_i32_140 : BitVec 32 := 1#32
  let v186 : BitVec 32 := Scalar.andi v185 c1_i32_140
  let v187 : BitVec 32 := Scalar.addi v182 v186
  let c9_i32_141 : BitVec 32 := 9#32
  let v190 : BitVec 32 := Scalar.shrsi v143 c9_i32_141
  let c1_i32_142 : BitVec 32 := 1#32
  let v191 : BitVec 32 := Scalar.andi v190 c1_i32_142
  let v192 : BitVec 32 := Scalar.addi v187 v191
  let c10_i32_143 : BitVec 32 := 10#32
  let v195 : BitVec 32 := Scalar.shrsi v143 c10_i32_143
  let c1_i32_144 : BitVec 32 := 1#32
  let v196 : BitVec 32 := Scalar.andi v195 c1_i32_144
  let v197 : BitVec 32 := Scalar.addi v192 v196
  let c11_i32_145 : BitVec 32 := 11#32
  let v200 : BitVec 32 := Scalar.shrsi v143 c11_i32_145
  let c1_i32_146 : BitVec 32 := 1#32
  let v201 : BitVec 32 := Scalar.andi v200 c1_i32_146
  let v202 : BitVec 32 := Scalar.addi v197 v201
  let c12_i32_147 : BitVec 32 := 12#32
  let v205 : BitVec 32 := Scalar.shrsi v143 c12_i32_147
  let c1_i32_148 : BitVec 32 := 1#32
  let v206 : BitVec 32 := Scalar.andi v205 c1_i32_148
  let v207 : BitVec 32 := Scalar.addi v202 v206
  let c13_i32_149 : BitVec 32 := 13#32
  let v210 : BitVec 32 := Scalar.shrsi v143 c13_i32_149
  let c1_i32_150 : BitVec 32 := 1#32
  let v211 : BitVec 32 := Scalar.andi v210 c1_i32_150
  let v212 : BitVec 32 := Scalar.addi v207 v211
  let c14_i32_151 : BitVec 32 := 14#32
  let v215 : BitVec 32 := Scalar.shrsi v143 c14_i32_151
  let c1_i32_152 : BitVec 32 := 1#32
  let v216 : BitVec 32 := Scalar.andi v215 c1_i32_152
  let v217 : BitVec 32 := Scalar.addi v212 v216
  let c15_i32_153 : BitVec 32 := 15#32
  let v220 : BitVec 32 := Scalar.shrsi v143 c15_i32_153
  let c1_i32_154 : BitVec 32 := 1#32
  let v221 : BitVec 32 := Scalar.andi v220 c1_i32_154
  let v222 : BitVec 32 := Scalar.addi v217 v221
  let v272 : BitVec 32 := Scalar.subi v222 c0_i32_207
  let c1_i32_208 : BitVec 32 := 1#32
  let v274 : BitVec 32 := Scalar.divsi v272 c1_i32_208
  let v275 : BitVec 32 := Scalar.muli v274 c1_i32_208
  let v276 : BitVec 32 := Scalar.addi c0_i32_207 v275
  let c1_i32_210 : BitVec 32 := 1#32
  let arg17 : BitVec 32 := Scf.iv v276 c1_i32_210 k0_t2
  let c1_i32_3264 : BitVec 32 := 1#32
  let v7431 : BitVec 32 := Scalar.addi arg17 c1_i32_3264
  let c2_i32_3265 : BitVec 32 := 2#32
  let v7432 : BitVec 32 := Scalar.remsi v7431 c2_i32_3265
  let c1024_i32_3282 : BitVec 32 := 1024#32
  let c0_i32_3283 : BitVec 32 := 0#32
  ![v7432.toNat, 1024, 0]
def k0_off87 (v7454 : BitVec 32) : Fin 3 → Nat :=
  let c1024_i32_3284 : BitVec 32 := 1024#32
  let c0_i32_3285 : BitVec 32 := 0#32
  ![v7454.toNat, 1024, 0]

def k0_off88 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 2 → Nat :=
  let c0_i32_207 : BitVec 32 := 0#32
  let c0_i32_123 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_2 : BitVec 32 := 1#32
  let v4 : BitVec 32 := Scalar.shli c1_i32_2 v3
  let v5 : BitVec 32 := Scalar.ori v2 v4
  let c1_i32_5 : BitVec 32 := 1#32
  let v7 : BitVec 32 := Scalar.shli c1_i32_5 v6
  let v8 : BitVec 32 := Scalar.ori v5 v7
  let c1_i32_8 : BitVec 32 := 1#32
  let v10 : BitVec 32 := Scalar.shli c1_i32_8 v9
  let v11 : BitVec 32 := Scalar.ori v8 v10
  let c1_i32_10 : BitVec 32 := 1#32
  let v13 : BitVec 32 := Scalar.shli c1_i32_10 v12
  let v14 : BitVec 32 := Scalar.ori v11 v13
  let c1_i32_13 : BitVec 32 := 1#32
  let v16 : BitVec 32 := Scalar.shli c1_i32_13 v15
  let v17 : BitVec 32 := Scalar.ori v14 v16
  let c1_i32_15 : BitVec 32 := 1#32
  let v19 : BitVec 32 := Scalar.shli c1_i32_15 v18
  let v20 : BitVec 32 := Scalar.ori v17 v19
  let c1_i32_18 : BitVec 32 := 1#32
  let v22 : BitVec 32 := Scalar.shli c1_i32_18 v21
  let v23 : BitVec 32 := Scalar.ori v20 v22
  let c1_i32_20 : BitVec 32 := 1#32
  let v25 : BitVec 32 := Scalar.shli c1_i32_20 v24
  let v26 : BitVec 32 := Scalar.ori v23 v25
  let c1_i32_23 : BitVec 32 := 1#32
  let v28 : BitVec 32 := Scalar.shli c1_i32_23 v27
  let v29 : BitVec 32 := Scalar.ori v26 v28
  let c1_i32_25 : BitVec 32 := 1#32
  let v31 : BitVec 32 := Scalar.shli c1_i32_25 v30
  let v32 : BitVec 32 := Scalar.ori v29 v31
  let c1_i32_28 : BitVec 32 := 1#32
  let v34 : BitVec 32 := Scalar.shli c1_i32_28 v33
  let v35 : BitVec 32 := Scalar.ori v32 v34
  let c1_i32_30 : BitVec 32 := 1#32
  let v37 : BitVec 32 := Scalar.shli c1_i32_30 v36
  let v38 : BitVec 32 := Scalar.ori v35 v37
  let c1_i32_33 : BitVec 32 := 1#32
  let v40 : BitVec 32 := Scalar.shli c1_i32_33 v39
  let v41 : BitVec 32 := Scalar.ori v38 v40
  let c1_i32_35 : BitVec 32 := 1#32
  let v43 : BitVec 32 := Scalar.shli c1_i32_35 v42
  let v44 : BitVec 32 := Scalar.ori v41 v43
  let c1_i32_38 : BitVec 32 := 1#32
  let v46 : BitVec 32 := Scalar.shli c1_i32_38 v45
  let v47 : BitVec 32 := Scalar.ori v44 v46
  let c1_i32_40 : BitVec 32 := 1#32
  let v49 : BitVec 32 := Scalar.shli c1_i32_40 v48
  let v50 : BitVec 32 := Scalar.ori v47 v49
  let c1_i32_43 : BitVec 32 := 1#32
  let v52 : BitVec 32 := Scalar.shli c1_i32_43 v51
  let v53 : BitVec 32 := Scalar.ori v50 v52
  let c1_i32_45 : BitVec 32 := 1#32
  let v55 : BitVec 32 := Scalar.shli c1_i32_45 v54
  let v56 : BitVec 32 := Scalar.ori v53 v55
  let c1_i32_48 : BitVec 32 := 1#32
  let v58 : BitVec 32 := Scalar.shli c1_i32_48 v57
  let v59 : BitVec 32 := Scalar.ori v56 v58
  let c1_i32_50 : BitVec 32 := 1#32
  let v61 : BitVec 32 := Scalar.shli c1_i32_50 v60
  let v62 : BitVec 32 := Scalar.ori v59 v61
  let c1_i32_53 : BitVec 32 := 1#32
  let v64 : BitVec 32 := Scalar.shli c1_i32_53 v63
  let v65 : BitVec 32 := Scalar.ori v62 v64
  let c1_i32_55 : BitVec 32 := 1#32
  let v67 : BitVec 32 := Scalar.shli c1_i32_55 v66
  let v68 : BitVec 32 := Scalar.ori v65 v67
  let c1_i32_58 : BitVec 32 := 1#32
  let v70 : BitVec 32 := Scalar.shli c1_i32_58 v69
  let v71 : BitVec 32 := Scalar.ori v68 v70
  let c1_i32_60 : BitVec 32 := 1#32
  let v73 : BitVec 32 := Scalar.shli c1_i32_60 v72
  let v74 : BitVec 32 := Scalar.ori v71 v73
  let c1_i32_63 : BitVec 32 := 1#32
  let v76 : BitVec 32 := Scalar.shli c1_i32_63 v75
  let v77 : BitVec 32 := Scalar.ori v74 v76
  let c1_i32_65 : BitVec 32 := 1#32
  let v79 : BitVec 32 := Scalar.shli c1_i32_65 v78
  let v80 : BitVec 32 := Scalar.ori v77 v79
  let c1_i32_68 : BitVec 32 := 1#32
  let v82 : BitVec 32 := Scalar.shli c1_i32_68 v81
  let v83 : BitVec 32 := Scalar.ori v80 v82
  let c1_i32_70 : BitVec 32 := 1#32
  let v85 : BitVec 32 := Scalar.shli c1_i32_70 v84
  let v86 : BitVec 32 := Scalar.ori v83 v85
  let c1_i32_73 : BitVec 32 := 1#32
  let v88 : BitVec 32 := Scalar.shli c1_i32_73 v87
  let v89 : BitVec 32 := Scalar.ori v86 v88
  let c1_i32_75 : BitVec 32 := 1#32
  let v91 : BitVec 32 := Scalar.shli c1_i32_75 v90
  let v92 : BitVec 32 := Scalar.ori v89 v91
  let c1_i32_78 : BitVec 32 := 1#32
  let v94 : BitVec 32 := Scalar.shli c1_i32_78 v93
  let v95 : BitVec 32 := Scalar.ori v92 v94
  let c1_i32_80 : BitVec 32 := 1#32
  let v97 : BitVec 32 := Scalar.shli c1_i32_80 v96
  let v98 : BitVec 32 := Scalar.ori v95 v97
  let c1_i32_83 : BitVec 32 := 1#32
  let v100 : BitVec 32 := Scalar.shli c1_i32_83 v99
  let v101 : BitVec 32 := Scalar.ori v98 v100
  let c1_i32_85 : BitVec 32 := 1#32
  let v103 : BitVec 32 := Scalar.shli c1_i32_85 v102
  let v104 : BitVec 32 := Scalar.ori v101 v103
  let c1_i32_88 : BitVec 32 := 1#32
  let v106 : BitVec 32 := Scalar.shli c1_i32_88 v105
  let v107 : BitVec 32 := Scalar.ori v104 v106
  let c1_i32_90 : BitVec 32 := 1#32
  let v109 : BitVec 32 := Scalar.shli c1_i32_90 v108
  let v110 : BitVec 32 := Scalar.ori v107 v109
  let c1_i32_93 : BitVec 32 := 1#32
  let v112 : BitVec 32 := Scalar.shli c1_i32_93 v111
  let v113 : BitVec 32 := Scalar.ori v110 v112
  let c1_i32_95 : BitVec 32 := 1#32
  let v115 : BitVec 32 := Scalar.shli c1_i32_95 v114
  let v116 : BitVec 32 := Scalar.ori v113 v115
  let c1_i32_98 : BitVec 32 := 1#32
  let v118 : BitVec 32 := Scalar.shli c1_i32_98 v117
  let v119 : BitVec 32 := Scalar.ori v116 v118
  let c1_i32_100 : BitVec 32 := 1#32
  let v121 : BitVec 32 := Scalar.shli c1_i32_100 v120
  let v122 : BitVec 32 := Scalar.ori v119 v121
  let c1_i32_103 : BitVec 32 := 1#32
  let v124 : BitVec 32 := Scalar.shli c1_i32_103 v123
  let v125 : BitVec 32 := Scalar.ori v122 v124
  let c1_i32_105 : BitVec 32 := 1#32
  let v127 : BitVec 32 := Scalar.shli c1_i32_105 v126
  let v128 : BitVec 32 := Scalar.ori v125 v127
  let c1_i32_108 : BitVec 32 := 1#32
  let v130 : BitVec 32 := Scalar.shli c1_i32_108 v129
  let v131 : BitVec 32 := Scalar.ori v128 v130
  let c1_i32_110 : BitVec 32 := 1#32
  let v133 : BitVec 32 := Scalar.shli c1_i32_110 v132
  let v134 : BitVec 32 := Scalar.ori v131 v133
  let c1_i32_113 : BitVec 32 := 1#32
  let v136 : BitVec 32 := Scalar.shli c1_i32_113 v135
  let v137 : BitVec 32 := Scalar.ori v134 v136
  let c1_i32_115 : BitVec 32 := 1#32
  let v139 : BitVec 32 := Scalar.shli c1_i32_115 v138
  let v140 : BitVec 32 := Scalar.ori v137 v139
  let c1_i32_118 : BitVec 32 := 1#32
  let v142 : BitVec 32 := Scalar.shli c1_i32_118 v141
  let v143 : BitVec 32 := Scalar.ori v140 v142
  let c0_i32_121 : BitVec 32 := 0#32
  let v145 : BitVec 32 := Scalar.shrsi v143 c0_i32_121
  let c1_i32_122 : BitVec 32 := 1#32
  let v146 : BitVec 32 := Scalar.andi v145 c1_i32_122
  let v147 : BitVec 32 := Scalar.addi c0_i32_123 v146
  let c1_i32_125 : BitVec 32 := 1#32
  let v150 : BitVec 32 := Scalar.shrsi v143 c1_i32_125
  let c1_i32_126 : BitVec 32 := 1#32
  let v151 : BitVec 32 := Scalar.andi v150 c1_i32_126
  let v152 : BitVec 32 := Scalar.addi v147 v151
  let c2_i32_127 : BitVec 32 := 2#32
  let v155 : BitVec 32 := Scalar.shrsi v143 c2_i32_127
  let c1_i32_128 : BitVec 32 := 1#32
  let v156 : BitVec 32 := Scalar.andi v155 c1_i32_128
  let v157 : BitVec 32 := Scalar.addi v152 v156
  let c3_i32_129 : BitVec 32 := 3#32
  let v160 : BitVec 32 := Scalar.shrsi v143 c3_i32_129
  let c1_i32_130 : BitVec 32 := 1#32
  let v161 : BitVec 32 := Scalar.andi v160 c1_i32_130
  let v162 : BitVec 32 := Scalar.addi v157 v161
  let c4_i32_131 : BitVec 32 := 4#32
  let v165 : BitVec 32 := Scalar.shrsi v143 c4_i32_131
  let c1_i32_132 : BitVec 32 := 1#32
  let v166 : BitVec 32 := Scalar.andi v165 c1_i32_132
  let v167 : BitVec 32 := Scalar.addi v162 v166
  let c5_i32_133 : BitVec 32 := 5#32
  let v170 : BitVec 32 := Scalar.shrsi v143 c5_i32_133
  let c1_i32_134 : BitVec 32 := 1#32
  let v171 : BitVec 32 := Scalar.andi v170 c1_i32_134
  let v172 : BitVec 32 := Scalar.addi v167 v171
  let c6_i32_135 : BitVec 32 := 6#32
  let v175 : BitVec 32 := Scalar.shrsi v143 c6_i32_135
  let c1_i32_136 : BitVec 32 := 1#32
  let v176 : BitVec 32 := Scalar.andi v175 c1_i32_136
  let v177 : BitVec 32 := Scalar.addi v172 v176
  let c7_i32_137 : BitVec 32 := 7#32
  let v180 : BitVec 32 := Scalar.shrsi v143 c7_i32_137
  let c1_i32_138 : BitVec 32 := 1#32
  let v181 : BitVec 32 := Scalar.andi v180 c1_i32_138
  let v182 : BitVec 32 := Scalar.addi v177 v181
  let c8_i32_139 : BitVec 32 := 8#32
  let v185 : BitVec 32 := Scalar.shrsi v143 c8_i32_139
  let c1_i32_140 : BitVec 32 := 1#32
  let v186 : BitVec 32 := Scalar.andi v185 c1_i32_140
  let v187 : BitVec 32 := Scalar.addi v182 v186
  let c9_i32_141 : BitVec 32 := 9#32
  let v190 : BitVec 32 := Scalar.shrsi v143 c9_i32_141
  let c1_i32_142 : BitVec 32 := 1#32
  let v191 : BitVec 32 := Scalar.andi v190 c1_i32_142
  let v192 : BitVec 32 := Scalar.addi v187 v191
  let c10_i32_143 : BitVec 32 := 10#32
  let v195 : BitVec 32 := Scalar.shrsi v143 c10_i32_143
  let c1_i32_144 : BitVec 32 := 1#32
  let v196 : BitVec 32 := Scalar.andi v195 c1_i32_144
  let v197 : BitVec 32 := Scalar.addi v192 v196
  let c11_i32_145 : BitVec 32 := 11#32
  let v200 : BitVec 32 := Scalar.shrsi v143 c11_i32_145
  let c1_i32_146 : BitVec 32 := 1#32
  let v201 : BitVec 32 := Scalar.andi v200 c1_i32_146
  let v202 : BitVec 32 := Scalar.addi v197 v201
  let c12_i32_147 : BitVec 32 := 12#32
  let v205 : BitVec 32 := Scalar.shrsi v143 c12_i32_147
  let c1_i32_148 : BitVec 32 := 1#32
  let v206 : BitVec 32 := Scalar.andi v205 c1_i32_148
  let v207 : BitVec 32 := Scalar.addi v202 v206
  let c13_i32_149 : BitVec 32 := 13#32
  let v210 : BitVec 32 := Scalar.shrsi v143 c13_i32_149
  let c1_i32_150 : BitVec 32 := 1#32
  let v211 : BitVec 32 := Scalar.andi v210 c1_i32_150
  let v212 : BitVec 32 := Scalar.addi v207 v211
  let c14_i32_151 : BitVec 32 := 14#32
  let v215 : BitVec 32 := Scalar.shrsi v143 c14_i32_151
  let c1_i32_152 : BitVec 32 := 1#32
  let v216 : BitVec 32 := Scalar.andi v215 c1_i32_152
  let v217 : BitVec 32 := Scalar.addi v212 v216
  let c15_i32_153 : BitVec 32 := 15#32
  let v220 : BitVec 32 := Scalar.shrsi v143 c15_i32_153
  let c1_i32_154 : BitVec 32 := 1#32
  let v221 : BitVec 32 := Scalar.andi v220 c1_i32_154
  let v222 : BitVec 32 := Scalar.addi v217 v221
  let v272 : BitVec 32 := Scalar.subi v222 c0_i32_207
  let c1_i32_208 : BitVec 32 := 1#32
  let v274 : BitVec 32 := Scalar.divsi v272 c1_i32_208
  let v275 : BitVec 32 := Scalar.muli v274 c1_i32_208
  let v276 : BitVec 32 := Scalar.addi c0_i32_207 v275
  let c1_i32_210 : BitVec 32 := 1#32
  let arg17 : BitVec 32 := Scf.iv v276 c1_i32_210 k0_t2
  let c1_i32_3264 : BitVec 32 := 1#32
  let v7431 : BitVec 32 := Scalar.addi arg17 c1_i32_3264
  let c2_i32_3265 : BitVec 32 := 2#32
  let v7432 : BitVec 32 := Scalar.remsi v7431 c2_i32_3265
  let c1_i32_3286 : BitVec 32 := 1#32
  ![v7432.toNat, 1]
def k0_off89 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 3 → Nat :=
  let c0_i32_207 : BitVec 32 := 0#32
  let c0_i32_123 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_2 : BitVec 32 := 1#32
  let v4 : BitVec 32 := Scalar.shli c1_i32_2 v3
  let v5 : BitVec 32 := Scalar.ori v2 v4
  let c1_i32_5 : BitVec 32 := 1#32
  let v7 : BitVec 32 := Scalar.shli c1_i32_5 v6
  let v8 : BitVec 32 := Scalar.ori v5 v7
  let c1_i32_8 : BitVec 32 := 1#32
  let v10 : BitVec 32 := Scalar.shli c1_i32_8 v9
  let v11 : BitVec 32 := Scalar.ori v8 v10
  let c1_i32_10 : BitVec 32 := 1#32
  let v13 : BitVec 32 := Scalar.shli c1_i32_10 v12
  let v14 : BitVec 32 := Scalar.ori v11 v13
  let c1_i32_13 : BitVec 32 := 1#32
  let v16 : BitVec 32 := Scalar.shli c1_i32_13 v15
  let v17 : BitVec 32 := Scalar.ori v14 v16
  let c1_i32_15 : BitVec 32 := 1#32
  let v19 : BitVec 32 := Scalar.shli c1_i32_15 v18
  let v20 : BitVec 32 := Scalar.ori v17 v19
  let c1_i32_18 : BitVec 32 := 1#32
  let v22 : BitVec 32 := Scalar.shli c1_i32_18 v21
  let v23 : BitVec 32 := Scalar.ori v20 v22
  let c1_i32_20 : BitVec 32 := 1#32
  let v25 : BitVec 32 := Scalar.shli c1_i32_20 v24
  let v26 : BitVec 32 := Scalar.ori v23 v25
  let c1_i32_23 : BitVec 32 := 1#32
  let v28 : BitVec 32 := Scalar.shli c1_i32_23 v27
  let v29 : BitVec 32 := Scalar.ori v26 v28
  let c1_i32_25 : BitVec 32 := 1#32
  let v31 : BitVec 32 := Scalar.shli c1_i32_25 v30
  let v32 : BitVec 32 := Scalar.ori v29 v31
  let c1_i32_28 : BitVec 32 := 1#32
  let v34 : BitVec 32 := Scalar.shli c1_i32_28 v33
  let v35 : BitVec 32 := Scalar.ori v32 v34
  let c1_i32_30 : BitVec 32 := 1#32
  let v37 : BitVec 32 := Scalar.shli c1_i32_30 v36
  let v38 : BitVec 32 := Scalar.ori v35 v37
  let c1_i32_33 : BitVec 32 := 1#32
  let v40 : BitVec 32 := Scalar.shli c1_i32_33 v39
  let v41 : BitVec 32 := Scalar.ori v38 v40
  let c1_i32_35 : BitVec 32 := 1#32
  let v43 : BitVec 32 := Scalar.shli c1_i32_35 v42
  let v44 : BitVec 32 := Scalar.ori v41 v43
  let c1_i32_38 : BitVec 32 := 1#32
  let v46 : BitVec 32 := Scalar.shli c1_i32_38 v45
  let v47 : BitVec 32 := Scalar.ori v44 v46
  let c1_i32_40 : BitVec 32 := 1#32
  let v49 : BitVec 32 := Scalar.shli c1_i32_40 v48
  let v50 : BitVec 32 := Scalar.ori v47 v49
  let c1_i32_43 : BitVec 32 := 1#32
  let v52 : BitVec 32 := Scalar.shli c1_i32_43 v51
  let v53 : BitVec 32 := Scalar.ori v50 v52
  let c1_i32_45 : BitVec 32 := 1#32
  let v55 : BitVec 32 := Scalar.shli c1_i32_45 v54
  let v56 : BitVec 32 := Scalar.ori v53 v55
  let c1_i32_48 : BitVec 32 := 1#32
  let v58 : BitVec 32 := Scalar.shli c1_i32_48 v57
  let v59 : BitVec 32 := Scalar.ori v56 v58
  let c1_i32_50 : BitVec 32 := 1#32
  let v61 : BitVec 32 := Scalar.shli c1_i32_50 v60
  let v62 : BitVec 32 := Scalar.ori v59 v61
  let c1_i32_53 : BitVec 32 := 1#32
  let v64 : BitVec 32 := Scalar.shli c1_i32_53 v63
  let v65 : BitVec 32 := Scalar.ori v62 v64
  let c1_i32_55 : BitVec 32 := 1#32
  let v67 : BitVec 32 := Scalar.shli c1_i32_55 v66
  let v68 : BitVec 32 := Scalar.ori v65 v67
  let c1_i32_58 : BitVec 32 := 1#32
  let v70 : BitVec 32 := Scalar.shli c1_i32_58 v69
  let v71 : BitVec 32 := Scalar.ori v68 v70
  let c1_i32_60 : BitVec 32 := 1#32
  let v73 : BitVec 32 := Scalar.shli c1_i32_60 v72
  let v74 : BitVec 32 := Scalar.ori v71 v73
  let c1_i32_63 : BitVec 32 := 1#32
  let v76 : BitVec 32 := Scalar.shli c1_i32_63 v75
  let v77 : BitVec 32 := Scalar.ori v74 v76
  let c1_i32_65 : BitVec 32 := 1#32
  let v79 : BitVec 32 := Scalar.shli c1_i32_65 v78
  let v80 : BitVec 32 := Scalar.ori v77 v79
  let c1_i32_68 : BitVec 32 := 1#32
  let v82 : BitVec 32 := Scalar.shli c1_i32_68 v81
  let v83 : BitVec 32 := Scalar.ori v80 v82
  let c1_i32_70 : BitVec 32 := 1#32
  let v85 : BitVec 32 := Scalar.shli c1_i32_70 v84
  let v86 : BitVec 32 := Scalar.ori v83 v85
  let c1_i32_73 : BitVec 32 := 1#32
  let v88 : BitVec 32 := Scalar.shli c1_i32_73 v87
  let v89 : BitVec 32 := Scalar.ori v86 v88
  let c1_i32_75 : BitVec 32 := 1#32
  let v91 : BitVec 32 := Scalar.shli c1_i32_75 v90
  let v92 : BitVec 32 := Scalar.ori v89 v91
  let c1_i32_78 : BitVec 32 := 1#32
  let v94 : BitVec 32 := Scalar.shli c1_i32_78 v93
  let v95 : BitVec 32 := Scalar.ori v92 v94
  let c1_i32_80 : BitVec 32 := 1#32
  let v97 : BitVec 32 := Scalar.shli c1_i32_80 v96
  let v98 : BitVec 32 := Scalar.ori v95 v97
  let c1_i32_83 : BitVec 32 := 1#32
  let v100 : BitVec 32 := Scalar.shli c1_i32_83 v99
  let v101 : BitVec 32 := Scalar.ori v98 v100
  let c1_i32_85 : BitVec 32 := 1#32
  let v103 : BitVec 32 := Scalar.shli c1_i32_85 v102
  let v104 : BitVec 32 := Scalar.ori v101 v103
  let c1_i32_88 : BitVec 32 := 1#32
  let v106 : BitVec 32 := Scalar.shli c1_i32_88 v105
  let v107 : BitVec 32 := Scalar.ori v104 v106
  let c1_i32_90 : BitVec 32 := 1#32
  let v109 : BitVec 32 := Scalar.shli c1_i32_90 v108
  let v110 : BitVec 32 := Scalar.ori v107 v109
  let c1_i32_93 : BitVec 32 := 1#32
  let v112 : BitVec 32 := Scalar.shli c1_i32_93 v111
  let v113 : BitVec 32 := Scalar.ori v110 v112
  let c1_i32_95 : BitVec 32 := 1#32
  let v115 : BitVec 32 := Scalar.shli c1_i32_95 v114
  let v116 : BitVec 32 := Scalar.ori v113 v115
  let c1_i32_98 : BitVec 32 := 1#32
  let v118 : BitVec 32 := Scalar.shli c1_i32_98 v117
  let v119 : BitVec 32 := Scalar.ori v116 v118
  let c1_i32_100 : BitVec 32 := 1#32
  let v121 : BitVec 32 := Scalar.shli c1_i32_100 v120
  let v122 : BitVec 32 := Scalar.ori v119 v121
  let c1_i32_103 : BitVec 32 := 1#32
  let v124 : BitVec 32 := Scalar.shli c1_i32_103 v123
  let v125 : BitVec 32 := Scalar.ori v122 v124
  let c1_i32_105 : BitVec 32 := 1#32
  let v127 : BitVec 32 := Scalar.shli c1_i32_105 v126
  let v128 : BitVec 32 := Scalar.ori v125 v127
  let c1_i32_108 : BitVec 32 := 1#32
  let v130 : BitVec 32 := Scalar.shli c1_i32_108 v129
  let v131 : BitVec 32 := Scalar.ori v128 v130
  let c1_i32_110 : BitVec 32 := 1#32
  let v133 : BitVec 32 := Scalar.shli c1_i32_110 v132
  let v134 : BitVec 32 := Scalar.ori v131 v133
  let c1_i32_113 : BitVec 32 := 1#32
  let v136 : BitVec 32 := Scalar.shli c1_i32_113 v135
  let v137 : BitVec 32 := Scalar.ori v134 v136
  let c1_i32_115 : BitVec 32 := 1#32
  let v139 : BitVec 32 := Scalar.shli c1_i32_115 v138
  let v140 : BitVec 32 := Scalar.ori v137 v139
  let c1_i32_118 : BitVec 32 := 1#32
  let v142 : BitVec 32 := Scalar.shli c1_i32_118 v141
  let v143 : BitVec 32 := Scalar.ori v140 v142
  let c0_i32_121 : BitVec 32 := 0#32
  let v145 : BitVec 32 := Scalar.shrsi v143 c0_i32_121
  let c1_i32_122 : BitVec 32 := 1#32
  let v146 : BitVec 32 := Scalar.andi v145 c1_i32_122
  let v147 : BitVec 32 := Scalar.addi c0_i32_123 v146
  let c1_i32_125 : BitVec 32 := 1#32
  let v150 : BitVec 32 := Scalar.shrsi v143 c1_i32_125
  let c1_i32_126 : BitVec 32 := 1#32
  let v151 : BitVec 32 := Scalar.andi v150 c1_i32_126
  let v152 : BitVec 32 := Scalar.addi v147 v151
  let c2_i32_127 : BitVec 32 := 2#32
  let v155 : BitVec 32 := Scalar.shrsi v143 c2_i32_127
  let c1_i32_128 : BitVec 32 := 1#32
  let v156 : BitVec 32 := Scalar.andi v155 c1_i32_128
  let v157 : BitVec 32 := Scalar.addi v152 v156
  let c3_i32_129 : BitVec 32 := 3#32
  let v160 : BitVec 32 := Scalar.shrsi v143 c3_i32_129
  let c1_i32_130 : BitVec 32 := 1#32
  let v161 : BitVec 32 := Scalar.andi v160 c1_i32_130
  let v162 : BitVec 32 := Scalar.addi v157 v161
  let c4_i32_131 : BitVec 32 := 4#32
  let v165 : BitVec 32 := Scalar.shrsi v143 c4_i32_131
  let c1_i32_132 : BitVec 32 := 1#32
  let v166 : BitVec 32 := Scalar.andi v165 c1_i32_132
  let v167 : BitVec 32 := Scalar.addi v162 v166
  let c5_i32_133 : BitVec 32 := 5#32
  let v170 : BitVec 32 := Scalar.shrsi v143 c5_i32_133
  let c1_i32_134 : BitVec 32 := 1#32
  let v171 : BitVec 32 := Scalar.andi v170 c1_i32_134
  let v172 : BitVec 32 := Scalar.addi v167 v171
  let c6_i32_135 : BitVec 32 := 6#32
  let v175 : BitVec 32 := Scalar.shrsi v143 c6_i32_135
  let c1_i32_136 : BitVec 32 := 1#32
  let v176 : BitVec 32 := Scalar.andi v175 c1_i32_136
  let v177 : BitVec 32 := Scalar.addi v172 v176
  let c7_i32_137 : BitVec 32 := 7#32
  let v180 : BitVec 32 := Scalar.shrsi v143 c7_i32_137
  let c1_i32_138 : BitVec 32 := 1#32
  let v181 : BitVec 32 := Scalar.andi v180 c1_i32_138
  let v182 : BitVec 32 := Scalar.addi v177 v181
  let c8_i32_139 : BitVec 32 := 8#32
  let v185 : BitVec 32 := Scalar.shrsi v143 c8_i32_139
  let c1_i32_140 : BitVec 32 := 1#32
  let v186 : BitVec 32 := Scalar.andi v185 c1_i32_140
  let v187 : BitVec 32 := Scalar.addi v182 v186
  let c9_i32_141 : BitVec 32 := 9#32
  let v190 : BitVec 32 := Scalar.shrsi v143 c9_i32_141
  let c1_i32_142 : BitVec 32 := 1#32
  let v191 : BitVec 32 := Scalar.andi v190 c1_i32_142
  let v192 : BitVec 32 := Scalar.addi v187 v191
  let c10_i32_143 : BitVec 32 := 10#32
  let v195 : BitVec 32 := Scalar.shrsi v143 c10_i32_143
  let c1_i32_144 : BitVec 32 := 1#32
  let v196 : BitVec 32 := Scalar.andi v195 c1_i32_144
  let v197 : BitVec 32 := Scalar.addi v192 v196
  let c11_i32_145 : BitVec 32 := 11#32
  let v200 : BitVec 32 := Scalar.shrsi v143 c11_i32_145
  let c1_i32_146 : BitVec 32 := 1#32
  let v201 : BitVec 32 := Scalar.andi v200 c1_i32_146
  let v202 : BitVec 32 := Scalar.addi v197 v201
  let c12_i32_147 : BitVec 32 := 12#32
  let v205 : BitVec 32 := Scalar.shrsi v143 c12_i32_147
  let c1_i32_148 : BitVec 32 := 1#32
  let v206 : BitVec 32 := Scalar.andi v205 c1_i32_148
  let v207 : BitVec 32 := Scalar.addi v202 v206
  let c13_i32_149 : BitVec 32 := 13#32
  let v210 : BitVec 32 := Scalar.shrsi v143 c13_i32_149
  let c1_i32_150 : BitVec 32 := 1#32
  let v211 : BitVec 32 := Scalar.andi v210 c1_i32_150
  let v212 : BitVec 32 := Scalar.addi v207 v211
  let c14_i32_151 : BitVec 32 := 14#32
  let v215 : BitVec 32 := Scalar.shrsi v143 c14_i32_151
  let c1_i32_152 : BitVec 32 := 1#32
  let v216 : BitVec 32 := Scalar.andi v215 c1_i32_152
  let v217 : BitVec 32 := Scalar.addi v212 v216
  let c15_i32_153 : BitVec 32 := 15#32
  let v220 : BitVec 32 := Scalar.shrsi v143 c15_i32_153
  let c1_i32_154 : BitVec 32 := 1#32
  let v221 : BitVec 32 := Scalar.andi v220 c1_i32_154
  let v222 : BitVec 32 := Scalar.addi v217 v221
  let v272 : BitVec 32 := Scalar.subi v222 c0_i32_207
  let c1_i32_208 : BitVec 32 := 1#32
  let v274 : BitVec 32 := Scalar.divsi v272 c1_i32_208
  let v275 : BitVec 32 := Scalar.muli v274 c1_i32_208
  let v276 : BitVec 32 := Scalar.addi c0_i32_207 v275
  let c1_i32_210 : BitVec 32 := 1#32
  let arg17 : BitVec 32 := Scf.iv v276 c1_i32_210 k0_t2
  let c1_i32_3264 : BitVec 32 := 1#32
  let v7431 : BitVec 32 := Scalar.addi arg17 c1_i32_3264
  let c2_i32_3265 : BitVec 32 := 2#32
  let v7432 : BitVec 32 := Scalar.remsi v7431 c2_i32_3265
  let c3072_i32_3287 : BitVec 32 := 3072#32
  let c0_i32_3288 : BitVec 32 := 0#32
  ![v7432.toNat, 3072, 0]
def k0_off90 (v7454 : BitVec 32) : Fin 3 → Nat :=
  let c3072_i32_3289 : BitVec 32 := 3072#32
  let c0_i32_3290 : BitVec 32 := 0#32
  ![v7454.toNat, 3072, 0]

def k0_chk12 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v7454 : BitVec 32) : Prop :=
  (∀ (k0_h2 : k0_cond2 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ a, (k0_off87 v7454) a + S1x1024x1024.size a ≤ S16x4096x1024.size a) ∧
  (∀ (k0_h2 : k0_cond2 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ (hinb : ∀ a, (k0_off87 v7454) a + S1x1024x1024.size a ≤ S16x4096x1024.size a), (Rect.unit (s := S16x4096x1024) (k0_off87 v7454) S1x1024x1024.size hinb).WholeWords (EltTy.packing .i8)) ∧
  (∀ (k0_h2 : k0_cond2 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ a, (k0_off90 v7454) a + S1x1024x1024.size a ≤ S16x4096x1024.size a) ∧
  (∀ (k0_h2 : k0_cond2 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ (hinb : ∀ a, (k0_off90 v7454) a + S1x1024x1024.size a ≤ S16x4096x1024.size a), (Rect.unit (s := S16x4096x1024) (k0_off90 v7454) S1x1024x1024.size hinb).WholeWords (EltTy.packing .i8))
theorem k0_off87_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v7454 : BitVec 32) (k0_hw12 : k0_chk12 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v7454), ∀ (k0_h2 : k0_cond2 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ a, (k0_off87 v7454) a + S1x1024x1024.size a ≤ S16x4096x1024.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v7454 k0_hw12 k0_h2 => k0_hw12.1 k0_h2
theorem k0_off87_wordsi8 : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v7454 : BitVec 32) (k0_hw12 : k0_chk12 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v7454), ∀ (k0_h2 : k0_cond2 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), (Rect.unit (s := S16x4096x1024) (k0_off87 v7454) S1x1024x1024.size (k0_off87_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v7454 k0_hw12 k0_h2)).WholeWords (EltTy.packing .i8) := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v7454 k0_hw12 k0_h2 => k0_hw12.2.1 k0_h2 (k0_off87_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v7454 k0_hw12 k0_h2)
theorem k0_off90_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v7454 : BitVec 32) (k0_hw12 : k0_chk12 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v7454), ∀ (k0_h2 : k0_cond2 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ a, (k0_off90 v7454) a + S1x1024x1024.size a ≤ S16x4096x1024.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v7454 k0_hw12 k0_h2 => k0_hw12.2.2.1 k0_h2
theorem k0_off90_wordsi8 : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v7454 : BitVec 32) (k0_hw12 : k0_chk12 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v7454), ∀ (k0_h2 : k0_cond2 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), (Rect.unit (s := S16x4096x1024) (k0_off90 v7454) S1x1024x1024.size (k0_off90_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v7454 k0_hw12 k0_h2)).WholeWords (EltTy.packing .i8) := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v7454 k0_hw12 k0_h2 => k0_hw12.2.2.2 k0_h2 (k0_off90_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v7454 k0_hw12 k0_h2)

def k0_off91 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 1 → Nat :=
  let c0_i32_207 : BitVec 32 := 0#32
  let c0_i32_123 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_2 : BitVec 32 := 1#32
  let v4 : BitVec 32 := Scalar.shli c1_i32_2 v3
  let v5 : BitVec 32 := Scalar.ori v2 v4
  let c1_i32_5 : BitVec 32 := 1#32
  let v7 : BitVec 32 := Scalar.shli c1_i32_5 v6
  let v8 : BitVec 32 := Scalar.ori v5 v7
  let c1_i32_8 : BitVec 32 := 1#32
  let v10 : BitVec 32 := Scalar.shli c1_i32_8 v9
  let v11 : BitVec 32 := Scalar.ori v8 v10
  let c1_i32_10 : BitVec 32 := 1#32
  let v13 : BitVec 32 := Scalar.shli c1_i32_10 v12
  let v14 : BitVec 32 := Scalar.ori v11 v13
  let c1_i32_13 : BitVec 32 := 1#32
  let v16 : BitVec 32 := Scalar.shli c1_i32_13 v15
  let v17 : BitVec 32 := Scalar.ori v14 v16
  let c1_i32_15 : BitVec 32 := 1#32
  let v19 : BitVec 32 := Scalar.shli c1_i32_15 v18
  let v20 : BitVec 32 := Scalar.ori v17 v19
  let c1_i32_18 : BitVec 32 := 1#32
  let v22 : BitVec 32 := Scalar.shli c1_i32_18 v21
  let v23 : BitVec 32 := Scalar.ori v20 v22
  let c1_i32_20 : BitVec 32 := 1#32
  let v25 : BitVec 32 := Scalar.shli c1_i32_20 v24
  let v26 : BitVec 32 := Scalar.ori v23 v25
  let c1_i32_23 : BitVec 32 := 1#32
  let v28 : BitVec 32 := Scalar.shli c1_i32_23 v27
  let v29 : BitVec 32 := Scalar.ori v26 v28
  let c1_i32_25 : BitVec 32 := 1#32
  let v31 : BitVec 32 := Scalar.shli c1_i32_25 v30
  let v32 : BitVec 32 := Scalar.ori v29 v31
  let c1_i32_28 : BitVec 32 := 1#32
  let v34 : BitVec 32 := Scalar.shli c1_i32_28 v33
  let v35 : BitVec 32 := Scalar.ori v32 v34
  let c1_i32_30 : BitVec 32 := 1#32
  let v37 : BitVec 32 := Scalar.shli c1_i32_30 v36
  let v38 : BitVec 32 := Scalar.ori v35 v37
  let c1_i32_33 : BitVec 32 := 1#32
  let v40 : BitVec 32 := Scalar.shli c1_i32_33 v39
  let v41 : BitVec 32 := Scalar.ori v38 v40
  let c1_i32_35 : BitVec 32 := 1#32
  let v43 : BitVec 32 := Scalar.shli c1_i32_35 v42
  let v44 : BitVec 32 := Scalar.ori v41 v43
  let c1_i32_38 : BitVec 32 := 1#32
  let v46 : BitVec 32 := Scalar.shli c1_i32_38 v45
  let v47 : BitVec 32 := Scalar.ori v44 v46
  let c1_i32_40 : BitVec 32 := 1#32
  let v49 : BitVec 32 := Scalar.shli c1_i32_40 v48
  let v50 : BitVec 32 := Scalar.ori v47 v49
  let c1_i32_43 : BitVec 32 := 1#32
  let v52 : BitVec 32 := Scalar.shli c1_i32_43 v51
  let v53 : BitVec 32 := Scalar.ori v50 v52
  let c1_i32_45 : BitVec 32 := 1#32
  let v55 : BitVec 32 := Scalar.shli c1_i32_45 v54
  let v56 : BitVec 32 := Scalar.ori v53 v55
  let c1_i32_48 : BitVec 32 := 1#32
  let v58 : BitVec 32 := Scalar.shli c1_i32_48 v57
  let v59 : BitVec 32 := Scalar.ori v56 v58
  let c1_i32_50 : BitVec 32 := 1#32
  let v61 : BitVec 32 := Scalar.shli c1_i32_50 v60
  let v62 : BitVec 32 := Scalar.ori v59 v61
  let c1_i32_53 : BitVec 32 := 1#32
  let v64 : BitVec 32 := Scalar.shli c1_i32_53 v63
  let v65 : BitVec 32 := Scalar.ori v62 v64
  let c1_i32_55 : BitVec 32 := 1#32
  let v67 : BitVec 32 := Scalar.shli c1_i32_55 v66
  let v68 : BitVec 32 := Scalar.ori v65 v67
  let c1_i32_58 : BitVec 32 := 1#32
  let v70 : BitVec 32 := Scalar.shli c1_i32_58 v69
  let v71 : BitVec 32 := Scalar.ori v68 v70
  let c1_i32_60 : BitVec 32 := 1#32
  let v73 : BitVec 32 := Scalar.shli c1_i32_60 v72
  let v74 : BitVec 32 := Scalar.ori v71 v73
  let c1_i32_63 : BitVec 32 := 1#32
  let v76 : BitVec 32 := Scalar.shli c1_i32_63 v75
  let v77 : BitVec 32 := Scalar.ori v74 v76
  let c1_i32_65 : BitVec 32 := 1#32
  let v79 : BitVec 32 := Scalar.shli c1_i32_65 v78
  let v80 : BitVec 32 := Scalar.ori v77 v79
  let c1_i32_68 : BitVec 32 := 1#32
  let v82 : BitVec 32 := Scalar.shli c1_i32_68 v81
  let v83 : BitVec 32 := Scalar.ori v80 v82
  let c1_i32_70 : BitVec 32 := 1#32
  let v85 : BitVec 32 := Scalar.shli c1_i32_70 v84
  let v86 : BitVec 32 := Scalar.ori v83 v85
  let c1_i32_73 : BitVec 32 := 1#32
  let v88 : BitVec 32 := Scalar.shli c1_i32_73 v87
  let v89 : BitVec 32 := Scalar.ori v86 v88
  let c1_i32_75 : BitVec 32 := 1#32
  let v91 : BitVec 32 := Scalar.shli c1_i32_75 v90
  let v92 : BitVec 32 := Scalar.ori v89 v91
  let c1_i32_78 : BitVec 32 := 1#32
  let v94 : BitVec 32 := Scalar.shli c1_i32_78 v93
  let v95 : BitVec 32 := Scalar.ori v92 v94
  let c1_i32_80 : BitVec 32 := 1#32
  let v97 : BitVec 32 := Scalar.shli c1_i32_80 v96
  let v98 : BitVec 32 := Scalar.ori v95 v97
  let c1_i32_83 : BitVec 32 := 1#32
  let v100 : BitVec 32 := Scalar.shli c1_i32_83 v99
  let v101 : BitVec 32 := Scalar.ori v98 v100
  let c1_i32_85 : BitVec 32 := 1#32
  let v103 : BitVec 32 := Scalar.shli c1_i32_85 v102
  let v104 : BitVec 32 := Scalar.ori v101 v103
  let c1_i32_88 : BitVec 32 := 1#32
  let v106 : BitVec 32 := Scalar.shli c1_i32_88 v105
  let v107 : BitVec 32 := Scalar.ori v104 v106
  let c1_i32_90 : BitVec 32 := 1#32
  let v109 : BitVec 32 := Scalar.shli c1_i32_90 v108
  let v110 : BitVec 32 := Scalar.ori v107 v109
  let c1_i32_93 : BitVec 32 := 1#32
  let v112 : BitVec 32 := Scalar.shli c1_i32_93 v111
  let v113 : BitVec 32 := Scalar.ori v110 v112
  let c1_i32_95 : BitVec 32 := 1#32
  let v115 : BitVec 32 := Scalar.shli c1_i32_95 v114
  let v116 : BitVec 32 := Scalar.ori v113 v115
  let c1_i32_98 : BitVec 32 := 1#32
  let v118 : BitVec 32 := Scalar.shli c1_i32_98 v117
  let v119 : BitVec 32 := Scalar.ori v116 v118
  let c1_i32_100 : BitVec 32 := 1#32
  let v121 : BitVec 32 := Scalar.shli c1_i32_100 v120
  let v122 : BitVec 32 := Scalar.ori v119 v121
  let c1_i32_103 : BitVec 32 := 1#32
  let v124 : BitVec 32 := Scalar.shli c1_i32_103 v123
  let v125 : BitVec 32 := Scalar.ori v122 v124
  let c1_i32_105 : BitVec 32 := 1#32
  let v127 : BitVec 32 := Scalar.shli c1_i32_105 v126
  let v128 : BitVec 32 := Scalar.ori v125 v127
  let c1_i32_108 : BitVec 32 := 1#32
  let v130 : BitVec 32 := Scalar.shli c1_i32_108 v129
  let v131 : BitVec 32 := Scalar.ori v128 v130
  let c1_i32_110 : BitVec 32 := 1#32
  let v133 : BitVec 32 := Scalar.shli c1_i32_110 v132
  let v134 : BitVec 32 := Scalar.ori v131 v133
  let c1_i32_113 : BitVec 32 := 1#32
  let v136 : BitVec 32 := Scalar.shli c1_i32_113 v135
  let v137 : BitVec 32 := Scalar.ori v134 v136
  let c1_i32_115 : BitVec 32 := 1#32
  let v139 : BitVec 32 := Scalar.shli c1_i32_115 v138
  let v140 : BitVec 32 := Scalar.ori v137 v139
  let c1_i32_118 : BitVec 32 := 1#32
  let v142 : BitVec 32 := Scalar.shli c1_i32_118 v141
  let v143 : BitVec 32 := Scalar.ori v140 v142
  let c0_i32_121 : BitVec 32 := 0#32
  let v145 : BitVec 32 := Scalar.shrsi v143 c0_i32_121
  let c1_i32_122 : BitVec 32 := 1#32
  let v146 : BitVec 32 := Scalar.andi v145 c1_i32_122
  let v147 : BitVec 32 := Scalar.addi c0_i32_123 v146
  let c1_i32_125 : BitVec 32 := 1#32
  let v150 : BitVec 32 := Scalar.shrsi v143 c1_i32_125
  let c1_i32_126 : BitVec 32 := 1#32
  let v151 : BitVec 32 := Scalar.andi v150 c1_i32_126
  let v152 : BitVec 32 := Scalar.addi v147 v151
  let c2_i32_127 : BitVec 32 := 2#32
  let v155 : BitVec 32 := Scalar.shrsi v143 c2_i32_127
  let c1_i32_128 : BitVec 32 := 1#32
  let v156 : BitVec 32 := Scalar.andi v155 c1_i32_128
  let v157 : BitVec 32 := Scalar.addi v152 v156
  let c3_i32_129 : BitVec 32 := 3#32
  let v160 : BitVec 32 := Scalar.shrsi v143 c3_i32_129
  let c1_i32_130 : BitVec 32 := 1#32
  let v161 : BitVec 32 := Scalar.andi v160 c1_i32_130
  let v162 : BitVec 32 := Scalar.addi v157 v161
  let c4_i32_131 : BitVec 32 := 4#32
  let v165 : BitVec 32 := Scalar.shrsi v143 c4_i32_131
  let c1_i32_132 : BitVec 32 := 1#32
  let v166 : BitVec 32 := Scalar.andi v165 c1_i32_132
  let v167 : BitVec 32 := Scalar.addi v162 v166
  let c5_i32_133 : BitVec 32 := 5#32
  let v170 : BitVec 32 := Scalar.shrsi v143 c5_i32_133
  let c1_i32_134 : BitVec 32 := 1#32
  let v171 : BitVec 32 := Scalar.andi v170 c1_i32_134
  let v172 : BitVec 32 := Scalar.addi v167 v171
  let c6_i32_135 : BitVec 32 := 6#32
  let v175 : BitVec 32 := Scalar.shrsi v143 c6_i32_135
  let c1_i32_136 : BitVec 32 := 1#32
  let v176 : BitVec 32 := Scalar.andi v175 c1_i32_136
  let v177 : BitVec 32 := Scalar.addi v172 v176
  let c7_i32_137 : BitVec 32 := 7#32
  let v180 : BitVec 32 := Scalar.shrsi v143 c7_i32_137
  let c1_i32_138 : BitVec 32 := 1#32
  let v181 : BitVec 32 := Scalar.andi v180 c1_i32_138
  let v182 : BitVec 32 := Scalar.addi v177 v181
  let c8_i32_139 : BitVec 32 := 8#32
  let v185 : BitVec 32 := Scalar.shrsi v143 c8_i32_139
  let c1_i32_140 : BitVec 32 := 1#32
  let v186 : BitVec 32 := Scalar.andi v185 c1_i32_140
  let v187 : BitVec 32 := Scalar.addi v182 v186
  let c9_i32_141 : BitVec 32 := 9#32
  let v190 : BitVec 32 := Scalar.shrsi v143 c9_i32_141
  let c1_i32_142 : BitVec 32 := 1#32
  let v191 : BitVec 32 := Scalar.andi v190 c1_i32_142
  let v192 : BitVec 32 := Scalar.addi v187 v191
  let c10_i32_143 : BitVec 32 := 10#32
  let v195 : BitVec 32 := Scalar.shrsi v143 c10_i32_143
  let c1_i32_144 : BitVec 32 := 1#32
  let v196 : BitVec 32 := Scalar.andi v195 c1_i32_144
  let v197 : BitVec 32 := Scalar.addi v192 v196
  let c11_i32_145 : BitVec 32 := 11#32
  let v200 : BitVec 32 := Scalar.shrsi v143 c11_i32_145
  let c1_i32_146 : BitVec 32 := 1#32
  let v201 : BitVec 32 := Scalar.andi v200 c1_i32_146
  let v202 : BitVec 32 := Scalar.addi v197 v201
  let c12_i32_147 : BitVec 32 := 12#32
  let v205 : BitVec 32 := Scalar.shrsi v143 c12_i32_147
  let c1_i32_148 : BitVec 32 := 1#32
  let v206 : BitVec 32 := Scalar.andi v205 c1_i32_148
  let v207 : BitVec 32 := Scalar.addi v202 v206
  let c13_i32_149 : BitVec 32 := 13#32
  let v210 : BitVec 32 := Scalar.shrsi v143 c13_i32_149
  let c1_i32_150 : BitVec 32 := 1#32
  let v211 : BitVec 32 := Scalar.andi v210 c1_i32_150
  let v212 : BitVec 32 := Scalar.addi v207 v211
  let c14_i32_151 : BitVec 32 := 14#32
  let v215 : BitVec 32 := Scalar.shrsi v143 c14_i32_151
  let c1_i32_152 : BitVec 32 := 1#32
  let v216 : BitVec 32 := Scalar.andi v215 c1_i32_152
  let v217 : BitVec 32 := Scalar.addi v212 v216
  let c15_i32_153 : BitVec 32 := 15#32
  let v220 : BitVec 32 := Scalar.shrsi v143 c15_i32_153
  let c1_i32_154 : BitVec 32 := 1#32
  let v221 : BitVec 32 := Scalar.andi v220 c1_i32_154
  let v222 : BitVec 32 := Scalar.addi v217 v221
  let v272 : BitVec 32 := Scalar.subi v222 c0_i32_207
  let c1_i32_208 : BitVec 32 := 1#32
  let v274 : BitVec 32 := Scalar.divsi v272 c1_i32_208
  let v275 : BitVec 32 := Scalar.muli v274 c1_i32_208
  let v276 : BitVec 32 := Scalar.addi c0_i32_207 v275
  let c1_i32_210 : BitVec 32 := 1#32
  let arg17 : BitVec 32 := Scf.iv v276 c1_i32_210 k0_t2
  let c1_i32_3263 : BitVec 32 := 1#32
  let v7430 : BitVec 32 := Scalar.addi arg17 c1_i32_3263
  let v7467 : Index := Scalar.indexCast v7430
  ![v7467.toNat]
def k0_off92 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 2 → Nat :=
  let c0_i32_207 : BitVec 32 := 0#32
  let c0_i32_123 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_2 : BitVec 32 := 1#32
  let v4 : BitVec 32 := Scalar.shli c1_i32_2 v3
  let v5 : BitVec 32 := Scalar.ori v2 v4
  let c1_i32_5 : BitVec 32 := 1#32
  let v7 : BitVec 32 := Scalar.shli c1_i32_5 v6
  let v8 : BitVec 32 := Scalar.ori v5 v7
  let c1_i32_8 : BitVec 32 := 1#32
  let v10 : BitVec 32 := Scalar.shli c1_i32_8 v9
  let v11 : BitVec 32 := Scalar.ori v8 v10
  let c1_i32_10 : BitVec 32 := 1#32
  let v13 : BitVec 32 := Scalar.shli c1_i32_10 v12
  let v14 : BitVec 32 := Scalar.ori v11 v13
  let c1_i32_13 : BitVec 32 := 1#32
  let v16 : BitVec 32 := Scalar.shli c1_i32_13 v15
  let v17 : BitVec 32 := Scalar.ori v14 v16
  let c1_i32_15 : BitVec 32 := 1#32
  let v19 : BitVec 32 := Scalar.shli c1_i32_15 v18
  let v20 : BitVec 32 := Scalar.ori v17 v19
  let c1_i32_18 : BitVec 32 := 1#32
  let v22 : BitVec 32 := Scalar.shli c1_i32_18 v21
  let v23 : BitVec 32 := Scalar.ori v20 v22
  let c1_i32_20 : BitVec 32 := 1#32
  let v25 : BitVec 32 := Scalar.shli c1_i32_20 v24
  let v26 : BitVec 32 := Scalar.ori v23 v25
  let c1_i32_23 : BitVec 32 := 1#32
  let v28 : BitVec 32 := Scalar.shli c1_i32_23 v27
  let v29 : BitVec 32 := Scalar.ori v26 v28
  let c1_i32_25 : BitVec 32 := 1#32
  let v31 : BitVec 32 := Scalar.shli c1_i32_25 v30
  let v32 : BitVec 32 := Scalar.ori v29 v31
  let c1_i32_28 : BitVec 32 := 1#32
  let v34 : BitVec 32 := Scalar.shli c1_i32_28 v33
  let v35 : BitVec 32 := Scalar.ori v32 v34
  let c1_i32_30 : BitVec 32 := 1#32
  let v37 : BitVec 32 := Scalar.shli c1_i32_30 v36
  let v38 : BitVec 32 := Scalar.ori v35 v37
  let c1_i32_33 : BitVec 32 := 1#32
  let v40 : BitVec 32 := Scalar.shli c1_i32_33 v39
  let v41 : BitVec 32 := Scalar.ori v38 v40
  let c1_i32_35 : BitVec 32 := 1#32
  let v43 : BitVec 32 := Scalar.shli c1_i32_35 v42
  let v44 : BitVec 32 := Scalar.ori v41 v43
  let c1_i32_38 : BitVec 32 := 1#32
  let v46 : BitVec 32 := Scalar.shli c1_i32_38 v45
  let v47 : BitVec 32 := Scalar.ori v44 v46
  let c1_i32_40 : BitVec 32 := 1#32
  let v49 : BitVec 32 := Scalar.shli c1_i32_40 v48
  let v50 : BitVec 32 := Scalar.ori v47 v49
  let c1_i32_43 : BitVec 32 := 1#32
  let v52 : BitVec 32 := Scalar.shli c1_i32_43 v51
  let v53 : BitVec 32 := Scalar.ori v50 v52
  let c1_i32_45 : BitVec 32 := 1#32
  let v55 : BitVec 32 := Scalar.shli c1_i32_45 v54
  let v56 : BitVec 32 := Scalar.ori v53 v55
  let c1_i32_48 : BitVec 32 := 1#32
  let v58 : BitVec 32 := Scalar.shli c1_i32_48 v57
  let v59 : BitVec 32 := Scalar.ori v56 v58
  let c1_i32_50 : BitVec 32 := 1#32
  let v61 : BitVec 32 := Scalar.shli c1_i32_50 v60
  let v62 : BitVec 32 := Scalar.ori v59 v61
  let c1_i32_53 : BitVec 32 := 1#32
  let v64 : BitVec 32 := Scalar.shli c1_i32_53 v63
  let v65 : BitVec 32 := Scalar.ori v62 v64
  let c1_i32_55 : BitVec 32 := 1#32
  let v67 : BitVec 32 := Scalar.shli c1_i32_55 v66
  let v68 : BitVec 32 := Scalar.ori v65 v67
  let c1_i32_58 : BitVec 32 := 1#32
  let v70 : BitVec 32 := Scalar.shli c1_i32_58 v69
  let v71 : BitVec 32 := Scalar.ori v68 v70
  let c1_i32_60 : BitVec 32 := 1#32
  let v73 : BitVec 32 := Scalar.shli c1_i32_60 v72
  let v74 : BitVec 32 := Scalar.ori v71 v73
  let c1_i32_63 : BitVec 32 := 1#32
  let v76 : BitVec 32 := Scalar.shli c1_i32_63 v75
  let v77 : BitVec 32 := Scalar.ori v74 v76
  let c1_i32_65 : BitVec 32 := 1#32
  let v79 : BitVec 32 := Scalar.shli c1_i32_65 v78
  let v80 : BitVec 32 := Scalar.ori v77 v79
  let c1_i32_68 : BitVec 32 := 1#32
  let v82 : BitVec 32 := Scalar.shli c1_i32_68 v81
  let v83 : BitVec 32 := Scalar.ori v80 v82
  let c1_i32_70 : BitVec 32 := 1#32
  let v85 : BitVec 32 := Scalar.shli c1_i32_70 v84
  let v86 : BitVec 32 := Scalar.ori v83 v85
  let c1_i32_73 : BitVec 32 := 1#32
  let v88 : BitVec 32 := Scalar.shli c1_i32_73 v87
  let v89 : BitVec 32 := Scalar.ori v86 v88
  let c1_i32_75 : BitVec 32 := 1#32
  let v91 : BitVec 32 := Scalar.shli c1_i32_75 v90
  let v92 : BitVec 32 := Scalar.ori v89 v91
  let c1_i32_78 : BitVec 32 := 1#32
  let v94 : BitVec 32 := Scalar.shli c1_i32_78 v93
  let v95 : BitVec 32 := Scalar.ori v92 v94
  let c1_i32_80 : BitVec 32 := 1#32
  let v97 : BitVec 32 := Scalar.shli c1_i32_80 v96
  let v98 : BitVec 32 := Scalar.ori v95 v97
  let c1_i32_83 : BitVec 32 := 1#32
  let v100 : BitVec 32 := Scalar.shli c1_i32_83 v99
  let v101 : BitVec 32 := Scalar.ori v98 v100
  let c1_i32_85 : BitVec 32 := 1#32
  let v103 : BitVec 32 := Scalar.shli c1_i32_85 v102
  let v104 : BitVec 32 := Scalar.ori v101 v103
  let c1_i32_88 : BitVec 32 := 1#32
  let v106 : BitVec 32 := Scalar.shli c1_i32_88 v105
  let v107 : BitVec 32 := Scalar.ori v104 v106
  let c1_i32_90 : BitVec 32 := 1#32
  let v109 : BitVec 32 := Scalar.shli c1_i32_90 v108
  let v110 : BitVec 32 := Scalar.ori v107 v109
  let c1_i32_93 : BitVec 32 := 1#32
  let v112 : BitVec 32 := Scalar.shli c1_i32_93 v111
  let v113 : BitVec 32 := Scalar.ori v110 v112
  let c1_i32_95 : BitVec 32 := 1#32
  let v115 : BitVec 32 := Scalar.shli c1_i32_95 v114
  let v116 : BitVec 32 := Scalar.ori v113 v115
  let c1_i32_98 : BitVec 32 := 1#32
  let v118 : BitVec 32 := Scalar.shli c1_i32_98 v117
  let v119 : BitVec 32 := Scalar.ori v116 v118
  let c1_i32_100 : BitVec 32 := 1#32
  let v121 : BitVec 32 := Scalar.shli c1_i32_100 v120
  let v122 : BitVec 32 := Scalar.ori v119 v121
  let c1_i32_103 : BitVec 32 := 1#32
  let v124 : BitVec 32 := Scalar.shli c1_i32_103 v123
  let v125 : BitVec 32 := Scalar.ori v122 v124
  let c1_i32_105 : BitVec 32 := 1#32
  let v127 : BitVec 32 := Scalar.shli c1_i32_105 v126
  let v128 : BitVec 32 := Scalar.ori v125 v127
  let c1_i32_108 : BitVec 32 := 1#32
  let v130 : BitVec 32 := Scalar.shli c1_i32_108 v129
  let v131 : BitVec 32 := Scalar.ori v128 v130
  let c1_i32_110 : BitVec 32 := 1#32
  let v133 : BitVec 32 := Scalar.shli c1_i32_110 v132
  let v134 : BitVec 32 := Scalar.ori v131 v133
  let c1_i32_113 : BitVec 32 := 1#32
  let v136 : BitVec 32 := Scalar.shli c1_i32_113 v135
  let v137 : BitVec 32 := Scalar.ori v134 v136
  let c1_i32_115 : BitVec 32 := 1#32
  let v139 : BitVec 32 := Scalar.shli c1_i32_115 v138
  let v140 : BitVec 32 := Scalar.ori v137 v139
  let c1_i32_118 : BitVec 32 := 1#32
  let v142 : BitVec 32 := Scalar.shli c1_i32_118 v141
  let v143 : BitVec 32 := Scalar.ori v140 v142
  let c0_i32_121 : BitVec 32 := 0#32
  let v145 : BitVec 32 := Scalar.shrsi v143 c0_i32_121
  let c1_i32_122 : BitVec 32 := 1#32
  let v146 : BitVec 32 := Scalar.andi v145 c1_i32_122
  let v147 : BitVec 32 := Scalar.addi c0_i32_123 v146
  let c1_i32_125 : BitVec 32 := 1#32
  let v150 : BitVec 32 := Scalar.shrsi v143 c1_i32_125
  let c1_i32_126 : BitVec 32 := 1#32
  let v151 : BitVec 32 := Scalar.andi v150 c1_i32_126
  let v152 : BitVec 32 := Scalar.addi v147 v151
  let c2_i32_127 : BitVec 32 := 2#32
  let v155 : BitVec 32 := Scalar.shrsi v143 c2_i32_127
  let c1_i32_128 : BitVec 32 := 1#32
  let v156 : BitVec 32 := Scalar.andi v155 c1_i32_128
  let v157 : BitVec 32 := Scalar.addi v152 v156
  let c3_i32_129 : BitVec 32 := 3#32
  let v160 : BitVec 32 := Scalar.shrsi v143 c3_i32_129
  let c1_i32_130 : BitVec 32 := 1#32
  let v161 : BitVec 32 := Scalar.andi v160 c1_i32_130
  let v162 : BitVec 32 := Scalar.addi v157 v161
  let c4_i32_131 : BitVec 32 := 4#32
  let v165 : BitVec 32 := Scalar.shrsi v143 c4_i32_131
  let c1_i32_132 : BitVec 32 := 1#32
  let v166 : BitVec 32 := Scalar.andi v165 c1_i32_132
  let v167 : BitVec 32 := Scalar.addi v162 v166
  let c5_i32_133 : BitVec 32 := 5#32
  let v170 : BitVec 32 := Scalar.shrsi v143 c5_i32_133
  let c1_i32_134 : BitVec 32 := 1#32
  let v171 : BitVec 32 := Scalar.andi v170 c1_i32_134
  let v172 : BitVec 32 := Scalar.addi v167 v171
  let c6_i32_135 : BitVec 32 := 6#32
  let v175 : BitVec 32 := Scalar.shrsi v143 c6_i32_135
  let c1_i32_136 : BitVec 32 := 1#32
  let v176 : BitVec 32 := Scalar.andi v175 c1_i32_136
  let v177 : BitVec 32 := Scalar.addi v172 v176
  let c7_i32_137 : BitVec 32 := 7#32
  let v180 : BitVec 32 := Scalar.shrsi v143 c7_i32_137
  let c1_i32_138 : BitVec 32 := 1#32
  let v181 : BitVec 32 := Scalar.andi v180 c1_i32_138
  let v182 : BitVec 32 := Scalar.addi v177 v181
  let c8_i32_139 : BitVec 32 := 8#32
  let v185 : BitVec 32 := Scalar.shrsi v143 c8_i32_139
  let c1_i32_140 : BitVec 32 := 1#32
  let v186 : BitVec 32 := Scalar.andi v185 c1_i32_140
  let v187 : BitVec 32 := Scalar.addi v182 v186
  let c9_i32_141 : BitVec 32 := 9#32
  let v190 : BitVec 32 := Scalar.shrsi v143 c9_i32_141
  let c1_i32_142 : BitVec 32 := 1#32
  let v191 : BitVec 32 := Scalar.andi v190 c1_i32_142
  let v192 : BitVec 32 := Scalar.addi v187 v191
  let c10_i32_143 : BitVec 32 := 10#32
  let v195 : BitVec 32 := Scalar.shrsi v143 c10_i32_143
  let c1_i32_144 : BitVec 32 := 1#32
  let v196 : BitVec 32 := Scalar.andi v195 c1_i32_144
  let v197 : BitVec 32 := Scalar.addi v192 v196
  let c11_i32_145 : BitVec 32 := 11#32
  let v200 : BitVec 32 := Scalar.shrsi v143 c11_i32_145
  let c1_i32_146 : BitVec 32 := 1#32
  let v201 : BitVec 32 := Scalar.andi v200 c1_i32_146
  let v202 : BitVec 32 := Scalar.addi v197 v201
  let c12_i32_147 : BitVec 32 := 12#32
  let v205 : BitVec 32 := Scalar.shrsi v143 c12_i32_147
  let c1_i32_148 : BitVec 32 := 1#32
  let v206 : BitVec 32 := Scalar.andi v205 c1_i32_148
  let v207 : BitVec 32 := Scalar.addi v202 v206
  let c13_i32_149 : BitVec 32 := 13#32
  let v210 : BitVec 32 := Scalar.shrsi v143 c13_i32_149
  let c1_i32_150 : BitVec 32 := 1#32
  let v211 : BitVec 32 := Scalar.andi v210 c1_i32_150
  let v212 : BitVec 32 := Scalar.addi v207 v211
  let c14_i32_151 : BitVec 32 := 14#32
  let v215 : BitVec 32 := Scalar.shrsi v143 c14_i32_151
  let c1_i32_152 : BitVec 32 := 1#32
  let v216 : BitVec 32 := Scalar.andi v215 c1_i32_152
  let v217 : BitVec 32 := Scalar.addi v212 v216
  let c15_i32_153 : BitVec 32 := 15#32
  let v220 : BitVec 32 := Scalar.shrsi v143 c15_i32_153
  let c1_i32_154 : BitVec 32 := 1#32
  let v221 : BitVec 32 := Scalar.andi v220 c1_i32_154
  let v222 : BitVec 32 := Scalar.addi v217 v221
  let v272 : BitVec 32 := Scalar.subi v222 c0_i32_207
  let c1_i32_208 : BitVec 32 := 1#32
  let v274 : BitVec 32 := Scalar.divsi v272 c1_i32_208
  let v275 : BitVec 32 := Scalar.muli v274 c1_i32_208
  let v276 : BitVec 32 := Scalar.addi c0_i32_207 v275
  let c1_i32_210 : BitVec 32 := 1#32
  let arg17 : BitVec 32 := Scf.iv v276 c1_i32_210 k0_t2
  let c1_i32_3264 : BitVec 32 := 1#32
  let v7431 : BitVec 32 := Scalar.addi arg17 c1_i32_3264
  let c2_i32_3265 : BitVec 32 := 2#32
  let v7432 : BitVec 32 := Scalar.remsi v7431 c2_i32_3265
  let c2_i32_3291 : BitVec 32 := 2#32
  ![v7432.toNat, 2]
def k0_off93 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 3 → Nat :=
  let c0_i32_207 : BitVec 32 := 0#32
  let c0_i32_123 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_2 : BitVec 32 := 1#32
  let v4 : BitVec 32 := Scalar.shli c1_i32_2 v3
  let v5 : BitVec 32 := Scalar.ori v2 v4
  let c1_i32_5 : BitVec 32 := 1#32
  let v7 : BitVec 32 := Scalar.shli c1_i32_5 v6
  let v8 : BitVec 32 := Scalar.ori v5 v7
  let c1_i32_8 : BitVec 32 := 1#32
  let v10 : BitVec 32 := Scalar.shli c1_i32_8 v9
  let v11 : BitVec 32 := Scalar.ori v8 v10
  let c1_i32_10 : BitVec 32 := 1#32
  let v13 : BitVec 32 := Scalar.shli c1_i32_10 v12
  let v14 : BitVec 32 := Scalar.ori v11 v13
  let c1_i32_13 : BitVec 32 := 1#32
  let v16 : BitVec 32 := Scalar.shli c1_i32_13 v15
  let v17 : BitVec 32 := Scalar.ori v14 v16
  let c1_i32_15 : BitVec 32 := 1#32
  let v19 : BitVec 32 := Scalar.shli c1_i32_15 v18
  let v20 : BitVec 32 := Scalar.ori v17 v19
  let c1_i32_18 : BitVec 32 := 1#32
  let v22 : BitVec 32 := Scalar.shli c1_i32_18 v21
  let v23 : BitVec 32 := Scalar.ori v20 v22
  let c1_i32_20 : BitVec 32 := 1#32
  let v25 : BitVec 32 := Scalar.shli c1_i32_20 v24
  let v26 : BitVec 32 := Scalar.ori v23 v25
  let c1_i32_23 : BitVec 32 := 1#32
  let v28 : BitVec 32 := Scalar.shli c1_i32_23 v27
  let v29 : BitVec 32 := Scalar.ori v26 v28
  let c1_i32_25 : BitVec 32 := 1#32
  let v31 : BitVec 32 := Scalar.shli c1_i32_25 v30
  let v32 : BitVec 32 := Scalar.ori v29 v31
  let c1_i32_28 : BitVec 32 := 1#32
  let v34 : BitVec 32 := Scalar.shli c1_i32_28 v33
  let v35 : BitVec 32 := Scalar.ori v32 v34
  let c1_i32_30 : BitVec 32 := 1#32
  let v37 : BitVec 32 := Scalar.shli c1_i32_30 v36
  let v38 : BitVec 32 := Scalar.ori v35 v37
  let c1_i32_33 : BitVec 32 := 1#32
  let v40 : BitVec 32 := Scalar.shli c1_i32_33 v39
  let v41 : BitVec 32 := Scalar.ori v38 v40
  let c1_i32_35 : BitVec 32 := 1#32
  let v43 : BitVec 32 := Scalar.shli c1_i32_35 v42
  let v44 : BitVec 32 := Scalar.ori v41 v43
  let c1_i32_38 : BitVec 32 := 1#32
  let v46 : BitVec 32 := Scalar.shli c1_i32_38 v45
  let v47 : BitVec 32 := Scalar.ori v44 v46
  let c1_i32_40 : BitVec 32 := 1#32
  let v49 : BitVec 32 := Scalar.shli c1_i32_40 v48
  let v50 : BitVec 32 := Scalar.ori v47 v49
  let c1_i32_43 : BitVec 32 := 1#32
  let v52 : BitVec 32 := Scalar.shli c1_i32_43 v51
  let v53 : BitVec 32 := Scalar.ori v50 v52
  let c1_i32_45 : BitVec 32 := 1#32
  let v55 : BitVec 32 := Scalar.shli c1_i32_45 v54
  let v56 : BitVec 32 := Scalar.ori v53 v55
  let c1_i32_48 : BitVec 32 := 1#32
  let v58 : BitVec 32 := Scalar.shli c1_i32_48 v57
  let v59 : BitVec 32 := Scalar.ori v56 v58
  let c1_i32_50 : BitVec 32 := 1#32
  let v61 : BitVec 32 := Scalar.shli c1_i32_50 v60
  let v62 : BitVec 32 := Scalar.ori v59 v61
  let c1_i32_53 : BitVec 32 := 1#32
  let v64 : BitVec 32 := Scalar.shli c1_i32_53 v63
  let v65 : BitVec 32 := Scalar.ori v62 v64
  let c1_i32_55 : BitVec 32 := 1#32
  let v67 : BitVec 32 := Scalar.shli c1_i32_55 v66
  let v68 : BitVec 32 := Scalar.ori v65 v67
  let c1_i32_58 : BitVec 32 := 1#32
  let v70 : BitVec 32 := Scalar.shli c1_i32_58 v69
  let v71 : BitVec 32 := Scalar.ori v68 v70
  let c1_i32_60 : BitVec 32 := 1#32
  let v73 : BitVec 32 := Scalar.shli c1_i32_60 v72
  let v74 : BitVec 32 := Scalar.ori v71 v73
  let c1_i32_63 : BitVec 32 := 1#32
  let v76 : BitVec 32 := Scalar.shli c1_i32_63 v75
  let v77 : BitVec 32 := Scalar.ori v74 v76
  let c1_i32_65 : BitVec 32 := 1#32
  let v79 : BitVec 32 := Scalar.shli c1_i32_65 v78
  let v80 : BitVec 32 := Scalar.ori v77 v79
  let c1_i32_68 : BitVec 32 := 1#32
  let v82 : BitVec 32 := Scalar.shli c1_i32_68 v81
  let v83 : BitVec 32 := Scalar.ori v80 v82
  let c1_i32_70 : BitVec 32 := 1#32
  let v85 : BitVec 32 := Scalar.shli c1_i32_70 v84
  let v86 : BitVec 32 := Scalar.ori v83 v85
  let c1_i32_73 : BitVec 32 := 1#32
  let v88 : BitVec 32 := Scalar.shli c1_i32_73 v87
  let v89 : BitVec 32 := Scalar.ori v86 v88
  let c1_i32_75 : BitVec 32 := 1#32
  let v91 : BitVec 32 := Scalar.shli c1_i32_75 v90
  let v92 : BitVec 32 := Scalar.ori v89 v91
  let c1_i32_78 : BitVec 32 := 1#32
  let v94 : BitVec 32 := Scalar.shli c1_i32_78 v93
  let v95 : BitVec 32 := Scalar.ori v92 v94
  let c1_i32_80 : BitVec 32 := 1#32
  let v97 : BitVec 32 := Scalar.shli c1_i32_80 v96
  let v98 : BitVec 32 := Scalar.ori v95 v97
  let c1_i32_83 : BitVec 32 := 1#32
  let v100 : BitVec 32 := Scalar.shli c1_i32_83 v99
  let v101 : BitVec 32 := Scalar.ori v98 v100
  let c1_i32_85 : BitVec 32 := 1#32
  let v103 : BitVec 32 := Scalar.shli c1_i32_85 v102
  let v104 : BitVec 32 := Scalar.ori v101 v103
  let c1_i32_88 : BitVec 32 := 1#32
  let v106 : BitVec 32 := Scalar.shli c1_i32_88 v105
  let v107 : BitVec 32 := Scalar.ori v104 v106
  let c1_i32_90 : BitVec 32 := 1#32
  let v109 : BitVec 32 := Scalar.shli c1_i32_90 v108
  let v110 : BitVec 32 := Scalar.ori v107 v109
  let c1_i32_93 : BitVec 32 := 1#32
  let v112 : BitVec 32 := Scalar.shli c1_i32_93 v111
  let v113 : BitVec 32 := Scalar.ori v110 v112
  let c1_i32_95 : BitVec 32 := 1#32
  let v115 : BitVec 32 := Scalar.shli c1_i32_95 v114
  let v116 : BitVec 32 := Scalar.ori v113 v115
  let c1_i32_98 : BitVec 32 := 1#32
  let v118 : BitVec 32 := Scalar.shli c1_i32_98 v117
  let v119 : BitVec 32 := Scalar.ori v116 v118
  let c1_i32_100 : BitVec 32 := 1#32
  let v121 : BitVec 32 := Scalar.shli c1_i32_100 v120
  let v122 : BitVec 32 := Scalar.ori v119 v121
  let c1_i32_103 : BitVec 32 := 1#32
  let v124 : BitVec 32 := Scalar.shli c1_i32_103 v123
  let v125 : BitVec 32 := Scalar.ori v122 v124
  let c1_i32_105 : BitVec 32 := 1#32
  let v127 : BitVec 32 := Scalar.shli c1_i32_105 v126
  let v128 : BitVec 32 := Scalar.ori v125 v127
  let c1_i32_108 : BitVec 32 := 1#32
  let v130 : BitVec 32 := Scalar.shli c1_i32_108 v129
  let v131 : BitVec 32 := Scalar.ori v128 v130
  let c1_i32_110 : BitVec 32 := 1#32
  let v133 : BitVec 32 := Scalar.shli c1_i32_110 v132
  let v134 : BitVec 32 := Scalar.ori v131 v133
  let c1_i32_113 : BitVec 32 := 1#32
  let v136 : BitVec 32 := Scalar.shli c1_i32_113 v135
  let v137 : BitVec 32 := Scalar.ori v134 v136
  let c1_i32_115 : BitVec 32 := 1#32
  let v139 : BitVec 32 := Scalar.shli c1_i32_115 v138
  let v140 : BitVec 32 := Scalar.ori v137 v139
  let c1_i32_118 : BitVec 32 := 1#32
  let v142 : BitVec 32 := Scalar.shli c1_i32_118 v141
  let v143 : BitVec 32 := Scalar.ori v140 v142
  let c0_i32_121 : BitVec 32 := 0#32
  let v145 : BitVec 32 := Scalar.shrsi v143 c0_i32_121
  let c1_i32_122 : BitVec 32 := 1#32
  let v146 : BitVec 32 := Scalar.andi v145 c1_i32_122
  let v147 : BitVec 32 := Scalar.addi c0_i32_123 v146
  let c1_i32_125 : BitVec 32 := 1#32
  let v150 : BitVec 32 := Scalar.shrsi v143 c1_i32_125
  let c1_i32_126 : BitVec 32 := 1#32
  let v151 : BitVec 32 := Scalar.andi v150 c1_i32_126
  let v152 : BitVec 32 := Scalar.addi v147 v151
  let c2_i32_127 : BitVec 32 := 2#32
  let v155 : BitVec 32 := Scalar.shrsi v143 c2_i32_127
  let c1_i32_128 : BitVec 32 := 1#32
  let v156 : BitVec 32 := Scalar.andi v155 c1_i32_128
  let v157 : BitVec 32 := Scalar.addi v152 v156
  let c3_i32_129 : BitVec 32 := 3#32
  let v160 : BitVec 32 := Scalar.shrsi v143 c3_i32_129
  let c1_i32_130 : BitVec 32 := 1#32
  let v161 : BitVec 32 := Scalar.andi v160 c1_i32_130
  let v162 : BitVec 32 := Scalar.addi v157 v161
  let c4_i32_131 : BitVec 32 := 4#32
  let v165 : BitVec 32 := Scalar.shrsi v143 c4_i32_131
  let c1_i32_132 : BitVec 32 := 1#32
  let v166 : BitVec 32 := Scalar.andi v165 c1_i32_132
  let v167 : BitVec 32 := Scalar.addi v162 v166
  let c5_i32_133 : BitVec 32 := 5#32
  let v170 : BitVec 32 := Scalar.shrsi v143 c5_i32_133
  let c1_i32_134 : BitVec 32 := 1#32
  let v171 : BitVec 32 := Scalar.andi v170 c1_i32_134
  let v172 : BitVec 32 := Scalar.addi v167 v171
  let c6_i32_135 : BitVec 32 := 6#32
  let v175 : BitVec 32 := Scalar.shrsi v143 c6_i32_135
  let c1_i32_136 : BitVec 32 := 1#32
  let v176 : BitVec 32 := Scalar.andi v175 c1_i32_136
  let v177 : BitVec 32 := Scalar.addi v172 v176
  let c7_i32_137 : BitVec 32 := 7#32
  let v180 : BitVec 32 := Scalar.shrsi v143 c7_i32_137
  let c1_i32_138 : BitVec 32 := 1#32
  let v181 : BitVec 32 := Scalar.andi v180 c1_i32_138
  let v182 : BitVec 32 := Scalar.addi v177 v181
  let c8_i32_139 : BitVec 32 := 8#32
  let v185 : BitVec 32 := Scalar.shrsi v143 c8_i32_139
  let c1_i32_140 : BitVec 32 := 1#32
  let v186 : BitVec 32 := Scalar.andi v185 c1_i32_140
  let v187 : BitVec 32 := Scalar.addi v182 v186
  let c9_i32_141 : BitVec 32 := 9#32
  let v190 : BitVec 32 := Scalar.shrsi v143 c9_i32_141
  let c1_i32_142 : BitVec 32 := 1#32
  let v191 : BitVec 32 := Scalar.andi v190 c1_i32_142
  let v192 : BitVec 32 := Scalar.addi v187 v191
  let c10_i32_143 : BitVec 32 := 10#32
  let v195 : BitVec 32 := Scalar.shrsi v143 c10_i32_143
  let c1_i32_144 : BitVec 32 := 1#32
  let v196 : BitVec 32 := Scalar.andi v195 c1_i32_144
  let v197 : BitVec 32 := Scalar.addi v192 v196
  let c11_i32_145 : BitVec 32 := 11#32
  let v200 : BitVec 32 := Scalar.shrsi v143 c11_i32_145
  let c1_i32_146 : BitVec 32 := 1#32
  let v201 : BitVec 32 := Scalar.andi v200 c1_i32_146
  let v202 : BitVec 32 := Scalar.addi v197 v201
  let c12_i32_147 : BitVec 32 := 12#32
  let v205 : BitVec 32 := Scalar.shrsi v143 c12_i32_147
  let c1_i32_148 : BitVec 32 := 1#32
  let v206 : BitVec 32 := Scalar.andi v205 c1_i32_148
  let v207 : BitVec 32 := Scalar.addi v202 v206
  let c13_i32_149 : BitVec 32 := 13#32
  let v210 : BitVec 32 := Scalar.shrsi v143 c13_i32_149
  let c1_i32_150 : BitVec 32 := 1#32
  let v211 : BitVec 32 := Scalar.andi v210 c1_i32_150
  let v212 : BitVec 32 := Scalar.addi v207 v211
  let c14_i32_151 : BitVec 32 := 14#32
  let v215 : BitVec 32 := Scalar.shrsi v143 c14_i32_151
  let c1_i32_152 : BitVec 32 := 1#32
  let v216 : BitVec 32 := Scalar.andi v215 c1_i32_152
  let v217 : BitVec 32 := Scalar.addi v212 v216
  let c15_i32_153 : BitVec 32 := 15#32
  let v220 : BitVec 32 := Scalar.shrsi v143 c15_i32_153
  let c1_i32_154 : BitVec 32 := 1#32
  let v221 : BitVec 32 := Scalar.andi v220 c1_i32_154
  let v222 : BitVec 32 := Scalar.addi v217 v221
  let v272 : BitVec 32 := Scalar.subi v222 c0_i32_207
  let c1_i32_208 : BitVec 32 := 1#32
  let v274 : BitVec 32 := Scalar.divsi v272 c1_i32_208
  let v275 : BitVec 32 := Scalar.muli v274 c1_i32_208
  let v276 : BitVec 32 := Scalar.addi c0_i32_207 v275
  let c1_i32_210 : BitVec 32 := 1#32
  let arg17 : BitVec 32 := Scf.iv v276 c1_i32_210 k0_t2
  let c1_i32_3264 : BitVec 32 := 1#32
  let v7431 : BitVec 32 := Scalar.addi arg17 c1_i32_3264
  let c2_i32_3265 : BitVec 32 := 2#32
  let v7432 : BitVec 32 := Scalar.remsi v7431 c2_i32_3265
  let c0_i32_3292 : BitVec 32 := 0#32
  let c0_i32_3293 : BitVec 32 := 0#32
  ![v7432.toNat, 0, 0]
def k0_off94 (v7468 : BitVec 32) : Fin 3 → Nat :=
  let c0_i32_3294 : BitVec 32 := 0#32
  let c0_i32_3295 : BitVec 32 := 0#32
  ![v7468.toNat, 0, 0]

def k0_off95 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 2 → Nat :=
  let c0_i32_207 : BitVec 32 := 0#32
  let c0_i32_123 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_2 : BitVec 32 := 1#32
  let v4 : BitVec 32 := Scalar.shli c1_i32_2 v3
  let v5 : BitVec 32 := Scalar.ori v2 v4
  let c1_i32_5 : BitVec 32 := 1#32
  let v7 : BitVec 32 := Scalar.shli c1_i32_5 v6
  let v8 : BitVec 32 := Scalar.ori v5 v7
  let c1_i32_8 : BitVec 32 := 1#32
  let v10 : BitVec 32 := Scalar.shli c1_i32_8 v9
  let v11 : BitVec 32 := Scalar.ori v8 v10
  let c1_i32_10 : BitVec 32 := 1#32
  let v13 : BitVec 32 := Scalar.shli c1_i32_10 v12
  let v14 : BitVec 32 := Scalar.ori v11 v13
  let c1_i32_13 : BitVec 32 := 1#32
  let v16 : BitVec 32 := Scalar.shli c1_i32_13 v15
  let v17 : BitVec 32 := Scalar.ori v14 v16
  let c1_i32_15 : BitVec 32 := 1#32
  let v19 : BitVec 32 := Scalar.shli c1_i32_15 v18
  let v20 : BitVec 32 := Scalar.ori v17 v19
  let c1_i32_18 : BitVec 32 := 1#32
  let v22 : BitVec 32 := Scalar.shli c1_i32_18 v21
  let v23 : BitVec 32 := Scalar.ori v20 v22
  let c1_i32_20 : BitVec 32 := 1#32
  let v25 : BitVec 32 := Scalar.shli c1_i32_20 v24
  let v26 : BitVec 32 := Scalar.ori v23 v25
  let c1_i32_23 : BitVec 32 := 1#32
  let v28 : BitVec 32 := Scalar.shli c1_i32_23 v27
  let v29 : BitVec 32 := Scalar.ori v26 v28
  let c1_i32_25 : BitVec 32 := 1#32
  let v31 : BitVec 32 := Scalar.shli c1_i32_25 v30
  let v32 : BitVec 32 := Scalar.ori v29 v31
  let c1_i32_28 : BitVec 32 := 1#32
  let v34 : BitVec 32 := Scalar.shli c1_i32_28 v33
  let v35 : BitVec 32 := Scalar.ori v32 v34
  let c1_i32_30 : BitVec 32 := 1#32
  let v37 : BitVec 32 := Scalar.shli c1_i32_30 v36
  let v38 : BitVec 32 := Scalar.ori v35 v37
  let c1_i32_33 : BitVec 32 := 1#32
  let v40 : BitVec 32 := Scalar.shli c1_i32_33 v39
  let v41 : BitVec 32 := Scalar.ori v38 v40
  let c1_i32_35 : BitVec 32 := 1#32
  let v43 : BitVec 32 := Scalar.shli c1_i32_35 v42
  let v44 : BitVec 32 := Scalar.ori v41 v43
  let c1_i32_38 : BitVec 32 := 1#32
  let v46 : BitVec 32 := Scalar.shli c1_i32_38 v45
  let v47 : BitVec 32 := Scalar.ori v44 v46
  let c1_i32_40 : BitVec 32 := 1#32
  let v49 : BitVec 32 := Scalar.shli c1_i32_40 v48
  let v50 : BitVec 32 := Scalar.ori v47 v49
  let c1_i32_43 : BitVec 32 := 1#32
  let v52 : BitVec 32 := Scalar.shli c1_i32_43 v51
  let v53 : BitVec 32 := Scalar.ori v50 v52
  let c1_i32_45 : BitVec 32 := 1#32
  let v55 : BitVec 32 := Scalar.shli c1_i32_45 v54
  let v56 : BitVec 32 := Scalar.ori v53 v55
  let c1_i32_48 : BitVec 32 := 1#32
  let v58 : BitVec 32 := Scalar.shli c1_i32_48 v57
  let v59 : BitVec 32 := Scalar.ori v56 v58
  let c1_i32_50 : BitVec 32 := 1#32
  let v61 : BitVec 32 := Scalar.shli c1_i32_50 v60
  let v62 : BitVec 32 := Scalar.ori v59 v61
  let c1_i32_53 : BitVec 32 := 1#32
  let v64 : BitVec 32 := Scalar.shli c1_i32_53 v63
  let v65 : BitVec 32 := Scalar.ori v62 v64
  let c1_i32_55 : BitVec 32 := 1#32
  let v67 : BitVec 32 := Scalar.shli c1_i32_55 v66
  let v68 : BitVec 32 := Scalar.ori v65 v67
  let c1_i32_58 : BitVec 32 := 1#32
  let v70 : BitVec 32 := Scalar.shli c1_i32_58 v69
  let v71 : BitVec 32 := Scalar.ori v68 v70
  let c1_i32_60 : BitVec 32 := 1#32
  let v73 : BitVec 32 := Scalar.shli c1_i32_60 v72
  let v74 : BitVec 32 := Scalar.ori v71 v73
  let c1_i32_63 : BitVec 32 := 1#32
  let v76 : BitVec 32 := Scalar.shli c1_i32_63 v75
  let v77 : BitVec 32 := Scalar.ori v74 v76
  let c1_i32_65 : BitVec 32 := 1#32
  let v79 : BitVec 32 := Scalar.shli c1_i32_65 v78
  let v80 : BitVec 32 := Scalar.ori v77 v79
  let c1_i32_68 : BitVec 32 := 1#32
  let v82 : BitVec 32 := Scalar.shli c1_i32_68 v81
  let v83 : BitVec 32 := Scalar.ori v80 v82
  let c1_i32_70 : BitVec 32 := 1#32
  let v85 : BitVec 32 := Scalar.shli c1_i32_70 v84
  let v86 : BitVec 32 := Scalar.ori v83 v85
  let c1_i32_73 : BitVec 32 := 1#32
  let v88 : BitVec 32 := Scalar.shli c1_i32_73 v87
  let v89 : BitVec 32 := Scalar.ori v86 v88
  let c1_i32_75 : BitVec 32 := 1#32
  let v91 : BitVec 32 := Scalar.shli c1_i32_75 v90
  let v92 : BitVec 32 := Scalar.ori v89 v91
  let c1_i32_78 : BitVec 32 := 1#32
  let v94 : BitVec 32 := Scalar.shli c1_i32_78 v93
  let v95 : BitVec 32 := Scalar.ori v92 v94
  let c1_i32_80 : BitVec 32 := 1#32
  let v97 : BitVec 32 := Scalar.shli c1_i32_80 v96
  let v98 : BitVec 32 := Scalar.ori v95 v97
  let c1_i32_83 : BitVec 32 := 1#32
  let v100 : BitVec 32 := Scalar.shli c1_i32_83 v99
  let v101 : BitVec 32 := Scalar.ori v98 v100
  let c1_i32_85 : BitVec 32 := 1#32
  let v103 : BitVec 32 := Scalar.shli c1_i32_85 v102
  let v104 : BitVec 32 := Scalar.ori v101 v103
  let c1_i32_88 : BitVec 32 := 1#32
  let v106 : BitVec 32 := Scalar.shli c1_i32_88 v105
  let v107 : BitVec 32 := Scalar.ori v104 v106
  let c1_i32_90 : BitVec 32 := 1#32
  let v109 : BitVec 32 := Scalar.shli c1_i32_90 v108
  let v110 : BitVec 32 := Scalar.ori v107 v109
  let c1_i32_93 : BitVec 32 := 1#32
  let v112 : BitVec 32 := Scalar.shli c1_i32_93 v111
  let v113 : BitVec 32 := Scalar.ori v110 v112
  let c1_i32_95 : BitVec 32 := 1#32
  let v115 : BitVec 32 := Scalar.shli c1_i32_95 v114
  let v116 : BitVec 32 := Scalar.ori v113 v115
  let c1_i32_98 : BitVec 32 := 1#32
  let v118 : BitVec 32 := Scalar.shli c1_i32_98 v117
  let v119 : BitVec 32 := Scalar.ori v116 v118
  let c1_i32_100 : BitVec 32 := 1#32
  let v121 : BitVec 32 := Scalar.shli c1_i32_100 v120
  let v122 : BitVec 32 := Scalar.ori v119 v121
  let c1_i32_103 : BitVec 32 := 1#32
  let v124 : BitVec 32 := Scalar.shli c1_i32_103 v123
  let v125 : BitVec 32 := Scalar.ori v122 v124
  let c1_i32_105 : BitVec 32 := 1#32
  let v127 : BitVec 32 := Scalar.shli c1_i32_105 v126
  let v128 : BitVec 32 := Scalar.ori v125 v127
  let c1_i32_108 : BitVec 32 := 1#32
  let v130 : BitVec 32 := Scalar.shli c1_i32_108 v129
  let v131 : BitVec 32 := Scalar.ori v128 v130
  let c1_i32_110 : BitVec 32 := 1#32
  let v133 : BitVec 32 := Scalar.shli c1_i32_110 v132
  let v134 : BitVec 32 := Scalar.ori v131 v133
  let c1_i32_113 : BitVec 32 := 1#32
  let v136 : BitVec 32 := Scalar.shli c1_i32_113 v135
  let v137 : BitVec 32 := Scalar.ori v134 v136
  let c1_i32_115 : BitVec 32 := 1#32
  let v139 : BitVec 32 := Scalar.shli c1_i32_115 v138
  let v140 : BitVec 32 := Scalar.ori v137 v139
  let c1_i32_118 : BitVec 32 := 1#32
  let v142 : BitVec 32 := Scalar.shli c1_i32_118 v141
  let v143 : BitVec 32 := Scalar.ori v140 v142
  let c0_i32_121 : BitVec 32 := 0#32
  let v145 : BitVec 32 := Scalar.shrsi v143 c0_i32_121
  let c1_i32_122 : BitVec 32 := 1#32
  let v146 : BitVec 32 := Scalar.andi v145 c1_i32_122
  let v147 : BitVec 32 := Scalar.addi c0_i32_123 v146
  let c1_i32_125 : BitVec 32 := 1#32
  let v150 : BitVec 32 := Scalar.shrsi v143 c1_i32_125
  let c1_i32_126 : BitVec 32 := 1#32
  let v151 : BitVec 32 := Scalar.andi v150 c1_i32_126
  let v152 : BitVec 32 := Scalar.addi v147 v151
  let c2_i32_127 : BitVec 32 := 2#32
  let v155 : BitVec 32 := Scalar.shrsi v143 c2_i32_127
  let c1_i32_128 : BitVec 32 := 1#32
  let v156 : BitVec 32 := Scalar.andi v155 c1_i32_128
  let v157 : BitVec 32 := Scalar.addi v152 v156
  let c3_i32_129 : BitVec 32 := 3#32
  let v160 : BitVec 32 := Scalar.shrsi v143 c3_i32_129
  let c1_i32_130 : BitVec 32 := 1#32
  let v161 : BitVec 32 := Scalar.andi v160 c1_i32_130
  let v162 : BitVec 32 := Scalar.addi v157 v161
  let c4_i32_131 : BitVec 32 := 4#32
  let v165 : BitVec 32 := Scalar.shrsi v143 c4_i32_131
  let c1_i32_132 : BitVec 32 := 1#32
  let v166 : BitVec 32 := Scalar.andi v165 c1_i32_132
  let v167 : BitVec 32 := Scalar.addi v162 v166
  let c5_i32_133 : BitVec 32 := 5#32
  let v170 : BitVec 32 := Scalar.shrsi v143 c5_i32_133
  let c1_i32_134 : BitVec 32 := 1#32
  let v171 : BitVec 32 := Scalar.andi v170 c1_i32_134
  let v172 : BitVec 32 := Scalar.addi v167 v171
  let c6_i32_135 : BitVec 32 := 6#32
  let v175 : BitVec 32 := Scalar.shrsi v143 c6_i32_135
  let c1_i32_136 : BitVec 32 := 1#32
  let v176 : BitVec 32 := Scalar.andi v175 c1_i32_136
  let v177 : BitVec 32 := Scalar.addi v172 v176
  let c7_i32_137 : BitVec 32 := 7#32
  let v180 : BitVec 32 := Scalar.shrsi v143 c7_i32_137
  let c1_i32_138 : BitVec 32 := 1#32
  let v181 : BitVec 32 := Scalar.andi v180 c1_i32_138
  let v182 : BitVec 32 := Scalar.addi v177 v181
  let c8_i32_139 : BitVec 32 := 8#32
  let v185 : BitVec 32 := Scalar.shrsi v143 c8_i32_139
  let c1_i32_140 : BitVec 32 := 1#32
  let v186 : BitVec 32 := Scalar.andi v185 c1_i32_140
  let v187 : BitVec 32 := Scalar.addi v182 v186
  let c9_i32_141 : BitVec 32 := 9#32
  let v190 : BitVec 32 := Scalar.shrsi v143 c9_i32_141
  let c1_i32_142 : BitVec 32 := 1#32
  let v191 : BitVec 32 := Scalar.andi v190 c1_i32_142
  let v192 : BitVec 32 := Scalar.addi v187 v191
  let c10_i32_143 : BitVec 32 := 10#32
  let v195 : BitVec 32 := Scalar.shrsi v143 c10_i32_143
  let c1_i32_144 : BitVec 32 := 1#32
  let v196 : BitVec 32 := Scalar.andi v195 c1_i32_144
  let v197 : BitVec 32 := Scalar.addi v192 v196
  let c11_i32_145 : BitVec 32 := 11#32
  let v200 : BitVec 32 := Scalar.shrsi v143 c11_i32_145
  let c1_i32_146 : BitVec 32 := 1#32
  let v201 : BitVec 32 := Scalar.andi v200 c1_i32_146
  let v202 : BitVec 32 := Scalar.addi v197 v201
  let c12_i32_147 : BitVec 32 := 12#32
  let v205 : BitVec 32 := Scalar.shrsi v143 c12_i32_147
  let c1_i32_148 : BitVec 32 := 1#32
  let v206 : BitVec 32 := Scalar.andi v205 c1_i32_148
  let v207 : BitVec 32 := Scalar.addi v202 v206
  let c13_i32_149 : BitVec 32 := 13#32
  let v210 : BitVec 32 := Scalar.shrsi v143 c13_i32_149
  let c1_i32_150 : BitVec 32 := 1#32
  let v211 : BitVec 32 := Scalar.andi v210 c1_i32_150
  let v212 : BitVec 32 := Scalar.addi v207 v211
  let c14_i32_151 : BitVec 32 := 14#32
  let v215 : BitVec 32 := Scalar.shrsi v143 c14_i32_151
  let c1_i32_152 : BitVec 32 := 1#32
  let v216 : BitVec 32 := Scalar.andi v215 c1_i32_152
  let v217 : BitVec 32 := Scalar.addi v212 v216
  let c15_i32_153 : BitVec 32 := 15#32
  let v220 : BitVec 32 := Scalar.shrsi v143 c15_i32_153
  let c1_i32_154 : BitVec 32 := 1#32
  let v221 : BitVec 32 := Scalar.andi v220 c1_i32_154
  let v222 : BitVec 32 := Scalar.addi v217 v221
  let v272 : BitVec 32 := Scalar.subi v222 c0_i32_207
  let c1_i32_208 : BitVec 32 := 1#32
  let v274 : BitVec 32 := Scalar.divsi v272 c1_i32_208
  let v275 : BitVec 32 := Scalar.muli v274 c1_i32_208
  let v276 : BitVec 32 := Scalar.addi c0_i32_207 v275
  let c1_i32_210 : BitVec 32 := 1#32
  let arg17 : BitVec 32 := Scf.iv v276 c1_i32_210 k0_t2
  let c1_i32_3264 : BitVec 32 := 1#32
  let v7431 : BitVec 32 := Scalar.addi arg17 c1_i32_3264
  let c2_i32_3265 : BitVec 32 := 2#32
  let v7432 : BitVec 32 := Scalar.remsi v7431 c2_i32_3265
  let c2_i32_3296 : BitVec 32 := 2#32
  ![v7432.toNat, 2]
def k0_off96 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 3 → Nat :=
  let c0_i32_207 : BitVec 32 := 0#32
  let c0_i32_123 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_2 : BitVec 32 := 1#32
  let v4 : BitVec 32 := Scalar.shli c1_i32_2 v3
  let v5 : BitVec 32 := Scalar.ori v2 v4
  let c1_i32_5 : BitVec 32 := 1#32
  let v7 : BitVec 32 := Scalar.shli c1_i32_5 v6
  let v8 : BitVec 32 := Scalar.ori v5 v7
  let c1_i32_8 : BitVec 32 := 1#32
  let v10 : BitVec 32 := Scalar.shli c1_i32_8 v9
  let v11 : BitVec 32 := Scalar.ori v8 v10
  let c1_i32_10 : BitVec 32 := 1#32
  let v13 : BitVec 32 := Scalar.shli c1_i32_10 v12
  let v14 : BitVec 32 := Scalar.ori v11 v13
  let c1_i32_13 : BitVec 32 := 1#32
  let v16 : BitVec 32 := Scalar.shli c1_i32_13 v15
  let v17 : BitVec 32 := Scalar.ori v14 v16
  let c1_i32_15 : BitVec 32 := 1#32
  let v19 : BitVec 32 := Scalar.shli c1_i32_15 v18
  let v20 : BitVec 32 := Scalar.ori v17 v19
  let c1_i32_18 : BitVec 32 := 1#32
  let v22 : BitVec 32 := Scalar.shli c1_i32_18 v21
  let v23 : BitVec 32 := Scalar.ori v20 v22
  let c1_i32_20 : BitVec 32 := 1#32
  let v25 : BitVec 32 := Scalar.shli c1_i32_20 v24
  let v26 : BitVec 32 := Scalar.ori v23 v25
  let c1_i32_23 : BitVec 32 := 1#32
  let v28 : BitVec 32 := Scalar.shli c1_i32_23 v27
  let v29 : BitVec 32 := Scalar.ori v26 v28
  let c1_i32_25 : BitVec 32 := 1#32
  let v31 : BitVec 32 := Scalar.shli c1_i32_25 v30
  let v32 : BitVec 32 := Scalar.ori v29 v31
  let c1_i32_28 : BitVec 32 := 1#32
  let v34 : BitVec 32 := Scalar.shli c1_i32_28 v33
  let v35 : BitVec 32 := Scalar.ori v32 v34
  let c1_i32_30 : BitVec 32 := 1#32
  let v37 : BitVec 32 := Scalar.shli c1_i32_30 v36
  let v38 : BitVec 32 := Scalar.ori v35 v37
  let c1_i32_33 : BitVec 32 := 1#32
  let v40 : BitVec 32 := Scalar.shli c1_i32_33 v39
  let v41 : BitVec 32 := Scalar.ori v38 v40
  let c1_i32_35 : BitVec 32 := 1#32
  let v43 : BitVec 32 := Scalar.shli c1_i32_35 v42
  let v44 : BitVec 32 := Scalar.ori v41 v43
  let c1_i32_38 : BitVec 32 := 1#32
  let v46 : BitVec 32 := Scalar.shli c1_i32_38 v45
  let v47 : BitVec 32 := Scalar.ori v44 v46
  let c1_i32_40 : BitVec 32 := 1#32
  let v49 : BitVec 32 := Scalar.shli c1_i32_40 v48
  let v50 : BitVec 32 := Scalar.ori v47 v49
  let c1_i32_43 : BitVec 32 := 1#32
  let v52 : BitVec 32 := Scalar.shli c1_i32_43 v51
  let v53 : BitVec 32 := Scalar.ori v50 v52
  let c1_i32_45 : BitVec 32 := 1#32
  let v55 : BitVec 32 := Scalar.shli c1_i32_45 v54
  let v56 : BitVec 32 := Scalar.ori v53 v55
  let c1_i32_48 : BitVec 32 := 1#32
  let v58 : BitVec 32 := Scalar.shli c1_i32_48 v57
  let v59 : BitVec 32 := Scalar.ori v56 v58
  let c1_i32_50 : BitVec 32 := 1#32
  let v61 : BitVec 32 := Scalar.shli c1_i32_50 v60
  let v62 : BitVec 32 := Scalar.ori v59 v61
  let c1_i32_53 : BitVec 32 := 1#32
  let v64 : BitVec 32 := Scalar.shli c1_i32_53 v63
  let v65 : BitVec 32 := Scalar.ori v62 v64
  let c1_i32_55 : BitVec 32 := 1#32
  let v67 : BitVec 32 := Scalar.shli c1_i32_55 v66
  let v68 : BitVec 32 := Scalar.ori v65 v67
  let c1_i32_58 : BitVec 32 := 1#32
  let v70 : BitVec 32 := Scalar.shli c1_i32_58 v69
  let v71 : BitVec 32 := Scalar.ori v68 v70
  let c1_i32_60 : BitVec 32 := 1#32
  let v73 : BitVec 32 := Scalar.shli c1_i32_60 v72
  let v74 : BitVec 32 := Scalar.ori v71 v73
  let c1_i32_63 : BitVec 32 := 1#32
  let v76 : BitVec 32 := Scalar.shli c1_i32_63 v75
  let v77 : BitVec 32 := Scalar.ori v74 v76
  let c1_i32_65 : BitVec 32 := 1#32
  let v79 : BitVec 32 := Scalar.shli c1_i32_65 v78
  let v80 : BitVec 32 := Scalar.ori v77 v79
  let c1_i32_68 : BitVec 32 := 1#32
  let v82 : BitVec 32 := Scalar.shli c1_i32_68 v81
  let v83 : BitVec 32 := Scalar.ori v80 v82
  let c1_i32_70 : BitVec 32 := 1#32
  let v85 : BitVec 32 := Scalar.shli c1_i32_70 v84
  let v86 : BitVec 32 := Scalar.ori v83 v85
  let c1_i32_73 : BitVec 32 := 1#32
  let v88 : BitVec 32 := Scalar.shli c1_i32_73 v87
  let v89 : BitVec 32 := Scalar.ori v86 v88
  let c1_i32_75 : BitVec 32 := 1#32
  let v91 : BitVec 32 := Scalar.shli c1_i32_75 v90
  let v92 : BitVec 32 := Scalar.ori v89 v91
  let c1_i32_78 : BitVec 32 := 1#32
  let v94 : BitVec 32 := Scalar.shli c1_i32_78 v93
  let v95 : BitVec 32 := Scalar.ori v92 v94
  let c1_i32_80 : BitVec 32 := 1#32
  let v97 : BitVec 32 := Scalar.shli c1_i32_80 v96
  let v98 : BitVec 32 := Scalar.ori v95 v97
  let c1_i32_83 : BitVec 32 := 1#32
  let v100 : BitVec 32 := Scalar.shli c1_i32_83 v99
  let v101 : BitVec 32 := Scalar.ori v98 v100
  let c1_i32_85 : BitVec 32 := 1#32
  let v103 : BitVec 32 := Scalar.shli c1_i32_85 v102
  let v104 : BitVec 32 := Scalar.ori v101 v103
  let c1_i32_88 : BitVec 32 := 1#32
  let v106 : BitVec 32 := Scalar.shli c1_i32_88 v105
  let v107 : BitVec 32 := Scalar.ori v104 v106
  let c1_i32_90 : BitVec 32 := 1#32
  let v109 : BitVec 32 := Scalar.shli c1_i32_90 v108
  let v110 : BitVec 32 := Scalar.ori v107 v109
  let c1_i32_93 : BitVec 32 := 1#32
  let v112 : BitVec 32 := Scalar.shli c1_i32_93 v111
  let v113 : BitVec 32 := Scalar.ori v110 v112
  let c1_i32_95 : BitVec 32 := 1#32
  let v115 : BitVec 32 := Scalar.shli c1_i32_95 v114
  let v116 : BitVec 32 := Scalar.ori v113 v115
  let c1_i32_98 : BitVec 32 := 1#32
  let v118 : BitVec 32 := Scalar.shli c1_i32_98 v117
  let v119 : BitVec 32 := Scalar.ori v116 v118
  let c1_i32_100 : BitVec 32 := 1#32
  let v121 : BitVec 32 := Scalar.shli c1_i32_100 v120
  let v122 : BitVec 32 := Scalar.ori v119 v121
  let c1_i32_103 : BitVec 32 := 1#32
  let v124 : BitVec 32 := Scalar.shli c1_i32_103 v123
  let v125 : BitVec 32 := Scalar.ori v122 v124
  let c1_i32_105 : BitVec 32 := 1#32
  let v127 : BitVec 32 := Scalar.shli c1_i32_105 v126
  let v128 : BitVec 32 := Scalar.ori v125 v127
  let c1_i32_108 : BitVec 32 := 1#32
  let v130 : BitVec 32 := Scalar.shli c1_i32_108 v129
  let v131 : BitVec 32 := Scalar.ori v128 v130
  let c1_i32_110 : BitVec 32 := 1#32
  let v133 : BitVec 32 := Scalar.shli c1_i32_110 v132
  let v134 : BitVec 32 := Scalar.ori v131 v133
  let c1_i32_113 : BitVec 32 := 1#32
  let v136 : BitVec 32 := Scalar.shli c1_i32_113 v135
  let v137 : BitVec 32 := Scalar.ori v134 v136
  let c1_i32_115 : BitVec 32 := 1#32
  let v139 : BitVec 32 := Scalar.shli c1_i32_115 v138
  let v140 : BitVec 32 := Scalar.ori v137 v139
  let c1_i32_118 : BitVec 32 := 1#32
  let v142 : BitVec 32 := Scalar.shli c1_i32_118 v141
  let v143 : BitVec 32 := Scalar.ori v140 v142
  let c0_i32_121 : BitVec 32 := 0#32
  let v145 : BitVec 32 := Scalar.shrsi v143 c0_i32_121
  let c1_i32_122 : BitVec 32 := 1#32
  let v146 : BitVec 32 := Scalar.andi v145 c1_i32_122
  let v147 : BitVec 32 := Scalar.addi c0_i32_123 v146
  let c1_i32_125 : BitVec 32 := 1#32
  let v150 : BitVec 32 := Scalar.shrsi v143 c1_i32_125
  let c1_i32_126 : BitVec 32 := 1#32
  let v151 : BitVec 32 := Scalar.andi v150 c1_i32_126
  let v152 : BitVec 32 := Scalar.addi v147 v151
  let c2_i32_127 : BitVec 32 := 2#32
  let v155 : BitVec 32 := Scalar.shrsi v143 c2_i32_127
  let c1_i32_128 : BitVec 32 := 1#32
  let v156 : BitVec 32 := Scalar.andi v155 c1_i32_128
  let v157 : BitVec 32 := Scalar.addi v152 v156
  let c3_i32_129 : BitVec 32 := 3#32
  let v160 : BitVec 32 := Scalar.shrsi v143 c3_i32_129
  let c1_i32_130 : BitVec 32 := 1#32
  let v161 : BitVec 32 := Scalar.andi v160 c1_i32_130
  let v162 : BitVec 32 := Scalar.addi v157 v161
  let c4_i32_131 : BitVec 32 := 4#32
  let v165 : BitVec 32 := Scalar.shrsi v143 c4_i32_131
  let c1_i32_132 : BitVec 32 := 1#32
  let v166 : BitVec 32 := Scalar.andi v165 c1_i32_132
  let v167 : BitVec 32 := Scalar.addi v162 v166
  let c5_i32_133 : BitVec 32 := 5#32
  let v170 : BitVec 32 := Scalar.shrsi v143 c5_i32_133
  let c1_i32_134 : BitVec 32 := 1#32
  let v171 : BitVec 32 := Scalar.andi v170 c1_i32_134
  let v172 : BitVec 32 := Scalar.addi v167 v171
  let c6_i32_135 : BitVec 32 := 6#32
  let v175 : BitVec 32 := Scalar.shrsi v143 c6_i32_135
  let c1_i32_136 : BitVec 32 := 1#32
  let v176 : BitVec 32 := Scalar.andi v175 c1_i32_136
  let v177 : BitVec 32 := Scalar.addi v172 v176
  let c7_i32_137 : BitVec 32 := 7#32
  let v180 : BitVec 32 := Scalar.shrsi v143 c7_i32_137
  let c1_i32_138 : BitVec 32 := 1#32
  let v181 : BitVec 32 := Scalar.andi v180 c1_i32_138
  let v182 : BitVec 32 := Scalar.addi v177 v181
  let c8_i32_139 : BitVec 32 := 8#32
  let v185 : BitVec 32 := Scalar.shrsi v143 c8_i32_139
  let c1_i32_140 : BitVec 32 := 1#32
  let v186 : BitVec 32 := Scalar.andi v185 c1_i32_140
  let v187 : BitVec 32 := Scalar.addi v182 v186
  let c9_i32_141 : BitVec 32 := 9#32
  let v190 : BitVec 32 := Scalar.shrsi v143 c9_i32_141
  let c1_i32_142 : BitVec 32 := 1#32
  let v191 : BitVec 32 := Scalar.andi v190 c1_i32_142
  let v192 : BitVec 32 := Scalar.addi v187 v191
  let c10_i32_143 : BitVec 32 := 10#32
  let v195 : BitVec 32 := Scalar.shrsi v143 c10_i32_143
  let c1_i32_144 : BitVec 32 := 1#32
  let v196 : BitVec 32 := Scalar.andi v195 c1_i32_144
  let v197 : BitVec 32 := Scalar.addi v192 v196
  let c11_i32_145 : BitVec 32 := 11#32
  let v200 : BitVec 32 := Scalar.shrsi v143 c11_i32_145
  let c1_i32_146 : BitVec 32 := 1#32
  let v201 : BitVec 32 := Scalar.andi v200 c1_i32_146
  let v202 : BitVec 32 := Scalar.addi v197 v201
  let c12_i32_147 : BitVec 32 := 12#32
  let v205 : BitVec 32 := Scalar.shrsi v143 c12_i32_147
  let c1_i32_148 : BitVec 32 := 1#32
  let v206 : BitVec 32 := Scalar.andi v205 c1_i32_148
  let v207 : BitVec 32 := Scalar.addi v202 v206
  let c13_i32_149 : BitVec 32 := 13#32
  let v210 : BitVec 32 := Scalar.shrsi v143 c13_i32_149
  let c1_i32_150 : BitVec 32 := 1#32
  let v211 : BitVec 32 := Scalar.andi v210 c1_i32_150
  let v212 : BitVec 32 := Scalar.addi v207 v211
  let c14_i32_151 : BitVec 32 := 14#32
  let v215 : BitVec 32 := Scalar.shrsi v143 c14_i32_151
  let c1_i32_152 : BitVec 32 := 1#32
  let v216 : BitVec 32 := Scalar.andi v215 c1_i32_152
  let v217 : BitVec 32 := Scalar.addi v212 v216
  let c15_i32_153 : BitVec 32 := 15#32
  let v220 : BitVec 32 := Scalar.shrsi v143 c15_i32_153
  let c1_i32_154 : BitVec 32 := 1#32
  let v221 : BitVec 32 := Scalar.andi v220 c1_i32_154
  let v222 : BitVec 32 := Scalar.addi v217 v221
  let v272 : BitVec 32 := Scalar.subi v222 c0_i32_207
  let c1_i32_208 : BitVec 32 := 1#32
  let v274 : BitVec 32 := Scalar.divsi v272 c1_i32_208
  let v275 : BitVec 32 := Scalar.muli v274 c1_i32_208
  let v276 : BitVec 32 := Scalar.addi c0_i32_207 v275
  let c1_i32_210 : BitVec 32 := 1#32
  let arg17 : BitVec 32 := Scf.iv v276 c1_i32_210 k0_t2
  let c1_i32_3264 : BitVec 32 := 1#32
  let v7431 : BitVec 32 := Scalar.addi arg17 c1_i32_3264
  let c2_i32_3265 : BitVec 32 := 2#32
  let v7432 : BitVec 32 := Scalar.remsi v7431 c2_i32_3265
  let c0_i32_3297 : BitVec 32 := 0#32
  let c0_i32_3298 : BitVec 32 := 0#32
  ![v7432.toNat, 0, 0]
def k0_off97 (v7468 : BitVec 32) : Fin 3 → Nat :=
  let c0_i32_3299 : BitVec 32 := 0#32
  let c0_i32_3300 : BitVec 32 := 0#32
  ![v7468.toNat, 0, 0]

def k0_chk13 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v7468 : BitVec 32) : Prop :=
  (∀ (k0_h2 : k0_cond2 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ a, (k0_off94 v7468) a + S1x16x2048.size a ≤ S16x16x2048.size a) ∧
  (∀ (k0_h2 : k0_cond2 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ (hinb : ∀ a, (k0_off94 v7468) a + S1x16x2048.size a ≤ S16x16x2048.size a), (Rect.unit (s := S16x16x2048) (k0_off94 v7468) S1x16x2048.size hinb).WholeWords (EltTy.packing .bf16)) ∧
  (∀ (k0_h2 : k0_cond2 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ a, (k0_off97 v7468) a + S1x2048x1024.size a ≤ S16x2048x1024.size a) ∧
  (∀ (k0_h2 : k0_cond2 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ (hinb : ∀ a, (k0_off97 v7468) a + S1x2048x1024.size a ≤ S16x2048x1024.size a), (Rect.unit (s := S16x2048x1024) (k0_off97 v7468) S1x2048x1024.size hinb).WholeWords (EltTy.packing .i8))
theorem k0_off94_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v7468 : BitVec 32) (k0_hw13 : k0_chk13 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v7468), ∀ (k0_h2 : k0_cond2 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ a, (k0_off94 v7468) a + S1x16x2048.size a ≤ S16x16x2048.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v7468 k0_hw13 k0_h2 => k0_hw13.1 k0_h2
theorem k0_off94_wordsbf16 : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v7468 : BitVec 32) (k0_hw13 : k0_chk13 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v7468), ∀ (k0_h2 : k0_cond2 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), (Rect.unit (s := S16x16x2048) (k0_off94 v7468) S1x16x2048.size (k0_off94_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v7468 k0_hw13 k0_h2)).WholeWords (EltTy.packing .bf16) := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v7468 k0_hw13 k0_h2 => k0_hw13.2.1 k0_h2 (k0_off94_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v7468 k0_hw13 k0_h2)
theorem k0_off97_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v7468 : BitVec 32) (k0_hw13 : k0_chk13 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v7468), ∀ (k0_h2 : k0_cond2 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ a, (k0_off97 v7468) a + S1x2048x1024.size a ≤ S16x2048x1024.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v7468 k0_hw13 k0_h2 => k0_hw13.2.2.1 k0_h2
theorem k0_off97_wordsi8 : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (v7468 : BitVec 32) (k0_hw13 : k0_chk13 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v7468), ∀ (k0_h2 : k0_cond2 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), (Rect.unit (s := S16x2048x1024) (k0_off97 v7468) S1x2048x1024.size (k0_off97_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v7468 k0_hw13 k0_h2)).WholeWords (EltTy.packing .i8) := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v7468 k0_hw13 k0_h2 => k0_hw13.2.2.2 k0_h2 (k0_off97_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 v7468 k0_hw13 k0_h2)

def k0_off98 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 2 → Nat :=
  let c0_i32_207 : BitVec 32 := 0#32
  let c0_i32_123 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_2 : BitVec 32 := 1#32
  let v4 : BitVec 32 := Scalar.shli c1_i32_2 v3
  let v5 : BitVec 32 := Scalar.ori v2 v4
  let c1_i32_5 : BitVec 32 := 1#32
  let v7 : BitVec 32 := Scalar.shli c1_i32_5 v6
  let v8 : BitVec 32 := Scalar.ori v5 v7
  let c1_i32_8 : BitVec 32 := 1#32
  let v10 : BitVec 32 := Scalar.shli c1_i32_8 v9
  let v11 : BitVec 32 := Scalar.ori v8 v10
  let c1_i32_10 : BitVec 32 := 1#32
  let v13 : BitVec 32 := Scalar.shli c1_i32_10 v12
  let v14 : BitVec 32 := Scalar.ori v11 v13
  let c1_i32_13 : BitVec 32 := 1#32
  let v16 : BitVec 32 := Scalar.shli c1_i32_13 v15
  let v17 : BitVec 32 := Scalar.ori v14 v16
  let c1_i32_15 : BitVec 32 := 1#32
  let v19 : BitVec 32 := Scalar.shli c1_i32_15 v18
  let v20 : BitVec 32 := Scalar.ori v17 v19
  let c1_i32_18 : BitVec 32 := 1#32
  let v22 : BitVec 32 := Scalar.shli c1_i32_18 v21
  let v23 : BitVec 32 := Scalar.ori v20 v22
  let c1_i32_20 : BitVec 32 := 1#32
  let v25 : BitVec 32 := Scalar.shli c1_i32_20 v24
  let v26 : BitVec 32 := Scalar.ori v23 v25
  let c1_i32_23 : BitVec 32 := 1#32
  let v28 : BitVec 32 := Scalar.shli c1_i32_23 v27
  let v29 : BitVec 32 := Scalar.ori v26 v28
  let c1_i32_25 : BitVec 32 := 1#32
  let v31 : BitVec 32 := Scalar.shli c1_i32_25 v30
  let v32 : BitVec 32 := Scalar.ori v29 v31
  let c1_i32_28 : BitVec 32 := 1#32
  let v34 : BitVec 32 := Scalar.shli c1_i32_28 v33
  let v35 : BitVec 32 := Scalar.ori v32 v34
  let c1_i32_30 : BitVec 32 := 1#32
  let v37 : BitVec 32 := Scalar.shli c1_i32_30 v36
  let v38 : BitVec 32 := Scalar.ori v35 v37
  let c1_i32_33 : BitVec 32 := 1#32
  let v40 : BitVec 32 := Scalar.shli c1_i32_33 v39
  let v41 : BitVec 32 := Scalar.ori v38 v40
  let c1_i32_35 : BitVec 32 := 1#32
  let v43 : BitVec 32 := Scalar.shli c1_i32_35 v42
  let v44 : BitVec 32 := Scalar.ori v41 v43
  let c1_i32_38 : BitVec 32 := 1#32
  let v46 : BitVec 32 := Scalar.shli c1_i32_38 v45
  let v47 : BitVec 32 := Scalar.ori v44 v46
  let c1_i32_40 : BitVec 32 := 1#32
  let v49 : BitVec 32 := Scalar.shli c1_i32_40 v48
  let v50 : BitVec 32 := Scalar.ori v47 v49
  let c1_i32_43 : BitVec 32 := 1#32
  let v52 : BitVec 32 := Scalar.shli c1_i32_43 v51
  let v53 : BitVec 32 := Scalar.ori v50 v52
  let c1_i32_45 : BitVec 32 := 1#32
  let v55 : BitVec 32 := Scalar.shli c1_i32_45 v54
  let v56 : BitVec 32 := Scalar.ori v53 v55
  let c1_i32_48 : BitVec 32 := 1#32
  let v58 : BitVec 32 := Scalar.shli c1_i32_48 v57
  let v59 : BitVec 32 := Scalar.ori v56 v58
  let c1_i32_50 : BitVec 32 := 1#32
  let v61 : BitVec 32 := Scalar.shli c1_i32_50 v60
  let v62 : BitVec 32 := Scalar.ori v59 v61
  let c1_i32_53 : BitVec 32 := 1#32
  let v64 : BitVec 32 := Scalar.shli c1_i32_53 v63
  let v65 : BitVec 32 := Scalar.ori v62 v64
  let c1_i32_55 : BitVec 32 := 1#32
  let v67 : BitVec 32 := Scalar.shli c1_i32_55 v66
  let v68 : BitVec 32 := Scalar.ori v65 v67
  let c1_i32_58 : BitVec 32 := 1#32
  let v70 : BitVec 32 := Scalar.shli c1_i32_58 v69
  let v71 : BitVec 32 := Scalar.ori v68 v70
  let c1_i32_60 : BitVec 32 := 1#32
  let v73 : BitVec 32 := Scalar.shli c1_i32_60 v72
  let v74 : BitVec 32 := Scalar.ori v71 v73
  let c1_i32_63 : BitVec 32 := 1#32
  let v76 : BitVec 32 := Scalar.shli c1_i32_63 v75
  let v77 : BitVec 32 := Scalar.ori v74 v76
  let c1_i32_65 : BitVec 32 := 1#32
  let v79 : BitVec 32 := Scalar.shli c1_i32_65 v78
  let v80 : BitVec 32 := Scalar.ori v77 v79
  let c1_i32_68 : BitVec 32 := 1#32
  let v82 : BitVec 32 := Scalar.shli c1_i32_68 v81
  let v83 : BitVec 32 := Scalar.ori v80 v82
  let c1_i32_70 : BitVec 32 := 1#32
  let v85 : BitVec 32 := Scalar.shli c1_i32_70 v84
  let v86 : BitVec 32 := Scalar.ori v83 v85
  let c1_i32_73 : BitVec 32 := 1#32
  let v88 : BitVec 32 := Scalar.shli c1_i32_73 v87
  let v89 : BitVec 32 := Scalar.ori v86 v88
  let c1_i32_75 : BitVec 32 := 1#32
  let v91 : BitVec 32 := Scalar.shli c1_i32_75 v90
  let v92 : BitVec 32 := Scalar.ori v89 v91
  let c1_i32_78 : BitVec 32 := 1#32
  let v94 : BitVec 32 := Scalar.shli c1_i32_78 v93
  let v95 : BitVec 32 := Scalar.ori v92 v94
  let c1_i32_80 : BitVec 32 := 1#32
  let v97 : BitVec 32 := Scalar.shli c1_i32_80 v96
  let v98 : BitVec 32 := Scalar.ori v95 v97
  let c1_i32_83 : BitVec 32 := 1#32
  let v100 : BitVec 32 := Scalar.shli c1_i32_83 v99
  let v101 : BitVec 32 := Scalar.ori v98 v100
  let c1_i32_85 : BitVec 32 := 1#32
  let v103 : BitVec 32 := Scalar.shli c1_i32_85 v102
  let v104 : BitVec 32 := Scalar.ori v101 v103
  let c1_i32_88 : BitVec 32 := 1#32
  let v106 : BitVec 32 := Scalar.shli c1_i32_88 v105
  let v107 : BitVec 32 := Scalar.ori v104 v106
  let c1_i32_90 : BitVec 32 := 1#32
  let v109 : BitVec 32 := Scalar.shli c1_i32_90 v108
  let v110 : BitVec 32 := Scalar.ori v107 v109
  let c1_i32_93 : BitVec 32 := 1#32
  let v112 : BitVec 32 := Scalar.shli c1_i32_93 v111
  let v113 : BitVec 32 := Scalar.ori v110 v112
  let c1_i32_95 : BitVec 32 := 1#32
  let v115 : BitVec 32 := Scalar.shli c1_i32_95 v114
  let v116 : BitVec 32 := Scalar.ori v113 v115
  let c1_i32_98 : BitVec 32 := 1#32
  let v118 : BitVec 32 := Scalar.shli c1_i32_98 v117
  let v119 : BitVec 32 := Scalar.ori v116 v118
  let c1_i32_100 : BitVec 32 := 1#32
  let v121 : BitVec 32 := Scalar.shli c1_i32_100 v120
  let v122 : BitVec 32 := Scalar.ori v119 v121
  let c1_i32_103 : BitVec 32 := 1#32
  let v124 : BitVec 32 := Scalar.shli c1_i32_103 v123
  let v125 : BitVec 32 := Scalar.ori v122 v124
  let c1_i32_105 : BitVec 32 := 1#32
  let v127 : BitVec 32 := Scalar.shli c1_i32_105 v126
  let v128 : BitVec 32 := Scalar.ori v125 v127
  let c1_i32_108 : BitVec 32 := 1#32
  let v130 : BitVec 32 := Scalar.shli c1_i32_108 v129
  let v131 : BitVec 32 := Scalar.ori v128 v130
  let c1_i32_110 : BitVec 32 := 1#32
  let v133 : BitVec 32 := Scalar.shli c1_i32_110 v132
  let v134 : BitVec 32 := Scalar.ori v131 v133
  let c1_i32_113 : BitVec 32 := 1#32
  let v136 : BitVec 32 := Scalar.shli c1_i32_113 v135
  let v137 : BitVec 32 := Scalar.ori v134 v136
  let c1_i32_115 : BitVec 32 := 1#32
  let v139 : BitVec 32 := Scalar.shli c1_i32_115 v138
  let v140 : BitVec 32 := Scalar.ori v137 v139
  let c1_i32_118 : BitVec 32 := 1#32
  let v142 : BitVec 32 := Scalar.shli c1_i32_118 v141
  let v143 : BitVec 32 := Scalar.ori v140 v142
  let c0_i32_121 : BitVec 32 := 0#32
  let v145 : BitVec 32 := Scalar.shrsi v143 c0_i32_121
  let c1_i32_122 : BitVec 32 := 1#32
  let v146 : BitVec 32 := Scalar.andi v145 c1_i32_122
  let v147 : BitVec 32 := Scalar.addi c0_i32_123 v146
  let c1_i32_125 : BitVec 32 := 1#32
  let v150 : BitVec 32 := Scalar.shrsi v143 c1_i32_125
  let c1_i32_126 : BitVec 32 := 1#32
  let v151 : BitVec 32 := Scalar.andi v150 c1_i32_126
  let v152 : BitVec 32 := Scalar.addi v147 v151
  let c2_i32_127 : BitVec 32 := 2#32
  let v155 : BitVec 32 := Scalar.shrsi v143 c2_i32_127
  let c1_i32_128 : BitVec 32 := 1#32
  let v156 : BitVec 32 := Scalar.andi v155 c1_i32_128
  let v157 : BitVec 32 := Scalar.addi v152 v156
  let c3_i32_129 : BitVec 32 := 3#32
  let v160 : BitVec 32 := Scalar.shrsi v143 c3_i32_129
  let c1_i32_130 : BitVec 32 := 1#32
  let v161 : BitVec 32 := Scalar.andi v160 c1_i32_130
  let v162 : BitVec 32 := Scalar.addi v157 v161
  let c4_i32_131 : BitVec 32 := 4#32
  let v165 : BitVec 32 := Scalar.shrsi v143 c4_i32_131
  let c1_i32_132 : BitVec 32 := 1#32
  let v166 : BitVec 32 := Scalar.andi v165 c1_i32_132
  let v167 : BitVec 32 := Scalar.addi v162 v166
  let c5_i32_133 : BitVec 32 := 5#32
  let v170 : BitVec 32 := Scalar.shrsi v143 c5_i32_133
  let c1_i32_134 : BitVec 32 := 1#32
  let v171 : BitVec 32 := Scalar.andi v170 c1_i32_134
  let v172 : BitVec 32 := Scalar.addi v167 v171
  let c6_i32_135 : BitVec 32 := 6#32
  let v175 : BitVec 32 := Scalar.shrsi v143 c6_i32_135
  let c1_i32_136 : BitVec 32 := 1#32
  let v176 : BitVec 32 := Scalar.andi v175 c1_i32_136
  let v177 : BitVec 32 := Scalar.addi v172 v176
  let c7_i32_137 : BitVec 32 := 7#32
  let v180 : BitVec 32 := Scalar.shrsi v143 c7_i32_137
  let c1_i32_138 : BitVec 32 := 1#32
  let v181 : BitVec 32 := Scalar.andi v180 c1_i32_138
  let v182 : BitVec 32 := Scalar.addi v177 v181
  let c8_i32_139 : BitVec 32 := 8#32
  let v185 : BitVec 32 := Scalar.shrsi v143 c8_i32_139
  let c1_i32_140 : BitVec 32 := 1#32
  let v186 : BitVec 32 := Scalar.andi v185 c1_i32_140
  let v187 : BitVec 32 := Scalar.addi v182 v186
  let c9_i32_141 : BitVec 32 := 9#32
  let v190 : BitVec 32 := Scalar.shrsi v143 c9_i32_141
  let c1_i32_142 : BitVec 32 := 1#32
  let v191 : BitVec 32 := Scalar.andi v190 c1_i32_142
  let v192 : BitVec 32 := Scalar.addi v187 v191
  let c10_i32_143 : BitVec 32 := 10#32
  let v195 : BitVec 32 := Scalar.shrsi v143 c10_i32_143
  let c1_i32_144 : BitVec 32 := 1#32
  let v196 : BitVec 32 := Scalar.andi v195 c1_i32_144
  let v197 : BitVec 32 := Scalar.addi v192 v196
  let c11_i32_145 : BitVec 32 := 11#32
  let v200 : BitVec 32 := Scalar.shrsi v143 c11_i32_145
  let c1_i32_146 : BitVec 32 := 1#32
  let v201 : BitVec 32 := Scalar.andi v200 c1_i32_146
  let v202 : BitVec 32 := Scalar.addi v197 v201
  let c12_i32_147 : BitVec 32 := 12#32
  let v205 : BitVec 32 := Scalar.shrsi v143 c12_i32_147
  let c1_i32_148 : BitVec 32 := 1#32
  let v206 : BitVec 32 := Scalar.andi v205 c1_i32_148
  let v207 : BitVec 32 := Scalar.addi v202 v206
  let c13_i32_149 : BitVec 32 := 13#32
  let v210 : BitVec 32 := Scalar.shrsi v143 c13_i32_149
  let c1_i32_150 : BitVec 32 := 1#32
  let v211 : BitVec 32 := Scalar.andi v210 c1_i32_150
  let v212 : BitVec 32 := Scalar.addi v207 v211
  let c14_i32_151 : BitVec 32 := 14#32
  let v215 : BitVec 32 := Scalar.shrsi v143 c14_i32_151
  let c1_i32_152 : BitVec 32 := 1#32
  let v216 : BitVec 32 := Scalar.andi v215 c1_i32_152
  let v217 : BitVec 32 := Scalar.addi v212 v216
  let c15_i32_153 : BitVec 32 := 15#32
  let v220 : BitVec 32 := Scalar.shrsi v143 c15_i32_153
  let c1_i32_154 : BitVec 32 := 1#32
  let v221 : BitVec 32 := Scalar.andi v220 c1_i32_154
  let v222 : BitVec 32 := Scalar.addi v217 v221
  let v272 : BitVec 32 := Scalar.subi v222 c0_i32_207
  let c1_i32_208 : BitVec 32 := 1#32
  let v274 : BitVec 32 := Scalar.divsi v272 c1_i32_208
  let v275 : BitVec 32 := Scalar.muli v274 c1_i32_208
  let v276 : BitVec 32 := Scalar.addi c0_i32_207 v275
  let c1_i32_210 : BitVec 32 := 1#32
  let arg17 : BitVec 32 := Scf.iv v276 c1_i32_210 k0_t2
  let c2_i32_215 : BitVec 32 := 2#32
  let v280 : BitVec 32 := Scalar.remsi arg17 c2_i32_215
  let c0_i32_218 : BitVec 32 := 0#32
  ![v280.toNat, 0]
def k0_off99 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 3 → Nat :=
  let c0_i32_207 : BitVec 32 := 0#32
  let c0_i32_123 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_2 : BitVec 32 := 1#32
  let v4 : BitVec 32 := Scalar.shli c1_i32_2 v3
  let v5 : BitVec 32 := Scalar.ori v2 v4
  let c1_i32_5 : BitVec 32 := 1#32
  let v7 : BitVec 32 := Scalar.shli c1_i32_5 v6
  let v8 : BitVec 32 := Scalar.ori v5 v7
  let c1_i32_8 : BitVec 32 := 1#32
  let v10 : BitVec 32 := Scalar.shli c1_i32_8 v9
  let v11 : BitVec 32 := Scalar.ori v8 v10
  let c1_i32_10 : BitVec 32 := 1#32
  let v13 : BitVec 32 := Scalar.shli c1_i32_10 v12
  let v14 : BitVec 32 := Scalar.ori v11 v13
  let c1_i32_13 : BitVec 32 := 1#32
  let v16 : BitVec 32 := Scalar.shli c1_i32_13 v15
  let v17 : BitVec 32 := Scalar.ori v14 v16
  let c1_i32_15 : BitVec 32 := 1#32
  let v19 : BitVec 32 := Scalar.shli c1_i32_15 v18
  let v20 : BitVec 32 := Scalar.ori v17 v19
  let c1_i32_18 : BitVec 32 := 1#32
  let v22 : BitVec 32 := Scalar.shli c1_i32_18 v21
  let v23 : BitVec 32 := Scalar.ori v20 v22
  let c1_i32_20 : BitVec 32 := 1#32
  let v25 : BitVec 32 := Scalar.shli c1_i32_20 v24
  let v26 : BitVec 32 := Scalar.ori v23 v25
  let c1_i32_23 : BitVec 32 := 1#32
  let v28 : BitVec 32 := Scalar.shli c1_i32_23 v27
  let v29 : BitVec 32 := Scalar.ori v26 v28
  let c1_i32_25 : BitVec 32 := 1#32
  let v31 : BitVec 32 := Scalar.shli c1_i32_25 v30
  let v32 : BitVec 32 := Scalar.ori v29 v31
  let c1_i32_28 : BitVec 32 := 1#32
  let v34 : BitVec 32 := Scalar.shli c1_i32_28 v33
  let v35 : BitVec 32 := Scalar.ori v32 v34
  let c1_i32_30 : BitVec 32 := 1#32
  let v37 : BitVec 32 := Scalar.shli c1_i32_30 v36
  let v38 : BitVec 32 := Scalar.ori v35 v37
  let c1_i32_33 : BitVec 32 := 1#32
  let v40 : BitVec 32 := Scalar.shli c1_i32_33 v39
  let v41 : BitVec 32 := Scalar.ori v38 v40
  let c1_i32_35 : BitVec 32 := 1#32
  let v43 : BitVec 32 := Scalar.shli c1_i32_35 v42
  let v44 : BitVec 32 := Scalar.ori v41 v43
  let c1_i32_38 : BitVec 32 := 1#32
  let v46 : BitVec 32 := Scalar.shli c1_i32_38 v45
  let v47 : BitVec 32 := Scalar.ori v44 v46
  let c1_i32_40 : BitVec 32 := 1#32
  let v49 : BitVec 32 := Scalar.shli c1_i32_40 v48
  let v50 : BitVec 32 := Scalar.ori v47 v49
  let c1_i32_43 : BitVec 32 := 1#32
  let v52 : BitVec 32 := Scalar.shli c1_i32_43 v51
  let v53 : BitVec 32 := Scalar.ori v50 v52
  let c1_i32_45 : BitVec 32 := 1#32
  let v55 : BitVec 32 := Scalar.shli c1_i32_45 v54
  let v56 : BitVec 32 := Scalar.ori v53 v55
  let c1_i32_48 : BitVec 32 := 1#32
  let v58 : BitVec 32 := Scalar.shli c1_i32_48 v57
  let v59 : BitVec 32 := Scalar.ori v56 v58
  let c1_i32_50 : BitVec 32 := 1#32
  let v61 : BitVec 32 := Scalar.shli c1_i32_50 v60
  let v62 : BitVec 32 := Scalar.ori v59 v61
  let c1_i32_53 : BitVec 32 := 1#32
  let v64 : BitVec 32 := Scalar.shli c1_i32_53 v63
  let v65 : BitVec 32 := Scalar.ori v62 v64
  let c1_i32_55 : BitVec 32 := 1#32
  let v67 : BitVec 32 := Scalar.shli c1_i32_55 v66
  let v68 : BitVec 32 := Scalar.ori v65 v67
  let c1_i32_58 : BitVec 32 := 1#32
  let v70 : BitVec 32 := Scalar.shli c1_i32_58 v69
  let v71 : BitVec 32 := Scalar.ori v68 v70
  let c1_i32_60 : BitVec 32 := 1#32
  let v73 : BitVec 32 := Scalar.shli c1_i32_60 v72
  let v74 : BitVec 32 := Scalar.ori v71 v73
  let c1_i32_63 : BitVec 32 := 1#32
  let v76 : BitVec 32 := Scalar.shli c1_i32_63 v75
  let v77 : BitVec 32 := Scalar.ori v74 v76
  let c1_i32_65 : BitVec 32 := 1#32
  let v79 : BitVec 32 := Scalar.shli c1_i32_65 v78
  let v80 : BitVec 32 := Scalar.ori v77 v79
  let c1_i32_68 : BitVec 32 := 1#32
  let v82 : BitVec 32 := Scalar.shli c1_i32_68 v81
  let v83 : BitVec 32 := Scalar.ori v80 v82
  let c1_i32_70 : BitVec 32 := 1#32
  let v85 : BitVec 32 := Scalar.shli c1_i32_70 v84
  let v86 : BitVec 32 := Scalar.ori v83 v85
  let c1_i32_73 : BitVec 32 := 1#32
  let v88 : BitVec 32 := Scalar.shli c1_i32_73 v87
  let v89 : BitVec 32 := Scalar.ori v86 v88
  let c1_i32_75 : BitVec 32 := 1#32
  let v91 : BitVec 32 := Scalar.shli c1_i32_75 v90
  let v92 : BitVec 32 := Scalar.ori v89 v91
  let c1_i32_78 : BitVec 32 := 1#32
  let v94 : BitVec 32 := Scalar.shli c1_i32_78 v93
  let v95 : BitVec 32 := Scalar.ori v92 v94
  let c1_i32_80 : BitVec 32 := 1#32
  let v97 : BitVec 32 := Scalar.shli c1_i32_80 v96
  let v98 : BitVec 32 := Scalar.ori v95 v97
  let c1_i32_83 : BitVec 32 := 1#32
  let v100 : BitVec 32 := Scalar.shli c1_i32_83 v99
  let v101 : BitVec 32 := Scalar.ori v98 v100
  let c1_i32_85 : BitVec 32 := 1#32
  let v103 : BitVec 32 := Scalar.shli c1_i32_85 v102
  let v104 : BitVec 32 := Scalar.ori v101 v103
  let c1_i32_88 : BitVec 32 := 1#32
  let v106 : BitVec 32 := Scalar.shli c1_i32_88 v105
  let v107 : BitVec 32 := Scalar.ori v104 v106
  let c1_i32_90 : BitVec 32 := 1#32
  let v109 : BitVec 32 := Scalar.shli c1_i32_90 v108
  let v110 : BitVec 32 := Scalar.ori v107 v109
  let c1_i32_93 : BitVec 32 := 1#32
  let v112 : BitVec 32 := Scalar.shli c1_i32_93 v111
  let v113 : BitVec 32 := Scalar.ori v110 v112
  let c1_i32_95 : BitVec 32 := 1#32
  let v115 : BitVec 32 := Scalar.shli c1_i32_95 v114
  let v116 : BitVec 32 := Scalar.ori v113 v115
  let c1_i32_98 : BitVec 32 := 1#32
  let v118 : BitVec 32 := Scalar.shli c1_i32_98 v117
  let v119 : BitVec 32 := Scalar.ori v116 v118
  let c1_i32_100 : BitVec 32 := 1#32
  let v121 : BitVec 32 := Scalar.shli c1_i32_100 v120
  let v122 : BitVec 32 := Scalar.ori v119 v121
  let c1_i32_103 : BitVec 32 := 1#32
  let v124 : BitVec 32 := Scalar.shli c1_i32_103 v123
  let v125 : BitVec 32 := Scalar.ori v122 v124
  let c1_i32_105 : BitVec 32 := 1#32
  let v127 : BitVec 32 := Scalar.shli c1_i32_105 v126
  let v128 : BitVec 32 := Scalar.ori v125 v127
  let c1_i32_108 : BitVec 32 := 1#32
  let v130 : BitVec 32 := Scalar.shli c1_i32_108 v129
  let v131 : BitVec 32 := Scalar.ori v128 v130
  let c1_i32_110 : BitVec 32 := 1#32
  let v133 : BitVec 32 := Scalar.shli c1_i32_110 v132
  let v134 : BitVec 32 := Scalar.ori v131 v133
  let c1_i32_113 : BitVec 32 := 1#32
  let v136 : BitVec 32 := Scalar.shli c1_i32_113 v135
  let v137 : BitVec 32 := Scalar.ori v134 v136
  let c1_i32_115 : BitVec 32 := 1#32
  let v139 : BitVec 32 := Scalar.shli c1_i32_115 v138
  let v140 : BitVec 32 := Scalar.ori v137 v139
  let c1_i32_118 : BitVec 32 := 1#32
  let v142 : BitVec 32 := Scalar.shli c1_i32_118 v141
  let v143 : BitVec 32 := Scalar.ori v140 v142
  let c0_i32_121 : BitVec 32 := 0#32
  let v145 : BitVec 32 := Scalar.shrsi v143 c0_i32_121
  let c1_i32_122 : BitVec 32 := 1#32
  let v146 : BitVec 32 := Scalar.andi v145 c1_i32_122
  let v147 : BitVec 32 := Scalar.addi c0_i32_123 v146
  let c1_i32_125 : BitVec 32 := 1#32
  let v150 : BitVec 32 := Scalar.shrsi v143 c1_i32_125
  let c1_i32_126 : BitVec 32 := 1#32
  let v151 : BitVec 32 := Scalar.andi v150 c1_i32_126
  let v152 : BitVec 32 := Scalar.addi v147 v151
  let c2_i32_127 : BitVec 32 := 2#32
  let v155 : BitVec 32 := Scalar.shrsi v143 c2_i32_127
  let c1_i32_128 : BitVec 32 := 1#32
  let v156 : BitVec 32 := Scalar.andi v155 c1_i32_128
  let v157 : BitVec 32 := Scalar.addi v152 v156
  let c3_i32_129 : BitVec 32 := 3#32
  let v160 : BitVec 32 := Scalar.shrsi v143 c3_i32_129
  let c1_i32_130 : BitVec 32 := 1#32
  let v161 : BitVec 32 := Scalar.andi v160 c1_i32_130
  let v162 : BitVec 32 := Scalar.addi v157 v161
  let c4_i32_131 : BitVec 32 := 4#32
  let v165 : BitVec 32 := Scalar.shrsi v143 c4_i32_131
  let c1_i32_132 : BitVec 32 := 1#32
  let v166 : BitVec 32 := Scalar.andi v165 c1_i32_132
  let v167 : BitVec 32 := Scalar.addi v162 v166
  let c5_i32_133 : BitVec 32 := 5#32
  let v170 : BitVec 32 := Scalar.shrsi v143 c5_i32_133
  let c1_i32_134 : BitVec 32 := 1#32
  let v171 : BitVec 32 := Scalar.andi v170 c1_i32_134
  let v172 : BitVec 32 := Scalar.addi v167 v171
  let c6_i32_135 : BitVec 32 := 6#32
  let v175 : BitVec 32 := Scalar.shrsi v143 c6_i32_135
  let c1_i32_136 : BitVec 32 := 1#32
  let v176 : BitVec 32 := Scalar.andi v175 c1_i32_136
  let v177 : BitVec 32 := Scalar.addi v172 v176
  let c7_i32_137 : BitVec 32 := 7#32
  let v180 : BitVec 32 := Scalar.shrsi v143 c7_i32_137
  let c1_i32_138 : BitVec 32 := 1#32
  let v181 : BitVec 32 := Scalar.andi v180 c1_i32_138
  let v182 : BitVec 32 := Scalar.addi v177 v181
  let c8_i32_139 : BitVec 32 := 8#32
  let v185 : BitVec 32 := Scalar.shrsi v143 c8_i32_139
  let c1_i32_140 : BitVec 32 := 1#32
  let v186 : BitVec 32 := Scalar.andi v185 c1_i32_140
  let v187 : BitVec 32 := Scalar.addi v182 v186
  let c9_i32_141 : BitVec 32 := 9#32
  let v190 : BitVec 32 := Scalar.shrsi v143 c9_i32_141
  let c1_i32_142 : BitVec 32 := 1#32
  let v191 : BitVec 32 := Scalar.andi v190 c1_i32_142
  let v192 : BitVec 32 := Scalar.addi v187 v191
  let c10_i32_143 : BitVec 32 := 10#32
  let v195 : BitVec 32 := Scalar.shrsi v143 c10_i32_143
  let c1_i32_144 : BitVec 32 := 1#32
  let v196 : BitVec 32 := Scalar.andi v195 c1_i32_144
  let v197 : BitVec 32 := Scalar.addi v192 v196
  let c11_i32_145 : BitVec 32 := 11#32
  let v200 : BitVec 32 := Scalar.shrsi v143 c11_i32_145
  let c1_i32_146 : BitVec 32 := 1#32
  let v201 : BitVec 32 := Scalar.andi v200 c1_i32_146
  let v202 : BitVec 32 := Scalar.addi v197 v201
  let c12_i32_147 : BitVec 32 := 12#32
  let v205 : BitVec 32 := Scalar.shrsi v143 c12_i32_147
  let c1_i32_148 : BitVec 32 := 1#32
  let v206 : BitVec 32 := Scalar.andi v205 c1_i32_148
  let v207 : BitVec 32 := Scalar.addi v202 v206
  let c13_i32_149 : BitVec 32 := 13#32
  let v210 : BitVec 32 := Scalar.shrsi v143 c13_i32_149
  let c1_i32_150 : BitVec 32 := 1#32
  let v211 : BitVec 32 := Scalar.andi v210 c1_i32_150
  let v212 : BitVec 32 := Scalar.addi v207 v211
  let c14_i32_151 : BitVec 32 := 14#32
  let v215 : BitVec 32 := Scalar.shrsi v143 c14_i32_151
  let c1_i32_152 : BitVec 32 := 1#32
  let v216 : BitVec 32 := Scalar.andi v215 c1_i32_152
  let v217 : BitVec 32 := Scalar.addi v212 v216
  let c15_i32_153 : BitVec 32 := 15#32
  let v220 : BitVec 32 := Scalar.shrsi v143 c15_i32_153
  let c1_i32_154 : BitVec 32 := 1#32
  let v221 : BitVec 32 := Scalar.andi v220 c1_i32_154
  let v222 : BitVec 32 := Scalar.addi v217 v221
  let v272 : BitVec 32 := Scalar.subi v222 c0_i32_207
  let c1_i32_208 : BitVec 32 := 1#32
  let v274 : BitVec 32 := Scalar.divsi v272 c1_i32_208
  let v275 : BitVec 32 := Scalar.muli v274 c1_i32_208
  let v276 : BitVec 32 := Scalar.addi c0_i32_207 v275
  let c1_i32_210 : BitVec 32 := 1#32
  let arg17 : BitVec 32 := Scf.iv v276 c1_i32_210 k0_t2
  let c2_i32_215 : BitVec 32 := 2#32
  let v280 : BitVec 32 := Scalar.remsi arg17 c2_i32_215
  let c0_i32_219 : BitVec 32 := 0#32
  let c0_i32_220 : BitVec 32 := 0#32
  ![v280.toNat, 0, 0]
def k0_off100 (v288 : BitVec 32) : Fin 3 → Nat :=
  let c0_i32_221 : BitVec 32 := 0#32
  let c0_i32_222 : BitVec 32 := 0#32
  ![v288.toNat, 0, 0]

def k0_off101 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 2 → Nat :=
  let c0_i32_207 : BitVec 32 := 0#32
  let c0_i32_123 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_2 : BitVec 32 := 1#32
  let v4 : BitVec 32 := Scalar.shli c1_i32_2 v3
  let v5 : BitVec 32 := Scalar.ori v2 v4
  let c1_i32_5 : BitVec 32 := 1#32
  let v7 : BitVec 32 := Scalar.shli c1_i32_5 v6
  let v8 : BitVec 32 := Scalar.ori v5 v7
  let c1_i32_8 : BitVec 32 := 1#32
  let v10 : BitVec 32 := Scalar.shli c1_i32_8 v9
  let v11 : BitVec 32 := Scalar.ori v8 v10
  let c1_i32_10 : BitVec 32 := 1#32
  let v13 : BitVec 32 := Scalar.shli c1_i32_10 v12
  let v14 : BitVec 32 := Scalar.ori v11 v13
  let c1_i32_13 : BitVec 32 := 1#32
  let v16 : BitVec 32 := Scalar.shli c1_i32_13 v15
  let v17 : BitVec 32 := Scalar.ori v14 v16
  let c1_i32_15 : BitVec 32 := 1#32
  let v19 : BitVec 32 := Scalar.shli c1_i32_15 v18
  let v20 : BitVec 32 := Scalar.ori v17 v19
  let c1_i32_18 : BitVec 32 := 1#32
  let v22 : BitVec 32 := Scalar.shli c1_i32_18 v21
  let v23 : BitVec 32 := Scalar.ori v20 v22
  let c1_i32_20 : BitVec 32 := 1#32
  let v25 : BitVec 32 := Scalar.shli c1_i32_20 v24
  let v26 : BitVec 32 := Scalar.ori v23 v25
  let c1_i32_23 : BitVec 32 := 1#32
  let v28 : BitVec 32 := Scalar.shli c1_i32_23 v27
  let v29 : BitVec 32 := Scalar.ori v26 v28
  let c1_i32_25 : BitVec 32 := 1#32
  let v31 : BitVec 32 := Scalar.shli c1_i32_25 v30
  let v32 : BitVec 32 := Scalar.ori v29 v31
  let c1_i32_28 : BitVec 32 := 1#32
  let v34 : BitVec 32 := Scalar.shli c1_i32_28 v33
  let v35 : BitVec 32 := Scalar.ori v32 v34
  let c1_i32_30 : BitVec 32 := 1#32
  let v37 : BitVec 32 := Scalar.shli c1_i32_30 v36
  let v38 : BitVec 32 := Scalar.ori v35 v37
  let c1_i32_33 : BitVec 32 := 1#32
  let v40 : BitVec 32 := Scalar.shli c1_i32_33 v39
  let v41 : BitVec 32 := Scalar.ori v38 v40
  let c1_i32_35 : BitVec 32 := 1#32
  let v43 : BitVec 32 := Scalar.shli c1_i32_35 v42
  let v44 : BitVec 32 := Scalar.ori v41 v43
  let c1_i32_38 : BitVec 32 := 1#32
  let v46 : BitVec 32 := Scalar.shli c1_i32_38 v45
  let v47 : BitVec 32 := Scalar.ori v44 v46
  let c1_i32_40 : BitVec 32 := 1#32
  let v49 : BitVec 32 := Scalar.shli c1_i32_40 v48
  let v50 : BitVec 32 := Scalar.ori v47 v49
  let c1_i32_43 : BitVec 32 := 1#32
  let v52 : BitVec 32 := Scalar.shli c1_i32_43 v51
  let v53 : BitVec 32 := Scalar.ori v50 v52
  let c1_i32_45 : BitVec 32 := 1#32
  let v55 : BitVec 32 := Scalar.shli c1_i32_45 v54
  let v56 : BitVec 32 := Scalar.ori v53 v55
  let c1_i32_48 : BitVec 32 := 1#32
  let v58 : BitVec 32 := Scalar.shli c1_i32_48 v57
  let v59 : BitVec 32 := Scalar.ori v56 v58
  let c1_i32_50 : BitVec 32 := 1#32
  let v61 : BitVec 32 := Scalar.shli c1_i32_50 v60
  let v62 : BitVec 32 := Scalar.ori v59 v61
  let c1_i32_53 : BitVec 32 := 1#32
  let v64 : BitVec 32 := Scalar.shli c1_i32_53 v63
  let v65 : BitVec 32 := Scalar.ori v62 v64
  let c1_i32_55 : BitVec 32 := 1#32
  let v67 : BitVec 32 := Scalar.shli c1_i32_55 v66
  let v68 : BitVec 32 := Scalar.ori v65 v67
  let c1_i32_58 : BitVec 32 := 1#32
  let v70 : BitVec 32 := Scalar.shli c1_i32_58 v69
  let v71 : BitVec 32 := Scalar.ori v68 v70
  let c1_i32_60 : BitVec 32 := 1#32
  let v73 : BitVec 32 := Scalar.shli c1_i32_60 v72
  let v74 : BitVec 32 := Scalar.ori v71 v73
  let c1_i32_63 : BitVec 32 := 1#32
  let v76 : BitVec 32 := Scalar.shli c1_i32_63 v75
  let v77 : BitVec 32 := Scalar.ori v74 v76
  let c1_i32_65 : BitVec 32 := 1#32
  let v79 : BitVec 32 := Scalar.shli c1_i32_65 v78
  let v80 : BitVec 32 := Scalar.ori v77 v79
  let c1_i32_68 : BitVec 32 := 1#32
  let v82 : BitVec 32 := Scalar.shli c1_i32_68 v81
  let v83 : BitVec 32 := Scalar.ori v80 v82
  let c1_i32_70 : BitVec 32 := 1#32
  let v85 : BitVec 32 := Scalar.shli c1_i32_70 v84
  let v86 : BitVec 32 := Scalar.ori v83 v85
  let c1_i32_73 : BitVec 32 := 1#32
  let v88 : BitVec 32 := Scalar.shli c1_i32_73 v87
  let v89 : BitVec 32 := Scalar.ori v86 v88
  let c1_i32_75 : BitVec 32 := 1#32
  let v91 : BitVec 32 := Scalar.shli c1_i32_75 v90
  let v92 : BitVec 32 := Scalar.ori v89 v91
  let c1_i32_78 : BitVec 32 := 1#32
  let v94 : BitVec 32 := Scalar.shli c1_i32_78 v93
  let v95 : BitVec 32 := Scalar.ori v92 v94
  let c1_i32_80 : BitVec 32 := 1#32
  let v97 : BitVec 32 := Scalar.shli c1_i32_80 v96
  let v98 : BitVec 32 := Scalar.ori v95 v97
  let c1_i32_83 : BitVec 32 := 1#32
  let v100 : BitVec 32 := Scalar.shli c1_i32_83 v99
  let v101 : BitVec 32 := Scalar.ori v98 v100
  let c1_i32_85 : BitVec 32 := 1#32
  let v103 : BitVec 32 := Scalar.shli c1_i32_85 v102
  let v104 : BitVec 32 := Scalar.ori v101 v103
  let c1_i32_88 : BitVec 32 := 1#32
  let v106 : BitVec 32 := Scalar.shli c1_i32_88 v105
  let v107 : BitVec 32 := Scalar.ori v104 v106
  let c1_i32_90 : BitVec 32 := 1#32
  let v109 : BitVec 32 := Scalar.shli c1_i32_90 v108
  let v110 : BitVec 32 := Scalar.ori v107 v109
  let c1_i32_93 : BitVec 32 := 1#32
  let v112 : BitVec 32 := Scalar.shli c1_i32_93 v111
  let v113 : BitVec 32 := Scalar.ori v110 v112
  let c1_i32_95 : BitVec 32 := 1#32
  let v115 : BitVec 32 := Scalar.shli c1_i32_95 v114
  let v116 : BitVec 32 := Scalar.ori v113 v115
  let c1_i32_98 : BitVec 32 := 1#32
  let v118 : BitVec 32 := Scalar.shli c1_i32_98 v117
  let v119 : BitVec 32 := Scalar.ori v116 v118
  let c1_i32_100 : BitVec 32 := 1#32
  let v121 : BitVec 32 := Scalar.shli c1_i32_100 v120
  let v122 : BitVec 32 := Scalar.ori v119 v121
  let c1_i32_103 : BitVec 32 := 1#32
  let v124 : BitVec 32 := Scalar.shli c1_i32_103 v123
  let v125 : BitVec 32 := Scalar.ori v122 v124
  let c1_i32_105 : BitVec 32 := 1#32
  let v127 : BitVec 32 := Scalar.shli c1_i32_105 v126
  let v128 : BitVec 32 := Scalar.ori v125 v127
  let c1_i32_108 : BitVec 32 := 1#32
  let v130 : BitVec 32 := Scalar.shli c1_i32_108 v129
  let v131 : BitVec 32 := Scalar.ori v128 v130
  let c1_i32_110 : BitVec 32 := 1#32
  let v133 : BitVec 32 := Scalar.shli c1_i32_110 v132
  let v134 : BitVec 32 := Scalar.ori v131 v133
  let c1_i32_113 : BitVec 32 := 1#32
  let v136 : BitVec 32 := Scalar.shli c1_i32_113 v135
  let v137 : BitVec 32 := Scalar.ori v134 v136
  let c1_i32_115 : BitVec 32 := 1#32
  let v139 : BitVec 32 := Scalar.shli c1_i32_115 v138
  let v140 : BitVec 32 := Scalar.ori v137 v139
  let c1_i32_118 : BitVec 32 := 1#32
  let v142 : BitVec 32 := Scalar.shli c1_i32_118 v141
  let v143 : BitVec 32 := Scalar.ori v140 v142
  let c0_i32_121 : BitVec 32 := 0#32
  let v145 : BitVec 32 := Scalar.shrsi v143 c0_i32_121
  let c1_i32_122 : BitVec 32 := 1#32
  let v146 : BitVec 32 := Scalar.andi v145 c1_i32_122
  let v147 : BitVec 32 := Scalar.addi c0_i32_123 v146
  let c1_i32_125 : BitVec 32 := 1#32
  let v150 : BitVec 32 := Scalar.shrsi v143 c1_i32_125
  let c1_i32_126 : BitVec 32 := 1#32
  let v151 : BitVec 32 := Scalar.andi v150 c1_i32_126
  let v152 : BitVec 32 := Scalar.addi v147 v151
  let c2_i32_127 : BitVec 32 := 2#32
  let v155 : BitVec 32 := Scalar.shrsi v143 c2_i32_127
  let c1_i32_128 : BitVec 32 := 1#32
  let v156 : BitVec 32 := Scalar.andi v155 c1_i32_128
  let v157 : BitVec 32 := Scalar.addi v152 v156
  let c3_i32_129 : BitVec 32 := 3#32
  let v160 : BitVec 32 := Scalar.shrsi v143 c3_i32_129
  let c1_i32_130 : BitVec 32 := 1#32
  let v161 : BitVec 32 := Scalar.andi v160 c1_i32_130
  let v162 : BitVec 32 := Scalar.addi v157 v161
  let c4_i32_131 : BitVec 32 := 4#32
  let v165 : BitVec 32 := Scalar.shrsi v143 c4_i32_131
  let c1_i32_132 : BitVec 32 := 1#32
  let v166 : BitVec 32 := Scalar.andi v165 c1_i32_132
  let v167 : BitVec 32 := Scalar.addi v162 v166
  let c5_i32_133 : BitVec 32 := 5#32
  let v170 : BitVec 32 := Scalar.shrsi v143 c5_i32_133
  let c1_i32_134 : BitVec 32 := 1#32
  let v171 : BitVec 32 := Scalar.andi v170 c1_i32_134
  let v172 : BitVec 32 := Scalar.addi v167 v171
  let c6_i32_135 : BitVec 32 := 6#32
  let v175 : BitVec 32 := Scalar.shrsi v143 c6_i32_135
  let c1_i32_136 : BitVec 32 := 1#32
  let v176 : BitVec 32 := Scalar.andi v175 c1_i32_136
  let v177 : BitVec 32 := Scalar.addi v172 v176
  let c7_i32_137 : BitVec 32 := 7#32
  let v180 : BitVec 32 := Scalar.shrsi v143 c7_i32_137
  let c1_i32_138 : BitVec 32 := 1#32
  let v181 : BitVec 32 := Scalar.andi v180 c1_i32_138
  let v182 : BitVec 32 := Scalar.addi v177 v181
  let c8_i32_139 : BitVec 32 := 8#32
  let v185 : BitVec 32 := Scalar.shrsi v143 c8_i32_139
  let c1_i32_140 : BitVec 32 := 1#32
  let v186 : BitVec 32 := Scalar.andi v185 c1_i32_140
  let v187 : BitVec 32 := Scalar.addi v182 v186
  let c9_i32_141 : BitVec 32 := 9#32
  let v190 : BitVec 32 := Scalar.shrsi v143 c9_i32_141
  let c1_i32_142 : BitVec 32 := 1#32
  let v191 : BitVec 32 := Scalar.andi v190 c1_i32_142
  let v192 : BitVec 32 := Scalar.addi v187 v191
  let c10_i32_143 : BitVec 32 := 10#32
  let v195 : BitVec 32 := Scalar.shrsi v143 c10_i32_143
  let c1_i32_144 : BitVec 32 := 1#32
  let v196 : BitVec 32 := Scalar.andi v195 c1_i32_144
  let v197 : BitVec 32 := Scalar.addi v192 v196
  let c11_i32_145 : BitVec 32 := 11#32
  let v200 : BitVec 32 := Scalar.shrsi v143 c11_i32_145
  let c1_i32_146 : BitVec 32 := 1#32
  let v201 : BitVec 32 := Scalar.andi v200 c1_i32_146
  let v202 : BitVec 32 := Scalar.addi v197 v201
  let c12_i32_147 : BitVec 32 := 12#32
  let v205 : BitVec 32 := Scalar.shrsi v143 c12_i32_147
  let c1_i32_148 : BitVec 32 := 1#32
  let v206 : BitVec 32 := Scalar.andi v205 c1_i32_148
  let v207 : BitVec 32 := Scalar.addi v202 v206
  let c13_i32_149 : BitVec 32 := 13#32
  let v210 : BitVec 32 := Scalar.shrsi v143 c13_i32_149
  let c1_i32_150 : BitVec 32 := 1#32
  let v211 : BitVec 32 := Scalar.andi v210 c1_i32_150
  let v212 : BitVec 32 := Scalar.addi v207 v211
  let c14_i32_151 : BitVec 32 := 14#32
  let v215 : BitVec 32 := Scalar.shrsi v143 c14_i32_151
  let c1_i32_152 : BitVec 32 := 1#32
  let v216 : BitVec 32 := Scalar.andi v215 c1_i32_152
  let v217 : BitVec 32 := Scalar.addi v212 v216
  let c15_i32_153 : BitVec 32 := 15#32
  let v220 : BitVec 32 := Scalar.shrsi v143 c15_i32_153
  let c1_i32_154 : BitVec 32 := 1#32
  let v221 : BitVec 32 := Scalar.andi v220 c1_i32_154
  let v222 : BitVec 32 := Scalar.addi v217 v221
  let v272 : BitVec 32 := Scalar.subi v222 c0_i32_207
  let c1_i32_208 : BitVec 32 := 1#32
  let v274 : BitVec 32 := Scalar.divsi v272 c1_i32_208
  let v275 : BitVec 32 := Scalar.muli v274 c1_i32_208
  let v276 : BitVec 32 := Scalar.addi c0_i32_207 v275
  let c1_i32_210 : BitVec 32 := 1#32
  let arg17 : BitVec 32 := Scf.iv v276 c1_i32_210 k0_t2
  let c2_i32_215 : BitVec 32 := 2#32
  let v280 : BitVec 32 := Scalar.remsi arg17 c2_i32_215
  let c0_i32_223 : BitVec 32 := 0#32
  ![v280.toNat, 0]
def k0_off102 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 3 → Nat :=
  let c0_i32_207 : BitVec 32 := 0#32
  let c0_i32_123 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_2 : BitVec 32 := 1#32
  let v4 : BitVec 32 := Scalar.shli c1_i32_2 v3
  let v5 : BitVec 32 := Scalar.ori v2 v4
  let c1_i32_5 : BitVec 32 := 1#32
  let v7 : BitVec 32 := Scalar.shli c1_i32_5 v6
  let v8 : BitVec 32 := Scalar.ori v5 v7
  let c1_i32_8 : BitVec 32 := 1#32
  let v10 : BitVec 32 := Scalar.shli c1_i32_8 v9
  let v11 : BitVec 32 := Scalar.ori v8 v10
  let c1_i32_10 : BitVec 32 := 1#32
  let v13 : BitVec 32 := Scalar.shli c1_i32_10 v12
  let v14 : BitVec 32 := Scalar.ori v11 v13
  let c1_i32_13 : BitVec 32 := 1#32
  let v16 : BitVec 32 := Scalar.shli c1_i32_13 v15
  let v17 : BitVec 32 := Scalar.ori v14 v16
  let c1_i32_15 : BitVec 32 := 1#32
  let v19 : BitVec 32 := Scalar.shli c1_i32_15 v18
  let v20 : BitVec 32 := Scalar.ori v17 v19
  let c1_i32_18 : BitVec 32 := 1#32
  let v22 : BitVec 32 := Scalar.shli c1_i32_18 v21
  let v23 : BitVec 32 := Scalar.ori v20 v22
  let c1_i32_20 : BitVec 32 := 1#32
  let v25 : BitVec 32 := Scalar.shli c1_i32_20 v24
  let v26 : BitVec 32 := Scalar.ori v23 v25
  let c1_i32_23 : BitVec 32 := 1#32
  let v28 : BitVec 32 := Scalar.shli c1_i32_23 v27
  let v29 : BitVec 32 := Scalar.ori v26 v28
  let c1_i32_25 : BitVec 32 := 1#32
  let v31 : BitVec 32 := Scalar.shli c1_i32_25 v30
  let v32 : BitVec 32 := Scalar.ori v29 v31
  let c1_i32_28 : BitVec 32 := 1#32
  let v34 : BitVec 32 := Scalar.shli c1_i32_28 v33
  let v35 : BitVec 32 := Scalar.ori v32 v34
  let c1_i32_30 : BitVec 32 := 1#32
  let v37 : BitVec 32 := Scalar.shli c1_i32_30 v36
  let v38 : BitVec 32 := Scalar.ori v35 v37
  let c1_i32_33 : BitVec 32 := 1#32
  let v40 : BitVec 32 := Scalar.shli c1_i32_33 v39
  let v41 : BitVec 32 := Scalar.ori v38 v40
  let c1_i32_35 : BitVec 32 := 1#32
  let v43 : BitVec 32 := Scalar.shli c1_i32_35 v42
  let v44 : BitVec 32 := Scalar.ori v41 v43
  let c1_i32_38 : BitVec 32 := 1#32
  let v46 : BitVec 32 := Scalar.shli c1_i32_38 v45
  let v47 : BitVec 32 := Scalar.ori v44 v46
  let c1_i32_40 : BitVec 32 := 1#32
  let v49 : BitVec 32 := Scalar.shli c1_i32_40 v48
  let v50 : BitVec 32 := Scalar.ori v47 v49
  let c1_i32_43 : BitVec 32 := 1#32
  let v52 : BitVec 32 := Scalar.shli c1_i32_43 v51
  let v53 : BitVec 32 := Scalar.ori v50 v52
  let c1_i32_45 : BitVec 32 := 1#32
  let v55 : BitVec 32 := Scalar.shli c1_i32_45 v54
  let v56 : BitVec 32 := Scalar.ori v53 v55
  let c1_i32_48 : BitVec 32 := 1#32
  let v58 : BitVec 32 := Scalar.shli c1_i32_48 v57
  let v59 : BitVec 32 := Scalar.ori v56 v58
  let c1_i32_50 : BitVec 32 := 1#32
  let v61 : BitVec 32 := Scalar.shli c1_i32_50 v60
  let v62 : BitVec 32 := Scalar.ori v59 v61
  let c1_i32_53 : BitVec 32 := 1#32
  let v64 : BitVec 32 := Scalar.shli c1_i32_53 v63
  let v65 : BitVec 32 := Scalar.ori v62 v64
  let c1_i32_55 : BitVec 32 := 1#32
  let v67 : BitVec 32 := Scalar.shli c1_i32_55 v66
  let v68 : BitVec 32 := Scalar.ori v65 v67
  let c1_i32_58 : BitVec 32 := 1#32
  let v70 : BitVec 32 := Scalar.shli c1_i32_58 v69
  let v71 : BitVec 32 := Scalar.ori v68 v70
  let c1_i32_60 : BitVec 32 := 1#32
  let v73 : BitVec 32 := Scalar.shli c1_i32_60 v72
  let v74 : BitVec 32 := Scalar.ori v71 v73
  let c1_i32_63 : BitVec 32 := 1#32
  let v76 : BitVec 32 := Scalar.shli c1_i32_63 v75
  let v77 : BitVec 32 := Scalar.ori v74 v76
  let c1_i32_65 : BitVec 32 := 1#32
  let v79 : BitVec 32 := Scalar.shli c1_i32_65 v78
  let v80 : BitVec 32 := Scalar.ori v77 v79
  let c1_i32_68 : BitVec 32 := 1#32
  let v82 : BitVec 32 := Scalar.shli c1_i32_68 v81
  let v83 : BitVec 32 := Scalar.ori v80 v82
  let c1_i32_70 : BitVec 32 := 1#32
  let v85 : BitVec 32 := Scalar.shli c1_i32_70 v84
  let v86 : BitVec 32 := Scalar.ori v83 v85
  let c1_i32_73 : BitVec 32 := 1#32
  let v88 : BitVec 32 := Scalar.shli c1_i32_73 v87
  let v89 : BitVec 32 := Scalar.ori v86 v88
  let c1_i32_75 : BitVec 32 := 1#32
  let v91 : BitVec 32 := Scalar.shli c1_i32_75 v90
  let v92 : BitVec 32 := Scalar.ori v89 v91
  let c1_i32_78 : BitVec 32 := 1#32
  let v94 : BitVec 32 := Scalar.shli c1_i32_78 v93
  let v95 : BitVec 32 := Scalar.ori v92 v94
  let c1_i32_80 : BitVec 32 := 1#32
  let v97 : BitVec 32 := Scalar.shli c1_i32_80 v96
  let v98 : BitVec 32 := Scalar.ori v95 v97
  let c1_i32_83 : BitVec 32 := 1#32
  let v100 : BitVec 32 := Scalar.shli c1_i32_83 v99
  let v101 : BitVec 32 := Scalar.ori v98 v100
  let c1_i32_85 : BitVec 32 := 1#32
  let v103 : BitVec 32 := Scalar.shli c1_i32_85 v102
  let v104 : BitVec 32 := Scalar.ori v101 v103
  let c1_i32_88 : BitVec 32 := 1#32
  let v106 : BitVec 32 := Scalar.shli c1_i32_88 v105
  let v107 : BitVec 32 := Scalar.ori v104 v106
  let c1_i32_90 : BitVec 32 := 1#32
  let v109 : BitVec 32 := Scalar.shli c1_i32_90 v108
  let v110 : BitVec 32 := Scalar.ori v107 v109
  let c1_i32_93 : BitVec 32 := 1#32
  let v112 : BitVec 32 := Scalar.shli c1_i32_93 v111
  let v113 : BitVec 32 := Scalar.ori v110 v112
  let c1_i32_95 : BitVec 32 := 1#32
  let v115 : BitVec 32 := Scalar.shli c1_i32_95 v114
  let v116 : BitVec 32 := Scalar.ori v113 v115
  let c1_i32_98 : BitVec 32 := 1#32
  let v118 : BitVec 32 := Scalar.shli c1_i32_98 v117
  let v119 : BitVec 32 := Scalar.ori v116 v118
  let c1_i32_100 : BitVec 32 := 1#32
  let v121 : BitVec 32 := Scalar.shli c1_i32_100 v120
  let v122 : BitVec 32 := Scalar.ori v119 v121
  let c1_i32_103 : BitVec 32 := 1#32
  let v124 : BitVec 32 := Scalar.shli c1_i32_103 v123
  let v125 : BitVec 32 := Scalar.ori v122 v124
  let c1_i32_105 : BitVec 32 := 1#32
  let v127 : BitVec 32 := Scalar.shli c1_i32_105 v126
  let v128 : BitVec 32 := Scalar.ori v125 v127
  let c1_i32_108 : BitVec 32 := 1#32
  let v130 : BitVec 32 := Scalar.shli c1_i32_108 v129
  let v131 : BitVec 32 := Scalar.ori v128 v130
  let c1_i32_110 : BitVec 32 := 1#32
  let v133 : BitVec 32 := Scalar.shli c1_i32_110 v132
  let v134 : BitVec 32 := Scalar.ori v131 v133
  let c1_i32_113 : BitVec 32 := 1#32
  let v136 : BitVec 32 := Scalar.shli c1_i32_113 v135
  let v137 : BitVec 32 := Scalar.ori v134 v136
  let c1_i32_115 : BitVec 32 := 1#32
  let v139 : BitVec 32 := Scalar.shli c1_i32_115 v138
  let v140 : BitVec 32 := Scalar.ori v137 v139
  let c1_i32_118 : BitVec 32 := 1#32
  let v142 : BitVec 32 := Scalar.shli c1_i32_118 v141
  let v143 : BitVec 32 := Scalar.ori v140 v142
  let c0_i32_121 : BitVec 32 := 0#32
  let v145 : BitVec 32 := Scalar.shrsi v143 c0_i32_121
  let c1_i32_122 : BitVec 32 := 1#32
  let v146 : BitVec 32 := Scalar.andi v145 c1_i32_122
  let v147 : BitVec 32 := Scalar.addi c0_i32_123 v146
  let c1_i32_125 : BitVec 32 := 1#32
  let v150 : BitVec 32 := Scalar.shrsi v143 c1_i32_125
  let c1_i32_126 : BitVec 32 := 1#32
  let v151 : BitVec 32 := Scalar.andi v150 c1_i32_126
  let v152 : BitVec 32 := Scalar.addi v147 v151
  let c2_i32_127 : BitVec 32 := 2#32
  let v155 : BitVec 32 := Scalar.shrsi v143 c2_i32_127
  let c1_i32_128 : BitVec 32 := 1#32
  let v156 : BitVec 32 := Scalar.andi v155 c1_i32_128
  let v157 : BitVec 32 := Scalar.addi v152 v156
  let c3_i32_129 : BitVec 32 := 3#32
  let v160 : BitVec 32 := Scalar.shrsi v143 c3_i32_129
  let c1_i32_130 : BitVec 32 := 1#32
  let v161 : BitVec 32 := Scalar.andi v160 c1_i32_130
  let v162 : BitVec 32 := Scalar.addi v157 v161
  let c4_i32_131 : BitVec 32 := 4#32
  let v165 : BitVec 32 := Scalar.shrsi v143 c4_i32_131
  let c1_i32_132 : BitVec 32 := 1#32
  let v166 : BitVec 32 := Scalar.andi v165 c1_i32_132
  let v167 : BitVec 32 := Scalar.addi v162 v166
  let c5_i32_133 : BitVec 32 := 5#32
  let v170 : BitVec 32 := Scalar.shrsi v143 c5_i32_133
  let c1_i32_134 : BitVec 32 := 1#32
  let v171 : BitVec 32 := Scalar.andi v170 c1_i32_134
  let v172 : BitVec 32 := Scalar.addi v167 v171
  let c6_i32_135 : BitVec 32 := 6#32
  let v175 : BitVec 32 := Scalar.shrsi v143 c6_i32_135
  let c1_i32_136 : BitVec 32 := 1#32
  let v176 : BitVec 32 := Scalar.andi v175 c1_i32_136
  let v177 : BitVec 32 := Scalar.addi v172 v176
  let c7_i32_137 : BitVec 32 := 7#32
  let v180 : BitVec 32 := Scalar.shrsi v143 c7_i32_137
  let c1_i32_138 : BitVec 32 := 1#32
  let v181 : BitVec 32 := Scalar.andi v180 c1_i32_138
  let v182 : BitVec 32 := Scalar.addi v177 v181
  let c8_i32_139 : BitVec 32 := 8#32
  let v185 : BitVec 32 := Scalar.shrsi v143 c8_i32_139
  let c1_i32_140 : BitVec 32 := 1#32
  let v186 : BitVec 32 := Scalar.andi v185 c1_i32_140
  let v187 : BitVec 32 := Scalar.addi v182 v186
  let c9_i32_141 : BitVec 32 := 9#32
  let v190 : BitVec 32 := Scalar.shrsi v143 c9_i32_141
  let c1_i32_142 : BitVec 32 := 1#32
  let v191 : BitVec 32 := Scalar.andi v190 c1_i32_142
  let v192 : BitVec 32 := Scalar.addi v187 v191
  let c10_i32_143 : BitVec 32 := 10#32
  let v195 : BitVec 32 := Scalar.shrsi v143 c10_i32_143
  let c1_i32_144 : BitVec 32 := 1#32
  let v196 : BitVec 32 := Scalar.andi v195 c1_i32_144
  let v197 : BitVec 32 := Scalar.addi v192 v196
  let c11_i32_145 : BitVec 32 := 11#32
  let v200 : BitVec 32 := Scalar.shrsi v143 c11_i32_145
  let c1_i32_146 : BitVec 32 := 1#32
  let v201 : BitVec 32 := Scalar.andi v200 c1_i32_146
  let v202 : BitVec 32 := Scalar.addi v197 v201
  let c12_i32_147 : BitVec 32 := 12#32
  let v205 : BitVec 32 := Scalar.shrsi v143 c12_i32_147
  let c1_i32_148 : BitVec 32 := 1#32
  let v206 : BitVec 32 := Scalar.andi v205 c1_i32_148
  let v207 : BitVec 32 := Scalar.addi v202 v206
  let c13_i32_149 : BitVec 32 := 13#32
  let v210 : BitVec 32 := Scalar.shrsi v143 c13_i32_149
  let c1_i32_150 : BitVec 32 := 1#32
  let v211 : BitVec 32 := Scalar.andi v210 c1_i32_150
  let v212 : BitVec 32 := Scalar.addi v207 v211
  let c14_i32_151 : BitVec 32 := 14#32
  let v215 : BitVec 32 := Scalar.shrsi v143 c14_i32_151
  let c1_i32_152 : BitVec 32 := 1#32
  let v216 : BitVec 32 := Scalar.andi v215 c1_i32_152
  let v217 : BitVec 32 := Scalar.addi v212 v216
  let c15_i32_153 : BitVec 32 := 15#32
  let v220 : BitVec 32 := Scalar.shrsi v143 c15_i32_153
  let c1_i32_154 : BitVec 32 := 1#32
  let v221 : BitVec 32 := Scalar.andi v220 c1_i32_154
  let v222 : BitVec 32 := Scalar.addi v217 v221
  let v272 : BitVec 32 := Scalar.subi v222 c0_i32_207
  let c1_i32_208 : BitVec 32 := 1#32
  let v274 : BitVec 32 := Scalar.divsi v272 c1_i32_208
  let v275 : BitVec 32 := Scalar.muli v274 c1_i32_208
  let v276 : BitVec 32 := Scalar.addi c0_i32_207 v275
  let c1_i32_210 : BitVec 32 := 1#32
  let arg17 : BitVec 32 := Scf.iv v276 c1_i32_210 k0_t2
  let c2_i32_215 : BitVec 32 := 2#32
  let v280 : BitVec 32 := Scalar.remsi arg17 c2_i32_215
  let c0_i32_224 : BitVec 32 := 0#32
  let c0_i32_225 : BitVec 32 := 0#32
  ![v280.toNat, 0, 0]
def k0_off103 (v288 : BitVec 32) : Fin 3 → Nat :=
  let c0_i32_226 : BitVec 32 := 0#32
  let c0_i32_227 : BitVec 32 := 0#32
  ![v288.toNat, 0, 0]
def k0_off104 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 3 → Nat :=
  let c0_i32_207 : BitVec 32 := 0#32
  let c0_i32_123 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_2 : BitVec 32 := 1#32
  let v4 : BitVec 32 := Scalar.shli c1_i32_2 v3
  let v5 : BitVec 32 := Scalar.ori v2 v4
  let c1_i32_5 : BitVec 32 := 1#32
  let v7 : BitVec 32 := Scalar.shli c1_i32_5 v6
  let v8 : BitVec 32 := Scalar.ori v5 v7
  let c1_i32_8 : BitVec 32 := 1#32
  let v10 : BitVec 32 := Scalar.shli c1_i32_8 v9
  let v11 : BitVec 32 := Scalar.ori v8 v10
  let c1_i32_10 : BitVec 32 := 1#32
  let v13 : BitVec 32 := Scalar.shli c1_i32_10 v12
  let v14 : BitVec 32 := Scalar.ori v11 v13
  let c1_i32_13 : BitVec 32 := 1#32
  let v16 : BitVec 32 := Scalar.shli c1_i32_13 v15
  let v17 : BitVec 32 := Scalar.ori v14 v16
  let c1_i32_15 : BitVec 32 := 1#32
  let v19 : BitVec 32 := Scalar.shli c1_i32_15 v18
  let v20 : BitVec 32 := Scalar.ori v17 v19
  let c1_i32_18 : BitVec 32 := 1#32
  let v22 : BitVec 32 := Scalar.shli c1_i32_18 v21
  let v23 : BitVec 32 := Scalar.ori v20 v22
  let c1_i32_20 : BitVec 32 := 1#32
  let v25 : BitVec 32 := Scalar.shli c1_i32_20 v24
  let v26 : BitVec 32 := Scalar.ori v23 v25
  let c1_i32_23 : BitVec 32 := 1#32
  let v28 : BitVec 32 := Scalar.shli c1_i32_23 v27
  let v29 : BitVec 32 := Scalar.ori v26 v28
  let c1_i32_25 : BitVec 32 := 1#32
  let v31 : BitVec 32 := Scalar.shli c1_i32_25 v30
  let v32 : BitVec 32 := Scalar.ori v29 v31
  let c1_i32_28 : BitVec 32 := 1#32
  let v34 : BitVec 32 := Scalar.shli c1_i32_28 v33
  let v35 : BitVec 32 := Scalar.ori v32 v34
  let c1_i32_30 : BitVec 32 := 1#32
  let v37 : BitVec 32 := Scalar.shli c1_i32_30 v36
  let v38 : BitVec 32 := Scalar.ori v35 v37
  let c1_i32_33 : BitVec 32 := 1#32
  let v40 : BitVec 32 := Scalar.shli c1_i32_33 v39
  let v41 : BitVec 32 := Scalar.ori v38 v40
  let c1_i32_35 : BitVec 32 := 1#32
  let v43 : BitVec 32 := Scalar.shli c1_i32_35 v42
  let v44 : BitVec 32 := Scalar.ori v41 v43
  let c1_i32_38 : BitVec 32 := 1#32
  let v46 : BitVec 32 := Scalar.shli c1_i32_38 v45
  let v47 : BitVec 32 := Scalar.ori v44 v46
  let c1_i32_40 : BitVec 32 := 1#32
  let v49 : BitVec 32 := Scalar.shli c1_i32_40 v48
  let v50 : BitVec 32 := Scalar.ori v47 v49
  let c1_i32_43 : BitVec 32 := 1#32
  let v52 : BitVec 32 := Scalar.shli c1_i32_43 v51
  let v53 : BitVec 32 := Scalar.ori v50 v52
  let c1_i32_45 : BitVec 32 := 1#32
  let v55 : BitVec 32 := Scalar.shli c1_i32_45 v54
  let v56 : BitVec 32 := Scalar.ori v53 v55
  let c1_i32_48 : BitVec 32 := 1#32
  let v58 : BitVec 32 := Scalar.shli c1_i32_48 v57
  let v59 : BitVec 32 := Scalar.ori v56 v58
  let c1_i32_50 : BitVec 32 := 1#32
  let v61 : BitVec 32 := Scalar.shli c1_i32_50 v60
  let v62 : BitVec 32 := Scalar.ori v59 v61
  let c1_i32_53 : BitVec 32 := 1#32
  let v64 : BitVec 32 := Scalar.shli c1_i32_53 v63
  let v65 : BitVec 32 := Scalar.ori v62 v64
  let c1_i32_55 : BitVec 32 := 1#32
  let v67 : BitVec 32 := Scalar.shli c1_i32_55 v66
  let v68 : BitVec 32 := Scalar.ori v65 v67
  let c1_i32_58 : BitVec 32 := 1#32
  let v70 : BitVec 32 := Scalar.shli c1_i32_58 v69
  let v71 : BitVec 32 := Scalar.ori v68 v70
  let c1_i32_60 : BitVec 32 := 1#32
  let v73 : BitVec 32 := Scalar.shli c1_i32_60 v72
  let v74 : BitVec 32 := Scalar.ori v71 v73
  let c1_i32_63 : BitVec 32 := 1#32
  let v76 : BitVec 32 := Scalar.shli c1_i32_63 v75
  let v77 : BitVec 32 := Scalar.ori v74 v76
  let c1_i32_65 : BitVec 32 := 1#32
  let v79 : BitVec 32 := Scalar.shli c1_i32_65 v78
  let v80 : BitVec 32 := Scalar.ori v77 v79
  let c1_i32_68 : BitVec 32 := 1#32
  let v82 : BitVec 32 := Scalar.shli c1_i32_68 v81
  let v83 : BitVec 32 := Scalar.ori v80 v82
  let c1_i32_70 : BitVec 32 := 1#32
  let v85 : BitVec 32 := Scalar.shli c1_i32_70 v84
  let v86 : BitVec 32 := Scalar.ori v83 v85
  let c1_i32_73 : BitVec 32 := 1#32
  let v88 : BitVec 32 := Scalar.shli c1_i32_73 v87
  let v89 : BitVec 32 := Scalar.ori v86 v88
  let c1_i32_75 : BitVec 32 := 1#32
  let v91 : BitVec 32 := Scalar.shli c1_i32_75 v90
  let v92 : BitVec 32 := Scalar.ori v89 v91
  let c1_i32_78 : BitVec 32 := 1#32
  let v94 : BitVec 32 := Scalar.shli c1_i32_78 v93
  let v95 : BitVec 32 := Scalar.ori v92 v94
  let c1_i32_80 : BitVec 32 := 1#32
  let v97 : BitVec 32 := Scalar.shli c1_i32_80 v96
  let v98 : BitVec 32 := Scalar.ori v95 v97
  let c1_i32_83 : BitVec 32 := 1#32
  let v100 : BitVec 32 := Scalar.shli c1_i32_83 v99
  let v101 : BitVec 32 := Scalar.ori v98 v100
  let c1_i32_85 : BitVec 32 := 1#32
  let v103 : BitVec 32 := Scalar.shli c1_i32_85 v102
  let v104 : BitVec 32 := Scalar.ori v101 v103
  let c1_i32_88 : BitVec 32 := 1#32
  let v106 : BitVec 32 := Scalar.shli c1_i32_88 v105
  let v107 : BitVec 32 := Scalar.ori v104 v106
  let c1_i32_90 : BitVec 32 := 1#32
  let v109 : BitVec 32 := Scalar.shli c1_i32_90 v108
  let v110 : BitVec 32 := Scalar.ori v107 v109
  let c1_i32_93 : BitVec 32 := 1#32
  let v112 : BitVec 32 := Scalar.shli c1_i32_93 v111
  let v113 : BitVec 32 := Scalar.ori v110 v112
  let c1_i32_95 : BitVec 32 := 1#32
  let v115 : BitVec 32 := Scalar.shli c1_i32_95 v114
  let v116 : BitVec 32 := Scalar.ori v113 v115
  let c1_i32_98 : BitVec 32 := 1#32
  let v118 : BitVec 32 := Scalar.shli c1_i32_98 v117
  let v119 : BitVec 32 := Scalar.ori v116 v118
  let c1_i32_100 : BitVec 32 := 1#32
  let v121 : BitVec 32 := Scalar.shli c1_i32_100 v120
  let v122 : BitVec 32 := Scalar.ori v119 v121
  let c1_i32_103 : BitVec 32 := 1#32
  let v124 : BitVec 32 := Scalar.shli c1_i32_103 v123
  let v125 : BitVec 32 := Scalar.ori v122 v124
  let c1_i32_105 : BitVec 32 := 1#32
  let v127 : BitVec 32 := Scalar.shli c1_i32_105 v126
  let v128 : BitVec 32 := Scalar.ori v125 v127
  let c1_i32_108 : BitVec 32 := 1#32
  let v130 : BitVec 32 := Scalar.shli c1_i32_108 v129
  let v131 : BitVec 32 := Scalar.ori v128 v130
  let c1_i32_110 : BitVec 32 := 1#32
  let v133 : BitVec 32 := Scalar.shli c1_i32_110 v132
  let v134 : BitVec 32 := Scalar.ori v131 v133
  let c1_i32_113 : BitVec 32 := 1#32
  let v136 : BitVec 32 := Scalar.shli c1_i32_113 v135
  let v137 : BitVec 32 := Scalar.ori v134 v136
  let c1_i32_115 : BitVec 32 := 1#32
  let v139 : BitVec 32 := Scalar.shli c1_i32_115 v138
  let v140 : BitVec 32 := Scalar.ori v137 v139
  let c1_i32_118 : BitVec 32 := 1#32
  let v142 : BitVec 32 := Scalar.shli c1_i32_118 v141
  let v143 : BitVec 32 := Scalar.ori v140 v142
  let c0_i32_121 : BitVec 32 := 0#32
  let v145 : BitVec 32 := Scalar.shrsi v143 c0_i32_121
  let c1_i32_122 : BitVec 32 := 1#32
  let v146 : BitVec 32 := Scalar.andi v145 c1_i32_122
  let v147 : BitVec 32 := Scalar.addi c0_i32_123 v146
  let c1_i32_125 : BitVec 32 := 1#32
  let v150 : BitVec 32 := Scalar.shrsi v143 c1_i32_125
  let c1_i32_126 : BitVec 32 := 1#32
  let v151 : BitVec 32 := Scalar.andi v150 c1_i32_126
  let v152 : BitVec 32 := Scalar.addi v147 v151
  let c2_i32_127 : BitVec 32 := 2#32
  let v155 : BitVec 32 := Scalar.shrsi v143 c2_i32_127
  let c1_i32_128 : BitVec 32 := 1#32
  let v156 : BitVec 32 := Scalar.andi v155 c1_i32_128
  let v157 : BitVec 32 := Scalar.addi v152 v156
  let c3_i32_129 : BitVec 32 := 3#32
  let v160 : BitVec 32 := Scalar.shrsi v143 c3_i32_129
  let c1_i32_130 : BitVec 32 := 1#32
  let v161 : BitVec 32 := Scalar.andi v160 c1_i32_130
  let v162 : BitVec 32 := Scalar.addi v157 v161
  let c4_i32_131 : BitVec 32 := 4#32
  let v165 : BitVec 32 := Scalar.shrsi v143 c4_i32_131
  let c1_i32_132 : BitVec 32 := 1#32
  let v166 : BitVec 32 := Scalar.andi v165 c1_i32_132
  let v167 : BitVec 32 := Scalar.addi v162 v166
  let c5_i32_133 : BitVec 32 := 5#32
  let v170 : BitVec 32 := Scalar.shrsi v143 c5_i32_133
  let c1_i32_134 : BitVec 32 := 1#32
  let v171 : BitVec 32 := Scalar.andi v170 c1_i32_134
  let v172 : BitVec 32 := Scalar.addi v167 v171
  let c6_i32_135 : BitVec 32 := 6#32
  let v175 : BitVec 32 := Scalar.shrsi v143 c6_i32_135
  let c1_i32_136 : BitVec 32 := 1#32
  let v176 : BitVec 32 := Scalar.andi v175 c1_i32_136
  let v177 : BitVec 32 := Scalar.addi v172 v176
  let c7_i32_137 : BitVec 32 := 7#32
  let v180 : BitVec 32 := Scalar.shrsi v143 c7_i32_137
  let c1_i32_138 : BitVec 32 := 1#32
  let v181 : BitVec 32 := Scalar.andi v180 c1_i32_138
  let v182 : BitVec 32 := Scalar.addi v177 v181
  let c8_i32_139 : BitVec 32 := 8#32
  let v185 : BitVec 32 := Scalar.shrsi v143 c8_i32_139
  let c1_i32_140 : BitVec 32 := 1#32
  let v186 : BitVec 32 := Scalar.andi v185 c1_i32_140
  let v187 : BitVec 32 := Scalar.addi v182 v186
  let c9_i32_141 : BitVec 32 := 9#32
  let v190 : BitVec 32 := Scalar.shrsi v143 c9_i32_141
  let c1_i32_142 : BitVec 32 := 1#32
  let v191 : BitVec 32 := Scalar.andi v190 c1_i32_142
  let v192 : BitVec 32 := Scalar.addi v187 v191
  let c10_i32_143 : BitVec 32 := 10#32
  let v195 : BitVec 32 := Scalar.shrsi v143 c10_i32_143
  let c1_i32_144 : BitVec 32 := 1#32
  let v196 : BitVec 32 := Scalar.andi v195 c1_i32_144
  let v197 : BitVec 32 := Scalar.addi v192 v196
  let c11_i32_145 : BitVec 32 := 11#32
  let v200 : BitVec 32 := Scalar.shrsi v143 c11_i32_145
  let c1_i32_146 : BitVec 32 := 1#32
  let v201 : BitVec 32 := Scalar.andi v200 c1_i32_146
  let v202 : BitVec 32 := Scalar.addi v197 v201
  let c12_i32_147 : BitVec 32 := 12#32
  let v205 : BitVec 32 := Scalar.shrsi v143 c12_i32_147
  let c1_i32_148 : BitVec 32 := 1#32
  let v206 : BitVec 32 := Scalar.andi v205 c1_i32_148
  let v207 : BitVec 32 := Scalar.addi v202 v206
  let c13_i32_149 : BitVec 32 := 13#32
  let v210 : BitVec 32 := Scalar.shrsi v143 c13_i32_149
  let c1_i32_150 : BitVec 32 := 1#32
  let v211 : BitVec 32 := Scalar.andi v210 c1_i32_150
  let v212 : BitVec 32 := Scalar.addi v207 v211
  let c14_i32_151 : BitVec 32 := 14#32
  let v215 : BitVec 32 := Scalar.shrsi v143 c14_i32_151
  let c1_i32_152 : BitVec 32 := 1#32
  let v216 : BitVec 32 := Scalar.andi v215 c1_i32_152
  let v217 : BitVec 32 := Scalar.addi v212 v216
  let c15_i32_153 : BitVec 32 := 15#32
  let v220 : BitVec 32 := Scalar.shrsi v143 c15_i32_153
  let c1_i32_154 : BitVec 32 := 1#32
  let v221 : BitVec 32 := Scalar.andi v220 c1_i32_154
  let v222 : BitVec 32 := Scalar.addi v217 v221
  let v272 : BitVec 32 := Scalar.subi v222 c0_i32_207
  let c1_i32_208 : BitVec 32 := 1#32
  let v274 : BitVec 32 := Scalar.divsi v272 c1_i32_208
  let v275 : BitVec 32 := Scalar.muli v274 c1_i32_208
  let v276 : BitVec 32 := Scalar.addi c0_i32_207 v275
  let c1_i32_210 : BitVec 32 := 1#32
  let arg17 : BitVec 32 := Scf.iv v276 c1_i32_210 k0_t2
  let c2_i32_215 : BitVec 32 := 2#32
  let v280 : BitVec 32 := Scalar.remsi arg17 c2_i32_215
  let c2048_i32_229 : BitVec 32 := 2048#32
  let c0_i32_230 : BitVec 32 := 0#32
  ![v280.toNat, 2048, 0]
def k0_off105 (v288 : BitVec 32) : Fin 3 → Nat :=
  let c2048_i32_231 : BitVec 32 := 2048#32
  let c0_i32_232 : BitVec 32 := 0#32
  ![v288.toNat, 2048, 0]

def k0_chk14 (v288 : BitVec 32) : Prop :=
  (∀ a, (k0_off100 v288) a + S1x16x4096.size a ≤ S16x16x4096.size a) ∧
  (∀ (hinb : ∀ a, (k0_off100 v288) a + S1x16x4096.size a ≤ S16x16x4096.size a), (Rect.unit (s := S16x16x4096) (k0_off100 v288) S1x16x4096.size hinb).WholeWords (EltTy.packing .bf16)) ∧
  (∀ a, (k0_off103 v288) a + S1x1024x1024.size a ≤ S16x4096x1024.size a) ∧
  (∀ (hinb : ∀ a, (k0_off103 v288) a + S1x1024x1024.size a ≤ S16x4096x1024.size a), (Rect.unit (s := S16x4096x1024) (k0_off103 v288) S1x1024x1024.size hinb).WholeWords (EltTy.packing .i8)) ∧
  (∀ a, (k0_off105 v288) a + S1x1024x1024.size a ≤ S16x4096x1024.size a) ∧
  (∀ (hinb : ∀ a, (k0_off105 v288) a + S1x1024x1024.size a ≤ S16x4096x1024.size a), (Rect.unit (s := S16x4096x1024) (k0_off105 v288) S1x1024x1024.size hinb).WholeWords (EltTy.packing .i8))
theorem k0_off100_inb : ∀ (v288 : BitVec 32) (k0_hw14 : k0_chk14 v288), ∀ a, (k0_off100 v288) a + S1x16x4096.size a ≤ S16x16x4096.size a := fun v288 k0_hw14 => k0_hw14.1
theorem k0_off100_wordsbf16 : ∀ (v288 : BitVec 32) (k0_hw14 : k0_chk14 v288), (Rect.unit (s := S16x16x4096) (k0_off100 v288) S1x16x4096.size (k0_off100_inb v288 k0_hw14)).WholeWords (EltTy.packing .bf16) := fun v288 k0_hw14 => k0_hw14.2.1 (k0_off100_inb v288 k0_hw14)
theorem k0_off103_inb : ∀ (v288 : BitVec 32) (k0_hw14 : k0_chk14 v288), ∀ a, (k0_off103 v288) a + S1x1024x1024.size a ≤ S16x4096x1024.size a := fun v288 k0_hw14 => k0_hw14.2.2.1
theorem k0_off103_wordsi8 : ∀ (v288 : BitVec 32) (k0_hw14 : k0_chk14 v288), (Rect.unit (s := S16x4096x1024) (k0_off103 v288) S1x1024x1024.size (k0_off103_inb v288 k0_hw14)).WholeWords (EltTy.packing .i8) := fun v288 k0_hw14 => k0_hw14.2.2.2.1 (k0_off103_inb v288 k0_hw14)
theorem k0_off105_inb : ∀ (v288 : BitVec 32) (k0_hw14 : k0_chk14 v288), ∀ a, (k0_off105 v288) a + S1x1024x1024.size a ≤ S16x4096x1024.size a := fun v288 k0_hw14 => k0_hw14.2.2.2.2.1
theorem k0_off105_wordsi8 : ∀ (v288 : BitVec 32) (k0_hw14 : k0_chk14 v288), (Rect.unit (s := S16x4096x1024) (k0_off105 v288) S1x1024x1024.size (k0_off105_inb v288 k0_hw14)).WholeWords (EltTy.packing .i8) := fun v288 k0_hw14 => k0_hw14.2.2.2.2.2 (k0_off105_inb v288 k0_hw14)

def k0_off106 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 3 → Nat :=
  let c0_i32_207 : BitVec 32 := 0#32
  let c0_i32_123 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_2 : BitVec 32 := 1#32
  let v4 : BitVec 32 := Scalar.shli c1_i32_2 v3
  let v5 : BitVec 32 := Scalar.ori v2 v4
  let c1_i32_5 : BitVec 32 := 1#32
  let v7 : BitVec 32 := Scalar.shli c1_i32_5 v6
  let v8 : BitVec 32 := Scalar.ori v5 v7
  let c1_i32_8 : BitVec 32 := 1#32
  let v10 : BitVec 32 := Scalar.shli c1_i32_8 v9
  let v11 : BitVec 32 := Scalar.ori v8 v10
  let c1_i32_10 : BitVec 32 := 1#32
  let v13 : BitVec 32 := Scalar.shli c1_i32_10 v12
  let v14 : BitVec 32 := Scalar.ori v11 v13
  let c1_i32_13 : BitVec 32 := 1#32
  let v16 : BitVec 32 := Scalar.shli c1_i32_13 v15
  let v17 : BitVec 32 := Scalar.ori v14 v16
  let c1_i32_15 : BitVec 32 := 1#32
  let v19 : BitVec 32 := Scalar.shli c1_i32_15 v18
  let v20 : BitVec 32 := Scalar.ori v17 v19
  let c1_i32_18 : BitVec 32 := 1#32
  let v22 : BitVec 32 := Scalar.shli c1_i32_18 v21
  let v23 : BitVec 32 := Scalar.ori v20 v22
  let c1_i32_20 : BitVec 32 := 1#32
  let v25 : BitVec 32 := Scalar.shli c1_i32_20 v24
  let v26 : BitVec 32 := Scalar.ori v23 v25
  let c1_i32_23 : BitVec 32 := 1#32
  let v28 : BitVec 32 := Scalar.shli c1_i32_23 v27
  let v29 : BitVec 32 := Scalar.ori v26 v28
  let c1_i32_25 : BitVec 32 := 1#32
  let v31 : BitVec 32 := Scalar.shli c1_i32_25 v30
  let v32 : BitVec 32 := Scalar.ori v29 v31
  let c1_i32_28 : BitVec 32 := 1#32
  let v34 : BitVec 32 := Scalar.shli c1_i32_28 v33
  let v35 : BitVec 32 := Scalar.ori v32 v34
  let c1_i32_30 : BitVec 32 := 1#32
  let v37 : BitVec 32 := Scalar.shli c1_i32_30 v36
  let v38 : BitVec 32 := Scalar.ori v35 v37
  let c1_i32_33 : BitVec 32 := 1#32
  let v40 : BitVec 32 := Scalar.shli c1_i32_33 v39
  let v41 : BitVec 32 := Scalar.ori v38 v40
  let c1_i32_35 : BitVec 32 := 1#32
  let v43 : BitVec 32 := Scalar.shli c1_i32_35 v42
  let v44 : BitVec 32 := Scalar.ori v41 v43
  let c1_i32_38 : BitVec 32 := 1#32
  let v46 : BitVec 32 := Scalar.shli c1_i32_38 v45
  let v47 : BitVec 32 := Scalar.ori v44 v46
  let c1_i32_40 : BitVec 32 := 1#32
  let v49 : BitVec 32 := Scalar.shli c1_i32_40 v48
  let v50 : BitVec 32 := Scalar.ori v47 v49
  let c1_i32_43 : BitVec 32 := 1#32
  let v52 : BitVec 32 := Scalar.shli c1_i32_43 v51
  let v53 : BitVec 32 := Scalar.ori v50 v52
  let c1_i32_45 : BitVec 32 := 1#32
  let v55 : BitVec 32 := Scalar.shli c1_i32_45 v54
  let v56 : BitVec 32 := Scalar.ori v53 v55
  let c1_i32_48 : BitVec 32 := 1#32
  let v58 : BitVec 32 := Scalar.shli c1_i32_48 v57
  let v59 : BitVec 32 := Scalar.ori v56 v58
  let c1_i32_50 : BitVec 32 := 1#32
  let v61 : BitVec 32 := Scalar.shli c1_i32_50 v60
  let v62 : BitVec 32 := Scalar.ori v59 v61
  let c1_i32_53 : BitVec 32 := 1#32
  let v64 : BitVec 32 := Scalar.shli c1_i32_53 v63
  let v65 : BitVec 32 := Scalar.ori v62 v64
  let c1_i32_55 : BitVec 32 := 1#32
  let v67 : BitVec 32 := Scalar.shli c1_i32_55 v66
  let v68 : BitVec 32 := Scalar.ori v65 v67
  let c1_i32_58 : BitVec 32 := 1#32
  let v70 : BitVec 32 := Scalar.shli c1_i32_58 v69
  let v71 : BitVec 32 := Scalar.ori v68 v70
  let c1_i32_60 : BitVec 32 := 1#32
  let v73 : BitVec 32 := Scalar.shli c1_i32_60 v72
  let v74 : BitVec 32 := Scalar.ori v71 v73
  let c1_i32_63 : BitVec 32 := 1#32
  let v76 : BitVec 32 := Scalar.shli c1_i32_63 v75
  let v77 : BitVec 32 := Scalar.ori v74 v76
  let c1_i32_65 : BitVec 32 := 1#32
  let v79 : BitVec 32 := Scalar.shli c1_i32_65 v78
  let v80 : BitVec 32 := Scalar.ori v77 v79
  let c1_i32_68 : BitVec 32 := 1#32
  let v82 : BitVec 32 := Scalar.shli c1_i32_68 v81
  let v83 : BitVec 32 := Scalar.ori v80 v82
  let c1_i32_70 : BitVec 32 := 1#32
  let v85 : BitVec 32 := Scalar.shli c1_i32_70 v84
  let v86 : BitVec 32 := Scalar.ori v83 v85
  let c1_i32_73 : BitVec 32 := 1#32
  let v88 : BitVec 32 := Scalar.shli c1_i32_73 v87
  let v89 : BitVec 32 := Scalar.ori v86 v88
  let c1_i32_75 : BitVec 32 := 1#32
  let v91 : BitVec 32 := Scalar.shli c1_i32_75 v90
  let v92 : BitVec 32 := Scalar.ori v89 v91
  let c1_i32_78 : BitVec 32 := 1#32
  let v94 : BitVec 32 := Scalar.shli c1_i32_78 v93
  let v95 : BitVec 32 := Scalar.ori v92 v94
  let c1_i32_80 : BitVec 32 := 1#32
  let v97 : BitVec 32 := Scalar.shli c1_i32_80 v96
  let v98 : BitVec 32 := Scalar.ori v95 v97
  let c1_i32_83 : BitVec 32 := 1#32
  let v100 : BitVec 32 := Scalar.shli c1_i32_83 v99
  let v101 : BitVec 32 := Scalar.ori v98 v100
  let c1_i32_85 : BitVec 32 := 1#32
  let v103 : BitVec 32 := Scalar.shli c1_i32_85 v102
  let v104 : BitVec 32 := Scalar.ori v101 v103
  let c1_i32_88 : BitVec 32 := 1#32
  let v106 : BitVec 32 := Scalar.shli c1_i32_88 v105
  let v107 : BitVec 32 := Scalar.ori v104 v106
  let c1_i32_90 : BitVec 32 := 1#32
  let v109 : BitVec 32 := Scalar.shli c1_i32_90 v108
  let v110 : BitVec 32 := Scalar.ori v107 v109
  let c1_i32_93 : BitVec 32 := 1#32
  let v112 : BitVec 32 := Scalar.shli c1_i32_93 v111
  let v113 : BitVec 32 := Scalar.ori v110 v112
  let c1_i32_95 : BitVec 32 := 1#32
  let v115 : BitVec 32 := Scalar.shli c1_i32_95 v114
  let v116 : BitVec 32 := Scalar.ori v113 v115
  let c1_i32_98 : BitVec 32 := 1#32
  let v118 : BitVec 32 := Scalar.shli c1_i32_98 v117
  let v119 : BitVec 32 := Scalar.ori v116 v118
  let c1_i32_100 : BitVec 32 := 1#32
  let v121 : BitVec 32 := Scalar.shli c1_i32_100 v120
  let v122 : BitVec 32 := Scalar.ori v119 v121
  let c1_i32_103 : BitVec 32 := 1#32
  let v124 : BitVec 32 := Scalar.shli c1_i32_103 v123
  let v125 : BitVec 32 := Scalar.ori v122 v124
  let c1_i32_105 : BitVec 32 := 1#32
  let v127 : BitVec 32 := Scalar.shli c1_i32_105 v126
  let v128 : BitVec 32 := Scalar.ori v125 v127
  let c1_i32_108 : BitVec 32 := 1#32
  let v130 : BitVec 32 := Scalar.shli c1_i32_108 v129
  let v131 : BitVec 32 := Scalar.ori v128 v130
  let c1_i32_110 : BitVec 32 := 1#32
  let v133 : BitVec 32 := Scalar.shli c1_i32_110 v132
  let v134 : BitVec 32 := Scalar.ori v131 v133
  let c1_i32_113 : BitVec 32 := 1#32
  let v136 : BitVec 32 := Scalar.shli c1_i32_113 v135
  let v137 : BitVec 32 := Scalar.ori v134 v136
  let c1_i32_115 : BitVec 32 := 1#32
  let v139 : BitVec 32 := Scalar.shli c1_i32_115 v138
  let v140 : BitVec 32 := Scalar.ori v137 v139
  let c1_i32_118 : BitVec 32 := 1#32
  let v142 : BitVec 32 := Scalar.shli c1_i32_118 v141
  let v143 : BitVec 32 := Scalar.ori v140 v142
  let c0_i32_121 : BitVec 32 := 0#32
  let v145 : BitVec 32 := Scalar.shrsi v143 c0_i32_121
  let c1_i32_122 : BitVec 32 := 1#32
  let v146 : BitVec 32 := Scalar.andi v145 c1_i32_122
  let v147 : BitVec 32 := Scalar.addi c0_i32_123 v146
  let c1_i32_125 : BitVec 32 := 1#32
  let v150 : BitVec 32 := Scalar.shrsi v143 c1_i32_125
  let c1_i32_126 : BitVec 32 := 1#32
  let v151 : BitVec 32 := Scalar.andi v150 c1_i32_126
  let v152 : BitVec 32 := Scalar.addi v147 v151
  let c2_i32_127 : BitVec 32 := 2#32
  let v155 : BitVec 32 := Scalar.shrsi v143 c2_i32_127
  let c1_i32_128 : BitVec 32 := 1#32
  let v156 : BitVec 32 := Scalar.andi v155 c1_i32_128
  let v157 : BitVec 32 := Scalar.addi v152 v156
  let c3_i32_129 : BitVec 32 := 3#32
  let v160 : BitVec 32 := Scalar.shrsi v143 c3_i32_129
  let c1_i32_130 : BitVec 32 := 1#32
  let v161 : BitVec 32 := Scalar.andi v160 c1_i32_130
  let v162 : BitVec 32 := Scalar.addi v157 v161
  let c4_i32_131 : BitVec 32 := 4#32
  let v165 : BitVec 32 := Scalar.shrsi v143 c4_i32_131
  let c1_i32_132 : BitVec 32 := 1#32
  let v166 : BitVec 32 := Scalar.andi v165 c1_i32_132
  let v167 : BitVec 32 := Scalar.addi v162 v166
  let c5_i32_133 : BitVec 32 := 5#32
  let v170 : BitVec 32 := Scalar.shrsi v143 c5_i32_133
  let c1_i32_134 : BitVec 32 := 1#32
  let v171 : BitVec 32 := Scalar.andi v170 c1_i32_134
  let v172 : BitVec 32 := Scalar.addi v167 v171
  let c6_i32_135 : BitVec 32 := 6#32
  let v175 : BitVec 32 := Scalar.shrsi v143 c6_i32_135
  let c1_i32_136 : BitVec 32 := 1#32
  let v176 : BitVec 32 := Scalar.andi v175 c1_i32_136
  let v177 : BitVec 32 := Scalar.addi v172 v176
  let c7_i32_137 : BitVec 32 := 7#32
  let v180 : BitVec 32 := Scalar.shrsi v143 c7_i32_137
  let c1_i32_138 : BitVec 32 := 1#32
  let v181 : BitVec 32 := Scalar.andi v180 c1_i32_138
  let v182 : BitVec 32 := Scalar.addi v177 v181
  let c8_i32_139 : BitVec 32 := 8#32
  let v185 : BitVec 32 := Scalar.shrsi v143 c8_i32_139
  let c1_i32_140 : BitVec 32 := 1#32
  let v186 : BitVec 32 := Scalar.andi v185 c1_i32_140
  let v187 : BitVec 32 := Scalar.addi v182 v186
  let c9_i32_141 : BitVec 32 := 9#32
  let v190 : BitVec 32 := Scalar.shrsi v143 c9_i32_141
  let c1_i32_142 : BitVec 32 := 1#32
  let v191 : BitVec 32 := Scalar.andi v190 c1_i32_142
  let v192 : BitVec 32 := Scalar.addi v187 v191
  let c10_i32_143 : BitVec 32 := 10#32
  let v195 : BitVec 32 := Scalar.shrsi v143 c10_i32_143
  let c1_i32_144 : BitVec 32 := 1#32
  let v196 : BitVec 32 := Scalar.andi v195 c1_i32_144
  let v197 : BitVec 32 := Scalar.addi v192 v196
  let c11_i32_145 : BitVec 32 := 11#32
  let v200 : BitVec 32 := Scalar.shrsi v143 c11_i32_145
  let c1_i32_146 : BitVec 32 := 1#32
  let v201 : BitVec 32 := Scalar.andi v200 c1_i32_146
  let v202 : BitVec 32 := Scalar.addi v197 v201
  let c12_i32_147 : BitVec 32 := 12#32
  let v205 : BitVec 32 := Scalar.shrsi v143 c12_i32_147
  let c1_i32_148 : BitVec 32 := 1#32
  let v206 : BitVec 32 := Scalar.andi v205 c1_i32_148
  let v207 : BitVec 32 := Scalar.addi v202 v206
  let c13_i32_149 : BitVec 32 := 13#32
  let v210 : BitVec 32 := Scalar.shrsi v143 c13_i32_149
  let c1_i32_150 : BitVec 32 := 1#32
  let v211 : BitVec 32 := Scalar.andi v210 c1_i32_150
  let v212 : BitVec 32 := Scalar.addi v207 v211
  let c14_i32_151 : BitVec 32 := 14#32
  let v215 : BitVec 32 := Scalar.shrsi v143 c14_i32_151
  let c1_i32_152 : BitVec 32 := 1#32
  let v216 : BitVec 32 := Scalar.andi v215 c1_i32_152
  let v217 : BitVec 32 := Scalar.addi v212 v216
  let c15_i32_153 : BitVec 32 := 15#32
  let v220 : BitVec 32 := Scalar.shrsi v143 c15_i32_153
  let c1_i32_154 : BitVec 32 := 1#32
  let v221 : BitVec 32 := Scalar.andi v220 c1_i32_154
  let v222 : BitVec 32 := Scalar.addi v217 v221
  let v272 : BitVec 32 := Scalar.subi v222 c0_i32_207
  let c1_i32_208 : BitVec 32 := 1#32
  let v274 : BitVec 32 := Scalar.divsi v272 c1_i32_208
  let v275 : BitVec 32 := Scalar.muli v274 c1_i32_208
  let v276 : BitVec 32 := Scalar.addi c0_i32_207 v275
  let c1_i32_210 : BitVec 32 := 1#32
  let arg17 : BitVec 32 := Scf.iv v276 c1_i32_210 k0_t2
  let c2_i32_215 : BitVec 32 := 2#32
  let v280 : BitVec 32 := Scalar.remsi arg17 c2_i32_215
  let c0_i32_237 : BitVec 32 := 0#32
  let c0_i32_238 : BitVec 32 := 0#32
  ![v280.toNat, 0, 0]
def k0_off107 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 3 → Nat :=
  let c0_i32_207 : BitVec 32 := 0#32
  let c0_i32_123 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_2 : BitVec 32 := 1#32
  let v4 : BitVec 32 := Scalar.shli c1_i32_2 v3
  let v5 : BitVec 32 := Scalar.ori v2 v4
  let c1_i32_5 : BitVec 32 := 1#32
  let v7 : BitVec 32 := Scalar.shli c1_i32_5 v6
  let v8 : BitVec 32 := Scalar.ori v5 v7
  let c1_i32_8 : BitVec 32 := 1#32
  let v10 : BitVec 32 := Scalar.shli c1_i32_8 v9
  let v11 : BitVec 32 := Scalar.ori v8 v10
  let c1_i32_10 : BitVec 32 := 1#32
  let v13 : BitVec 32 := Scalar.shli c1_i32_10 v12
  let v14 : BitVec 32 := Scalar.ori v11 v13
  let c1_i32_13 : BitVec 32 := 1#32
  let v16 : BitVec 32 := Scalar.shli c1_i32_13 v15
  let v17 : BitVec 32 := Scalar.ori v14 v16
  let c1_i32_15 : BitVec 32 := 1#32
  let v19 : BitVec 32 := Scalar.shli c1_i32_15 v18
  let v20 : BitVec 32 := Scalar.ori v17 v19
  let c1_i32_18 : BitVec 32 := 1#32
  let v22 : BitVec 32 := Scalar.shli c1_i32_18 v21
  let v23 : BitVec 32 := Scalar.ori v20 v22
  let c1_i32_20 : BitVec 32 := 1#32
  let v25 : BitVec 32 := Scalar.shli c1_i32_20 v24
  let v26 : BitVec 32 := Scalar.ori v23 v25
  let c1_i32_23 : BitVec 32 := 1#32
  let v28 : BitVec 32 := Scalar.shli c1_i32_23 v27
  let v29 : BitVec 32 := Scalar.ori v26 v28
  let c1_i32_25 : BitVec 32 := 1#32
  let v31 : BitVec 32 := Scalar.shli c1_i32_25 v30
  let v32 : BitVec 32 := Scalar.ori v29 v31
  let c1_i32_28 : BitVec 32 := 1#32
  let v34 : BitVec 32 := Scalar.shli c1_i32_28 v33
  let v35 : BitVec 32 := Scalar.ori v32 v34
  let c1_i32_30 : BitVec 32 := 1#32
  let v37 : BitVec 32 := Scalar.shli c1_i32_30 v36
  let v38 : BitVec 32 := Scalar.ori v35 v37
  let c1_i32_33 : BitVec 32 := 1#32
  let v40 : BitVec 32 := Scalar.shli c1_i32_33 v39
  let v41 : BitVec 32 := Scalar.ori v38 v40
  let c1_i32_35 : BitVec 32 := 1#32
  let v43 : BitVec 32 := Scalar.shli c1_i32_35 v42
  let v44 : BitVec 32 := Scalar.ori v41 v43
  let c1_i32_38 : BitVec 32 := 1#32
  let v46 : BitVec 32 := Scalar.shli c1_i32_38 v45
  let v47 : BitVec 32 := Scalar.ori v44 v46
  let c1_i32_40 : BitVec 32 := 1#32
  let v49 : BitVec 32 := Scalar.shli c1_i32_40 v48
  let v50 : BitVec 32 := Scalar.ori v47 v49
  let c1_i32_43 : BitVec 32 := 1#32
  let v52 : BitVec 32 := Scalar.shli c1_i32_43 v51
  let v53 : BitVec 32 := Scalar.ori v50 v52
  let c1_i32_45 : BitVec 32 := 1#32
  let v55 : BitVec 32 := Scalar.shli c1_i32_45 v54
  let v56 : BitVec 32 := Scalar.ori v53 v55
  let c1_i32_48 : BitVec 32 := 1#32
  let v58 : BitVec 32 := Scalar.shli c1_i32_48 v57
  let v59 : BitVec 32 := Scalar.ori v56 v58
  let c1_i32_50 : BitVec 32 := 1#32
  let v61 : BitVec 32 := Scalar.shli c1_i32_50 v60
  let v62 : BitVec 32 := Scalar.ori v59 v61
  let c1_i32_53 : BitVec 32 := 1#32
  let v64 : BitVec 32 := Scalar.shli c1_i32_53 v63
  let v65 : BitVec 32 := Scalar.ori v62 v64
  let c1_i32_55 : BitVec 32 := 1#32
  let v67 : BitVec 32 := Scalar.shli c1_i32_55 v66
  let v68 : BitVec 32 := Scalar.ori v65 v67
  let c1_i32_58 : BitVec 32 := 1#32
  let v70 : BitVec 32 := Scalar.shli c1_i32_58 v69
  let v71 : BitVec 32 := Scalar.ori v68 v70
  let c1_i32_60 : BitVec 32 := 1#32
  let v73 : BitVec 32 := Scalar.shli c1_i32_60 v72
  let v74 : BitVec 32 := Scalar.ori v71 v73
  let c1_i32_63 : BitVec 32 := 1#32
  let v76 : BitVec 32 := Scalar.shli c1_i32_63 v75
  let v77 : BitVec 32 := Scalar.ori v74 v76
  let c1_i32_65 : BitVec 32 := 1#32
  let v79 : BitVec 32 := Scalar.shli c1_i32_65 v78
  let v80 : BitVec 32 := Scalar.ori v77 v79
  let c1_i32_68 : BitVec 32 := 1#32
  let v82 : BitVec 32 := Scalar.shli c1_i32_68 v81
  let v83 : BitVec 32 := Scalar.ori v80 v82
  let c1_i32_70 : BitVec 32 := 1#32
  let v85 : BitVec 32 := Scalar.shli c1_i32_70 v84
  let v86 : BitVec 32 := Scalar.ori v83 v85
  let c1_i32_73 : BitVec 32 := 1#32
  let v88 : BitVec 32 := Scalar.shli c1_i32_73 v87
  let v89 : BitVec 32 := Scalar.ori v86 v88
  let c1_i32_75 : BitVec 32 := 1#32
  let v91 : BitVec 32 := Scalar.shli c1_i32_75 v90
  let v92 : BitVec 32 := Scalar.ori v89 v91
  let c1_i32_78 : BitVec 32 := 1#32
  let v94 : BitVec 32 := Scalar.shli c1_i32_78 v93
  let v95 : BitVec 32 := Scalar.ori v92 v94
  let c1_i32_80 : BitVec 32 := 1#32
  let v97 : BitVec 32 := Scalar.shli c1_i32_80 v96
  let v98 : BitVec 32 := Scalar.ori v95 v97
  let c1_i32_83 : BitVec 32 := 1#32
  let v100 : BitVec 32 := Scalar.shli c1_i32_83 v99
  let v101 : BitVec 32 := Scalar.ori v98 v100
  let c1_i32_85 : BitVec 32 := 1#32
  let v103 : BitVec 32 := Scalar.shli c1_i32_85 v102
  let v104 : BitVec 32 := Scalar.ori v101 v103
  let c1_i32_88 : BitVec 32 := 1#32
  let v106 : BitVec 32 := Scalar.shli c1_i32_88 v105
  let v107 : BitVec 32 := Scalar.ori v104 v106
  let c1_i32_90 : BitVec 32 := 1#32
  let v109 : BitVec 32 := Scalar.shli c1_i32_90 v108
  let v110 : BitVec 32 := Scalar.ori v107 v109
  let c1_i32_93 : BitVec 32 := 1#32
  let v112 : BitVec 32 := Scalar.shli c1_i32_93 v111
  let v113 : BitVec 32 := Scalar.ori v110 v112
  let c1_i32_95 : BitVec 32 := 1#32
  let v115 : BitVec 32 := Scalar.shli c1_i32_95 v114
  let v116 : BitVec 32 := Scalar.ori v113 v115
  let c1_i32_98 : BitVec 32 := 1#32
  let v118 : BitVec 32 := Scalar.shli c1_i32_98 v117
  let v119 : BitVec 32 := Scalar.ori v116 v118
  let c1_i32_100 : BitVec 32 := 1#32
  let v121 : BitVec 32 := Scalar.shli c1_i32_100 v120
  let v122 : BitVec 32 := Scalar.ori v119 v121
  let c1_i32_103 : BitVec 32 := 1#32
  let v124 : BitVec 32 := Scalar.shli c1_i32_103 v123
  let v125 : BitVec 32 := Scalar.ori v122 v124
  let c1_i32_105 : BitVec 32 := 1#32
  let v127 : BitVec 32 := Scalar.shli c1_i32_105 v126
  let v128 : BitVec 32 := Scalar.ori v125 v127
  let c1_i32_108 : BitVec 32 := 1#32
  let v130 : BitVec 32 := Scalar.shli c1_i32_108 v129
  let v131 : BitVec 32 := Scalar.ori v128 v130
  let c1_i32_110 : BitVec 32 := 1#32
  let v133 : BitVec 32 := Scalar.shli c1_i32_110 v132
  let v134 : BitVec 32 := Scalar.ori v131 v133
  let c1_i32_113 : BitVec 32 := 1#32
  let v136 : BitVec 32 := Scalar.shli c1_i32_113 v135
  let v137 : BitVec 32 := Scalar.ori v134 v136
  let c1_i32_115 : BitVec 32 := 1#32
  let v139 : BitVec 32 := Scalar.shli c1_i32_115 v138
  let v140 : BitVec 32 := Scalar.ori v137 v139
  let c1_i32_118 : BitVec 32 := 1#32
  let v142 : BitVec 32 := Scalar.shli c1_i32_118 v141
  let v143 : BitVec 32 := Scalar.ori v140 v142
  let c0_i32_121 : BitVec 32 := 0#32
  let v145 : BitVec 32 := Scalar.shrsi v143 c0_i32_121
  let c1_i32_122 : BitVec 32 := 1#32
  let v146 : BitVec 32 := Scalar.andi v145 c1_i32_122
  let v147 : BitVec 32 := Scalar.addi c0_i32_123 v146
  let c1_i32_125 : BitVec 32 := 1#32
  let v150 : BitVec 32 := Scalar.shrsi v143 c1_i32_125
  let c1_i32_126 : BitVec 32 := 1#32
  let v151 : BitVec 32 := Scalar.andi v150 c1_i32_126
  let v152 : BitVec 32 := Scalar.addi v147 v151
  let c2_i32_127 : BitVec 32 := 2#32
  let v155 : BitVec 32 := Scalar.shrsi v143 c2_i32_127
  let c1_i32_128 : BitVec 32 := 1#32
  let v156 : BitVec 32 := Scalar.andi v155 c1_i32_128
  let v157 : BitVec 32 := Scalar.addi v152 v156
  let c3_i32_129 : BitVec 32 := 3#32
  let v160 : BitVec 32 := Scalar.shrsi v143 c3_i32_129
  let c1_i32_130 : BitVec 32 := 1#32
  let v161 : BitVec 32 := Scalar.andi v160 c1_i32_130
  let v162 : BitVec 32 := Scalar.addi v157 v161
  let c4_i32_131 : BitVec 32 := 4#32
  let v165 : BitVec 32 := Scalar.shrsi v143 c4_i32_131
  let c1_i32_132 : BitVec 32 := 1#32
  let v166 : BitVec 32 := Scalar.andi v165 c1_i32_132
  let v167 : BitVec 32 := Scalar.addi v162 v166
  let c5_i32_133 : BitVec 32 := 5#32
  let v170 : BitVec 32 := Scalar.shrsi v143 c5_i32_133
  let c1_i32_134 : BitVec 32 := 1#32
  let v171 : BitVec 32 := Scalar.andi v170 c1_i32_134
  let v172 : BitVec 32 := Scalar.addi v167 v171
  let c6_i32_135 : BitVec 32 := 6#32
  let v175 : BitVec 32 := Scalar.shrsi v143 c6_i32_135
  let c1_i32_136 : BitVec 32 := 1#32
  let v176 : BitVec 32 := Scalar.andi v175 c1_i32_136
  let v177 : BitVec 32 := Scalar.addi v172 v176
  let c7_i32_137 : BitVec 32 := 7#32
  let v180 : BitVec 32 := Scalar.shrsi v143 c7_i32_137
  let c1_i32_138 : BitVec 32 := 1#32
  let v181 : BitVec 32 := Scalar.andi v180 c1_i32_138
  let v182 : BitVec 32 := Scalar.addi v177 v181
  let c8_i32_139 : BitVec 32 := 8#32
  let v185 : BitVec 32 := Scalar.shrsi v143 c8_i32_139
  let c1_i32_140 : BitVec 32 := 1#32
  let v186 : BitVec 32 := Scalar.andi v185 c1_i32_140
  let v187 : BitVec 32 := Scalar.addi v182 v186
  let c9_i32_141 : BitVec 32 := 9#32
  let v190 : BitVec 32 := Scalar.shrsi v143 c9_i32_141
  let c1_i32_142 : BitVec 32 := 1#32
  let v191 : BitVec 32 := Scalar.andi v190 c1_i32_142
  let v192 : BitVec 32 := Scalar.addi v187 v191
  let c10_i32_143 : BitVec 32 := 10#32
  let v195 : BitVec 32 := Scalar.shrsi v143 c10_i32_143
  let c1_i32_144 : BitVec 32 := 1#32
  let v196 : BitVec 32 := Scalar.andi v195 c1_i32_144
  let v197 : BitVec 32 := Scalar.addi v192 v196
  let c11_i32_145 : BitVec 32 := 11#32
  let v200 : BitVec 32 := Scalar.shrsi v143 c11_i32_145
  let c1_i32_146 : BitVec 32 := 1#32
  let v201 : BitVec 32 := Scalar.andi v200 c1_i32_146
  let v202 : BitVec 32 := Scalar.addi v197 v201
  let c12_i32_147 : BitVec 32 := 12#32
  let v205 : BitVec 32 := Scalar.shrsi v143 c12_i32_147
  let c1_i32_148 : BitVec 32 := 1#32
  let v206 : BitVec 32 := Scalar.andi v205 c1_i32_148
  let v207 : BitVec 32 := Scalar.addi v202 v206
  let c13_i32_149 : BitVec 32 := 13#32
  let v210 : BitVec 32 := Scalar.shrsi v143 c13_i32_149
  let c1_i32_150 : BitVec 32 := 1#32
  let v211 : BitVec 32 := Scalar.andi v210 c1_i32_150
  let v212 : BitVec 32 := Scalar.addi v207 v211
  let c14_i32_151 : BitVec 32 := 14#32
  let v215 : BitVec 32 := Scalar.shrsi v143 c14_i32_151
  let c1_i32_152 : BitVec 32 := 1#32
  let v216 : BitVec 32 := Scalar.andi v215 c1_i32_152
  let v217 : BitVec 32 := Scalar.addi v212 v216
  let c15_i32_153 : BitVec 32 := 15#32
  let v220 : BitVec 32 := Scalar.shrsi v143 c15_i32_153
  let c1_i32_154 : BitVec 32 := 1#32
  let v221 : BitVec 32 := Scalar.andi v220 c1_i32_154
  let v222 : BitVec 32 := Scalar.addi v217 v221
  let v272 : BitVec 32 := Scalar.subi v222 c0_i32_207
  let c1_i32_208 : BitVec 32 := 1#32
  let v274 : BitVec 32 := Scalar.divsi v272 c1_i32_208
  let v275 : BitVec 32 := Scalar.muli v274 c1_i32_208
  let v276 : BitVec 32 := Scalar.addi c0_i32_207 v275
  let c1_i32_210 : BitVec 32 := 1#32
  let arg17 : BitVec 32 := Scf.iv v276 c1_i32_210 k0_t2
  let c2_i32_215 : BitVec 32 := 2#32
  let v280 : BitVec 32 := Scalar.remsi arg17 c2_i32_215
  let c0_i32_243 : BitVec 32 := 0#32
  let c0_i32_244 : BitVec 32 := 0#32
  ![v280.toNat, 0, 0]
def k0_off108 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 1 → Nat :=
  let c0_i32_207 : BitVec 32 := 0#32
  let c0_i32_123 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_2 : BitVec 32 := 1#32
  let v4 : BitVec 32 := Scalar.shli c1_i32_2 v3
  let v5 : BitVec 32 := Scalar.ori v2 v4
  let c1_i32_5 : BitVec 32 := 1#32
  let v7 : BitVec 32 := Scalar.shli c1_i32_5 v6
  let v8 : BitVec 32 := Scalar.ori v5 v7
  let c1_i32_8 : BitVec 32 := 1#32
  let v10 : BitVec 32 := Scalar.shli c1_i32_8 v9
  let v11 : BitVec 32 := Scalar.ori v8 v10
  let c1_i32_10 : BitVec 32 := 1#32
  let v13 : BitVec 32 := Scalar.shli c1_i32_10 v12
  let v14 : BitVec 32 := Scalar.ori v11 v13
  let c1_i32_13 : BitVec 32 := 1#32
  let v16 : BitVec 32 := Scalar.shli c1_i32_13 v15
  let v17 : BitVec 32 := Scalar.ori v14 v16
  let c1_i32_15 : BitVec 32 := 1#32
  let v19 : BitVec 32 := Scalar.shli c1_i32_15 v18
  let v20 : BitVec 32 := Scalar.ori v17 v19
  let c1_i32_18 : BitVec 32 := 1#32
  let v22 : BitVec 32 := Scalar.shli c1_i32_18 v21
  let v23 : BitVec 32 := Scalar.ori v20 v22
  let c1_i32_20 : BitVec 32 := 1#32
  let v25 : BitVec 32 := Scalar.shli c1_i32_20 v24
  let v26 : BitVec 32 := Scalar.ori v23 v25
  let c1_i32_23 : BitVec 32 := 1#32
  let v28 : BitVec 32 := Scalar.shli c1_i32_23 v27
  let v29 : BitVec 32 := Scalar.ori v26 v28
  let c1_i32_25 : BitVec 32 := 1#32
  let v31 : BitVec 32 := Scalar.shli c1_i32_25 v30
  let v32 : BitVec 32 := Scalar.ori v29 v31
  let c1_i32_28 : BitVec 32 := 1#32
  let v34 : BitVec 32 := Scalar.shli c1_i32_28 v33
  let v35 : BitVec 32 := Scalar.ori v32 v34
  let c1_i32_30 : BitVec 32 := 1#32
  let v37 : BitVec 32 := Scalar.shli c1_i32_30 v36
  let v38 : BitVec 32 := Scalar.ori v35 v37
  let c1_i32_33 : BitVec 32 := 1#32
  let v40 : BitVec 32 := Scalar.shli c1_i32_33 v39
  let v41 : BitVec 32 := Scalar.ori v38 v40
  let c1_i32_35 : BitVec 32 := 1#32
  let v43 : BitVec 32 := Scalar.shli c1_i32_35 v42
  let v44 : BitVec 32 := Scalar.ori v41 v43
  let c1_i32_38 : BitVec 32 := 1#32
  let v46 : BitVec 32 := Scalar.shli c1_i32_38 v45
  let v47 : BitVec 32 := Scalar.ori v44 v46
  let c1_i32_40 : BitVec 32 := 1#32
  let v49 : BitVec 32 := Scalar.shli c1_i32_40 v48
  let v50 : BitVec 32 := Scalar.ori v47 v49
  let c1_i32_43 : BitVec 32 := 1#32
  let v52 : BitVec 32 := Scalar.shli c1_i32_43 v51
  let v53 : BitVec 32 := Scalar.ori v50 v52
  let c1_i32_45 : BitVec 32 := 1#32
  let v55 : BitVec 32 := Scalar.shli c1_i32_45 v54
  let v56 : BitVec 32 := Scalar.ori v53 v55
  let c1_i32_48 : BitVec 32 := 1#32
  let v58 : BitVec 32 := Scalar.shli c1_i32_48 v57
  let v59 : BitVec 32 := Scalar.ori v56 v58
  let c1_i32_50 : BitVec 32 := 1#32
  let v61 : BitVec 32 := Scalar.shli c1_i32_50 v60
  let v62 : BitVec 32 := Scalar.ori v59 v61
  let c1_i32_53 : BitVec 32 := 1#32
  let v64 : BitVec 32 := Scalar.shli c1_i32_53 v63
  let v65 : BitVec 32 := Scalar.ori v62 v64
  let c1_i32_55 : BitVec 32 := 1#32
  let v67 : BitVec 32 := Scalar.shli c1_i32_55 v66
  let v68 : BitVec 32 := Scalar.ori v65 v67
  let c1_i32_58 : BitVec 32 := 1#32
  let v70 : BitVec 32 := Scalar.shli c1_i32_58 v69
  let v71 : BitVec 32 := Scalar.ori v68 v70
  let c1_i32_60 : BitVec 32 := 1#32
  let v73 : BitVec 32 := Scalar.shli c1_i32_60 v72
  let v74 : BitVec 32 := Scalar.ori v71 v73
  let c1_i32_63 : BitVec 32 := 1#32
  let v76 : BitVec 32 := Scalar.shli c1_i32_63 v75
  let v77 : BitVec 32 := Scalar.ori v74 v76
  let c1_i32_65 : BitVec 32 := 1#32
  let v79 : BitVec 32 := Scalar.shli c1_i32_65 v78
  let v80 : BitVec 32 := Scalar.ori v77 v79
  let c1_i32_68 : BitVec 32 := 1#32
  let v82 : BitVec 32 := Scalar.shli c1_i32_68 v81
  let v83 : BitVec 32 := Scalar.ori v80 v82
  let c1_i32_70 : BitVec 32 := 1#32
  let v85 : BitVec 32 := Scalar.shli c1_i32_70 v84
  let v86 : BitVec 32 := Scalar.ori v83 v85
  let c1_i32_73 : BitVec 32 := 1#32
  let v88 : BitVec 32 := Scalar.shli c1_i32_73 v87
  let v89 : BitVec 32 := Scalar.ori v86 v88
  let c1_i32_75 : BitVec 32 := 1#32
  let v91 : BitVec 32 := Scalar.shli c1_i32_75 v90
  let v92 : BitVec 32 := Scalar.ori v89 v91
  let c1_i32_78 : BitVec 32 := 1#32
  let v94 : BitVec 32 := Scalar.shli c1_i32_78 v93
  let v95 : BitVec 32 := Scalar.ori v92 v94
  let c1_i32_80 : BitVec 32 := 1#32
  let v97 : BitVec 32 := Scalar.shli c1_i32_80 v96
  let v98 : BitVec 32 := Scalar.ori v95 v97
  let c1_i32_83 : BitVec 32 := 1#32
  let v100 : BitVec 32 := Scalar.shli c1_i32_83 v99
  let v101 : BitVec 32 := Scalar.ori v98 v100
  let c1_i32_85 : BitVec 32 := 1#32
  let v103 : BitVec 32 := Scalar.shli c1_i32_85 v102
  let v104 : BitVec 32 := Scalar.ori v101 v103
  let c1_i32_88 : BitVec 32 := 1#32
  let v106 : BitVec 32 := Scalar.shli c1_i32_88 v105
  let v107 : BitVec 32 := Scalar.ori v104 v106
  let c1_i32_90 : BitVec 32 := 1#32
  let v109 : BitVec 32 := Scalar.shli c1_i32_90 v108
  let v110 : BitVec 32 := Scalar.ori v107 v109
  let c1_i32_93 : BitVec 32 := 1#32
  let v112 : BitVec 32 := Scalar.shli c1_i32_93 v111
  let v113 : BitVec 32 := Scalar.ori v110 v112
  let c1_i32_95 : BitVec 32 := 1#32
  let v115 : BitVec 32 := Scalar.shli c1_i32_95 v114
  let v116 : BitVec 32 := Scalar.ori v113 v115
  let c1_i32_98 : BitVec 32 := 1#32
  let v118 : BitVec 32 := Scalar.shli c1_i32_98 v117
  let v119 : BitVec 32 := Scalar.ori v116 v118
  let c1_i32_100 : BitVec 32 := 1#32
  let v121 : BitVec 32 := Scalar.shli c1_i32_100 v120
  let v122 : BitVec 32 := Scalar.ori v119 v121
  let c1_i32_103 : BitVec 32 := 1#32
  let v124 : BitVec 32 := Scalar.shli c1_i32_103 v123
  let v125 : BitVec 32 := Scalar.ori v122 v124
  let c1_i32_105 : BitVec 32 := 1#32
  let v127 : BitVec 32 := Scalar.shli c1_i32_105 v126
  let v128 : BitVec 32 := Scalar.ori v125 v127
  let c1_i32_108 : BitVec 32 := 1#32
  let v130 : BitVec 32 := Scalar.shli c1_i32_108 v129
  let v131 : BitVec 32 := Scalar.ori v128 v130
  let c1_i32_110 : BitVec 32 := 1#32
  let v133 : BitVec 32 := Scalar.shli c1_i32_110 v132
  let v134 : BitVec 32 := Scalar.ori v131 v133
  let c1_i32_113 : BitVec 32 := 1#32
  let v136 : BitVec 32 := Scalar.shli c1_i32_113 v135
  let v137 : BitVec 32 := Scalar.ori v134 v136
  let c1_i32_115 : BitVec 32 := 1#32
  let v139 : BitVec 32 := Scalar.shli c1_i32_115 v138
  let v140 : BitVec 32 := Scalar.ori v137 v139
  let c1_i32_118 : BitVec 32 := 1#32
  let v142 : BitVec 32 := Scalar.shli c1_i32_118 v141
  let v143 : BitVec 32 := Scalar.ori v140 v142
  let c0_i32_121 : BitVec 32 := 0#32
  let v145 : BitVec 32 := Scalar.shrsi v143 c0_i32_121
  let c1_i32_122 : BitVec 32 := 1#32
  let v146 : BitVec 32 := Scalar.andi v145 c1_i32_122
  let v147 : BitVec 32 := Scalar.addi c0_i32_123 v146
  let c1_i32_125 : BitVec 32 := 1#32
  let v150 : BitVec 32 := Scalar.shrsi v143 c1_i32_125
  let c1_i32_126 : BitVec 32 := 1#32
  let v151 : BitVec 32 := Scalar.andi v150 c1_i32_126
  let v152 : BitVec 32 := Scalar.addi v147 v151
  let c2_i32_127 : BitVec 32 := 2#32
  let v155 : BitVec 32 := Scalar.shrsi v143 c2_i32_127
  let c1_i32_128 : BitVec 32 := 1#32
  let v156 : BitVec 32 := Scalar.andi v155 c1_i32_128
  let v157 : BitVec 32 := Scalar.addi v152 v156
  let c3_i32_129 : BitVec 32 := 3#32
  let v160 : BitVec 32 := Scalar.shrsi v143 c3_i32_129
  let c1_i32_130 : BitVec 32 := 1#32
  let v161 : BitVec 32 := Scalar.andi v160 c1_i32_130
  let v162 : BitVec 32 := Scalar.addi v157 v161
  let c4_i32_131 : BitVec 32 := 4#32
  let v165 : BitVec 32 := Scalar.shrsi v143 c4_i32_131
  let c1_i32_132 : BitVec 32 := 1#32
  let v166 : BitVec 32 := Scalar.andi v165 c1_i32_132
  let v167 : BitVec 32 := Scalar.addi v162 v166
  let c5_i32_133 : BitVec 32 := 5#32
  let v170 : BitVec 32 := Scalar.shrsi v143 c5_i32_133
  let c1_i32_134 : BitVec 32 := 1#32
  let v171 : BitVec 32 := Scalar.andi v170 c1_i32_134
  let v172 : BitVec 32 := Scalar.addi v167 v171
  let c6_i32_135 : BitVec 32 := 6#32
  let v175 : BitVec 32 := Scalar.shrsi v143 c6_i32_135
  let c1_i32_136 : BitVec 32 := 1#32
  let v176 : BitVec 32 := Scalar.andi v175 c1_i32_136
  let v177 : BitVec 32 := Scalar.addi v172 v176
  let c7_i32_137 : BitVec 32 := 7#32
  let v180 : BitVec 32 := Scalar.shrsi v143 c7_i32_137
  let c1_i32_138 : BitVec 32 := 1#32
  let v181 : BitVec 32 := Scalar.andi v180 c1_i32_138
  let v182 : BitVec 32 := Scalar.addi v177 v181
  let c8_i32_139 : BitVec 32 := 8#32
  let v185 : BitVec 32 := Scalar.shrsi v143 c8_i32_139
  let c1_i32_140 : BitVec 32 := 1#32
  let v186 : BitVec 32 := Scalar.andi v185 c1_i32_140
  let v187 : BitVec 32 := Scalar.addi v182 v186
  let c9_i32_141 : BitVec 32 := 9#32
  let v190 : BitVec 32 := Scalar.shrsi v143 c9_i32_141
  let c1_i32_142 : BitVec 32 := 1#32
  let v191 : BitVec 32 := Scalar.andi v190 c1_i32_142
  let v192 : BitVec 32 := Scalar.addi v187 v191
  let c10_i32_143 : BitVec 32 := 10#32
  let v195 : BitVec 32 := Scalar.shrsi v143 c10_i32_143
  let c1_i32_144 : BitVec 32 := 1#32
  let v196 : BitVec 32 := Scalar.andi v195 c1_i32_144
  let v197 : BitVec 32 := Scalar.addi v192 v196
  let c11_i32_145 : BitVec 32 := 11#32
  let v200 : BitVec 32 := Scalar.shrsi v143 c11_i32_145
  let c1_i32_146 : BitVec 32 := 1#32
  let v201 : BitVec 32 := Scalar.andi v200 c1_i32_146
  let v202 : BitVec 32 := Scalar.addi v197 v201
  let c12_i32_147 : BitVec 32 := 12#32
  let v205 : BitVec 32 := Scalar.shrsi v143 c12_i32_147
  let c1_i32_148 : BitVec 32 := 1#32
  let v206 : BitVec 32 := Scalar.andi v205 c1_i32_148
  let v207 : BitVec 32 := Scalar.addi v202 v206
  let c13_i32_149 : BitVec 32 := 13#32
  let v210 : BitVec 32 := Scalar.shrsi v143 c13_i32_149
  let c1_i32_150 : BitVec 32 := 1#32
  let v211 : BitVec 32 := Scalar.andi v210 c1_i32_150
  let v212 : BitVec 32 := Scalar.addi v207 v211
  let c14_i32_151 : BitVec 32 := 14#32
  let v215 : BitVec 32 := Scalar.shrsi v143 c14_i32_151
  let c1_i32_152 : BitVec 32 := 1#32
  let v216 : BitVec 32 := Scalar.andi v215 c1_i32_152
  let v217 : BitVec 32 := Scalar.addi v212 v216
  let c15_i32_153 : BitVec 32 := 15#32
  let v220 : BitVec 32 := Scalar.shrsi v143 c15_i32_153
  let c1_i32_154 : BitVec 32 := 1#32
  let v221 : BitVec 32 := Scalar.andi v220 c1_i32_154
  let v222 : BitVec 32 := Scalar.addi v217 v221
  let v272 : BitVec 32 := Scalar.subi v222 c0_i32_207
  let c1_i32_208 : BitVec 32 := 1#32
  let v274 : BitVec 32 := Scalar.divsi v272 c1_i32_208
  let v275 : BitVec 32 := Scalar.muli v274 c1_i32_208
  let v276 : BitVec 32 := Scalar.addi c0_i32_207 v275
  let c1_i32_210 : BitVec 32 := 1#32
  let arg17 : BitVec 32 := Scf.iv v276 c1_i32_210 k0_t2
  let v2647 : Index := Scalar.indexCast arg17
  ![v2647.toNat]
def k0_off109 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 2 → Nat :=
  let c0_i32_207 : BitVec 32 := 0#32
  let c0_i32_123 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_2 : BitVec 32 := 1#32
  let v4 : BitVec 32 := Scalar.shli c1_i32_2 v3
  let v5 : BitVec 32 := Scalar.ori v2 v4
  let c1_i32_5 : BitVec 32 := 1#32
  let v7 : BitVec 32 := Scalar.shli c1_i32_5 v6
  let v8 : BitVec 32 := Scalar.ori v5 v7
  let c1_i32_8 : BitVec 32 := 1#32
  let v10 : BitVec 32 := Scalar.shli c1_i32_8 v9
  let v11 : BitVec 32 := Scalar.ori v8 v10
  let c1_i32_10 : BitVec 32 := 1#32
  let v13 : BitVec 32 := Scalar.shli c1_i32_10 v12
  let v14 : BitVec 32 := Scalar.ori v11 v13
  let c1_i32_13 : BitVec 32 := 1#32
  let v16 : BitVec 32 := Scalar.shli c1_i32_13 v15
  let v17 : BitVec 32 := Scalar.ori v14 v16
  let c1_i32_15 : BitVec 32 := 1#32
  let v19 : BitVec 32 := Scalar.shli c1_i32_15 v18
  let v20 : BitVec 32 := Scalar.ori v17 v19
  let c1_i32_18 : BitVec 32 := 1#32
  let v22 : BitVec 32 := Scalar.shli c1_i32_18 v21
  let v23 : BitVec 32 := Scalar.ori v20 v22
  let c1_i32_20 : BitVec 32 := 1#32
  let v25 : BitVec 32 := Scalar.shli c1_i32_20 v24
  let v26 : BitVec 32 := Scalar.ori v23 v25
  let c1_i32_23 : BitVec 32 := 1#32
  let v28 : BitVec 32 := Scalar.shli c1_i32_23 v27
  let v29 : BitVec 32 := Scalar.ori v26 v28
  let c1_i32_25 : BitVec 32 := 1#32
  let v31 : BitVec 32 := Scalar.shli c1_i32_25 v30
  let v32 : BitVec 32 := Scalar.ori v29 v31
  let c1_i32_28 : BitVec 32 := 1#32
  let v34 : BitVec 32 := Scalar.shli c1_i32_28 v33
  let v35 : BitVec 32 := Scalar.ori v32 v34
  let c1_i32_30 : BitVec 32 := 1#32
  let v37 : BitVec 32 := Scalar.shli c1_i32_30 v36
  let v38 : BitVec 32 := Scalar.ori v35 v37
  let c1_i32_33 : BitVec 32 := 1#32
  let v40 : BitVec 32 := Scalar.shli c1_i32_33 v39
  let v41 : BitVec 32 := Scalar.ori v38 v40
  let c1_i32_35 : BitVec 32 := 1#32
  let v43 : BitVec 32 := Scalar.shli c1_i32_35 v42
  let v44 : BitVec 32 := Scalar.ori v41 v43
  let c1_i32_38 : BitVec 32 := 1#32
  let v46 : BitVec 32 := Scalar.shli c1_i32_38 v45
  let v47 : BitVec 32 := Scalar.ori v44 v46
  let c1_i32_40 : BitVec 32 := 1#32
  let v49 : BitVec 32 := Scalar.shli c1_i32_40 v48
  let v50 : BitVec 32 := Scalar.ori v47 v49
  let c1_i32_43 : BitVec 32 := 1#32
  let v52 : BitVec 32 := Scalar.shli c1_i32_43 v51
  let v53 : BitVec 32 := Scalar.ori v50 v52
  let c1_i32_45 : BitVec 32 := 1#32
  let v55 : BitVec 32 := Scalar.shli c1_i32_45 v54
  let v56 : BitVec 32 := Scalar.ori v53 v55
  let c1_i32_48 : BitVec 32 := 1#32
  let v58 : BitVec 32 := Scalar.shli c1_i32_48 v57
  let v59 : BitVec 32 := Scalar.ori v56 v58
  let c1_i32_50 : BitVec 32 := 1#32
  let v61 : BitVec 32 := Scalar.shli c1_i32_50 v60
  let v62 : BitVec 32 := Scalar.ori v59 v61
  let c1_i32_53 : BitVec 32 := 1#32
  let v64 : BitVec 32 := Scalar.shli c1_i32_53 v63
  let v65 : BitVec 32 := Scalar.ori v62 v64
  let c1_i32_55 : BitVec 32 := 1#32
  let v67 : BitVec 32 := Scalar.shli c1_i32_55 v66
  let v68 : BitVec 32 := Scalar.ori v65 v67
  let c1_i32_58 : BitVec 32 := 1#32
  let v70 : BitVec 32 := Scalar.shli c1_i32_58 v69
  let v71 : BitVec 32 := Scalar.ori v68 v70
  let c1_i32_60 : BitVec 32 := 1#32
  let v73 : BitVec 32 := Scalar.shli c1_i32_60 v72
  let v74 : BitVec 32 := Scalar.ori v71 v73
  let c1_i32_63 : BitVec 32 := 1#32
  let v76 : BitVec 32 := Scalar.shli c1_i32_63 v75
  let v77 : BitVec 32 := Scalar.ori v74 v76
  let c1_i32_65 : BitVec 32 := 1#32
  let v79 : BitVec 32 := Scalar.shli c1_i32_65 v78
  let v80 : BitVec 32 := Scalar.ori v77 v79
  let c1_i32_68 : BitVec 32 := 1#32
  let v82 : BitVec 32 := Scalar.shli c1_i32_68 v81
  let v83 : BitVec 32 := Scalar.ori v80 v82
  let c1_i32_70 : BitVec 32 := 1#32
  let v85 : BitVec 32 := Scalar.shli c1_i32_70 v84
  let v86 : BitVec 32 := Scalar.ori v83 v85
  let c1_i32_73 : BitVec 32 := 1#32
  let v88 : BitVec 32 := Scalar.shli c1_i32_73 v87
  let v89 : BitVec 32 := Scalar.ori v86 v88
  let c1_i32_75 : BitVec 32 := 1#32
  let v91 : BitVec 32 := Scalar.shli c1_i32_75 v90
  let v92 : BitVec 32 := Scalar.ori v89 v91
  let c1_i32_78 : BitVec 32 := 1#32
  let v94 : BitVec 32 := Scalar.shli c1_i32_78 v93
  let v95 : BitVec 32 := Scalar.ori v92 v94
  let c1_i32_80 : BitVec 32 := 1#32
  let v97 : BitVec 32 := Scalar.shli c1_i32_80 v96
  let v98 : BitVec 32 := Scalar.ori v95 v97
  let c1_i32_83 : BitVec 32 := 1#32
  let v100 : BitVec 32 := Scalar.shli c1_i32_83 v99
  let v101 : BitVec 32 := Scalar.ori v98 v100
  let c1_i32_85 : BitVec 32 := 1#32
  let v103 : BitVec 32 := Scalar.shli c1_i32_85 v102
  let v104 : BitVec 32 := Scalar.ori v101 v103
  let c1_i32_88 : BitVec 32 := 1#32
  let v106 : BitVec 32 := Scalar.shli c1_i32_88 v105
  let v107 : BitVec 32 := Scalar.ori v104 v106
  let c1_i32_90 : BitVec 32 := 1#32
  let v109 : BitVec 32 := Scalar.shli c1_i32_90 v108
  let v110 : BitVec 32 := Scalar.ori v107 v109
  let c1_i32_93 : BitVec 32 := 1#32
  let v112 : BitVec 32 := Scalar.shli c1_i32_93 v111
  let v113 : BitVec 32 := Scalar.ori v110 v112
  let c1_i32_95 : BitVec 32 := 1#32
  let v115 : BitVec 32 := Scalar.shli c1_i32_95 v114
  let v116 : BitVec 32 := Scalar.ori v113 v115
  let c1_i32_98 : BitVec 32 := 1#32
  let v118 : BitVec 32 := Scalar.shli c1_i32_98 v117
  let v119 : BitVec 32 := Scalar.ori v116 v118
  let c1_i32_100 : BitVec 32 := 1#32
  let v121 : BitVec 32 := Scalar.shli c1_i32_100 v120
  let v122 : BitVec 32 := Scalar.ori v119 v121
  let c1_i32_103 : BitVec 32 := 1#32
  let v124 : BitVec 32 := Scalar.shli c1_i32_103 v123
  let v125 : BitVec 32 := Scalar.ori v122 v124
  let c1_i32_105 : BitVec 32 := 1#32
  let v127 : BitVec 32 := Scalar.shli c1_i32_105 v126
  let v128 : BitVec 32 := Scalar.ori v125 v127
  let c1_i32_108 : BitVec 32 := 1#32
  let v130 : BitVec 32 := Scalar.shli c1_i32_108 v129
  let v131 : BitVec 32 := Scalar.ori v128 v130
  let c1_i32_110 : BitVec 32 := 1#32
  let v133 : BitVec 32 := Scalar.shli c1_i32_110 v132
  let v134 : BitVec 32 := Scalar.ori v131 v133
  let c1_i32_113 : BitVec 32 := 1#32
  let v136 : BitVec 32 := Scalar.shli c1_i32_113 v135
  let v137 : BitVec 32 := Scalar.ori v134 v136
  let c1_i32_115 : BitVec 32 := 1#32
  let v139 : BitVec 32 := Scalar.shli c1_i32_115 v138
  let v140 : BitVec 32 := Scalar.ori v137 v139
  let c1_i32_118 : BitVec 32 := 1#32
  let v142 : BitVec 32 := Scalar.shli c1_i32_118 v141
  let v143 : BitVec 32 := Scalar.ori v140 v142
  let c0_i32_121 : BitVec 32 := 0#32
  let v145 : BitVec 32 := Scalar.shrsi v143 c0_i32_121
  let c1_i32_122 : BitVec 32 := 1#32
  let v146 : BitVec 32 := Scalar.andi v145 c1_i32_122
  let v147 : BitVec 32 := Scalar.addi c0_i32_123 v146
  let c1_i32_125 : BitVec 32 := 1#32
  let v150 : BitVec 32 := Scalar.shrsi v143 c1_i32_125
  let c1_i32_126 : BitVec 32 := 1#32
  let v151 : BitVec 32 := Scalar.andi v150 c1_i32_126
  let v152 : BitVec 32 := Scalar.addi v147 v151
  let c2_i32_127 : BitVec 32 := 2#32
  let v155 : BitVec 32 := Scalar.shrsi v143 c2_i32_127
  let c1_i32_128 : BitVec 32 := 1#32
  let v156 : BitVec 32 := Scalar.andi v155 c1_i32_128
  let v157 : BitVec 32 := Scalar.addi v152 v156
  let c3_i32_129 : BitVec 32 := 3#32
  let v160 : BitVec 32 := Scalar.shrsi v143 c3_i32_129
  let c1_i32_130 : BitVec 32 := 1#32
  let v161 : BitVec 32 := Scalar.andi v160 c1_i32_130
  let v162 : BitVec 32 := Scalar.addi v157 v161
  let c4_i32_131 : BitVec 32 := 4#32
  let v165 : BitVec 32 := Scalar.shrsi v143 c4_i32_131
  let c1_i32_132 : BitVec 32 := 1#32
  let v166 : BitVec 32 := Scalar.andi v165 c1_i32_132
  let v167 : BitVec 32 := Scalar.addi v162 v166
  let c5_i32_133 : BitVec 32 := 5#32
  let v170 : BitVec 32 := Scalar.shrsi v143 c5_i32_133
  let c1_i32_134 : BitVec 32 := 1#32
  let v171 : BitVec 32 := Scalar.andi v170 c1_i32_134
  let v172 : BitVec 32 := Scalar.addi v167 v171
  let c6_i32_135 : BitVec 32 := 6#32
  let v175 : BitVec 32 := Scalar.shrsi v143 c6_i32_135
  let c1_i32_136 : BitVec 32 := 1#32
  let v176 : BitVec 32 := Scalar.andi v175 c1_i32_136
  let v177 : BitVec 32 := Scalar.addi v172 v176
  let c7_i32_137 : BitVec 32 := 7#32
  let v180 : BitVec 32 := Scalar.shrsi v143 c7_i32_137
  let c1_i32_138 : BitVec 32 := 1#32
  let v181 : BitVec 32 := Scalar.andi v180 c1_i32_138
  let v182 : BitVec 32 := Scalar.addi v177 v181
  let c8_i32_139 : BitVec 32 := 8#32
  let v185 : BitVec 32 := Scalar.shrsi v143 c8_i32_139
  let c1_i32_140 : BitVec 32 := 1#32
  let v186 : BitVec 32 := Scalar.andi v185 c1_i32_140
  let v187 : BitVec 32 := Scalar.addi v182 v186
  let c9_i32_141 : BitVec 32 := 9#32
  let v190 : BitVec 32 := Scalar.shrsi v143 c9_i32_141
  let c1_i32_142 : BitVec 32 := 1#32
  let v191 : BitVec 32 := Scalar.andi v190 c1_i32_142
  let v192 : BitVec 32 := Scalar.addi v187 v191
  let c10_i32_143 : BitVec 32 := 10#32
  let v195 : BitVec 32 := Scalar.shrsi v143 c10_i32_143
  let c1_i32_144 : BitVec 32 := 1#32
  let v196 : BitVec 32 := Scalar.andi v195 c1_i32_144
  let v197 : BitVec 32 := Scalar.addi v192 v196
  let c11_i32_145 : BitVec 32 := 11#32
  let v200 : BitVec 32 := Scalar.shrsi v143 c11_i32_145
  let c1_i32_146 : BitVec 32 := 1#32
  let v201 : BitVec 32 := Scalar.andi v200 c1_i32_146
  let v202 : BitVec 32 := Scalar.addi v197 v201
  let c12_i32_147 : BitVec 32 := 12#32
  let v205 : BitVec 32 := Scalar.shrsi v143 c12_i32_147
  let c1_i32_148 : BitVec 32 := 1#32
  let v206 : BitVec 32 := Scalar.andi v205 c1_i32_148
  let v207 : BitVec 32 := Scalar.addi v202 v206
  let c13_i32_149 : BitVec 32 := 13#32
  let v210 : BitVec 32 := Scalar.shrsi v143 c13_i32_149
  let c1_i32_150 : BitVec 32 := 1#32
  let v211 : BitVec 32 := Scalar.andi v210 c1_i32_150
  let v212 : BitVec 32 := Scalar.addi v207 v211
  let c14_i32_151 : BitVec 32 := 14#32
  let v215 : BitVec 32 := Scalar.shrsi v143 c14_i32_151
  let c1_i32_152 : BitVec 32 := 1#32
  let v216 : BitVec 32 := Scalar.andi v215 c1_i32_152
  let v217 : BitVec 32 := Scalar.addi v212 v216
  let c15_i32_153 : BitVec 32 := 15#32
  let v220 : BitVec 32 := Scalar.shrsi v143 c15_i32_153
  let c1_i32_154 : BitVec 32 := 1#32
  let v221 : BitVec 32 := Scalar.andi v220 c1_i32_154
  let v222 : BitVec 32 := Scalar.addi v217 v221
  let v272 : BitVec 32 := Scalar.subi v222 c0_i32_207
  let c1_i32_208 : BitVec 32 := 1#32
  let v274 : BitVec 32 := Scalar.divsi v272 c1_i32_208
  let v275 : BitVec 32 := Scalar.muli v274 c1_i32_208
  let v276 : BitVec 32 := Scalar.addi c0_i32_207 v275
  let c1_i32_210 : BitVec 32 := 1#32
  let arg17 : BitVec 32 := Scf.iv v276 c1_i32_210 k0_t2
  let c2_i32_215 : BitVec 32 := 2#32
  let v280 : BitVec 32 := Scalar.remsi arg17 c2_i32_215
  let c1_i32_1191 : BitVec 32 := 1#32
  ![v280.toNat, 1]
def k0_off110 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 3 → Nat :=
  let c0_i32_207 : BitVec 32 := 0#32
  let c0_i32_123 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_2 : BitVec 32 := 1#32
  let v4 : BitVec 32 := Scalar.shli c1_i32_2 v3
  let v5 : BitVec 32 := Scalar.ori v2 v4
  let c1_i32_5 : BitVec 32 := 1#32
  let v7 : BitVec 32 := Scalar.shli c1_i32_5 v6
  let v8 : BitVec 32 := Scalar.ori v5 v7
  let c1_i32_8 : BitVec 32 := 1#32
  let v10 : BitVec 32 := Scalar.shli c1_i32_8 v9
  let v11 : BitVec 32 := Scalar.ori v8 v10
  let c1_i32_10 : BitVec 32 := 1#32
  let v13 : BitVec 32 := Scalar.shli c1_i32_10 v12
  let v14 : BitVec 32 := Scalar.ori v11 v13
  let c1_i32_13 : BitVec 32 := 1#32
  let v16 : BitVec 32 := Scalar.shli c1_i32_13 v15
  let v17 : BitVec 32 := Scalar.ori v14 v16
  let c1_i32_15 : BitVec 32 := 1#32
  let v19 : BitVec 32 := Scalar.shli c1_i32_15 v18
  let v20 : BitVec 32 := Scalar.ori v17 v19
  let c1_i32_18 : BitVec 32 := 1#32
  let v22 : BitVec 32 := Scalar.shli c1_i32_18 v21
  let v23 : BitVec 32 := Scalar.ori v20 v22
  let c1_i32_20 : BitVec 32 := 1#32
  let v25 : BitVec 32 := Scalar.shli c1_i32_20 v24
  let v26 : BitVec 32 := Scalar.ori v23 v25
  let c1_i32_23 : BitVec 32 := 1#32
  let v28 : BitVec 32 := Scalar.shli c1_i32_23 v27
  let v29 : BitVec 32 := Scalar.ori v26 v28
  let c1_i32_25 : BitVec 32 := 1#32
  let v31 : BitVec 32 := Scalar.shli c1_i32_25 v30
  let v32 : BitVec 32 := Scalar.ori v29 v31
  let c1_i32_28 : BitVec 32 := 1#32
  let v34 : BitVec 32 := Scalar.shli c1_i32_28 v33
  let v35 : BitVec 32 := Scalar.ori v32 v34
  let c1_i32_30 : BitVec 32 := 1#32
  let v37 : BitVec 32 := Scalar.shli c1_i32_30 v36
  let v38 : BitVec 32 := Scalar.ori v35 v37
  let c1_i32_33 : BitVec 32 := 1#32
  let v40 : BitVec 32 := Scalar.shli c1_i32_33 v39
  let v41 : BitVec 32 := Scalar.ori v38 v40
  let c1_i32_35 : BitVec 32 := 1#32
  let v43 : BitVec 32 := Scalar.shli c1_i32_35 v42
  let v44 : BitVec 32 := Scalar.ori v41 v43
  let c1_i32_38 : BitVec 32 := 1#32
  let v46 : BitVec 32 := Scalar.shli c1_i32_38 v45
  let v47 : BitVec 32 := Scalar.ori v44 v46
  let c1_i32_40 : BitVec 32 := 1#32
  let v49 : BitVec 32 := Scalar.shli c1_i32_40 v48
  let v50 : BitVec 32 := Scalar.ori v47 v49
  let c1_i32_43 : BitVec 32 := 1#32
  let v52 : BitVec 32 := Scalar.shli c1_i32_43 v51
  let v53 : BitVec 32 := Scalar.ori v50 v52
  let c1_i32_45 : BitVec 32 := 1#32
  let v55 : BitVec 32 := Scalar.shli c1_i32_45 v54
  let v56 : BitVec 32 := Scalar.ori v53 v55
  let c1_i32_48 : BitVec 32 := 1#32
  let v58 : BitVec 32 := Scalar.shli c1_i32_48 v57
  let v59 : BitVec 32 := Scalar.ori v56 v58
  let c1_i32_50 : BitVec 32 := 1#32
  let v61 : BitVec 32 := Scalar.shli c1_i32_50 v60
  let v62 : BitVec 32 := Scalar.ori v59 v61
  let c1_i32_53 : BitVec 32 := 1#32
  let v64 : BitVec 32 := Scalar.shli c1_i32_53 v63
  let v65 : BitVec 32 := Scalar.ori v62 v64
  let c1_i32_55 : BitVec 32 := 1#32
  let v67 : BitVec 32 := Scalar.shli c1_i32_55 v66
  let v68 : BitVec 32 := Scalar.ori v65 v67
  let c1_i32_58 : BitVec 32 := 1#32
  let v70 : BitVec 32 := Scalar.shli c1_i32_58 v69
  let v71 : BitVec 32 := Scalar.ori v68 v70
  let c1_i32_60 : BitVec 32 := 1#32
  let v73 : BitVec 32 := Scalar.shli c1_i32_60 v72
  let v74 : BitVec 32 := Scalar.ori v71 v73
  let c1_i32_63 : BitVec 32 := 1#32
  let v76 : BitVec 32 := Scalar.shli c1_i32_63 v75
  let v77 : BitVec 32 := Scalar.ori v74 v76
  let c1_i32_65 : BitVec 32 := 1#32
  let v79 : BitVec 32 := Scalar.shli c1_i32_65 v78
  let v80 : BitVec 32 := Scalar.ori v77 v79
  let c1_i32_68 : BitVec 32 := 1#32
  let v82 : BitVec 32 := Scalar.shli c1_i32_68 v81
  let v83 : BitVec 32 := Scalar.ori v80 v82
  let c1_i32_70 : BitVec 32 := 1#32
  let v85 : BitVec 32 := Scalar.shli c1_i32_70 v84
  let v86 : BitVec 32 := Scalar.ori v83 v85
  let c1_i32_73 : BitVec 32 := 1#32
  let v88 : BitVec 32 := Scalar.shli c1_i32_73 v87
  let v89 : BitVec 32 := Scalar.ori v86 v88
  let c1_i32_75 : BitVec 32 := 1#32
  let v91 : BitVec 32 := Scalar.shli c1_i32_75 v90
  let v92 : BitVec 32 := Scalar.ori v89 v91
  let c1_i32_78 : BitVec 32 := 1#32
  let v94 : BitVec 32 := Scalar.shli c1_i32_78 v93
  let v95 : BitVec 32 := Scalar.ori v92 v94
  let c1_i32_80 : BitVec 32 := 1#32
  let v97 : BitVec 32 := Scalar.shli c1_i32_80 v96
  let v98 : BitVec 32 := Scalar.ori v95 v97
  let c1_i32_83 : BitVec 32 := 1#32
  let v100 : BitVec 32 := Scalar.shli c1_i32_83 v99
  let v101 : BitVec 32 := Scalar.ori v98 v100
  let c1_i32_85 : BitVec 32 := 1#32
  let v103 : BitVec 32 := Scalar.shli c1_i32_85 v102
  let v104 : BitVec 32 := Scalar.ori v101 v103
  let c1_i32_88 : BitVec 32 := 1#32
  let v106 : BitVec 32 := Scalar.shli c1_i32_88 v105
  let v107 : BitVec 32 := Scalar.ori v104 v106
  let c1_i32_90 : BitVec 32 := 1#32
  let v109 : BitVec 32 := Scalar.shli c1_i32_90 v108
  let v110 : BitVec 32 := Scalar.ori v107 v109
  let c1_i32_93 : BitVec 32 := 1#32
  let v112 : BitVec 32 := Scalar.shli c1_i32_93 v111
  let v113 : BitVec 32 := Scalar.ori v110 v112
  let c1_i32_95 : BitVec 32 := 1#32
  let v115 : BitVec 32 := Scalar.shli c1_i32_95 v114
  let v116 : BitVec 32 := Scalar.ori v113 v115
  let c1_i32_98 : BitVec 32 := 1#32
  let v118 : BitVec 32 := Scalar.shli c1_i32_98 v117
  let v119 : BitVec 32 := Scalar.ori v116 v118
  let c1_i32_100 : BitVec 32 := 1#32
  let v121 : BitVec 32 := Scalar.shli c1_i32_100 v120
  let v122 : BitVec 32 := Scalar.ori v119 v121
  let c1_i32_103 : BitVec 32 := 1#32
  let v124 : BitVec 32 := Scalar.shli c1_i32_103 v123
  let v125 : BitVec 32 := Scalar.ori v122 v124
  let c1_i32_105 : BitVec 32 := 1#32
  let v127 : BitVec 32 := Scalar.shli c1_i32_105 v126
  let v128 : BitVec 32 := Scalar.ori v125 v127
  let c1_i32_108 : BitVec 32 := 1#32
  let v130 : BitVec 32 := Scalar.shli c1_i32_108 v129
  let v131 : BitVec 32 := Scalar.ori v128 v130
  let c1_i32_110 : BitVec 32 := 1#32
  let v133 : BitVec 32 := Scalar.shli c1_i32_110 v132
  let v134 : BitVec 32 := Scalar.ori v131 v133
  let c1_i32_113 : BitVec 32 := 1#32
  let v136 : BitVec 32 := Scalar.shli c1_i32_113 v135
  let v137 : BitVec 32 := Scalar.ori v134 v136
  let c1_i32_115 : BitVec 32 := 1#32
  let v139 : BitVec 32 := Scalar.shli c1_i32_115 v138
  let v140 : BitVec 32 := Scalar.ori v137 v139
  let c1_i32_118 : BitVec 32 := 1#32
  let v142 : BitVec 32 := Scalar.shli c1_i32_118 v141
  let v143 : BitVec 32 := Scalar.ori v140 v142
  let c0_i32_121 : BitVec 32 := 0#32
  let v145 : BitVec 32 := Scalar.shrsi v143 c0_i32_121
  let c1_i32_122 : BitVec 32 := 1#32
  let v146 : BitVec 32 := Scalar.andi v145 c1_i32_122
  let v147 : BitVec 32 := Scalar.addi c0_i32_123 v146
  let c1_i32_125 : BitVec 32 := 1#32
  let v150 : BitVec 32 := Scalar.shrsi v143 c1_i32_125
  let c1_i32_126 : BitVec 32 := 1#32
  let v151 : BitVec 32 := Scalar.andi v150 c1_i32_126
  let v152 : BitVec 32 := Scalar.addi v147 v151
  let c2_i32_127 : BitVec 32 := 2#32
  let v155 : BitVec 32 := Scalar.shrsi v143 c2_i32_127
  let c1_i32_128 : BitVec 32 := 1#32
  let v156 : BitVec 32 := Scalar.andi v155 c1_i32_128
  let v157 : BitVec 32 := Scalar.addi v152 v156
  let c3_i32_129 : BitVec 32 := 3#32
  let v160 : BitVec 32 := Scalar.shrsi v143 c3_i32_129
  let c1_i32_130 : BitVec 32 := 1#32
  let v161 : BitVec 32 := Scalar.andi v160 c1_i32_130
  let v162 : BitVec 32 := Scalar.addi v157 v161
  let c4_i32_131 : BitVec 32 := 4#32
  let v165 : BitVec 32 := Scalar.shrsi v143 c4_i32_131
  let c1_i32_132 : BitVec 32 := 1#32
  let v166 : BitVec 32 := Scalar.andi v165 c1_i32_132
  let v167 : BitVec 32 := Scalar.addi v162 v166
  let c5_i32_133 : BitVec 32 := 5#32
  let v170 : BitVec 32 := Scalar.shrsi v143 c5_i32_133
  let c1_i32_134 : BitVec 32 := 1#32
  let v171 : BitVec 32 := Scalar.andi v170 c1_i32_134
  let v172 : BitVec 32 := Scalar.addi v167 v171
  let c6_i32_135 : BitVec 32 := 6#32
  let v175 : BitVec 32 := Scalar.shrsi v143 c6_i32_135
  let c1_i32_136 : BitVec 32 := 1#32
  let v176 : BitVec 32 := Scalar.andi v175 c1_i32_136
  let v177 : BitVec 32 := Scalar.addi v172 v176
  let c7_i32_137 : BitVec 32 := 7#32
  let v180 : BitVec 32 := Scalar.shrsi v143 c7_i32_137
  let c1_i32_138 : BitVec 32 := 1#32
  let v181 : BitVec 32 := Scalar.andi v180 c1_i32_138
  let v182 : BitVec 32 := Scalar.addi v177 v181
  let c8_i32_139 : BitVec 32 := 8#32
  let v185 : BitVec 32 := Scalar.shrsi v143 c8_i32_139
  let c1_i32_140 : BitVec 32 := 1#32
  let v186 : BitVec 32 := Scalar.andi v185 c1_i32_140
  let v187 : BitVec 32 := Scalar.addi v182 v186
  let c9_i32_141 : BitVec 32 := 9#32
  let v190 : BitVec 32 := Scalar.shrsi v143 c9_i32_141
  let c1_i32_142 : BitVec 32 := 1#32
  let v191 : BitVec 32 := Scalar.andi v190 c1_i32_142
  let v192 : BitVec 32 := Scalar.addi v187 v191
  let c10_i32_143 : BitVec 32 := 10#32
  let v195 : BitVec 32 := Scalar.shrsi v143 c10_i32_143
  let c1_i32_144 : BitVec 32 := 1#32
  let v196 : BitVec 32 := Scalar.andi v195 c1_i32_144
  let v197 : BitVec 32 := Scalar.addi v192 v196
  let c11_i32_145 : BitVec 32 := 11#32
  let v200 : BitVec 32 := Scalar.shrsi v143 c11_i32_145
  let c1_i32_146 : BitVec 32 := 1#32
  let v201 : BitVec 32 := Scalar.andi v200 c1_i32_146
  let v202 : BitVec 32 := Scalar.addi v197 v201
  let c12_i32_147 : BitVec 32 := 12#32
  let v205 : BitVec 32 := Scalar.shrsi v143 c12_i32_147
  let c1_i32_148 : BitVec 32 := 1#32
  let v206 : BitVec 32 := Scalar.andi v205 c1_i32_148
  let v207 : BitVec 32 := Scalar.addi v202 v206
  let c13_i32_149 : BitVec 32 := 13#32
  let v210 : BitVec 32 := Scalar.shrsi v143 c13_i32_149
  let c1_i32_150 : BitVec 32 := 1#32
  let v211 : BitVec 32 := Scalar.andi v210 c1_i32_150
  let v212 : BitVec 32 := Scalar.addi v207 v211
  let c14_i32_151 : BitVec 32 := 14#32
  let v215 : BitVec 32 := Scalar.shrsi v143 c14_i32_151
  let c1_i32_152 : BitVec 32 := 1#32
  let v216 : BitVec 32 := Scalar.andi v215 c1_i32_152
  let v217 : BitVec 32 := Scalar.addi v212 v216
  let c15_i32_153 : BitVec 32 := 15#32
  let v220 : BitVec 32 := Scalar.shrsi v143 c15_i32_153
  let c1_i32_154 : BitVec 32 := 1#32
  let v221 : BitVec 32 := Scalar.andi v220 c1_i32_154
  let v222 : BitVec 32 := Scalar.addi v217 v221
  let v272 : BitVec 32 := Scalar.subi v222 c0_i32_207
  let c1_i32_208 : BitVec 32 := 1#32
  let v274 : BitVec 32 := Scalar.divsi v272 c1_i32_208
  let v275 : BitVec 32 := Scalar.muli v274 c1_i32_208
  let v276 : BitVec 32 := Scalar.addi c0_i32_207 v275
  let c1_i32_210 : BitVec 32 := 1#32
  let arg17 : BitVec 32 := Scf.iv v276 c1_i32_210 k0_t2
  let c2_i32_215 : BitVec 32 := 2#32
  let v280 : BitVec 32 := Scalar.remsi arg17 c2_i32_215
  let c1024_i32_1192 : BitVec 32 := 1024#32
  let c0_i32_1193 : BitVec 32 := 0#32
  ![v280.toNat, 1024, 0]
def k0_off111 (v2648 : BitVec 32) : Fin 3 → Nat :=
  let c1024_i32_1194 : BitVec 32 := 1024#32
  let c0_i32_1195 : BitVec 32 := 0#32
  ![v2648.toNat, 1024, 0]

def k0_off112 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 2 → Nat :=
  let c0_i32_207 : BitVec 32 := 0#32
  let c0_i32_123 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_2 : BitVec 32 := 1#32
  let v4 : BitVec 32 := Scalar.shli c1_i32_2 v3
  let v5 : BitVec 32 := Scalar.ori v2 v4
  let c1_i32_5 : BitVec 32 := 1#32
  let v7 : BitVec 32 := Scalar.shli c1_i32_5 v6
  let v8 : BitVec 32 := Scalar.ori v5 v7
  let c1_i32_8 : BitVec 32 := 1#32
  let v10 : BitVec 32 := Scalar.shli c1_i32_8 v9
  let v11 : BitVec 32 := Scalar.ori v8 v10
  let c1_i32_10 : BitVec 32 := 1#32
  let v13 : BitVec 32 := Scalar.shli c1_i32_10 v12
  let v14 : BitVec 32 := Scalar.ori v11 v13
  let c1_i32_13 : BitVec 32 := 1#32
  let v16 : BitVec 32 := Scalar.shli c1_i32_13 v15
  let v17 : BitVec 32 := Scalar.ori v14 v16
  let c1_i32_15 : BitVec 32 := 1#32
  let v19 : BitVec 32 := Scalar.shli c1_i32_15 v18
  let v20 : BitVec 32 := Scalar.ori v17 v19
  let c1_i32_18 : BitVec 32 := 1#32
  let v22 : BitVec 32 := Scalar.shli c1_i32_18 v21
  let v23 : BitVec 32 := Scalar.ori v20 v22
  let c1_i32_20 : BitVec 32 := 1#32
  let v25 : BitVec 32 := Scalar.shli c1_i32_20 v24
  let v26 : BitVec 32 := Scalar.ori v23 v25
  let c1_i32_23 : BitVec 32 := 1#32
  let v28 : BitVec 32 := Scalar.shli c1_i32_23 v27
  let v29 : BitVec 32 := Scalar.ori v26 v28
  let c1_i32_25 : BitVec 32 := 1#32
  let v31 : BitVec 32 := Scalar.shli c1_i32_25 v30
  let v32 : BitVec 32 := Scalar.ori v29 v31
  let c1_i32_28 : BitVec 32 := 1#32
  let v34 : BitVec 32 := Scalar.shli c1_i32_28 v33
  let v35 : BitVec 32 := Scalar.ori v32 v34
  let c1_i32_30 : BitVec 32 := 1#32
  let v37 : BitVec 32 := Scalar.shli c1_i32_30 v36
  let v38 : BitVec 32 := Scalar.ori v35 v37
  let c1_i32_33 : BitVec 32 := 1#32
  let v40 : BitVec 32 := Scalar.shli c1_i32_33 v39
  let v41 : BitVec 32 := Scalar.ori v38 v40
  let c1_i32_35 : BitVec 32 := 1#32
  let v43 : BitVec 32 := Scalar.shli c1_i32_35 v42
  let v44 : BitVec 32 := Scalar.ori v41 v43
  let c1_i32_38 : BitVec 32 := 1#32
  let v46 : BitVec 32 := Scalar.shli c1_i32_38 v45
  let v47 : BitVec 32 := Scalar.ori v44 v46
  let c1_i32_40 : BitVec 32 := 1#32
  let v49 : BitVec 32 := Scalar.shli c1_i32_40 v48
  let v50 : BitVec 32 := Scalar.ori v47 v49
  let c1_i32_43 : BitVec 32 := 1#32
  let v52 : BitVec 32 := Scalar.shli c1_i32_43 v51
  let v53 : BitVec 32 := Scalar.ori v50 v52
  let c1_i32_45 : BitVec 32 := 1#32
  let v55 : BitVec 32 := Scalar.shli c1_i32_45 v54
  let v56 : BitVec 32 := Scalar.ori v53 v55
  let c1_i32_48 : BitVec 32 := 1#32
  let v58 : BitVec 32 := Scalar.shli c1_i32_48 v57
  let v59 : BitVec 32 := Scalar.ori v56 v58
  let c1_i32_50 : BitVec 32 := 1#32
  let v61 : BitVec 32 := Scalar.shli c1_i32_50 v60
  let v62 : BitVec 32 := Scalar.ori v59 v61
  let c1_i32_53 : BitVec 32 := 1#32
  let v64 : BitVec 32 := Scalar.shli c1_i32_53 v63
  let v65 : BitVec 32 := Scalar.ori v62 v64
  let c1_i32_55 : BitVec 32 := 1#32
  let v67 : BitVec 32 := Scalar.shli c1_i32_55 v66
  let v68 : BitVec 32 := Scalar.ori v65 v67
  let c1_i32_58 : BitVec 32 := 1#32
  let v70 : BitVec 32 := Scalar.shli c1_i32_58 v69
  let v71 : BitVec 32 := Scalar.ori v68 v70
  let c1_i32_60 : BitVec 32 := 1#32
  let v73 : BitVec 32 := Scalar.shli c1_i32_60 v72
  let v74 : BitVec 32 := Scalar.ori v71 v73
  let c1_i32_63 : BitVec 32 := 1#32
  let v76 : BitVec 32 := Scalar.shli c1_i32_63 v75
  let v77 : BitVec 32 := Scalar.ori v74 v76
  let c1_i32_65 : BitVec 32 := 1#32
  let v79 : BitVec 32 := Scalar.shli c1_i32_65 v78
  let v80 : BitVec 32 := Scalar.ori v77 v79
  let c1_i32_68 : BitVec 32 := 1#32
  let v82 : BitVec 32 := Scalar.shli c1_i32_68 v81
  let v83 : BitVec 32 := Scalar.ori v80 v82
  let c1_i32_70 : BitVec 32 := 1#32
  let v85 : BitVec 32 := Scalar.shli c1_i32_70 v84
  let v86 : BitVec 32 := Scalar.ori v83 v85
  let c1_i32_73 : BitVec 32 := 1#32
  let v88 : BitVec 32 := Scalar.shli c1_i32_73 v87
  let v89 : BitVec 32 := Scalar.ori v86 v88
  let c1_i32_75 : BitVec 32 := 1#32
  let v91 : BitVec 32 := Scalar.shli c1_i32_75 v90
  let v92 : BitVec 32 := Scalar.ori v89 v91
  let c1_i32_78 : BitVec 32 := 1#32
  let v94 : BitVec 32 := Scalar.shli c1_i32_78 v93
  let v95 : BitVec 32 := Scalar.ori v92 v94
  let c1_i32_80 : BitVec 32 := 1#32
  let v97 : BitVec 32 := Scalar.shli c1_i32_80 v96
  let v98 : BitVec 32 := Scalar.ori v95 v97
  let c1_i32_83 : BitVec 32 := 1#32
  let v100 : BitVec 32 := Scalar.shli c1_i32_83 v99
  let v101 : BitVec 32 := Scalar.ori v98 v100
  let c1_i32_85 : BitVec 32 := 1#32
  let v103 : BitVec 32 := Scalar.shli c1_i32_85 v102
  let v104 : BitVec 32 := Scalar.ori v101 v103
  let c1_i32_88 : BitVec 32 := 1#32
  let v106 : BitVec 32 := Scalar.shli c1_i32_88 v105
  let v107 : BitVec 32 := Scalar.ori v104 v106
  let c1_i32_90 : BitVec 32 := 1#32
  let v109 : BitVec 32 := Scalar.shli c1_i32_90 v108
  let v110 : BitVec 32 := Scalar.ori v107 v109
  let c1_i32_93 : BitVec 32 := 1#32
  let v112 : BitVec 32 := Scalar.shli c1_i32_93 v111
  let v113 : BitVec 32 := Scalar.ori v110 v112
  let c1_i32_95 : BitVec 32 := 1#32
  let v115 : BitVec 32 := Scalar.shli c1_i32_95 v114
  let v116 : BitVec 32 := Scalar.ori v113 v115
  let c1_i32_98 : BitVec 32 := 1#32
  let v118 : BitVec 32 := Scalar.shli c1_i32_98 v117
  let v119 : BitVec 32 := Scalar.ori v116 v118
  let c1_i32_100 : BitVec 32 := 1#32
  let v121 : BitVec 32 := Scalar.shli c1_i32_100 v120
  let v122 : BitVec 32 := Scalar.ori v119 v121
  let c1_i32_103 : BitVec 32 := 1#32
  let v124 : BitVec 32 := Scalar.shli c1_i32_103 v123
  let v125 : BitVec 32 := Scalar.ori v122 v124
  let c1_i32_105 : BitVec 32 := 1#32
  let v127 : BitVec 32 := Scalar.shli c1_i32_105 v126
  let v128 : BitVec 32 := Scalar.ori v125 v127
  let c1_i32_108 : BitVec 32 := 1#32
  let v130 : BitVec 32 := Scalar.shli c1_i32_108 v129
  let v131 : BitVec 32 := Scalar.ori v128 v130
  let c1_i32_110 : BitVec 32 := 1#32
  let v133 : BitVec 32 := Scalar.shli c1_i32_110 v132
  let v134 : BitVec 32 := Scalar.ori v131 v133
  let c1_i32_113 : BitVec 32 := 1#32
  let v136 : BitVec 32 := Scalar.shli c1_i32_113 v135
  let v137 : BitVec 32 := Scalar.ori v134 v136
  let c1_i32_115 : BitVec 32 := 1#32
  let v139 : BitVec 32 := Scalar.shli c1_i32_115 v138
  let v140 : BitVec 32 := Scalar.ori v137 v139
  let c1_i32_118 : BitVec 32 := 1#32
  let v142 : BitVec 32 := Scalar.shli c1_i32_118 v141
  let v143 : BitVec 32 := Scalar.ori v140 v142
  let c0_i32_121 : BitVec 32 := 0#32
  let v145 : BitVec 32 := Scalar.shrsi v143 c0_i32_121
  let c1_i32_122 : BitVec 32 := 1#32
  let v146 : BitVec 32 := Scalar.andi v145 c1_i32_122
  let v147 : BitVec 32 := Scalar.addi c0_i32_123 v146
  let c1_i32_125 : BitVec 32 := 1#32
  let v150 : BitVec 32 := Scalar.shrsi v143 c1_i32_125
  let c1_i32_126 : BitVec 32 := 1#32
  let v151 : BitVec 32 := Scalar.andi v150 c1_i32_126
  let v152 : BitVec 32 := Scalar.addi v147 v151
  let c2_i32_127 : BitVec 32 := 2#32
  let v155 : BitVec 32 := Scalar.shrsi v143 c2_i32_127
  let c1_i32_128 : BitVec 32 := 1#32
  let v156 : BitVec 32 := Scalar.andi v155 c1_i32_128
  let v157 : BitVec 32 := Scalar.addi v152 v156
  let c3_i32_129 : BitVec 32 := 3#32
  let v160 : BitVec 32 := Scalar.shrsi v143 c3_i32_129
  let c1_i32_130 : BitVec 32 := 1#32
  let v161 : BitVec 32 := Scalar.andi v160 c1_i32_130
  let v162 : BitVec 32 := Scalar.addi v157 v161
  let c4_i32_131 : BitVec 32 := 4#32
  let v165 : BitVec 32 := Scalar.shrsi v143 c4_i32_131
  let c1_i32_132 : BitVec 32 := 1#32
  let v166 : BitVec 32 := Scalar.andi v165 c1_i32_132
  let v167 : BitVec 32 := Scalar.addi v162 v166
  let c5_i32_133 : BitVec 32 := 5#32
  let v170 : BitVec 32 := Scalar.shrsi v143 c5_i32_133
  let c1_i32_134 : BitVec 32 := 1#32
  let v171 : BitVec 32 := Scalar.andi v170 c1_i32_134
  let v172 : BitVec 32 := Scalar.addi v167 v171
  let c6_i32_135 : BitVec 32 := 6#32
  let v175 : BitVec 32 := Scalar.shrsi v143 c6_i32_135
  let c1_i32_136 : BitVec 32 := 1#32
  let v176 : BitVec 32 := Scalar.andi v175 c1_i32_136
  let v177 : BitVec 32 := Scalar.addi v172 v176
  let c7_i32_137 : BitVec 32 := 7#32
  let v180 : BitVec 32 := Scalar.shrsi v143 c7_i32_137
  let c1_i32_138 : BitVec 32 := 1#32
  let v181 : BitVec 32 := Scalar.andi v180 c1_i32_138
  let v182 : BitVec 32 := Scalar.addi v177 v181
  let c8_i32_139 : BitVec 32 := 8#32
  let v185 : BitVec 32 := Scalar.shrsi v143 c8_i32_139
  let c1_i32_140 : BitVec 32 := 1#32
  let v186 : BitVec 32 := Scalar.andi v185 c1_i32_140
  let v187 : BitVec 32 := Scalar.addi v182 v186
  let c9_i32_141 : BitVec 32 := 9#32
  let v190 : BitVec 32 := Scalar.shrsi v143 c9_i32_141
  let c1_i32_142 : BitVec 32 := 1#32
  let v191 : BitVec 32 := Scalar.andi v190 c1_i32_142
  let v192 : BitVec 32 := Scalar.addi v187 v191
  let c10_i32_143 : BitVec 32 := 10#32
  let v195 : BitVec 32 := Scalar.shrsi v143 c10_i32_143
  let c1_i32_144 : BitVec 32 := 1#32
  let v196 : BitVec 32 := Scalar.andi v195 c1_i32_144
  let v197 : BitVec 32 := Scalar.addi v192 v196
  let c11_i32_145 : BitVec 32 := 11#32
  let v200 : BitVec 32 := Scalar.shrsi v143 c11_i32_145
  let c1_i32_146 : BitVec 32 := 1#32
  let v201 : BitVec 32 := Scalar.andi v200 c1_i32_146
  let v202 : BitVec 32 := Scalar.addi v197 v201
  let c12_i32_147 : BitVec 32 := 12#32
  let v205 : BitVec 32 := Scalar.shrsi v143 c12_i32_147
  let c1_i32_148 : BitVec 32 := 1#32
  let v206 : BitVec 32 := Scalar.andi v205 c1_i32_148
  let v207 : BitVec 32 := Scalar.addi v202 v206
  let c13_i32_149 : BitVec 32 := 13#32
  let v210 : BitVec 32 := Scalar.shrsi v143 c13_i32_149
  let c1_i32_150 : BitVec 32 := 1#32
  let v211 : BitVec 32 := Scalar.andi v210 c1_i32_150
  let v212 : BitVec 32 := Scalar.addi v207 v211
  let c14_i32_151 : BitVec 32 := 14#32
  let v215 : BitVec 32 := Scalar.shrsi v143 c14_i32_151
  let c1_i32_152 : BitVec 32 := 1#32
  let v216 : BitVec 32 := Scalar.andi v215 c1_i32_152
  let v217 : BitVec 32 := Scalar.addi v212 v216
  let c15_i32_153 : BitVec 32 := 15#32
  let v220 : BitVec 32 := Scalar.shrsi v143 c15_i32_153
  let c1_i32_154 : BitVec 32 := 1#32
  let v221 : BitVec 32 := Scalar.andi v220 c1_i32_154
  let v222 : BitVec 32 := Scalar.addi v217 v221
  let v272 : BitVec 32 := Scalar.subi v222 c0_i32_207
  let c1_i32_208 : BitVec 32 := 1#32
  let v274 : BitVec 32 := Scalar.divsi v272 c1_i32_208
  let v275 : BitVec 32 := Scalar.muli v274 c1_i32_208
  let v276 : BitVec 32 := Scalar.addi c0_i32_207 v275
  let c1_i32_210 : BitVec 32 := 1#32
  let arg17 : BitVec 32 := Scf.iv v276 c1_i32_210 k0_t2
  let c2_i32_215 : BitVec 32 := 2#32
  let v280 : BitVec 32 := Scalar.remsi arg17 c2_i32_215
  let c1_i32_1196 : BitVec 32 := 1#32
  ![v280.toNat, 1]
def k0_off113 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 3 → Nat :=
  let c0_i32_207 : BitVec 32 := 0#32
  let c0_i32_123 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_2 : BitVec 32 := 1#32
  let v4 : BitVec 32 := Scalar.shli c1_i32_2 v3
  let v5 : BitVec 32 := Scalar.ori v2 v4
  let c1_i32_5 : BitVec 32 := 1#32
  let v7 : BitVec 32 := Scalar.shli c1_i32_5 v6
  let v8 : BitVec 32 := Scalar.ori v5 v7
  let c1_i32_8 : BitVec 32 := 1#32
  let v10 : BitVec 32 := Scalar.shli c1_i32_8 v9
  let v11 : BitVec 32 := Scalar.ori v8 v10
  let c1_i32_10 : BitVec 32 := 1#32
  let v13 : BitVec 32 := Scalar.shli c1_i32_10 v12
  let v14 : BitVec 32 := Scalar.ori v11 v13
  let c1_i32_13 : BitVec 32 := 1#32
  let v16 : BitVec 32 := Scalar.shli c1_i32_13 v15
  let v17 : BitVec 32 := Scalar.ori v14 v16
  let c1_i32_15 : BitVec 32 := 1#32
  let v19 : BitVec 32 := Scalar.shli c1_i32_15 v18
  let v20 : BitVec 32 := Scalar.ori v17 v19
  let c1_i32_18 : BitVec 32 := 1#32
  let v22 : BitVec 32 := Scalar.shli c1_i32_18 v21
  let v23 : BitVec 32 := Scalar.ori v20 v22
  let c1_i32_20 : BitVec 32 := 1#32
  let v25 : BitVec 32 := Scalar.shli c1_i32_20 v24
  let v26 : BitVec 32 := Scalar.ori v23 v25
  let c1_i32_23 : BitVec 32 := 1#32
  let v28 : BitVec 32 := Scalar.shli c1_i32_23 v27
  let v29 : BitVec 32 := Scalar.ori v26 v28
  let c1_i32_25 : BitVec 32 := 1#32
  let v31 : BitVec 32 := Scalar.shli c1_i32_25 v30
  let v32 : BitVec 32 := Scalar.ori v29 v31
  let c1_i32_28 : BitVec 32 := 1#32
  let v34 : BitVec 32 := Scalar.shli c1_i32_28 v33
  let v35 : BitVec 32 := Scalar.ori v32 v34
  let c1_i32_30 : BitVec 32 := 1#32
  let v37 : BitVec 32 := Scalar.shli c1_i32_30 v36
  let v38 : BitVec 32 := Scalar.ori v35 v37
  let c1_i32_33 : BitVec 32 := 1#32
  let v40 : BitVec 32 := Scalar.shli c1_i32_33 v39
  let v41 : BitVec 32 := Scalar.ori v38 v40
  let c1_i32_35 : BitVec 32 := 1#32
  let v43 : BitVec 32 := Scalar.shli c1_i32_35 v42
  let v44 : BitVec 32 := Scalar.ori v41 v43
  let c1_i32_38 : BitVec 32 := 1#32
  let v46 : BitVec 32 := Scalar.shli c1_i32_38 v45
  let v47 : BitVec 32 := Scalar.ori v44 v46
  let c1_i32_40 : BitVec 32 := 1#32
  let v49 : BitVec 32 := Scalar.shli c1_i32_40 v48
  let v50 : BitVec 32 := Scalar.ori v47 v49
  let c1_i32_43 : BitVec 32 := 1#32
  let v52 : BitVec 32 := Scalar.shli c1_i32_43 v51
  let v53 : BitVec 32 := Scalar.ori v50 v52
  let c1_i32_45 : BitVec 32 := 1#32
  let v55 : BitVec 32 := Scalar.shli c1_i32_45 v54
  let v56 : BitVec 32 := Scalar.ori v53 v55
  let c1_i32_48 : BitVec 32 := 1#32
  let v58 : BitVec 32 := Scalar.shli c1_i32_48 v57
  let v59 : BitVec 32 := Scalar.ori v56 v58
  let c1_i32_50 : BitVec 32 := 1#32
  let v61 : BitVec 32 := Scalar.shli c1_i32_50 v60
  let v62 : BitVec 32 := Scalar.ori v59 v61
  let c1_i32_53 : BitVec 32 := 1#32
  let v64 : BitVec 32 := Scalar.shli c1_i32_53 v63
  let v65 : BitVec 32 := Scalar.ori v62 v64
  let c1_i32_55 : BitVec 32 := 1#32
  let v67 : BitVec 32 := Scalar.shli c1_i32_55 v66
  let v68 : BitVec 32 := Scalar.ori v65 v67
  let c1_i32_58 : BitVec 32 := 1#32
  let v70 : BitVec 32 := Scalar.shli c1_i32_58 v69
  let v71 : BitVec 32 := Scalar.ori v68 v70
  let c1_i32_60 : BitVec 32 := 1#32
  let v73 : BitVec 32 := Scalar.shli c1_i32_60 v72
  let v74 : BitVec 32 := Scalar.ori v71 v73
  let c1_i32_63 : BitVec 32 := 1#32
  let v76 : BitVec 32 := Scalar.shli c1_i32_63 v75
  let v77 : BitVec 32 := Scalar.ori v74 v76
  let c1_i32_65 : BitVec 32 := 1#32
  let v79 : BitVec 32 := Scalar.shli c1_i32_65 v78
  let v80 : BitVec 32 := Scalar.ori v77 v79
  let c1_i32_68 : BitVec 32 := 1#32
  let v82 : BitVec 32 := Scalar.shli c1_i32_68 v81
  let v83 : BitVec 32 := Scalar.ori v80 v82
  let c1_i32_70 : BitVec 32 := 1#32
  let v85 : BitVec 32 := Scalar.shli c1_i32_70 v84
  let v86 : BitVec 32 := Scalar.ori v83 v85
  let c1_i32_73 : BitVec 32 := 1#32
  let v88 : BitVec 32 := Scalar.shli c1_i32_73 v87
  let v89 : BitVec 32 := Scalar.ori v86 v88
  let c1_i32_75 : BitVec 32 := 1#32
  let v91 : BitVec 32 := Scalar.shli c1_i32_75 v90
  let v92 : BitVec 32 := Scalar.ori v89 v91
  let c1_i32_78 : BitVec 32 := 1#32
  let v94 : BitVec 32 := Scalar.shli c1_i32_78 v93
  let v95 : BitVec 32 := Scalar.ori v92 v94
  let c1_i32_80 : BitVec 32 := 1#32
  let v97 : BitVec 32 := Scalar.shli c1_i32_80 v96
  let v98 : BitVec 32 := Scalar.ori v95 v97
  let c1_i32_83 : BitVec 32 := 1#32
  let v100 : BitVec 32 := Scalar.shli c1_i32_83 v99
  let v101 : BitVec 32 := Scalar.ori v98 v100
  let c1_i32_85 : BitVec 32 := 1#32
  let v103 : BitVec 32 := Scalar.shli c1_i32_85 v102
  let v104 : BitVec 32 := Scalar.ori v101 v103
  let c1_i32_88 : BitVec 32 := 1#32
  let v106 : BitVec 32 := Scalar.shli c1_i32_88 v105
  let v107 : BitVec 32 := Scalar.ori v104 v106
  let c1_i32_90 : BitVec 32 := 1#32
  let v109 : BitVec 32 := Scalar.shli c1_i32_90 v108
  let v110 : BitVec 32 := Scalar.ori v107 v109
  let c1_i32_93 : BitVec 32 := 1#32
  let v112 : BitVec 32 := Scalar.shli c1_i32_93 v111
  let v113 : BitVec 32 := Scalar.ori v110 v112
  let c1_i32_95 : BitVec 32 := 1#32
  let v115 : BitVec 32 := Scalar.shli c1_i32_95 v114
  let v116 : BitVec 32 := Scalar.ori v113 v115
  let c1_i32_98 : BitVec 32 := 1#32
  let v118 : BitVec 32 := Scalar.shli c1_i32_98 v117
  let v119 : BitVec 32 := Scalar.ori v116 v118
  let c1_i32_100 : BitVec 32 := 1#32
  let v121 : BitVec 32 := Scalar.shli c1_i32_100 v120
  let v122 : BitVec 32 := Scalar.ori v119 v121
  let c1_i32_103 : BitVec 32 := 1#32
  let v124 : BitVec 32 := Scalar.shli c1_i32_103 v123
  let v125 : BitVec 32 := Scalar.ori v122 v124
  let c1_i32_105 : BitVec 32 := 1#32
  let v127 : BitVec 32 := Scalar.shli c1_i32_105 v126
  let v128 : BitVec 32 := Scalar.ori v125 v127
  let c1_i32_108 : BitVec 32 := 1#32
  let v130 : BitVec 32 := Scalar.shli c1_i32_108 v129
  let v131 : BitVec 32 := Scalar.ori v128 v130
  let c1_i32_110 : BitVec 32 := 1#32
  let v133 : BitVec 32 := Scalar.shli c1_i32_110 v132
  let v134 : BitVec 32 := Scalar.ori v131 v133
  let c1_i32_113 : BitVec 32 := 1#32
  let v136 : BitVec 32 := Scalar.shli c1_i32_113 v135
  let v137 : BitVec 32 := Scalar.ori v134 v136
  let c1_i32_115 : BitVec 32 := 1#32
  let v139 : BitVec 32 := Scalar.shli c1_i32_115 v138
  let v140 : BitVec 32 := Scalar.ori v137 v139
  let c1_i32_118 : BitVec 32 := 1#32
  let v142 : BitVec 32 := Scalar.shli c1_i32_118 v141
  let v143 : BitVec 32 := Scalar.ori v140 v142
  let c0_i32_121 : BitVec 32 := 0#32
  let v145 : BitVec 32 := Scalar.shrsi v143 c0_i32_121
  let c1_i32_122 : BitVec 32 := 1#32
  let v146 : BitVec 32 := Scalar.andi v145 c1_i32_122
  let v147 : BitVec 32 := Scalar.addi c0_i32_123 v146
  let c1_i32_125 : BitVec 32 := 1#32
  let v150 : BitVec 32 := Scalar.shrsi v143 c1_i32_125
  let c1_i32_126 : BitVec 32 := 1#32
  let v151 : BitVec 32 := Scalar.andi v150 c1_i32_126
  let v152 : BitVec 32 := Scalar.addi v147 v151
  let c2_i32_127 : BitVec 32 := 2#32
  let v155 : BitVec 32 := Scalar.shrsi v143 c2_i32_127
  let c1_i32_128 : BitVec 32 := 1#32
  let v156 : BitVec 32 := Scalar.andi v155 c1_i32_128
  let v157 : BitVec 32 := Scalar.addi v152 v156
  let c3_i32_129 : BitVec 32 := 3#32
  let v160 : BitVec 32 := Scalar.shrsi v143 c3_i32_129
  let c1_i32_130 : BitVec 32 := 1#32
  let v161 : BitVec 32 := Scalar.andi v160 c1_i32_130
  let v162 : BitVec 32 := Scalar.addi v157 v161
  let c4_i32_131 : BitVec 32 := 4#32
  let v165 : BitVec 32 := Scalar.shrsi v143 c4_i32_131
  let c1_i32_132 : BitVec 32 := 1#32
  let v166 : BitVec 32 := Scalar.andi v165 c1_i32_132
  let v167 : BitVec 32 := Scalar.addi v162 v166
  let c5_i32_133 : BitVec 32 := 5#32
  let v170 : BitVec 32 := Scalar.shrsi v143 c5_i32_133
  let c1_i32_134 : BitVec 32 := 1#32
  let v171 : BitVec 32 := Scalar.andi v170 c1_i32_134
  let v172 : BitVec 32 := Scalar.addi v167 v171
  let c6_i32_135 : BitVec 32 := 6#32
  let v175 : BitVec 32 := Scalar.shrsi v143 c6_i32_135
  let c1_i32_136 : BitVec 32 := 1#32
  let v176 : BitVec 32 := Scalar.andi v175 c1_i32_136
  let v177 : BitVec 32 := Scalar.addi v172 v176
  let c7_i32_137 : BitVec 32 := 7#32
  let v180 : BitVec 32 := Scalar.shrsi v143 c7_i32_137
  let c1_i32_138 : BitVec 32 := 1#32
  let v181 : BitVec 32 := Scalar.andi v180 c1_i32_138
  let v182 : BitVec 32 := Scalar.addi v177 v181
  let c8_i32_139 : BitVec 32 := 8#32
  let v185 : BitVec 32 := Scalar.shrsi v143 c8_i32_139
  let c1_i32_140 : BitVec 32 := 1#32
  let v186 : BitVec 32 := Scalar.andi v185 c1_i32_140
  let v187 : BitVec 32 := Scalar.addi v182 v186
  let c9_i32_141 : BitVec 32 := 9#32
  let v190 : BitVec 32 := Scalar.shrsi v143 c9_i32_141
  let c1_i32_142 : BitVec 32 := 1#32
  let v191 : BitVec 32 := Scalar.andi v190 c1_i32_142
  let v192 : BitVec 32 := Scalar.addi v187 v191
  let c10_i32_143 : BitVec 32 := 10#32
  let v195 : BitVec 32 := Scalar.shrsi v143 c10_i32_143
  let c1_i32_144 : BitVec 32 := 1#32
  let v196 : BitVec 32 := Scalar.andi v195 c1_i32_144
  let v197 : BitVec 32 := Scalar.addi v192 v196
  let c11_i32_145 : BitVec 32 := 11#32
  let v200 : BitVec 32 := Scalar.shrsi v143 c11_i32_145
  let c1_i32_146 : BitVec 32 := 1#32
  let v201 : BitVec 32 := Scalar.andi v200 c1_i32_146
  let v202 : BitVec 32 := Scalar.addi v197 v201
  let c12_i32_147 : BitVec 32 := 12#32
  let v205 : BitVec 32 := Scalar.shrsi v143 c12_i32_147
  let c1_i32_148 : BitVec 32 := 1#32
  let v206 : BitVec 32 := Scalar.andi v205 c1_i32_148
  let v207 : BitVec 32 := Scalar.addi v202 v206
  let c13_i32_149 : BitVec 32 := 13#32
  let v210 : BitVec 32 := Scalar.shrsi v143 c13_i32_149
  let c1_i32_150 : BitVec 32 := 1#32
  let v211 : BitVec 32 := Scalar.andi v210 c1_i32_150
  let v212 : BitVec 32 := Scalar.addi v207 v211
  let c14_i32_151 : BitVec 32 := 14#32
  let v215 : BitVec 32 := Scalar.shrsi v143 c14_i32_151
  let c1_i32_152 : BitVec 32 := 1#32
  let v216 : BitVec 32 := Scalar.andi v215 c1_i32_152
  let v217 : BitVec 32 := Scalar.addi v212 v216
  let c15_i32_153 : BitVec 32 := 15#32
  let v220 : BitVec 32 := Scalar.shrsi v143 c15_i32_153
  let c1_i32_154 : BitVec 32 := 1#32
  let v221 : BitVec 32 := Scalar.andi v220 c1_i32_154
  let v222 : BitVec 32 := Scalar.addi v217 v221
  let v272 : BitVec 32 := Scalar.subi v222 c0_i32_207
  let c1_i32_208 : BitVec 32 := 1#32
  let v274 : BitVec 32 := Scalar.divsi v272 c1_i32_208
  let v275 : BitVec 32 := Scalar.muli v274 c1_i32_208
  let v276 : BitVec 32 := Scalar.addi c0_i32_207 v275
  let c1_i32_210 : BitVec 32 := 1#32
  let arg17 : BitVec 32 := Scf.iv v276 c1_i32_210 k0_t2
  let c2_i32_215 : BitVec 32 := 2#32
  let v280 : BitVec 32 := Scalar.remsi arg17 c2_i32_215
  let c3072_i32_1197 : BitVec 32 := 3072#32
  let c0_i32_1198 : BitVec 32 := 0#32
  ![v280.toNat, 3072, 0]
def k0_off114 (v2648 : BitVec 32) : Fin 3 → Nat :=
  let c3072_i32_1199 : BitVec 32 := 3072#32
  let c0_i32_1200 : BitVec 32 := 0#32
  ![v2648.toNat, 3072, 0]

def k0_chk15 (v2648 : BitVec 32) : Prop :=
  (∀ a, (k0_off111 v2648) a + S1x1024x1024.size a ≤ S16x4096x1024.size a) ∧
  (∀ (hinb : ∀ a, (k0_off111 v2648) a + S1x1024x1024.size a ≤ S16x4096x1024.size a), (Rect.unit (s := S16x4096x1024) (k0_off111 v2648) S1x1024x1024.size hinb).WholeWords (EltTy.packing .i8)) ∧
  (∀ a, (k0_off114 v2648) a + S1x1024x1024.size a ≤ S16x4096x1024.size a) ∧
  (∀ (hinb : ∀ a, (k0_off114 v2648) a + S1x1024x1024.size a ≤ S16x4096x1024.size a), (Rect.unit (s := S16x4096x1024) (k0_off114 v2648) S1x1024x1024.size hinb).WholeWords (EltTy.packing .i8))
theorem k0_off111_inb : ∀ (v2648 : BitVec 32) (k0_hw15 : k0_chk15 v2648), ∀ a, (k0_off111 v2648) a + S1x1024x1024.size a ≤ S16x4096x1024.size a := fun v2648 k0_hw15 => k0_hw15.1
theorem k0_off111_wordsi8 : ∀ (v2648 : BitVec 32) (k0_hw15 : k0_chk15 v2648), (Rect.unit (s := S16x4096x1024) (k0_off111 v2648) S1x1024x1024.size (k0_off111_inb v2648 k0_hw15)).WholeWords (EltTy.packing .i8) := fun v2648 k0_hw15 => k0_hw15.2.1 (k0_off111_inb v2648 k0_hw15)
theorem k0_off114_inb : ∀ (v2648 : BitVec 32) (k0_hw15 : k0_chk15 v2648), ∀ a, (k0_off114 v2648) a + S1x1024x1024.size a ≤ S16x4096x1024.size a := fun v2648 k0_hw15 => k0_hw15.2.2.1
theorem k0_off114_wordsi8 : ∀ (v2648 : BitVec 32) (k0_hw15 : k0_chk15 v2648), (Rect.unit (s := S16x4096x1024) (k0_off114 v2648) S1x1024x1024.size (k0_off114_inb v2648 k0_hw15)).WholeWords (EltTy.packing .i8) := fun v2648 k0_hw15 => k0_hw15.2.2.2 (k0_off114_inb v2648 k0_hw15)

def k0_off115 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 3 → Nat :=
  let c0_i32_207 : BitVec 32 := 0#32
  let c0_i32_123 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_2 : BitVec 32 := 1#32
  let v4 : BitVec 32 := Scalar.shli c1_i32_2 v3
  let v5 : BitVec 32 := Scalar.ori v2 v4
  let c1_i32_5 : BitVec 32 := 1#32
  let v7 : BitVec 32 := Scalar.shli c1_i32_5 v6
  let v8 : BitVec 32 := Scalar.ori v5 v7
  let c1_i32_8 : BitVec 32 := 1#32
  let v10 : BitVec 32 := Scalar.shli c1_i32_8 v9
  let v11 : BitVec 32 := Scalar.ori v8 v10
  let c1_i32_10 : BitVec 32 := 1#32
  let v13 : BitVec 32 := Scalar.shli c1_i32_10 v12
  let v14 : BitVec 32 := Scalar.ori v11 v13
  let c1_i32_13 : BitVec 32 := 1#32
  let v16 : BitVec 32 := Scalar.shli c1_i32_13 v15
  let v17 : BitVec 32 := Scalar.ori v14 v16
  let c1_i32_15 : BitVec 32 := 1#32
  let v19 : BitVec 32 := Scalar.shli c1_i32_15 v18
  let v20 : BitVec 32 := Scalar.ori v17 v19
  let c1_i32_18 : BitVec 32 := 1#32
  let v22 : BitVec 32 := Scalar.shli c1_i32_18 v21
  let v23 : BitVec 32 := Scalar.ori v20 v22
  let c1_i32_20 : BitVec 32 := 1#32
  let v25 : BitVec 32 := Scalar.shli c1_i32_20 v24
  let v26 : BitVec 32 := Scalar.ori v23 v25
  let c1_i32_23 : BitVec 32 := 1#32
  let v28 : BitVec 32 := Scalar.shli c1_i32_23 v27
  let v29 : BitVec 32 := Scalar.ori v26 v28
  let c1_i32_25 : BitVec 32 := 1#32
  let v31 : BitVec 32 := Scalar.shli c1_i32_25 v30
  let v32 : BitVec 32 := Scalar.ori v29 v31
  let c1_i32_28 : BitVec 32 := 1#32
  let v34 : BitVec 32 := Scalar.shli c1_i32_28 v33
  let v35 : BitVec 32 := Scalar.ori v32 v34
  let c1_i32_30 : BitVec 32 := 1#32
  let v37 : BitVec 32 := Scalar.shli c1_i32_30 v36
  let v38 : BitVec 32 := Scalar.ori v35 v37
  let c1_i32_33 : BitVec 32 := 1#32
  let v40 : BitVec 32 := Scalar.shli c1_i32_33 v39
  let v41 : BitVec 32 := Scalar.ori v38 v40
  let c1_i32_35 : BitVec 32 := 1#32
  let v43 : BitVec 32 := Scalar.shli c1_i32_35 v42
  let v44 : BitVec 32 := Scalar.ori v41 v43
  let c1_i32_38 : BitVec 32 := 1#32
  let v46 : BitVec 32 := Scalar.shli c1_i32_38 v45
  let v47 : BitVec 32 := Scalar.ori v44 v46
  let c1_i32_40 : BitVec 32 := 1#32
  let v49 : BitVec 32 := Scalar.shli c1_i32_40 v48
  let v50 : BitVec 32 := Scalar.ori v47 v49
  let c1_i32_43 : BitVec 32 := 1#32
  let v52 : BitVec 32 := Scalar.shli c1_i32_43 v51
  let v53 : BitVec 32 := Scalar.ori v50 v52
  let c1_i32_45 : BitVec 32 := 1#32
  let v55 : BitVec 32 := Scalar.shli c1_i32_45 v54
  let v56 : BitVec 32 := Scalar.ori v53 v55
  let c1_i32_48 : BitVec 32 := 1#32
  let v58 : BitVec 32 := Scalar.shli c1_i32_48 v57
  let v59 : BitVec 32 := Scalar.ori v56 v58
  let c1_i32_50 : BitVec 32 := 1#32
  let v61 : BitVec 32 := Scalar.shli c1_i32_50 v60
  let v62 : BitVec 32 := Scalar.ori v59 v61
  let c1_i32_53 : BitVec 32 := 1#32
  let v64 : BitVec 32 := Scalar.shli c1_i32_53 v63
  let v65 : BitVec 32 := Scalar.ori v62 v64
  let c1_i32_55 : BitVec 32 := 1#32
  let v67 : BitVec 32 := Scalar.shli c1_i32_55 v66
  let v68 : BitVec 32 := Scalar.ori v65 v67
  let c1_i32_58 : BitVec 32 := 1#32
  let v70 : BitVec 32 := Scalar.shli c1_i32_58 v69
  let v71 : BitVec 32 := Scalar.ori v68 v70
  let c1_i32_60 : BitVec 32 := 1#32
  let v73 : BitVec 32 := Scalar.shli c1_i32_60 v72
  let v74 : BitVec 32 := Scalar.ori v71 v73
  let c1_i32_63 : BitVec 32 := 1#32
  let v76 : BitVec 32 := Scalar.shli c1_i32_63 v75
  let v77 : BitVec 32 := Scalar.ori v74 v76
  let c1_i32_65 : BitVec 32 := 1#32
  let v79 : BitVec 32 := Scalar.shli c1_i32_65 v78
  let v80 : BitVec 32 := Scalar.ori v77 v79
  let c1_i32_68 : BitVec 32 := 1#32
  let v82 : BitVec 32 := Scalar.shli c1_i32_68 v81
  let v83 : BitVec 32 := Scalar.ori v80 v82
  let c1_i32_70 : BitVec 32 := 1#32
  let v85 : BitVec 32 := Scalar.shli c1_i32_70 v84
  let v86 : BitVec 32 := Scalar.ori v83 v85
  let c1_i32_73 : BitVec 32 := 1#32
  let v88 : BitVec 32 := Scalar.shli c1_i32_73 v87
  let v89 : BitVec 32 := Scalar.ori v86 v88
  let c1_i32_75 : BitVec 32 := 1#32
  let v91 : BitVec 32 := Scalar.shli c1_i32_75 v90
  let v92 : BitVec 32 := Scalar.ori v89 v91
  let c1_i32_78 : BitVec 32 := 1#32
  let v94 : BitVec 32 := Scalar.shli c1_i32_78 v93
  let v95 : BitVec 32 := Scalar.ori v92 v94
  let c1_i32_80 : BitVec 32 := 1#32
  let v97 : BitVec 32 := Scalar.shli c1_i32_80 v96
  let v98 : BitVec 32 := Scalar.ori v95 v97
  let c1_i32_83 : BitVec 32 := 1#32
  let v100 : BitVec 32 := Scalar.shli c1_i32_83 v99
  let v101 : BitVec 32 := Scalar.ori v98 v100
  let c1_i32_85 : BitVec 32 := 1#32
  let v103 : BitVec 32 := Scalar.shli c1_i32_85 v102
  let v104 : BitVec 32 := Scalar.ori v101 v103
  let c1_i32_88 : BitVec 32 := 1#32
  let v106 : BitVec 32 := Scalar.shli c1_i32_88 v105
  let v107 : BitVec 32 := Scalar.ori v104 v106
  let c1_i32_90 : BitVec 32 := 1#32
  let v109 : BitVec 32 := Scalar.shli c1_i32_90 v108
  let v110 : BitVec 32 := Scalar.ori v107 v109
  let c1_i32_93 : BitVec 32 := 1#32
  let v112 : BitVec 32 := Scalar.shli c1_i32_93 v111
  let v113 : BitVec 32 := Scalar.ori v110 v112
  let c1_i32_95 : BitVec 32 := 1#32
  let v115 : BitVec 32 := Scalar.shli c1_i32_95 v114
  let v116 : BitVec 32 := Scalar.ori v113 v115
  let c1_i32_98 : BitVec 32 := 1#32
  let v118 : BitVec 32 := Scalar.shli c1_i32_98 v117
  let v119 : BitVec 32 := Scalar.ori v116 v118
  let c1_i32_100 : BitVec 32 := 1#32
  let v121 : BitVec 32 := Scalar.shli c1_i32_100 v120
  let v122 : BitVec 32 := Scalar.ori v119 v121
  let c1_i32_103 : BitVec 32 := 1#32
  let v124 : BitVec 32 := Scalar.shli c1_i32_103 v123
  let v125 : BitVec 32 := Scalar.ori v122 v124
  let c1_i32_105 : BitVec 32 := 1#32
  let v127 : BitVec 32 := Scalar.shli c1_i32_105 v126
  let v128 : BitVec 32 := Scalar.ori v125 v127
  let c1_i32_108 : BitVec 32 := 1#32
  let v130 : BitVec 32 := Scalar.shli c1_i32_108 v129
  let v131 : BitVec 32 := Scalar.ori v128 v130
  let c1_i32_110 : BitVec 32 := 1#32
  let v133 : BitVec 32 := Scalar.shli c1_i32_110 v132
  let v134 : BitVec 32 := Scalar.ori v131 v133
  let c1_i32_113 : BitVec 32 := 1#32
  let v136 : BitVec 32 := Scalar.shli c1_i32_113 v135
  let v137 : BitVec 32 := Scalar.ori v134 v136
  let c1_i32_115 : BitVec 32 := 1#32
  let v139 : BitVec 32 := Scalar.shli c1_i32_115 v138
  let v140 : BitVec 32 := Scalar.ori v137 v139
  let c1_i32_118 : BitVec 32 := 1#32
  let v142 : BitVec 32 := Scalar.shli c1_i32_118 v141
  let v143 : BitVec 32 := Scalar.ori v140 v142
  let c0_i32_121 : BitVec 32 := 0#32
  let v145 : BitVec 32 := Scalar.shrsi v143 c0_i32_121
  let c1_i32_122 : BitVec 32 := 1#32
  let v146 : BitVec 32 := Scalar.andi v145 c1_i32_122
  let v147 : BitVec 32 := Scalar.addi c0_i32_123 v146
  let c1_i32_125 : BitVec 32 := 1#32
  let v150 : BitVec 32 := Scalar.shrsi v143 c1_i32_125
  let c1_i32_126 : BitVec 32 := 1#32
  let v151 : BitVec 32 := Scalar.andi v150 c1_i32_126
  let v152 : BitVec 32 := Scalar.addi v147 v151
  let c2_i32_127 : BitVec 32 := 2#32
  let v155 : BitVec 32 := Scalar.shrsi v143 c2_i32_127
  let c1_i32_128 : BitVec 32 := 1#32
  let v156 : BitVec 32 := Scalar.andi v155 c1_i32_128
  let v157 : BitVec 32 := Scalar.addi v152 v156
  let c3_i32_129 : BitVec 32 := 3#32
  let v160 : BitVec 32 := Scalar.shrsi v143 c3_i32_129
  let c1_i32_130 : BitVec 32 := 1#32
  let v161 : BitVec 32 := Scalar.andi v160 c1_i32_130
  let v162 : BitVec 32 := Scalar.addi v157 v161
  let c4_i32_131 : BitVec 32 := 4#32
  let v165 : BitVec 32 := Scalar.shrsi v143 c4_i32_131
  let c1_i32_132 : BitVec 32 := 1#32
  let v166 : BitVec 32 := Scalar.andi v165 c1_i32_132
  let v167 : BitVec 32 := Scalar.addi v162 v166
  let c5_i32_133 : BitVec 32 := 5#32
  let v170 : BitVec 32 := Scalar.shrsi v143 c5_i32_133
  let c1_i32_134 : BitVec 32 := 1#32
  let v171 : BitVec 32 := Scalar.andi v170 c1_i32_134
  let v172 : BitVec 32 := Scalar.addi v167 v171
  let c6_i32_135 : BitVec 32 := 6#32
  let v175 : BitVec 32 := Scalar.shrsi v143 c6_i32_135
  let c1_i32_136 : BitVec 32 := 1#32
  let v176 : BitVec 32 := Scalar.andi v175 c1_i32_136
  let v177 : BitVec 32 := Scalar.addi v172 v176
  let c7_i32_137 : BitVec 32 := 7#32
  let v180 : BitVec 32 := Scalar.shrsi v143 c7_i32_137
  let c1_i32_138 : BitVec 32 := 1#32
  let v181 : BitVec 32 := Scalar.andi v180 c1_i32_138
  let v182 : BitVec 32 := Scalar.addi v177 v181
  let c8_i32_139 : BitVec 32 := 8#32
  let v185 : BitVec 32 := Scalar.shrsi v143 c8_i32_139
  let c1_i32_140 : BitVec 32 := 1#32
  let v186 : BitVec 32 := Scalar.andi v185 c1_i32_140
  let v187 : BitVec 32 := Scalar.addi v182 v186
  let c9_i32_141 : BitVec 32 := 9#32
  let v190 : BitVec 32 := Scalar.shrsi v143 c9_i32_141
  let c1_i32_142 : BitVec 32 := 1#32
  let v191 : BitVec 32 := Scalar.andi v190 c1_i32_142
  let v192 : BitVec 32 := Scalar.addi v187 v191
  let c10_i32_143 : BitVec 32 := 10#32
  let v195 : BitVec 32 := Scalar.shrsi v143 c10_i32_143
  let c1_i32_144 : BitVec 32 := 1#32
  let v196 : BitVec 32 := Scalar.andi v195 c1_i32_144
  let v197 : BitVec 32 := Scalar.addi v192 v196
  let c11_i32_145 : BitVec 32 := 11#32
  let v200 : BitVec 32 := Scalar.shrsi v143 c11_i32_145
  let c1_i32_146 : BitVec 32 := 1#32
  let v201 : BitVec 32 := Scalar.andi v200 c1_i32_146
  let v202 : BitVec 32 := Scalar.addi v197 v201
  let c12_i32_147 : BitVec 32 := 12#32
  let v205 : BitVec 32 := Scalar.shrsi v143 c12_i32_147
  let c1_i32_148 : BitVec 32 := 1#32
  let v206 : BitVec 32 := Scalar.andi v205 c1_i32_148
  let v207 : BitVec 32 := Scalar.addi v202 v206
  let c13_i32_149 : BitVec 32 := 13#32
  let v210 : BitVec 32 := Scalar.shrsi v143 c13_i32_149
  let c1_i32_150 : BitVec 32 := 1#32
  let v211 : BitVec 32 := Scalar.andi v210 c1_i32_150
  let v212 : BitVec 32 := Scalar.addi v207 v211
  let c14_i32_151 : BitVec 32 := 14#32
  let v215 : BitVec 32 := Scalar.shrsi v143 c14_i32_151
  let c1_i32_152 : BitVec 32 := 1#32
  let v216 : BitVec 32 := Scalar.andi v215 c1_i32_152
  let v217 : BitVec 32 := Scalar.addi v212 v216
  let c15_i32_153 : BitVec 32 := 15#32
  let v220 : BitVec 32 := Scalar.shrsi v143 c15_i32_153
  let c1_i32_154 : BitVec 32 := 1#32
  let v221 : BitVec 32 := Scalar.andi v220 c1_i32_154
  let v222 : BitVec 32 := Scalar.addi v217 v221
  let v272 : BitVec 32 := Scalar.subi v222 c0_i32_207
  let c1_i32_208 : BitVec 32 := 1#32
  let v274 : BitVec 32 := Scalar.divsi v272 c1_i32_208
  let v275 : BitVec 32 := Scalar.muli v274 c1_i32_208
  let v276 : BitVec 32 := Scalar.addi c0_i32_207 v275
  let c1_i32_210 : BitVec 32 := 1#32
  let arg17 : BitVec 32 := Scf.iv v276 c1_i32_210 k0_t2
  let c2_i32_215 : BitVec 32 := 2#32
  let v280 : BitVec 32 := Scalar.remsi arg17 c2_i32_215
  let c0_i32_1205 : BitVec 32 := 0#32
  let c0_i32_1206 : BitVec 32 := 0#32
  ![v280.toNat, 0, 0]
def k0_off116 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 3 → Nat :=
  let c0_i32_207 : BitVec 32 := 0#32
  let c0_i32_123 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_2 : BitVec 32 := 1#32
  let v4 : BitVec 32 := Scalar.shli c1_i32_2 v3
  let v5 : BitVec 32 := Scalar.ori v2 v4
  let c1_i32_5 : BitVec 32 := 1#32
  let v7 : BitVec 32 := Scalar.shli c1_i32_5 v6
  let v8 : BitVec 32 := Scalar.ori v5 v7
  let c1_i32_8 : BitVec 32 := 1#32
  let v10 : BitVec 32 := Scalar.shli c1_i32_8 v9
  let v11 : BitVec 32 := Scalar.ori v8 v10
  let c1_i32_10 : BitVec 32 := 1#32
  let v13 : BitVec 32 := Scalar.shli c1_i32_10 v12
  let v14 : BitVec 32 := Scalar.ori v11 v13
  let c1_i32_13 : BitVec 32 := 1#32
  let v16 : BitVec 32 := Scalar.shli c1_i32_13 v15
  let v17 : BitVec 32 := Scalar.ori v14 v16
  let c1_i32_15 : BitVec 32 := 1#32
  let v19 : BitVec 32 := Scalar.shli c1_i32_15 v18
  let v20 : BitVec 32 := Scalar.ori v17 v19
  let c1_i32_18 : BitVec 32 := 1#32
  let v22 : BitVec 32 := Scalar.shli c1_i32_18 v21
  let v23 : BitVec 32 := Scalar.ori v20 v22
  let c1_i32_20 : BitVec 32 := 1#32
  let v25 : BitVec 32 := Scalar.shli c1_i32_20 v24
  let v26 : BitVec 32 := Scalar.ori v23 v25
  let c1_i32_23 : BitVec 32 := 1#32
  let v28 : BitVec 32 := Scalar.shli c1_i32_23 v27
  let v29 : BitVec 32 := Scalar.ori v26 v28
  let c1_i32_25 : BitVec 32 := 1#32
  let v31 : BitVec 32 := Scalar.shli c1_i32_25 v30
  let v32 : BitVec 32 := Scalar.ori v29 v31
  let c1_i32_28 : BitVec 32 := 1#32
  let v34 : BitVec 32 := Scalar.shli c1_i32_28 v33
  let v35 : BitVec 32 := Scalar.ori v32 v34
  let c1_i32_30 : BitVec 32 := 1#32
  let v37 : BitVec 32 := Scalar.shli c1_i32_30 v36
  let v38 : BitVec 32 := Scalar.ori v35 v37
  let c1_i32_33 : BitVec 32 := 1#32
  let v40 : BitVec 32 := Scalar.shli c1_i32_33 v39
  let v41 : BitVec 32 := Scalar.ori v38 v40
  let c1_i32_35 : BitVec 32 := 1#32
  let v43 : BitVec 32 := Scalar.shli c1_i32_35 v42
  let v44 : BitVec 32 := Scalar.ori v41 v43
  let c1_i32_38 : BitVec 32 := 1#32
  let v46 : BitVec 32 := Scalar.shli c1_i32_38 v45
  let v47 : BitVec 32 := Scalar.ori v44 v46
  let c1_i32_40 : BitVec 32 := 1#32
  let v49 : BitVec 32 := Scalar.shli c1_i32_40 v48
  let v50 : BitVec 32 := Scalar.ori v47 v49
  let c1_i32_43 : BitVec 32 := 1#32
  let v52 : BitVec 32 := Scalar.shli c1_i32_43 v51
  let v53 : BitVec 32 := Scalar.ori v50 v52
  let c1_i32_45 : BitVec 32 := 1#32
  let v55 : BitVec 32 := Scalar.shli c1_i32_45 v54
  let v56 : BitVec 32 := Scalar.ori v53 v55
  let c1_i32_48 : BitVec 32 := 1#32
  let v58 : BitVec 32 := Scalar.shli c1_i32_48 v57
  let v59 : BitVec 32 := Scalar.ori v56 v58
  let c1_i32_50 : BitVec 32 := 1#32
  let v61 : BitVec 32 := Scalar.shli c1_i32_50 v60
  let v62 : BitVec 32 := Scalar.ori v59 v61
  let c1_i32_53 : BitVec 32 := 1#32
  let v64 : BitVec 32 := Scalar.shli c1_i32_53 v63
  let v65 : BitVec 32 := Scalar.ori v62 v64
  let c1_i32_55 : BitVec 32 := 1#32
  let v67 : BitVec 32 := Scalar.shli c1_i32_55 v66
  let v68 : BitVec 32 := Scalar.ori v65 v67
  let c1_i32_58 : BitVec 32 := 1#32
  let v70 : BitVec 32 := Scalar.shli c1_i32_58 v69
  let v71 : BitVec 32 := Scalar.ori v68 v70
  let c1_i32_60 : BitVec 32 := 1#32
  let v73 : BitVec 32 := Scalar.shli c1_i32_60 v72
  let v74 : BitVec 32 := Scalar.ori v71 v73
  let c1_i32_63 : BitVec 32 := 1#32
  let v76 : BitVec 32 := Scalar.shli c1_i32_63 v75
  let v77 : BitVec 32 := Scalar.ori v74 v76
  let c1_i32_65 : BitVec 32 := 1#32
  let v79 : BitVec 32 := Scalar.shli c1_i32_65 v78
  let v80 : BitVec 32 := Scalar.ori v77 v79
  let c1_i32_68 : BitVec 32 := 1#32
  let v82 : BitVec 32 := Scalar.shli c1_i32_68 v81
  let v83 : BitVec 32 := Scalar.ori v80 v82
  let c1_i32_70 : BitVec 32 := 1#32
  let v85 : BitVec 32 := Scalar.shli c1_i32_70 v84
  let v86 : BitVec 32 := Scalar.ori v83 v85
  let c1_i32_73 : BitVec 32 := 1#32
  let v88 : BitVec 32 := Scalar.shli c1_i32_73 v87
  let v89 : BitVec 32 := Scalar.ori v86 v88
  let c1_i32_75 : BitVec 32 := 1#32
  let v91 : BitVec 32 := Scalar.shli c1_i32_75 v90
  let v92 : BitVec 32 := Scalar.ori v89 v91
  let c1_i32_78 : BitVec 32 := 1#32
  let v94 : BitVec 32 := Scalar.shli c1_i32_78 v93
  let v95 : BitVec 32 := Scalar.ori v92 v94
  let c1_i32_80 : BitVec 32 := 1#32
  let v97 : BitVec 32 := Scalar.shli c1_i32_80 v96
  let v98 : BitVec 32 := Scalar.ori v95 v97
  let c1_i32_83 : BitVec 32 := 1#32
  let v100 : BitVec 32 := Scalar.shli c1_i32_83 v99
  let v101 : BitVec 32 := Scalar.ori v98 v100
  let c1_i32_85 : BitVec 32 := 1#32
  let v103 : BitVec 32 := Scalar.shli c1_i32_85 v102
  let v104 : BitVec 32 := Scalar.ori v101 v103
  let c1_i32_88 : BitVec 32 := 1#32
  let v106 : BitVec 32 := Scalar.shli c1_i32_88 v105
  let v107 : BitVec 32 := Scalar.ori v104 v106
  let c1_i32_90 : BitVec 32 := 1#32
  let v109 : BitVec 32 := Scalar.shli c1_i32_90 v108
  let v110 : BitVec 32 := Scalar.ori v107 v109
  let c1_i32_93 : BitVec 32 := 1#32
  let v112 : BitVec 32 := Scalar.shli c1_i32_93 v111
  let v113 : BitVec 32 := Scalar.ori v110 v112
  let c1_i32_95 : BitVec 32 := 1#32
  let v115 : BitVec 32 := Scalar.shli c1_i32_95 v114
  let v116 : BitVec 32 := Scalar.ori v113 v115
  let c1_i32_98 : BitVec 32 := 1#32
  let v118 : BitVec 32 := Scalar.shli c1_i32_98 v117
  let v119 : BitVec 32 := Scalar.ori v116 v118
  let c1_i32_100 : BitVec 32 := 1#32
  let v121 : BitVec 32 := Scalar.shli c1_i32_100 v120
  let v122 : BitVec 32 := Scalar.ori v119 v121
  let c1_i32_103 : BitVec 32 := 1#32
  let v124 : BitVec 32 := Scalar.shli c1_i32_103 v123
  let v125 : BitVec 32 := Scalar.ori v122 v124
  let c1_i32_105 : BitVec 32 := 1#32
  let v127 : BitVec 32 := Scalar.shli c1_i32_105 v126
  let v128 : BitVec 32 := Scalar.ori v125 v127
  let c1_i32_108 : BitVec 32 := 1#32
  let v130 : BitVec 32 := Scalar.shli c1_i32_108 v129
  let v131 : BitVec 32 := Scalar.ori v128 v130
  let c1_i32_110 : BitVec 32 := 1#32
  let v133 : BitVec 32 := Scalar.shli c1_i32_110 v132
  let v134 : BitVec 32 := Scalar.ori v131 v133
  let c1_i32_113 : BitVec 32 := 1#32
  let v136 : BitVec 32 := Scalar.shli c1_i32_113 v135
  let v137 : BitVec 32 := Scalar.ori v134 v136
  let c1_i32_115 : BitVec 32 := 1#32
  let v139 : BitVec 32 := Scalar.shli c1_i32_115 v138
  let v140 : BitVec 32 := Scalar.ori v137 v139
  let c1_i32_118 : BitVec 32 := 1#32
  let v142 : BitVec 32 := Scalar.shli c1_i32_118 v141
  let v143 : BitVec 32 := Scalar.ori v140 v142
  let c0_i32_121 : BitVec 32 := 0#32
  let v145 : BitVec 32 := Scalar.shrsi v143 c0_i32_121
  let c1_i32_122 : BitVec 32 := 1#32
  let v146 : BitVec 32 := Scalar.andi v145 c1_i32_122
  let v147 : BitVec 32 := Scalar.addi c0_i32_123 v146
  let c1_i32_125 : BitVec 32 := 1#32
  let v150 : BitVec 32 := Scalar.shrsi v143 c1_i32_125
  let c1_i32_126 : BitVec 32 := 1#32
  let v151 : BitVec 32 := Scalar.andi v150 c1_i32_126
  let v152 : BitVec 32 := Scalar.addi v147 v151
  let c2_i32_127 : BitVec 32 := 2#32
  let v155 : BitVec 32 := Scalar.shrsi v143 c2_i32_127
  let c1_i32_128 : BitVec 32 := 1#32
  let v156 : BitVec 32 := Scalar.andi v155 c1_i32_128
  let v157 : BitVec 32 := Scalar.addi v152 v156
  let c3_i32_129 : BitVec 32 := 3#32
  let v160 : BitVec 32 := Scalar.shrsi v143 c3_i32_129
  let c1_i32_130 : BitVec 32 := 1#32
  let v161 : BitVec 32 := Scalar.andi v160 c1_i32_130
  let v162 : BitVec 32 := Scalar.addi v157 v161
  let c4_i32_131 : BitVec 32 := 4#32
  let v165 : BitVec 32 := Scalar.shrsi v143 c4_i32_131
  let c1_i32_132 : BitVec 32 := 1#32
  let v166 : BitVec 32 := Scalar.andi v165 c1_i32_132
  let v167 : BitVec 32 := Scalar.addi v162 v166
  let c5_i32_133 : BitVec 32 := 5#32
  let v170 : BitVec 32 := Scalar.shrsi v143 c5_i32_133
  let c1_i32_134 : BitVec 32 := 1#32
  let v171 : BitVec 32 := Scalar.andi v170 c1_i32_134
  let v172 : BitVec 32 := Scalar.addi v167 v171
  let c6_i32_135 : BitVec 32 := 6#32
  let v175 : BitVec 32 := Scalar.shrsi v143 c6_i32_135
  let c1_i32_136 : BitVec 32 := 1#32
  let v176 : BitVec 32 := Scalar.andi v175 c1_i32_136
  let v177 : BitVec 32 := Scalar.addi v172 v176
  let c7_i32_137 : BitVec 32 := 7#32
  let v180 : BitVec 32 := Scalar.shrsi v143 c7_i32_137
  let c1_i32_138 : BitVec 32 := 1#32
  let v181 : BitVec 32 := Scalar.andi v180 c1_i32_138
  let v182 : BitVec 32 := Scalar.addi v177 v181
  let c8_i32_139 : BitVec 32 := 8#32
  let v185 : BitVec 32 := Scalar.shrsi v143 c8_i32_139
  let c1_i32_140 : BitVec 32 := 1#32
  let v186 : BitVec 32 := Scalar.andi v185 c1_i32_140
  let v187 : BitVec 32 := Scalar.addi v182 v186
  let c9_i32_141 : BitVec 32 := 9#32
  let v190 : BitVec 32 := Scalar.shrsi v143 c9_i32_141
  let c1_i32_142 : BitVec 32 := 1#32
  let v191 : BitVec 32 := Scalar.andi v190 c1_i32_142
  let v192 : BitVec 32 := Scalar.addi v187 v191
  let c10_i32_143 : BitVec 32 := 10#32
  let v195 : BitVec 32 := Scalar.shrsi v143 c10_i32_143
  let c1_i32_144 : BitVec 32 := 1#32
  let v196 : BitVec 32 := Scalar.andi v195 c1_i32_144
  let v197 : BitVec 32 := Scalar.addi v192 v196
  let c11_i32_145 : BitVec 32 := 11#32
  let v200 : BitVec 32 := Scalar.shrsi v143 c11_i32_145
  let c1_i32_146 : BitVec 32 := 1#32
  let v201 : BitVec 32 := Scalar.andi v200 c1_i32_146
  let v202 : BitVec 32 := Scalar.addi v197 v201
  let c12_i32_147 : BitVec 32 := 12#32
  let v205 : BitVec 32 := Scalar.shrsi v143 c12_i32_147
  let c1_i32_148 : BitVec 32 := 1#32
  let v206 : BitVec 32 := Scalar.andi v205 c1_i32_148
  let v207 : BitVec 32 := Scalar.addi v202 v206
  let c13_i32_149 : BitVec 32 := 13#32
  let v210 : BitVec 32 := Scalar.shrsi v143 c13_i32_149
  let c1_i32_150 : BitVec 32 := 1#32
  let v211 : BitVec 32 := Scalar.andi v210 c1_i32_150
  let v212 : BitVec 32 := Scalar.addi v207 v211
  let c14_i32_151 : BitVec 32 := 14#32
  let v215 : BitVec 32 := Scalar.shrsi v143 c14_i32_151
  let c1_i32_152 : BitVec 32 := 1#32
  let v216 : BitVec 32 := Scalar.andi v215 c1_i32_152
  let v217 : BitVec 32 := Scalar.addi v212 v216
  let c15_i32_153 : BitVec 32 := 15#32
  let v220 : BitVec 32 := Scalar.shrsi v143 c15_i32_153
  let c1_i32_154 : BitVec 32 := 1#32
  let v221 : BitVec 32 := Scalar.andi v220 c1_i32_154
  let v222 : BitVec 32 := Scalar.addi v217 v221
  let v272 : BitVec 32 := Scalar.subi v222 c0_i32_207
  let c1_i32_208 : BitVec 32 := 1#32
  let v274 : BitVec 32 := Scalar.divsi v272 c1_i32_208
  let v275 : BitVec 32 := Scalar.muli v274 c1_i32_208
  let v276 : BitVec 32 := Scalar.addi c0_i32_207 v275
  let c1_i32_210 : BitVec 32 := 1#32
  let arg17 : BitVec 32 := Scf.iv v276 c1_i32_210 k0_t2
  let c2_i32_215 : BitVec 32 := 2#32
  let v280 : BitVec 32 := Scalar.remsi arg17 c2_i32_215
  let c0_i32_1214 : BitVec 32 := 0#32
  let c0_i32_1215 : BitVec 32 := 0#32
  ![v280.toNat, 0, 0]
def k0_off117 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 1 → Nat :=
  let c0_i32_207 : BitVec 32 := 0#32
  let c0_i32_123 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_2 : BitVec 32 := 1#32
  let v4 : BitVec 32 := Scalar.shli c1_i32_2 v3
  let v5 : BitVec 32 := Scalar.ori v2 v4
  let c1_i32_5 : BitVec 32 := 1#32
  let v7 : BitVec 32 := Scalar.shli c1_i32_5 v6
  let v8 : BitVec 32 := Scalar.ori v5 v7
  let c1_i32_8 : BitVec 32 := 1#32
  let v10 : BitVec 32 := Scalar.shli c1_i32_8 v9
  let v11 : BitVec 32 := Scalar.ori v8 v10
  let c1_i32_10 : BitVec 32 := 1#32
  let v13 : BitVec 32 := Scalar.shli c1_i32_10 v12
  let v14 : BitVec 32 := Scalar.ori v11 v13
  let c1_i32_13 : BitVec 32 := 1#32
  let v16 : BitVec 32 := Scalar.shli c1_i32_13 v15
  let v17 : BitVec 32 := Scalar.ori v14 v16
  let c1_i32_15 : BitVec 32 := 1#32
  let v19 : BitVec 32 := Scalar.shli c1_i32_15 v18
  let v20 : BitVec 32 := Scalar.ori v17 v19
  let c1_i32_18 : BitVec 32 := 1#32
  let v22 : BitVec 32 := Scalar.shli c1_i32_18 v21
  let v23 : BitVec 32 := Scalar.ori v20 v22
  let c1_i32_20 : BitVec 32 := 1#32
  let v25 : BitVec 32 := Scalar.shli c1_i32_20 v24
  let v26 : BitVec 32 := Scalar.ori v23 v25
  let c1_i32_23 : BitVec 32 := 1#32
  let v28 : BitVec 32 := Scalar.shli c1_i32_23 v27
  let v29 : BitVec 32 := Scalar.ori v26 v28
  let c1_i32_25 : BitVec 32 := 1#32
  let v31 : BitVec 32 := Scalar.shli c1_i32_25 v30
  let v32 : BitVec 32 := Scalar.ori v29 v31
  let c1_i32_28 : BitVec 32 := 1#32
  let v34 : BitVec 32 := Scalar.shli c1_i32_28 v33
  let v35 : BitVec 32 := Scalar.ori v32 v34
  let c1_i32_30 : BitVec 32 := 1#32
  let v37 : BitVec 32 := Scalar.shli c1_i32_30 v36
  let v38 : BitVec 32 := Scalar.ori v35 v37
  let c1_i32_33 : BitVec 32 := 1#32
  let v40 : BitVec 32 := Scalar.shli c1_i32_33 v39
  let v41 : BitVec 32 := Scalar.ori v38 v40
  let c1_i32_35 : BitVec 32 := 1#32
  let v43 : BitVec 32 := Scalar.shli c1_i32_35 v42
  let v44 : BitVec 32 := Scalar.ori v41 v43
  let c1_i32_38 : BitVec 32 := 1#32
  let v46 : BitVec 32 := Scalar.shli c1_i32_38 v45
  let v47 : BitVec 32 := Scalar.ori v44 v46
  let c1_i32_40 : BitVec 32 := 1#32
  let v49 : BitVec 32 := Scalar.shli c1_i32_40 v48
  let v50 : BitVec 32 := Scalar.ori v47 v49
  let c1_i32_43 : BitVec 32 := 1#32
  let v52 : BitVec 32 := Scalar.shli c1_i32_43 v51
  let v53 : BitVec 32 := Scalar.ori v50 v52
  let c1_i32_45 : BitVec 32 := 1#32
  let v55 : BitVec 32 := Scalar.shli c1_i32_45 v54
  let v56 : BitVec 32 := Scalar.ori v53 v55
  let c1_i32_48 : BitVec 32 := 1#32
  let v58 : BitVec 32 := Scalar.shli c1_i32_48 v57
  let v59 : BitVec 32 := Scalar.ori v56 v58
  let c1_i32_50 : BitVec 32 := 1#32
  let v61 : BitVec 32 := Scalar.shli c1_i32_50 v60
  let v62 : BitVec 32 := Scalar.ori v59 v61
  let c1_i32_53 : BitVec 32 := 1#32
  let v64 : BitVec 32 := Scalar.shli c1_i32_53 v63
  let v65 : BitVec 32 := Scalar.ori v62 v64
  let c1_i32_55 : BitVec 32 := 1#32
  let v67 : BitVec 32 := Scalar.shli c1_i32_55 v66
  let v68 : BitVec 32 := Scalar.ori v65 v67
  let c1_i32_58 : BitVec 32 := 1#32
  let v70 : BitVec 32 := Scalar.shli c1_i32_58 v69
  let v71 : BitVec 32 := Scalar.ori v68 v70
  let c1_i32_60 : BitVec 32 := 1#32
  let v73 : BitVec 32 := Scalar.shli c1_i32_60 v72
  let v74 : BitVec 32 := Scalar.ori v71 v73
  let c1_i32_63 : BitVec 32 := 1#32
  let v76 : BitVec 32 := Scalar.shli c1_i32_63 v75
  let v77 : BitVec 32 := Scalar.ori v74 v76
  let c1_i32_65 : BitVec 32 := 1#32
  let v79 : BitVec 32 := Scalar.shli c1_i32_65 v78
  let v80 : BitVec 32 := Scalar.ori v77 v79
  let c1_i32_68 : BitVec 32 := 1#32
  let v82 : BitVec 32 := Scalar.shli c1_i32_68 v81
  let v83 : BitVec 32 := Scalar.ori v80 v82
  let c1_i32_70 : BitVec 32 := 1#32
  let v85 : BitVec 32 := Scalar.shli c1_i32_70 v84
  let v86 : BitVec 32 := Scalar.ori v83 v85
  let c1_i32_73 : BitVec 32 := 1#32
  let v88 : BitVec 32 := Scalar.shli c1_i32_73 v87
  let v89 : BitVec 32 := Scalar.ori v86 v88
  let c1_i32_75 : BitVec 32 := 1#32
  let v91 : BitVec 32 := Scalar.shli c1_i32_75 v90
  let v92 : BitVec 32 := Scalar.ori v89 v91
  let c1_i32_78 : BitVec 32 := 1#32
  let v94 : BitVec 32 := Scalar.shli c1_i32_78 v93
  let v95 : BitVec 32 := Scalar.ori v92 v94
  let c1_i32_80 : BitVec 32 := 1#32
  let v97 : BitVec 32 := Scalar.shli c1_i32_80 v96
  let v98 : BitVec 32 := Scalar.ori v95 v97
  let c1_i32_83 : BitVec 32 := 1#32
  let v100 : BitVec 32 := Scalar.shli c1_i32_83 v99
  let v101 : BitVec 32 := Scalar.ori v98 v100
  let c1_i32_85 : BitVec 32 := 1#32
  let v103 : BitVec 32 := Scalar.shli c1_i32_85 v102
  let v104 : BitVec 32 := Scalar.ori v101 v103
  let c1_i32_88 : BitVec 32 := 1#32
  let v106 : BitVec 32 := Scalar.shli c1_i32_88 v105
  let v107 : BitVec 32 := Scalar.ori v104 v106
  let c1_i32_90 : BitVec 32 := 1#32
  let v109 : BitVec 32 := Scalar.shli c1_i32_90 v108
  let v110 : BitVec 32 := Scalar.ori v107 v109
  let c1_i32_93 : BitVec 32 := 1#32
  let v112 : BitVec 32 := Scalar.shli c1_i32_93 v111
  let v113 : BitVec 32 := Scalar.ori v110 v112
  let c1_i32_95 : BitVec 32 := 1#32
  let v115 : BitVec 32 := Scalar.shli c1_i32_95 v114
  let v116 : BitVec 32 := Scalar.ori v113 v115
  let c1_i32_98 : BitVec 32 := 1#32
  let v118 : BitVec 32 := Scalar.shli c1_i32_98 v117
  let v119 : BitVec 32 := Scalar.ori v116 v118
  let c1_i32_100 : BitVec 32 := 1#32
  let v121 : BitVec 32 := Scalar.shli c1_i32_100 v120
  let v122 : BitVec 32 := Scalar.ori v119 v121
  let c1_i32_103 : BitVec 32 := 1#32
  let v124 : BitVec 32 := Scalar.shli c1_i32_103 v123
  let v125 : BitVec 32 := Scalar.ori v122 v124
  let c1_i32_105 : BitVec 32 := 1#32
  let v127 : BitVec 32 := Scalar.shli c1_i32_105 v126
  let v128 : BitVec 32 := Scalar.ori v125 v127
  let c1_i32_108 : BitVec 32 := 1#32
  let v130 : BitVec 32 := Scalar.shli c1_i32_108 v129
  let v131 : BitVec 32 := Scalar.ori v128 v130
  let c1_i32_110 : BitVec 32 := 1#32
  let v133 : BitVec 32 := Scalar.shli c1_i32_110 v132
  let v134 : BitVec 32 := Scalar.ori v131 v133
  let c1_i32_113 : BitVec 32 := 1#32
  let v136 : BitVec 32 := Scalar.shli c1_i32_113 v135
  let v137 : BitVec 32 := Scalar.ori v134 v136
  let c1_i32_115 : BitVec 32 := 1#32
  let v139 : BitVec 32 := Scalar.shli c1_i32_115 v138
  let v140 : BitVec 32 := Scalar.ori v137 v139
  let c1_i32_118 : BitVec 32 := 1#32
  let v142 : BitVec 32 := Scalar.shli c1_i32_118 v141
  let v143 : BitVec 32 := Scalar.ori v140 v142
  let c0_i32_121 : BitVec 32 := 0#32
  let v145 : BitVec 32 := Scalar.shrsi v143 c0_i32_121
  let c1_i32_122 : BitVec 32 := 1#32
  let v146 : BitVec 32 := Scalar.andi v145 c1_i32_122
  let v147 : BitVec 32 := Scalar.addi c0_i32_123 v146
  let c1_i32_125 : BitVec 32 := 1#32
  let v150 : BitVec 32 := Scalar.shrsi v143 c1_i32_125
  let c1_i32_126 : BitVec 32 := 1#32
  let v151 : BitVec 32 := Scalar.andi v150 c1_i32_126
  let v152 : BitVec 32 := Scalar.addi v147 v151
  let c2_i32_127 : BitVec 32 := 2#32
  let v155 : BitVec 32 := Scalar.shrsi v143 c2_i32_127
  let c1_i32_128 : BitVec 32 := 1#32
  let v156 : BitVec 32 := Scalar.andi v155 c1_i32_128
  let v157 : BitVec 32 := Scalar.addi v152 v156
  let c3_i32_129 : BitVec 32 := 3#32
  let v160 : BitVec 32 := Scalar.shrsi v143 c3_i32_129
  let c1_i32_130 : BitVec 32 := 1#32
  let v161 : BitVec 32 := Scalar.andi v160 c1_i32_130
  let v162 : BitVec 32 := Scalar.addi v157 v161
  let c4_i32_131 : BitVec 32 := 4#32
  let v165 : BitVec 32 := Scalar.shrsi v143 c4_i32_131
  let c1_i32_132 : BitVec 32 := 1#32
  let v166 : BitVec 32 := Scalar.andi v165 c1_i32_132
  let v167 : BitVec 32 := Scalar.addi v162 v166
  let c5_i32_133 : BitVec 32 := 5#32
  let v170 : BitVec 32 := Scalar.shrsi v143 c5_i32_133
  let c1_i32_134 : BitVec 32 := 1#32
  let v171 : BitVec 32 := Scalar.andi v170 c1_i32_134
  let v172 : BitVec 32 := Scalar.addi v167 v171
  let c6_i32_135 : BitVec 32 := 6#32
  let v175 : BitVec 32 := Scalar.shrsi v143 c6_i32_135
  let c1_i32_136 : BitVec 32 := 1#32
  let v176 : BitVec 32 := Scalar.andi v175 c1_i32_136
  let v177 : BitVec 32 := Scalar.addi v172 v176
  let c7_i32_137 : BitVec 32 := 7#32
  let v180 : BitVec 32 := Scalar.shrsi v143 c7_i32_137
  let c1_i32_138 : BitVec 32 := 1#32
  let v181 : BitVec 32 := Scalar.andi v180 c1_i32_138
  let v182 : BitVec 32 := Scalar.addi v177 v181
  let c8_i32_139 : BitVec 32 := 8#32
  let v185 : BitVec 32 := Scalar.shrsi v143 c8_i32_139
  let c1_i32_140 : BitVec 32 := 1#32
  let v186 : BitVec 32 := Scalar.andi v185 c1_i32_140
  let v187 : BitVec 32 := Scalar.addi v182 v186
  let c9_i32_141 : BitVec 32 := 9#32
  let v190 : BitVec 32 := Scalar.shrsi v143 c9_i32_141
  let c1_i32_142 : BitVec 32 := 1#32
  let v191 : BitVec 32 := Scalar.andi v190 c1_i32_142
  let v192 : BitVec 32 := Scalar.addi v187 v191
  let c10_i32_143 : BitVec 32 := 10#32
  let v195 : BitVec 32 := Scalar.shrsi v143 c10_i32_143
  let c1_i32_144 : BitVec 32 := 1#32
  let v196 : BitVec 32 := Scalar.andi v195 c1_i32_144
  let v197 : BitVec 32 := Scalar.addi v192 v196
  let c11_i32_145 : BitVec 32 := 11#32
  let v200 : BitVec 32 := Scalar.shrsi v143 c11_i32_145
  let c1_i32_146 : BitVec 32 := 1#32
  let v201 : BitVec 32 := Scalar.andi v200 c1_i32_146
  let v202 : BitVec 32 := Scalar.addi v197 v201
  let c12_i32_147 : BitVec 32 := 12#32
  let v205 : BitVec 32 := Scalar.shrsi v143 c12_i32_147
  let c1_i32_148 : BitVec 32 := 1#32
  let v206 : BitVec 32 := Scalar.andi v205 c1_i32_148
  let v207 : BitVec 32 := Scalar.addi v202 v206
  let c13_i32_149 : BitVec 32 := 13#32
  let v210 : BitVec 32 := Scalar.shrsi v143 c13_i32_149
  let c1_i32_150 : BitVec 32 := 1#32
  let v211 : BitVec 32 := Scalar.andi v210 c1_i32_150
  let v212 : BitVec 32 := Scalar.addi v207 v211
  let c14_i32_151 : BitVec 32 := 14#32
  let v215 : BitVec 32 := Scalar.shrsi v143 c14_i32_151
  let c1_i32_152 : BitVec 32 := 1#32
  let v216 : BitVec 32 := Scalar.andi v215 c1_i32_152
  let v217 : BitVec 32 := Scalar.addi v212 v216
  let c15_i32_153 : BitVec 32 := 15#32
  let v220 : BitVec 32 := Scalar.shrsi v143 c15_i32_153
  let c1_i32_154 : BitVec 32 := 1#32
  let v221 : BitVec 32 := Scalar.andi v220 c1_i32_154
  let v222 : BitVec 32 := Scalar.addi v217 v221
  let v272 : BitVec 32 := Scalar.subi v222 c0_i32_207
  let c1_i32_208 : BitVec 32 := 1#32
  let v274 : BitVec 32 := Scalar.divsi v272 c1_i32_208
  let v275 : BitVec 32 := Scalar.muli v274 c1_i32_208
  let v276 : BitVec 32 := Scalar.addi c0_i32_207 v275
  let c1_i32_210 : BitVec 32 := 1#32
  let arg17 : BitVec 32 := Scf.iv v276 c1_i32_210 k0_t2
  let v5001 : Index := Scalar.indexCast arg17
  ![v5001.toNat]
def k0_off118 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 2 → Nat :=
  let c0_i32_207 : BitVec 32 := 0#32
  let c0_i32_123 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_2 : BitVec 32 := 1#32
  let v4 : BitVec 32 := Scalar.shli c1_i32_2 v3
  let v5 : BitVec 32 := Scalar.ori v2 v4
  let c1_i32_5 : BitVec 32 := 1#32
  let v7 : BitVec 32 := Scalar.shli c1_i32_5 v6
  let v8 : BitVec 32 := Scalar.ori v5 v7
  let c1_i32_8 : BitVec 32 := 1#32
  let v10 : BitVec 32 := Scalar.shli c1_i32_8 v9
  let v11 : BitVec 32 := Scalar.ori v8 v10
  let c1_i32_10 : BitVec 32 := 1#32
  let v13 : BitVec 32 := Scalar.shli c1_i32_10 v12
  let v14 : BitVec 32 := Scalar.ori v11 v13
  let c1_i32_13 : BitVec 32 := 1#32
  let v16 : BitVec 32 := Scalar.shli c1_i32_13 v15
  let v17 : BitVec 32 := Scalar.ori v14 v16
  let c1_i32_15 : BitVec 32 := 1#32
  let v19 : BitVec 32 := Scalar.shli c1_i32_15 v18
  let v20 : BitVec 32 := Scalar.ori v17 v19
  let c1_i32_18 : BitVec 32 := 1#32
  let v22 : BitVec 32 := Scalar.shli c1_i32_18 v21
  let v23 : BitVec 32 := Scalar.ori v20 v22
  let c1_i32_20 : BitVec 32 := 1#32
  let v25 : BitVec 32 := Scalar.shli c1_i32_20 v24
  let v26 : BitVec 32 := Scalar.ori v23 v25
  let c1_i32_23 : BitVec 32 := 1#32
  let v28 : BitVec 32 := Scalar.shli c1_i32_23 v27
  let v29 : BitVec 32 := Scalar.ori v26 v28
  let c1_i32_25 : BitVec 32 := 1#32
  let v31 : BitVec 32 := Scalar.shli c1_i32_25 v30
  let v32 : BitVec 32 := Scalar.ori v29 v31
  let c1_i32_28 : BitVec 32 := 1#32
  let v34 : BitVec 32 := Scalar.shli c1_i32_28 v33
  let v35 : BitVec 32 := Scalar.ori v32 v34
  let c1_i32_30 : BitVec 32 := 1#32
  let v37 : BitVec 32 := Scalar.shli c1_i32_30 v36
  let v38 : BitVec 32 := Scalar.ori v35 v37
  let c1_i32_33 : BitVec 32 := 1#32
  let v40 : BitVec 32 := Scalar.shli c1_i32_33 v39
  let v41 : BitVec 32 := Scalar.ori v38 v40
  let c1_i32_35 : BitVec 32 := 1#32
  let v43 : BitVec 32 := Scalar.shli c1_i32_35 v42
  let v44 : BitVec 32 := Scalar.ori v41 v43
  let c1_i32_38 : BitVec 32 := 1#32
  let v46 : BitVec 32 := Scalar.shli c1_i32_38 v45
  let v47 : BitVec 32 := Scalar.ori v44 v46
  let c1_i32_40 : BitVec 32 := 1#32
  let v49 : BitVec 32 := Scalar.shli c1_i32_40 v48
  let v50 : BitVec 32 := Scalar.ori v47 v49
  let c1_i32_43 : BitVec 32 := 1#32
  let v52 : BitVec 32 := Scalar.shli c1_i32_43 v51
  let v53 : BitVec 32 := Scalar.ori v50 v52
  let c1_i32_45 : BitVec 32 := 1#32
  let v55 : BitVec 32 := Scalar.shli c1_i32_45 v54
  let v56 : BitVec 32 := Scalar.ori v53 v55
  let c1_i32_48 : BitVec 32 := 1#32
  let v58 : BitVec 32 := Scalar.shli c1_i32_48 v57
  let v59 : BitVec 32 := Scalar.ori v56 v58
  let c1_i32_50 : BitVec 32 := 1#32
  let v61 : BitVec 32 := Scalar.shli c1_i32_50 v60
  let v62 : BitVec 32 := Scalar.ori v59 v61
  let c1_i32_53 : BitVec 32 := 1#32
  let v64 : BitVec 32 := Scalar.shli c1_i32_53 v63
  let v65 : BitVec 32 := Scalar.ori v62 v64
  let c1_i32_55 : BitVec 32 := 1#32
  let v67 : BitVec 32 := Scalar.shli c1_i32_55 v66
  let v68 : BitVec 32 := Scalar.ori v65 v67
  let c1_i32_58 : BitVec 32 := 1#32
  let v70 : BitVec 32 := Scalar.shli c1_i32_58 v69
  let v71 : BitVec 32 := Scalar.ori v68 v70
  let c1_i32_60 : BitVec 32 := 1#32
  let v73 : BitVec 32 := Scalar.shli c1_i32_60 v72
  let v74 : BitVec 32 := Scalar.ori v71 v73
  let c1_i32_63 : BitVec 32 := 1#32
  let v76 : BitVec 32 := Scalar.shli c1_i32_63 v75
  let v77 : BitVec 32 := Scalar.ori v74 v76
  let c1_i32_65 : BitVec 32 := 1#32
  let v79 : BitVec 32 := Scalar.shli c1_i32_65 v78
  let v80 : BitVec 32 := Scalar.ori v77 v79
  let c1_i32_68 : BitVec 32 := 1#32
  let v82 : BitVec 32 := Scalar.shli c1_i32_68 v81
  let v83 : BitVec 32 := Scalar.ori v80 v82
  let c1_i32_70 : BitVec 32 := 1#32
  let v85 : BitVec 32 := Scalar.shli c1_i32_70 v84
  let v86 : BitVec 32 := Scalar.ori v83 v85
  let c1_i32_73 : BitVec 32 := 1#32
  let v88 : BitVec 32 := Scalar.shli c1_i32_73 v87
  let v89 : BitVec 32 := Scalar.ori v86 v88
  let c1_i32_75 : BitVec 32 := 1#32
  let v91 : BitVec 32 := Scalar.shli c1_i32_75 v90
  let v92 : BitVec 32 := Scalar.ori v89 v91
  let c1_i32_78 : BitVec 32 := 1#32
  let v94 : BitVec 32 := Scalar.shli c1_i32_78 v93
  let v95 : BitVec 32 := Scalar.ori v92 v94
  let c1_i32_80 : BitVec 32 := 1#32
  let v97 : BitVec 32 := Scalar.shli c1_i32_80 v96
  let v98 : BitVec 32 := Scalar.ori v95 v97
  let c1_i32_83 : BitVec 32 := 1#32
  let v100 : BitVec 32 := Scalar.shli c1_i32_83 v99
  let v101 : BitVec 32 := Scalar.ori v98 v100
  let c1_i32_85 : BitVec 32 := 1#32
  let v103 : BitVec 32 := Scalar.shli c1_i32_85 v102
  let v104 : BitVec 32 := Scalar.ori v101 v103
  let c1_i32_88 : BitVec 32 := 1#32
  let v106 : BitVec 32 := Scalar.shli c1_i32_88 v105
  let v107 : BitVec 32 := Scalar.ori v104 v106
  let c1_i32_90 : BitVec 32 := 1#32
  let v109 : BitVec 32 := Scalar.shli c1_i32_90 v108
  let v110 : BitVec 32 := Scalar.ori v107 v109
  let c1_i32_93 : BitVec 32 := 1#32
  let v112 : BitVec 32 := Scalar.shli c1_i32_93 v111
  let v113 : BitVec 32 := Scalar.ori v110 v112
  let c1_i32_95 : BitVec 32 := 1#32
  let v115 : BitVec 32 := Scalar.shli c1_i32_95 v114
  let v116 : BitVec 32 := Scalar.ori v113 v115
  let c1_i32_98 : BitVec 32 := 1#32
  let v118 : BitVec 32 := Scalar.shli c1_i32_98 v117
  let v119 : BitVec 32 := Scalar.ori v116 v118
  let c1_i32_100 : BitVec 32 := 1#32
  let v121 : BitVec 32 := Scalar.shli c1_i32_100 v120
  let v122 : BitVec 32 := Scalar.ori v119 v121
  let c1_i32_103 : BitVec 32 := 1#32
  let v124 : BitVec 32 := Scalar.shli c1_i32_103 v123
  let v125 : BitVec 32 := Scalar.ori v122 v124
  let c1_i32_105 : BitVec 32 := 1#32
  let v127 : BitVec 32 := Scalar.shli c1_i32_105 v126
  let v128 : BitVec 32 := Scalar.ori v125 v127
  let c1_i32_108 : BitVec 32 := 1#32
  let v130 : BitVec 32 := Scalar.shli c1_i32_108 v129
  let v131 : BitVec 32 := Scalar.ori v128 v130
  let c1_i32_110 : BitVec 32 := 1#32
  let v133 : BitVec 32 := Scalar.shli c1_i32_110 v132
  let v134 : BitVec 32 := Scalar.ori v131 v133
  let c1_i32_113 : BitVec 32 := 1#32
  let v136 : BitVec 32 := Scalar.shli c1_i32_113 v135
  let v137 : BitVec 32 := Scalar.ori v134 v136
  let c1_i32_115 : BitVec 32 := 1#32
  let v139 : BitVec 32 := Scalar.shli c1_i32_115 v138
  let v140 : BitVec 32 := Scalar.ori v137 v139
  let c1_i32_118 : BitVec 32 := 1#32
  let v142 : BitVec 32 := Scalar.shli c1_i32_118 v141
  let v143 : BitVec 32 := Scalar.ori v140 v142
  let c0_i32_121 : BitVec 32 := 0#32
  let v145 : BitVec 32 := Scalar.shrsi v143 c0_i32_121
  let c1_i32_122 : BitVec 32 := 1#32
  let v146 : BitVec 32 := Scalar.andi v145 c1_i32_122
  let v147 : BitVec 32 := Scalar.addi c0_i32_123 v146
  let c1_i32_125 : BitVec 32 := 1#32
  let v150 : BitVec 32 := Scalar.shrsi v143 c1_i32_125
  let c1_i32_126 : BitVec 32 := 1#32
  let v151 : BitVec 32 := Scalar.andi v150 c1_i32_126
  let v152 : BitVec 32 := Scalar.addi v147 v151
  let c2_i32_127 : BitVec 32 := 2#32
  let v155 : BitVec 32 := Scalar.shrsi v143 c2_i32_127
  let c1_i32_128 : BitVec 32 := 1#32
  let v156 : BitVec 32 := Scalar.andi v155 c1_i32_128
  let v157 : BitVec 32 := Scalar.addi v152 v156
  let c3_i32_129 : BitVec 32 := 3#32
  let v160 : BitVec 32 := Scalar.shrsi v143 c3_i32_129
  let c1_i32_130 : BitVec 32 := 1#32
  let v161 : BitVec 32 := Scalar.andi v160 c1_i32_130
  let v162 : BitVec 32 := Scalar.addi v157 v161
  let c4_i32_131 : BitVec 32 := 4#32
  let v165 : BitVec 32 := Scalar.shrsi v143 c4_i32_131
  let c1_i32_132 : BitVec 32 := 1#32
  let v166 : BitVec 32 := Scalar.andi v165 c1_i32_132
  let v167 : BitVec 32 := Scalar.addi v162 v166
  let c5_i32_133 : BitVec 32 := 5#32
  let v170 : BitVec 32 := Scalar.shrsi v143 c5_i32_133
  let c1_i32_134 : BitVec 32 := 1#32
  let v171 : BitVec 32 := Scalar.andi v170 c1_i32_134
  let v172 : BitVec 32 := Scalar.addi v167 v171
  let c6_i32_135 : BitVec 32 := 6#32
  let v175 : BitVec 32 := Scalar.shrsi v143 c6_i32_135
  let c1_i32_136 : BitVec 32 := 1#32
  let v176 : BitVec 32 := Scalar.andi v175 c1_i32_136
  let v177 : BitVec 32 := Scalar.addi v172 v176
  let c7_i32_137 : BitVec 32 := 7#32
  let v180 : BitVec 32 := Scalar.shrsi v143 c7_i32_137
  let c1_i32_138 : BitVec 32 := 1#32
  let v181 : BitVec 32 := Scalar.andi v180 c1_i32_138
  let v182 : BitVec 32 := Scalar.addi v177 v181
  let c8_i32_139 : BitVec 32 := 8#32
  let v185 : BitVec 32 := Scalar.shrsi v143 c8_i32_139
  let c1_i32_140 : BitVec 32 := 1#32
  let v186 : BitVec 32 := Scalar.andi v185 c1_i32_140
  let v187 : BitVec 32 := Scalar.addi v182 v186
  let c9_i32_141 : BitVec 32 := 9#32
  let v190 : BitVec 32 := Scalar.shrsi v143 c9_i32_141
  let c1_i32_142 : BitVec 32 := 1#32
  let v191 : BitVec 32 := Scalar.andi v190 c1_i32_142
  let v192 : BitVec 32 := Scalar.addi v187 v191
  let c10_i32_143 : BitVec 32 := 10#32
  let v195 : BitVec 32 := Scalar.shrsi v143 c10_i32_143
  let c1_i32_144 : BitVec 32 := 1#32
  let v196 : BitVec 32 := Scalar.andi v195 c1_i32_144
  let v197 : BitVec 32 := Scalar.addi v192 v196
  let c11_i32_145 : BitVec 32 := 11#32
  let v200 : BitVec 32 := Scalar.shrsi v143 c11_i32_145
  let c1_i32_146 : BitVec 32 := 1#32
  let v201 : BitVec 32 := Scalar.andi v200 c1_i32_146
  let v202 : BitVec 32 := Scalar.addi v197 v201
  let c12_i32_147 : BitVec 32 := 12#32
  let v205 : BitVec 32 := Scalar.shrsi v143 c12_i32_147
  let c1_i32_148 : BitVec 32 := 1#32
  let v206 : BitVec 32 := Scalar.andi v205 c1_i32_148
  let v207 : BitVec 32 := Scalar.addi v202 v206
  let c13_i32_149 : BitVec 32 := 13#32
  let v210 : BitVec 32 := Scalar.shrsi v143 c13_i32_149
  let c1_i32_150 : BitVec 32 := 1#32
  let v211 : BitVec 32 := Scalar.andi v210 c1_i32_150
  let v212 : BitVec 32 := Scalar.addi v207 v211
  let c14_i32_151 : BitVec 32 := 14#32
  let v215 : BitVec 32 := Scalar.shrsi v143 c14_i32_151
  let c1_i32_152 : BitVec 32 := 1#32
  let v216 : BitVec 32 := Scalar.andi v215 c1_i32_152
  let v217 : BitVec 32 := Scalar.addi v212 v216
  let c15_i32_153 : BitVec 32 := 15#32
  let v220 : BitVec 32 := Scalar.shrsi v143 c15_i32_153
  let c1_i32_154 : BitVec 32 := 1#32
  let v221 : BitVec 32 := Scalar.andi v220 c1_i32_154
  let v222 : BitVec 32 := Scalar.addi v217 v221
  let v272 : BitVec 32 := Scalar.subi v222 c0_i32_207
  let c1_i32_208 : BitVec 32 := 1#32
  let v274 : BitVec 32 := Scalar.divsi v272 c1_i32_208
  let v275 : BitVec 32 := Scalar.muli v274 c1_i32_208
  let v276 : BitVec 32 := Scalar.addi c0_i32_207 v275
  let c1_i32_210 : BitVec 32 := 1#32
  let arg17 : BitVec 32 := Scf.iv v276 c1_i32_210 k0_t2
  let c2_i32_215 : BitVec 32 := 2#32
  let v280 : BitVec 32 := Scalar.remsi arg17 c2_i32_215
  let c2_i32_2173 : BitVec 32 := 2#32
  ![v280.toNat, 2]
def k0_off119 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 3 → Nat :=
  let c0_i32_207 : BitVec 32 := 0#32
  let c0_i32_123 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_2 : BitVec 32 := 1#32
  let v4 : BitVec 32 := Scalar.shli c1_i32_2 v3
  let v5 : BitVec 32 := Scalar.ori v2 v4
  let c1_i32_5 : BitVec 32 := 1#32
  let v7 : BitVec 32 := Scalar.shli c1_i32_5 v6
  let v8 : BitVec 32 := Scalar.ori v5 v7
  let c1_i32_8 : BitVec 32 := 1#32
  let v10 : BitVec 32 := Scalar.shli c1_i32_8 v9
  let v11 : BitVec 32 := Scalar.ori v8 v10
  let c1_i32_10 : BitVec 32 := 1#32
  let v13 : BitVec 32 := Scalar.shli c1_i32_10 v12
  let v14 : BitVec 32 := Scalar.ori v11 v13
  let c1_i32_13 : BitVec 32 := 1#32
  let v16 : BitVec 32 := Scalar.shli c1_i32_13 v15
  let v17 : BitVec 32 := Scalar.ori v14 v16
  let c1_i32_15 : BitVec 32 := 1#32
  let v19 : BitVec 32 := Scalar.shli c1_i32_15 v18
  let v20 : BitVec 32 := Scalar.ori v17 v19
  let c1_i32_18 : BitVec 32 := 1#32
  let v22 : BitVec 32 := Scalar.shli c1_i32_18 v21
  let v23 : BitVec 32 := Scalar.ori v20 v22
  let c1_i32_20 : BitVec 32 := 1#32
  let v25 : BitVec 32 := Scalar.shli c1_i32_20 v24
  let v26 : BitVec 32 := Scalar.ori v23 v25
  let c1_i32_23 : BitVec 32 := 1#32
  let v28 : BitVec 32 := Scalar.shli c1_i32_23 v27
  let v29 : BitVec 32 := Scalar.ori v26 v28
  let c1_i32_25 : BitVec 32 := 1#32
  let v31 : BitVec 32 := Scalar.shli c1_i32_25 v30
  let v32 : BitVec 32 := Scalar.ori v29 v31
  let c1_i32_28 : BitVec 32 := 1#32
  let v34 : BitVec 32 := Scalar.shli c1_i32_28 v33
  let v35 : BitVec 32 := Scalar.ori v32 v34
  let c1_i32_30 : BitVec 32 := 1#32
  let v37 : BitVec 32 := Scalar.shli c1_i32_30 v36
  let v38 : BitVec 32 := Scalar.ori v35 v37
  let c1_i32_33 : BitVec 32 := 1#32
  let v40 : BitVec 32 := Scalar.shli c1_i32_33 v39
  let v41 : BitVec 32 := Scalar.ori v38 v40
  let c1_i32_35 : BitVec 32 := 1#32
  let v43 : BitVec 32 := Scalar.shli c1_i32_35 v42
  let v44 : BitVec 32 := Scalar.ori v41 v43
  let c1_i32_38 : BitVec 32 := 1#32
  let v46 : BitVec 32 := Scalar.shli c1_i32_38 v45
  let v47 : BitVec 32 := Scalar.ori v44 v46
  let c1_i32_40 : BitVec 32 := 1#32
  let v49 : BitVec 32 := Scalar.shli c1_i32_40 v48
  let v50 : BitVec 32 := Scalar.ori v47 v49
  let c1_i32_43 : BitVec 32 := 1#32
  let v52 : BitVec 32 := Scalar.shli c1_i32_43 v51
  let v53 : BitVec 32 := Scalar.ori v50 v52
  let c1_i32_45 : BitVec 32 := 1#32
  let v55 : BitVec 32 := Scalar.shli c1_i32_45 v54
  let v56 : BitVec 32 := Scalar.ori v53 v55
  let c1_i32_48 : BitVec 32 := 1#32
  let v58 : BitVec 32 := Scalar.shli c1_i32_48 v57
  let v59 : BitVec 32 := Scalar.ori v56 v58
  let c1_i32_50 : BitVec 32 := 1#32
  let v61 : BitVec 32 := Scalar.shli c1_i32_50 v60
  let v62 : BitVec 32 := Scalar.ori v59 v61
  let c1_i32_53 : BitVec 32 := 1#32
  let v64 : BitVec 32 := Scalar.shli c1_i32_53 v63
  let v65 : BitVec 32 := Scalar.ori v62 v64
  let c1_i32_55 : BitVec 32 := 1#32
  let v67 : BitVec 32 := Scalar.shli c1_i32_55 v66
  let v68 : BitVec 32 := Scalar.ori v65 v67
  let c1_i32_58 : BitVec 32 := 1#32
  let v70 : BitVec 32 := Scalar.shli c1_i32_58 v69
  let v71 : BitVec 32 := Scalar.ori v68 v70
  let c1_i32_60 : BitVec 32 := 1#32
  let v73 : BitVec 32 := Scalar.shli c1_i32_60 v72
  let v74 : BitVec 32 := Scalar.ori v71 v73
  let c1_i32_63 : BitVec 32 := 1#32
  let v76 : BitVec 32 := Scalar.shli c1_i32_63 v75
  let v77 : BitVec 32 := Scalar.ori v74 v76
  let c1_i32_65 : BitVec 32 := 1#32
  let v79 : BitVec 32 := Scalar.shli c1_i32_65 v78
  let v80 : BitVec 32 := Scalar.ori v77 v79
  let c1_i32_68 : BitVec 32 := 1#32
  let v82 : BitVec 32 := Scalar.shli c1_i32_68 v81
  let v83 : BitVec 32 := Scalar.ori v80 v82
  let c1_i32_70 : BitVec 32 := 1#32
  let v85 : BitVec 32 := Scalar.shli c1_i32_70 v84
  let v86 : BitVec 32 := Scalar.ori v83 v85
  let c1_i32_73 : BitVec 32 := 1#32
  let v88 : BitVec 32 := Scalar.shli c1_i32_73 v87
  let v89 : BitVec 32 := Scalar.ori v86 v88
  let c1_i32_75 : BitVec 32 := 1#32
  let v91 : BitVec 32 := Scalar.shli c1_i32_75 v90
  let v92 : BitVec 32 := Scalar.ori v89 v91
  let c1_i32_78 : BitVec 32 := 1#32
  let v94 : BitVec 32 := Scalar.shli c1_i32_78 v93
  let v95 : BitVec 32 := Scalar.ori v92 v94
  let c1_i32_80 : BitVec 32 := 1#32
  let v97 : BitVec 32 := Scalar.shli c1_i32_80 v96
  let v98 : BitVec 32 := Scalar.ori v95 v97
  let c1_i32_83 : BitVec 32 := 1#32
  let v100 : BitVec 32 := Scalar.shli c1_i32_83 v99
  let v101 : BitVec 32 := Scalar.ori v98 v100
  let c1_i32_85 : BitVec 32 := 1#32
  let v103 : BitVec 32 := Scalar.shli c1_i32_85 v102
  let v104 : BitVec 32 := Scalar.ori v101 v103
  let c1_i32_88 : BitVec 32 := 1#32
  let v106 : BitVec 32 := Scalar.shli c1_i32_88 v105
  let v107 : BitVec 32 := Scalar.ori v104 v106
  let c1_i32_90 : BitVec 32 := 1#32
  let v109 : BitVec 32 := Scalar.shli c1_i32_90 v108
  let v110 : BitVec 32 := Scalar.ori v107 v109
  let c1_i32_93 : BitVec 32 := 1#32
  let v112 : BitVec 32 := Scalar.shli c1_i32_93 v111
  let v113 : BitVec 32 := Scalar.ori v110 v112
  let c1_i32_95 : BitVec 32 := 1#32
  let v115 : BitVec 32 := Scalar.shli c1_i32_95 v114
  let v116 : BitVec 32 := Scalar.ori v113 v115
  let c1_i32_98 : BitVec 32 := 1#32
  let v118 : BitVec 32 := Scalar.shli c1_i32_98 v117
  let v119 : BitVec 32 := Scalar.ori v116 v118
  let c1_i32_100 : BitVec 32 := 1#32
  let v121 : BitVec 32 := Scalar.shli c1_i32_100 v120
  let v122 : BitVec 32 := Scalar.ori v119 v121
  let c1_i32_103 : BitVec 32 := 1#32
  let v124 : BitVec 32 := Scalar.shli c1_i32_103 v123
  let v125 : BitVec 32 := Scalar.ori v122 v124
  let c1_i32_105 : BitVec 32 := 1#32
  let v127 : BitVec 32 := Scalar.shli c1_i32_105 v126
  let v128 : BitVec 32 := Scalar.ori v125 v127
  let c1_i32_108 : BitVec 32 := 1#32
  let v130 : BitVec 32 := Scalar.shli c1_i32_108 v129
  let v131 : BitVec 32 := Scalar.ori v128 v130
  let c1_i32_110 : BitVec 32 := 1#32
  let v133 : BitVec 32 := Scalar.shli c1_i32_110 v132
  let v134 : BitVec 32 := Scalar.ori v131 v133
  let c1_i32_113 : BitVec 32 := 1#32
  let v136 : BitVec 32 := Scalar.shli c1_i32_113 v135
  let v137 : BitVec 32 := Scalar.ori v134 v136
  let c1_i32_115 : BitVec 32 := 1#32
  let v139 : BitVec 32 := Scalar.shli c1_i32_115 v138
  let v140 : BitVec 32 := Scalar.ori v137 v139
  let c1_i32_118 : BitVec 32 := 1#32
  let v142 : BitVec 32 := Scalar.shli c1_i32_118 v141
  let v143 : BitVec 32 := Scalar.ori v140 v142
  let c0_i32_121 : BitVec 32 := 0#32
  let v145 : BitVec 32 := Scalar.shrsi v143 c0_i32_121
  let c1_i32_122 : BitVec 32 := 1#32
  let v146 : BitVec 32 := Scalar.andi v145 c1_i32_122
  let v147 : BitVec 32 := Scalar.addi c0_i32_123 v146
  let c1_i32_125 : BitVec 32 := 1#32
  let v150 : BitVec 32 := Scalar.shrsi v143 c1_i32_125
  let c1_i32_126 : BitVec 32 := 1#32
  let v151 : BitVec 32 := Scalar.andi v150 c1_i32_126
  let v152 : BitVec 32 := Scalar.addi v147 v151
  let c2_i32_127 : BitVec 32 := 2#32
  let v155 : BitVec 32 := Scalar.shrsi v143 c2_i32_127
  let c1_i32_128 : BitVec 32 := 1#32
  let v156 : BitVec 32 := Scalar.andi v155 c1_i32_128
  let v157 : BitVec 32 := Scalar.addi v152 v156
  let c3_i32_129 : BitVec 32 := 3#32
  let v160 : BitVec 32 := Scalar.shrsi v143 c3_i32_129
  let c1_i32_130 : BitVec 32 := 1#32
  let v161 : BitVec 32 := Scalar.andi v160 c1_i32_130
  let v162 : BitVec 32 := Scalar.addi v157 v161
  let c4_i32_131 : BitVec 32 := 4#32
  let v165 : BitVec 32 := Scalar.shrsi v143 c4_i32_131
  let c1_i32_132 : BitVec 32 := 1#32
  let v166 : BitVec 32 := Scalar.andi v165 c1_i32_132
  let v167 : BitVec 32 := Scalar.addi v162 v166
  let c5_i32_133 : BitVec 32 := 5#32
  let v170 : BitVec 32 := Scalar.shrsi v143 c5_i32_133
  let c1_i32_134 : BitVec 32 := 1#32
  let v171 : BitVec 32 := Scalar.andi v170 c1_i32_134
  let v172 : BitVec 32 := Scalar.addi v167 v171
  let c6_i32_135 : BitVec 32 := 6#32
  let v175 : BitVec 32 := Scalar.shrsi v143 c6_i32_135
  let c1_i32_136 : BitVec 32 := 1#32
  let v176 : BitVec 32 := Scalar.andi v175 c1_i32_136
  let v177 : BitVec 32 := Scalar.addi v172 v176
  let c7_i32_137 : BitVec 32 := 7#32
  let v180 : BitVec 32 := Scalar.shrsi v143 c7_i32_137
  let c1_i32_138 : BitVec 32 := 1#32
  let v181 : BitVec 32 := Scalar.andi v180 c1_i32_138
  let v182 : BitVec 32 := Scalar.addi v177 v181
  let c8_i32_139 : BitVec 32 := 8#32
  let v185 : BitVec 32 := Scalar.shrsi v143 c8_i32_139
  let c1_i32_140 : BitVec 32 := 1#32
  let v186 : BitVec 32 := Scalar.andi v185 c1_i32_140
  let v187 : BitVec 32 := Scalar.addi v182 v186
  let c9_i32_141 : BitVec 32 := 9#32
  let v190 : BitVec 32 := Scalar.shrsi v143 c9_i32_141
  let c1_i32_142 : BitVec 32 := 1#32
  let v191 : BitVec 32 := Scalar.andi v190 c1_i32_142
  let v192 : BitVec 32 := Scalar.addi v187 v191
  let c10_i32_143 : BitVec 32 := 10#32
  let v195 : BitVec 32 := Scalar.shrsi v143 c10_i32_143
  let c1_i32_144 : BitVec 32 := 1#32
  let v196 : BitVec 32 := Scalar.andi v195 c1_i32_144
  let v197 : BitVec 32 := Scalar.addi v192 v196
  let c11_i32_145 : BitVec 32 := 11#32
  let v200 : BitVec 32 := Scalar.shrsi v143 c11_i32_145
  let c1_i32_146 : BitVec 32 := 1#32
  let v201 : BitVec 32 := Scalar.andi v200 c1_i32_146
  let v202 : BitVec 32 := Scalar.addi v197 v201
  let c12_i32_147 : BitVec 32 := 12#32
  let v205 : BitVec 32 := Scalar.shrsi v143 c12_i32_147
  let c1_i32_148 : BitVec 32 := 1#32
  let v206 : BitVec 32 := Scalar.andi v205 c1_i32_148
  let v207 : BitVec 32 := Scalar.addi v202 v206
  let c13_i32_149 : BitVec 32 := 13#32
  let v210 : BitVec 32 := Scalar.shrsi v143 c13_i32_149
  let c1_i32_150 : BitVec 32 := 1#32
  let v211 : BitVec 32 := Scalar.andi v210 c1_i32_150
  let v212 : BitVec 32 := Scalar.addi v207 v211
  let c14_i32_151 : BitVec 32 := 14#32
  let v215 : BitVec 32 := Scalar.shrsi v143 c14_i32_151
  let c1_i32_152 : BitVec 32 := 1#32
  let v216 : BitVec 32 := Scalar.andi v215 c1_i32_152
  let v217 : BitVec 32 := Scalar.addi v212 v216
  let c15_i32_153 : BitVec 32 := 15#32
  let v220 : BitVec 32 := Scalar.shrsi v143 c15_i32_153
  let c1_i32_154 : BitVec 32 := 1#32
  let v221 : BitVec 32 := Scalar.andi v220 c1_i32_154
  let v222 : BitVec 32 := Scalar.addi v217 v221
  let v272 : BitVec 32 := Scalar.subi v222 c0_i32_207
  let c1_i32_208 : BitVec 32 := 1#32
  let v274 : BitVec 32 := Scalar.divsi v272 c1_i32_208
  let v275 : BitVec 32 := Scalar.muli v274 c1_i32_208
  let v276 : BitVec 32 := Scalar.addi c0_i32_207 v275
  let c1_i32_210 : BitVec 32 := 1#32
  let arg17 : BitVec 32 := Scf.iv v276 c1_i32_210 k0_t2
  let c2_i32_215 : BitVec 32 := 2#32
  let v280 : BitVec 32 := Scalar.remsi arg17 c2_i32_215
  let c0_i32_2174 : BitVec 32 := 0#32
  let c0_i32_2175 : BitVec 32 := 0#32
  ![v280.toNat, 0, 0]
def k0_off120 (v5002 : BitVec 32) : Fin 3 → Nat :=
  let c0_i32_2176 : BitVec 32 := 0#32
  let c0_i32_2177 : BitVec 32 := 0#32
  ![v5002.toNat, 0, 0]

def k0_off121 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 2 → Nat :=
  let c0_i32_207 : BitVec 32 := 0#32
  let c0_i32_123 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_2 : BitVec 32 := 1#32
  let v4 : BitVec 32 := Scalar.shli c1_i32_2 v3
  let v5 : BitVec 32 := Scalar.ori v2 v4
  let c1_i32_5 : BitVec 32 := 1#32
  let v7 : BitVec 32 := Scalar.shli c1_i32_5 v6
  let v8 : BitVec 32 := Scalar.ori v5 v7
  let c1_i32_8 : BitVec 32 := 1#32
  let v10 : BitVec 32 := Scalar.shli c1_i32_8 v9
  let v11 : BitVec 32 := Scalar.ori v8 v10
  let c1_i32_10 : BitVec 32 := 1#32
  let v13 : BitVec 32 := Scalar.shli c1_i32_10 v12
  let v14 : BitVec 32 := Scalar.ori v11 v13
  let c1_i32_13 : BitVec 32 := 1#32
  let v16 : BitVec 32 := Scalar.shli c1_i32_13 v15
  let v17 : BitVec 32 := Scalar.ori v14 v16
  let c1_i32_15 : BitVec 32 := 1#32
  let v19 : BitVec 32 := Scalar.shli c1_i32_15 v18
  let v20 : BitVec 32 := Scalar.ori v17 v19
  let c1_i32_18 : BitVec 32 := 1#32
  let v22 : BitVec 32 := Scalar.shli c1_i32_18 v21
  let v23 : BitVec 32 := Scalar.ori v20 v22
  let c1_i32_20 : BitVec 32 := 1#32
  let v25 : BitVec 32 := Scalar.shli c1_i32_20 v24
  let v26 : BitVec 32 := Scalar.ori v23 v25
  let c1_i32_23 : BitVec 32 := 1#32
  let v28 : BitVec 32 := Scalar.shli c1_i32_23 v27
  let v29 : BitVec 32 := Scalar.ori v26 v28
  let c1_i32_25 : BitVec 32 := 1#32
  let v31 : BitVec 32 := Scalar.shli c1_i32_25 v30
  let v32 : BitVec 32 := Scalar.ori v29 v31
  let c1_i32_28 : BitVec 32 := 1#32
  let v34 : BitVec 32 := Scalar.shli c1_i32_28 v33
  let v35 : BitVec 32 := Scalar.ori v32 v34
  let c1_i32_30 : BitVec 32 := 1#32
  let v37 : BitVec 32 := Scalar.shli c1_i32_30 v36
  let v38 : BitVec 32 := Scalar.ori v35 v37
  let c1_i32_33 : BitVec 32 := 1#32
  let v40 : BitVec 32 := Scalar.shli c1_i32_33 v39
  let v41 : BitVec 32 := Scalar.ori v38 v40
  let c1_i32_35 : BitVec 32 := 1#32
  let v43 : BitVec 32 := Scalar.shli c1_i32_35 v42
  let v44 : BitVec 32 := Scalar.ori v41 v43
  let c1_i32_38 : BitVec 32 := 1#32
  let v46 : BitVec 32 := Scalar.shli c1_i32_38 v45
  let v47 : BitVec 32 := Scalar.ori v44 v46
  let c1_i32_40 : BitVec 32 := 1#32
  let v49 : BitVec 32 := Scalar.shli c1_i32_40 v48
  let v50 : BitVec 32 := Scalar.ori v47 v49
  let c1_i32_43 : BitVec 32 := 1#32
  let v52 : BitVec 32 := Scalar.shli c1_i32_43 v51
  let v53 : BitVec 32 := Scalar.ori v50 v52
  let c1_i32_45 : BitVec 32 := 1#32
  let v55 : BitVec 32 := Scalar.shli c1_i32_45 v54
  let v56 : BitVec 32 := Scalar.ori v53 v55
  let c1_i32_48 : BitVec 32 := 1#32
  let v58 : BitVec 32 := Scalar.shli c1_i32_48 v57
  let v59 : BitVec 32 := Scalar.ori v56 v58
  let c1_i32_50 : BitVec 32 := 1#32
  let v61 : BitVec 32 := Scalar.shli c1_i32_50 v60
  let v62 : BitVec 32 := Scalar.ori v59 v61
  let c1_i32_53 : BitVec 32 := 1#32
  let v64 : BitVec 32 := Scalar.shli c1_i32_53 v63
  let v65 : BitVec 32 := Scalar.ori v62 v64
  let c1_i32_55 : BitVec 32 := 1#32
  let v67 : BitVec 32 := Scalar.shli c1_i32_55 v66
  let v68 : BitVec 32 := Scalar.ori v65 v67
  let c1_i32_58 : BitVec 32 := 1#32
  let v70 : BitVec 32 := Scalar.shli c1_i32_58 v69
  let v71 : BitVec 32 := Scalar.ori v68 v70
  let c1_i32_60 : BitVec 32 := 1#32
  let v73 : BitVec 32 := Scalar.shli c1_i32_60 v72
  let v74 : BitVec 32 := Scalar.ori v71 v73
  let c1_i32_63 : BitVec 32 := 1#32
  let v76 : BitVec 32 := Scalar.shli c1_i32_63 v75
  let v77 : BitVec 32 := Scalar.ori v74 v76
  let c1_i32_65 : BitVec 32 := 1#32
  let v79 : BitVec 32 := Scalar.shli c1_i32_65 v78
  let v80 : BitVec 32 := Scalar.ori v77 v79
  let c1_i32_68 : BitVec 32 := 1#32
  let v82 : BitVec 32 := Scalar.shli c1_i32_68 v81
  let v83 : BitVec 32 := Scalar.ori v80 v82
  let c1_i32_70 : BitVec 32 := 1#32
  let v85 : BitVec 32 := Scalar.shli c1_i32_70 v84
  let v86 : BitVec 32 := Scalar.ori v83 v85
  let c1_i32_73 : BitVec 32 := 1#32
  let v88 : BitVec 32 := Scalar.shli c1_i32_73 v87
  let v89 : BitVec 32 := Scalar.ori v86 v88
  let c1_i32_75 : BitVec 32 := 1#32
  let v91 : BitVec 32 := Scalar.shli c1_i32_75 v90
  let v92 : BitVec 32 := Scalar.ori v89 v91
  let c1_i32_78 : BitVec 32 := 1#32
  let v94 : BitVec 32 := Scalar.shli c1_i32_78 v93
  let v95 : BitVec 32 := Scalar.ori v92 v94
  let c1_i32_80 : BitVec 32 := 1#32
  let v97 : BitVec 32 := Scalar.shli c1_i32_80 v96
  let v98 : BitVec 32 := Scalar.ori v95 v97
  let c1_i32_83 : BitVec 32 := 1#32
  let v100 : BitVec 32 := Scalar.shli c1_i32_83 v99
  let v101 : BitVec 32 := Scalar.ori v98 v100
  let c1_i32_85 : BitVec 32 := 1#32
  let v103 : BitVec 32 := Scalar.shli c1_i32_85 v102
  let v104 : BitVec 32 := Scalar.ori v101 v103
  let c1_i32_88 : BitVec 32 := 1#32
  let v106 : BitVec 32 := Scalar.shli c1_i32_88 v105
  let v107 : BitVec 32 := Scalar.ori v104 v106
  let c1_i32_90 : BitVec 32 := 1#32
  let v109 : BitVec 32 := Scalar.shli c1_i32_90 v108
  let v110 : BitVec 32 := Scalar.ori v107 v109
  let c1_i32_93 : BitVec 32 := 1#32
  let v112 : BitVec 32 := Scalar.shli c1_i32_93 v111
  let v113 : BitVec 32 := Scalar.ori v110 v112
  let c1_i32_95 : BitVec 32 := 1#32
  let v115 : BitVec 32 := Scalar.shli c1_i32_95 v114
  let v116 : BitVec 32 := Scalar.ori v113 v115
  let c1_i32_98 : BitVec 32 := 1#32
  let v118 : BitVec 32 := Scalar.shli c1_i32_98 v117
  let v119 : BitVec 32 := Scalar.ori v116 v118
  let c1_i32_100 : BitVec 32 := 1#32
  let v121 : BitVec 32 := Scalar.shli c1_i32_100 v120
  let v122 : BitVec 32 := Scalar.ori v119 v121
  let c1_i32_103 : BitVec 32 := 1#32
  let v124 : BitVec 32 := Scalar.shli c1_i32_103 v123
  let v125 : BitVec 32 := Scalar.ori v122 v124
  let c1_i32_105 : BitVec 32 := 1#32
  let v127 : BitVec 32 := Scalar.shli c1_i32_105 v126
  let v128 : BitVec 32 := Scalar.ori v125 v127
  let c1_i32_108 : BitVec 32 := 1#32
  let v130 : BitVec 32 := Scalar.shli c1_i32_108 v129
  let v131 : BitVec 32 := Scalar.ori v128 v130
  let c1_i32_110 : BitVec 32 := 1#32
  let v133 : BitVec 32 := Scalar.shli c1_i32_110 v132
  let v134 : BitVec 32 := Scalar.ori v131 v133
  let c1_i32_113 : BitVec 32 := 1#32
  let v136 : BitVec 32 := Scalar.shli c1_i32_113 v135
  let v137 : BitVec 32 := Scalar.ori v134 v136
  let c1_i32_115 : BitVec 32 := 1#32
  let v139 : BitVec 32 := Scalar.shli c1_i32_115 v138
  let v140 : BitVec 32 := Scalar.ori v137 v139
  let c1_i32_118 : BitVec 32 := 1#32
  let v142 : BitVec 32 := Scalar.shli c1_i32_118 v141
  let v143 : BitVec 32 := Scalar.ori v140 v142
  let c0_i32_121 : BitVec 32 := 0#32
  let v145 : BitVec 32 := Scalar.shrsi v143 c0_i32_121
  let c1_i32_122 : BitVec 32 := 1#32
  let v146 : BitVec 32 := Scalar.andi v145 c1_i32_122
  let v147 : BitVec 32 := Scalar.addi c0_i32_123 v146
  let c1_i32_125 : BitVec 32 := 1#32
  let v150 : BitVec 32 := Scalar.shrsi v143 c1_i32_125
  let c1_i32_126 : BitVec 32 := 1#32
  let v151 : BitVec 32 := Scalar.andi v150 c1_i32_126
  let v152 : BitVec 32 := Scalar.addi v147 v151
  let c2_i32_127 : BitVec 32 := 2#32
  let v155 : BitVec 32 := Scalar.shrsi v143 c2_i32_127
  let c1_i32_128 : BitVec 32 := 1#32
  let v156 : BitVec 32 := Scalar.andi v155 c1_i32_128
  let v157 : BitVec 32 := Scalar.addi v152 v156
  let c3_i32_129 : BitVec 32 := 3#32
  let v160 : BitVec 32 := Scalar.shrsi v143 c3_i32_129
  let c1_i32_130 : BitVec 32 := 1#32
  let v161 : BitVec 32 := Scalar.andi v160 c1_i32_130
  let v162 : BitVec 32 := Scalar.addi v157 v161
  let c4_i32_131 : BitVec 32 := 4#32
  let v165 : BitVec 32 := Scalar.shrsi v143 c4_i32_131
  let c1_i32_132 : BitVec 32 := 1#32
  let v166 : BitVec 32 := Scalar.andi v165 c1_i32_132
  let v167 : BitVec 32 := Scalar.addi v162 v166
  let c5_i32_133 : BitVec 32 := 5#32
  let v170 : BitVec 32 := Scalar.shrsi v143 c5_i32_133
  let c1_i32_134 : BitVec 32 := 1#32
  let v171 : BitVec 32 := Scalar.andi v170 c1_i32_134
  let v172 : BitVec 32 := Scalar.addi v167 v171
  let c6_i32_135 : BitVec 32 := 6#32
  let v175 : BitVec 32 := Scalar.shrsi v143 c6_i32_135
  let c1_i32_136 : BitVec 32 := 1#32
  let v176 : BitVec 32 := Scalar.andi v175 c1_i32_136
  let v177 : BitVec 32 := Scalar.addi v172 v176
  let c7_i32_137 : BitVec 32 := 7#32
  let v180 : BitVec 32 := Scalar.shrsi v143 c7_i32_137
  let c1_i32_138 : BitVec 32 := 1#32
  let v181 : BitVec 32 := Scalar.andi v180 c1_i32_138
  let v182 : BitVec 32 := Scalar.addi v177 v181
  let c8_i32_139 : BitVec 32 := 8#32
  let v185 : BitVec 32 := Scalar.shrsi v143 c8_i32_139
  let c1_i32_140 : BitVec 32 := 1#32
  let v186 : BitVec 32 := Scalar.andi v185 c1_i32_140
  let v187 : BitVec 32 := Scalar.addi v182 v186
  let c9_i32_141 : BitVec 32 := 9#32
  let v190 : BitVec 32 := Scalar.shrsi v143 c9_i32_141
  let c1_i32_142 : BitVec 32 := 1#32
  let v191 : BitVec 32 := Scalar.andi v190 c1_i32_142
  let v192 : BitVec 32 := Scalar.addi v187 v191
  let c10_i32_143 : BitVec 32 := 10#32
  let v195 : BitVec 32 := Scalar.shrsi v143 c10_i32_143
  let c1_i32_144 : BitVec 32 := 1#32
  let v196 : BitVec 32 := Scalar.andi v195 c1_i32_144
  let v197 : BitVec 32 := Scalar.addi v192 v196
  let c11_i32_145 : BitVec 32 := 11#32
  let v200 : BitVec 32 := Scalar.shrsi v143 c11_i32_145
  let c1_i32_146 : BitVec 32 := 1#32
  let v201 : BitVec 32 := Scalar.andi v200 c1_i32_146
  let v202 : BitVec 32 := Scalar.addi v197 v201
  let c12_i32_147 : BitVec 32 := 12#32
  let v205 : BitVec 32 := Scalar.shrsi v143 c12_i32_147
  let c1_i32_148 : BitVec 32 := 1#32
  let v206 : BitVec 32 := Scalar.andi v205 c1_i32_148
  let v207 : BitVec 32 := Scalar.addi v202 v206
  let c13_i32_149 : BitVec 32 := 13#32
  let v210 : BitVec 32 := Scalar.shrsi v143 c13_i32_149
  let c1_i32_150 : BitVec 32 := 1#32
  let v211 : BitVec 32 := Scalar.andi v210 c1_i32_150
  let v212 : BitVec 32 := Scalar.addi v207 v211
  let c14_i32_151 : BitVec 32 := 14#32
  let v215 : BitVec 32 := Scalar.shrsi v143 c14_i32_151
  let c1_i32_152 : BitVec 32 := 1#32
  let v216 : BitVec 32 := Scalar.andi v215 c1_i32_152
  let v217 : BitVec 32 := Scalar.addi v212 v216
  let c15_i32_153 : BitVec 32 := 15#32
  let v220 : BitVec 32 := Scalar.shrsi v143 c15_i32_153
  let c1_i32_154 : BitVec 32 := 1#32
  let v221 : BitVec 32 := Scalar.andi v220 c1_i32_154
  let v222 : BitVec 32 := Scalar.addi v217 v221
  let v272 : BitVec 32 := Scalar.subi v222 c0_i32_207
  let c1_i32_208 : BitVec 32 := 1#32
  let v274 : BitVec 32 := Scalar.divsi v272 c1_i32_208
  let v275 : BitVec 32 := Scalar.muli v274 c1_i32_208
  let v276 : BitVec 32 := Scalar.addi c0_i32_207 v275
  let c1_i32_210 : BitVec 32 := 1#32
  let arg17 : BitVec 32 := Scf.iv v276 c1_i32_210 k0_t2
  let c2_i32_215 : BitVec 32 := 2#32
  let v280 : BitVec 32 := Scalar.remsi arg17 c2_i32_215
  let c2_i32_2178 : BitVec 32 := 2#32
  ![v280.toNat, 2]
def k0_off122 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 3 → Nat :=
  let c0_i32_207 : BitVec 32 := 0#32
  let c0_i32_123 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_2 : BitVec 32 := 1#32
  let v4 : BitVec 32 := Scalar.shli c1_i32_2 v3
  let v5 : BitVec 32 := Scalar.ori v2 v4
  let c1_i32_5 : BitVec 32 := 1#32
  let v7 : BitVec 32 := Scalar.shli c1_i32_5 v6
  let v8 : BitVec 32 := Scalar.ori v5 v7
  let c1_i32_8 : BitVec 32 := 1#32
  let v10 : BitVec 32 := Scalar.shli c1_i32_8 v9
  let v11 : BitVec 32 := Scalar.ori v8 v10
  let c1_i32_10 : BitVec 32 := 1#32
  let v13 : BitVec 32 := Scalar.shli c1_i32_10 v12
  let v14 : BitVec 32 := Scalar.ori v11 v13
  let c1_i32_13 : BitVec 32 := 1#32
  let v16 : BitVec 32 := Scalar.shli c1_i32_13 v15
  let v17 : BitVec 32 := Scalar.ori v14 v16
  let c1_i32_15 : BitVec 32 := 1#32
  let v19 : BitVec 32 := Scalar.shli c1_i32_15 v18
  let v20 : BitVec 32 := Scalar.ori v17 v19
  let c1_i32_18 : BitVec 32 := 1#32
  let v22 : BitVec 32 := Scalar.shli c1_i32_18 v21
  let v23 : BitVec 32 := Scalar.ori v20 v22
  let c1_i32_20 : BitVec 32 := 1#32
  let v25 : BitVec 32 := Scalar.shli c1_i32_20 v24
  let v26 : BitVec 32 := Scalar.ori v23 v25
  let c1_i32_23 : BitVec 32 := 1#32
  let v28 : BitVec 32 := Scalar.shli c1_i32_23 v27
  let v29 : BitVec 32 := Scalar.ori v26 v28
  let c1_i32_25 : BitVec 32 := 1#32
  let v31 : BitVec 32 := Scalar.shli c1_i32_25 v30
  let v32 : BitVec 32 := Scalar.ori v29 v31
  let c1_i32_28 : BitVec 32 := 1#32
  let v34 : BitVec 32 := Scalar.shli c1_i32_28 v33
  let v35 : BitVec 32 := Scalar.ori v32 v34
  let c1_i32_30 : BitVec 32 := 1#32
  let v37 : BitVec 32 := Scalar.shli c1_i32_30 v36
  let v38 : BitVec 32 := Scalar.ori v35 v37
  let c1_i32_33 : BitVec 32 := 1#32
  let v40 : BitVec 32 := Scalar.shli c1_i32_33 v39
  let v41 : BitVec 32 := Scalar.ori v38 v40
  let c1_i32_35 : BitVec 32 := 1#32
  let v43 : BitVec 32 := Scalar.shli c1_i32_35 v42
  let v44 : BitVec 32 := Scalar.ori v41 v43
  let c1_i32_38 : BitVec 32 := 1#32
  let v46 : BitVec 32 := Scalar.shli c1_i32_38 v45
  let v47 : BitVec 32 := Scalar.ori v44 v46
  let c1_i32_40 : BitVec 32 := 1#32
  let v49 : BitVec 32 := Scalar.shli c1_i32_40 v48
  let v50 : BitVec 32 := Scalar.ori v47 v49
  let c1_i32_43 : BitVec 32 := 1#32
  let v52 : BitVec 32 := Scalar.shli c1_i32_43 v51
  let v53 : BitVec 32 := Scalar.ori v50 v52
  let c1_i32_45 : BitVec 32 := 1#32
  let v55 : BitVec 32 := Scalar.shli c1_i32_45 v54
  let v56 : BitVec 32 := Scalar.ori v53 v55
  let c1_i32_48 : BitVec 32 := 1#32
  let v58 : BitVec 32 := Scalar.shli c1_i32_48 v57
  let v59 : BitVec 32 := Scalar.ori v56 v58
  let c1_i32_50 : BitVec 32 := 1#32
  let v61 : BitVec 32 := Scalar.shli c1_i32_50 v60
  let v62 : BitVec 32 := Scalar.ori v59 v61
  let c1_i32_53 : BitVec 32 := 1#32
  let v64 : BitVec 32 := Scalar.shli c1_i32_53 v63
  let v65 : BitVec 32 := Scalar.ori v62 v64
  let c1_i32_55 : BitVec 32 := 1#32
  let v67 : BitVec 32 := Scalar.shli c1_i32_55 v66
  let v68 : BitVec 32 := Scalar.ori v65 v67
  let c1_i32_58 : BitVec 32 := 1#32
  let v70 : BitVec 32 := Scalar.shli c1_i32_58 v69
  let v71 : BitVec 32 := Scalar.ori v68 v70
  let c1_i32_60 : BitVec 32 := 1#32
  let v73 : BitVec 32 := Scalar.shli c1_i32_60 v72
  let v74 : BitVec 32 := Scalar.ori v71 v73
  let c1_i32_63 : BitVec 32 := 1#32
  let v76 : BitVec 32 := Scalar.shli c1_i32_63 v75
  let v77 : BitVec 32 := Scalar.ori v74 v76
  let c1_i32_65 : BitVec 32 := 1#32
  let v79 : BitVec 32 := Scalar.shli c1_i32_65 v78
  let v80 : BitVec 32 := Scalar.ori v77 v79
  let c1_i32_68 : BitVec 32 := 1#32
  let v82 : BitVec 32 := Scalar.shli c1_i32_68 v81
  let v83 : BitVec 32 := Scalar.ori v80 v82
  let c1_i32_70 : BitVec 32 := 1#32
  let v85 : BitVec 32 := Scalar.shli c1_i32_70 v84
  let v86 : BitVec 32 := Scalar.ori v83 v85
  let c1_i32_73 : BitVec 32 := 1#32
  let v88 : BitVec 32 := Scalar.shli c1_i32_73 v87
  let v89 : BitVec 32 := Scalar.ori v86 v88
  let c1_i32_75 : BitVec 32 := 1#32
  let v91 : BitVec 32 := Scalar.shli c1_i32_75 v90
  let v92 : BitVec 32 := Scalar.ori v89 v91
  let c1_i32_78 : BitVec 32 := 1#32
  let v94 : BitVec 32 := Scalar.shli c1_i32_78 v93
  let v95 : BitVec 32 := Scalar.ori v92 v94
  let c1_i32_80 : BitVec 32 := 1#32
  let v97 : BitVec 32 := Scalar.shli c1_i32_80 v96
  let v98 : BitVec 32 := Scalar.ori v95 v97
  let c1_i32_83 : BitVec 32 := 1#32
  let v100 : BitVec 32 := Scalar.shli c1_i32_83 v99
  let v101 : BitVec 32 := Scalar.ori v98 v100
  let c1_i32_85 : BitVec 32 := 1#32
  let v103 : BitVec 32 := Scalar.shli c1_i32_85 v102
  let v104 : BitVec 32 := Scalar.ori v101 v103
  let c1_i32_88 : BitVec 32 := 1#32
  let v106 : BitVec 32 := Scalar.shli c1_i32_88 v105
  let v107 : BitVec 32 := Scalar.ori v104 v106
  let c1_i32_90 : BitVec 32 := 1#32
  let v109 : BitVec 32 := Scalar.shli c1_i32_90 v108
  let v110 : BitVec 32 := Scalar.ori v107 v109
  let c1_i32_93 : BitVec 32 := 1#32
  let v112 : BitVec 32 := Scalar.shli c1_i32_93 v111
  let v113 : BitVec 32 := Scalar.ori v110 v112
  let c1_i32_95 : BitVec 32 := 1#32
  let v115 : BitVec 32 := Scalar.shli c1_i32_95 v114
  let v116 : BitVec 32 := Scalar.ori v113 v115
  let c1_i32_98 : BitVec 32 := 1#32
  let v118 : BitVec 32 := Scalar.shli c1_i32_98 v117
  let v119 : BitVec 32 := Scalar.ori v116 v118
  let c1_i32_100 : BitVec 32 := 1#32
  let v121 : BitVec 32 := Scalar.shli c1_i32_100 v120
  let v122 : BitVec 32 := Scalar.ori v119 v121
  let c1_i32_103 : BitVec 32 := 1#32
  let v124 : BitVec 32 := Scalar.shli c1_i32_103 v123
  let v125 : BitVec 32 := Scalar.ori v122 v124
  let c1_i32_105 : BitVec 32 := 1#32
  let v127 : BitVec 32 := Scalar.shli c1_i32_105 v126
  let v128 : BitVec 32 := Scalar.ori v125 v127
  let c1_i32_108 : BitVec 32 := 1#32
  let v130 : BitVec 32 := Scalar.shli c1_i32_108 v129
  let v131 : BitVec 32 := Scalar.ori v128 v130
  let c1_i32_110 : BitVec 32 := 1#32
  let v133 : BitVec 32 := Scalar.shli c1_i32_110 v132
  let v134 : BitVec 32 := Scalar.ori v131 v133
  let c1_i32_113 : BitVec 32 := 1#32
  let v136 : BitVec 32 := Scalar.shli c1_i32_113 v135
  let v137 : BitVec 32 := Scalar.ori v134 v136
  let c1_i32_115 : BitVec 32 := 1#32
  let v139 : BitVec 32 := Scalar.shli c1_i32_115 v138
  let v140 : BitVec 32 := Scalar.ori v137 v139
  let c1_i32_118 : BitVec 32 := 1#32
  let v142 : BitVec 32 := Scalar.shli c1_i32_118 v141
  let v143 : BitVec 32 := Scalar.ori v140 v142
  let c0_i32_121 : BitVec 32 := 0#32
  let v145 : BitVec 32 := Scalar.shrsi v143 c0_i32_121
  let c1_i32_122 : BitVec 32 := 1#32
  let v146 : BitVec 32 := Scalar.andi v145 c1_i32_122
  let v147 : BitVec 32 := Scalar.addi c0_i32_123 v146
  let c1_i32_125 : BitVec 32 := 1#32
  let v150 : BitVec 32 := Scalar.shrsi v143 c1_i32_125
  let c1_i32_126 : BitVec 32 := 1#32
  let v151 : BitVec 32 := Scalar.andi v150 c1_i32_126
  let v152 : BitVec 32 := Scalar.addi v147 v151
  let c2_i32_127 : BitVec 32 := 2#32
  let v155 : BitVec 32 := Scalar.shrsi v143 c2_i32_127
  let c1_i32_128 : BitVec 32 := 1#32
  let v156 : BitVec 32 := Scalar.andi v155 c1_i32_128
  let v157 : BitVec 32 := Scalar.addi v152 v156
  let c3_i32_129 : BitVec 32 := 3#32
  let v160 : BitVec 32 := Scalar.shrsi v143 c3_i32_129
  let c1_i32_130 : BitVec 32 := 1#32
  let v161 : BitVec 32 := Scalar.andi v160 c1_i32_130
  let v162 : BitVec 32 := Scalar.addi v157 v161
  let c4_i32_131 : BitVec 32 := 4#32
  let v165 : BitVec 32 := Scalar.shrsi v143 c4_i32_131
  let c1_i32_132 : BitVec 32 := 1#32
  let v166 : BitVec 32 := Scalar.andi v165 c1_i32_132
  let v167 : BitVec 32 := Scalar.addi v162 v166
  let c5_i32_133 : BitVec 32 := 5#32
  let v170 : BitVec 32 := Scalar.shrsi v143 c5_i32_133
  let c1_i32_134 : BitVec 32 := 1#32
  let v171 : BitVec 32 := Scalar.andi v170 c1_i32_134
  let v172 : BitVec 32 := Scalar.addi v167 v171
  let c6_i32_135 : BitVec 32 := 6#32
  let v175 : BitVec 32 := Scalar.shrsi v143 c6_i32_135
  let c1_i32_136 : BitVec 32 := 1#32
  let v176 : BitVec 32 := Scalar.andi v175 c1_i32_136
  let v177 : BitVec 32 := Scalar.addi v172 v176
  let c7_i32_137 : BitVec 32 := 7#32
  let v180 : BitVec 32 := Scalar.shrsi v143 c7_i32_137
  let c1_i32_138 : BitVec 32 := 1#32
  let v181 : BitVec 32 := Scalar.andi v180 c1_i32_138
  let v182 : BitVec 32 := Scalar.addi v177 v181
  let c8_i32_139 : BitVec 32 := 8#32
  let v185 : BitVec 32 := Scalar.shrsi v143 c8_i32_139
  let c1_i32_140 : BitVec 32 := 1#32
  let v186 : BitVec 32 := Scalar.andi v185 c1_i32_140
  let v187 : BitVec 32 := Scalar.addi v182 v186
  let c9_i32_141 : BitVec 32 := 9#32
  let v190 : BitVec 32 := Scalar.shrsi v143 c9_i32_141
  let c1_i32_142 : BitVec 32 := 1#32
  let v191 : BitVec 32 := Scalar.andi v190 c1_i32_142
  let v192 : BitVec 32 := Scalar.addi v187 v191
  let c10_i32_143 : BitVec 32 := 10#32
  let v195 : BitVec 32 := Scalar.shrsi v143 c10_i32_143
  let c1_i32_144 : BitVec 32 := 1#32
  let v196 : BitVec 32 := Scalar.andi v195 c1_i32_144
  let v197 : BitVec 32 := Scalar.addi v192 v196
  let c11_i32_145 : BitVec 32 := 11#32
  let v200 : BitVec 32 := Scalar.shrsi v143 c11_i32_145
  let c1_i32_146 : BitVec 32 := 1#32
  let v201 : BitVec 32 := Scalar.andi v200 c1_i32_146
  let v202 : BitVec 32 := Scalar.addi v197 v201
  let c12_i32_147 : BitVec 32 := 12#32
  let v205 : BitVec 32 := Scalar.shrsi v143 c12_i32_147
  let c1_i32_148 : BitVec 32 := 1#32
  let v206 : BitVec 32 := Scalar.andi v205 c1_i32_148
  let v207 : BitVec 32 := Scalar.addi v202 v206
  let c13_i32_149 : BitVec 32 := 13#32
  let v210 : BitVec 32 := Scalar.shrsi v143 c13_i32_149
  let c1_i32_150 : BitVec 32 := 1#32
  let v211 : BitVec 32 := Scalar.andi v210 c1_i32_150
  let v212 : BitVec 32 := Scalar.addi v207 v211
  let c14_i32_151 : BitVec 32 := 14#32
  let v215 : BitVec 32 := Scalar.shrsi v143 c14_i32_151
  let c1_i32_152 : BitVec 32 := 1#32
  let v216 : BitVec 32 := Scalar.andi v215 c1_i32_152
  let v217 : BitVec 32 := Scalar.addi v212 v216
  let c15_i32_153 : BitVec 32 := 15#32
  let v220 : BitVec 32 := Scalar.shrsi v143 c15_i32_153
  let c1_i32_154 : BitVec 32 := 1#32
  let v221 : BitVec 32 := Scalar.andi v220 c1_i32_154
  let v222 : BitVec 32 := Scalar.addi v217 v221
  let v272 : BitVec 32 := Scalar.subi v222 c0_i32_207
  let c1_i32_208 : BitVec 32 := 1#32
  let v274 : BitVec 32 := Scalar.divsi v272 c1_i32_208
  let v275 : BitVec 32 := Scalar.muli v274 c1_i32_208
  let v276 : BitVec 32 := Scalar.addi c0_i32_207 v275
  let c1_i32_210 : BitVec 32 := 1#32
  let arg17 : BitVec 32 := Scf.iv v276 c1_i32_210 k0_t2
  let c2_i32_215 : BitVec 32 := 2#32
  let v280 : BitVec 32 := Scalar.remsi arg17 c2_i32_215
  let c0_i32_2179 : BitVec 32 := 0#32
  let c0_i32_2180 : BitVec 32 := 0#32
  ![v280.toNat, 0, 0]
def k0_off123 (v5002 : BitVec 32) : Fin 3 → Nat :=
  let c0_i32_2181 : BitVec 32 := 0#32
  let c0_i32_2182 : BitVec 32 := 0#32
  ![v5002.toNat, 0, 0]

def k0_chk16 (v5002 : BitVec 32) : Prop :=
  (∀ a, (k0_off120 v5002) a + S1x16x2048.size a ≤ S16x16x2048.size a) ∧
  (∀ (hinb : ∀ a, (k0_off120 v5002) a + S1x16x2048.size a ≤ S16x16x2048.size a), (Rect.unit (s := S16x16x2048) (k0_off120 v5002) S1x16x2048.size hinb).WholeWords (EltTy.packing .bf16)) ∧
  (∀ a, (k0_off123 v5002) a + S1x2048x1024.size a ≤ S16x2048x1024.size a) ∧
  (∀ (hinb : ∀ a, (k0_off123 v5002) a + S1x2048x1024.size a ≤ S16x2048x1024.size a), (Rect.unit (s := S16x2048x1024) (k0_off123 v5002) S1x2048x1024.size hinb).WholeWords (EltTy.packing .i8))
theorem k0_off120_inb : ∀ (v5002 : BitVec 32) (k0_hw16 : k0_chk16 v5002), ∀ a, (k0_off120 v5002) a + S1x16x2048.size a ≤ S16x16x2048.size a := fun v5002 k0_hw16 => k0_hw16.1
theorem k0_off120_wordsbf16 : ∀ (v5002 : BitVec 32) (k0_hw16 : k0_chk16 v5002), (Rect.unit (s := S16x16x2048) (k0_off120 v5002) S1x16x2048.size (k0_off120_inb v5002 k0_hw16)).WholeWords (EltTy.packing .bf16) := fun v5002 k0_hw16 => k0_hw16.2.1 (k0_off120_inb v5002 k0_hw16)
theorem k0_off123_inb : ∀ (v5002 : BitVec 32) (k0_hw16 : k0_chk16 v5002), ∀ a, (k0_off123 v5002) a + S1x2048x1024.size a ≤ S16x2048x1024.size a := fun v5002 k0_hw16 => k0_hw16.2.2.1
theorem k0_off123_wordsi8 : ∀ (v5002 : BitVec 32) (k0_hw16 : k0_chk16 v5002), (Rect.unit (s := S16x2048x1024) (k0_off123 v5002) S1x2048x1024.size (k0_off123_inb v5002 k0_hw16)).WholeWords (EltTy.packing .i8) := fun v5002 k0_hw16 => k0_hw16.2.2.2 (k0_off123_inb v5002 k0_hw16)

def k0_off124 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : Fin 3 → Nat :=
  let c0_i32_207 : BitVec 32 := 0#32
  let c0_i32_123 : BitVec 32 := 0#32
  let c0_i32 : BitVec 32 := 0#32
  let c1_i32 : BitVec 32 := 1#32
  let v1 : BitVec 32 := Scalar.shli c1_i32 v0
  let v2 : BitVec 32 := Scalar.ori c0_i32 v1
  let c1_i32_2 : BitVec 32 := 1#32
  let v4 : BitVec 32 := Scalar.shli c1_i32_2 v3
  let v5 : BitVec 32 := Scalar.ori v2 v4
  let c1_i32_5 : BitVec 32 := 1#32
  let v7 : BitVec 32 := Scalar.shli c1_i32_5 v6
  let v8 : BitVec 32 := Scalar.ori v5 v7
  let c1_i32_8 : BitVec 32 := 1#32
  let v10 : BitVec 32 := Scalar.shli c1_i32_8 v9
  let v11 : BitVec 32 := Scalar.ori v8 v10
  let c1_i32_10 : BitVec 32 := 1#32
  let v13 : BitVec 32 := Scalar.shli c1_i32_10 v12
  let v14 : BitVec 32 := Scalar.ori v11 v13
  let c1_i32_13 : BitVec 32 := 1#32
  let v16 : BitVec 32 := Scalar.shli c1_i32_13 v15
  let v17 : BitVec 32 := Scalar.ori v14 v16
  let c1_i32_15 : BitVec 32 := 1#32
  let v19 : BitVec 32 := Scalar.shli c1_i32_15 v18
  let v20 : BitVec 32 := Scalar.ori v17 v19
  let c1_i32_18 : BitVec 32 := 1#32
  let v22 : BitVec 32 := Scalar.shli c1_i32_18 v21
  let v23 : BitVec 32 := Scalar.ori v20 v22
  let c1_i32_20 : BitVec 32 := 1#32
  let v25 : BitVec 32 := Scalar.shli c1_i32_20 v24
  let v26 : BitVec 32 := Scalar.ori v23 v25
  let c1_i32_23 : BitVec 32 := 1#32
  let v28 : BitVec 32 := Scalar.shli c1_i32_23 v27
  let v29 : BitVec 32 := Scalar.ori v26 v28
  let c1_i32_25 : BitVec 32 := 1#32
  let v31 : BitVec 32 := Scalar.shli c1_i32_25 v30
  let v32 : BitVec 32 := Scalar.ori v29 v31
  let c1_i32_28 : BitVec 32 := 1#32
  let v34 : BitVec 32 := Scalar.shli c1_i32_28 v33
  let v35 : BitVec 32 := Scalar.ori v32 v34
  let c1_i32_30 : BitVec 32 := 1#32
  let v37 : BitVec 32 := Scalar.shli c1_i32_30 v36
  let v38 : BitVec 32 := Scalar.ori v35 v37
  let c1_i32_33 : BitVec 32 := 1#32
  let v40 : BitVec 32 := Scalar.shli c1_i32_33 v39
  let v41 : BitVec 32 := Scalar.ori v38 v40
  let c1_i32_35 : BitVec 32 := 1#32
  let v43 : BitVec 32 := Scalar.shli c1_i32_35 v42
  let v44 : BitVec 32 := Scalar.ori v41 v43
  let c1_i32_38 : BitVec 32 := 1#32
  let v46 : BitVec 32 := Scalar.shli c1_i32_38 v45
  let v47 : BitVec 32 := Scalar.ori v44 v46
  let c1_i32_40 : BitVec 32 := 1#32
  let v49 : BitVec 32 := Scalar.shli c1_i32_40 v48
  let v50 : BitVec 32 := Scalar.ori v47 v49
  let c1_i32_43 : BitVec 32 := 1#32
  let v52 : BitVec 32 := Scalar.shli c1_i32_43 v51
  let v53 : BitVec 32 := Scalar.ori v50 v52
  let c1_i32_45 : BitVec 32 := 1#32
  let v55 : BitVec 32 := Scalar.shli c1_i32_45 v54
  let v56 : BitVec 32 := Scalar.ori v53 v55
  let c1_i32_48 : BitVec 32 := 1#32
  let v58 : BitVec 32 := Scalar.shli c1_i32_48 v57
  let v59 : BitVec 32 := Scalar.ori v56 v58
  let c1_i32_50 : BitVec 32 := 1#32
  let v61 : BitVec 32 := Scalar.shli c1_i32_50 v60
  let v62 : BitVec 32 := Scalar.ori v59 v61
  let c1_i32_53 : BitVec 32 := 1#32
  let v64 : BitVec 32 := Scalar.shli c1_i32_53 v63
  let v65 : BitVec 32 := Scalar.ori v62 v64
  let c1_i32_55 : BitVec 32 := 1#32
  let v67 : BitVec 32 := Scalar.shli c1_i32_55 v66
  let v68 : BitVec 32 := Scalar.ori v65 v67
  let c1_i32_58 : BitVec 32 := 1#32
  let v70 : BitVec 32 := Scalar.shli c1_i32_58 v69
  let v71 : BitVec 32 := Scalar.ori v68 v70
  let c1_i32_60 : BitVec 32 := 1#32
  let v73 : BitVec 32 := Scalar.shli c1_i32_60 v72
  let v74 : BitVec 32 := Scalar.ori v71 v73
  let c1_i32_63 : BitVec 32 := 1#32
  let v76 : BitVec 32 := Scalar.shli c1_i32_63 v75
  let v77 : BitVec 32 := Scalar.ori v74 v76
  let c1_i32_65 : BitVec 32 := 1#32
  let v79 : BitVec 32 := Scalar.shli c1_i32_65 v78
  let v80 : BitVec 32 := Scalar.ori v77 v79
  let c1_i32_68 : BitVec 32 := 1#32
  let v82 : BitVec 32 := Scalar.shli c1_i32_68 v81
  let v83 : BitVec 32 := Scalar.ori v80 v82
  let c1_i32_70 : BitVec 32 := 1#32
  let v85 : BitVec 32 := Scalar.shli c1_i32_70 v84
  let v86 : BitVec 32 := Scalar.ori v83 v85
  let c1_i32_73 : BitVec 32 := 1#32
  let v88 : BitVec 32 := Scalar.shli c1_i32_73 v87
  let v89 : BitVec 32 := Scalar.ori v86 v88
  let c1_i32_75 : BitVec 32 := 1#32
  let v91 : BitVec 32 := Scalar.shli c1_i32_75 v90
  let v92 : BitVec 32 := Scalar.ori v89 v91
  let c1_i32_78 : BitVec 32 := 1#32
  let v94 : BitVec 32 := Scalar.shli c1_i32_78 v93
  let v95 : BitVec 32 := Scalar.ori v92 v94
  let c1_i32_80 : BitVec 32 := 1#32
  let v97 : BitVec 32 := Scalar.shli c1_i32_80 v96
  let v98 : BitVec 32 := Scalar.ori v95 v97
  let c1_i32_83 : BitVec 32 := 1#32
  let v100 : BitVec 32 := Scalar.shli c1_i32_83 v99
  let v101 : BitVec 32 := Scalar.ori v98 v100
  let c1_i32_85 : BitVec 32 := 1#32
  let v103 : BitVec 32 := Scalar.shli c1_i32_85 v102
  let v104 : BitVec 32 := Scalar.ori v101 v103
  let c1_i32_88 : BitVec 32 := 1#32
  let v106 : BitVec 32 := Scalar.shli c1_i32_88 v105
  let v107 : BitVec 32 := Scalar.ori v104 v106
  let c1_i32_90 : BitVec 32 := 1#32
  let v109 : BitVec 32 := Scalar.shli c1_i32_90 v108
  let v110 : BitVec 32 := Scalar.ori v107 v109
  let c1_i32_93 : BitVec 32 := 1#32
  let v112 : BitVec 32 := Scalar.shli c1_i32_93 v111
  let v113 : BitVec 32 := Scalar.ori v110 v112
  let c1_i32_95 : BitVec 32 := 1#32
  let v115 : BitVec 32 := Scalar.shli c1_i32_95 v114
  let v116 : BitVec 32 := Scalar.ori v113 v115
  let c1_i32_98 : BitVec 32 := 1#32
  let v118 : BitVec 32 := Scalar.shli c1_i32_98 v117
  let v119 : BitVec 32 := Scalar.ori v116 v118
  let c1_i32_100 : BitVec 32 := 1#32
  let v121 : BitVec 32 := Scalar.shli c1_i32_100 v120
  let v122 : BitVec 32 := Scalar.ori v119 v121
  let c1_i32_103 : BitVec 32 := 1#32
  let v124 : BitVec 32 := Scalar.shli c1_i32_103 v123
  let v125 : BitVec 32 := Scalar.ori v122 v124
  let c1_i32_105 : BitVec 32 := 1#32
  let v127 : BitVec 32 := Scalar.shli c1_i32_105 v126
  let v128 : BitVec 32 := Scalar.ori v125 v127
  let c1_i32_108 : BitVec 32 := 1#32
  let v130 : BitVec 32 := Scalar.shli c1_i32_108 v129
  let v131 : BitVec 32 := Scalar.ori v128 v130
  let c1_i32_110 : BitVec 32 := 1#32
  let v133 : BitVec 32 := Scalar.shli c1_i32_110 v132
  let v134 : BitVec 32 := Scalar.ori v131 v133
  let c1_i32_113 : BitVec 32 := 1#32
  let v136 : BitVec 32 := Scalar.shli c1_i32_113 v135
  let v137 : BitVec 32 := Scalar.ori v134 v136
  let c1_i32_115 : BitVec 32 := 1#32
  let v139 : BitVec 32 := Scalar.shli c1_i32_115 v138
  let v140 : BitVec 32 := Scalar.ori v137 v139
  let c1_i32_118 : BitVec 32 := 1#32
  let v142 : BitVec 32 := Scalar.shli c1_i32_118 v141
  let v143 : BitVec 32 := Scalar.ori v140 v142
  let c0_i32_121 : BitVec 32 := 0#32
  let v145 : BitVec 32 := Scalar.shrsi v143 c0_i32_121
  let c1_i32_122 : BitVec 32 := 1#32
  let v146 : BitVec 32 := Scalar.andi v145 c1_i32_122
  let v147 : BitVec 32 := Scalar.addi c0_i32_123 v146
  let c1_i32_125 : BitVec 32 := 1#32
  let v150 : BitVec 32 := Scalar.shrsi v143 c1_i32_125
  let c1_i32_126 : BitVec 32 := 1#32
  let v151 : BitVec 32 := Scalar.andi v150 c1_i32_126
  let v152 : BitVec 32 := Scalar.addi v147 v151
  let c2_i32_127 : BitVec 32 := 2#32
  let v155 : BitVec 32 := Scalar.shrsi v143 c2_i32_127
  let c1_i32_128 : BitVec 32 := 1#32
  let v156 : BitVec 32 := Scalar.andi v155 c1_i32_128
  let v157 : BitVec 32 := Scalar.addi v152 v156
  let c3_i32_129 : BitVec 32 := 3#32
  let v160 : BitVec 32 := Scalar.shrsi v143 c3_i32_129
  let c1_i32_130 : BitVec 32 := 1#32
  let v161 : BitVec 32 := Scalar.andi v160 c1_i32_130
  let v162 : BitVec 32 := Scalar.addi v157 v161
  let c4_i32_131 : BitVec 32 := 4#32
  let v165 : BitVec 32 := Scalar.shrsi v143 c4_i32_131
  let c1_i32_132 : BitVec 32 := 1#32
  let v166 : BitVec 32 := Scalar.andi v165 c1_i32_132
  let v167 : BitVec 32 := Scalar.addi v162 v166
  let c5_i32_133 : BitVec 32 := 5#32
  let v170 : BitVec 32 := Scalar.shrsi v143 c5_i32_133
  let c1_i32_134 : BitVec 32 := 1#32
  let v171 : BitVec 32 := Scalar.andi v170 c1_i32_134
  let v172 : BitVec 32 := Scalar.addi v167 v171
  let c6_i32_135 : BitVec 32 := 6#32
  let v175 : BitVec 32 := Scalar.shrsi v143 c6_i32_135
  let c1_i32_136 : BitVec 32 := 1#32
  let v176 : BitVec 32 := Scalar.andi v175 c1_i32_136
  let v177 : BitVec 32 := Scalar.addi v172 v176
  let c7_i32_137 : BitVec 32 := 7#32
  let v180 : BitVec 32 := Scalar.shrsi v143 c7_i32_137
  let c1_i32_138 : BitVec 32 := 1#32
  let v181 : BitVec 32 := Scalar.andi v180 c1_i32_138
  let v182 : BitVec 32 := Scalar.addi v177 v181
  let c8_i32_139 : BitVec 32 := 8#32
  let v185 : BitVec 32 := Scalar.shrsi v143 c8_i32_139
  let c1_i32_140 : BitVec 32 := 1#32
  let v186 : BitVec 32 := Scalar.andi v185 c1_i32_140
  let v187 : BitVec 32 := Scalar.addi v182 v186
  let c9_i32_141 : BitVec 32 := 9#32
  let v190 : BitVec 32 := Scalar.shrsi v143 c9_i32_141
  let c1_i32_142 : BitVec 32 := 1#32
  let v191 : BitVec 32 := Scalar.andi v190 c1_i32_142
  let v192 : BitVec 32 := Scalar.addi v187 v191
  let c10_i32_143 : BitVec 32 := 10#32
  let v195 : BitVec 32 := Scalar.shrsi v143 c10_i32_143
  let c1_i32_144 : BitVec 32 := 1#32
  let v196 : BitVec 32 := Scalar.andi v195 c1_i32_144
  let v197 : BitVec 32 := Scalar.addi v192 v196
  let c11_i32_145 : BitVec 32 := 11#32
  let v200 : BitVec 32 := Scalar.shrsi v143 c11_i32_145
  let c1_i32_146 : BitVec 32 := 1#32
  let v201 : BitVec 32 := Scalar.andi v200 c1_i32_146
  let v202 : BitVec 32 := Scalar.addi v197 v201
  let c12_i32_147 : BitVec 32 := 12#32
  let v205 : BitVec 32 := Scalar.shrsi v143 c12_i32_147
  let c1_i32_148 : BitVec 32 := 1#32
  let v206 : BitVec 32 := Scalar.andi v205 c1_i32_148
  let v207 : BitVec 32 := Scalar.addi v202 v206
  let c13_i32_149 : BitVec 32 := 13#32
  let v210 : BitVec 32 := Scalar.shrsi v143 c13_i32_149
  let c1_i32_150 : BitVec 32 := 1#32
  let v211 : BitVec 32 := Scalar.andi v210 c1_i32_150
  let v212 : BitVec 32 := Scalar.addi v207 v211
  let c14_i32_151 : BitVec 32 := 14#32
  let v215 : BitVec 32 := Scalar.shrsi v143 c14_i32_151
  let c1_i32_152 : BitVec 32 := 1#32
  let v216 : BitVec 32 := Scalar.andi v215 c1_i32_152
  let v217 : BitVec 32 := Scalar.addi v212 v216
  let c15_i32_153 : BitVec 32 := 15#32
  let v220 : BitVec 32 := Scalar.shrsi v143 c15_i32_153
  let c1_i32_154 : BitVec 32 := 1#32
  let v221 : BitVec 32 := Scalar.andi v220 c1_i32_154
  let v222 : BitVec 32 := Scalar.addi v217 v221
  let v272 : BitVec 32 := Scalar.subi v222 c0_i32_207
  let c1_i32_208 : BitVec 32 := 1#32
  let v274 : BitVec 32 := Scalar.divsi v272 c1_i32_208
  let v275 : BitVec 32 := Scalar.muli v274 c1_i32_208
  let v276 : BitVec 32 := Scalar.addi c0_i32_207 v275
  let c1_i32_210 : BitVec 32 := 1#32
  let arg17 : BitVec 32 := Scf.iv v276 c1_i32_210 k0_t2
  let c2_i32_215 : BitVec 32 := 2#32
  let v280 : BitVec 32 := Scalar.remsi arg17 c2_i32_215
  let c0_i32_2203 : BitVec 32 := 0#32
  let c0_i32_2204 : BitVec 32 := 0#32
  ![v280.toNat, 0, 0]

def k0_chk1_0 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) : Prop :=
  (∀ a, (k0_off1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) a + S1.size a ≤ S17.size a) ∧
  (∀ a, (k0_off2 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) a + S1.size a ≤ S17.size a) ∧
  (∀ a, (k0_off3 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) a + S1.size a ≤ S17.size a) ∧
  (∀ a, (k0_off4 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) a + S1.size a ≤ S17.size a) ∧
  (∀ a, (k0_off5 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) a + S1.size a ≤ S17.size a) ∧
  (∀ a, (k0_off6 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) a + S1.size a ≤ S17.size a) ∧
  (∀ a, (k0_off7 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) a + S1.size a ≤ S17.size a) ∧
  (∀ a, (k0_off8 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) a + S1.size a ≤ S17.size a) ∧
  (∀ a, (k0_off9 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) a + S1.size a ≤ S17.size a) ∧
  (∀ a, (k0_off10 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) a + S1.size a ≤ S17.size a) ∧
  (∀ a, (k0_off11 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) a + S1.size a ≤ S17.size a) ∧
  (∀ a, (k0_off12 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) a + S1.size a ≤ S17.size a) ∧
  (∀ a, (k0_off13 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) a + S1.size a ≤ S17.size a) ∧
  (∀ a, (k0_off14 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) a + S1.size a ≤ S17.size a) ∧
  (∀ a, (k0_off15 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) a + S1.size a ≤ S17.size a) ∧
  ((k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).OK) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off23 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1.size a ≤ S17.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (k0_h1 : k0_cond1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ a, (k0_off24 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1.size a ≤ S17.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (k0_h1 : k0_cond1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ a, (k0_off25 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1.size a ≤ S2x3.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (k0_h1 : k0_cond1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ a, (k0_off26 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x16x4096.size a ≤ S2x16x4096.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (k0_h1 : k0_cond1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ (hinb : ∀ a, (k0_off26 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x16x4096.size a ≤ S2x16x4096.size a), (Rect.unit (s := S2x16x4096) (k0_off26 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) S1x16x4096.size hinb).WholeWords (EltTy.packing .bf16)) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (k0_h1 : k0_cond1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ a, (k0_off28 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1.size a ≤ S2x3.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (k0_h1 : k0_cond1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ a, (k0_off29 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1024x1024.size a ≤ S2x4096x1024.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (k0_h1 : k0_cond1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ (hinb : ∀ a, (k0_off29 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1024x1024.size a ≤ S2x4096x1024.size a), (Rect.unit (s := S2x4096x1024) (k0_off29 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) S1x1024x1024.size hinb).WholeWords (EltTy.packing .i8)) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (k0_h1 : k0_cond1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ a, (k0_off31 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1024x1024.size a ≤ S2x4096x1024.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (k0_h1 : k0_cond1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ (hinb : ∀ a, (k0_off31 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1024x1024.size a ≤ S2x4096x1024.size a), (Rect.unit (s := S2x4096x1024) (k0_off31 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) S1x1024x1024.size hinb).WholeWords (EltTy.packing .i8)) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (k0_h1 : k0_cond1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ a, (k0_off33 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1.size a ≤ S17.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (k0_h1 : k0_cond1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ a, (k0_off34 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1.size a ≤ S2x3.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (k0_h1 : k0_cond1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ a, (k0_off35 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1024x1024.size a ≤ S2x4096x1024.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (k0_h1 : k0_cond1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ (hinb : ∀ a, (k0_off35 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1024x1024.size a ≤ S2x4096x1024.size a), (Rect.unit (s := S2x4096x1024) (k0_off35 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) S1x1024x1024.size hinb).WholeWords (EltTy.packing .i8)) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (k0_h1 : k0_cond1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ a, (k0_off37 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1.size a ≤ S2x3.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (k0_h1 : k0_cond1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ a, (k0_off38 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1024x1024.size a ≤ S2x4096x1024.size a)
def k0_chk1_1 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) : Prop :=
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (k0_h1 : k0_cond1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ (hinb : ∀ a, (k0_off38 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1024x1024.size a ≤ S2x4096x1024.size a), (Rect.unit (s := S2x4096x1024) (k0_off38 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) S1x1024x1024.size hinb).WholeWords (EltTy.packing .i8)) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (k0_h1 : k0_cond1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ a, (k0_off40 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1.size a ≤ S17.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (k0_h1 : k0_cond1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ a, (k0_off41 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1.size a ≤ S2x3.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (k0_h1 : k0_cond1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ a, (k0_off42 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x16x2048.size a ≤ S2x16x2048.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (k0_h1 : k0_cond1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ (hinb : ∀ a, (k0_off42 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x16x2048.size a ≤ S2x16x2048.size a), (Rect.unit (s := S2x16x2048) (k0_off42 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) S1x16x2048.size hinb).WholeWords (EltTy.packing .bf16)) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (k0_h1 : k0_cond1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ a, (k0_off44 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1.size a ≤ S2x3.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (k0_h1 : k0_cond1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ a, (k0_off45 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x2048x1024.size a ≤ S2x2048x1024.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (k0_h1 : k0_cond1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ (hinb : ∀ a, (k0_off45 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x2048x1024.size a ≤ S2x2048x1024.size a), (Rect.unit (s := S2x2048x1024) (k0_off45 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) S1x2048x1024.size hinb).WholeWords (EltTy.packing .i8)) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off47 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1.size a ≤ S2x3.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off48 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x16x4096.size a ≤ S2x16x4096.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (hinb : ∀ a, (k0_off48 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x16x4096.size a ≤ S2x16x4096.size a), (Rect.unit (s := S2x16x4096) (k0_off48 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) S1x16x4096.size hinb).WholeWords (EltTy.packing .bf16)) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off50 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1.size a ≤ S2x3.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off51 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1024x1024.size a ≤ S2x4096x1024.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (hinb : ∀ a, (k0_off51 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1024x1024.size a ≤ S2x4096x1024.size a), (Rect.unit (s := S2x4096x1024) (k0_off51 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) S1x1024x1024.size hinb).WholeWords (EltTy.packing .i8)) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off53 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1024x1024.size a ≤ S2x4096x1024.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (hinb : ∀ a, (k0_off53 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1024x1024.size a ≤ S2x4096x1024.size a), (Rect.unit (s := S2x4096x1024) (k0_off53 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) S1x1024x1024.size hinb).WholeWords (EltTy.packing .i8)) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off55 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x4096x1024.size a ≤ S2x4096x1024.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off56 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x16x4096.size a ≤ S2x16x4096.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off57 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1.size a ≤ S17.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off58 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1.size a ≤ S2x3.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off59 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1024x1024.size a ≤ S2x4096x1024.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (hinb : ∀ a, (k0_off59 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1024x1024.size a ≤ S2x4096x1024.size a), (Rect.unit (s := S2x4096x1024) (k0_off59 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) S1x1024x1024.size hinb).WholeWords (EltTy.packing .i8)) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off61 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1.size a ≤ S2x3.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off62 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1024x1024.size a ≤ S2x4096x1024.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (hinb : ∀ a, (k0_off62 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1024x1024.size a ≤ S2x4096x1024.size a), (Rect.unit (s := S2x4096x1024) (k0_off62 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) S1x1024x1024.size hinb).WholeWords (EltTy.packing .i8)) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off64 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x4096x1024.size a ≤ S2x4096x1024.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off65 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x16x4096.size a ≤ S2x16x4096.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off66 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1.size a ≤ S17.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off67 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1.size a ≤ S2x3.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off68 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x16x2048.size a ≤ S2x16x2048.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (hinb : ∀ a, (k0_off68 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x16x2048.size a ≤ S2x16x2048.size a), (Rect.unit (s := S2x16x2048) (k0_off68 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) S1x16x2048.size hinb).WholeWords (EltTy.packing .bf16)) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off70 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1.size a ≤ S2x3.size a)
def k0_chk1_2 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) : Prop :=
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off71 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x2048x1024.size a ≤ S2x2048x1024.size a) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (hinb : ∀ a, (k0_off71 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x2048x1024.size a ≤ S2x2048x1024.size a), (Rect.unit (s := S2x2048x1024) (k0_off71 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) S1x2048x1024.size hinb).WholeWords (EltTy.packing .i8)) ∧
  (∀ k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off73 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x16x2048.size a ≤ S2x16x2048.size a) ∧
  ((k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).OK) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off74 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1.size a ≤ S17.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (k0_h2 : k0_cond2 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ a, (k0_off75 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1.size a ≤ S17.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (k0_h2 : k0_cond2 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ a, (k0_off76 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1.size a ≤ S2x3.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (k0_h2 : k0_cond2 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ a, (k0_off77 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x16x4096.size a ≤ S2x16x4096.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (k0_h2 : k0_cond2 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ (hinb : ∀ a, (k0_off77 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x16x4096.size a ≤ S2x16x4096.size a), (Rect.unit (s := S2x16x4096) (k0_off77 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) S1x16x4096.size hinb).WholeWords (EltTy.packing .bf16)) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (k0_h2 : k0_cond2 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ a, (k0_off79 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1.size a ≤ S2x3.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (k0_h2 : k0_cond2 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ a, (k0_off80 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1024x1024.size a ≤ S2x4096x1024.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (k0_h2 : k0_cond2 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ (hinb : ∀ a, (k0_off80 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1024x1024.size a ≤ S2x4096x1024.size a), (Rect.unit (s := S2x4096x1024) (k0_off80 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) S1x1024x1024.size hinb).WholeWords (EltTy.packing .i8)) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (k0_h2 : k0_cond2 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ a, (k0_off82 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1024x1024.size a ≤ S2x4096x1024.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (k0_h2 : k0_cond2 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ (hinb : ∀ a, (k0_off82 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1024x1024.size a ≤ S2x4096x1024.size a), (Rect.unit (s := S2x4096x1024) (k0_off82 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) S1x1024x1024.size hinb).WholeWords (EltTy.packing .i8)) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (k0_h2 : k0_cond2 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ a, (k0_off84 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1.size a ≤ S17.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (k0_h2 : k0_cond2 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ a, (k0_off85 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1.size a ≤ S2x3.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (k0_h2 : k0_cond2 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ a, (k0_off86 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1024x1024.size a ≤ S2x4096x1024.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (k0_h2 : k0_cond2 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ (hinb : ∀ a, (k0_off86 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1024x1024.size a ≤ S2x4096x1024.size a), (Rect.unit (s := S2x4096x1024) (k0_off86 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) S1x1024x1024.size hinb).WholeWords (EltTy.packing .i8)) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (k0_h2 : k0_cond2 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ a, (k0_off88 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1.size a ≤ S2x3.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (k0_h2 : k0_cond2 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ a, (k0_off89 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1024x1024.size a ≤ S2x4096x1024.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (k0_h2 : k0_cond2 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ (hinb : ∀ a, (k0_off89 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1024x1024.size a ≤ S2x4096x1024.size a), (Rect.unit (s := S2x4096x1024) (k0_off89 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) S1x1024x1024.size hinb).WholeWords (EltTy.packing .i8)) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (k0_h2 : k0_cond2 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ a, (k0_off91 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1.size a ≤ S17.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (k0_h2 : k0_cond2 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ a, (k0_off92 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1.size a ≤ S2x3.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (k0_h2 : k0_cond2 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ a, (k0_off93 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x16x2048.size a ≤ S2x16x2048.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (k0_h2 : k0_cond2 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ (hinb : ∀ a, (k0_off93 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x16x2048.size a ≤ S2x16x2048.size a), (Rect.unit (s := S2x16x2048) (k0_off93 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) S1x16x2048.size hinb).WholeWords (EltTy.packing .bf16)) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (k0_h2 : k0_cond2 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ a, (k0_off95 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1.size a ≤ S2x3.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (k0_h2 : k0_cond2 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ a, (k0_off96 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x2048x1024.size a ≤ S2x2048x1024.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (k0_h2 : k0_cond2 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ (hinb : ∀ a, (k0_off96 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x2048x1024.size a ≤ S2x2048x1024.size a), (Rect.unit (s := S2x2048x1024) (k0_off96 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) S1x2048x1024.size hinb).WholeWords (EltTy.packing .i8)) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off98 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1.size a ≤ S2x3.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off99 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x16x4096.size a ≤ S2x16x4096.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (hinb : ∀ a, (k0_off99 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x16x4096.size a ≤ S2x16x4096.size a), (Rect.unit (s := S2x16x4096) (k0_off99 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) S1x16x4096.size hinb).WholeWords (EltTy.packing .bf16)) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off101 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1.size a ≤ S2x3.size a)
def k0_chk1_3 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) : Prop :=
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off102 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1024x1024.size a ≤ S2x4096x1024.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (hinb : ∀ a, (k0_off102 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1024x1024.size a ≤ S2x4096x1024.size a), (Rect.unit (s := S2x4096x1024) (k0_off102 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) S1x1024x1024.size hinb).WholeWords (EltTy.packing .i8)) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off104 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1024x1024.size a ≤ S2x4096x1024.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (hinb : ∀ a, (k0_off104 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1024x1024.size a ≤ S2x4096x1024.size a), (Rect.unit (s := S2x4096x1024) (k0_off104 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) S1x1024x1024.size hinb).WholeWords (EltTy.packing .i8)) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off106 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x4096x1024.size a ≤ S2x4096x1024.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off107 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x16x4096.size a ≤ S2x16x4096.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off108 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1.size a ≤ S17.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off109 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1.size a ≤ S2x3.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off110 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1024x1024.size a ≤ S2x4096x1024.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (hinb : ∀ a, (k0_off110 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1024x1024.size a ≤ S2x4096x1024.size a), (Rect.unit (s := S2x4096x1024) (k0_off110 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) S1x1024x1024.size hinb).WholeWords (EltTy.packing .i8)) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off112 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1.size a ≤ S2x3.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off113 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1024x1024.size a ≤ S2x4096x1024.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (hinb : ∀ a, (k0_off113 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1024x1024.size a ≤ S2x4096x1024.size a), (Rect.unit (s := S2x4096x1024) (k0_off113 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) S1x1024x1024.size hinb).WholeWords (EltTy.packing .i8)) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off115 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x4096x1024.size a ≤ S2x4096x1024.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off116 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x16x4096.size a ≤ S2x16x4096.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off117 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1.size a ≤ S17.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off118 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1.size a ≤ S2x3.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off119 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x16x2048.size a ≤ S2x16x2048.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (hinb : ∀ a, (k0_off119 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x16x2048.size a ≤ S2x16x2048.size a), (Rect.unit (s := S2x16x2048) (k0_off119 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) S1x16x2048.size hinb).WholeWords (EltTy.packing .bf16)) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off121 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1.size a ≤ S2x3.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off122 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x2048x1024.size a ≤ S2x2048x1024.size a) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ (hinb : ∀ a, (k0_off122 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x2048x1024.size a ≤ S2x2048x1024.size a), (Rect.unit (s := S2x2048x1024) (k0_off122 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) S1x2048x1024.size hinb).WholeWords (EltTy.packing .i8)) ∧
  (∀ k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips, ∀ a, (k0_off124 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x16x2048.size a ≤ S2x16x2048.size a)
def k0_chk1 (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) : Prop :=
  k0_chk1_0 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 ∧
  k0_chk1_1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 ∧
  k0_chk1_2 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 ∧
  k0_chk1_3 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141
theorem k0_off1_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141), ∀ a, (k0_off1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) a + S1.size a ≤ S17.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 => k0_hw1.1.1
theorem k0_off2_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141), ∀ a, (k0_off2 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) a + S1.size a ≤ S17.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 => k0_hw1.1.2.1
theorem k0_off3_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141), ∀ a, (k0_off3 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) a + S1.size a ≤ S17.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 => k0_hw1.1.2.2.1
theorem k0_off4_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141), ∀ a, (k0_off4 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) a + S1.size a ≤ S17.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 => k0_hw1.1.2.2.2.1
theorem k0_off5_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141), ∀ a, (k0_off5 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) a + S1.size a ≤ S17.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 => k0_hw1.1.2.2.2.2.1
theorem k0_off6_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141), ∀ a, (k0_off6 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) a + S1.size a ≤ S17.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 => k0_hw1.1.2.2.2.2.2.1
theorem k0_off7_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141), ∀ a, (k0_off7 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) a + S1.size a ≤ S17.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 => k0_hw1.1.2.2.2.2.2.2.1
theorem k0_off8_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141), ∀ a, (k0_off8 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) a + S1.size a ≤ S17.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 => k0_hw1.1.2.2.2.2.2.2.2.1
theorem k0_off9_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141), ∀ a, (k0_off9 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) a + S1.size a ≤ S17.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 => k0_hw1.1.2.2.2.2.2.2.2.2.1
theorem k0_off10_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141), ∀ a, (k0_off10 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) a + S1.size a ≤ S17.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 => k0_hw1.1.2.2.2.2.2.2.2.2.2.1
theorem k0_off11_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141), ∀ a, (k0_off11 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) a + S1.size a ≤ S17.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 => k0_hw1.1.2.2.2.2.2.2.2.2.2.2.1
theorem k0_off12_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141), ∀ a, (k0_off12 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) a + S1.size a ≤ S17.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 => k0_hw1.1.2.2.2.2.2.2.2.2.2.2.2.1
theorem k0_off13_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141), ∀ a, (k0_off13 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) a + S1.size a ≤ S17.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 => k0_hw1.1.2.2.2.2.2.2.2.2.2.2.2.2.1
theorem k0_off14_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141), ∀ a, (k0_off14 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) a + S1.size a ≤ S17.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 => k0_hw1.1.2.2.2.2.2.2.2.2.2.2.2.2.2.1
theorem k0_off15_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141), ∀ a, (k0_off15 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) a + S1.size a ≤ S17.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 => k0_hw1.1.2.2.2.2.2.2.2.2.2.2.2.2.2.2.1
theorem k0_t1_ok : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141), (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).OK := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 => k0_hw1.1.2.2.2.2.2.2.2.2.2.2.2.2.2.2.2.1
theorem k0_off23_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off23 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1.size a ≤ S17.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 => k0_hw1.1.2.2.2.2.2.2.2.2.2.2.2.2.2.2.2.2.1 k0_t1
theorem k0_off24_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (k0_h1 : k0_cond1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ a, (k0_off24 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1.size a ≤ S17.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 k0_h1 => k0_hw1.1.2.2.2.2.2.2.2.2.2.2.2.2.2.2.2.2.2.1 k0_t1 k0_h1
theorem k0_off25_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (k0_h1 : k0_cond1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ a, (k0_off25 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1.size a ≤ S2x3.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 k0_h1 => k0_hw1.1.2.2.2.2.2.2.2.2.2.2.2.2.2.2.2.2.2.2.1 k0_t1 k0_h1
theorem k0_off26_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (k0_h1 : k0_cond1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ a, (k0_off26 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x16x4096.size a ≤ S2x16x4096.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 k0_h1 => k0_hw1.1.2.2.2.2.2.2.2.2.2.2.2.2.2.2.2.2.2.2.2.1 k0_t1 k0_h1
theorem k0_off26_wordsbf16 : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (k0_h1 : k0_cond1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), (Rect.unit (s := S2x16x4096) (k0_off26 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) S1x16x4096.size (k0_off26_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 k0_h1)).WholeWords (EltTy.packing .bf16) := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 k0_h1 => k0_hw1.1.2.2.2.2.2.2.2.2.2.2.2.2.2.2.2.2.2.2.2.2.1 k0_t1 k0_h1 (k0_off26_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 k0_h1)
theorem k0_off28_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (k0_h1 : k0_cond1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ a, (k0_off28 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1.size a ≤ S2x3.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 k0_h1 => k0_hw1.1.2.2.2.2.2.2.2.2.2.2.2.2.2.2.2.2.2.2.2.2.2.1 k0_t1 k0_h1
theorem k0_off29_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (k0_h1 : k0_cond1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ a, (k0_off29 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1024x1024.size a ≤ S2x4096x1024.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 k0_h1 => k0_hw1.1.2.2.2.2.2.2.2.2.2.2.2.2.2.2.2.2.2.2.2.2.2.2.1 k0_t1 k0_h1
theorem k0_off29_wordsi8 : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (k0_h1 : k0_cond1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), (Rect.unit (s := S2x4096x1024) (k0_off29 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) S1x1024x1024.size (k0_off29_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 k0_h1)).WholeWords (EltTy.packing .i8) := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 k0_h1 => k0_hw1.1.2.2.2.2.2.2.2.2.2.2.2.2.2.2.2.2.2.2.2.2.2.2.2.1 k0_t1 k0_h1 (k0_off29_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 k0_h1)
theorem k0_off31_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (k0_h1 : k0_cond1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ a, (k0_off31 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1024x1024.size a ≤ S2x4096x1024.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 k0_h1 => k0_hw1.1.2.2.2.2.2.2.2.2.2.2.2.2.2.2.2.2.2.2.2.2.2.2.2.2.1 k0_t1 k0_h1
theorem k0_off31_wordsi8 : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (k0_h1 : k0_cond1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), (Rect.unit (s := S2x4096x1024) (k0_off31 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) S1x1024x1024.size (k0_off31_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 k0_h1)).WholeWords (EltTy.packing .i8) := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 k0_h1 => k0_hw1.1.2.2.2.2.2.2.2.2.2.2.2.2.2.2.2.2.2.2.2.2.2.2.2.2.2.1 k0_t1 k0_h1 (k0_off31_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 k0_h1)
theorem k0_off33_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (k0_h1 : k0_cond1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ a, (k0_off33 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1.size a ≤ S17.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 k0_h1 => k0_hw1.1.2.2.2.2.2.2.2.2.2.2.2.2.2.2.2.2.2.2.2.2.2.2.2.2.2.2.1 k0_t1 k0_h1
theorem k0_off34_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (k0_h1 : k0_cond1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ a, (k0_off34 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1.size a ≤ S2x3.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 k0_h1 => k0_hw1.1.2.2.2.2.2.2.2.2.2.2.2.2.2.2.2.2.2.2.2.2.2.2.2.2.2.2.2.1 k0_t1 k0_h1
theorem k0_off35_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (k0_h1 : k0_cond1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ a, (k0_off35 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1024x1024.size a ≤ S2x4096x1024.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 k0_h1 => k0_hw1.1.2.2.2.2.2.2.2.2.2.2.2.2.2.2.2.2.2.2.2.2.2.2.2.2.2.2.2.2.1 k0_t1 k0_h1
theorem k0_off35_wordsi8 : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (k0_h1 : k0_cond1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), (Rect.unit (s := S2x4096x1024) (k0_off35 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) S1x1024x1024.size (k0_off35_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 k0_h1)).WholeWords (EltTy.packing .i8) := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 k0_h1 => k0_hw1.1.2.2.2.2.2.2.2.2.2.2.2.2.2.2.2.2.2.2.2.2.2.2.2.2.2.2.2.2.2.1 k0_t1 k0_h1 (k0_off35_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 k0_h1)
theorem k0_off37_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (k0_h1 : k0_cond1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ a, (k0_off37 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1.size a ≤ S2x3.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 k0_h1 => k0_hw1.1.2.2.2.2.2.2.2.2.2.2.2.2.2.2.2.2.2.2.2.2.2.2.2.2.2.2.2.2.2.2.1 k0_t1 k0_h1
theorem k0_off38_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (k0_h1 : k0_cond1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ a, (k0_off38 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1024x1024.size a ≤ S2x4096x1024.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 k0_h1 => k0_hw1.1.2.2.2.2.2.2.2.2.2.2.2.2.2.2.2.2.2.2.2.2.2.2.2.2.2.2.2.2.2.2.2 k0_t1 k0_h1
theorem k0_off38_wordsi8 : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (k0_h1 : k0_cond1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), (Rect.unit (s := S2x4096x1024) (k0_off38 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) S1x1024x1024.size (k0_off38_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 k0_h1)).WholeWords (EltTy.packing .i8) := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 k0_h1 => k0_hw1.2.1.1 k0_t1 k0_h1 (k0_off38_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 k0_h1)
theorem k0_off40_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (k0_h1 : k0_cond1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ a, (k0_off40 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1.size a ≤ S17.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 k0_h1 => k0_hw1.2.1.2.1 k0_t1 k0_h1
theorem k0_off41_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (k0_h1 : k0_cond1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ a, (k0_off41 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1.size a ≤ S2x3.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 k0_h1 => k0_hw1.2.1.2.2.1 k0_t1 k0_h1
theorem k0_off42_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (k0_h1 : k0_cond1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ a, (k0_off42 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x16x2048.size a ≤ S2x16x2048.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 k0_h1 => k0_hw1.2.1.2.2.2.1 k0_t1 k0_h1
theorem k0_off42_wordsbf16 : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (k0_h1 : k0_cond1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), (Rect.unit (s := S2x16x2048) (k0_off42 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) S1x16x2048.size (k0_off42_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 k0_h1)).WholeWords (EltTy.packing .bf16) := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 k0_h1 => k0_hw1.2.1.2.2.2.2.1 k0_t1 k0_h1 (k0_off42_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 k0_h1)
theorem k0_off44_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (k0_h1 : k0_cond1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ a, (k0_off44 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1.size a ≤ S2x3.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 k0_h1 => k0_hw1.2.1.2.2.2.2.2.1 k0_t1 k0_h1
theorem k0_off45_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (k0_h1 : k0_cond1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), ∀ a, (k0_off45 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x2048x1024.size a ≤ S2x2048x1024.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 k0_h1 => k0_hw1.2.1.2.2.2.2.2.2.1 k0_t1 k0_h1
theorem k0_off45_wordsi8 : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (k0_h1 : k0_cond1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1 = 1#1), (Rect.unit (s := S2x2048x1024) (k0_off45 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) S1x2048x1024.size (k0_off45_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 k0_h1)).WholeWords (EltTy.packing .i8) := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 k0_h1 => k0_hw1.2.1.2.2.2.2.2.2.2.1 k0_t1 k0_h1 (k0_off45_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 k0_h1)
theorem k0_off47_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off47 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1.size a ≤ S2x3.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 => k0_hw1.2.1.2.2.2.2.2.2.2.2.1 k0_t1
theorem k0_off48_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off48 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x16x4096.size a ≤ S2x16x4096.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 => k0_hw1.2.1.2.2.2.2.2.2.2.2.2.1 k0_t1
theorem k0_off48_wordsbf16 : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), (Rect.unit (s := S2x16x4096) (k0_off48 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) S1x16x4096.size (k0_off48_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1)).WholeWords (EltTy.packing .bf16) := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 => k0_hw1.2.1.2.2.2.2.2.2.2.2.2.2.1 k0_t1 (k0_off48_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1)
theorem k0_off50_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off50 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1.size a ≤ S2x3.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 => k0_hw1.2.1.2.2.2.2.2.2.2.2.2.2.2.1 k0_t1
theorem k0_off51_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off51 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1024x1024.size a ≤ S2x4096x1024.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 => k0_hw1.2.1.2.2.2.2.2.2.2.2.2.2.2.2.1 k0_t1
theorem k0_off51_wordsi8 : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), (Rect.unit (s := S2x4096x1024) (k0_off51 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) S1x1024x1024.size (k0_off51_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1)).WholeWords (EltTy.packing .i8) := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 => k0_hw1.2.1.2.2.2.2.2.2.2.2.2.2.2.2.2.1 k0_t1 (k0_off51_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1)
theorem k0_off53_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off53 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1024x1024.size a ≤ S2x4096x1024.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 => k0_hw1.2.1.2.2.2.2.2.2.2.2.2.2.2.2.2.2.1 k0_t1
theorem k0_off53_wordsi8 : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), (Rect.unit (s := S2x4096x1024) (k0_off53 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) S1x1024x1024.size (k0_off53_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1)).WholeWords (EltTy.packing .i8) := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 => k0_hw1.2.1.2.2.2.2.2.2.2.2.2.2.2.2.2.2.2.1 k0_t1 (k0_off53_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1)
theorem k0_off55_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off55 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x4096x1024.size a ≤ S2x4096x1024.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 => k0_hw1.2.1.2.2.2.2.2.2.2.2.2.2.2.2.2.2.2.2.1 k0_t1
theorem k0_off56_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off56 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x16x4096.size a ≤ S2x16x4096.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 => k0_hw1.2.1.2.2.2.2.2.2.2.2.2.2.2.2.2.2.2.2.2.1 k0_t1
theorem k0_off57_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off57 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1.size a ≤ S17.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 => k0_hw1.2.1.2.2.2.2.2.2.2.2.2.2.2.2.2.2.2.2.2.2.1 k0_t1
theorem k0_off58_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off58 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1.size a ≤ S2x3.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 => k0_hw1.2.1.2.2.2.2.2.2.2.2.2.2.2.2.2.2.2.2.2.2.2.1 k0_t1
theorem k0_off59_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off59 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1024x1024.size a ≤ S2x4096x1024.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 => k0_hw1.2.1.2.2.2.2.2.2.2.2.2.2.2.2.2.2.2.2.2.2.2.2.1 k0_t1
theorem k0_off59_wordsi8 : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), (Rect.unit (s := S2x4096x1024) (k0_off59 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) S1x1024x1024.size (k0_off59_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1)).WholeWords (EltTy.packing .i8) := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 => k0_hw1.2.1.2.2.2.2.2.2.2.2.2.2.2.2.2.2.2.2.2.2.2.2.2.1 k0_t1 (k0_off59_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1)
theorem k0_off61_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off61 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1.size a ≤ S2x3.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 => k0_hw1.2.1.2.2.2.2.2.2.2.2.2.2.2.2.2.2.2.2.2.2.2.2.2.2.1 k0_t1
theorem k0_off62_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off62 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1024x1024.size a ≤ S2x4096x1024.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 => k0_hw1.2.1.2.2.2.2.2.2.2.2.2.2.2.2.2.2.2.2.2.2.2.2.2.2.2.1 k0_t1
theorem k0_off62_wordsi8 : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), (Rect.unit (s := S2x4096x1024) (k0_off62 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) S1x1024x1024.size (k0_off62_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1)).WholeWords (EltTy.packing .i8) := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 => k0_hw1.2.1.2.2.2.2.2.2.2.2.2.2.2.2.2.2.2.2.2.2.2.2.2.2.2.2.1 k0_t1 (k0_off62_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1)
theorem k0_off64_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off64 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x4096x1024.size a ≤ S2x4096x1024.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 => k0_hw1.2.1.2.2.2.2.2.2.2.2.2.2.2.2.2.2.2.2.2.2.2.2.2.2.2.2.2.1 k0_t1
theorem k0_off65_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off65 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x16x4096.size a ≤ S2x16x4096.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 => k0_hw1.2.1.2.2.2.2.2.2.2.2.2.2.2.2.2.2.2.2.2.2.2.2.2.2.2.2.2.2.1 k0_t1
theorem k0_off66_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off66 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1.size a ≤ S17.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 => k0_hw1.2.1.2.2.2.2.2.2.2.2.2.2.2.2.2.2.2.2.2.2.2.2.2.2.2.2.2.2.2.1 k0_t1
theorem k0_off67_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off67 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1.size a ≤ S2x3.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 => k0_hw1.2.1.2.2.2.2.2.2.2.2.2.2.2.2.2.2.2.2.2.2.2.2.2.2.2.2.2.2.2.2.1 k0_t1
theorem k0_off68_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off68 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x16x2048.size a ≤ S2x16x2048.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 => k0_hw1.2.1.2.2.2.2.2.2.2.2.2.2.2.2.2.2.2.2.2.2.2.2.2.2.2.2.2.2.2.2.2.1 k0_t1
theorem k0_off68_wordsbf16 : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), (Rect.unit (s := S2x16x2048) (k0_off68 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) S1x16x2048.size (k0_off68_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1)).WholeWords (EltTy.packing .bf16) := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 => k0_hw1.2.1.2.2.2.2.2.2.2.2.2.2.2.2.2.2.2.2.2.2.2.2.2.2.2.2.2.2.2.2.2.2.1 k0_t1 (k0_off68_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1)
theorem k0_off70_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off70 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x1.size a ≤ S2x3.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 => k0_hw1.2.1.2.2.2.2.2.2.2.2.2.2.2.2.2.2.2.2.2.2.2.2.2.2.2.2.2.2.2.2.2.2.2 k0_t1
theorem k0_off71_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off71 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x2048x1024.size a ≤ S2x2048x1024.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 => k0_hw1.2.2.1.1 k0_t1
theorem k0_off71_wordsi8 : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), (Rect.unit (s := S2x2048x1024) (k0_off71 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) S1x2048x1024.size (k0_off71_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1)).WholeWords (EltTy.packing .i8) := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 => k0_hw1.2.2.1.2.1 k0_t1 (k0_off71_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1)
theorem k0_off73_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1 : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off73 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t1) a + S1x16x2048.size a ≤ S2x16x2048.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t1 => k0_hw1.2.2.1.2.2.1 k0_t1
theorem k0_t2_ok : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141), (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).OK := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 => k0_hw1.2.2.1.2.2.2.1
theorem k0_off74_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off74 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1.size a ≤ S17.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 => k0_hw1.2.2.1.2.2.2.2.1 k0_t2
theorem k0_off75_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (k0_h2 : k0_cond2 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ a, (k0_off75 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1.size a ≤ S17.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 k0_h2 => k0_hw1.2.2.1.2.2.2.2.2.1 k0_t2 k0_h2
theorem k0_off76_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (k0_h2 : k0_cond2 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ a, (k0_off76 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1.size a ≤ S2x3.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 k0_h2 => k0_hw1.2.2.1.2.2.2.2.2.2.1 k0_t2 k0_h2
theorem k0_off77_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (k0_h2 : k0_cond2 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ a, (k0_off77 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x16x4096.size a ≤ S2x16x4096.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 k0_h2 => k0_hw1.2.2.1.2.2.2.2.2.2.2.1 k0_t2 k0_h2
theorem k0_off77_wordsbf16 : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (k0_h2 : k0_cond2 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), (Rect.unit (s := S2x16x4096) (k0_off77 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) S1x16x4096.size (k0_off77_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 k0_h2)).WholeWords (EltTy.packing .bf16) := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 k0_h2 => k0_hw1.2.2.1.2.2.2.2.2.2.2.2.1 k0_t2 k0_h2 (k0_off77_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 k0_h2)
theorem k0_off79_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (k0_h2 : k0_cond2 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ a, (k0_off79 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1.size a ≤ S2x3.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 k0_h2 => k0_hw1.2.2.1.2.2.2.2.2.2.2.2.2.1 k0_t2 k0_h2
theorem k0_off80_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (k0_h2 : k0_cond2 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ a, (k0_off80 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1024x1024.size a ≤ S2x4096x1024.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 k0_h2 => k0_hw1.2.2.1.2.2.2.2.2.2.2.2.2.2.1 k0_t2 k0_h2
theorem k0_off80_wordsi8 : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (k0_h2 : k0_cond2 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), (Rect.unit (s := S2x4096x1024) (k0_off80 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) S1x1024x1024.size (k0_off80_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 k0_h2)).WholeWords (EltTy.packing .i8) := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 k0_h2 => k0_hw1.2.2.1.2.2.2.2.2.2.2.2.2.2.2.1 k0_t2 k0_h2 (k0_off80_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 k0_h2)
theorem k0_off82_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (k0_h2 : k0_cond2 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ a, (k0_off82 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1024x1024.size a ≤ S2x4096x1024.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 k0_h2 => k0_hw1.2.2.1.2.2.2.2.2.2.2.2.2.2.2.2.1 k0_t2 k0_h2
theorem k0_off82_wordsi8 : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (k0_h2 : k0_cond2 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), (Rect.unit (s := S2x4096x1024) (k0_off82 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) S1x1024x1024.size (k0_off82_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 k0_h2)).WholeWords (EltTy.packing .i8) := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 k0_h2 => k0_hw1.2.2.1.2.2.2.2.2.2.2.2.2.2.2.2.2.1 k0_t2 k0_h2 (k0_off82_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 k0_h2)
theorem k0_off84_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (k0_h2 : k0_cond2 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ a, (k0_off84 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1.size a ≤ S17.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 k0_h2 => k0_hw1.2.2.1.2.2.2.2.2.2.2.2.2.2.2.2.2.2.1 k0_t2 k0_h2
theorem k0_off85_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (k0_h2 : k0_cond2 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ a, (k0_off85 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1.size a ≤ S2x3.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 k0_h2 => k0_hw1.2.2.1.2.2.2.2.2.2.2.2.2.2.2.2.2.2.2.1 k0_t2 k0_h2
theorem k0_off86_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (k0_h2 : k0_cond2 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ a, (k0_off86 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1024x1024.size a ≤ S2x4096x1024.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 k0_h2 => k0_hw1.2.2.1.2.2.2.2.2.2.2.2.2.2.2.2.2.2.2.2.1 k0_t2 k0_h2
theorem k0_off86_wordsi8 : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (k0_h2 : k0_cond2 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), (Rect.unit (s := S2x4096x1024) (k0_off86 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) S1x1024x1024.size (k0_off86_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 k0_h2)).WholeWords (EltTy.packing .i8) := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 k0_h2 => k0_hw1.2.2.1.2.2.2.2.2.2.2.2.2.2.2.2.2.2.2.2.2.1 k0_t2 k0_h2 (k0_off86_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 k0_h2)
theorem k0_off88_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (k0_h2 : k0_cond2 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ a, (k0_off88 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1.size a ≤ S2x3.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 k0_h2 => k0_hw1.2.2.1.2.2.2.2.2.2.2.2.2.2.2.2.2.2.2.2.2.2.1 k0_t2 k0_h2
theorem k0_off89_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (k0_h2 : k0_cond2 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ a, (k0_off89 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1024x1024.size a ≤ S2x4096x1024.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 k0_h2 => k0_hw1.2.2.1.2.2.2.2.2.2.2.2.2.2.2.2.2.2.2.2.2.2.2.1 k0_t2 k0_h2
theorem k0_off89_wordsi8 : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (k0_h2 : k0_cond2 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), (Rect.unit (s := S2x4096x1024) (k0_off89 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) S1x1024x1024.size (k0_off89_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 k0_h2)).WholeWords (EltTy.packing .i8) := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 k0_h2 => k0_hw1.2.2.1.2.2.2.2.2.2.2.2.2.2.2.2.2.2.2.2.2.2.2.2.1 k0_t2 k0_h2 (k0_off89_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 k0_h2)
theorem k0_off91_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (k0_h2 : k0_cond2 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ a, (k0_off91 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1.size a ≤ S17.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 k0_h2 => k0_hw1.2.2.1.2.2.2.2.2.2.2.2.2.2.2.2.2.2.2.2.2.2.2.2.2.1 k0_t2 k0_h2
theorem k0_off92_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (k0_h2 : k0_cond2 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ a, (k0_off92 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1.size a ≤ S2x3.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 k0_h2 => k0_hw1.2.2.1.2.2.2.2.2.2.2.2.2.2.2.2.2.2.2.2.2.2.2.2.2.2.1 k0_t2 k0_h2
theorem k0_off93_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (k0_h2 : k0_cond2 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ a, (k0_off93 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x16x2048.size a ≤ S2x16x2048.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 k0_h2 => k0_hw1.2.2.1.2.2.2.2.2.2.2.2.2.2.2.2.2.2.2.2.2.2.2.2.2.2.2.1 k0_t2 k0_h2
theorem k0_off93_wordsbf16 : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (k0_h2 : k0_cond2 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), (Rect.unit (s := S2x16x2048) (k0_off93 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) S1x16x2048.size (k0_off93_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 k0_h2)).WholeWords (EltTy.packing .bf16) := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 k0_h2 => k0_hw1.2.2.1.2.2.2.2.2.2.2.2.2.2.2.2.2.2.2.2.2.2.2.2.2.2.2.2.1 k0_t2 k0_h2 (k0_off93_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 k0_h2)
theorem k0_off95_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (k0_h2 : k0_cond2 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ a, (k0_off95 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1.size a ≤ S2x3.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 k0_h2 => k0_hw1.2.2.1.2.2.2.2.2.2.2.2.2.2.2.2.2.2.2.2.2.2.2.2.2.2.2.2.2.1 k0_t2 k0_h2
theorem k0_off96_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (k0_h2 : k0_cond2 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), ∀ a, (k0_off96 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x2048x1024.size a ≤ S2x2048x1024.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 k0_h2 => k0_hw1.2.2.1.2.2.2.2.2.2.2.2.2.2.2.2.2.2.2.2.2.2.2.2.2.2.2.2.2.2.1 k0_t2 k0_h2
theorem k0_off96_wordsi8 : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ (k0_h2 : k0_cond2 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2 = 1#1), (Rect.unit (s := S2x2048x1024) (k0_off96 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) S1x2048x1024.size (k0_off96_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 k0_h2)).WholeWords (EltTy.packing .i8) := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 k0_h2 => k0_hw1.2.2.1.2.2.2.2.2.2.2.2.2.2.2.2.2.2.2.2.2.2.2.2.2.2.2.2.2.2.2.1 k0_t2 k0_h2 (k0_off96_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 k0_h2)
theorem k0_off98_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off98 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1.size a ≤ S2x3.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 => k0_hw1.2.2.1.2.2.2.2.2.2.2.2.2.2.2.2.2.2.2.2.2.2.2.2.2.2.2.2.2.2.2.2.1 k0_t2
theorem k0_off99_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off99 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x16x4096.size a ≤ S2x16x4096.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 => k0_hw1.2.2.1.2.2.2.2.2.2.2.2.2.2.2.2.2.2.2.2.2.2.2.2.2.2.2.2.2.2.2.2.2.1 k0_t2
theorem k0_off99_wordsbf16 : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), (Rect.unit (s := S2x16x4096) (k0_off99 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) S1x16x4096.size (k0_off99_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2)).WholeWords (EltTy.packing .bf16) := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 => k0_hw1.2.2.1.2.2.2.2.2.2.2.2.2.2.2.2.2.2.2.2.2.2.2.2.2.2.2.2.2.2.2.2.2.2.1 k0_t2 (k0_off99_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2)
theorem k0_off101_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off101 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1.size a ≤ S2x3.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 => k0_hw1.2.2.1.2.2.2.2.2.2.2.2.2.2.2.2.2.2.2.2.2.2.2.2.2.2.2.2.2.2.2.2.2.2.2 k0_t2
theorem k0_off102_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off102 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1024x1024.size a ≤ S2x4096x1024.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 => k0_hw1.2.2.2.1 k0_t2
theorem k0_off102_wordsi8 : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), (Rect.unit (s := S2x4096x1024) (k0_off102 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) S1x1024x1024.size (k0_off102_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2)).WholeWords (EltTy.packing .i8) := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 => k0_hw1.2.2.2.2.1 k0_t2 (k0_off102_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2)
theorem k0_off104_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off104 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1024x1024.size a ≤ S2x4096x1024.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 => k0_hw1.2.2.2.2.2.1 k0_t2
theorem k0_off104_wordsi8 : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), (Rect.unit (s := S2x4096x1024) (k0_off104 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) S1x1024x1024.size (k0_off104_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2)).WholeWords (EltTy.packing .i8) := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 => k0_hw1.2.2.2.2.2.2.1 k0_t2 (k0_off104_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2)
theorem k0_off106_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off106 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x4096x1024.size a ≤ S2x4096x1024.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 => k0_hw1.2.2.2.2.2.2.2.1 k0_t2
theorem k0_off107_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off107 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x16x4096.size a ≤ S2x16x4096.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 => k0_hw1.2.2.2.2.2.2.2.2.1 k0_t2
theorem k0_off108_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off108 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1.size a ≤ S17.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 => k0_hw1.2.2.2.2.2.2.2.2.2.1 k0_t2
theorem k0_off109_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off109 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1.size a ≤ S2x3.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 => k0_hw1.2.2.2.2.2.2.2.2.2.2.1 k0_t2
theorem k0_off110_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off110 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1024x1024.size a ≤ S2x4096x1024.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 => k0_hw1.2.2.2.2.2.2.2.2.2.2.2.1 k0_t2
theorem k0_off110_wordsi8 : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), (Rect.unit (s := S2x4096x1024) (k0_off110 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) S1x1024x1024.size (k0_off110_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2)).WholeWords (EltTy.packing .i8) := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 => k0_hw1.2.2.2.2.2.2.2.2.2.2.2.2.1 k0_t2 (k0_off110_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2)
theorem k0_off112_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off112 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1.size a ≤ S2x3.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 => k0_hw1.2.2.2.2.2.2.2.2.2.2.2.2.2.1 k0_t2
theorem k0_off113_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off113 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1024x1024.size a ≤ S2x4096x1024.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 => k0_hw1.2.2.2.2.2.2.2.2.2.2.2.2.2.2.1 k0_t2
theorem k0_off113_wordsi8 : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), (Rect.unit (s := S2x4096x1024) (k0_off113 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) S1x1024x1024.size (k0_off113_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2)).WholeWords (EltTy.packing .i8) := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 => k0_hw1.2.2.2.2.2.2.2.2.2.2.2.2.2.2.2.1 k0_t2 (k0_off113_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2)
theorem k0_off115_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off115 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x4096x1024.size a ≤ S2x4096x1024.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 => k0_hw1.2.2.2.2.2.2.2.2.2.2.2.2.2.2.2.2.1 k0_t2
theorem k0_off116_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off116 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x16x4096.size a ≤ S2x16x4096.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 => k0_hw1.2.2.2.2.2.2.2.2.2.2.2.2.2.2.2.2.2.1 k0_t2
theorem k0_off117_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off117 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1.size a ≤ S17.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 => k0_hw1.2.2.2.2.2.2.2.2.2.2.2.2.2.2.2.2.2.2.1 k0_t2
theorem k0_off118_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off118 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1.size a ≤ S2x3.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 => k0_hw1.2.2.2.2.2.2.2.2.2.2.2.2.2.2.2.2.2.2.2.1 k0_t2
theorem k0_off119_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off119 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x16x2048.size a ≤ S2x16x2048.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 => k0_hw1.2.2.2.2.2.2.2.2.2.2.2.2.2.2.2.2.2.2.2.2.1 k0_t2
theorem k0_off119_wordsbf16 : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), (Rect.unit (s := S2x16x2048) (k0_off119 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) S1x16x2048.size (k0_off119_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2)).WholeWords (EltTy.packing .bf16) := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 => k0_hw1.2.2.2.2.2.2.2.2.2.2.2.2.2.2.2.2.2.2.2.2.2.1 k0_t2 (k0_off119_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2)
theorem k0_off121_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off121 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x1.size a ≤ S2x3.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 => k0_hw1.2.2.2.2.2.2.2.2.2.2.2.2.2.2.2.2.2.2.2.2.2.2.1 k0_t2
theorem k0_off122_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off122 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x2048x1024.size a ≤ S2x2048x1024.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 => k0_hw1.2.2.2.2.2.2.2.2.2.2.2.2.2.2.2.2.2.2.2.2.2.2.2.1 k0_t2
theorem k0_off122_wordsi8 : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), (Rect.unit (s := S2x2048x1024) (k0_off122 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) S1x2048x1024.size (k0_off122_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2)).WholeWords (EltTy.packing .i8) := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 => k0_hw1.2.2.2.2.2.2.2.2.2.2.2.2.2.2.2.2.2.2.2.2.2.2.2.2.1 k0_t2 (k0_off122_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2)
theorem k0_off124_inb : ∀ (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2 : Fin (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips), ∀ a, (k0_off124 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_t2) a + S1x16x2048.size a ≤ S2x16x2048.size a := fun v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 k0_t2 => k0_hw1.2.2.2.2.2.2.2.2.2.2.2.2.2.2.2.2.2.2.2.2.2.2.2.2.2 k0_t2

abbrev stage0_0 : Fin 1 → Memref sig .tc .smem S24x2 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S24x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S24x2 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S24x2 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S24x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S24x1x2048 : Shape := ⟨3, ![24, 1, 2048]⟩
abbrev S16x4096x1024 : Shape := ⟨3, ![16, 4096, 1024]⟩
abbrev S16x4096x16 : Shape := ⟨3, ![16, 4096, 16]⟩
abbrev S16x2048x1024 : Shape := ⟨3, ![16, 2048, 1024]⟩
abbrev S16x2048x16 : Shape := ⟨3, ![16, 2048, 16]⟩
abbrev S24x1x2 : Shape := ⟨3, ![24, 1, 2]⟩
abbrev S24x2 : Shape := ⟨2, ![24, 2]⟩
abbrev S24x2x2048 : Shape := ⟨3, ![24, 2, 2048]⟩
abbrev S_ : Shape := ⟨0, ![]⟩
abbrev S24x2x1 : Shape := ⟨3, ![24, 2, 1]⟩
abbrev S24x2x4096x1024 : Shape := ⟨4, ![24, 2, 4096, 1024]⟩
abbrev S24x2x4096x16 : Shape := ⟨4, ![24, 2, 4096, 16]⟩
abbrev S24x2x4096x16x64 : Shape := ⟨5, ![24, 2, 4096, 16, 64]⟩
abbrev S24x2x4096x16x1 : Shape := ⟨5, ![24, 2, 4096, 16, 1]⟩
abbrev S24x2x1024 : Shape := ⟨3, ![24, 2, 1024]⟩
abbrev S24x2x4096 : Shape := ⟨3, ![24, 2, 4096]⟩
abbrev S24x2x2048x1024 : Shape := ⟨4, ![24, 2, 2048, 1024]⟩
abbrev S24x2x2048x16 : Shape := ⟨4, ![24, 2, 2048, 16]⟩
abbrev S24x2x2048x16x64 : Shape := ⟨5, ![24, 2, 2048, 16, 64]⟩
abbrev S24x2x2048x16x1 : Shape := ⟨5, ![24, 2, 2048, 16, 1]⟩
abbrev S24x2048 : Shape := ⟨2, ![24, 2048]⟩

abbrev nBuf : Space → Nat
  | .hbm => 125
  | .vmem => 0
  | .smem => 0
  | _ => 0

abbrev bufTy : (tb : Table) → Fin (tcTables nBuf tb) → BufTy
  | .hbm, ⟨0, _⟩ => ⟨S24x1x2048, .bf16⟩
  | .hbm, ⟨1, _⟩ => ⟨S16x4096x1024, .i8⟩
  | .hbm, ⟨2, _⟩ => ⟨S16x4096x16, .bf16⟩
  | .hbm, ⟨3, _⟩ => ⟨S16x2048x1024, .i8⟩
  | .hbm, ⟨4, _⟩ => ⟨S16x2048x16, .bf16⟩
  | .hbm, ⟨5, _⟩ => ⟨S24x1x2, .i32⟩
  | .hbm, ⟨6, _⟩ => ⟨S24x1x2, .f32⟩
  | .hbm, ⟨7, _⟩ => ⟨S24x2, .i32⟩
  | .hbm, ⟨8, _⟩ => ⟨S24x2x2048, .bf16⟩
  | .hbm, ⟨9, _⟩ => ⟨S_, .i32⟩
  | .hbm, ⟨10, _⟩ => ⟨S24x2, .i32⟩
  | .hbm, ⟨11, _⟩ => ⟨S24x2, .i1⟩
  | .hbm, ⟨12, _⟩ => ⟨S_, .i32⟩
  | .hbm, ⟨13, _⟩ => ⟨S24x2, .i32⟩
  | .hbm, ⟨14, _⟩ => ⟨S24x2, .i32⟩
  | .hbm, ⟨15, _⟩ => ⟨S24x2, .i32⟩
  | .hbm, ⟨16, _⟩ => ⟨S24x2x1, .i32⟩
  | .hbm, ⟨17, _⟩ => ⟨S24x2x4096x1024, .i8⟩
  | .hbm, ⟨18, _⟩ => ⟨S_, .i32⟩
  | .hbm, ⟨19, _⟩ => ⟨S24x2, .i32⟩
  | .hbm, ⟨20, _⟩ => ⟨S24x2, .i1⟩
  | .hbm, ⟨21, _⟩ => ⟨S_, .i32⟩
  | .hbm, ⟨22, _⟩ => ⟨S24x2, .i32⟩
  | .hbm, ⟨23, _⟩ => ⟨S24x2, .i32⟩
  | .hbm, ⟨24, _⟩ => ⟨S24x2, .i32⟩
  | .hbm, ⟨25, _⟩ => ⟨S24x2x1, .i32⟩
  | .hbm, ⟨26, _⟩ => ⟨S24x2x4096x16, .bf16⟩
  | .hbm, ⟨27, _⟩ => ⟨S24x2x4096x1024, .i32⟩
  | .hbm, ⟨28, _⟩ => ⟨S_, .i32⟩
  | .hbm, ⟨29, _⟩ => ⟨S24x2x4096x1024, .i32⟩
  | .hbm, ⟨30, _⟩ => ⟨S24x2x4096x1024, .i32⟩
  | .hbm, ⟨31, _⟩ => ⟨S24x2x4096x1024, .bf16⟩
  | .hbm, ⟨32, _⟩ => ⟨S24x2x4096x16x64, .bf16⟩
  | .hbm, ⟨33, _⟩ => ⟨S_, .bf16⟩
  | .hbm, ⟨34, _⟩ => ⟨S24x2x4096x16x64, .bf16⟩
  | .hbm, ⟨35, _⟩ => ⟨S24x2x4096x16x64, .bf16⟩
  | .hbm, ⟨36, _⟩ => ⟨S24x2x4096x16x1, .bf16⟩
  | .hbm, ⟨37, _⟩ => ⟨S24x2x4096x16x64, .bf16⟩
  | .hbm, ⟨38, _⟩ => ⟨S24x2x4096x16x64, .bf16⟩
  | .hbm, ⟨39, _⟩ => ⟨S24x2x4096x1024, .bf16⟩
  | .hbm, ⟨40, _⟩ => ⟨S_, .i32⟩
  | .hbm, ⟨41, _⟩ => ⟨S24x2x4096x1024, .i32⟩
  | .hbm, ⟨42, _⟩ => ⟨S24x2x4096x1024, .i32⟩
  | .hbm, ⟨43, _⟩ => ⟨S24x2x4096x1024, .bf16⟩
  | .hbm, ⟨44, _⟩ => ⟨S24x2x4096x16x64, .bf16⟩
  | .hbm, ⟨45, _⟩ => ⟨S_, .bf16⟩
  | .hbm, ⟨46, _⟩ => ⟨S24x2x4096x16x64, .bf16⟩
  | .hbm, ⟨47, _⟩ => ⟨S24x2x4096x16x64, .bf16⟩
  | .hbm, ⟨48, _⟩ => ⟨S24x2x4096x16x1, .bf16⟩
  | .hbm, ⟨49, _⟩ => ⟨S24x2x4096x16x64, .bf16⟩
  | .hbm, ⟨50, _⟩ => ⟨S24x2x4096x16x64, .bf16⟩
  | .hbm, ⟨51, _⟩ => ⟨S24x2x4096x1024, .bf16⟩
  | .hbm, ⟨52, _⟩ => ⟨S24x2x1024, .bf16⟩
  | .hbm, ⟨53, _⟩ => ⟨S24x2x4096, .f32⟩
  | .hbm, ⟨54, _⟩ => ⟨S24x2x1024, .bf16⟩
  | .hbm, ⟨55, _⟩ => ⟨S24x2x4096, .f32⟩
  | .hbm, ⟨56, _⟩ => ⟨S24x2x4096, .f32⟩
  | .hbm, ⟨57, _⟩ => ⟨S24x2x2048, .f32⟩
  | .hbm, ⟨58, _⟩ => ⟨S24x2x2048, .f32⟩
  | .hbm, ⟨59, _⟩ => ⟨S24x2x2048, .f32⟩
  | .hbm, ⟨60, _⟩ => ⟨S24x2x2048, .f32⟩
  | .hbm, ⟨61, _⟩ => ⟨S_, .f32⟩
  | .hbm, ⟨62, _⟩ => ⟨S24x2x2048, .f32⟩
  | .hbm, ⟨63, _⟩ => ⟨S24x2x2048, .f32⟩
  | .hbm, ⟨64, _⟩ => ⟨S_, .f32⟩
  | .hbm, ⟨65, _⟩ => ⟨S24x2x2048, .f32⟩
  | .hbm, ⟨66, _⟩ => ⟨S24x2x2048, .f32⟩
  | .hbm, ⟨67, _⟩ => ⟨S24x2x2048, .f32⟩
  | .hbm, ⟨68, _⟩ => ⟨S24x2x2048, .f32⟩
  | .hbm, ⟨69, _⟩ => ⟨S24x2x2048, .bf16⟩
  | .hbm, ⟨70, _⟩ => ⟨S_, .i32⟩
  | .hbm, ⟨71, _⟩ => ⟨S24x2, .i32⟩
  | .hbm, ⟨72, _⟩ => ⟨S24x2, .i1⟩
  | .hbm, ⟨73, _⟩ => ⟨S_, .i32⟩
  | .hbm, ⟨74, _⟩ => ⟨S24x2, .i32⟩
  | .hbm, ⟨75, _⟩ => ⟨S24x2, .i32⟩
  | .hbm, ⟨76, _⟩ => ⟨S24x2, .i32⟩
  | .hbm, ⟨77, _⟩ => ⟨S24x2x1, .i32⟩
  | .hbm, ⟨78, _⟩ => ⟨S24x2x2048x1024, .i8⟩
  | .hbm, ⟨79, _⟩ => ⟨S_, .i32⟩
  | .hbm, ⟨80, _⟩ => ⟨S24x2, .i32⟩
  | .hbm, ⟨81, _⟩ => ⟨S24x2, .i1⟩
  | .hbm, ⟨82, _⟩ => ⟨S_, .i32⟩
  | .hbm, ⟨83, _⟩ => ⟨S24x2, .i32⟩
  | .hbm, ⟨84, _⟩ => ⟨S24x2, .i32⟩
  | .hbm, ⟨85, _⟩ => ⟨S24x2, .i32⟩
  | .hbm, ⟨86, _⟩ => ⟨S24x2x1, .i32⟩
  | .hbm, ⟨87, _⟩ => ⟨S24x2x2048x16, .bf16⟩
  | .hbm, ⟨88, _⟩ => ⟨S24x2x2048x1024, .i32⟩
  | .hbm, ⟨89, _⟩ => ⟨S_, .i32⟩
  | .hbm, ⟨90, _⟩ => ⟨S24x2x2048x1024, .i32⟩
  | .hbm, ⟨91, _⟩ => ⟨S24x2x2048x1024, .i32⟩
  | .hbm, ⟨92, _⟩ => ⟨S24x2x2048x1024, .bf16⟩
  | .hbm, ⟨93, _⟩ => ⟨S24x2x2048x16x64, .bf16⟩
  | .hbm, ⟨94, _⟩ => ⟨S_, .bf16⟩
  | .hbm, ⟨95, _⟩ => ⟨S24x2x2048x16x64, .bf16⟩
  | .hbm, ⟨96, _⟩ => ⟨S24x2x2048x16x64, .bf16⟩
  | .hbm, ⟨97, _⟩ => ⟨S24x2x2048x16x1, .bf16⟩
  | .hbm, ⟨98, _⟩ => ⟨S24x2x2048x16x64, .bf16⟩
  | .hbm, ⟨99, _⟩ => ⟨S24x2x2048x16x64, .bf16⟩
  | .hbm, ⟨100, _⟩ => ⟨S24x2x2048x1024, .bf16⟩
  | .hbm, ⟨101, _⟩ => ⟨S_, .i32⟩
  | .hbm, ⟨102, _⟩ => ⟨S24x2x2048x1024, .i32⟩
  | .hbm, ⟨103, _⟩ => ⟨S24x2x2048x1024, .i32⟩
  | .hbm, ⟨104, _⟩ => ⟨S24x2x2048x1024, .bf16⟩
  | .hbm, ⟨105, _⟩ => ⟨S24x2x2048x16x64, .bf16⟩
  | .hbm, ⟨106, _⟩ => ⟨S_, .bf16⟩
  | .hbm, ⟨107, _⟩ => ⟨S24x2x2048x16x64, .bf16⟩
  | .hbm, ⟨108, _⟩ => ⟨S24x2x2048x16x64, .bf16⟩
  | .hbm, ⟨109, _⟩ => ⟨S24x2x2048x16x1, .bf16⟩
  | .hbm, ⟨110, _⟩ => ⟨S24x2x2048x16x64, .bf16⟩
  | .hbm, ⟨111, _⟩ => ⟨S24x2x2048x16x64, .bf16⟩
  | .hbm, ⟨112, _⟩ => ⟨S24x2x2048x1024, .bf16⟩
  | .hbm, ⟨113, _⟩ => ⟨S24x2x1024, .bf16⟩
  | .hbm, ⟨114, _⟩ => ⟨S24x2x2048, .f32⟩
  | .hbm, ⟨115, _⟩ => ⟨S24x2x1024, .bf16⟩
  | .hbm, ⟨116, _⟩ => ⟨S24x2x2048, .f32⟩
  | .hbm, ⟨117, _⟩ => ⟨S24x2x2048, .f32⟩
  | .hbm, ⟨118, _⟩ => ⟨S24x2x1, .f32⟩
  | .hbm, ⟨119, _⟩ => ⟨S24x2x2048, .f32⟩
  | .hbm, ⟨120, _⟩ => ⟨S24x2x2048, .f32⟩
  | .hbm, ⟨121, _⟩ => ⟨S_, .f32⟩
  | .hbm, ⟨122, _⟩ => ⟨S24x2048, .f32⟩
  | .hbm, ⟨123, _⟩ => ⟨S24x2048, .bf16⟩
  | .hbm, ⟨124, _⟩ => ⟨S24x1x2048, .bf16⟩
  | _, _ => ⟨S24x1x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c_1 : Ref sig .tc := ⟨.hbm, 18, rfl⟩
abbrev main_v9 : Ref sig .tc := ⟨.hbm, 19, rfl⟩
abbrev main_v10 : Ref sig .tc := ⟨.hbm, 20, rfl⟩
abbrev main_c_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_4 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_5 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_call0_v0 : Ref sig .tc := ⟨.hbm, 59, rfl⟩
abbrev main_call0_v1 : Ref sig .tc := ⟨.hbm, 60, rfl⟩
abbrev main_call0_cst : Ref sig .tc := ⟨.hbm, 61, rfl⟩
abbrev main_call0_v2 : Ref sig .tc := ⟨.hbm, 62, rfl⟩
abbrev main_call0_v3 : Ref sig .tc := ⟨.hbm, 63, rfl⟩
abbrev main_call0_cst_0 : Ref sig .tc := ⟨.hbm, 64, rfl⟩
abbrev main_call0_v4 : Ref sig .tc := ⟨.hbm, 65, rfl⟩
abbrev main_call0_v5 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_c_6 : Ref sig .tc := ⟨.hbm, 70, rfl⟩
abbrev main_v47 : Ref sig .tc := ⟨.hbm, 71, rfl⟩
abbrev main_v48 : Ref sig .tc := ⟨.hbm, 72, rfl⟩
abbrev main_c_7 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_c_8 : Ref sig .tc := ⟨.hbm, 79, rfl⟩
abbrev main_v54 : Ref sig .tc := ⟨.hbm, 80, rfl⟩
abbrev main_v55 : Ref sig .tc := ⟨.hbm, 81, rfl⟩
abbrev main_c_9 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_c_10 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_cst_11 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_c_12 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_cst_13 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_cst_14 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩

abbrev nD : Nat := 1
abbrev τ : Topo := Topo.v7x

variable {F : FTy → Type} [FloatOps F]
-- ==== Proof.Plan.lean ====
/- The body of one expert of the kernel, written as nested counted passes over the tiles. -/
module

public import proofs.«01_k».proof.Proof.Gen.Kernel.Skeleton

@[expose] public section

set_option maxRecDepth 65536

noncomputable section

namespace Cert.Kernel.Gen

open Idealize.ShloMosaic Idealize.SL.Sem

variable {F : FTy → Type} [FloatOps F]

/-- The programs of the kernel's core. -/
abbrev PP (F : FTy → Type) (α : Type) := Prog (TpuEff nD τ sig (Elt F) Λ₀ .tc) α

/-- A tile of zeros, the start of every accumulation. -/
def zeroTile : FVec F S24x256 .f32 := broadcast S24x256 (Scalar.ofBits .f32 0x00000000#32)

/-- The four-bit codes of a tile as numbers: two rows of the result for every row of the transposed tile. -/
def nibbles (w : Vec F S256x128 .i8) : FVec F S256x256 .bf16 :=
  have t : IVec S128x256 32 := extui 32 (transpose S128x256 [1, 0] (xori w (broadcast S256x128 136#8)) transposes_S256x128_p1_0_S128x256) natLt_8_32
  sitofp .bf16 (trunci 4 (shapeCast S256x256
    (concatenate S128x2x256 1
      [⟨S128x1x256, shapeCast S128x1x256 (shrsi (shli t (broadcast S128x256 28#32)) (broadcast S128x256 28#32)) shapeCasts_S128x256_S128x1x256⟩,
       ⟨S128x1x256, shapeCast S128x1x256 (shrsi (shli t (broadcast S128x256 24#32)) (broadcast S128x256 28#32)) shapeCasts_S128x256_S128x1x256⟩]
      concatenates_S128x1x256_S128x1x256_S128x2x256_d1) shapeCasts_S128x2x256_S256x256) natLt_4_32)

/-- A weight tile: the codes times the scale of their group, group by group. -/
def wtile (w : Vec F S256x128 .i8) (s : Vec F S2x256 .bf16) : FVec F S256x256 .bf16 :=
  concatenate S256x256 0
    [⟨S128x256, mulf (extractStridedSlice S128x256 ![0, 0] (nibbles w) slices_S256x256_o0_0_S128x256)
        (broadcastTo S128x256 (extractStridedSlice S1x256 ![0, 0] s slices_S2x256_o0_0_S1x256) broadcasts_S1x256_S128x256)⟩,
     ⟨S128x256, mulf (extractStridedSlice S128x256 ![128, 0] (nibbles w) slices_S256x256_o128_0_S128x256)
        (broadcastTo S128x256 (extractStridedSlice S1x256 ![1, 0] s slices_S2x256_o1_0_S1x256) broadcasts_S1x256_S128x256)⟩]
    concatenates_S128x256_S128x256_S256x256_d0

/-- One more tile product on the accumulator. -/
def dotAcc (a : FVec F S24x256 .f32) (x : FVec F S24x256 .bf16) (w : Vec F S256x128 .i8) (s : Vec F S2x256 .bf16) : FVec F S24x256 .f32 :=
  addf a (matmul dot_S24x256_S256x256_S24x256_1_0_0_1_n_n none x (wtile w s) (constant S24x256 .f32 0x00000000#32))

/-- The hidden tile: the gate times its logistic times the up projection, rounded. -/
def hTile (g u : FVec F S24x256 .f32) : FVec F S24x256 .bf16 :=
  shapeCast S24x256 (truncf .bf16 (mulf (mulf g (logistic g)) u) bitsLt_bf16_f32) shapeCasts_S24x256_S24x256

theorem inb2 {r c a b m n : ℕ} (h0 : r + a ≤ m) (h1 : c + b ≤ n) :
    ∀ i, (![r, c] : Fin 2 → Nat) i + (![a, b] : Fin 2 → Nat) i ≤ (![m, n] : Fin 2 → Nat) i := by
  intro i; match i with
  | 0 => exact h0
  | 1 => exact h1

theorem inb3 {r c q a b e m n l : ℕ} (h0 : r + a ≤ m) (h1 : c + b ≤ n) (h2 : q + e ≤ l) :
    ∀ i, (![r, c, q] : Fin 3 → Nat) i + (![a, b, e] : Fin 3 → Nat) i ≤ (![m, n, l] : Fin 3 → Nat) i := by
  intro i; match i with
  | 0 => exact h0
  | 1 => exact h1
  | 2 => exact h2

section gu
variable (arg1 : Memref sig .tc .vmem S24x2048 .bf16) (w1 : Memref sig .tc .vmem S4096x1024 .i8) (s1 : Memref sig .tc .vmem S16x4096 .bf16)
  (arg14 : Memref sig .tc .vmem S24x2048 .bf16) (harg14 : arg14.IsWhole)

abbrev ldX (m : Memref sig .tc .vmem S24x2048 .bf16) (kb : ℕ) (hk : kb < 8) : TpuEff nD τ sig (Elt F) Λ₀ .tc (Vec F S24x256 .bf16) :=
  .load m (Rect.unit (s := S24x2048) ![0, kb * 256] S24x256.size (inb2 (by omega) (by omega))).toLoadRect (View.loadsAt_vmem h_S24x256)

abbrev ldW1 (r kb : ℕ) (hr : r + 256 ≤ 4096) (hk : kb < 8) : TpuEff nD τ sig (Elt F) Λ₀ .tc (Vec F S256x128 .i8) :=
  .load w1 (Rect.unit (s := S4096x1024) ![r, kb * 128] S256x128.size (inb2 hr (by omega))).toLoadRect (View.loadsAt_vmem h_S256x128)

abbrev ldS1 (r kb : ℕ) (hr : r + 256 ≤ 4096) (hk : kb < 8) : TpuEff nD τ sig (Elt F) Λ₀ .tc (Vec F S2x256 .bf16) :=
  .load s1 (Rect.unit (s := S16x4096) ![kb * 2, r] S2x256.size (inb2 (by omega) hr)).toLoadRect (View.loadsAt_vmem h_S2x256)

/-- The first `n` column blocks of one gate and one up tile. -/
def guLoop {α : Type} (d : ℕ) (hd : d < 8) :
    (n : ℕ) → (hn : n ≤ 8) → (FVec F S24x256 .f32 → FVec F S24x256 .f32 → PP F α) → PP F α
  | 0, _, k => k zeroTile zeroTile
  | n + 1, hn, k => guLoop d hd n (by omega) fun g u =>
      .op (ldX arg1 n hn) fun x =>
      .op (ldW1 w1 (d * 256) n (by omega) hn) fun wg =>
      .op (ldS1 s1 (d * 256) n (by omega) hn) fun sg =>
      .op (ldW1 w1 (2048 + d * 256) n (by omega) hn) fun wu =>
      .op (ldS1 s1 (2048 + d * 256) n (by omega) hn) fun su =>
      k (dotAcc g (shapeCast S24x256 x shapeCasts_S24x256_S24x256) wg sg) (dotAcc u (shapeCast S24x256 x shapeCasts_S24x256_S24x256) wu su)

theorem packedH : ∀ d (hd : d < 8), (Rect.unit (s := S24x2048) ![0, d * 256] S24x256.size (inb2 (by omega) (by omega))).PackedRows (EltTy.packing .bf16)
  | 0, _ => packedbf16_S24x2048_S24x256_0_0
  | 1, _ => packedbf16_S24x2048_S24x256_0_256
  | 2, _ => packedbf16_S24x2048_S24x256_0_512
  | 3, _ => packedbf16_S24x2048_S24x256_0_768
  | 4, _ => packedbf16_S24x2048_S24x256_0_1024
  | 5, _ => packedbf16_S24x2048_S24x256_0_1280
  | 6, _ => packedbf16_S24x2048_S24x256_0_1536
  | 7, _ => packedbf16_S24x2048_S24x256_0_1792

abbrev stH (d : ℕ) (hd : d < 8) (v : FVec F S24x256 .bf16) : TpuEff nD τ sig (Elt F) Λ₀ .tc PUnit :=
  .store arg14 (Rect.unit (s := S24x2048) ![0, d * 256] S24x256.size (inb2 (by omega) (by omega))) v Finset.univ
    (View.stores_vmem h_S24x256 (harg14.storeExact_slice rfl _ (packedH d hd)) (fun _ => rfl)) (.inl rfl)

/-- One hidden tile. -/
def guTile {α : Type} (d : ℕ) (hd : d < 8) (k : PP F α) : PP F α :=
  guLoop arg1 w1 s1 d hd 8 (by omega) fun g u =>
  .op (ldX arg14 d hd) fun _ => .op (stH arg14 harg14 d hd (hTile g u)) fun _ => k

end gu

section dn
variable (w2 : Memref sig .tc .vmem S2048x1024 .i8) (s2 : Memref sig .tc .vmem S16x2048 .bf16)
  (arg14 : Memref sig .tc .vmem S24x2048 .bf16) (arg15 : Memref sig .tc .vmem S24x2048 .f32)

abbrev ldW2 (r kb : ℕ) (hr : r + 256 ≤ 2048) (hk : kb < 8) : TpuEff nD τ sig (Elt F) Λ₀ .tc (Vec F S256x128 .i8) :=
  .load w2 (Rect.unit (s := S2048x1024) ![r, kb * 128] S256x128.size (inb2 hr (by omega))).toLoadRect (View.loadsAt_vmem h_S256x128)

abbrev ldS2 (r kb : ℕ) (hr : r + 256 ≤ 2048) (hk : kb < 8) : TpuEff nD τ sig (Elt F) Λ₀ .tc (Vec F S2x256 .bf16) :=
  .load s2 (Rect.unit (s := S16x2048) ![kb * 2, r] S2x256.size (inb2 (by omega) hr)).toLoadRect (View.loadsAt_vmem h_S2x256)

abbrev ldY (d : ℕ) (hd : d < 8) : TpuEff nD τ sig (Elt F) Λ₀ .tc (Vec F S24x256 .f32) :=
  .load arg15 (Rect.unit (s := S24x2048) ![0, d * 256] S24x256.size (inb2 (by omega) (by omega))).toLoadRect (View.loadsAt_vmem h_S24x256)

abbrev stY (d : ℕ) (hd : d < 8) (v : FVec F S24x256 .f32) : TpuEff nD τ sig (Elt F) Λ₀ .tc PUnit :=
  .store arg15 (Rect.unit (s := S24x2048) ![0, d * 256] S24x256.size (inb2 (by omega) (by omega))) v Finset.univ
    (View.stores_vmem_bits_univ h_S24x256 rfl) (.inl rfl)

/-- Which of a token's choices are the expert `e`. -/
def chose (e : Elt F .i32) (ids : Vec F S24x2 .i32) : IVec S24x2 1 :=
  cmpi .eq (shapeCast S24x2 ids shapeCasts_S24x2_S24x2) (broadcast S24x2 e)

/-- A token's weight for the expert `e`: the sum of the weights of its choices that are `e`. -/
def coefOf (e : Elt F .i32) (ids : Vec F S24x2 .i32) (cw : Vec F S24x2 .f32) : FVec F S24x1 .f32 :=
  shapeCast S24x1 (multiReduction .add [1] S24
    (select (chose (F := F) e ids) (shapeCast S24x2 cw shapeCasts_S24x2_S24x2) (broadcast S24x2 (Scalar.ofBits .f32 0x00000000#32)))
    0x00000000#32 reduces_S24x2_S24 (.inl rfl) rfl) shapeCasts_S24_S24x1

/-- Whether any of a token's choices is the expert `e`. -/
def anyOf (e : Elt F .i32) (ids : Vec F S24x2 .i32) : IVec S24x1 1 :=
  cmpi .sgt (shapeCast S24x1 (multiReductionI .add [1] S24 (extui 32 (chose (F := F) e ids) natLt_1_32) 0#32 reduces_S24x2_S24 rfl)
    shapeCasts_S24_S24x1) (broadcast S24x1 0#32)

/-- The output tile with one expert's share added. -/
def yTile (c : FVec F S24x1 .f32) (r : IVec S24x1 1) (a : FVec F S24x256 .f32) (y : Vec F S24x256 .f32) : FVec F S24x256 .f32 :=
  shapeCast S24x256 (addf y
    (select (broadcastTo S24x256 (shapeCast S24x1 r shapeCasts_S24x1_S24x1) broadcasts_S24x1_S24x256)
      (mulf a (broadcastTo S24x256 c broadcasts_S24x1_S24x256))
      (broadcast S24x256 (Scalar.ofBits .f32 0x00000000#32)))) shapeCasts_S24x256_S24x256

/-- The first `n` column blocks of one output tile. -/
def dnLoop {α : Type} (d : ℕ) (hd : d < 8) :
    (n : ℕ) → (hn : n ≤ 8) → (FVec F S24x256 .f32 → PP F α) → PP F α
  | 0, _, k => k zeroTile
  | n + 1, hn, k => dnLoop d hd n (by omega) fun a =>
      .op (ldX arg14 n hn) fun h =>
      .op (ldW2 w2 (d * 256) n (by omega) hn) fun w =>
      .op (ldS2 s2 (d * 256) n (by omega) hn) fun s =>
      k (dotAcc a h w s)

/-- One output tile. -/
def dnTile {α : Type} (c : FVec F S24x1 .f32) (r : IVec S24x1 1) (d : ℕ) (hd : d < 8) (k : PP F α) : PP F α :=
  dnLoop w2 s2 arg14 d hd 8 (by omega) fun a =>
  .op (ldY arg15 d hd) fun y => .op (ldY arg15 d hd) fun _ =>
  .op (stY arg15 d hd (yTile c r a y)) fun _ => k

end dn

section views
variable (arg4 : Memref sig .tc .hbm S16x4096x1024 .i8) (arg5 : Memref sig .tc .hbm S16x16x4096 .bf16) (arg6 : Memref sig .tc .hbm S16x2048x1024 .i8) (arg7 : Memref sig .tc .hbm S16x16x2048 .bf16)
  (arg9 : Memref sig .tc .smem S17 .i32)
  (arg10 : Memref sig .tc .vmem S2x4096x1024 .i8) (arg11 : Memref sig .tc .vmem S2x16x4096 .bf16) (arg12 : Memref sig .tc .vmem S2x2048x1024 .i8) (arg13 : Memref sig .tc .vmem S2x16x2048 .bf16) (arg16 : DmaSems sig S2x3)

/-- The semaphore of stage `st` of slot `b`. -/
abbrev semV (b st : ℕ) (hb : b < 2) (hs : st < 3) : DmaSems sig S_ :=
  (arg16.slice (Rect.unit (s := S2x3) ![b, st] S1x1.size (inb2 (by omega) (by omega)))).squeeze S_ squeezes_S1x1_S_
/-- Slot `b` of each of the four buffers, whole. -/
abbrev slotW1 (b : ℕ) (hb : b < 2) : Memref sig .tc .vmem S4096x1024 .i8 :=
  (arg10.slice (Rect.unit (s := S2x4096x1024) ![b, 0, 0] S1x4096x1024.size (inb3 (by omega) (by omega) (by omega))) (fun _ => rfl)).squeeze S4096x1024 squeezes_S1x4096x1024_S4096x1024
abbrev slotS1 (b : ℕ) (hb : b < 2) : Memref sig .tc .vmem S16x4096 .bf16 :=
  (arg11.slice (Rect.unit (s := S2x16x4096) ![b, 0, 0] S1x16x4096.size (inb3 (by omega) (by omega) (by omega))) (fun _ => rfl)).squeeze S16x4096 squeezes_S1x16x4096_S16x4096
abbrev slotW2 (b : ℕ) (hb : b < 2) : Memref sig .tc .vmem S2048x1024 .i8 :=
  (arg12.slice (Rect.unit (s := S2x2048x1024) ![b, 0, 0] S1x2048x1024.size (inb3 (by omega) (by omega) (by omega))) (fun _ => rfl)).squeeze S2048x1024 squeezes_S1x2048x1024_S2048x1024
abbrev slotS2 (b : ℕ) (hb : b < 2) : Memref sig .tc .vmem S16x2048 .bf16 :=
  (arg13.slice (Rect.unit (s := S2x16x2048) ![b, 0, 0] S1x16x2048.size (inb3 (by omega) (by omega) (by omega))) (fun _ => rfl)).squeeze S16x2048 squeezes_S1x16x2048_S16x2048
/-- A quarter of the rows of slot `b` of the first weight buffer. -/
abbrev rowsW1 (b r : ℕ) (hb : b < 2) (hr : r + 1024 ≤ 4096) : Memref sig .tc .vmem S1024x1024 .i8 :=
  (arg10.slice (Rect.unit (s := S2x4096x1024) ![b, r, 0] S1x1024x1024.size (inb3 (by omega) hr (by omega))) (fun _ => rfl)).squeeze S1024x1024 squeezes_S1x1024x1024_S1024x1024
/-- Expert `v` of each of the four arrays. -/
abbrev srcW1 (v r : ℕ) (hv : v < 16) (hr : r + 1024 ≤ 4096) : Memref sig .tc .hbm S1024x1024 .i8 :=
  (arg4.slice (Rect.unit (s := S16x4096x1024) ![v, r, 0] S1x1024x1024.size (inb3 (by omega) hr (by omega))) (fun _ => rfl)).squeeze S1024x1024 squeezes_S1x1024x1024_S1024x1024
abbrev srcS1 (v : ℕ) (hv : v < 16) : Memref sig .tc .hbm S16x4096 .bf16 :=
  (arg5.slice (Rect.unit (s := S16x16x4096) ![v, 0, 0] S1x16x4096.size (inb3 (by omega) (by omega) (by omega))) (fun _ => rfl)).squeeze S16x4096 squeezes_S1x16x4096_S16x4096
abbrev srcW2 (v : ℕ) (hv : v < 16) : Memref sig .tc .hbm S2048x1024 .i8 :=
  (arg6.slice (Rect.unit (s := S16x2048x1024) ![v, 0, 0] S1x2048x1024.size (inb3 (by omega) (by omega) (by omega))) (fun _ => rfl)).squeeze S2048x1024 squeezes_S1x2048x1024_S2048x1024
abbrev srcS2 (v : ℕ) (hv : v < 16) : Memref sig .tc .hbm S16x2048 .bf16 :=
  (arg7.slice (Rect.unit (s := S16x16x2048) ![v, 0, 0] S1x16x2048.size (inb3 (by omega) (by omega) (by omega))) (fun _ => rfl)).squeeze S16x2048 squeezes_S1x16x2048_S16x2048

variable (harg4 : arg4.IsWhole) (harg5 : arg5.IsWhole) (harg6 : arg6.IsWhole) (harg7 : arg7.IsWhole)
  (harg10 : arg10.IsWhole) (harg11 : arg11.IsWhole) (harg12 : arg12.IsWhole) (harg13 : arg13.IsWhole)

theorem wxRowsW1 (harg10 : arg10.IsWhole) (b r : ℕ) (hb : b < 2) (hr : r + 1024 ≤ 4096) (h4 : 4 ∣ r) : (rowsW1 arg10 b r hb hr).view.WordExact :=
  (harg10.wordExact_slice rfl _ (Affine.words_of_packed (Affine.packed_dvd (by decide) h4 (by decide)))).reshape _ _
theorem wxSlotS1 (harg11 : arg11.IsWhole) (b : ℕ) (hb : b < 2) : (slotS1 arg11 b hb).view.WordExact :=
  (harg11.wordExact_slice rfl _ (.inr ⟨by decide, rfl, rfl, rfl⟩)).reshape _ _
theorem wxSlotW2 (harg12 : arg12.IsWhole) (b : ℕ) (hb : b < 2) : (slotW2 arg12 b hb).view.WordExact :=
  (harg12.wordExact_slice rfl _ (.inr ⟨by decide, rfl, rfl, rfl⟩)).reshape _ _
theorem wxSlotS2 (harg13 : arg13.IsWhole) (b : ℕ) (hb : b < 2) : (slotS2 arg13 b hb).view.WordExact :=
  (harg13.wordExact_slice rfl _ (.inr ⟨by decide, rfl, rfl, rfl⟩)).reshape _ _
theorem wxSrcW1 (harg4 : arg4.IsWhole) (v r : ℕ) (hv : v < 16) (hr : r + 1024 ≤ 4096) (h4 : 4 ∣ r) : (srcW1 arg4 v r hv hr).view.WordExact :=
  (harg4.wordExact_slice rfl _ (Affine.words_of_packed (Affine.packed_dvd (by decide) h4 (by decide)))).reshape _ _
theorem wxSrcS1 (harg5 : arg5.IsWhole) (v : ℕ) (hv : v < 16) : (srcS1 arg5 v hv).view.WordExact :=
  (harg5.wordExact_slice rfl _ (.inr ⟨by decide, rfl, rfl, rfl⟩)).reshape _ _
theorem wxSrcW2 (harg6 : arg6.IsWhole) (v : ℕ) (hv : v < 16) : (srcW2 arg6 v hv).view.WordExact :=
  (harg6.wordExact_slice rfl _ (.inr ⟨by decide, rfl, rfl, rfl⟩)).reshape _ _
theorem wxSrcS2 (harg7 : arg7.IsWhole) (v : ℕ) (hv : v < 16) : (srcS2 arg7 v hv).view.WordExact :=
  (harg7.wordExact_slice rfl _ (.inr ⟨by decide, rfl, rfl, rfl⟩)).reshape _ _

/-- Read entry `i` of the list of active experts. -/
def ldA {α : Type} (i : ℕ) (hi : i + 1 ≤ 17) (k : Elt F .i32 → PP F α) : PP F α :=
  (smemLoad arg9 (Rect.unit (s := S17) ![i] S1.size (fun a => match a with | 0 => hi)) numel1_S1 rfl).bind k

/-- The checked use of a word: it names one of the sixteen experts. -/
structure Chk (C : BitVec 32 → Prop) where
  dec : ∀ v, Decidable (C v)
  lt : ∀ v, C v → v.toNat < 16

/-- Start the seven copies that fetch the expert of entry `i` into slot `b`. -/
def startP {α : Type} (harg4 : arg4.IsWhole) (harg5 : arg5.IsWhole) (harg6 : arg6.IsWhole) (harg7 : arg7.IsWhole)
    (harg10 : arg10.IsWhole) (harg11 : arg11.IsWhole) (harg12 : arg12.IsWhole) (harg13 : arg13.IsWhole)
    (i : ℕ) (hi : i + 1 ≤ 17) (b : ℕ) (hb : b < 2)
    {C0 C1 C2 : BitVec 32 → Prop} (c0 : Chk C0) (c1 : Chk C1) (c2 : Chk C2) (k : PP F α) : PP F α :=
  ldA arg9 i hi fun v => .op (.assume (C0 v) (c0.dec v)) fun h =>
  .op (.enqueueDma (srcS1 arg5 (BitVec.toNat v) (c0.lt v h.down)) (.here (slotS1 arg11 b hb)) (.dma (semV arg16 b 0 hb (by decide)).sem)
    (wxSrcS1 arg5 harg5 _ _) (wxSlotS1 arg11 harg11 b hb) ⟨Or.inl rfl, trivial⟩) fun _ =>
  .op (.enqueueDma (srcW1 arg4 (BitVec.toNat v) 0 (c0.lt v h.down) (by decide)) (.here (rowsW1 arg10 b 0 hb (by decide))) (.dma (semV arg16 b 0 hb (by decide)).sem)
    (wxSrcW1 arg4 harg4 _ _ _ (by decide) (by decide)) (wxRowsW1 arg10 harg10 b _ hb (by decide) (by decide)) ⟨Or.inl rfl, trivial⟩) fun _ =>
  .op (.enqueueDma (srcW1 arg4 (BitVec.toNat v) 2048 (c0.lt v h.down) (by decide)) (.here (rowsW1 arg10 b 2048 hb (by decide))) (.dma (semV arg16 b 0 hb (by decide)).sem)
    (wxSrcW1 arg4 harg4 _ _ _ (by decide) (by decide)) (wxRowsW1 arg10 harg10 b _ hb (by decide) (by decide)) ⟨Or.inl rfl, trivial⟩) fun _ =>
  ldA arg9 i hi fun v => .op (.assume (C1 v) (c1.dec v)) fun h =>
  .op (.enqueueDma (srcW1 arg4 (BitVec.toNat v) 1024 (c1.lt v h.down) (by decide)) (.here (rowsW1 arg10 b 1024 hb (by decide))) (.dma (semV arg16 b 1 hb (by decide)).sem)
    (wxSrcW1 arg4 harg4 _ _ _ (by decide) (by decide)) (wxRowsW1 arg10 harg10 b _ hb (by decide) (by decide)) ⟨Or.inl rfl, trivial⟩) fun _ =>
  .op (.enqueueDma (srcW1 arg4 (BitVec.toNat v) 3072 (c1.lt v h.down) (by decide)) (.here (rowsW1 arg10 b 3072 hb (by decide))) (.dma (semV arg16 b 1 hb (by decide)).sem)
    (wxSrcW1 arg4 harg4 _ _ _ (by decide) (by decide)) (wxRowsW1 arg10 harg10 b _ hb (by decide) (by decide)) ⟨Or.inl rfl, trivial⟩) fun _ =>
  ldA arg9 i hi fun v => .op (.assume (C2 v) (c2.dec v)) fun h =>
  .op (.enqueueDma (srcS2 arg7 (BitVec.toNat v) (c2.lt v h.down)) (.here (slotS2 arg13 b hb)) (.dma (semV arg16 b 2 hb (by decide)).sem)
    (wxSrcS2 arg7 harg7 _ _) (wxSlotS2 arg13 harg13 b hb) ⟨Or.inl rfl, trivial⟩) fun _ =>
  .op (.enqueueDma (srcW2 arg6 (BitVec.toNat v) (c2.lt v h.down)) (.here (slotW2 arg12 b hb)) (.dma (semV arg16 b 2 hb (by decide)).sem)
    (wxSrcW2 arg6 harg6 _ _) (wxSlotW2 arg12 harg12 b hb) ⟨Or.inl rfl, trivial⟩) fun _ =>
  k

/-- Wait for the first stage: the scales and two quarters of the first weights. -/
def wait0 {α : Type} (harg4 : arg4.IsWhole) (harg5 : arg5.IsWhole) (harg10 : arg10.IsWhole) (harg11 : arg11.IsWhole)
    (i : ℕ) (hi : i + 1 ≤ 17) (b : ℕ) (hb : b < 2) {C : BitVec 32 → Prop} (c : Chk C) (k : PP F α) : PP F α :=
  ldA arg9 i hi fun v => .op (.assume (C v) (c.dec v)) fun h =>
  .op (.waitDma2 (semV arg16 b 0 hb (by decide)).sem (srcS1 arg5 (BitVec.toNat v) (c.lt v h.down)) (slotS1 arg11 b hb)
    (wxSrcS1 arg5 harg5 _ _) (wxSlotS1 arg11 harg11 b hb)) fun _ =>
  .op (.waitDma2 (semV arg16 b 0 hb (by decide)).sem (srcW1 arg4 (BitVec.toNat v) 0 (c.lt v h.down) (by decide)) (rowsW1 arg10 b 0 hb (by decide))
    (wxSrcW1 arg4 harg4 _ _ _ (by decide) (by decide)) (wxRowsW1 arg10 harg10 b _ hb (by decide) (by decide))) fun _ =>
  .op (.waitDma2 (semV arg16 b 0 hb (by decide)).sem (srcW1 arg4 (BitVec.toNat v) 2048 (c.lt v h.down) (by decide)) (rowsW1 arg10 b 2048 hb (by decide))
    (wxSrcW1 arg4 harg4 _ _ _ (by decide) (by decide)) (wxRowsW1 arg10 harg10 b _ hb (by decide) (by decide))) fun _ =>
  k

/-- Wait for the second stage: the other two quarters of the first weights. -/
def wait1 {α : Type} (harg4 : arg4.IsWhole) (harg10 : arg10.IsWhole)
    (i : ℕ) (hi : i + 1 ≤ 17) (b : ℕ) (hb : b < 2) {C : BitVec 32 → Prop} (c : Chk C) (k : PP F α) : PP F α :=
  ldA arg9 i hi fun v => .op (.assume (C v) (c.dec v)) fun h =>
  .op (.waitDma2 (semV arg16 b 1 hb (by decide)).sem (srcW1 arg4 (BitVec.toNat v) 1024 (c.lt v h.down) (by decide)) (rowsW1 arg10 b 1024 hb (by decide))
    (wxSrcW1 arg4 harg4 _ _ _ (by decide) (by decide)) (wxRowsW1 arg10 harg10 b _ hb (by decide) (by decide))) fun _ =>
  .op (.waitDma2 (semV arg16 b 1 hb (by decide)).sem (srcW1 arg4 (BitVec.toNat v) 3072 (c.lt v h.down) (by decide)) (rowsW1 arg10 b 3072 hb (by decide))
    (wxSrcW1 arg4 harg4 _ _ _ (by decide) (by decide)) (wxRowsW1 arg10 harg10 b _ hb (by decide) (by decide))) fun _ =>
  k

/-- Wait for the third stage: the second weights and their scales. -/
def wait2 {α : Type} (harg6 : arg6.IsWhole) (harg7 : arg7.IsWhole) (harg12 : arg12.IsWhole) (harg13 : arg13.IsWhole)
    (i : ℕ) (hi : i + 1 ≤ 17) (b : ℕ) (hb : b < 2) {C : BitVec 32 → Prop} (c : Chk C) (k : PP F α) : PP F α :=
  ldA arg9 i hi fun v => .op (.assume (C v) (c.dec v)) fun h =>
  .op (.waitDma2 (semV arg16 b 2 hb (by decide)).sem (srcS2 arg7 (BitVec.toNat v) (c.lt v h.down)) (slotS2 arg13 b hb)
    (wxSrcS2 arg7 harg7 _ _) (wxSlotS2 arg13 harg13 b hb)) fun _ =>
  .op (.waitDma2 (semV arg16 b 2 hb (by decide)).sem (srcW2 arg6 (BitVec.toNat v) (c.lt v h.down)) (slotW2 arg12 b hb)
    (wxSrcW2 arg6 harg6 _ _) (wxSlotW2 arg12 harg12 b hb)) fun _ =>
  k

abbrev ldIds (m : Memref sig .tc .vmem S24x2 .i32) : TpuEff nD τ sig (Elt F) Λ₀ .tc (Vec F S24x2 .i32) :=
  .load m (Rect.unit (s := S24x2) ![0, 0] S24x2.size inb_S24x2_S24x2_0_0).toLoadRect (View.loadsAt_vmem h_S24x2)
abbrev ldCw (m : Memref sig .tc .vmem S24x2 .f32) : TpuEff nD τ sig (Elt F) Λ₀ .tc (Vec F S24x2 .f32) :=
  .load m (Rect.unit (s := S24x2) ![0, 0] S24x2.size inb_S24x2_S24x2_0_0).toLoadRect (View.loadsAt_vmem h_S24x2)

/-- Hidden tiles `d0 ≤ d < d0 + n` one after another. -/
def guTiles {α : Type} (arg1 : Memref sig .tc .vmem S24x2048 .bf16) (w1 : Memref sig .tc .vmem S4096x1024 .i8) (s1 : Memref sig .tc .vmem S16x4096 .bf16)
    (arg14 : Memref sig .tc .vmem S24x2048 .bf16) (harg14 : arg14.IsWhole) (d0 : ℕ) :
    (n : ℕ) → (hn : d0 + n ≤ 8) → PP F α → PP F α
  | 0, _, k => k
  | n + 1, hn, k => guTiles arg1 w1 s1 arg14 harg14 d0 n (by omega) (guTile arg1 w1 s1 arg14 harg14 (d0 + n) (by omega) k)

/-- The first `n` output tiles one after another. -/
def dnTiles {α : Type} (w2 : Memref sig .tc .vmem S2048x1024 .i8) (s2 : Memref sig .tc .vmem S16x2048 .bf16)
    (arg14 : Memref sig .tc .vmem S24x2048 .bf16) (arg15 : Memref sig .tc .vmem S24x2048 .f32)
    (c : FVec F S24x1 .f32) (r : IVec S24x1 1) :
    (n : ℕ) → (hn : n ≤ 8) → PP F α → PP F α
  | 0, _, k => k
  | n + 1, hn, k => dnTiles w2 s2 arg14 arg15 c r n (by omega) (dnTile w2 s2 arg14 arg15 c r n (by omega) k)

/-- What one trip does after it has started the next expert's copies. -/
def tripRest (arg1 : Memref sig .tc .vmem S24x2048 .bf16) (arg2 : Memref sig .tc .vmem S24x2 .i32) (arg3 : Memref sig .tc .vmem S24x2 .f32)
    (arg14 : Memref sig .tc .vmem S24x2048 .bf16) (arg15 : Memref sig .tc .vmem S24x2048 .f32)
    (harg4 : arg4.IsWhole) (harg5 : arg5.IsWhole) (harg6 : arg6.IsWhole) (harg7 : arg7.IsWhole)
    (harg10 : arg10.IsWhole) (harg11 : arg11.IsWhole) (harg12 : arg12.IsWhole) (harg13 : arg13.IsWhole) (harg14 : arg14.IsWhole)
    (i : ℕ) (hi : i + 1 ≤ 17) (b : ℕ) (hb : b < 2)
    {C0 C1 C2 : BitVec 32 → Prop} (c0 : Chk C0) (c1 : Chk C1) (c2 : Chk C2) (e : Elt F .i32) : PP F Unit :=
  wait0 arg4 arg5 arg9 arg10 arg11 arg16 harg4 harg5 harg10 harg11 i hi b hb c0 <|
  guTiles arg1 (slotW1 arg10 b hb) (slotS1 arg11 b hb) arg14 harg14 0 4 (by omega) <|
  wait1 arg4 arg9 arg10 arg16 harg4 harg10 i hi b hb c1 <|
  guTiles arg1 (slotW1 arg10 b hb) (slotS1 arg11 b hb) arg14 harg14 4 4 (by omega) <|
  wait2 arg6 arg7 arg9 arg12 arg13 arg16 harg6 harg7 harg12 harg13 i hi b hb c2 <|
  .op (ldIds arg2) fun ids => .op (ldCw arg3) fun cw =>
  dnTiles (slotW2 arg12 b hb) (slotS2 arg13 b hb) arg14 arg15 (coefOf e ids cw) (anyOf (F := F) e ids) 8 (by omega) (.ret ())

end views

theorem op_ext {E : Type → Type} {α β : Type} {e e' : E β} {k k' : β → Prog E α} (h : e = e') (hk : ∀ v, k v = k' v) :
    Prog.op e k = Prog.op e' k' := by
  subst h; exact congrArg _ (funext hk)

end Cert.Kernel.Gen
-- ==== Proof.Trip.lean ====
/- One trip of the loop over the active experts is the structured program. -/
module

public import proofs.«01_k».proof.Proof.Plan

@[expose] public section

set_option maxRecDepth 65536
set_option maxHeartbeats 4000000

noncomputable section

namespace Cert.Kernel.Gen

open Idealize.ShloMosaic Idealize.SL.Sem

variable {F : FTy → Type} [FloatOps F]

section
variable (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32)

def chkA (k : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (h1 : k0_cond1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k = 1#1) : Chk (k0_chk5 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k) :=
  ⟨k0_chk5.dec v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k, fun v h => by have := h.1 h1 0; exact this⟩
def chkB (k : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (h1 : k0_cond1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k = 1#1) : Chk (k0_chk6 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k) :=
  ⟨k0_chk6.dec v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k, fun v h => by have := h.1 h1 0; exact this⟩
def chkC (k : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (h1 : k0_cond1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k = 1#1) : Chk (k0_chk7 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k) :=
  ⟨k0_chk7.dec v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k, fun v h => by have := h.1 h1 0; exact this⟩
end
def chkD : Chk k0_chk8 := ⟨k0_chk8.dec, fun v h => by have := h.1 0; exact this⟩
def chkE : Chk k0_chk9 := ⟨k0_chk9.dec, fun v h => by have := h.1 0; exact this⟩
def chkF : Chk k0_chk10 := ⟨k0_chk10.dec, fun v h => by have := h.1 0; exact this⟩

theorem bind_ext {α β : Type} {m m' : PP F α} {k k' : α → PP F β} (hm : m = m') (hk : ∀ a, k a = k' a) :
    m.bind k = m'.bind k' := by
  subst hm; rw [funext hk]

omit [FloatOps F] in
theorem bassoc {α β γ : Type} {m : PP F α} {f : α → PP F β} {g : β → PP F γ} {r} (h : m.bind (fun x => (f x).bind g) = r) :
   (m.bind f).bind g = r := by
  rw [← h]; exact Prog.bind_assoc _ _ _

omit [FloatOps F] in
theorem bite_ext {α β : Type} {c : Prop} {_ : Decidable c} {a : c → PP F α} {b : PP F α} {f : α → PP F β} {a' : c → PP F β → PP F β} {r : PP F β}
    (hb : b.bind f = r) (ha : ∀ h, b.bind f = r → (a h).bind f = a' h r) :
    (dite c a (fun _ => b)).bind f = dite c (fun h => a' h r) (fun _ => r) := by
  by_cases h : c
  · rw [dif_pos h, dif_pos h]; exact ha h hb
  · rw [dif_neg h, dif_neg h]; exact hb

/-- The index of a trip as a word. -/
abbrev tIx (k : ℕ) : BitVec 32 := Scf.iv 0#32 1#32 k
/-- The slot of a trip. -/
abbrev tSlot (k : ℕ) : ℕ := (Scalar.remsi (tIx k) 2#32).toNat
/-- The index of the expert fetched ahead, as a word, and its slot. -/
abbrev nIx (k : ℕ) : BitVec 32 := Scalar.addi (tIx k) 1#32
abbrev nSlot (k : ℕ) : ℕ := (Scalar.remsi (nIx k) 2#32).toNat

section
variable (arg0 : Memref sig .tc .smem S24x2 .i32) (harg0 : arg0.IsWhole) (arg1 : Memref sig .tc .vmem S24x2048 .bf16) (harg1 : arg1.IsWhole) (arg2 : Memref sig .tc .vmem S24x2 .i32) (harg2 : arg2.IsWhole) (arg3 : Memref sig .tc .vmem S24x2 .f32) (harg3 : arg3.IsWhole) (arg4 : Memref sig .tc .hbm S16x4096x1024 .i8) (harg4 : arg4.IsWhole) (arg5 : Memref sig .tc .hbm S16x16x4096 .bf16) (harg5 : arg5.IsWhole) (arg6 : Memref sig .tc .hbm S16x2048x1024 .i8) (harg6 : arg6.IsWhole) (arg7 : Memref sig .tc .hbm S16x16x2048 .bf16) (harg7 : arg7.IsWhole) (arg8 : Memref sig .tc .vmem S24x2048 .bf16) (harg8 : arg8.IsWhole) (arg9 : Memref sig .tc .smem S17 .i32) (harg9 : arg9.IsWhole) (arg10 : Memref sig .tc .vmem S2x4096x1024 .i8) (harg10 : arg10.IsWhole) (arg11 : Memref sig .tc .vmem S2x16x4096 .bf16) (harg11 : arg11.IsWhole) (arg12 : Memref sig .tc .vmem S2x2048x1024 .i8) (harg12 : arg12.IsWhole) (arg13 : Memref sig .tc .vmem S2x16x2048 .bf16) (harg13 : arg13.IsWhole) (arg14 : Memref sig .tc .vmem S24x2048 .bf16) (harg14 : arg14.IsWhole) (arg15 : Memref sig .tc .vmem S24x2048 .f32) (harg15 : arg15.IsWhole) (arg16 : DmaSems sig S2x3)
  (v0 : Elt F .i32) (v3 : Elt F .i32) (v6 : Elt F .i32) (v9 : Elt F .i32) (v12 : Elt F .i32) (v15 : Elt F .i32) (v18 : Elt F .i32) (v21 : Elt F .i32) (v24 : Elt F .i32) (v27 : Elt F .i32) (v30 : Elt F .i32) (v33 : Elt F .i32) (v36 : Elt F .i32) (v39 : Elt F .i32) (v42 : Elt F .i32) (v45 : Elt F .i32) (v48 : Elt F .i32) (v51 : Elt F .i32) (v54 : Elt F .i32) (v57 : Elt F .i32) (v60 : Elt F .i32) (v63 : Elt F .i32) (v66 : Elt F .i32) (v69 : Elt F .i32) (v72 : Elt F .i32) (v75 : Elt F .i32) (v78 : Elt F .i32) (v81 : Elt F .i32) (v84 : Elt F .i32) (v87 : Elt F .i32) (v90 : Elt F .i32) (v93 : Elt F .i32) (v96 : Elt F .i32) (v99 : Elt F .i32) (v102 : Elt F .i32) (v105 : Elt F .i32) (v108 : Elt F .i32) (v111 : Elt F .i32) (v114 : Elt F .i32) (v117 : Elt F .i32) (v120 : Elt F .i32) (v123 : Elt F .i32) (v126 : Elt F .i32) (v129 : Elt F .i32) (v132 : Elt F .i32) (v135 : Elt F .i32) (v138 : Elt F .i32) (v141 : Elt F .i32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (v222 : BitVec 32)

/-- One trip: read the expert, start the next one's copies, and do the rest. -/
def trip (k : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (hi : (tIx k).toNat + 1 ≤ 17) (hb : tSlot k < 2)
    (hi' : k0_cond1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k = 1#1 → (nIx k).toNat + 1 ≤ 17) (hb' : nSlot k < 2) : PP F Unit :=
  ldA arg9 (tIx k).toNat hi fun e =>
  have r : PP F Unit := tripRest arg4 arg5 arg6 arg7 arg9 arg10 arg11 arg12 arg13 arg16 arg1 arg2 arg3 arg14 arg15 harg4 harg5 harg6 harg7
    harg10 harg11 harg12 harg13 harg14 (tIx k).toNat hi (tSlot k) hb chkD chkE chkF e
  if hc : k0_cond1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k = 1#1 then
    startP arg4 arg5 arg6 arg7 arg9 arg10 arg11 arg12 arg13 arg16 harg4 harg5 harg6 harg7 harg10 harg11 harg12 harg13
      (nIx k).toNat (hi' hc) (nSlot k) hb' (chkA v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k hc) (chkB v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k hc) (chkC v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k hc) r
   else r

theorem body_eq (k : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (hi : (tIx k).toNat + 1 ≤ 17) (hb : tSlot k < 2)
    (hi' : k0_cond1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k = 1#1 → (nIx k).toNat + 1 ≤ 17) (hb' : nSlot k < 2) :
    k0_t1_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 v222 k () =
      trip arg1 arg2 arg3 arg4 harg4 arg5 harg5 arg6 harg6 arg7 harg7 arg9 arg10 harg10 arg11 harg11 arg12 harg12 arg13 harg13 arg14 harg14 arg15 arg16 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k hi hb hi' hb' := by
  refine op_ext rfl fun e => ?_
  refine bassoc ?_
  refine bassoc ?_
  refine bite_ext (a' := fun hc r => startP arg4 arg5 arg6 arg7 arg9 arg10 arg11 arg12 arg13 arg16 harg4 harg5 harg6 harg7 harg10 harg11 harg12 harg13
      (nIx k).toNat (hi' hc) (nSlot k) hb' (chkA v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k hc) (chkB v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k hc) (chkC v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k hc) r) ?_ (fun hc h => ?_)
  · iterate 567 refine op_ext rfl fun v => ?_
    exact rfl
  · iterate 13 refine op_ext rfl fun v => ?_
    exact h

end

end Cert.Kernel.Gen
-- ==== Proof.Facts.lean ====
/- The words the kernel computes from the expert ids: the mask of used experts, the counts of its bits, the trip count. -/
module

public import proofs.«01_k».proof.Proof.Trip
public import Idealize.ShloMosaic.Lib.LoopRemainder

@[expose] public section

set_option maxRecDepth 65536
set_option maxHeartbeats 4000000

noncomputable section

namespace Cert.Kernel.Gen

open Idealize.ShloMosaic Idealize.SL.Sem

/-- How many of the bits below `j` of the word `m` are set, as the kernel adds them up. -/
def cnt (m : BitVec 32) : ℕ → BitVec 32
  | 0 => 0#32
  | j + 1 => Scalar.addi (cnt m j) (Scalar.andi (Scalar.shrsi m (BitVec.ofNat 32 j)) 1#32)

theorem bit_of (m : BitVec 32) (j : ℕ) (hj : j < 32) :
    Scalar.andi (Scalar.shrsi m (BitVec.ofNat 32 j)) 1#32 = if m.getLsbD j then 1#32 else 0#32 := by
  have h1 : (BitVec.ofNat 32 j).toNat = j := by rw [BitVec.toNat_ofNat]; omega
  unfold Scalar.andi Scalar.shrsi IntOp.andi IntOp.shrsi
  rw [if_pos (by rw [h1]; exact hj)]
  apply BitVec.eq_of_getLsbD_eq
  intro i hi
  rw [BitVec.getLsbD_and, BitVec.sshiftRight_eq', h1, BitVec.getLsbD_sshiftRight]
  by_cases h0 : i = 0
  · subst h0
    cases hb : m.getLsbD j
    · simp [hb, hj]
    · simp [hb, hj]
  · have : (1#32).getLsbD i = false := by
      rw [BitVec.getLsbD_one]; simp [h0]
    rw [this, Bool.and_false]
    split
    · exact this.symm
    · simp

/-- The number of set bits below `j`. -/
def cntN (m : BitVec 32) : ℕ → ℕ
  | 0 => 0
  | j + 1 => cntN m j + (if m.getLsbD j then 1 else 0)

theorem cntN_le (m : BitVec 32) (j : ℕ) : cntN m j ≤ j := by
  induction j with
  | zero => exact le_rfl
  | succ j ih => unfold cntN; split <;> omega

theorem cnt_toNat (m : BitVec 32) (j : ℕ) (hj : j ≤ 16) : (cnt m j).toNat = cntN m j := by
  induction j with
  | zero => rfl
  | succ j ih =>
    have := cntN_le m j
    have ih := ih (by omega)
    unfold cnt cntN
    rw [bit_of m j (by omega)]
    unfold Scalar.addi IntOp.addi
    rw [BitVec.toNat_add, ih]
    split
    · have : (1#32 : BitVec 32).toNat = 1 := rfl
      omega
    · have : (0#32 : BitVec 32).toNat = 0 := rfl
      omega

theorem cnt_le (m : BitVec 32) (j : ℕ) (hj : j ≤ 16) : (cnt m j).toNat ≤ j := by
  rw [cnt_toNat m j hj]; exact cntN_le m j

theorem cnt_in (m : BitVec 32) (j : ℕ) (hj : j ≤ 16) : (cnt m j).toNat + 1 ≤ 17 := by
  have := cnt_le m j hj; omega

/-- The number of active experts. -/
abbrev nAct (m : BitVec 32) : ℕ := cntN m 16

theorem nAct_le (m : BitVec 32) : nAct m ≤ 16 := cntN_le m 16

theorem tIx_toNat (k : ℕ) (hk : k ≤ 16) : (tIx k).toNat = k := by
  unfold tIx Scf.iv
  rw [BitVec.mul_one, BitVec.zero_add, BitVec.toNat_ofNat]
  omega

theorem nIx_toNat (k : ℕ) (hk : k ≤ 16) : (nIx k).toNat = k + 1 := by
  unfold nIx Scalar.addi IntOp.addi
  rw [BitVec.toNat_add, tIx_toNat k hk]
  have h1 : (1#32 : BitVec 32).toNat = 1 := rfl
  omega

theorem rem2 (x : BitVec 32) (hx : x.toNat ≤ 17) : (Scalar.remsi x 2#32).toNat = x.toNat % 2 := by
  obtain ⟨k, hk, rfl⟩ : ∃ k : ℕ, k < 18 ∧ x = BitVec.ofNat 32 k := ⟨x.toNat, by omega, by simp⟩
  have H : ∀ k : Fin 18, (Scalar.remsi (BitVec.ofNat 32 k) 2#32).toNat = (BitVec.ofNat 32 k).toNat % 2 := by decide
  exact H ⟨k, hk⟩

theorem tSlot_eq (k : ℕ) (hk : k ≤ 16) : tSlot k = k % 2 := by
  unfold tSlot; rw [rem2 _ (by rw [tIx_toNat k hk]; omega), tIx_toNat k hk]

theorem nSlot_eq (k : ℕ) (hk : k ≤ 16) : nSlot k = (k + 1) % 2 := by
  unfold nSlot; rw [rem2 _ (by rw [nIx_toNat k hk]; omega), nIx_toNat k hk]

section
variable (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32)

/-- The mask of the used experts. -/
def maskOf : BitVec 32 := (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori 0#32 (Scalar.shli 1#32 v0)) (Scalar.shli 1#32 v3)) (Scalar.shli 1#32 v6)) (Scalar.shli 1#32 v9)) (Scalar.shli 1#32 v12)) (Scalar.shli 1#32 v15)) (Scalar.shli 1#32 v18)) (Scalar.shli 1#32 v21)) (Scalar.shli 1#32 v24)) (Scalar.shli 1#32 v27)) (Scalar.shli 1#32 v30)) (Scalar.shli 1#32 v33)) (Scalar.shli 1#32 v36)) (Scalar.shli 1#32 v39)) (Scalar.shli 1#32 v42)) (Scalar.shli 1#32 v45)) (Scalar.shli 1#32 v48)) (Scalar.shli 1#32 v51)) (Scalar.shli 1#32 v54)) (Scalar.shli 1#32 v57)) (Scalar.shli 1#32 v60)) (Scalar.shli 1#32 v63)) (Scalar.shli 1#32 v66)) (Scalar.shli 1#32 v69)) (Scalar.shli 1#32 v72)) (Scalar.shli 1#32 v75)) (Scalar.shli 1#32 v78)) (Scalar.shli 1#32 v81)) (Scalar.shli 1#32 v84)) (Scalar.shli 1#32 v87)) (Scalar.shli 1#32 v90)) (Scalar.shli 1#32 v93)) (Scalar.shli 1#32 v96)) (Scalar.shli 1#32 v99)) (Scalar.shli 1#32 v102)) (Scalar.shli 1#32 v105)) (Scalar.shli 1#32 v108)) (Scalar.shli 1#32 v111)) (Scalar.shli 1#32 v114)) (Scalar.shli 1#32 v117)) (Scalar.shli 1#32 v120)) (Scalar.shli 1#32 v123)) (Scalar.shli 1#32 v126)) (Scalar.shli 1#32 v129)) (Scalar.shli 1#32 v132)) (Scalar.shli 1#32 v135)) (Scalar.shli 1#32 v138)) (Scalar.shli 1#32 v141))

theorem loop_eq : k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 = ⟨0#32, Scalar.addi 0#32 (Scalar.muli (Scalar.divsi (Scalar.subi (cnt (maskOf v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) 16) 0#32) 1#32) 1#32), 1#32⟩ := rfl

theorem loop_eq' : k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 = ⟨0#32, cnt (maskOf v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) 16, 1#32⟩ := by
  rw [loop_eq, Scalar.muli_divsi_one]
  simp only [Scalar.addi, Scalar.subi, IntOp.addi, IntOp.subi, BitVec.zero_add, BitVec.sub_zero]

theorem cnt_toInt (m : BitVec 32) : (cnt m 16).toInt = nAct m := by
  have h := cnt_toNat m 16 le_rfl
  have h2 := nAct_le m
  rw [BitVec.toInt_eq_toNat_of_lt (by rw [h]; unfold nAct at h2; omega), h]

theorem trips_eq : (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips = nAct (maskOf v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) := by
  rw [loop_eq']
  unfold Scf.Loop.trips Scf.trips
  rw [cnt_toInt]
  have h1 : (1#32 : BitVec 32).toInt = 1 := by decide
  have h0 : (0#32 : BitVec 32).toInt = 0 := by decide
  simp only [h1, h0]
  omega

theorem loop_ok : (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).OK := by
  have ht := trips_eq v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141
  have := nAct_le (maskOf v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141)
  unfold Scf.Loop.OK Scf.OK
  rw [loop_eq'] at ht ⊢
  unfold Scf.Loop.trips at ht
  have h1 : (1#32 : BitVec 32).toInt = 1 := by decide
  have h0 : (0#32 : BitVec 32).toInt = 0 := by decide
  simp only [h1, h0, ht] at *
  exact ⟨by decide, by omega⟩

theorem trip_lt (k : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : (k : ℕ) < 16 := by
  have h := k.isLt
  have h2 := nAct_le (maskOf v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141)
  exact lt_of_lt_of_le h (le_trans (le_of_eq (trips_eq v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141)) h2)

theorem tIx_in (k : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : (tIx (k : ℕ)).toNat + 1 ≤ 17 := by
  have h := trip_lt v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k; rw [tIx_toNat k (by omega)]; omega
theorem nIx_in (k : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : (nIx (k : ℕ)).toNat + 1 ≤ 17 := by
  have h := trip_lt v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k; rw [nIx_toNat k (by omega)]; omega
theorem tSlot_in (k : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : tSlot (k : ℕ) + 1 ≤ 2 := by
  have h := trip_lt v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k; rw [tSlot_eq k (by omega)]; omega
theorem nSlot_in (k : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : nSlot (k : ℕ) + 1 ≤ 2 := by
  have h := trip_lt v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k; rw [nSlot_eq k (by omega)]; omega

theorem cond1_iff (k : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : k0_cond1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k = 1#1 ↔ (k : ℕ) + 1 < nAct (maskOf v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) := by
  have hk := trip_lt v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k
  have e : k0_cond1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k = Scalar.cmpi .ne (Scalar.extui (Scalar.cmpi .slt (nIx k) (cnt (maskOf v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) 16))) 0#32 := rfl
  rw [e]
  have hn : (nIx k).toInt = (k : ℕ) + 1 := by
    have h := nIx_toNat k (by omega)
    rw [BitVec.toInt_eq_toNat_of_lt (by rw [h]; omega), h]; rfl
  have hc := cnt_toInt (maskOf v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141)
  have : Scalar.cmpi .slt (nIx k) (cnt (maskOf v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) 16) = BitVec.ofBool (decide ((k : ℕ) + 1 < nAct (maskOf v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141))) := by
    unfold Scalar.cmpi IntOp.cmpi
    simp only [BitVec.slt, hn, hc]
    congr 1
    exact decide_eq_decide.mpr (by omega)
  rw [this]
  by_cases h : (k : ℕ) + 1 < nAct (maskOf v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141)
  · simp only [h, decide_true, iff_true]; decide
  · simp only [h, decide_false, iff_false]; decide

theorem off1_eq : k0_off1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 = ![(cnt (maskOf v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) 1).toNat] := rfl
theorem off2_eq : k0_off2 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 = ![(cnt (maskOf v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) 2).toNat] := rfl
theorem off3_eq : k0_off3 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 = ![(cnt (maskOf v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) 3).toNat] := rfl
theorem off4_eq : k0_off4 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 = ![(cnt (maskOf v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) 4).toNat] := rfl
theorem off5_eq : k0_off5 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 = ![(cnt (maskOf v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) 5).toNat] := rfl
theorem off6_eq : k0_off6 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 = ![(cnt (maskOf v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) 6).toNat] := rfl
theorem off7_eq : k0_off7 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 = ![(cnt (maskOf v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) 7).toNat] := rfl
theorem off8_eq : k0_off8 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 = ![(cnt (maskOf v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) 8).toNat] := rfl
theorem off9_eq : k0_off9 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 = ![(cnt (maskOf v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) 9).toNat] := rfl
theorem off10_eq : k0_off10 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 = ![(cnt (maskOf v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) 10).toNat] := rfl
theorem off11_eq : k0_off11 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 = ![(cnt (maskOf v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) 11).toNat] := rfl
theorem off12_eq : k0_off12 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 = ![(cnt (maskOf v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) 12).toNat] := rfl
theorem off13_eq : k0_off13 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 = ![(cnt (maskOf v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) 13).toNat] := rfl
theorem off14_eq : k0_off14 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 = ![(cnt (maskOf v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) 14).toNat] := rfl
theorem off15_eq : k0_off15 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 = ![(cnt (maskOf v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) 15).toNat] := rfl

theorem inb1 {i a n : ℕ} (h : i + a ≤ n) : ∀ j, (![i] : Fin 1 → Nat) j + (![a] : Fin 1 → Nat) j ≤ (![n] : Fin 1 → Nat) j := by
  intro j; match j with
  | 0 => exact h

theorem tSlot_lt (k : ℕ) (hk : k ≤ 16) : tSlot k < 2 := by rw [tSlot_eq k hk]; omega
theorem nSlot_lt (k : ℕ) (hk : k ≤ 16) : nSlot k < 2 := by rw [nSlot_eq k hk]; omega

theorem chk1_0 : k0_chk1_0 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 :=
  ⟨inb1 (cnt_in (maskOf v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) 1 (by decide)),
   inb1 (cnt_in (maskOf v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) 2 (by decide)),
   inb1 (cnt_in (maskOf v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) 3 (by decide)),
   inb1 (cnt_in (maskOf v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) 4 (by decide)),
   inb1 (cnt_in (maskOf v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) 5 (by decide)),
   inb1 (cnt_in (maskOf v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) 6 (by decide)),
   inb1 (cnt_in (maskOf v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) 7 (by decide)),
   inb1 (cnt_in (maskOf v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) 8 (by decide)),
   inb1 (cnt_in (maskOf v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) 9 (by decide)),
   inb1 (cnt_in (maskOf v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) 10 (by decide)),
   inb1 (cnt_in (maskOf v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) 11 (by decide)),
   inb1 (cnt_in (maskOf v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) 12 (by decide)),
   inb1 (cnt_in (maskOf v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) 13 (by decide)),
   inb1 (cnt_in (maskOf v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) 14 (by decide)),
   inb1 (cnt_in (maskOf v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) 15 (by decide)),
   loop_ok v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141,
   fun k => inb1 (tIx_in v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k),
   fun k _ => inb1 (nIx_in v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k),
   fun k _ => inb2 (nSlot_in v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k) (by decide),
   fun k _ => inb3 (nSlot_in v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k) (by decide) (by decide),
   fun k _ hinb => .inr ⟨by decide, rfl, rfl, rfl⟩,
   fun k _ => inb2 (nSlot_in v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k) (by decide),
   fun k _ => inb3 (nSlot_in v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k) (by decide) (by decide),
   fun k _ hinb => Affine.words_of_packed (Affine.packed_dvd (by decide) (by first | exact (show 4 ∣ 0 by decide) | exact (show 4 ∣ 1024 by decide) | exact (show 4 ∣ 2048 by decide) | exact (show 4 ∣ 3072 by decide)) (by decide)),
   fun k _ => inb3 (nSlot_in v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k) (by decide) (by decide),
   fun k _ hinb => Affine.words_of_packed (Affine.packed_dvd (by decide) (by first | exact (show 4 ∣ 0 by decide) | exact (show 4 ∣ 1024 by decide) | exact (show 4 ∣ 2048 by decide) | exact (show 4 ∣ 3072 by decide)) (by decide)),
   fun k _ => inb1 (nIx_in v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k),
   fun k _ => inb2 (nSlot_in v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k) (by decide),
   fun k _ => inb3 (nSlot_in v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k) (by decide) (by decide),
   fun k _ hinb => Affine.words_of_packed (Affine.packed_dvd (by decide) (by first | exact (show 4 ∣ 0 by decide) | exact (show 4 ∣ 1024 by decide) | exact (show 4 ∣ 2048 by decide) | exact (show 4 ∣ 3072 by decide)) (by decide)),
   fun k _ => inb2 (nSlot_in v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k) (by decide),
   fun k _ => inb3 (nSlot_in v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k) (by decide) (by decide)⟩

theorem chk1_1 : k0_chk1_1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 :=
  ⟨fun k _ hinb => Affine.words_of_packed (Affine.packed_dvd (by decide) (by first | exact (show 4 ∣ 0 by decide) | exact (show 4 ∣ 1024 by decide) | exact (show 4 ∣ 2048 by decide) | exact (show 4 ∣ 3072 by decide)) (by decide)),
   fun k _ => inb1 (nIx_in v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k),
   fun k _ => inb2 (nSlot_in v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k) (by decide),
   fun k _ => inb3 (nSlot_in v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k) (by decide) (by decide),
   fun k _ hinb => .inr ⟨by decide, rfl, rfl, rfl⟩,
   fun k _ => inb2 (nSlot_in v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k) (by decide),
   fun k _ => inb3 (nSlot_in v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k) (by decide) (by decide),
   fun k _ hinb => .inr ⟨by decide, rfl, rfl, rfl⟩,
   fun k => inb2 (tSlot_in v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k) (by decide),
   fun k => inb3 (tSlot_in v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k) (by decide) (by decide),
   fun k hinb => .inr ⟨by decide, rfl, rfl, rfl⟩,
   fun k => inb2 (tSlot_in v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k) (by decide),
   fun k => inb3 (tSlot_in v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k) (by decide) (by decide),
   fun k hinb => Affine.words_of_packed (Affine.packed_dvd (by decide) (by first | exact (show 4 ∣ 0 by decide) | exact (show 4 ∣ 1024 by decide) | exact (show 4 ∣ 2048 by decide) | exact (show 4 ∣ 3072 by decide)) (by decide)),
   fun k => inb3 (tSlot_in v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k) (by decide) (by decide),
   fun k hinb => Affine.words_of_packed (Affine.packed_dvd (by decide) (by first | exact (show 4 ∣ 0 by decide) | exact (show 4 ∣ 1024 by decide) | exact (show 4 ∣ 2048 by decide) | exact (show 4 ∣ 3072 by decide)) (by decide)),
   fun k => inb3 (tSlot_in v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k) (by decide) (by decide),
   fun k => inb3 (tSlot_in v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k) (by decide) (by decide),
   fun k => inb1 (tIx_in v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k),
   fun k => inb2 (tSlot_in v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k) (by decide),
   fun k => inb3 (tSlot_in v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k) (by decide) (by decide),
   fun k hinb => Affine.words_of_packed (Affine.packed_dvd (by decide) (by first | exact (show 4 ∣ 0 by decide) | exact (show 4 ∣ 1024 by decide) | exact (show 4 ∣ 2048 by decide) | exact (show 4 ∣ 3072 by decide)) (by decide)),
   fun k => inb2 (tSlot_in v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k) (by decide),
   fun k => inb3 (tSlot_in v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k) (by decide) (by decide),
   fun k hinb => Affine.words_of_packed (Affine.packed_dvd (by decide) (by first | exact (show 4 ∣ 0 by decide) | exact (show 4 ∣ 1024 by decide) | exact (show 4 ∣ 2048 by decide) | exact (show 4 ∣ 3072 by decide)) (by decide)),
   fun k => inb3 (tSlot_in v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k) (by decide) (by decide),
   fun k => inb3 (tSlot_in v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k) (by decide) (by decide),
   fun k => inb1 (tIx_in v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k),
   fun k => inb2 (tSlot_in v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k) (by decide),
   fun k => inb3 (tSlot_in v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k) (by decide) (by decide),
   fun k hinb => .inr ⟨by decide, rfl, rfl, rfl⟩,
   fun k => inb2 (tSlot_in v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k) (by decide)⟩

theorem chk1_2 : k0_chk1_2 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 :=
  ⟨fun k => inb3 (tSlot_in v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k) (by decide) (by decide),
   fun k hinb => .inr ⟨by decide, rfl, rfl, rfl⟩,
   fun k => inb3 (tSlot_in v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k) (by decide) (by decide),
   Scf.rem_ok _ _,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim⟩

theorem chk1_3 : k0_chk1_3 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 :=
  ⟨fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim⟩

theorem chk1_all : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 := ⟨chk1_0 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141, chk1_1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141, chk1_2 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141, chk1_3 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141⟩

end

end Cert.Kernel.Gen
-- ==== Proof.Main.lean ====
/- The whole program is the structured one: read the ids, list the used experts, start the first copies, loop, write out. -/
module

public import proofs.«01_k».proof.Proof.Facts

@[expose] public section

set_option maxRecDepth 65536
set_option maxHeartbeats 4000000

noncomputable section

namespace Cert.Kernel.Gen

open Idealize.ShloMosaic Idealize.SL.Sem

variable {F : FTy → Type} [FloatOps F]

/-- Choice `k` of token `t`, read as a word. -/
def ldId {α : Type} (arg0 : Memref sig .tc .smem S24x2 .i32) (t k : ℕ) (ht : t + 1 ≤ 24) (hk : k + 1 ≤ 2) (kk : Elt F .i32 → PP F α) : PP F α :=
  (smemLoad arg0 (Rect.unit (s := S24x2) ![t, k] S1x1.size (inb2 ht hk)) numel1_S1x1 rfl).bind kk

/-- Write `v` at entry `i` of the list of active experts. -/
def stA {α : Type} (arg9 : Memref sig .tc .smem S17 .i32) (i : ℕ) (hi : i + 1 ≤ 17) (v : BitVec 32) (k : PP F α) : PP F α :=
  ldA arg9 i hi fun _ =>
  .op (.store arg9 (Rect.unit (s := S17) ![i] S1.size (fun a => match a with | 0 => hi)) (fun _ => v) Finset.univ
    (View.stores_smem_one rfl numel1_S1) (.inl rfl)) fun _ => k

/-- Write the list of active experts: expert `j` at the count of used experts below it, for `j < n`. -/
def stAll {α : Type} (arg9 : Memref sig .tc .smem S17 .i32) (m : BitVec 32) : (n : ℕ) → (hn : n ≤ 16) → PP F α → PP F α
  | 0, _, k => k
  | n + 1, hn, k => stAll arg9 m n (by omega) (stA arg9 (cnt m n).toNat (cnt_in m n (by omega)) (BitVec.ofNat 32 n) k)

def chk2C : Chk k0_chk2 := ⟨k0_chk2.dec, fun v h => by have := h.1 0; exact this⟩
def chk3C : Chk k0_chk3 := ⟨k0_chk3.dec, fun v h => by have := h.1 0; exact this⟩
def chk4C : Chk k0_chk4 := ⟨k0_chk4.dec, fun v h => by have := h.1 0; exact this⟩

abbrev ldYA (arg15 : Memref sig .tc .vmem S24x2048 .f32) : TpuEff nD τ sig (Elt F) Λ₀ .tc (Vec F S24x2048 .f32) :=
  .load arg15 (Rect.unit (s := S24x2048) ![0, 0] S24x2048.size inb_S24x2048_S24x2048_0_0).toLoadRect (View.loadsAt_vmem h_S24x2048)
abbrev stYA (arg15 : Memref sig .tc .vmem S24x2048 .f32) (v : Vec F S24x2048 .f32) : TpuEff nD τ sig (Elt F) Λ₀ .tc PUnit :=
  .store arg15 (Rect.unit (s := S24x2048) ![0, 0] S24x2048.size inb_S24x2048_S24x2048_0_0) v Finset.univ (View.stores_vmem_bits_univ h_S24x2048 rfl) (.inl rfl)
abbrev ldO (arg8 : Memref sig .tc .vmem S24x2048 .bf16) : TpuEff nD τ sig (Elt F) Λ₀ .tc (Vec F S24x2048 .bf16) :=
  .load arg8 (Rect.unit (s := S24x2048) ![0, 0] S24x2048.size inb_S24x2048_S24x2048_0_0).toLoadRect (View.loadsAt_vmem h_S24x2048)
abbrev stO (arg8 : Memref sig .tc .vmem S24x2048 .bf16) (harg8 : arg8.IsWhole) (v : Vec F S24x2048 .bf16) : TpuEff nD τ sig (Elt F) Λ₀ .tc PUnit :=
  .store arg8 (Rect.unit (s := S24x2048) ![0, 0] S24x2048.size inb_S24x2048_S24x2048_0_0) v Finset.univ
    (View.stores_vmem h_S24x2048 (harg8.storeExact_slice rfl _ packedbf16_S24x2048_S24x2048_0_0) (fun _ => rfl)) (.inl rfl)

section starts
variable (arg4 : Memref sig .tc .hbm S16x4096x1024 .i8) (arg5 : Memref sig .tc .hbm S16x16x4096 .bf16) (arg6 : Memref sig .tc .hbm S16x2048x1024 .i8) (arg7 : Memref sig .tc .hbm S16x16x2048 .bf16)
  (arg9 : Memref sig .tc .smem S17 .i32)
  (arg10 : Memref sig .tc .vmem S2x4096x1024 .i8) (arg11 : Memref sig .tc .vmem S2x16x4096 .bf16) (arg12 : Memref sig .tc .vmem S2x2048x1024 .i8) (arg13 : Memref sig .tc .vmem S2x16x2048 .bf16) (arg16 : DmaSems sig S2x3)

/-- Start the copies of stage 0: the scales and two quarters of the first weights. -/
def start0 {α : Type} (harg4 : arg4.IsWhole) (harg5 : arg5.IsWhole) (harg10 : arg10.IsWhole) (harg11 : arg11.IsWhole)
    (i : ℕ) (hi : i + 1 ≤ 17) (b : ℕ) (hb : b < 2) {C : BitVec 32 → Prop} (c : Chk C) (k : PP F α) : PP F α :=
  ldA arg9 i hi fun v => .op (.assume (C v) (c.dec v)) fun h =>
  .op (.enqueueDma (srcS1 arg5 (BitVec.toNat v) (c.lt v h.down)) (.here (slotS1 arg11 b hb)) (.dma (semV arg16 b 0 hb (by decide)).sem)
    (wxSrcS1 arg5 harg5 _ _) (wxSlotS1 arg11 harg11 b hb) ⟨Or.inl rfl, trivial⟩) fun _ =>
  .op (.enqueueDma (srcW1 arg4 (BitVec.toNat v) 0 (c.lt v h.down) (by decide)) (.here (rowsW1 arg10 b 0 hb (by decide))) (.dma (semV arg16 b 0 hb (by decide)).sem)
    (wxSrcW1 arg4 harg4 _ _ _ (by decide) (by decide)) (wxRowsW1 arg10 harg10 b _ hb (by decide) (by decide)) ⟨Or.inl rfl, trivial⟩) fun _ =>
  .op (.enqueueDma (srcW1 arg4 (BitVec.toNat v) 2048 (c.lt v h.down) (by decide)) (.here (rowsW1 arg10 b 2048 hb (by decide))) (.dma (semV arg16 b 0 hb (by decide)).sem)
    (wxSrcW1 arg4 harg4 _ _ _ (by decide) (by decide)) (wxRowsW1 arg10 harg10 b _ hb (by decide) (by decide)) ⟨Or.inl rfl, trivial⟩) fun _ =>
  k

/-- Start the copies of stage 1: the other two quarters of the first weights. -/
def start1 {α : Type} (harg4 : arg4.IsWhole) (harg10 : arg10.IsWhole)
    (i : ℕ) (hi : i + 1 ≤ 17) (b : ℕ) (hb : b < 2) {C : BitVec 32 → Prop} (c : Chk C) (k : PP F α) : PP F α :=
  ldA arg9 i hi fun v => .op (.assume (C v) (c.dec v)) fun h =>
  .op (.enqueueDma (srcW1 arg4 (BitVec.toNat v) 1024 (c.lt v h.down) (by decide)) (.here (rowsW1 arg10 b 1024 hb (by decide))) (.dma (semV arg16 b 1 hb (by decide)).sem)
    (wxSrcW1 arg4 harg4 _ _ _ (by decide) (by decide)) (wxRowsW1 arg10 harg10 b _ hb (by decide) (by decide)) ⟨Or.inl rfl, trivial⟩) fun _ =>
  .op (.enqueueDma (srcW1 arg4 (BitVec.toNat v) 3072 (c.lt v h.down) (by decide)) (.here (rowsW1 arg10 b 3072 hb (by decide))) (.dma (semV arg16 b 1 hb (by decide)).sem)
    (wxSrcW1 arg4 harg4 _ _ _ (by decide) (by decide)) (wxRowsW1 arg10 harg10 b _ hb (by decide) (by decide)) ⟨Or.inl rfl, trivial⟩) fun _ =>
  k

/-- Start the copies of stage 2: the second weights and their scales. -/
def start2 {α : Type} (harg6 : arg6.IsWhole) (harg7 : arg7.IsWhole) (harg12 : arg12.IsWhole) (harg13 : arg13.IsWhole)
    (i : ℕ) (hi : i + 1 ≤ 17) (b : ℕ) (hb : b < 2) {C : BitVec 32 → Prop} (c : Chk C) (k : PP F α) : PP F α :=
  ldA arg9 i hi fun v => .op (.assume (C v) (c.dec v)) fun h =>
  .op (.enqueueDma (srcS2 arg7 (BitVec.toNat v) (c.lt v h.down)) (.here (slotS2 arg13 b hb)) (.dma (semV arg16 b 2 hb (by decide)).sem)
    (wxSrcS2 arg7 harg7 _ _) (wxSlotS2 arg13 harg13 b hb) ⟨Or.inl rfl, trivial⟩) fun _ =>
  .op (.enqueueDma (srcW2 arg6 (BitVec.toNat v) (c.lt v h.down)) (.here (slotW2 arg12 b hb)) (.dma (semV arg16 b 2 hb (by decide)).sem)
    (wxSrcW2 arg6 harg6 _ _) (wxSlotW2 arg12 harg12 b hb) ⟨Or.inl rfl, trivial⟩) fun _ =>
  k

theorem startP_eq {α : Type} (harg4 : arg4.IsWhole) (harg5 : arg5.IsWhole) (harg6 : arg6.IsWhole) (harg7 : arg7.IsWhole)
    (harg10 : arg10.IsWhole) (harg11 : arg11.IsWhole) (harg12 : arg12.IsWhole) (harg13 : arg13.IsWhole)
    (i : ℕ) (hi : i + 1 ≤ 17) (b : ℕ) (hb : b < 2)
    {C0 C1 C2 : BitVec 32 → Prop} (c0 : Chk C0) (c1 : Chk C1) (c2 : Chk C2) (k : PP F α) :
    startP arg4 arg5 arg6 arg7 arg9 arg10 arg11 arg12 arg13 arg16 harg4 harg5 harg6 harg7 harg10 harg11 harg12 harg13 i hi b hb c0 c1 c2 k =
    (start0 arg4 arg5 arg9 arg10 arg11 arg16 harg4 harg5 harg10 harg11 i hi b hb c0 <|
     start1 arg4 arg9 arg10 arg16 harg4 harg10 i hi b hb c1 <|
     start2 arg6 arg7 arg9 arg12 arg13 arg16 harg6 harg7 harg12 harg13 i hi b hb c2 k) := rfl

end starts

section
variable (arg0 : Memref sig .tc .smem S24x2 .i32) (harg0 : arg0.IsWhole) (arg1 : Memref sig .tc .vmem S24x2048 .bf16) (harg1 : arg1.IsWhole) (arg2 : Memref sig .tc .vmem S24x2 .i32) (harg2 : arg2.IsWhole) (arg3 : Memref sig .tc .vmem S24x2 .f32) (harg3 : arg3.IsWhole) (arg4 : Memref sig .tc .hbm S16x4096x1024 .i8) (harg4 : arg4.IsWhole) (arg5 : Memref sig .tc .hbm S16x16x4096 .bf16) (harg5 : arg5.IsWhole) (arg6 : Memref sig .tc .hbm S16x2048x1024 .i8) (harg6 : arg6.IsWhole) (arg7 : Memref sig .tc .hbm S16x16x2048 .bf16) (harg7 : arg7.IsWhole) (arg8 : Memref sig .tc .vmem S24x2048 .bf16) (harg8 : arg8.IsWhole) (arg9 : Memref sig .tc .smem S17 .i32) (harg9 : arg9.IsWhole) (arg10 : Memref sig .tc .vmem S2x4096x1024 .i8) (harg10 : arg10.IsWhole) (arg11 : Memref sig .tc .vmem S2x16x4096 .bf16) (harg11 : arg11.IsWhole) (arg12 : Memref sig .tc .vmem S2x2048x1024 .i8) (harg12 : arg12.IsWhole) (arg13 : Memref sig .tc .vmem S2x16x2048 .bf16) (harg13 : arg13.IsWhole) (arg14 : Memref sig .tc .vmem S24x2048 .bf16) (harg14 : arg14.IsWhole) (arg15 : Memref sig .tc .vmem S24x2048 .f32) (harg15 : arg15.IsWhole) (arg16 : DmaSems sig S2x3)

/-- After the ids are read. -/
def mainRest (v0 : Elt F .i32) (v3 : Elt F .i32) (v6 : Elt F .i32) (v9 : Elt F .i32) (v12 : Elt F .i32) (v15 : Elt F .i32) (v18 : Elt F .i32) (v21 : Elt F .i32) (v24 : Elt F .i32) (v27 : Elt F .i32) (v30 : Elt F .i32) (v33 : Elt F .i32) (v36 : Elt F .i32) (v39 : Elt F .i32) (v42 : Elt F .i32) (v45 : Elt F .i32) (v48 : Elt F .i32) (v51 : Elt F .i32) (v54 : Elt F .i32) (v57 : Elt F .i32) (v60 : Elt F .i32) (v63 : Elt F .i32) (v66 : Elt F .i32) (v69 : Elt F .i32) (v72 : Elt F .i32) (v75 : Elt F .i32) (v78 : Elt F .i32) (v81 : Elt F .i32) (v84 : Elt F .i32) (v87 : Elt F .i32) (v90 : Elt F .i32) (v93 : Elt F .i32) (v96 : Elt F .i32) (v99 : Elt F .i32) (v102 : Elt F .i32) (v105 : Elt F .i32) (v108 : Elt F .i32) (v111 : Elt F .i32) (v114 : Elt F .i32) (v117 : Elt F .i32) (v120 : Elt F .i32) (v123 : Elt F .i32) (v126 : Elt F .i32) (v129 : Elt F .i32) (v132 : Elt F .i32) (v135 : Elt F .i32) (v138 : Elt F .i32) (v141 : Elt F .i32) : PP F PUnit :=
  .op (.assume (k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_chk1.dec v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141)) fun h =>
  stAll arg9 (maskOf v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) 16 le_rfl <|
  startP arg4 arg5 arg6 arg7 arg9 arg10 arg11 arg12 arg13 arg16 harg4 harg5 harg6 harg7 harg10 harg11 harg12 harg13
    0 (by decide) 0 (by decide) chk2C chk3C chk4C <|
  .op (ldYA arg15) fun _ => .op (stYA arg15 (k0_pay1 (F := F))) fun _ =>
  (Scf.Loop.for (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (loop_ok v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) ()
    fun k _ => trip arg1 arg2 arg3 arg4 harg4 arg5 harg5 arg6 harg6 arg7 harg7 arg9 arg10 harg10 arg11 harg11 arg12 harg12 arg13 harg13 arg14 harg14 arg15 arg16 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k (tIx_in v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k) (tSlot_in v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k) (fun _ => nIx_in v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k) (nSlot_in v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k)).bind fun _ =>
  .op (ldYA arg15) fun v => .op (ldO arg8) fun _ => .op (stO arg8 harg8 (k0_pay4 v)) fun _ => .ret ()

/-- The whole program. -/
def mainP : PP F PUnit :=
  ldId arg0 0 0 (by decide) (by decide) fun v0 =>
  ldId arg0 0 1 (by decide) (by decide) fun v3 =>
  ldId arg0 1 0 (by decide) (by decide) fun v6 =>
  ldId arg0 1 1 (by decide) (by decide) fun v9 =>
  ldId arg0 2 0 (by decide) (by decide) fun v12 =>
  ldId arg0 2 1 (by decide) (by decide) fun v15 =>
  ldId arg0 3 0 (by decide) (by decide) fun v18 =>
  ldId arg0 3 1 (by decide) (by decide) fun v21 =>
  ldId arg0 4 0 (by decide) (by decide) fun v24 =>
  ldId arg0 4 1 (by decide) (by decide) fun v27 =>
  ldId arg0 5 0 (by decide) (by decide) fun v30 =>
  ldId arg0 5 1 (by decide) (by decide) fun v33 =>
  ldId arg0 6 0 (by decide) (by decide) fun v36 =>
  ldId arg0 6 1 (by decide) (by decide) fun v39 =>
  ldId arg0 7 0 (by decide) (by decide) fun v42 =>
  ldId arg0 7 1 (by decide) (by decide) fun v45 =>
  ldId arg0 8 0 (by decide) (by decide) fun v48 =>
  ldId arg0 8 1 (by decide) (by decide) fun v51 =>
  ldId arg0 9 0 (by decide) (by decide) fun v54 =>
  ldId arg0 9 1 (by decide) (by decide) fun v57 =>
  ldId arg0 10 0 (by decide) (by decide) fun v60 =>
  ldId arg0 10 1 (by decide) (by decide) fun v63 =>
  ldId arg0 11 0 (by decide) (by decide) fun v66 =>
  ldId arg0 11 1 (by decide) (by decide) fun v69 =>
  ldId arg0 12 0 (by decide) (by decide) fun v72 =>
  ldId arg0 12 1 (by decide) (by decide) fun v75 =>
  ldId arg0 13 0 (by decide) (by decide) fun v78 =>
  ldId arg0 13 1 (by decide) (by decide) fun v81 =>
  ldId arg0 14 0 (by decide) (by decide) fun v84 =>
  ldId arg0 14 1 (by decide) (by decide) fun v87 =>
  ldId arg0 15 0 (by decide) (by decide) fun v90 =>
  ldId arg0 15 1 (by decide) (by decide) fun v93 =>
  ldId arg0 16 0 (by decide) (by decide) fun v96 =>
  ldId arg0 16 1 (by decide) (by decide) fun v99 =>
  ldId arg0 17 0 (by decide) (by decide) fun v102 =>
  ldId arg0 17 1 (by decide) (by decide) fun v105 =>
  ldId arg0 18 0 (by decide) (by decide) fun v108 =>
  ldId arg0 18 1 (by decide) (by decide) fun v111 =>
  ldId arg0 19 0 (by decide) (by decide) fun v114 =>
  ldId arg0 19 1 (by decide) (by decide) fun v117 =>
  ldId arg0 20 0 (by decide) (by decide) fun v120 =>
  ldId arg0 20 1 (by decide) (by decide) fun v123 =>
  ldId arg0 21 0 (by decide) (by decide) fun v126 =>
  ldId arg0 21 1 (by decide) (by decide) fun v129 =>
  ldId arg0 22 0 (by decide) (by decide) fun v132 =>
  ldId arg0 22 1 (by decide) (by decide) fun v135 =>
  ldId arg0 23 0 (by decide) (by decide) fun v138 =>
  ldId arg0 23 1 (by decide) (by decide) fun v141 =>
  mainRest arg1 arg2 arg3 arg4 harg4 arg5 harg5 arg6 harg6 arg7 harg7 arg8 harg8 arg9 arg10 harg10 arg11 harg11 arg12 harg12 arg13 harg13 arg14 harg14 arg15 arg16 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141

end

/-- Write `v` at the place `off` of the list. -/
def stQ {α : Type} (arg9 : Memref sig .tc .smem S17 .i32) (off : Fin 1 → ℕ) (hi : ∀ a, off a + S1.size a ≤ S17.size a) (v : BitVec 32) (k : PP F α) : PP F α :=
  (smemLoad arg9 (Rect.unit (s := S17) off S1.size hi) numel1_S1 rfl).bind fun _ =>
  .op (.store arg9 (Rect.unit (s := S17) off S1.size hi) (fun _ => v) Finset.univ (View.stores_smem_one rfl numel1_S1) (.inl rfl)) fun _ => k

theorem ld_ext {β : Type} {m : Memref sig .tc .smem S17 .i32} {r : Rect S17} {h1} {hp} {k k' : Elt F .i32 → PP F β} (h : ∀ v, k v = k' v) : (smemLoad m r h1 hp).bind k = (smemLoad m r h1 hp).bind k' :=
  congrArg _ (funext h)

theorem stAll_16 {α : Type} (arg9 : Memref sig .tc .smem S17 .i32) (m : BitVec 32) (k : PP F α) : stAll arg9 m 16 le_rfl k =
    (stA arg9 (cnt m 0).toNat (cnt_in m 0 (by omega)) 0#32 <|
    stA arg9 (cnt m 1).toNat (cnt_in m 1 (by omega)) 1#32 <|
    stA arg9 (cnt m 2).toNat (cnt_in m 2 (by omega)) 2#32 <|
    stA arg9 (cnt m 3).toNat (cnt_in m 3 (by omega)) 3#32 <|
    stA arg9 (cnt m 4).toNat (cnt_in m 4 (by omega)) 4#32 <|
    stA arg9 (cnt m 5).toNat (cnt_in m 5 (by omega)) 5#32 <|
    stA arg9 (cnt m 6).toNat (cnt_in m 6 (by omega)) 6#32 <|
    stA arg9 (cnt m 7).toNat (cnt_in m 7 (by omega)) 7#32 <|
    stA arg9 (cnt m 8).toNat (cnt_in m 8 (by omega)) 8#32 <|
    stA arg9 (cnt m 9).toNat (cnt_in m 9 (by omega)) 9#32 <|
    stA arg9 (cnt m 10).toNat (cnt_in m 10 (by omega)) 10#32 <|
    stA arg9 (cnt m 11).toNat (cnt_in m 11 (by omega)) 11#32 <|
    stA arg9 (cnt m 12).toNat (cnt_in m 12 (by omega)) 12#32 <|
    stA arg9 (cnt m 13).toNat (cnt_in m 13 (by omega)) 13#32 <|
    stA arg9 (cnt m 14).toNat (cnt_in m 14 (by omega)) 14#32 <|
    stA arg9 (cnt m 15).toNat (cnt_in m 15 (by omega)) 15#32 <| k) := rfl

theorem rbind {α β : Type} {a : α} {f : α → PP F β} {r} (h : f a = r) : Prog.bind (.ret a) f = r := h

theorem stQ_eq {α : Type} (arg9 : Memref sig .tc .smem S17 .i32) (off : Fin 1 → ℕ) (hi : ∀ a, off a + S1.size a ≤ S17.size a) (v : BitVec 32) {k k' : PP F α}
    (i : ℕ) (hi' : i + 1 ≤ 17) (h : off = ![i]) (hk : k = k') : stQ arg9 off hi v k = stA arg9 i hi' v k' := by
  subst h; subst hk; rfl

section
variable (arg0 : Memref sig .tc .smem S24x2 .i32) (harg0 : arg0.IsWhole) (arg1 : Memref sig .tc .vmem S24x2048 .bf16) (harg1 : arg1.IsWhole) (arg2 : Memref sig .tc .vmem S24x2 .i32) (harg2 : arg2.IsWhole) (arg3 : Memref sig .tc .vmem S24x2 .f32) (harg3 : arg3.IsWhole) (arg4 : Memref sig .tc .hbm S16x4096x1024 .i8) (harg4 : arg4.IsWhole) (arg5 : Memref sig .tc .hbm S16x16x4096 .bf16) (harg5 : arg5.IsWhole) (arg6 : Memref sig .tc .hbm S16x2048x1024 .i8) (harg6 : arg6.IsWhole) (arg7 : Memref sig .tc .hbm S16x16x2048 .bf16) (harg7 : arg7.IsWhole) (arg8 : Memref sig .tc .vmem S24x2048 .bf16) (harg8 : arg8.IsWhole) (arg9 : Memref sig .tc .smem S17 .i32) (harg9 : arg9.IsWhole) (arg10 : Memref sig .tc .vmem S2x4096x1024 .i8) (harg10 : arg10.IsWhole) (arg11 : Memref sig .tc .vmem S2x16x4096 .bf16) (harg11 : arg11.IsWhole) (arg12 : Memref sig .tc .vmem S2x2048x1024 .i8) (harg12 : arg12.IsWhole) (arg13 : Memref sig .tc .vmem S2x16x2048 .bf16) (harg13 : arg13.IsWhole) (arg14 : Memref sig .tc .vmem S24x2048 .bf16) (harg14 : arg14.IsWhole) (arg15 : Memref sig .tc .vmem S24x2048 .f32) (harg15 : arg15.IsWhole) (arg16 : DmaSems sig S2x3)
  (v0 : Elt F .i32) (v3 : Elt F .i32) (v6 : Elt F .i32) (v9 : Elt F .i32) (v12 : Elt F .i32) (v15 : Elt F .i32) (v18 : Elt F .i32) (v21 : Elt F .i32) (v24 : Elt F .i32) (v27 : Elt F .i32) (v30 : Elt F .i32) (v33 : Elt F .i32) (v36 : Elt F .i32) (v39 : Elt F .i32) (v42 : Elt F .i32) (v45 : Elt F .i32) (v48 : Elt F .i32) (v51 : Elt F .i32) (v54 : Elt F .i32) (v57 : Elt F .i32) (v60 : Elt F .i32) (v63 : Elt F .i32) (v66 : Elt F .i32) (v69 : Elt F .i32) (v72 : Elt F .i32) (v75 : Elt F .i32) (v78 : Elt F .i32) (v81 : Elt F .i32) (v84 : Elt F .i32) (v87 : Elt F .i32) (v90 : Elt F .i32) (v93 : Elt F .i32) (v96 : Elt F .i32) (v99 : Elt F .i32) (v102 : Elt F .i32) (v105 : Elt F .i32) (v108 : Elt F .i32) (v111 : Elt F .i32) (v114 : Elt F .i32) (v117 : Elt F .i32) (v120 : Elt F .i32) (v123 : Elt F .i32) (v126 : Elt F .i32) (v129 : Elt F .i32) (v132 : Elt F .i32) (v135 : Elt F .i32) (v138 : Elt F .i32) (v141 : Elt F .i32)

theorem part354_eq (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (a b : BitVec 32) : ∃ w w', ∀ {α : Type} (K : _ → PP F α), (k0_part354 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 a b).bind K =
    (stQ arg9 (k0_off1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_off1_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1) 1#32 <|
    stQ arg9 (k0_off2 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_off2_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1) 2#32 <|
    stQ arg9 (k0_off3 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_off3_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1) 3#32 <|
    stQ arg9 (k0_off4 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_off4_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1) 4#32 <|
    stQ arg9 (k0_off5 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_off5_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1) 5#32 <|
    stQ arg9 (k0_off6 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_off6_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1) 6#32 <|
    stQ arg9 (k0_off7 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_off7_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1) 7#32 <| K ⟨w, w'⟩) := by
  refine ⟨(Scalar.addi (Scalar.addi (Scalar.addi (Scalar.addi (Scalar.addi (Scalar.addi b (Scalar.andi (Scalar.shrsi a 1#32) 1#32)) (Scalar.andi (Scalar.shrsi a 2#32) 1#32)) (Scalar.andi (Scalar.shrsi a 3#32) 1#32)) (Scalar.andi (Scalar.shrsi a 4#32) 1#32)) (Scalar.andi (Scalar.shrsi a 5#32) 1#32)) (Scalar.andi (Scalar.shrsi a 6#32) 1#32)), Scalar.shrsi a 7#32, fun K => ?_⟩
  iterate 14 refine op_ext rfl fun v => ?_
  exact rfl

theorem part355_eq (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (a b c : BitVec 32) : ∃ w, ∀ {α : Type} (K : _ → PP F α), (k0_part355 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 a b c).bind K =
    (stQ arg9 (k0_off8 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_off8_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1) 8#32 <|
    stQ arg9 (k0_off9 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_off9_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1) 9#32 <|
    stQ arg9 (k0_off10 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_off10_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1) 10#32 <|
    stQ arg9 (k0_off11 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_off11_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1) 11#32 <|
    stQ arg9 (k0_off12 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_off12_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1) 12#32 <|
    stQ arg9 (k0_off13 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_off13_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1) 13#32 <|
    (smemLoad arg9 (Rect.unit (s := S17) (k0_off14 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) S1.size (k0_off14_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1)) numel1_S1 rfl).bind fun _ => K ⟨w, 14#32⟩) := by
  refine ⟨(Scalar.addi (Scalar.addi (Scalar.addi (Scalar.addi (Scalar.addi (Scalar.addi (Scalar.addi b (Scalar.andi c 1#32)) (Scalar.andi (Scalar.shrsi a 8#32) 1#32)) (Scalar.andi (Scalar.shrsi a 9#32) 1#32)) (Scalar.andi (Scalar.shrsi a 10#32) 1#32)) (Scalar.andi (Scalar.shrsi a 11#32) 1#32)) (Scalar.andi (Scalar.shrsi a 12#32) 1#32)) (Scalar.andi (Scalar.shrsi a 13#32) 1#32)), fun K => ?_⟩
  iterate 13 refine op_ext rfl fun v => ?_
  exact rfl

theorem part356_eq (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (a b : BitVec 32) : ∃ w, ∀ {α : Type} (K : _ → PP F α), (k0_part356 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 a b 14#32).bind K =
    (.op (.store arg9 (Rect.unit (s := S17) (k0_off14 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) S1.size (k0_off14_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1)) (fun _ => 14#32) Finset.univ (View.stores_smem_one rfl numel1_S1) (.inl rfl)) fun _ =>
    stQ arg9 (k0_off15 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_off15_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1) 15#32 <|
    start0 arg4 arg5 arg9 arg10 arg11 arg16 harg4 harg5 harg10 harg11 0 (by decide) 0 (by decide) chk2C <| K w) := by
  refine ⟨Scalar.addi (Scalar.addi b (Scalar.andi (Scalar.shrsi a 14#32) 1#32)) (Scalar.andi (Scalar.shrsi a 15#32) 1#32), fun K => ?_⟩
  iterate 8 refine op_ext rfl fun v => ?_
  exact rfl

theorem part357_eq {α : Type} (K : _ → PP F α) : (k0_part357 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16).bind K =
    (start1 arg4 arg9 arg10 arg16 harg4 harg10 0 (by decide) 0 (by decide) chk3C <|
     ldA arg9 0 (by decide) fun v => .op (.assume (k0_chk4 v) (chk4C.dec v)) fun h =>
     .op (.enqueueDma (srcS2 arg7 (BitVec.toNat v) (chk4C.lt v h.down)) (.here (slotS2 arg13 0 (by decide))) (.dma (semV arg16 0 2 (by decide) (by decide)).sem)
       (wxSrcS2 arg7 harg7 _ _) (wxSlotS2 arg13 harg13 0 (by decide)) ⟨Or.inl rfl, trivial⟩) fun _ => K ⟨v, h.down⟩) := by
  iterate 7 refine op_ext rfl fun v => ?_
  exact rfl

/-- The program after the mask is known. -/
def restP (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (v143 v147 : BitVec 32) : PP F PUnit := do
  let ⟨v177, v180⟩ : Σ' (v177 : BitVec 32), BitVec 32 ← k0_part354 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 v143 v147
  let ⟨v212, c14_i32⟩ : Σ' (v212 : BitVec 32), BitVec 32 ← k0_part355 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 v143 v177 v180
  let v222 : BitVec 32 ← k0_part356 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 v143 v212 c14_i32
  let ⟨v255, k0_hw4⟩ : Σ' (v255 : Elt F .i32), k0_chk4 v255 ← k0_part357 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16
  let v266 : Memref sig .tc .hbm S1x2048x1024 .i8 := arg6.slice (Rect.unit (s := S16x2048x1024) (k0_off22 v255) S1x2048x1024.size (k0_off22_inb v255 k0_hw4)) (fun _ => rfl)
  let v267 : Memref sig .tc .hbm S2048x1024 .i8 := v266.squeeze S2048x1024 squeezes_S1x2048x1024_S2048x1024
  let v262 : DmaSems sig S1x1 := arg16.slice (Rect.unit (s := S2x3) ![0, 2] S1x1.size inb_S2x3_S1x1_0_2)
  let v263 : DmaSems sig S_ := v262.squeeze S_ squeezes_S1x1_S_
  let v264 : Memref sig .tc .vmem S1x2048x1024 .i8 := arg12.slice (Rect.unit (s := S2x2048x1024) ![0, 0, 0] S1x2048x1024.size inb_S2x2048x1024_S1x2048x1024_0_0_0) (fun _ => rfl)
  let v265 : Memref sig .tc .vmem S2048x1024 .i8 := v264.squeeze S2048x1024 squeezes_S1x2048x1024_S2048x1024
  Prog.lift (.enqueueDma v267 (.here v265) (.dma v263.sem) ((harg6.wordExact_slice rfl _ (k0_off22_wordsi8 v255 k0_hw4)).reshape _ _) ((harg12.wordExact_slice rfl _ wordsi8_S2x2048x1024_S1x2048x1024_0_0_0).reshape _ _) ⟨Or.inl rfl, trivial⟩)
  let v269 : Vec F S24x2048 .f32 ← Prog.lift (.load arg15 (Rect.unit (s := S24x2048) ![0, 0] S24x2048.size inb_S24x2048_S24x2048_0_0).toLoadRect (View.loadsAt_vmem h_S24x2048))
  Prog.lift (.store arg15 (Rect.unit (s := S24x2048) ![0, 0] S24x2048.size inb_S24x2048_S24x2048_0_0) (k0_pay1 (F := F)) Finset.univ (View.stores_vmem_bits_univ h_S24x2048 rfl) (.inl rfl))
  Scf.Loop.for (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1_ok v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1) ⟨⟩ (k0_t1_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 v222)
  Scf.Loop.for (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2_ok v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1) ⟨⟩ (k0_t2_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 v222 (Scalar.addi 0#32 (Scalar.muli (Scalar.divsi (Scalar.subi v222 0#32) 1#32) 1#32)))
  let v277 : Vec F S24x2048 .f32 ← Prog.lift (.load arg15 (Rect.unit (s := S24x2048) ![0, 0] S24x2048.size inb_S24x2048_S24x2048_0_0).toLoadRect (View.loadsAt_vmem h_S24x2048))
  let v279 : Vec F S24x2048 .bf16 ← Prog.lift (.load arg8 (Rect.unit (s := S24x2048) ![0, 0] S24x2048.size inb_S24x2048_S24x2048_0_0).toLoadRect (View.loadsAt_vmem h_S24x2048))
  Prog.lift (.store arg8 (Rect.unit (s := S24x2048) ![0, 0] S24x2048.size inb_S24x2048_S24x2048_0_0) (k0_pay4 v277) Finset.univ (View.stores_vmem h_S24x2048 (harg8.storeExact_slice rfl _ packedbf16_S24x2048_S24x2048_0_0) (fun _ => rfl)) (.inl rfl))
  pure ⟨⟩

theorem restP_eq (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (a b : BitVec 32) : restP (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 a b =
    (stQ arg9 (k0_off1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_off1_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1) 1#32 <|
    stQ arg9 (k0_off2 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_off2_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1) 2#32 <|
    stQ arg9 (k0_off3 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_off3_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1) 3#32 <|
    stQ arg9 (k0_off4 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_off4_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1) 4#32 <|
    stQ arg9 (k0_off5 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_off5_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1) 5#32 <|
    stQ arg9 (k0_off6 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_off6_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1) 6#32 <|
    stQ arg9 (k0_off7 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_off7_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1) 7#32 <|
    stQ arg9 (k0_off8 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_off8_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1) 8#32 <|
    stQ arg9 (k0_off9 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_off9_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1) 9#32 <|
    stQ arg9 (k0_off10 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_off10_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1) 10#32 <|
    stQ arg9 (k0_off11 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_off11_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1) 11#32 <|
    stQ arg9 (k0_off12 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_off12_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1) 12#32 <|
    stQ arg9 (k0_off13 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_off13_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1) 13#32 <|
    stQ arg9 (k0_off14 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_off14_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1) 14#32 <|
    stQ arg9 (k0_off15 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_off15_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1) 15#32 <|
  startP arg4 arg5 arg6 arg7 arg9 arg10 arg11 arg12 arg13 arg16 harg4 harg5 harg6 harg7 harg10 harg11 harg12 harg13
    0 (by decide) 0 (by decide) chk2C chk3C chk4C <|
  .op (ldYA arg15) fun _ => .op (stYA arg15 (k0_pay1 (F := F))) fun _ =>
  (Scf.Loop.for (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (loop_ok v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) ()
    fun k _ => trip arg1 arg2 arg3 arg4 harg4 arg5 harg5 arg6 harg6 arg7 harg7 arg9 arg10 harg10 arg11 harg11 arg12 harg12 arg13 harg13 arg14 harg14 arg15 arg16 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k (tIx_in v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k) (tSlot_in v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k) (fun _ => nIx_in v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k) (nSlot_in v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k)).bind fun _ =>
  .op (ldYA arg15) fun v => .op (ldO arg8) fun _ => .op (stO arg8 harg8 (k0_pay4 v)) fun _ => .ret ()) := by
  unfold restP
  obtain ⟨w1, w2, h⟩ := part354_eq (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 a b
  refine (h _).trans ?_
  iterate 7 refine congrArg (stQ arg9 _ _ _) ?_
  obtain ⟨w3, h⟩ := part355_eq (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 a w1 w2
  refine (h _).trans ?_
  iterate 6 refine congrArg (stQ arg9 _ _ _) ?_
  refine ld_ext fun v => ?_
  obtain ⟨w5, h⟩ := part356_eq (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 a w3
  refine (h _).trans ?_
  refine op_ext rfl fun _ => ?_
  refine congrArg (stQ arg9 _ _ _) ?_
  refine Eq.trans ?_ (startP_eq ..).symm
  refine congrArg (start0 _ _ _ _ _ _ _ _ _ _ _ _ _ _ _) ?_
  refine (part357_eq (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 _).trans ?_
  refine congrArg (start1 _ _ _ _ _ _ _ _ _ _ _) ?_
  refine op_ext rfl fun v => ?_
  iterate 5 refine op_ext rfl fun v => ?_
  refine rbind ?_
  refine bind_ext ?_ fun _ => ?_
  · refine congrArg _ ?_
    funext k u
    exact body_eq (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 _ k _ _ _ _
  · refine (congrArg (fun p => Prog.bind p _) (Scf.for_rem_eq _ _ _ _ _)).trans ?_
    iterate 3 refine op_ext rfl fun v => ?_
    exact rfl

end

section
variable (arg0 : Memref sig .tc .smem S24x2 .i32) (harg0 : arg0.IsWhole) (arg1 : Memref sig .tc .vmem S24x2048 .bf16) (harg1 : arg1.IsWhole) (arg2 : Memref sig .tc .vmem S24x2 .i32) (harg2 : arg2.IsWhole) (arg3 : Memref sig .tc .vmem S24x2 .f32) (harg3 : arg3.IsWhole) (arg4 : Memref sig .tc .hbm S16x4096x1024 .i8) (harg4 : arg4.IsWhole) (arg5 : Memref sig .tc .hbm S16x16x4096 .bf16) (harg5 : arg5.IsWhole) (arg6 : Memref sig .tc .hbm S16x2048x1024 .i8) (harg6 : arg6.IsWhole) (arg7 : Memref sig .tc .hbm S16x16x2048 .bf16) (harg7 : arg7.IsWhole) (arg8 : Memref sig .tc .vmem S24x2048 .bf16) (harg8 : arg8.IsWhole) (arg9 : Memref sig .tc .smem S17 .i32) (harg9 : arg9.IsWhole) (arg10 : Memref sig .tc .vmem S2x4096x1024 .i8) (harg10 : arg10.IsWhole) (arg11 : Memref sig .tc .vmem S2x16x4096 .bf16) (harg11 : arg11.IsWhole) (arg12 : Memref sig .tc .vmem S2x2048x1024 .i8) (harg12 : arg12.IsWhole) (arg13 : Memref sig .tc .vmem S2x16x2048 .bf16) (harg13 : arg13.IsWhole) (arg14 : Memref sig .tc .vmem S24x2048 .bf16) (harg14 : arg14.IsWhole) (arg15 : Memref sig .tc .vmem S24x2048 .f32) (harg15 : arg15.IsWhole) (arg16 : DmaSems sig S2x3)

/-- The program after the ids, as the printed one continues. -/
def restQ (v0 : Elt F .i32) (v3 : Elt F .i32) (v6 : Elt F .i32) (v9 : Elt F .i32) (v12 : Elt F .i32) (v15 : Elt F .i32) (v18 : Elt F .i32) (v21 : Elt F .i32) (v24 : Elt F .i32) (v27 : Elt F .i32) (v30 : Elt F .i32) (v33 : Elt F .i32) (v36 : Elt F .i32) (v39 : Elt F .i32) (v42 : Elt F .i32) (v45 : Elt F .i32) (v48 : Elt F .i32) (v51 : Elt F .i32) (v54 : Elt F .i32) (v57 : Elt F .i32) (v60 : Elt F .i32) (v63 : Elt F .i32) (v66 : Elt F .i32) (v69 : Elt F .i32) (v72 : Elt F .i32) (v75 : Elt F .i32) (v78 : Elt F .i32) (v81 : Elt F .i32) (v84 : Elt F .i32) (v87 : Elt F .i32) (v90 : Elt F .i32) (v93 : Elt F .i32) (v96 : Elt F .i32) (v99 : Elt F .i32) (v102 : Elt F .i32) (v105 : Elt F .i32) (v108 : Elt F .i32) (v111 : Elt F .i32) (v114 : Elt F .i32) (v117 : Elt F .i32) (v120 : Elt F .i32) (v123 : Elt F .i32) (v126 : Elt F .i32) (v129 : Elt F .i32) (v132 : Elt F .i32) (v135 : Elt F .i32) (v138 : Elt F .i32) (v141 : Elt F .i32) (a b : BitVec 32) : PP F PUnit :=
  .op (.assume (k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_chk1.dec v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141)) fun h =>
  stQ arg9 ![0] inb_S17_S1_0 0#32 <|
  restP arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 h.down a b

theorem restQ_eq (v0 : Elt F .i32) (v3 : Elt F .i32) (v6 : Elt F .i32) (v9 : Elt F .i32) (v12 : Elt F .i32) (v15 : Elt F .i32) (v18 : Elt F .i32) (v21 : Elt F .i32) (v24 : Elt F .i32) (v27 : Elt F .i32) (v30 : Elt F .i32) (v33 : Elt F .i32) (v36 : Elt F .i32) (v39 : Elt F .i32) (v42 : Elt F .i32) (v45 : Elt F .i32) (v48 : Elt F .i32) (v51 : Elt F .i32) (v54 : Elt F .i32) (v57 : Elt F .i32) (v60 : Elt F .i32) (v63 : Elt F .i32) (v66 : Elt F .i32) (v69 : Elt F .i32) (v72 : Elt F .i32) (v75 : Elt F .i32) (v78 : Elt F .i32) (v81 : Elt F .i32) (v84 : Elt F .i32) (v87 : Elt F .i32) (v90 : Elt F .i32) (v93 : Elt F .i32) (v96 : Elt F .i32) (v99 : Elt F .i32) (v102 : Elt F .i32) (v105 : Elt F .i32) (v108 : Elt F .i32) (v111 : Elt F .i32) (v114 : Elt F .i32) (v117 : Elt F .i32) (v120 : Elt F .i32) (v123 : Elt F .i32) (v126 : Elt F .i32) (v129 : Elt F .i32) (v132 : Elt F .i32) (v135 : Elt F .i32) (v138 : Elt F .i32) (v141 : Elt F .i32) (a b : BitVec 32) : restQ (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 a b = mainRest (F := F) arg1 arg2 arg3 arg4 harg4 arg5 harg5 arg6 harg6 arg7 harg7 arg8 harg8 arg9 arg10 harg10 arg11 harg11 arg12 harg12 arg13 harg13 arg14 harg14 arg15 arg16 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 := by
  refine op_ext rfl fun h => ?_
  refine Eq.trans ?_ (stAll_16 ..).symm
  refine stQ_eq arg9 _ _ _ _ _ rfl ?_
  refine (restP_eq arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 _ _ _).trans ?_
  refine stQ_eq arg9 _ _ _ _ _ (off1_eq v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) ?_
  refine stQ_eq arg9 _ _ _ _ _ (off2_eq v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) ?_
  refine stQ_eq arg9 _ _ _ _ _ (off3_eq v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) ?_
  refine stQ_eq arg9 _ _ _ _ _ (off4_eq v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) ?_
  refine stQ_eq arg9 _ _ _ _ _ (off5_eq v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) ?_
  refine stQ_eq arg9 _ _ _ _ _ (off6_eq v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) ?_
  refine stQ_eq arg9 _ _ _ _ _ (off7_eq v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) ?_
  refine stQ_eq arg9 _ _ _ _ _ (off8_eq v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) ?_
  refine stQ_eq arg9 _ _ _ _ _ (off9_eq v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) ?_
  refine stQ_eq arg9 _ _ _ _ _ (off10_eq v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) ?_
  refine stQ_eq arg9 _ _ _ _ _ (off11_eq v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) ?_
  refine stQ_eq arg9 _ _ _ _ _ (off12_eq v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) ?_
  refine stQ_eq arg9 _ _ _ _ _ (off13_eq v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) ?_
  refine stQ_eq arg9 _ _ _ _ _ (off14_eq v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) ?_
  refine stQ_eq arg9 _ _ _ _ _ (off15_eq v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) ?_
  rfl

theorem part349_eq : ∃ w : Elt F .i32 → Elt F .i32 → Elt F .i32 → Elt F .i32 → Elt F .i32 → Elt F .i32 → Elt F .i32 → Elt F .i32 → Elt F .i32 →  BitVec 32, ∀ {α : Type} (K : _ → PP F α), (k0_part349 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16).bind K =
  (
    ldId arg0 0 0 (by decide) (by decide) fun v0 =>
    ldId arg0 0 1 (by decide) (by decide) fun v3 =>
    ldId arg0 1 0 (by decide) (by decide) fun v6 =>
    ldId arg0 1 1 (by decide) (by decide) fun v9 =>
    ldId arg0 2 0 (by decide) (by decide) fun v12 =>
    ldId arg0 2 1 (by decide) (by decide) fun v15 =>
    ldId arg0 3 0 (by decide) (by decide) fun v18 =>
    ldId arg0 3 1 (by decide) (by decide) fun v21 =>
    ldId arg0 4 0 (by decide) (by decide) fun v24 =>
    ldId arg0 4 1 (by decide) (by decide) fun v27 =>
    K ⟨v0, v3, v6, v9, v12, v15, v18, v21, v24, w v0 v3 v6 v9 v12 v15 v18 v21 v24, v27, Scalar.shli 1#32 v27⟩) := by
  refine ⟨fun v0 v3 v6 v9 v12 v15 v18 v21 v24 => (Scalar.ori (Scalar.ori (Scalar.ori (Scalar.ori (Scalar.ori (Scalar.ori (Scalar.ori (Scalar.ori (Scalar.ori 0#32 (Scalar.shli 1#32 v0)) (Scalar.shli 1#32 v3)) (Scalar.shli 1#32 v6)) (Scalar.shli 1#32 v9)) (Scalar.shli 1#32 v12)) (Scalar.shli 1#32 v15)) (Scalar.shli 1#32 v18)) (Scalar.shli 1#32 v21)) (Scalar.shli 1#32 v24)), fun K => ?_⟩
  iterate 10 refine op_ext rfl fun v => ?_
  exact rfl

theorem part350_eq (a b : BitVec 32) : ∃ w : Elt F .i32 → Elt F .i32 → Elt F .i32 → Elt F .i32 → Elt F .i32 → Elt F .i32 → Elt F .i32 → Elt F .i32 → Elt F .i32 →  BitVec 32, ∀ {α : Type} (K : _ → PP F α), (k0_part350 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 a b).bind K =
  (
    ldId arg0 5 0 (by decide) (by decide) fun v30 =>
    ldId arg0 5 1 (by decide) (by decide) fun v33 =>
    ldId arg0 6 0 (by decide) (by decide) fun v36 =>
    ldId arg0 6 1 (by decide) (by decide) fun v39 =>
    ldId arg0 7 0 (by decide) (by decide) fun v42 =>
    ldId arg0 7 1 (by decide) (by decide) fun v45 =>
    ldId arg0 8 0 (by decide) (by decide) fun v48 =>
    ldId arg0 8 1 (by decide) (by decide) fun v51 =>
    ldId arg0 9 0 (by decide) (by decide) fun v54 =>
    ldId arg0 9 1 (by decide) (by decide) fun v57 =>
    K ⟨v30, v33, v36, v39, v42, v45, v48, v51, v54, w v30 v33 v36 v39 v42 v45 v48 v51 v54, v57, Scalar.shli 1#32 v57⟩) := by
  refine ⟨fun v30 v33 v36 v39 v42 v45 v48 v51 v54 => (Scalar.ori (Scalar.ori (Scalar.ori (Scalar.ori (Scalar.ori (Scalar.ori (Scalar.ori (Scalar.ori (Scalar.ori (Scalar.ori a b) (Scalar.shli 1#32 v30)) (Scalar.shli 1#32 v33)) (Scalar.shli 1#32 v36)) (Scalar.shli 1#32 v39)) (Scalar.shli 1#32 v42)) (Scalar.shli 1#32 v45)) (Scalar.shli 1#32 v48)) (Scalar.shli 1#32 v51)) (Scalar.shli 1#32 v54)), fun K => ?_⟩
  iterate 10 refine op_ext rfl fun v => ?_
  exact rfl

theorem part351_eq (a b : BitVec 32) : ∃ w : Elt F .i32 → Elt F .i32 → Elt F .i32 → Elt F .i32 → Elt F .i32 → Elt F .i32 → Elt F .i32 → Elt F .i32 → Elt F .i32 →  BitVec 32, ∀ {α : Type} (K : _ → PP F α), (k0_part351 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 a b).bind K =
  (
    ldId arg0 10 0 (by decide) (by decide) fun v60 =>
    ldId arg0 10 1 (by decide) (by decide) fun v63 =>
    ldId arg0 11 0 (by decide) (by decide) fun v66 =>
    ldId arg0 11 1 (by decide) (by decide) fun v69 =>
    ldId arg0 12 0 (by decide) (by decide) fun v72 =>
    ldId arg0 12 1 (by decide) (by decide) fun v75 =>
    ldId arg0 13 0 (by decide) (by decide) fun v78 =>
    ldId arg0 13 1 (by decide) (by decide) fun v81 =>
    ldId arg0 14 0 (by decide) (by decide) fun v84 =>
    ldId arg0 14 1 (by decide) (by decide) fun v87 =>
    K ⟨v60, v63, v66, v69, v72, v75, v78, v81, v84, w v60 v63 v66 v69 v72 v75 v78 v81 v84, v87, Scalar.shli 1#32 v87⟩) := by
  refine ⟨fun v60 v63 v66 v69 v72 v75 v78 v81 v84 => (Scalar.ori (Scalar.ori (Scalar.ori (Scalar.ori (Scalar.ori (Scalar.ori (Scalar.ori (Scalar.ori (Scalar.ori (Scalar.ori a b) (Scalar.shli 1#32 v60)) (Scalar.shli 1#32 v63)) (Scalar.shli 1#32 v66)) (Scalar.shli 1#32 v69)) (Scalar.shli 1#32 v72)) (Scalar.shli 1#32 v75)) (Scalar.shli 1#32 v78)) (Scalar.shli 1#32 v81)) (Scalar.shli 1#32 v84)), fun K => ?_⟩
  iterate 10 refine op_ext rfl fun v => ?_
  exact rfl

theorem part352_eq (a b : BitVec 32) : ∃ w : Elt F .i32 → Elt F .i32 → Elt F .i32 → Elt F .i32 → Elt F .i32 → Elt F .i32 → Elt F .i32 → Elt F .i32 → Elt F .i32 →  BitVec 32, ∀ {α : Type} (K : _ → PP F α), (k0_part352 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 a b).bind K =
  (
    ldId arg0 15 0 (by decide) (by decide) fun v90 =>
    ldId arg0 15 1 (by decide) (by decide) fun v93 =>
    ldId arg0 16 0 (by decide) (by decide) fun v96 =>
    ldId arg0 16 1 (by decide) (by decide) fun v99 =>
    ldId arg0 17 0 (by decide) (by decide) fun v102 =>
    ldId arg0 17 1 (by decide) (by decide) fun v105 =>
    ldId arg0 18 0 (by decide) (by decide) fun v108 =>
    ldId arg0 18 1 (by decide) (by decide) fun v111 =>
    ldId arg0 19 0 (by decide) (by decide) fun v114 =>
    ldId arg0 19 1 (by decide) (by decide) fun v117 =>
    K ⟨v90, v93, v96, v99, v102, v105, v108, v111, v114, w v90 v93 v96 v99 v102 v105 v108 v111 v114, v117, Scalar.shli 1#32 v117⟩) := by
  refine ⟨fun v90 v93 v96 v99 v102 v105 v108 v111 v114 => (Scalar.ori (Scalar.ori (Scalar.ori (Scalar.ori (Scalar.ori (Scalar.ori (Scalar.ori (Scalar.ori (Scalar.ori (Scalar.ori a b) (Scalar.shli 1#32 v90)) (Scalar.shli 1#32 v93)) (Scalar.shli 1#32 v96)) (Scalar.shli 1#32 v99)) (Scalar.shli 1#32 v102)) (Scalar.shli 1#32 v105)) (Scalar.shli 1#32 v108)) (Scalar.shli 1#32 v111)) (Scalar.shli 1#32 v114)), fun K => ?_⟩
  iterate 10 refine op_ext rfl fun v => ?_
  exact rfl

theorem part353_eq (v0 v3 v6 v9 v12 v15 v18 v21 v24 v27 v30 v33 v36 v39 v42 v45 v48 v51 v54 v57 v60 v63 v66 v69 v72 v75 v78 v81 v84 v87 v90 v93 v96 v99 v102 v105 v108 v111 v114 v117 : Elt F .i32) (a b : BitVec 32) : ∃ w : Elt F .i32 → Elt F .i32 → Elt F .i32 → Elt F .i32 → Elt F .i32 → Elt F .i32 → Elt F .i32 → Elt F .i32 →  BitVec 32, ∀ {α : Type} (K : _ → PP F α), (k0_part353 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 v0 v3 v6 v9 v12 v15 v18 v21 v24 v27 v30 v33 v36 v39 v42 v45 v48 v51 v54 v57 v60 v63 v66 v69 v72 v75 v78 v81 v84 v87 v90 v93 v96 v99 v102 v105 v108 v111 v114 a v117 b).bind K =
  (
    ldId arg0 20 0 (by decide) (by decide) fun v120 =>
    ldId arg0 20 1 (by decide) (by decide) fun v123 =>
    ldId arg0 21 0 (by decide) (by decide) fun v126 =>
    ldId arg0 21 1 (by decide) (by decide) fun v129 =>
    ldId arg0 22 0 (by decide) (by decide) fun v132 =>
    ldId arg0 22 1 (by decide) (by decide) fun v135 =>
    ldId arg0 23 0 (by decide) (by decide) fun v138 =>
    ldId arg0 23 1 (by decide) (by decide) fun v141 =>
    .op (.assume (k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_chk1.dec v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141)) fun h =>
    stQ arg9 ![0] inb_S17_S1_0 0#32 <|
    K ⟨v120, v123, v126, v129, v132, v135, v138, v141, h.down, w v120 v123 v126 v129 v132 v135 v138 v141, Scalar.addi 0#32 (Scalar.andi (Scalar.shrsi (w v120 v123 v126 v129 v132 v135 v138 v141) 0#32) 1#32)⟩) := by
  refine ⟨fun v120 v123 v126 v129 v132 v135 v138 v141 => (Scalar.ori (Scalar.ori (Scalar.ori (Scalar.ori (Scalar.ori (Scalar.ori (Scalar.ori (Scalar.ori (Scalar.ori a b) (Scalar.shli 1#32 v120)) (Scalar.shli 1#32 v123)) (Scalar.shli 1#32 v126)) (Scalar.shli 1#32 v129)) (Scalar.shli 1#32 v132)) (Scalar.shli 1#32 v135)) (Scalar.shli 1#32 v138)) (Scalar.shli 1#32 v141)), fun K => ?_⟩
  iterate 11 refine op_ext rfl fun v => ?_
  exact rfl

theorem ldId_congr {α : Type} {arg0 : Memref sig .tc .smem S24x2 .i32} {t k : ℕ} {ht : t + 1 ≤ 24} {hk : k + 1 ≤ 2} {K K' : Elt F .i32 → PP F α} (h : ∀ v, K v = K' v) :
    ldId arg0 t k ht hk K = ldId arg0 t k ht hk K' := congrArg _ (funext h)

theorem main_eq : cc0_moe_q4 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 = mainP (F := F) arg0 arg1 arg2 arg3 arg4 harg4 arg5 harg5 arg6 harg6 arg7 harg7 arg8 harg8 arg9 arg10 harg10 arg11 harg11 arg12 harg12 arg13 harg13 arg14 harg14 arg15 arg16 := by
  obtain ⟨w0, h⟩ := part349_eq (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16
  refine (h _).trans ?_
  clear h
  refine ldId_congr fun v0 => ?_
  refine ldId_congr fun v3 => ?_
  refine ldId_congr fun v6 => ?_
  refine ldId_congr fun v9 => ?_
  refine ldId_congr fun v12 => ?_
  refine ldId_congr fun v15 => ?_
  refine ldId_congr fun v18 => ?_
  refine ldId_congr fun v21 => ?_
  refine ldId_congr fun v24 => ?_
  refine ldId_congr fun v27 => ?_
  obtain ⟨w1, h⟩ := part350_eq (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 (w0 v0 v3 v6 v9 v12 v15 v18 v21 v24) (Scalar.shli 1#32 v27)
  refine (h _).trans ?_
  clear h
  refine ldId_congr fun v30 => ?_
  refine ldId_congr fun v33 => ?_
  refine ldId_congr fun v36 => ?_
  refine ldId_congr fun v39 => ?_
  refine ldId_congr fun v42 => ?_
  refine ldId_congr fun v45 => ?_
  refine ldId_congr fun v48 => ?_
  refine ldId_congr fun v51 => ?_
  refine ldId_congr fun v54 => ?_
  refine ldId_congr fun v57 => ?_
  obtain ⟨w2, h⟩ := part351_eq (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 (w1 v30 v33 v36 v39 v42 v45 v48 v51 v54) (Scalar.shli 1#32 v57)
  refine (h _).trans ?_
  clear h
  refine ldId_congr fun v60 => ?_
  refine ldId_congr fun v63 => ?_
  refine ldId_congr fun v66 => ?_
  refine ldId_congr fun v69 => ?_
  refine ldId_congr fun v72 => ?_
  refine ldId_congr fun v75 => ?_
  refine ldId_congr fun v78 => ?_
  refine ldId_congr fun v81 => ?_
  refine ldId_congr fun v84 => ?_
  refine ldId_congr fun v87 => ?_
  obtain ⟨w3, h⟩ := part352_eq (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 (w2 v60 v63 v66 v69 v72 v75 v78 v81 v84) (Scalar.shli 1#32 v87)
  refine (h _).trans ?_
  clear h
  refine ldId_congr fun v90 => ?_
  refine ldId_congr fun v93 => ?_
  refine ldId_congr fun v96 => ?_
  refine ldId_congr fun v99 => ?_
  refine ldId_congr fun v102 => ?_
  refine ldId_congr fun v105 => ?_
  refine ldId_congr fun v108 => ?_
  refine ldId_congr fun v111 => ?_
  refine ldId_congr fun v114 => ?_
  refine ldId_congr fun v117 => ?_
  obtain ⟨w4, h⟩ := part353_eq (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 v0 v3 v6 v9 v12 v15 v18 v21 v24 v27 v30 v33 v36 v39 v42 v45 v48 v51 v54 v57 v60 v63 v66 v69 v72 v75 v78 v81 v84 v87 v90 v93 v96 v99 v102 v105 v108 v111 v114 v117 (w3 v90 v93 v96 v99 v102 v105 v108 v111 v114) (Scalar.shli 1#32 v117)
  refine (h _).trans ?_
  clear h
  refine ldId_congr fun v120 => ?_
  refine ldId_congr fun v123 => ?_
  refine ldId_congr fun v126 => ?_
  refine ldId_congr fun v129 => ?_
  refine ldId_congr fun v132 => ?_
  refine ldId_congr fun v135 => ?_
  refine ldId_congr fun v138 => ?_
  refine ldId_congr fun v141 => ?_
  exact restQ_eq arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 (w4 v120 v123 v126 v129 v132 v135 v138 v141) _

end

end Cert.Kernel.Gen
-- ==== Proof.Vals.lean ====
/- What the tiles of the kernel hold, as functions of the arrays. -/
module

public import proofs.«01_k».proof.Proof.Main
public import Idealize.ShloMosaic.Lib.ValueIdxCore

@[expose] public section

set_option maxRecDepth 65536

noncomputable section

namespace Cert.Kernel.Gen

open Idealize.ShloMosaic Idealize.ShloMosaic.TcCoe Idealize.SL.Sem
open Idealize.ShloMosaic.ValueIdx

variable {F : FTy → Type} [FloatOps F]

/-- Expert `v` of a stack of sixteen. -/
def expOf {B C : ℕ} {e : EltTy} (X : (⟨3, ![16, B, C]⟩ : Shape).Idx → Elt F e) (v : ℕ) : (⟨2, ![B, C]⟩ : Shape).Idx → Elt F e :=
  fun i => X (ix3 ⟨v % 16, Nat.mod_lt _ (by decide)⟩ (i 0) (i 1))

/-- Columns `n * 256 …` of a matrix of 24 rows. -/
def tileX {e : EltTy} (X : S24x2048.Idx → Elt F e) (n : ℕ) (hn : n < 8) : S24x256.Idx → Elt F e :=
  fun x => X ((Rect.unit (s := S24x2048) ![0, n * 256] S24x256.size (inb2 (by omega) (by omega))).toLoadRect.idx x)

def tileW1 (W : S4096x1024.Idx → Elt F .i8) (r n : ℕ) (hr : r + 256 ≤ 4096) (hn : n < 8) : S256x128.Idx → Elt F .i8 :=
  fun x => W ((Rect.unit (s := S4096x1024) ![r, n * 128] S256x128.size (inb2 hr (by omega))).toLoadRect.idx x)

def tileS1 (S : S16x4096.Idx → Elt F .bf16) (r n : ℕ) (hr : r + 256 ≤ 4096) (hn : n < 8) : S2x256.Idx → Elt F .bf16 :=
  fun x => S ((Rect.unit (s := S16x4096) ![n * 2, r] S2x256.size (inb2 (by omega) hr)).toLoadRect.idx x)

def tileW2 (W : S2048x1024.Idx → Elt F .i8) (r n : ℕ) (hr : r + 256 ≤ 2048) (hn : n < 8) : S256x128.Idx → Elt F .i8 :=
  fun x => W ((Rect.unit (s := S2048x1024) ![r, n * 128] S256x128.size (inb2 hr (by omega))).toLoadRect.idx x)

def tileS2 (S : S16x2048.Idx → Elt F .bf16) (r n : ℕ) (hr : r + 256 ≤ 2048) (hn : n < 8) : S2x256.Idx → Elt F .bf16 :=
  fun x => S ((Rect.unit (s := S16x2048) ![n * 2, r] S2x256.size (inb2 (by omega) hr)).toLoadRect.idx x)

/-- The first `n` column blocks of one tile of the first product. -/
def gAcc (X : S24x2048.Idx → Elt F .bf16) (W : S4096x1024.Idx → Elt F .i8) (S : S16x4096.Idx → Elt F .bf16) (r : ℕ) (hr : r + 256 ≤ 4096) :
    (n : ℕ) → n ≤ 8 → FVec F S24x256 .f32
  | 0, _ => zeroTile
  | n + 1, hn => dotAcc (gAcc X W S r hr n (by omega)) (shapeCast S24x256 (tileX (F := F) (e := .bf16) X n hn) shapeCasts_S24x256_S24x256) (tileW1 (F := F) W r n hr hn) (tileS1 (F := F) S r n hr hn)

/-- The first `n` column blocks of one tile of the second product. -/
def aAcc (H : S24x2048.Idx → Elt F .bf16) (W : S2048x1024.Idx → Elt F .i8) (S : S16x2048.Idx → Elt F .bf16) (r : ℕ) (hr : r + 256 ≤ 2048) :
    (n : ℕ) → n ≤ 8 → FVec F S24x256 .f32
  | 0, _ => zeroTile
  | n + 1, hn => dotAcc (aAcc H W S r hr n (by omega)) (tileX (F := F) (e := .bf16) H n hn) (tileW2 (F := F) W r n hr hn) (tileS2 (F := F) S r n hr hn)

theorem tl8 (j : Fin 2048) : j.val / 256 < 8 := by have := j.isLt; omega

/-- One hidden tile. -/
def hidT (X : S24x2048.Idx → Elt F .bf16) (W : S4096x1024.Idx → Elt F .i8) (S : S16x4096.Idx → Elt F .bf16) (d : ℕ) (hd : d < 8) : FVec F S24x256 .bf16 :=
  hTile (gAcc (F := F) X W S (d * 256) (by omega) 8 le_rfl) (gAcc (F := F) X W S (2048 + d * 256) (by omega) 8 le_rfl)

/-- A matrix of 24 rows from its eight tiles. -/
def ofTiles {e : EltTy} (T : (d : ℕ) → d < 8 → S24x256.Idx → Elt F e) : S24x2048.Idx → Elt F e :=
  fun i => T ((i 1).val / 256) (tl8 (i 1)) (ix2 (i 0) ⟨(i 1).val % 256, Nat.mod_lt _ (by decide)⟩)

/-- The hidden layer of one expert. -/
def hid (X : S24x2048.Idx → Elt F .bf16) (W : S4096x1024.Idx → Elt F .i8) (S : S16x4096.Idx → Elt F .bf16) : S24x2048.Idx → Elt F .bf16 :=
  ofTiles (F := F) (e := .bf16) fun d hd => hidT (F := F) X W S d hd

/-- One tile of the accumulator with an expert's share added. -/
def accT (cf : FVec F S24x1 .f32) (rt : IVec S24x1 1) (H : S24x2048.Idx → Elt F .bf16) (W : S2048x1024.Idx → Elt F .i8) (S : S16x2048.Idx → Elt F .bf16)
    (Y : S24x2048.Idx → Elt F .f32) (d : ℕ) (hd : d < 8) : FVec F S24x256 .f32 :=
  yTile cf rt (aAcc (F := F) H W S (d * 256) (by omega) 8 le_rfl) (tileX (F := F) (e := .f32) Y d hd)

/-- The accumulator with an expert's share added. -/
def accM (cf : FVec F S24x1 .f32) (rt : IVec S24x1 1) (H : S24x2048.Idx → Elt F .bf16) (W : S2048x1024.Idx → Elt F .i8) (S : S16x2048.Idx → Elt F .bf16)
    (Y : S24x2048.Idx → Elt F .f32) : S24x2048.Idx → Elt F .f32 :=
  ofTiles (F := F) (e := .f32) fun d hd => accT (F := F) cf rt H W S Y d hd

/-- The whole arrays a trip reads. -/
structure Arrs (F : FTy → Type) where
  X : S24x2048.Idx → Elt F .bf16
  I : S24x2.Idx → Elt F .i32
  C : S24x2.Idx → Elt F .f32
  W1 : S16x4096x1024.Idx → Elt F .i8
  S1 : S16x16x4096.Idx → Elt F .bf16
  W2 : S16x2048x1024.Idx → Elt F .i8
  S2 : S16x16x2048.Idx → Elt F .bf16

/-- What one trip makes of the accumulator, its expert given by a word. -/
def stepY (A : Arrs F) (e : BitVec 32) (Y : S24x2048.Idx → Elt F .f32) : S24x2048.Idx → Elt F .f32 :=
  accM (F := F) (coefOf (F := F) e A.I A.C) (anyOf (F := F) e A.I)
    (hid (F := F) A.X (expOf (F := F) (e := .i8) A.W1 e.toNat) (expOf (F := F) (e := .bf16) A.S1 e.toNat))
    (expOf (F := F) (e := .i8) A.W2 e.toNat) (expOf (F := F) (e := .bf16) A.S2 e.toNat) Y

/-- The accumulator after `k` trips over the experts that `wd` lists. -/
def accK (A : Arrs F) (wd : ℕ → BitVec 32) : ℕ → S24x2048.Idx → Elt F .f32
  | 0 => k0_pay1 (F := F)
  | k + 1 => stepY A (wd k) (accK A wd k)

/-- The accumulator after the experts below `j` that `m` marks. -/
def accE (A : Arrs F) (m : BitVec 32) : ℕ → S24x2048.Idx → Elt F .f32
  | 0 => k0_pay1 (F := F)
  | j + 1 => if m.getLsbD j then stepY A (BitVec.ofNat 32 j) (accE A m j) else accE A m j

theorem cntN_lt_succ (m : BitVec 32) (j : ℕ) : cntN m j ≤ cntN m (j + 1) := by show cntN m j ≤ cntN m j + _; omega
theorem cntN_mono (m : BitVec 32) {i j : ℕ} (h : i ≤ j) : cntN m i ≤ cntN m j := by
  induction h with
  | refl => exact le_rfl
  | step _ ih => exact ih.trans (cntN_lt_succ m _)

/-- Going down the list is going through the marked experts in order. -/
theorem accK_cntN (A : Arrs F) (m : BitVec 32) (wd : ℕ → BitVec 32)
    (hw : ∀ i, i < cntN m 16 → ∃ j, j < 16 ∧ m.getLsbD j = true ∧ cntN m j = i ∧ wd i = BitVec.ofNat 32 j) :
    ∀ j, j ≤ 16 → accK A wd (cntN m j) = accE A m j
  | 0, _ => rfl
  | j + 1, hj => by
    have ih := accK_cntN A m wd hw j (by omega)
    unfold accE
    by_cases hb : m.getLsbD j = true
    · have e : cntN m (j + 1) = cntN m j + 1 := by show cntN m j + _ = _; rw [if_pos hb]
      rw [if_pos hb, e]
      have hlt : cntN m j < cntN m 16 := by have := cntN_mono m hj; omega
      obtain ⟨j', h1, h2, h3, h4⟩ := hw _ hlt
      have hjj : j' = j := by
        rcases Nat.lt_trichotomy j' j with h | h | h
        · have a := cntN_mono m (show j' + 1 ≤ j from h)
          have b : cntN m (j' + 1) = cntN m j' + 1 := by show cntN m j' + _ = _; rw [if_pos h2]
          omega
        · exact h
        · have a := cntN_mono m (show j + 1 ≤ j' from h)
          omega
      show stepY A (wd (cntN m j)) (accK A wd (cntN m j)) = _
      rw [h4, hjj, ih]
    · rw [if_neg hb]
      have e : cntN m (j + 1) = cntN m j := by show cntN m j + _ = _; rw [if_neg hb]; rfl
      rw [e, ih]

/-- What the kernel leaves. -/
def outM (A : Arrs F) (m : BitVec 32) : S24x2048.Idx → Elt F .bf16 := k0_pay4 (F := F) (accE A m 16)

end Cert.Kernel.Gen

end
-- ==== Proof.Steps.lean ====
/- The steps of the kernel on the memory they own: reading the list, starting copies and waiting for them. -/
module

public import proofs.«01_k».proof.Proof.Vals
public import proofs.«01_k».proof.Proof.Gen.Kernel.Launch
public import Idealize.ShloMosaic.Lib.Pipeline.FrameBody
public import Idealize.ShloMosaic.Lib.MixedBatch
public import Idealize.ShloMosaic.Lib.Ring
public import Idealize.ShloMosaic.Lib.Tactic

@[expose] public section

set_option maxRecDepth 65536

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers (MixedBatch sumTo)
open Idealize.ShloMosaic.ValueIdx

variable {F : FTy → Type} [FloatOps F]

local notation "𝕄" => MT nD τ sig Unit (Elt F) ℕ (Pipeline.UD sig nD τ) ℕ

/-- The weakest precondition of a program of the core `c`. -/
abbrev WP (c : Dev nD) {α : Type} (p : PP F α) (Q : α → sProp 𝕄) : sProp 𝕄 :=
  wp frame (wpE (defs₀ (F := F)) Variants.none (c : Thread nD τ) none) Set.univ p Q

/-- A memref's elements owned in full, holding `f`. -/
abbrev owned (c : Dev nD) {sp : Space} {s : Shape} {e : EltTy} (m : Memref sig .tc sp s e) (f : Buf (Elt F) (m.view.loc (c : Thread nD τ))) : sProp 𝕄 :=
  m.view.loc (c : Thread nD τ) ↦[m.view.set]{fullShare} f

/-- A memref's elements owned in full, whatever they hold. -/
abbrev some' (c : Dev nD) {sp : Space} {s : Shape} {e : EltTy} (m : Memref sig .tc sp s e) : sProp 𝕄 :=
  iprop(∃ f, owned (F := F) c m f)

/-- A share of a whole array, holding `V`. -/
abbrev tok (c : Dev nD) {sp : Space} {s : Shape} {e : EltTy} (m : Memref sig .tc sp s e) (q : PosShare TreeShare)
    (V : Buf (Elt F) (m.view.loc (c : Thread nD τ))) : sProp 𝕄 :=
  m.view.loc (c : Thread nD τ) ↦[Finset.univ]{q} V

/-- A memref's elements owned in full, holding something with the property `P`. -/
abbrev has (c : Dev nD) {sp : Space} {s : Shape} {e : EltTy} (m : Memref sig .tc sp s e) (P : Buf (Elt F) (m.view.loc (c : Thread nD τ)) → Prop) : sProp 𝕄 :=
  iprop(∃ f, ⌜P f⌝ ∗ owned (F := F) c m f)

theorem has_some (c : Dev nD) {sp : Space} {s : Shape} {e : EltTy} (m : Memref sig .tc sp s e) (P : Buf (Elt F) (m.view.loc (c : Thread nD τ)) → Prop) :
    has (F := F) c m P ⊢ some' c m := by
  iintro ⟨%f, -, H⟩
  iexists f; iexact H

/-- What one copy hands back. -/
abbrev Dl (c : Dev nD) {s : Shape} {e : EltTy} (src : Memref sig .tc .hbm s e) (dst : Memref sig .tc .vmem s e) (q : PosShare TreeShare)
    (V : Buf (Elt F) (src.view.loc (c : Thread nD τ))) (P : Buf (Elt F) (dst.view.loc (c : Thread nD τ)) → Prop) : sProp 𝕄 :=
  iprop(has c dst P ∗ (src.view.loc (c : Thread nD τ) ↦[src.view.set]{q} V))

/-- What of the source's array a copy leaves behind. -/
abbrev Rem (c : Dev nD) {s : Shape} {e : EltTy} (src : Memref sig .tc .hbm s e) (q : PosShare TreeShare)
    (V : Buf (Elt F) (src.view.loc (c : Thread nD τ))) : sProp 𝕄 :=
  (src.view.loc (c : Thread nD τ) ↦[Finset.univ \ src.view.set]{q} V)

section one
variable (c : Dev nD)

/-- Entry `i` of the list of active experts. -/
abbrev ent (arg9 : Memref sig .tc .smem S17 .i32) (i : ℕ) (hi : i + 1 ≤ 17) (f : Buf (Elt F) (arg9.view.loc (c : Thread nD τ))) : BitVec 32 :=
  (arg9.access (Rect.unit (s := S17) ![i] S1.size (fun a => match a with | 0 => hi))).read (Elt F) f (Shape.Idx.first (numel1_S1.symm ▸ Nat.one_pos))

theorem wp_ldA {α : Type} {Q : α → sProp 𝕄} (arg9 : Memref sig .tc .smem S17 .i32) (i : ℕ) (hi : i + 1 ≤ 17)
    (f : Buf (Elt F) (arg9.view.loc (c : Thread nD τ))) (k : Elt F .i32 → PP F α) :
    owned c arg9 f ⊢ iprop((owned c arg9 f -∗ WP c (k (ent (F := F) c arg9 i hi f)) Q) -∗ WP c (ldA arg9 i hi k) Q) := by
  have h := wp_load_rect (defs := defs₀ (F := F)) Variants.none (c : Thread nD τ) none Set.univ (Γ := ({} : _)) (Q := Q) (q := fullShare) (f := f) (m := arg9)
    (r := Rect.unit (s := S17) ![i] S1.size (fun a => match a with | 0 => hi)) (hl := View.loadsAt_rect (View.loads_smem_one rfl numel1_S1))
    (k := fun g => k (g (Shape.Idx.first (numel1_S1.symm ▸ Nat.one_pos)))) (View.set_slice_subset _ _)
  exact h

theorem wp_enq {α : Type} {Q : α → sProp 𝕄} {n : ℕ} {s : Shape} {e : EltTy} (src : Memref sig .tc .hbm s e) (dst : Memref sig .tc .vmem s e)
    (q : PosShare TreeShare) (V : Buf (Elt F) (src.view.loc (c : Thread nD τ))) (sm : SemLoc sig) (h1 : src.view.WordExact) (h2 : dst.view.WordExact)
    (h3 : DmaTarget.Typed (nD := nD) .hbm sm (DmaTarget.here (p := (Proc.tc : Proc τ)) dst))
    (A : Fin n → ℕ) (D : Fin n → sProp 𝕄) (j : ℕ) (hj : j < n) (hA : dst.view.amount sm = A ⟨j, hj⟩)
    (P : Buf (Elt F) (dst.view.loc (c : Thread nD τ)) → Prop)
    (hP : ∀ fd : Buf (Elt F) (dst.view.loc (c : Thread nD τ)), P (dst.view.write (Elt F) fd (src.view.read (Elt F) V) Finset.univ))
    (hD : D ⟨j, hj⟩ = Dl c src dst q V P) (k : PUnit → PP F α) :
    iprop(some' c dst ∗ (src.view.loc (c : Thread nD τ) ↦[Finset.univ]{q} V)
        ∗ MixedBatch (countersEmb (U := Pipeline.UD sig nD τ)) (c : Thread nD τ) sm () A D j 0)
      ⊢ iprop((iprop(Rem c src q V ∗ MixedBatch (countersEmb (U := Pipeline.UD sig nD τ)) (c : Thread nD τ) sm () A D (j + 1) 0) -∗ WP c (k ⟨⟩) Q)
          -∗ WP c (.op (.enqueueDma src (.here dst) sm h1 h2 h3) k) Q) := by
  iintro ⟨⟨%fd, Hd⟩, Hs, HB⟩ Hk
  ihave Hs := (pointsTo_split_subset (Finset.subset_univ src.view.set)).1 $$ Hs
  icases Hs with ⟨Hs, Hr⟩
  iapply (Transfers.wp_dmaMixedBatch (countersEmb (U := Pipeline.UD sig nD τ)) Variants.none (c : Thread nD τ) none (D := D) (fs := V) (fd := fd) (src := src) (dst := dst) () A (Finset.Subset.refl dst.view.set) hj hA (Nat.zero_le _)
    (by rw [hD]; iintro ⟨Ha, Hb⟩
        isplitl [Ha]
        · iexists _
          isplitr; · ipureintro; exact hP fd
          iexact Ha
        iexact Hb)) $$ [Hs Hd HB]
  · isplitl [Hs]; · iexact Hs
    isplitl [Hd]; · iexact Hd
    iexact HB
  iintro HB
  iapply Hk
  isplitl [Hr]; · iexact Hr
  iexact HB

theorem tok_join {s : Shape} {e : EltTy} (src : Memref sig .tc .hbm s e) (q : PosShare TreeShare) (V : Buf (Elt F) (src.view.loc (c : Thread nD τ))) :
    iprop((src.view.loc (c : Thread nD τ) ↦[src.view.set]{q} V) ∗ Rem c src q V) ⊢ (src.view.loc (c : Thread nD τ) ↦[Finset.univ]{q} V : sProp 𝕄) :=
  (pointsTo_split_subset (Finset.subset_univ src.view.set)).2

end one

theorem r0 : 0 + 1024 ≤ 4096 := by decide
theorem r1024 : 1024 + 1024 ≤ 4096 := by decide
theorem r2048 : 2048 + 1024 ≤ 4096 := by decide
theorem r3072 : 3072 + 1024 ≤ 4096 := by decide

theorem lt0 : 0 < 3 := by decide
theorem lt1 : 1 < 3 := by decide
theorem lt2 : 2 < 3 := by decide

section stages
variable (c : Dev nD)
  (arg4 : Memref sig .tc .hbm S16x4096x1024 .i8) (arg5 : Memref sig .tc .hbm S16x16x4096 .bf16) (arg6 : Memref sig .tc .hbm S16x2048x1024 .i8) (arg7 : Memref sig .tc .hbm S16x16x2048 .bf16)
  (arg9 : Memref sig .tc .smem S17 .i32)
  (arg10 : Memref sig .tc .vmem S2x4096x1024 .i8) (arg11 : Memref sig .tc .vmem S2x16x4096 .bf16) (arg12 : Memref sig .tc .vmem S2x2048x1024 .i8) (arg13 : Memref sig .tc .vmem S2x16x2048 .bf16) (arg16 : DmaSems sig S2x3)
  (V4 : Buf (Elt F) (arg4.view.loc (c : Thread nD τ))) (V5 : Buf (Elt F) (arg5.view.loc (c : Thread nD τ)))
  (V6 : Buf (Elt F) (arg6.view.loc (c : Thread nD τ))) (V7 : Buf (Elt F) (arg7.view.loc (c : Thread nD τ)))

/-- A slot's buffers hold expert `v`. -/
abbrev PS1 (b : ℕ) (hb : b < 2) (v : ℕ) : Buf (Elt F) ((slotS1 arg11 b hb).view.loc (c : Thread nD τ)) → Prop :=
  fun f => (slotS1 arg11 b hb).view.read (Elt F) f = expOf (F := F) (e := .bf16) (arg5.view.read (Elt F) V5) v
abbrev PS2 (b : ℕ) (hb : b < 2) (v : ℕ) : Buf (Elt F) ((slotS2 arg13 b hb).view.loc (c : Thread nD τ)) → Prop :=
  fun f => (slotS2 arg13 b hb).view.read (Elt F) f = expOf (F := F) (e := .bf16) (arg7.view.read (Elt F) V7) v
abbrev PW2 (b : ℕ) (hb : b < 2) (v : ℕ) : Buf (Elt F) ((slotW2 arg12 b hb).view.loc (c : Thread nD τ)) → Prop :=
  fun f => (slotW2 arg12 b hb).view.read (Elt F) f = expOf (F := F) (e := .i8) (arg6.view.read (Elt F) V6) v
abbrev PW1 (b q : ℕ) (hb : b < 2) (hq : q + 1024 ≤ 4096) (v : ℕ) : Buf (Elt F) ((rowsW1 arg10 b q hb hq).view.loc (c : Thread nD τ)) → Prop :=
  fun f => ∀ i : S4096x1024.Idx, q ≤ (i 0).val → (i 0).val < q + 1024 →
    (slotW1 arg10 b hb).view.read (Elt F) f i = expOf (F := F) (e := .i8) (arg4.view.read (Elt F) V4) v i

theorem read_srcS1 (v : ℕ) (hv : v < 16) : (srcS1 arg5 v hv).view.read (Elt F) V5 = expOf (F := F) (e := .bf16) (arg5.view.read (Elt F) V5) v := by
  funext x
  refine (congrArg (fun y => arg5.view.read (Elt F) V5 ((Rect.unit (s := S16x16x4096) ![v, 0, 0] (S1x16x4096).size (inb3 (by omega) (by omega) (by omega))).emb y))
    (Shape.reshapeEquiv_cons_one _ x)).trans (congrArg (arg5.view.read (Elt F) V5) ?_)
  funext a
  match a with
  | 0 => exact Fin.ext (by show v + 1 * 0 = v % 16; rw [Nat.mod_eq_of_lt hv]; omega)
  | 1 => exact Fin.ext (by show 0 + 1 * (x 0 : ℕ) = (x 0 : ℕ); omega)
  | 2 => exact Fin.ext (by show 0 + 1 * (x 1 : ℕ) = (x 1 : ℕ); omega)

theorem put_srcS1 (b : ℕ) (hb : b < 2) (v : ℕ) (hv : v < 16) (fd : Buf (Elt F) ((slotS1 arg11 b hb).view.loc (c : Thread nD τ))) :
    PS1 c arg5 arg11 V5 b hb v ((slotS1 arg11 b hb).view.write (Elt F) fd ((srcS1 arg5 v hv).view.read (Elt F) V5) Finset.univ) := by
  show (slotS1 arg11 b hb).view.read (Elt F) _ = _
  rw [View.read_write_univ]
  exact read_srcS1 c arg5 V5 v hv

theorem read_srcS2 (v : ℕ) (hv : v < 16) : (srcS2 arg7 v hv).view.read (Elt F) V7 = expOf (F := F) (e := .bf16) (arg7.view.read (Elt F) V7) v := by
  funext x
  refine (congrArg (fun y => arg7.view.read (Elt F) V7 ((Rect.unit (s := S16x16x2048) ![v, 0, 0] (S1x16x2048).size (inb3 (by omega) (by omega) (by omega))).emb y))
    (Shape.reshapeEquiv_cons_one _ x)).trans (congrArg (arg7.view.read (Elt F) V7) ?_)
  funext a
  match a with
  | 0 => exact Fin.ext (by show v + 1 * 0 = v % 16; rw [Nat.mod_eq_of_lt hv]; omega)
  | 1 => exact Fin.ext (by show 0 + 1 * (x 0 : ℕ) = (x 0 : ℕ); omega)
  | 2 => exact Fin.ext (by show 0 + 1 * (x 1 : ℕ) = (x 1 : ℕ); omega)

theorem put_srcS2 (b : ℕ) (hb : b < 2) (v : ℕ) (hv : v < 16) (fd : Buf (Elt F) ((slotS2 arg13 b hb).view.loc (c : Thread nD τ))) :
    PS2 c arg7 arg13 V7 b hb v ((slotS2 arg13 b hb).view.write (Elt F) fd ((srcS2 arg7 v hv).view.read (Elt F) V7) Finset.univ) := by
  show (slotS2 arg13 b hb).view.read (Elt F) _ = _
  rw [View.read_write_univ]
  exact read_srcS2 c arg7 V7 v hv

theorem read_srcW2 (v : ℕ) (hv : v < 16) : (srcW2 arg6 v hv).view.read (Elt F) V6 = expOf (F := F) (e := .i8) (arg6.view.read (Elt F) V6) v := by
  funext x
  refine (congrArg (fun y => arg6.view.read (Elt F) V6 ((Rect.unit (s := S16x2048x1024) ![v, 0, 0] (S1x2048x1024).size (inb3 (by omega) (by omega) (by omega))).emb y))
    (Shape.reshapeEquiv_cons_one _ x)).trans (congrArg (arg6.view.read (Elt F) V6) ?_)
  funext a
  match a with
  | 0 => exact Fin.ext (by show v + 1 * 0 = v % 16; rw [Nat.mod_eq_of_lt hv]; omega)
  | 1 => exact Fin.ext (by show 0 + 1 * (x 0 : ℕ) = (x 0 : ℕ); omega)
  | 2 => exact Fin.ext (by show 0 + 1 * (x 1 : ℕ) = (x 1 : ℕ); omega)

theorem put_srcW2 (b : ℕ) (hb : b < 2) (v : ℕ) (hv : v < 16) (fd : Buf (Elt F) ((slotW2 arg12 b hb).view.loc (c : Thread nD τ))) :
    PW2 c arg6 arg12 V6 b hb v ((slotW2 arg12 b hb).view.write (Elt F) fd ((srcW2 arg6 v hv).view.read (Elt F) V6) Finset.univ) := by
  show (slotW2 arg12 b hb).view.read (Elt F) _ = _
  rw [View.read_write_univ]
  exact read_srcW2 c arg6 V6 v hv

theorem read_srcW1 (v q : ℕ) (hv : v < 16) (hq : q + 1024 ≤ 4096) (i : S4096x1024.Idx) (h1 : q ≤ (i 0).val) (h2 : (i 0).val - q < 1024) :
    (srcW1 arg4 v q hv hq).view.read (Elt F) V4 (ix2 ⟨(i 0).val - q, h2⟩ (i 1)) = expOf (F := F) (e := .i8) (arg4.view.read (Elt F) V4) v i := by
  refine (congrArg (fun y => arg4.view.read (Elt F) V4 ((Rect.unit (s := S16x4096x1024) ![v, q, 0] (S1x1024x1024).size (inb3 (by omega) hq (by omega))).emb y))
    (Shape.reshapeEquiv_cons_one _ _)).trans (congrArg (arg4.view.read (Elt F) V4) ?_)
  funext a
  match a with
  | 0 => exact Fin.ext (by show v + 1 * 0 = v % 16; rw [Nat.mod_eq_of_lt hv]; omega)
  | 1 => exact Fin.ext (by show q + 1 * ((i 0).val - q) = (i 0).val; omega)
  | 2 => exact Fin.ext (by show 0 + 1 * (i 1).val = (i 1).val; omega)

theorem emb_rowsW1 (b q : ℕ) (hb : b < 2) (hq : q + 1024 ≤ 4096) (i : S4096x1024.Idx) (h1 : q ≤ (i 0).val) (h2 : (i 0).val - q < 1024) :
    (slotW1 arg10 b hb).view.emb i = (rowsW1 arg10 b q hb hq).view.emb (ix2 ⟨(i 0).val - q, h2⟩ (i 1)) := by
  refine (congrArg (fun y => arg10.view.emb ((Rect.unit (s := S2x4096x1024) ![b, 0, 0] S1x4096x1024.size (inb3 (by omega) (by omega) (by omega))).emb y))
      (Shape.reshapeEquiv_cons_one _ i)).trans (Eq.trans (congrArg arg10.view.emb ?_)
    (congrArg (fun y => arg10.view.emb ((Rect.unit (s := S2x4096x1024) ![b, q, 0] S1x1024x1024.size (inb3 (by omega) hq (by omega))).emb y))
      (Shape.reshapeEquiv_cons_one _ _)).symm)
  funext a
  match a with
  | 0 => exact Fin.ext rfl
  | 1 => exact Fin.ext (by show 0 + 1 * (i 0).val = q + 1 * ((i 0).val - q); omega)
  | 2 => exact Fin.ext rfl

theorem put_srcW1 (b q : ℕ) (hb : b < 2) (hq : q + 1024 ≤ 4096) (v : ℕ) (hv : v < 16) (fd : Buf (Elt F) ((rowsW1 arg10 b q hb hq).view.loc (c : Thread nD τ))) :
    PW1 c arg4 arg10 V4 b q hb hq v ((rowsW1 arg10 b q hb hq).view.write (Elt F) fd ((srcW1 arg4 v q hv hq).view.read (Elt F) V4) Finset.univ) := by
  intro i h1 h2
  have h3 : (i 0).val - q < 1024 := by omega
  rw [← read_srcW1 c arg4 V4 v q hv hq i h1 h3]
  rw [View.read_apply, emb_rowsW1 arg10 b q hb hq i h1 h3]
  exact congrFun (View.read_write_univ (v := (rowsW1 arg10 b q hb hq).view) fd ((srcW1 arg4 v q hv hq).view.read (Elt F) V4)) (ix2 ⟨(i 0).val - q, h3⟩ (i 1))

/-- The share of an array that copy `j` of slot `b` reads. -/
abbrev qw (b j : ℕ) : PosShare TreeShare := Transfers.shareTokN fullShare (4 * b + j)

/-- The semaphore of stage `st` of slot `b`, as a location. -/
abbrev gsem (b st : ℕ) (hb : b < 2) (hs : st < 3) : SemLoc sig := .dma (semV arg16 b st hb hs).sem

/-- Stage 0 of slot `b`: the buffers, the shares of the arrays, and the two together with the semaphore at zero. -/
def Buf0 (b : ℕ) (hb : b < 2) : sProp 𝕄 :=
  iprop(some' (F := F) c (slotS1 arg11 b hb) ∗ some' (F := F) c (rowsW1 arg10 b 0 hb r0) ∗ some' (F := F) c (rowsW1 arg10 b 2048 hb r2048))
def Tok0 (b : ℕ) : sProp 𝕄 :=
  iprop(tok c arg5 (qw b 0) V5 ∗ tok c arg4 (qw b 0) V4 ∗ tok c arg4 (qw b 1) V4)
def Idle0 (b : ℕ) (hb : b < 2) : sProp 𝕄 :=
  iprop(Buf0 (F := F) c arg10 arg11 b hb ∗ Tok0 c arg4 arg5 V4 V5 b ∗ semVal ((c : Thread nD τ), gsem arg16 b 0 hb lt0) 0)
def Has0 (b : ℕ) (hb : b < 2) (v : ℕ) : sProp 𝕄 :=
  iprop(has (F := F) c (slotS1 arg11 b hb) (PS1 c arg5 arg11 V5 b hb v) ∗ has (F := F) c (rowsW1 arg10 b 0 hb r0) (PW1 c arg4 arg10 V4 b 0 hb r0 v) ∗ has (F := F) c (rowsW1 arg10 b 2048 hb r2048) (PW1 c arg4 arg10 V4 b 2048 hb r2048 v))
def Full0 (b : ℕ) (hb : b < 2) (v : ℕ) : sProp 𝕄 :=
  iprop(Has0 (F := F) c arg4 arg5 arg10 arg11 V4 V5 b hb v ∗ Tok0 c arg4 arg5 V4 V5 b ∗ semVal ((c : Thread nD τ), gsem arg16 b 0 hb lt0) 0)
theorem Full0_idle (b : ℕ) (hb : b < 2) (v : ℕ) : Full0 (F := F) c arg4 arg5 arg10 arg11 arg16 V4 V5 b hb v ⊢ Idle0 c arg4 arg5 arg10 arg11 arg16 V4 V5 b hb := by
  unfold Full0 Has0 Idle0 Buf0
  iintro ⟨⟨H0, H1, H2⟩, HT⟩
  isplitr [HT]
  · isplitl [H0]; · iapply (has_some c (slotS1 arg11 b hb) _) $$ H0
    isplitl [H1]; · iapply (has_some c (rowsW1 arg10 b 0 hb r0) _) $$ H1
    iapply (has_some c (rowsW1 arg10 b 2048 hb r2048) _) $$ H2
  iexact HT
abbrev A0 (b : ℕ) (hb : b < 2) : Fin 3 → ℕ := ![(slotS1 arg11 b hb).view.dmaCredit, (rowsW1 arg10 b 0 hb r0).view.dmaCredit, (rowsW1 arg10 b 2048 hb r2048).view.dmaCredit]
def D0 (b : ℕ) (hb : b < 2) (v : ℕ) (hv : v < 16) : Fin 3 → sProp 𝕄
  | 0 => Dl c (srcS1 arg5 v hv) (slotS1 arg11 b hb) (qw b 0) V5 (PS1 c arg5 arg11 V5 b hb v)
  | 1 => Dl c (srcW1 arg4 v 0 hv r0) (rowsW1 arg10 b 0 hb r0) (qw b 0) V4 (PW1 c arg4 arg10 V4 b 0 hb r0 v)
  | 2 => Dl c (srcW1 arg4 v 2048 hv r2048) (rowsW1 arg10 b 2048 hb r2048) (qw b 1) V4 (PW1 c arg4 arg10 V4 b 2048 hb r2048 v)
instance D0_storable (b : ℕ) (hb : b < 2) (v : ℕ) (hv : v < 16) (t : Fin 3) : Storable (upEmb : UEmb _ 𝕄) (D0 c arg4 arg5 arg10 arg11 V4 V5 b hb v hv t) := by
  fin_cases t <;> simp only [D0] <;> infer_instance
/-- Stage 0 of slot `b` in flight, for expert `v`. -/
def Fly0 (b : ℕ) (hb : b < 2) (v : ℕ) : sProp 𝕄 :=
  iprop(∃ hv : v < 16, MixedBatch (countersEmb (U := Pipeline.UD sig nD τ)) (c : Thread nD τ) (gsem arg16 b 0 hb lt0) () (A0 arg10 arg11 b hb) (D0 c arg4 arg5 arg10 arg11 V4 V5 b hb v hv) 3 0
    ∗ Rem c (srcS1 arg5 v hv) (qw b 0) V5
    ∗ Rem c (srcW1 arg4 v 0 hv r0) (qw b 0) V4
    ∗ Rem c (srcW1 arg4 v 2048 hv r2048) (qw b 1) V4)

theorem wp_start0 {α : Type} {Q : α → sProp 𝕄} (harg4 : arg4.IsWhole) (harg5 : arg5.IsWhole) (harg10 : arg10.IsWhole) (harg11 : arg11.IsWhole)
    (i : ℕ) (hi : i + 1 ≤ 17) (b : ℕ) (hb : b < 2) {C : BitVec 32 → Prop} (ck : Chk C) (hC : ∀ v : BitVec 32, v.toNat < 16 → C v)
    (f : Buf (Elt F) (arg9.view.loc (c : Thread nD τ))) (hf : (ent (F := F) c arg9 i hi f).toNat < 16) (k : PP F α) :
    iprop(owned c arg9 f ∗ Idle0 c arg4 arg5 arg10 arg11 arg16 V4 V5 b hb)
      ⊢ iprop((iprop(owned c arg9 f ∗ Fly0 c arg4 arg5 arg10 arg11 arg16 V4 V5 b hb (ent (F := F) c arg9 i hi f).toNat) -∗ WP c k Q) -∗ WP c (start0 arg4 arg5 arg9 arg10 arg11 arg16 harg4 harg5 harg10 harg11 i hi b hb ck k) Q) := by
  unfold Idle0 Buf0 Tok0
  iintro ⟨H9, ⟨B0, B1, B2⟩, ⟨T0, T1, T2⟩, Hs⟩ Hk
  unfold start0
  iapply (wp_ldA c arg9 i hi f) $$ H9
  iintro H9
  iapply (wp_assume _ _ _ _ (hC _ hf))
  imod (Transfers.mixedBatch_alloc' (countersEmb (U := Pipeline.UD sig nD τ)) (c : Thread nD τ) (sm := gsem arg16 b 0 hb lt0) () (A0 arg10 arg11 b hb) (D0 c arg4 arg5 arg10 arg11 V4 V5 b hb (ent (F := F) c arg9 i hi f).toNat hf)) $$ Hs with HB
  iapply (wp_enq c (srcS1 arg5 (ent (F := F) c arg9 i hi f).toNat hf) (slotS1 arg11 b hb) (qw b 0) V5 _ _ _ _ (A0 arg10 arg11 b hb) (D0 c arg4 arg5 arg10 arg11 V4 V5 b hb (ent (F := F) c arg9 i hi f).toNat hf) 0 (by decide) rfl (PS1 c arg5 arg11 V5 b hb (ent (F := F) c arg9 i hi f).toNat) (put_srcS1 c arg5 arg11 V5 b hb _ hf) rfl) $$ [B0 T0 HB]
  · isplitl [B0]; · iexact B0
    isplitl [T0]; · iexact T0
    iexact HB
  iintro ⟨R0, HB⟩
  iapply (wp_enq c (srcW1 arg4 (ent (F := F) c arg9 i hi f).toNat 0 hf r0) (rowsW1 arg10 b 0 hb r0) (qw b 0) V4 _ _ _ _ (A0 arg10 arg11 b hb) (D0 c arg4 arg5 arg10 arg11 V4 V5 b hb (ent (F := F) c arg9 i hi f).toNat hf) 1 (by decide) rfl (PW1 c arg4 arg10 V4 b 0 hb r0 (ent (F := F) c arg9 i hi f).toNat) (put_srcW1 c arg4 arg10 V4 b 0 hb r0 _ hf) rfl) $$ [B1 T1 HB]
  · isplitl [B1]; · iexact B1
    isplitl [T1]; · iexact T1
    iexact HB
  iintro ⟨R1, HB⟩
  iapply (wp_enq c (srcW1 arg4 (ent (F := F) c arg9 i hi f).toNat 2048 hf r2048) (rowsW1 arg10 b 2048 hb r2048) (qw b 1) V4 _ _ _ _ (A0 arg10 arg11 b hb) (D0 c arg4 arg5 arg10 arg11 V4 V5 b hb (ent (F := F) c arg9 i hi f).toNat hf) 2 (by decide) rfl (PW1 c arg4 arg10 V4 b 2048 hb r2048 (ent (F := F) c arg9 i hi f).toNat) (put_srcW1 c arg4 arg10 V4 b 2048 hb r2048 _ hf) rfl) $$ [B2 T2 HB]
  · isplitl [B2]; · iexact B2
    isplitl [T2]; · iexact T2
    iexact HB
  iintro ⟨R2, HB⟩
  iapply Hk
  isplitl [H9]; · iexact H9
  unfold Fly0
  iexists hf
  isplitl [HB]; · iexact HB
  isplitl [R0]; · iexact R0
  isplitl [R1]; · iexact R1
  iexact R2

theorem wp_wait0 {α : Type} {Q : α → sProp 𝕄} (harg4 : arg4.IsWhole) (harg5 : arg5.IsWhole) (harg10 : arg10.IsWhole) (harg11 : arg11.IsWhole)
    (i : ℕ) (hi : i + 1 ≤ 17) (b : ℕ) (hb : b < 2) {C : BitVec 32 → Prop} (ck : Chk C) (hC : ∀ v : BitVec 32, v.toNat < 16 → C v)
    (f : Buf (Elt F) (arg9.view.loc (c : Thread nD τ))) (hf : (ent (F := F) c arg9 i hi f).toNat < 16) (v : ℕ) (k : PP F α) :
    iprop(owned c arg9 f ∗ Fly0 c arg4 arg5 arg10 arg11 arg16 V4 V5 b hb v ∗ (∃ W, owes (c : Thread nD τ) 0 W))
      ⊢ iprop((iprop(owned c arg9 f ∗ Full0 c arg4 arg5 arg10 arg11 arg16 V4 V5 b hb v ∗ (∃ W, owes (c : Thread nD τ) 0 W)) -∗ WP c k Q) -∗ WP c (wait0 arg4 arg5 arg9 arg10 arg11 arg16 harg4 harg5 harg10 harg11 i hi b hb ck k) Q) := by
  unfold Fly0
  iintro ⟨H9, ⟨%hv, HB, R0, R1, R2⟩, ⟨%W, HW⟩⟩ Hk
  unfold wait0
  iapply (wp_ldA c arg9 i hi f) $$ H9
  iintro H9
  iapply (wp_assume _ _ _ _ (hC _ hf))
  have hs : sumTo (A0 arg10 arg11 b hb) 3 = (slotS1 arg11 b hb).view.dmaCredit + (rowsW1 arg10 b 0 hb r0).view.dmaCredit + (rowsW1 arg10 b 2048 hb r2048).view.dmaCredit := by
    rw [Transfers.sumTo_succ _ (show 2 < 3 by decide), Transfers.sumTo_succ _ (show 1 < 3 by decide), Transfers.sumTo_succ _ (show 0 < 3 by decide), Transfers.sumTo_zero, Nat.zero_add]; rfl
  iapply (Transfers.wp_waitMixedBatch (countersEmb (U := Pipeline.UD sig nD τ)) Variants.none (c : Thread nD τ) none () (A := A0 arg10 arg11 b hb) (D := (D0 c arg4 arg5 arg10 arg11 V4 V5 b hb v hv)) (j := 3) (u := 0) (J := (slotS1 arg11 b hb).view.dmaCredit) rfl (by rw [hs]; omega)) $$ [HB HW]
  · isplitl [HB]; · iexact HB
    iexact HW
  iintro ⟨HB, HW⟩
  iapply (Transfers.wp_waitMixedBatch (countersEmb (U := Pipeline.UD sig nD τ)) Variants.none (c : Thread nD τ) none () (A := A0 arg10 arg11 b hb) (D := (D0 c arg4 arg5 arg10 arg11 V4 V5 b hb v hv)) (j := 3) (u := 0 + (slotS1 arg11 b hb).view.dmaCredit) (J := (rowsW1 arg10 b 0 hb r0).view.dmaCredit) rfl (by rw [hs]; omega)) $$ [HB HW]
  · isplitl [HB]; · iexact HB
    iexact HW
  iintro ⟨HB, HW⟩
  iapply (Transfers.wp_waitMixedBatchAll (countersEmb (U := Pipeline.UD sig nD τ)) Variants.none (c : Thread nD τ) none () (A := A0 arg10 arg11 b hb) (D := (D0 c arg4 arg5 arg10 arg11 V4 V5 b hb v hv)) (u := 0 + (slotS1 arg11 b hb).view.dmaCredit + (rowsW1 arg10 b 0 hb r0).view.dmaCredit) (J := (rowsW1 arg10 b 2048 hb r2048).view.dmaCredit) rfl
    (by intro t; fin_cases t <;> exact View.dmaCredit_pos _ (by decide +kernel)) (by rw [hs]; omega)) $$ [HB HW]
  · isplitl [HB]; · iexact HB
    iexact HW
  iintro ⟨HD, Hs, HW⟩
  ihave HD := (Entails.of_eq (show bigSep Finset.univ (D0 c arg4 arg5 arg10 arg11 V4 V5 b hb v hv) = iprop(Dl c (srcS1 arg5 v hv) (slotS1 arg11 b hb) (qw b 0) V5 (PS1 c arg5 arg11 V5 b hb v) ∗ Dl c (srcW1 arg4 v 0 hv r0) (rowsW1 arg10 b 0 hb r0) (qw b 0) V4 (PW1 c arg4 arg10 V4 b 0 hb r0 v) ∗ Dl c (srcW1 arg4 v 2048 hv r2048) (rowsW1 arg10 b 2048 hb r2048) (qw b 1) V4 (PW1 c arg4 arg10 V4 b 2048 hb r2048 v)) by
    rw [BI.bigSep_eq_bigSepL_of_eq [0, 1, 2] (by decide) (by decide)]; rfl)) $$ HD
  icases HD with ⟨⟨B0, S0⟩, ⟨B1, S1⟩, ⟨B2, S2⟩⟩
  ihave T0 := (tok_join c (srcS1 arg5 v hv) (qw b 0) V5) $$ [S0 R0]
  · isplitl [S0] <;> iassumption
  ihave T1 := (tok_join c (srcW1 arg4 v 0 hv r0) (qw b 0) V4) $$ [S1 R1]
  · isplitl [S1] <;> iassumption
  ihave T2 := (tok_join c (srcW1 arg4 v 2048 hv r2048) (qw b 1) V4) $$ [S2 R2]
  · isplitl [S2] <;> iassumption
  iapply Hk
  isplitl [H9]; · iexact H9
  isplitr [HW]
  · unfold Full0 Has0 Tok0
    isplitl [B0 B1 B2]
    · isplitl [B0]; · iexact B0
      isplitl [B1]; · iexact B1
      iexact B2
    isplitl [T0 T1 T2]
    · isplitl [T0]; · iexact T0
      isplitl [T1]; · iexact T1
      iexact T2
    iexact Hs
  iexists _; iexact HW

/-- Stage 1 of slot `b`: the buffers, the shares of the arrays, and the two together with the semaphore at zero. -/
def Buf1 (b : ℕ) (hb : b < 2) : sProp 𝕄 :=
  iprop(some' (F := F) c (rowsW1 arg10 b 1024 hb r1024) ∗ some' (F := F) c (rowsW1 arg10 b 3072 hb r3072))
def Tok1 (b : ℕ) : sProp 𝕄 :=
  iprop(tok c arg4 (qw b 2) V4 ∗ tok c arg4 (qw b 3) V4)
def Idle1 (b : ℕ) (hb : b < 2) : sProp 𝕄 :=
  iprop(Buf1 (F := F) c arg10 b hb ∗ Tok1 c arg4 V4 b ∗ semVal ((c : Thread nD τ), gsem arg16 b 1 hb lt1) 0)
def Has1 (b : ℕ) (hb : b < 2) (v : ℕ) : sProp 𝕄 :=
  iprop(has (F := F) c (rowsW1 arg10 b 1024 hb r1024) (PW1 c arg4 arg10 V4 b 1024 hb r1024 v) ∗ has (F := F) c (rowsW1 arg10 b 3072 hb r3072) (PW1 c arg4 arg10 V4 b 3072 hb r3072 v))
def Full1 (b : ℕ) (hb : b < 2) (v : ℕ) : sProp 𝕄 :=
  iprop(Has1 (F := F) c arg4 arg10 V4 b hb v ∗ Tok1 c arg4 V4 b ∗ semVal ((c : Thread nD τ), gsem arg16 b 1 hb lt1) 0)
theorem Full1_idle (b : ℕ) (hb : b < 2) (v : ℕ) : Full1 (F := F) c arg4 arg10 arg16 V4 b hb v ⊢ Idle1 c arg4 arg10 arg16 V4 b hb := by
  unfold Full1 Has1 Idle1 Buf1
  iintro ⟨⟨H0, H1⟩, HT⟩
  isplitr [HT]
  · isplitl [H0]; · iapply (has_some c (rowsW1 arg10 b 1024 hb r1024) _) $$ H0
    iapply (has_some c (rowsW1 arg10 b 3072 hb r3072) _) $$ H1
  iexact HT
abbrev A1 (b : ℕ) (hb : b < 2) : Fin 2 → ℕ := ![(rowsW1 arg10 b 1024 hb r1024).view.dmaCredit, (rowsW1 arg10 b 3072 hb r3072).view.dmaCredit]
def D1 (b : ℕ) (hb : b < 2) (v : ℕ) (hv : v < 16) : Fin 2 → sProp 𝕄
  | 0 => Dl c (srcW1 arg4 v 1024 hv r1024) (rowsW1 arg10 b 1024 hb r1024) (qw b 2) V4 (PW1 c arg4 arg10 V4 b 1024 hb r1024 v)
  | 1 => Dl c (srcW1 arg4 v 3072 hv r3072) (rowsW1 arg10 b 3072 hb r3072) (qw b 3) V4 (PW1 c arg4 arg10 V4 b 3072 hb r3072 v)
instance D1_storable (b : ℕ) (hb : b < 2) (v : ℕ) (hv : v < 16) (t : Fin 2) : Storable (upEmb : UEmb _ 𝕄) (D1 c arg4 arg10 V4 b hb v hv t) := by
  fin_cases t <;> simp only [D1] <;> infer_instance
/-- Stage 1 of slot `b` in flight, for expert `v`. -/
def Fly1 (b : ℕ) (hb : b < 2) (v : ℕ) : sProp 𝕄 :=
  iprop(∃ hv : v < 16, MixedBatch (countersEmb (U := Pipeline.UD sig nD τ)) (c : Thread nD τ) (gsem arg16 b 1 hb lt1) () (A1 arg10 b hb) (D1 c arg4 arg10 V4 b hb v hv) 2 0
    ∗ Rem c (srcW1 arg4 v 1024 hv r1024) (qw b 2) V4
    ∗ Rem c (srcW1 arg4 v 3072 hv r3072) (qw b 3) V4)

theorem wp_start1 {α : Type} {Q : α → sProp 𝕄} (harg4 : arg4.IsWhole) (harg10 : arg10.IsWhole)
    (i : ℕ) (hi : i + 1 ≤ 17) (b : ℕ) (hb : b < 2) {C : BitVec 32 → Prop} (ck : Chk C) (hC : ∀ v : BitVec 32, v.toNat < 16 → C v)
    (f : Buf (Elt F) (arg9.view.loc (c : Thread nD τ))) (hf : (ent (F := F) c arg9 i hi f).toNat < 16) (k : PP F α) :
    iprop(owned c arg9 f ∗ Idle1 c arg4 arg10 arg16 V4 b hb)
      ⊢ iprop((iprop(owned c arg9 f ∗ Fly1 c arg4 arg10 arg16 V4 b hb (ent (F := F) c arg9 i hi f).toNat) -∗ WP c k Q) -∗ WP c (start1 arg4 arg9 arg10 arg16 harg4 harg10 i hi b hb ck k) Q) := by
  unfold Idle1 Buf1 Tok1
  iintro ⟨H9, ⟨B0, B1⟩, ⟨T0, T1⟩, Hs⟩ Hk
  unfold start1
  iapply (wp_ldA c arg9 i hi f) $$ H9
  iintro H9
  iapply (wp_assume _ _ _ _ (hC _ hf))
  imod (Transfers.mixedBatch_alloc' (countersEmb (U := Pipeline.UD sig nD τ)) (c : Thread nD τ) (sm := gsem arg16 b 1 hb lt1) () (A1 arg10 b hb) (D1 c arg4 arg10 V4 b hb (ent (F := F) c arg9 i hi f).toNat hf)) $$ Hs with HB
  iapply (wp_enq c (srcW1 arg4 (ent (F := F) c arg9 i hi f).toNat 1024 hf r1024) (rowsW1 arg10 b 1024 hb r1024) (qw b 2) V4 _ _ _ _ (A1 arg10 b hb) (D1 c arg4 arg10 V4 b hb (ent (F := F) c arg9 i hi f).toNat hf) 0 (by decide) rfl (PW1 c arg4 arg10 V4 b 1024 hb r1024 (ent (F := F) c arg9 i hi f).toNat) (put_srcW1 c arg4 arg10 V4 b 1024 hb r1024 _ hf) rfl) $$ [B0 T0 HB]
  · isplitl [B0]; · iexact B0
    isplitl [T0]; · iexact T0
    iexact HB
  iintro ⟨R0, HB⟩
  iapply (wp_enq c (srcW1 arg4 (ent (F := F) c arg9 i hi f).toNat 3072 hf r3072) (rowsW1 arg10 b 3072 hb r3072) (qw b 3) V4 _ _ _ _ (A1 arg10 b hb) (D1 c arg4 arg10 V4 b hb (ent (F := F) c arg9 i hi f).toNat hf) 1 (by decide) rfl (PW1 c arg4 arg10 V4 b 3072 hb r3072 (ent (F := F) c arg9 i hi f).toNat) (put_srcW1 c arg4 arg10 V4 b 3072 hb r3072 _ hf) rfl) $$ [B1 T1 HB]
  · isplitl [B1]; · iexact B1
    isplitl [T1]; · iexact T1
    iexact HB
  iintro ⟨R1, HB⟩
  iapply Hk
  isplitl [H9]; · iexact H9
  unfold Fly1
  iexists hf
  isplitl [HB]; · iexact HB
  isplitl [R0]; · iexact R0
  iexact R1

theorem wp_wait1 {α : Type} {Q : α → sProp 𝕄} (harg4 : arg4.IsWhole) (harg10 : arg10.IsWhole)
    (i : ℕ) (hi : i + 1 ≤ 17) (b : ℕ) (hb : b < 2) {C : BitVec 32 → Prop} (ck : Chk C) (hC : ∀ v : BitVec 32, v.toNat < 16 → C v)
    (f : Buf (Elt F) (arg9.view.loc (c : Thread nD τ))) (hf : (ent (F := F) c arg9 i hi f).toNat < 16) (v : ℕ) (k : PP F α) :
    iprop(owned c arg9 f ∗ Fly1 c arg4 arg10 arg16 V4 b hb v ∗ (∃ W, owes (c : Thread nD τ) 0 W))
      ⊢ iprop((iprop(owned c arg9 f ∗ Full1 c arg4 arg10 arg16 V4 b hb v ∗ (∃ W, owes (c : Thread nD τ) 0 W)) -∗ WP c k Q) -∗ WP c (wait1 arg4 arg9 arg10 arg16 harg4 harg10 i hi b hb ck k) Q) := by
  unfold Fly1
  iintro ⟨H9, ⟨%hv, HB, R0, R1⟩, ⟨%W, HW⟩⟩ Hk
  unfold wait1
  iapply (wp_ldA c arg9 i hi f) $$ H9
  iintro H9
  iapply (wp_assume _ _ _ _ (hC _ hf))
  have hs : sumTo (A1 arg10 b hb) 2 = (rowsW1 arg10 b 1024 hb r1024).view.dmaCredit + (rowsW1 arg10 b 3072 hb r3072).view.dmaCredit := by
    rw [Transfers.sumTo_succ _ (show 1 < 2 by decide), Transfers.sumTo_succ _ (show 0 < 2 by decide), Transfers.sumTo_zero, Nat.zero_add]; rfl
  iapply (Transfers.wp_waitMixedBatch (countersEmb (U := Pipeline.UD sig nD τ)) Variants.none (c : Thread nD τ) none () (A := A1 arg10 b hb) (D := (D1 c arg4 arg10 V4 b hb v hv)) (j := 2) (u := 0) (J := (rowsW1 arg10 b 1024 hb r1024).view.dmaCredit) rfl (by rw [hs]; omega)) $$ [HB HW]
  · isplitl [HB]; · iexact HB
    iexact HW
  iintro ⟨HB, HW⟩
  iapply (Transfers.wp_waitMixedBatchAll (countersEmb (U := Pipeline.UD sig nD τ)) Variants.none (c : Thread nD τ) none () (A := A1 arg10 b hb) (D := (D1 c arg4 arg10 V4 b hb v hv)) (u := 0 + (rowsW1 arg10 b 1024 hb r1024).view.dmaCredit) (J := (rowsW1 arg10 b 3072 hb r3072).view.dmaCredit) rfl
    (by intro t; fin_cases t <;> exact View.dmaCredit_pos _ (by decide +kernel)) (by rw [hs]; omega)) $$ [HB HW]
  · isplitl [HB]; · iexact HB
    iexact HW
  iintro ⟨HD, Hs, HW⟩
  ihave HD := (Entails.of_eq (show bigSep Finset.univ (D1 c arg4 arg10 V4 b hb v hv) = iprop(Dl c (srcW1 arg4 v 1024 hv r1024) (rowsW1 arg10 b 1024 hb r1024) (qw b 2) V4 (PW1 c arg4 arg10 V4 b 1024 hb r1024 v) ∗ Dl c (srcW1 arg4 v 3072 hv r3072) (rowsW1 arg10 b 3072 hb r3072) (qw b 3) V4 (PW1 c arg4 arg10 V4 b 3072 hb r3072 v)) by
    rw [BI.bigSep_eq_bigSepL_of_eq [0, 1] (by decide) (by decide)]; rfl)) $$ HD
  icases HD with ⟨⟨B0, S0⟩, ⟨B1, S1⟩⟩
  ihave T0 := (tok_join c (srcW1 arg4 v 1024 hv r1024) (qw b 2) V4) $$ [S0 R0]
  · isplitl [S0] <;> iassumption
  ihave T1 := (tok_join c (srcW1 arg4 v 3072 hv r3072) (qw b 3) V4) $$ [S1 R1]
  · isplitl [S1] <;> iassumption
  iapply Hk
  isplitl [H9]; · iexact H9
  isplitr [HW]
  · unfold Full1 Has1 Tok1
    isplitl [B0 B1]
    · isplitl [B0]; · iexact B0
      iexact B1
    isplitl [T0 T1]
    · isplitl [T0]; · iexact T0
      iexact T1
    iexact Hs
  iexists _; iexact HW

/-- Stage 2 of slot `b`: the buffers, the shares of the arrays, and the two together with the semaphore at zero. -/
def Buf2 (b : ℕ) (hb : b < 2) : sProp 𝕄 :=
  iprop(some' (F := F) c (slotS2 arg13 b hb) ∗ some' (F := F) c (slotW2 arg12 b hb))
def Tok2 (b : ℕ) : sProp 𝕄 :=
  iprop(tok c arg7 (qw b 0) V7 ∗ tok c arg6 (qw b 0) V6)
def Idle2 (b : ℕ) (hb : b < 2) : sProp 𝕄 :=
  iprop(Buf2 (F := F) c arg12 arg13 b hb ∗ Tok2 c arg6 arg7 V6 V7 b ∗ semVal ((c : Thread nD τ), gsem arg16 b 2 hb lt2) 0)
def Has2 (b : ℕ) (hb : b < 2) (v : ℕ) : sProp 𝕄 :=
  iprop(has (F := F) c (slotS2 arg13 b hb) (PS2 c arg7 arg13 V7 b hb v) ∗ has (F := F) c (slotW2 arg12 b hb) (PW2 c arg6 arg12 V6 b hb v))
def Full2 (b : ℕ) (hb : b < 2) (v : ℕ) : sProp 𝕄 :=
  iprop(Has2 (F := F) c arg6 arg7 arg12 arg13 V6 V7 b hb v ∗ Tok2 c arg6 arg7 V6 V7 b ∗ semVal ((c : Thread nD τ), gsem arg16 b 2 hb lt2) 0)
theorem Full2_idle (b : ℕ) (hb : b < 2) (v : ℕ) : Full2 (F := F) c arg6 arg7 arg12 arg13 arg16 V6 V7 b hb v ⊢ Idle2 c arg6 arg7 arg12 arg13 arg16 V6 V7 b hb := by
  unfold Full2 Has2 Idle2 Buf2
  iintro ⟨⟨H0, H1⟩, HT⟩
  isplitr [HT]
  · isplitl [H0]; · iapply (has_some c (slotS2 arg13 b hb) _) $$ H0
    iapply (has_some c (slotW2 arg12 b hb) _) $$ H1
  iexact HT
abbrev A2 (b : ℕ) (hb : b < 2) : Fin 2 → ℕ := ![(slotS2 arg13 b hb).view.dmaCredit, (slotW2 arg12 b hb).view.dmaCredit]
def D2 (b : ℕ) (hb : b < 2) (v : ℕ) (hv : v < 16) : Fin 2 → sProp 𝕄
  | 0 => Dl c (srcS2 arg7 v hv) (slotS2 arg13 b hb) (qw b 0) V7 (PS2 c arg7 arg13 V7 b hb v)
  | 1 => Dl c (srcW2 arg6 v hv) (slotW2 arg12 b hb) (qw b 0) V6 (PW2 c arg6 arg12 V6 b hb v)
instance D2_storable (b : ℕ) (hb : b < 2) (v : ℕ) (hv : v < 16) (t : Fin 2) : Storable (upEmb : UEmb _ 𝕄) (D2 c arg6 arg7 arg12 arg13 V6 V7 b hb v hv t) := by
  fin_cases t <;> simp only [D2] <;> infer_instance
/-- Stage 2 of slot `b` in flight, for expert `v`. -/
def Fly2 (b : ℕ) (hb : b < 2) (v : ℕ) : sProp 𝕄 :=
  iprop(∃ hv : v < 16, MixedBatch (countersEmb (U := Pipeline.UD sig nD τ)) (c : Thread nD τ) (gsem arg16 b 2 hb lt2) () (A2 arg12 arg13 b hb) (D2 c arg6 arg7 arg12 arg13 V6 V7 b hb v hv) 2 0
    ∗ Rem c (srcS2 arg7 v hv) (qw b 0) V7
    ∗ Rem c (srcW2 arg6 v hv) (qw b 0) V6)

theorem wp_start2 {α : Type} {Q : α → sProp 𝕄} (harg6 : arg6.IsWhole) (harg7 : arg7.IsWhole) (harg12 : arg12.IsWhole) (harg13 : arg13.IsWhole)
    (i : ℕ) (hi : i + 1 ≤ 17) (b : ℕ) (hb : b < 2) {C : BitVec 32 → Prop} (ck : Chk C) (hC : ∀ v : BitVec 32, v.toNat < 16 → C v)
    (f : Buf (Elt F) (arg9.view.loc (c : Thread nD τ))) (hf : (ent (F := F) c arg9 i hi f).toNat < 16) (k : PP F α) :
    iprop(owned c arg9 f ∗ Idle2 c arg6 arg7 arg12 arg13 arg16 V6 V7 b hb)
      ⊢ iprop((iprop(owned c arg9 f ∗ Fly2 c arg6 arg7 arg12 arg13 arg16 V6 V7 b hb (ent (F := F) c arg9 i hi f).toNat) -∗ WP c k Q) -∗ WP c (start2 arg6 arg7 arg9 arg12 arg13 arg16 harg6 harg7 harg12 harg13 i hi b hb ck k) Q) := by
  unfold Idle2 Buf2 Tok2
  iintro ⟨H9, ⟨B0, B1⟩, ⟨T0, T1⟩, Hs⟩ Hk
  unfold start2
  iapply (wp_ldA c arg9 i hi f) $$ H9
  iintro H9
  iapply (wp_assume _ _ _ _ (hC _ hf))
  imod (Transfers.mixedBatch_alloc' (countersEmb (U := Pipeline.UD sig nD τ)) (c : Thread nD τ) (sm := gsem arg16 b 2 hb lt2) () (A2 arg12 arg13 b hb) (D2 c arg6 arg7 arg12 arg13 V6 V7 b hb (ent (F := F) c arg9 i hi f).toNat hf)) $$ Hs with HB
  iapply (wp_enq c (srcS2 arg7 (ent (F := F) c arg9 i hi f).toNat hf) (slotS2 arg13 b hb) (qw b 0) V7 _ _ _ _ (A2 arg12 arg13 b hb) (D2 c arg6 arg7 arg12 arg13 V6 V7 b hb (ent (F := F) c arg9 i hi f).toNat hf) 0 (by decide) rfl (PS2 c arg7 arg13 V7 b hb (ent (F := F) c arg9 i hi f).toNat) (put_srcS2 c arg7 arg13 V7 b hb _ hf) rfl) $$ [B0 T0 HB]
  · isplitl [B0]; · iexact B0
    isplitl [T0]; · iexact T0
    iexact HB
  iintro ⟨R0, HB⟩
  iapply (wp_enq c (srcW2 arg6 (ent (F := F) c arg9 i hi f).toNat hf) (slotW2 arg12 b hb) (qw b 0) V6 _ _ _ _ (A2 arg12 arg13 b hb) (D2 c arg6 arg7 arg12 arg13 V6 V7 b hb (ent (F := F) c arg9 i hi f).toNat hf) 1 (by decide) rfl (PW2 c arg6 arg12 V6 b hb (ent (F := F) c arg9 i hi f).toNat) (put_srcW2 c arg6 arg12 V6 b hb _ hf) rfl) $$ [B1 T1 HB]
  · isplitl [B1]; · iexact B1
    isplitl [T1]; · iexact T1
    iexact HB
  iintro ⟨R1, HB⟩
  iapply Hk
  isplitl [H9]; · iexact H9
  unfold Fly2
  iexists hf
  isplitl [HB]; · iexact HB
  isplitl [R0]; · iexact R0
  iexact R1

theorem wp_wait2 {α : Type} {Q : α → sProp 𝕄} (harg6 : arg6.IsWhole) (harg7 : arg7.IsWhole) (harg12 : arg12.IsWhole) (harg13 : arg13.IsWhole)
    (i : ℕ) (hi : i + 1 ≤ 17) (b : ℕ) (hb : b < 2) {C : BitVec 32 → Prop} (ck : Chk C) (hC : ∀ v : BitVec 32, v.toNat < 16 → C v)
    (f : Buf (Elt F) (arg9.view.loc (c : Thread nD τ))) (hf : (ent (F := F) c arg9 i hi f).toNat < 16) (v : ℕ) (k : PP F α) :
    iprop(owned c arg9 f ∗ Fly2 c arg6 arg7 arg12 arg13 arg16 V6 V7 b hb v ∗ (∃ W, owes (c : Thread nD τ) 0 W))
      ⊢ iprop((iprop(owned c arg9 f ∗ Full2 c arg6 arg7 arg12 arg13 arg16 V6 V7 b hb v ∗ (∃ W, owes (c : Thread nD τ) 0 W)) -∗ WP c k Q) -∗ WP c (wait2 arg6 arg7 arg9 arg12 arg13 arg16 harg6 harg7 harg12 harg13 i hi b hb ck k) Q) := by
  unfold Fly2
  iintro ⟨H9, ⟨%hv, HB, R0, R1⟩, ⟨%W, HW⟩⟩ Hk
  unfold wait2
  iapply (wp_ldA c arg9 i hi f) $$ H9
  iintro H9
  iapply (wp_assume _ _ _ _ (hC _ hf))
  have hs : sumTo (A2 arg12 arg13 b hb) 2 = (slotS2 arg13 b hb).view.dmaCredit + (slotW2 arg12 b hb).view.dmaCredit := by
    rw [Transfers.sumTo_succ _ (show 1 < 2 by decide), Transfers.sumTo_succ _ (show 0 < 2 by decide), Transfers.sumTo_zero, Nat.zero_add]; rfl
  iapply (Transfers.wp_waitMixedBatch (countersEmb (U := Pipeline.UD sig nD τ)) Variants.none (c : Thread nD τ) none () (A := A2 arg12 arg13 b hb) (D := (D2 c arg6 arg7 arg12 arg13 V6 V7 b hb v hv)) (j := 2) (u := 0) (J := (slotS2 arg13 b hb).view.dmaCredit) rfl (by rw [hs]; omega)) $$ [HB HW]
  · isplitl [HB]; · iexact HB
    iexact HW
  iintro ⟨HB, HW⟩
  iapply (Transfers.wp_waitMixedBatchAll (countersEmb (U := Pipeline.UD sig nD τ)) Variants.none (c : Thread nD τ) none () (A := A2 arg12 arg13 b hb) (D := (D2 c arg6 arg7 arg12 arg13 V6 V7 b hb v hv)) (u := 0 + (slotS2 arg13 b hb).view.dmaCredit) (J := (slotW2 arg12 b hb).view.dmaCredit) rfl
    (by intro t; fin_cases t <;> exact View.dmaCredit_pos _ (by decide +kernel)) (by rw [hs]; omega)) $$ [HB HW]
  · isplitl [HB]; · iexact HB
    iexact HW
  iintro ⟨HD, Hs, HW⟩
  ihave HD := (Entails.of_eq (show bigSep Finset.univ (D2 c arg6 arg7 arg12 arg13 V6 V7 b hb v hv) = iprop(Dl c (srcS2 arg7 v hv) (slotS2 arg13 b hb) (qw b 0) V7 (PS2 c arg7 arg13 V7 b hb v) ∗ Dl c (srcW2 arg6 v hv) (slotW2 arg12 b hb) (qw b 0) V6 (PW2 c arg6 arg12 V6 b hb v)) by
    rw [BI.bigSep_eq_bigSepL_of_eq [0, 1] (by decide) (by decide)]; rfl)) $$ HD
  icases HD with ⟨⟨B0, S0⟩, ⟨B1, S1⟩⟩
  ihave T0 := (tok_join c (srcS2 arg7 v hv) (qw b 0) V7) $$ [S0 R0]
  · isplitl [S0] <;> iassumption
  ihave T1 := (tok_join c (srcW2 arg6 v hv) (qw b 0) V6) $$ [S1 R1]
  · isplitl [S1] <;> iassumption
  iapply Hk
  isplitl [H9]; · iexact H9
  isplitr [HW]
  · unfold Full2 Has2 Tok2
    isplitl [B0 B1]
    · isplitl [B0]; · iexact B0
      iexact B1
    isplitl [T0 T1]
    · isplitl [T0]; · iexact T0
      iexact T1
    iexact Hs
  iexists _; iexact HW

end stages

end Cert.Kernel.Gen
-- ==== Proof.Tiles.lean ====
/- The tile products of the kernel on the memory they own. -/
module

public import proofs.«01_k».proof.Proof.Steps
public import proofs.«01_k».proof.Proof.Gen.Kernel.Launch
public import Idealize.ShloMosaic.Lib.Pipeline.FrameBody
public import Idealize.ShloMosaic.Lib.MixedBatch
public import Idealize.ShloMosaic.Lib.Ring
public import Idealize.ShloMosaic.Lib.Tactic

@[expose] public section

set_option maxRecDepth 65536

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers (MixedBatch sumTo)
open Idealize.ShloMosaic.ValueIdx

variable {F : FTy → Type} [FloatOps F]

local notation "𝕄" => MT nD τ sig Unit (Elt F) ℕ (Pipeline.UD sig nD τ) ℕ

section
variable (c : Dev nD)

/-- Some share of a memref's elements, holding something with the property `P`. -/
abbrev ro (c : Dev nD) {sp : Space} {s : Shape} {e : EltTy} (m : Memref sig .tc sp s e) (q : PosShare TreeShare)
    (P : Buf (Elt F) (m.view.loc (c : Thread nD τ)) → Prop) : sProp 𝕄 :=
  iprop(∃ f : Buf (Elt F) (m.view.loc (c : Thread nD τ)), ⌜P f⌝ ∗ m.view.loc (c : Thread nD τ) ↦[m.view.set]{q} f)

/-- Reading the whole memref gives `X`. -/
abbrev rdP (c : Dev nD) {sp : Space} {s : Shape} {e : EltTy} (m : Memref sig .tc sp s e) (X : s.Idx → Elt F e) : Buf (Elt F) (m.view.loc (c : Thread nD τ)) → Prop :=
  fun f => m.view.read (Elt F) f = X

/-- A quarter of a slot's rows holds those rows of `W`. -/
abbrev rowP (c : Dev nD) (arg10 : Memref sig .tc .vmem S2x4096x1024 .i8) (b q : ℕ) (hb : b < 2) (hq : q + 1024 ≤ 4096) (W : S4096x1024.Idx → Elt F .i8) :
    Buf (Elt F) ((rowsW1 arg10 b q hb hq).view.loc (c : Thread nD τ)) → Prop :=
  fun f => ∀ i : S4096x1024.Idx, q ≤ (i 0).val → (i 0).val < q + 1024 → (slotW1 arg10 b hb).view.read (Elt F) f i = W i

theorem wp_ld {α : Type} {Q : α → sProp 𝕄} {s : Shape} {e : EltTy} (m : Memref sig .tc .vmem s e) (r : LoadRect s) (hl : m.view.LoadsAt r)
    (S : Finset (Idx (m.view.loc (c : Thread nD τ)))) (q : PosShare TreeShare) (hS : m.view.setOn r.set ⊆ S)
    (P : Buf (Elt F) (m.view.loc (c : Thread nD τ)) → Prop) (x : r.shape.Idx → Elt F e) (hx : ∀ f, P f → m.view.readAt (Elt F) r f = x)
    (k : (r.shape.Idx → Elt F e) → PP F α) :
    iprop(∃ f : Buf (Elt F) (m.view.loc (c : Thread nD τ)), ⌜P f⌝ ∗ m.view.loc (c : Thread nD τ) ↦[S]{q} f)
      ⊢ iprop((iprop(∃ f : Buf (Elt F) (m.view.loc (c : Thread nD τ)), ⌜P f⌝ ∗ m.view.loc (c : Thread nD τ) ↦[S]{q} f) -∗ WP c (k x) Q)
        -∗ WP c (.op (.load m r hl) k) Q) := by
  iintro ⟨%f, %hf, Hf⟩ Hk
  iapply (wp_load Variants.none (c : Thread nD τ) none Set.univ (q := q) (f := f) hS) $$ Hf
  rw [hx f hf]
  iintro Hf
  iapply Hk
  iexists f
  isplitr; · ipureintro; exact hf
  iexact Hf

theorem wp_ldAnyV {α : Type} {Q : α → sProp 𝕄} {s : Shape} {e : EltTy} (m : Memref sig .tc .vmem s e) (r : LoadRect s) (hl : m.view.LoadsAt r)
    (S : Finset (Idx (m.view.loc (c : Thread nD τ)))) (q : PosShare TreeShare) (hS : m.view.setOn r.set ⊆ S)
    (P : Buf (Elt F) (m.view.loc (c : Thread nD τ)) → Prop)
    (k : (r.shape.Idx → Elt F e) → PP F α) :
    iprop(∃ f : Buf (Elt F) (m.view.loc (c : Thread nD τ)), ⌜P f⌝ ∗ m.view.loc (c : Thread nD τ) ↦[S]{q} f)
      ⊢ iprop((∀ v, iprop(∃ f : Buf (Elt F) (m.view.loc (c : Thread nD τ)), ⌜P f⌝ ∗ m.view.loc (c : Thread nD τ) ↦[S]{q} f) -∗ WP c (k v) Q)
        -∗ WP c (.op (.load m r hl) k) Q) := by
  iintro ⟨%f, %hf, Hf⟩ Hk
  iapply (wp_load Variants.none (c : Thread nD τ) none Set.univ (q := q) (f := f) hS) $$ Hf
  iintro Hf
  iapply Hk
  iexists f
  isplitr; · ipureintro; exact hf
  iexact Hf

theorem wp_st {α : Type} {Q : α → sProp 𝕄} {s : Shape} {e : EltTy} (m : Memref sig .tc .vmem s e) (r : Rect s) (w : r.shape.Idx → Elt F e)
    (Mk : Finset r.shape.Idx) (hx : (m.access r).Stores Mk) (hm : Mk = Finset.univ ∨ ∀ a, r.stride a = 1)
    (P P' : Buf (Elt F) (m.view.loc (c : Thread nD τ)) → Prop) (hP : ∀ f, P f → P' ((m.access r).write (Elt F) f w Mk)) (k : PUnit → PP F α) :
    has (F := F) c m P ⊢ iprop((has (F := F) c m P' -∗ WP c (k ⟨⟩) Q) -∗ WP c (.op (.store m r w Mk hx hm) k) Q) := by
  iintro ⟨%f, %hf, Hf⟩ Hk
  have hS : (m.access r).setOn Mk ⊆ m.view.set :=
    ((m.access r).setOn_subset_set Mk).trans (View.set_slice_subset _ _)
  iapply (wp_store Variants.none (c : Thread nD τ) none Set.univ (f := f) hS) $$ Hf
  iintro Hf
  iapply Hk
  iexists _
  isplitr; · ipureintro; exact hP f hf
  iexact Hf

theorem has_mono {sp : Space} {s : Shape} {e : EltTy} (m : Memref sig .tc sp s e) (P P' : Buf (Elt F) (m.view.loc (c : Thread nD τ)) → Prop) (h : ∀ f, P f → P' f) :
    has (F := F) c m P ⊢ has c m P' := by
  iintro ⟨%f, %hf, H⟩
  iexists f
  isplitr; · ipureintro; exact h f hf
  iexact H

theorem has_of_some {sp : Space} {s : Shape} {e : EltTy} (m : Memref sig .tc sp s e) (P : Buf (Elt F) (m.view.loc (c : Thread nD τ)) → Prop) (h : ∀ f, P f) :
    some' (F := F) c m ⊢ has c m P := by
  iintro ⟨%f, H⟩
  iexists f
  isplitr; · ipureintro; exact h f
  iexact H

/-- A matrix made of tiles, at an index of one of its tiles. -/
theorem ofTiles_emb {e : EltTy} (T : (d : ℕ) → d < 8 → S24x256.Idx → Elt F e) (d : ℕ) (hd : d < 8) (x : S24x256.Idx) :
    ofTiles (F := F) T ((Rect.unit (s := S24x2048) ![0, d * 256] S24x256.size (inb2 (by omega) (by omega))).emb x) = T d hd x := by
  have hx : (x 1).val < 256 := (x 1).isLt
  have key : ∀ d' hd' (x' : S24x256.Idx), d' = d → x' = x → T d' hd' x' = T d hd x := by
    intro d' hd' x' h1 h2; subst h1; subst h2; rfl
  refine key _ _ _ (by show (d * 256 + 1 * (x 1).val) / 256 = d; omega) ?_
  funext a
  match a with
  | 0 => exact Fin.ext (by show 0 + 1 * (x 0).val = (x 0).val; omega)
  | 1 => exact Fin.ext (by show (d * 256 + 1 * (x 1).val) % 256 = (x 1).val; omega)

/-- Tile `d` of the columns. -/
abbrev colR (d : ℕ) (hd : d < 8) : Rect S24x2048 := Rect.unit (s := S24x2048) ![0, d * 256] S24x256.size (inb2 (by omega) (by omega))
abbrev w1R (r kb : ℕ) (hr : r + 256 ≤ 4096) (hk : kb < 8) : Rect S4096x1024 := Rect.unit (s := S4096x1024) ![r, kb * 128] S256x128.size (inb2 hr (by omega))
abbrev s1R (r kb : ℕ) (hr : r + 256 ≤ 4096) (hk : kb < 8) : Rect S16x4096 := Rect.unit (s := S16x4096) ![kb * 2, r] S2x256.size (inb2 (by omega) hr)
abbrev w2R (r kb : ℕ) (hr : r + 256 ≤ 2048) (hk : kb < 8) : Rect S2048x1024 := Rect.unit (s := S2048x1024) ![r, kb * 128] S256x128.size (inb2 hr (by omega))
abbrev s2R (r kb : ℕ) (hr : r + 256 ≤ 2048) (hk : kb < 8) : Rect S16x2048 := Rect.unit (s := S16x2048) ![kb * 2, r] S2x256.size (inb2 (by omega) hr)

/-- The buffer with tile `d` overwritten. -/
abbrev putT (c : Dev nD) {e : EltTy} (m : Memref sig .tc .vmem S24x2048 e) (d : ℕ) (hd : d < 8) (f : Buf (Elt F) (m.view.loc (c : Thread nD τ))) (w : S24x256.Idx → Elt F e) :
    Buf (Elt F) (m.view.loc (c : Thread nD τ)) := (m.access (colR d hd)).write (Elt F) f w Finset.univ

section tile

theorem read_tile_out {e : EltTy} (m : Memref sig .tc .vmem S24x2048 e) (d : ℕ) (hd : d < 8) (f : Buf (Elt F) (m.view.loc (c : Thread nD τ))) (w : S24x256.Idx → Elt F e) (i : S24x2048.Idx) (h : (i 1).val < d * 256 ∨ d * 256 + 256 ≤ (i 1).val) :
    m.view.read (Elt F) (putT c m d hd f w) i
      = m.view.read (Elt F) f i := by
  refine View.read_slice_write_of_not_mem (v := m.view) (colR d hd) f w Finset.univ (fun hm => ?_)
  obtain ⟨x, -, hx⟩ := Finset.mem_map.mp hm
  have e1 : d * 256 + 1 * (x 1).val = (i 1).val := congrArg (fun y : S24x2048.Idx => (y 1).val) hx
  have e2 : (x 1).val < 256 := (x 1).isLt
  omega

theorem read_tile_in {e : EltTy} (m : Memref sig .tc .vmem S24x2048 e) (d : ℕ) (hd : d < 8) (f : Buf (Elt F) (m.view.loc (c : Thread nD τ))) (i : S24x2048.Idx) (T : (d : ℕ) → d < 8 → S24x256.Idx → Elt F e) (h1 : d * 256 ≤ (i 1).val) (h2 : (i 1).val < d * 256 + 256) :
    m.view.read (Elt F) (putT c m d hd f (T d hd)) i
      = ofTiles (F := F) T i := by
  have e1 : (i 1).val - d * 256 < 256 := by omega
  have hx : i = (colR d hd).emb (ix2 (i 0) ⟨(i 1).val - d * 256, e1⟩ : S24x256.Idx) := by
    funext a
    match a with
    | 0 => exact Fin.ext (by show (i 0).val = 0 + 1 * (i 0).val; omega)
    | 1 => exact Fin.ext (by show (i 1).val = d * 256 + 1 * ((i 1).val - d * 256); omega)
  generalize (ix2 (i 0) ⟨(i 1).val - d * 256, e1⟩ : S24x256.Idx) = x at hx
  exact (congrArg (m.view.read (Elt F) (putT c m d hd f (T d hd))) hx).trans <| (View.read_slice_write_emb (v := m.view) (colR d hd) f (T d hd) (Finset.mem_univ x)).trans ((ofTiles_emb T d hd x).symm.trans (congrArg (ofTiles (F := F) T) hx).symm)
end tile

/-- A tile of a slot of the first weights lies in the quarter of the slot's rows that holds its rows. -/
theorem sub_rows (arg10 : Memref sig .tc .vmem S2x4096x1024 .i8) (b : ℕ) (hb : b < 2) (q : ℕ) (hq : q + 1024 ≤ 4096)
    (r kb : ℕ) (hr : r + 256 ≤ 4096) (hk : kb < 8) (h1 : q ≤ r) (h2 : r + 256 ≤ q + 1024) :
    (slotW1 arg10 b hb).view.setOn (Rect.unit (s := S4096x1024) ![r, kb * 128] S256x128.size (inb2 hr (by omega))).toLoadRect.set
      ⊆ (rowsW1 arg10 b q hb hq).view.set := by
  intro i hi
  rw [View.setOn, Finset.mem_map] at hi
  obtain ⟨x, hx, rfl⟩ := hi
  have hx' := Rect.mem_set_unit.mp hx
  have hset : (rowsW1 arg10 b q hb hq).view.set
      = (Rect.unit (s := S2x4096x1024) ![b, q, 0] S1x1024x1024.size (inb3 (by omega) hq (by omega))).set.map arg10.view.emb :=
    (View.set_reshape _ _).trans (View.set_slice _ _)
  rw [hset]
  have hemb : (slotW1 arg10 b hb).view.emb x
      = arg10.view.emb ((Rect.unit (s := S2x4096x1024) ![b, 0, 0] S1x4096x1024.size (inb3 (by omega) (by omega) (by omega))).emb
        (Fin.cons ⟨0, Nat.one_pos⟩ x)) :=
    congrArg (fun y => arg10.view.emb ((Rect.unit (s := S2x4096x1024) ![b, 0, 0] S1x4096x1024.size (inb3 (by omega) (by omega) (by omega))).emb y))
      (Shape.reshapeEquiv_cons_one _ x)
  rw [hemb]
  refine Finset.mem_map.mpr ⟨_, ?_, rfl⟩
  rw [Rect.mem_set_unit]
  have e0 := hx' 0
  have e1 := hx' 1
  have l1 := (x 1).isLt
  intro a
  match a with
  | 0 => exact ⟨Nat.le_add_right _ _, by show b + 1 * 0 < b + 1; omega⟩
  | 1 =>
    have : r ≤ (x 0 : ℕ) ∧ (x 0 : ℕ) < r + 256 := e0
    exact ⟨by show q ≤ 0 + 1 * (x 0 : ℕ); omega, by show 0 + 1 * (x 0 : ℕ) < q + 1024; omega⟩
  | 2 =>
    have : (x 1 : ℕ) < 1024 := l1
    exact ⟨by show 0 ≤ 0 + 1 * (x 1 : ℕ); omega, by show 0 + 1 * (x 1 : ℕ) < 0 + 1024; omega⟩

end

section gu
variable (c : Dev nD) (arg1 : Memref sig .tc .vmem S24x2048 .bf16)
  (arg10 : Memref sig .tc .vmem S2x4096x1024 .i8) (arg11 : Memref sig .tc .vmem S2x16x4096 .bf16)
  (arg14 : Memref sig .tc .vmem S24x2048 .bf16) (harg14 : arg14.IsWhole) (b : ℕ) (hb : b < 2) (q1 : PosShare TreeShare)
  (X : S24x2048.Idx → Elt F .bf16) (W : S4096x1024.Idx → Elt F .i8) (S : S16x4096.Idx → Elt F .bf16)

theorem wp_guLoop (d : ℕ) (hd : d < 8) (qg qu : ℕ) (hqg : qg + 1024 ≤ 4096) (hqu : qu + 1024 ≤ 4096)
    (g1 : qg ≤ d * 256) (g2 : d * 256 + 256 ≤ qg + 1024) (u1 : qu ≤ 2048 + d * 256) (u2 : 2048 + d * 256 + 256 ≤ qu + 1024)
    {α : Type} {Q : α → sProp 𝕄} (n : ℕ) (hn : n ≤ 8) (k : FVec F S24x256 .f32 → FVec F S24x256 .f32 → PP F α) :
    iprop(ro (F := F) c arg1 q1 (rdP c arg1 X) ∗ has (F := F) c (slotS1 arg11 b hb) (rdP c (slotS1 arg11 b hb) S) ∗ has (F := F) c (rowsW1 arg10 b qg hb hqg) (rowP c arg10 b qg hb hqg W) ∗ has (F := F) c (rowsW1 arg10 b qu hb hqu) (rowP c arg10 b qu hb hqu W))
      ⊢ iprop((iprop(ro (F := F) c arg1 q1 (rdP c arg1 X) ∗ has (F := F) c (slotS1 arg11 b hb) (rdP c (slotS1 arg11 b hb) S) ∗ has (F := F) c (rowsW1 arg10 b qg hb hqg) (rowP c arg10 b qg hb hqg W) ∗ has (F := F) c (rowsW1 arg10 b qu hb hqu) (rowP c arg10 b qu hb hqu W))
          -∗ WP c (k (gAcc X W S (d * 256) (by omega) n hn) (gAcc X W S (2048 + d * 256) (by omega) n hn)) Q) -∗ WP c (guLoop arg1 (slotW1 arg10 b hb) (slotS1 arg11 b hb) d hd n hn k) Q) := by
  induction n generalizing k with
  | zero =>
    iintro H Hk
    unfold guLoop
    iapply Hk
    iexact H
  | succ n ih =>
    iintro H Hk
    unfold guLoop
    have eg : d * 256 + 256 ≤ 4096 := by omega
    have eu : 2048 + d * 256 + 256 ≤ 4096 := by omega
    have hn' : n ≤ 8 := by omega
    iapply (ih hn' _) $$ H
    iintro ⟨HX, HS, HG, HU⟩
    iapply (wp_ld c arg1 (colR n hn).toLoadRect _ _ q1 (View.setOn_subset_set _ _) (rdP c arg1 X) (tileX X n hn) (fun f hf => funext fun y => congrFun hf _)) $$ HX
    iintro HX
    iapply (wp_ld c (slotW1 arg10 b hb) (w1R (d * 256) n eg hn).toLoadRect _ _ fullShare (sub_rows arg10 b hb qg hqg (d * 256) n eg hn g1 g2) (rowP c arg10 b qg hb hqg W) (tileW1 W (d * 256) n eg hn)
      (fun f hf => funext fun y => hf _ (by have := (y 0).isLt; show qg ≤ d * 256 + 1 * (y 0).val; omega) (by have : (y 0).val < 256 := (y 0).isLt; show d * 256 + 1 * (y 0).val < qg + 1024; omega))) $$ [HG]
    · iexact HG
    iintro HG
    iapply (wp_ld c (slotS1 arg11 b hb) (s1R (d * 256) n eg hn).toLoadRect _ _ fullShare (View.setOn_subset_set _ _) (rdP c (slotS1 arg11 b hb) S) (tileS1 S (d * 256) n eg hn) (fun f hf => funext fun y => congrFun hf _)) $$ HS
    iintro HS
    iapply (wp_ld c (slotW1 arg10 b hb) (w1R (2048 + d * 256) n eu hn).toLoadRect _ _ fullShare (sub_rows arg10 b hb qu hqu (2048 + d * 256) n eu hn u1 u2) (rowP c arg10 b qu hb hqu W) (tileW1 W (2048 + d * 256) n eu hn)
      (fun f hf => funext fun y => hf _ (by have := (y 0).isLt; show qu ≤ 2048 + d * 256 + 1 * (y 0).val; omega) (by have : (y 0).val < 256 := (y 0).isLt; show 2048 + d * 256 + 1 * (y 0).val < qu + 1024; omega))) $$ [HU]
    · iexact HU
    iintro HU
    iapply (wp_ld c (slotS1 arg11 b hb) (s1R (2048 + d * 256) n eu hn).toLoadRect _ _ fullShare (View.setOn_subset_set _ _) (rdP c (slotS1 arg11 b hb) S) (tileS1 S (2048 + d * 256) n eu hn) (fun f hf => funext fun y => congrFun hf _)) $$ HS
    iintro HS
    iapply Hk
    isplitl [HX]; · iexact HX
    isplitl [HS]; · iexact HS
    isplitl [HG]; · iexact HG
    iexact HU

/-- The first `n` tiles of the hidden layer are there. -/
abbrev hidP (c : Dev nD) (arg14 : Memref sig .tc .vmem S24x2048 .bf16) (X : S24x2048.Idx → Elt F .bf16) (W : S4096x1024.Idx → Elt F .i8) (S : S16x4096.Idx → Elt F .bf16) (n : ℕ) :
    Buf (Elt F) (arg14.view.loc (c : Thread nD τ)) → Prop :=
  fun f => ∀ i : S24x2048.Idx, (i 1).val < n * 256 → arg14.view.read (Elt F) f i = hid X W S i

theorem hidP_step (c : Dev nD) (arg14 : Memref sig .tc .vmem S24x2048 .bf16) (X : S24x2048.Idx → Elt F .bf16) (W : S4096x1024.Idx → Elt F .i8) (S : S16x4096.Idx → Elt F .bf16)
    (d : ℕ) (hd : d < 8) (f : Buf (Elt F) (arg14.view.loc (c : Thread nD τ))) (hf : hidP c arg14 X W S d f) :
    hidP c arg14 X W S (d + 1) (putT c arg14 d hd f (hidT X W S d hd)) := by
  intro i hi
  rcases Nat.lt_or_ge (i 1).val (d * 256) with h | h
  · rw [read_tile_out c arg14 d hd f _ i (Or.inl h)]; exact hf i h
  · exact read_tile_in c arg14 d hd f i (fun d hd => hidT X W S d hd) h (by omega)

theorem wp_guTiles (d0 qg qu : ℕ) (hqg : qg + 1024 ≤ 4096) (hqu : qu + 1024 ≤ 4096) (hg : qg = d0 * 256) (hu : qu = 2048 + d0 * 256)
    {α : Type} {Q : α → sProp 𝕄} (n : ℕ) (h4 : n ≤ 4) (hn : d0 + n ≤ 8) (k : PP F α) :
    iprop((ro (F := F) c arg1 q1 (rdP c arg1 X) ∗ has (F := F) c (slotS1 arg11 b hb) (rdP c (slotS1 arg11 b hb) S) ∗ has (F := F) c (rowsW1 arg10 b qg hb hqg) (rowP c arg10 b qg hb hqg W) ∗ has (F := F) c (rowsW1 arg10 b qu hb hqu) (rowP c arg10 b qu hb hqu W))
        ∗ has (F := F) c arg14 (hidP c arg14 X W S d0))
      ⊢ iprop((iprop((ro (F := F) c arg1 q1 (rdP c arg1 X) ∗ has (F := F) c (slotS1 arg11 b hb) (rdP c (slotS1 arg11 b hb) S) ∗ has (F := F) c (rowsW1 arg10 b qg hb hqg) (rowP c arg10 b qg hb hqg W) ∗ has (F := F) c (rowsW1 arg10 b qu hb hqu) (rowP c arg10 b qu hb hqu W))
          ∗ has (F := F) c arg14 (hidP c arg14 X W S (d0 + n))) -∗ WP c k Q)
        -∗ WP c (guTiles arg1 (slotW1 arg10 b hb) (slotS1 arg11 b hb) arg14 harg14 d0 n hn k) Q) := by
  induction n generalizing k with
  | zero =>
    iintro H Hk
    unfold guTiles
    iapply Hk
    iexact H
  | succ n ih =>
    iintro H Hk
    unfold guTiles
    have hn4 : n ≤ 4 := by omega
    have hn' : d0 + n ≤ 8 := by omega
    iapply (ih hn4 hn' _) $$ H
    iintro ⟨H, HH⟩
    unfold guTile
    have hd : d0 + n < 8 := by omega
    have e1 : qg ≤ (d0 + n) * 256 := by omega
    have e2 : (d0 + n) * 256 + 256 ≤ qg + 1024 := by omega
    have e3 : qu ≤ 2048 + (d0 + n) * 256 := by omega
    have e4 : 2048 + (d0 + n) * 256 + 256 ≤ qu + 1024 := by omega
    iapply (wp_guLoop c arg1 arg10 arg11 b hb q1 X W S (d0 + n) hd qg qu hqg hqu e1 e2 e3 e4 8 le_rfl _) $$ H
    iintro H
    iapply (wp_ldAnyV c arg14 _ _ _ fullShare (View.setOn_subset_set _ _) _) $$ HH
    iintro %x HH
    iapply (wp_st c arg14 (colR (d0 + n) hd) (hidT X W S (d0 + n) hd) _ _ _ (hidP c arg14 X W S (d0 + n)) (hidP c arg14 X W S (d0 + (n + 1))) (fun f hf => hidP_step c arg14 X W S (d0 + n) hd f hf)) $$ HH
    iintro HH
    iapply Hk
    isplitl [H]; · iexact H
    iexact HH

end gu

section dn
variable (c : Dev nD) (arg12 : Memref sig .tc .vmem S2x2048x1024 .i8) (arg13 : Memref sig .tc .vmem S2x16x2048 .bf16)
  (arg14 : Memref sig .tc .vmem S24x2048 .bf16) (arg15 : Memref sig .tc .vmem S24x2048 .f32) (b : ℕ) (hb : b < 2)
  (H : S24x2048.Idx → Elt F .bf16) (W : S2048x1024.Idx → Elt F .i8) (S : S16x2048.Idx → Elt F .bf16) (Y : S24x2048.Idx → Elt F .f32)

theorem wp_dnLoop (d : ℕ) (hd : d < 8) {α : Type} {Q : α → sProp 𝕄} (n : ℕ) (hn : n ≤ 8) (k : FVec F S24x256 .f32 → PP F α) :
    iprop(has (F := F) c (slotS2 arg13 b hb) (rdP c (slotS2 arg13 b hb) S) ∗ has (F := F) c (slotW2 arg12 b hb) (rdP c (slotW2 arg12 b hb) W) ∗ has (F := F) c arg14 (rdP c arg14 H))
      ⊢ iprop((iprop(has (F := F) c (slotS2 arg13 b hb) (rdP c (slotS2 arg13 b hb) S) ∗ has (F := F) c (slotW2 arg12 b hb) (rdP c (slotW2 arg12 b hb) W) ∗ has (F := F) c arg14 (rdP c arg14 H))
          -∗ WP c (k (aAcc H W S (d * 256) (by omega) n hn)) Q) -∗ WP c (dnLoop (slotW2 arg12 b hb) (slotS2 arg13 b hb) arg14 d hd n hn k) Q) := by
  induction n generalizing k with
  | zero =>
    iintro H Hk
    unfold dnLoop
    iapply Hk
    iexact H
  | succ n ih =>
    iintro H Hk
    unfold dnLoop
    have hn' : n ≤ 8 := by omega
    have er : d * 256 + 256 ≤ 2048 := by omega
    iapply (ih hn' _) $$ H
    iintro ⟨HS, HW, HH⟩
    iapply (wp_ld c arg14 (colR n hn).toLoadRect _ _ fullShare (View.setOn_subset_set _ _) (rdP c arg14 H) (tileX H n hn) (fun f hf => funext fun y => congrFun hf _)) $$ HH
    iintro HH
    iapply (wp_ld c (slotW2 arg12 b hb) (w2R (d * 256) n er hn).toLoadRect _ _ fullShare (View.setOn_subset_set _ _) (rdP c (slotW2 arg12 b hb) W) (tileW2 W (d * 256) n er hn) (fun f hf => funext fun y => congrFun hf _)) $$ HW
    iintro HW
    iapply (wp_ld c (slotS2 arg13 b hb) (s2R (d * 256) n er hn).toLoadRect _ _ fullShare (View.setOn_subset_set _ _) (rdP c (slotS2 arg13 b hb) S) (tileS2 S (d * 256) n er hn) (fun f hf => funext fun y => congrFun hf _)) $$ HS
    iintro HS
    iapply Hk
    isplitl [HS]; · iexact HS
    isplitl [HW]; · iexact HW
    iexact HH

/-- The first `n` tiles of the accumulator have the expert's share, the others not yet. -/
abbrev accP (c : Dev nD) (arg15 : Memref sig .tc .vmem S24x2048 .f32) (cf : FVec F S24x1 .f32) (rt : IVec S24x1 1) (H : S24x2048.Idx → Elt F .bf16) (W : S2048x1024.Idx → Elt F .i8)
    (S : S16x2048.Idx → Elt F .bf16) (Y : S24x2048.Idx → Elt F .f32) (n : ℕ) : Buf (Elt F) (arg15.view.loc (c : Thread nD τ)) → Prop :=
  fun f => ∀ i : S24x2048.Idx, arg15.view.read (Elt F) f i = if (i 1).val < n * 256 then accM cf rt H W S Y i else Y i

section accP
variable (cf : FVec F S24x1 .f32) (rt : IVec S24x1 1)
theorem accP_tile (n : ℕ) (hn : n < 8) (f : Buf (Elt F) (arg15.view.loc (c : Thread nD τ))) (hf : accP c arg15 cf rt H W S Y n f) :
    arg15.view.readAt (Elt F) (colR n hn).toLoadRect f = tileX Y n hn := by
  funext y
  refine (hf _).trans (if_neg ?_)
  show ¬ (n * 256 + 1 * (y 1).val < n * 256)
  omega

theorem accP_step (d : ℕ) (hd : d < 8) (f : Buf (Elt F) (arg15.view.loc (c : Thread nD τ))) (hf : accP c arg15 cf rt H W S Y d f) :
    accP c arg15 cf rt H W S Y (d + 1) (putT c arg15 d hd f (accT cf rt H W S Y d hd)) := by
  intro i
  rcases Nat.lt_or_ge (i 1).val (d * 256) with h | h
  · rw [read_tile_out c arg15 d hd f _ i (Or.inl h), if_pos (by omega), hf i, if_pos h]
  · rcases Nat.lt_or_ge (i 1).val (d * 256 + 256) with h' | h'
    · rw [if_pos (by omega)]
      exact read_tile_in c arg15 d hd f i (fun d hd => accT cf rt H W S Y d hd) h h'
    · rw [read_tile_out c arg15 d hd f _ i (Or.inr h'), if_neg (by omega), hf i, if_neg (by omega)]
end accP

theorem wp_dnTiles (cf : FVec F S24x1 .f32) (rt : IVec S24x1 1) {α : Type} {Q : α → sProp 𝕄} (n : ℕ) (hn : n ≤ 8) (k : PP F α) :
    iprop((has (F := F) c (slotS2 arg13 b hb) (rdP c (slotS2 arg13 b hb) S) ∗ has (F := F) c (slotW2 arg12 b hb) (rdP c (slotW2 arg12 b hb) W) ∗ has (F := F) c arg14 (rdP c arg14 H)) ∗ has (F := F) c arg15 (accP c arg15 cf rt H W S Y 0))
      ⊢ iprop((iprop((has (F := F) c (slotS2 arg13 b hb) (rdP c (slotS2 arg13 b hb) S) ∗ has (F := F) c (slotW2 arg12 b hb) (rdP c (slotW2 arg12 b hb) W) ∗ has (F := F) c arg14 (rdP c arg14 H)) ∗ has (F := F) c arg15 (accP c arg15 cf rt H W S Y n)) -∗ WP c k Q)
        -∗ WP c (dnTiles (slotW2 arg12 b hb) (slotS2 arg13 b hb) arg14 arg15 cf rt n hn k) Q) := by
  induction n generalizing k with
  | zero =>
    iintro H Hk
    unfold dnTiles
    iapply Hk
    iexact H
  | succ n ih =>
    iintro H Hk
    unfold dnTiles
    have hn' : n ≤ 8 := by omega
    iapply (ih hn' _) $$ H
    iintro ⟨H, HY⟩
    unfold dnTile
    iapply (wp_dnLoop c arg12 arg13 arg14 b hb H W S n hn 8 le_rfl _) $$ H
    iintro H
    iapply (wp_ld c arg15 (colR n hn).toLoadRect _ _ fullShare (View.setOn_subset_set _ _) (accP c arg15 cf rt H W S Y n) (tileX Y n hn) (accP_tile c arg15 H W S Y cf rt n hn)) $$ HY
    iintro HY
    iapply (wp_ldAnyV c arg15 _ _ _ fullShare (View.setOn_subset_set _ _) _) $$ HY
    iintro %y' HY
    iapply (wp_st c arg15 (colR n hn) (accT cf rt H W S Y n hn) _ _ _ (accP c arg15 cf rt H W S Y n) (accP c arg15 cf rt H W S Y (n + 1)) (fun f hf => accP_step c arg15 H W S Y cf rt n hn f hf)) $$ HY
    iintro HY
    iapply Hk
    isplitl [H]; · iexact H
    iexact HY

end dn

end Cert.Kernel.Gen
-- ==== Proof.Body.lean ====
/- One trip of the loop over the active experts, on the memory it owns. -/
module

public import proofs.«01_k».proof.Proof.Tiles

@[expose] public section

set_option maxRecDepth 65536

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers (MixedBatch sumTo)

variable {F : FTy → Type} [FloatOps F]

local notation "𝕄" => MT nD τ sig Unit (Elt F) ℕ (Pipeline.UD sig nD τ) ℕ

/-- A slab of a three-axis array from a row that is a multiple of the packing is whole words. -/
theorem words3 {A B C a b e x o p : ℕ} (h0 : x + a ≤ A) (h1 : o + b ≤ B) (h2 : 0 + e ≤ C) (ho : p ∣ o) (hb : p ∣ b) :
    (Rect.unit (s := (⟨3, ![A, B, C]⟩ : Shape)) ![x, o, 0] ![a, b, e] (inb3 h0 h1 h2)).WholeWords p :=
  .inl (.inr ⟨Nat.le_succ 2, rfl, .inl ⟨ho, hb⟩⟩)

theorem x1 {v : BitVec 32} (h : v.toNat < 16) : v.toNat + 1 ≤ 16 := h
theorem chk2_ok : ∀ v : BitVec 32, v.toNat < 16 → k0_chk2 v := fun v h => ⟨(inb3 (x1 h) (by decide : 0 + 16 ≤ 16) (by decide : 0 + 4096 ≤ 4096)), (fun _ => words3 (x1 h) (by decide : 0 + 16 ≤ 16) (by decide : 0 + 4096 ≤ 4096) (by decide) (by decide)), (inb3 (x1 h) (by decide : 0 + 1024 ≤ 4096) (by decide : 0 + 1024 ≤ 1024)), (fun _ => words3 (x1 h) (by decide : 0 + 1024 ≤ 4096) (by decide : 0 + 1024 ≤ 1024) (by decide) (by decide)), (inb3 (x1 h) (by decide : 2048 + 1024 ≤ 4096) (by decide : 0 + 1024 ≤ 1024)), (fun _ => words3 (x1 h) (by decide : 2048 + 1024 ≤ 4096) (by decide : 0 + 1024 ≤ 1024) (by decide) (by decide))⟩
theorem chk3_ok : ∀ v : BitVec 32, v.toNat < 16 → k0_chk3 v := fun v h => ⟨(inb3 (x1 h) (by decide : 1024 + 1024 ≤ 4096) (by decide : 0 + 1024 ≤ 1024)), (fun _ => words3 (x1 h) (by decide : 1024 + 1024 ≤ 4096) (by decide : 0 + 1024 ≤ 1024) (by decide) (by decide)), (inb3 (x1 h) (by decide : 3072 + 1024 ≤ 4096) (by decide : 0 + 1024 ≤ 1024)), (fun _ => words3 (x1 h) (by decide : 3072 + 1024 ≤ 4096) (by decide : 0 + 1024 ≤ 1024) (by decide) (by decide))⟩
theorem chk4_ok : ∀ v : BitVec 32, v.toNat < 16 → k0_chk4 v := fun v h => ⟨(inb3 (x1 h) (by decide : 0 + 16 ≤ 16) (by decide : 0 + 2048 ≤ 2048)), (fun _ => words3 (x1 h) (by decide : 0 + 16 ≤ 16) (by decide : 0 + 2048 ≤ 2048) (by decide) (by decide)), (inb3 (x1 h) (by decide : 0 + 2048 ≤ 2048) (by decide : 0 + 1024 ≤ 1024)), (fun _ => words3 (x1 h) (by decide : 0 + 2048 ≤ 2048) (by decide : 0 + 1024 ≤ 1024) (by decide) (by decide))⟩
theorem chk8_ok : ∀ v : BitVec 32, v.toNat < 16 → k0_chk8 v := fun v h => ⟨(inb3 (x1 h) (by decide : 0 + 16 ≤ 16) (by decide : 0 + 4096 ≤ 4096)), (fun _ => words3 (x1 h) (by decide : 0 + 16 ≤ 16) (by decide : 0 + 4096 ≤ 4096) (by decide) (by decide)), (inb3 (x1 h) (by decide : 0 + 1024 ≤ 4096) (by decide : 0 + 1024 ≤ 1024)), (fun _ => words3 (x1 h) (by decide : 0 + 1024 ≤ 4096) (by decide : 0 + 1024 ≤ 1024) (by decide) (by decide)), (inb3 (x1 h) (by decide : 2048 + 1024 ≤ 4096) (by decide : 0 + 1024 ≤ 1024)), (fun _ => words3 (x1 h) (by decide : 2048 + 1024 ≤ 4096) (by decide : 0 + 1024 ≤ 1024) (by decide) (by decide))⟩
theorem chk9_ok : ∀ v : BitVec 32, v.toNat < 16 → k0_chk9 v := fun v h => ⟨(inb3 (x1 h) (by decide : 1024 + 1024 ≤ 4096) (by decide : 0 + 1024 ≤ 1024)), (fun _ => words3 (x1 h) (by decide : 1024 + 1024 ≤ 4096) (by decide : 0 + 1024 ≤ 1024) (by decide) (by decide)), (inb3 (x1 h) (by decide : 3072 + 1024 ≤ 4096) (by decide : 0 + 1024 ≤ 1024)), (fun _ => words3 (x1 h) (by decide : 3072 + 1024 ≤ 4096) (by decide : 0 + 1024 ≤ 1024) (by decide) (by decide))⟩
theorem chk10_ok : ∀ v : BitVec 32, v.toNat < 16 → k0_chk10 v := fun v h => ⟨(inb3 (x1 h) (by decide : 0 + 16 ≤ 16) (by decide : 0 + 2048 ≤ 2048)), (fun _ => words3 (x1 h) (by decide : 0 + 16 ≤ 16) (by decide : 0 + 2048 ≤ 2048) (by decide) (by decide)), (inb3 (x1 h) (by decide : 0 + 2048 ≤ 2048) (by decide : 0 + 1024 ≤ 1024)), (fun _ => words3 (x1 h) (by decide : 0 + 2048 ≤ 2048) (by decide : 0 + 1024 ≤ 1024) (by decide) (by decide))⟩

section
variable (v0 : Elt F .i32) (v3 : Elt F .i32) (v6 : Elt F .i32) (v9 : Elt F .i32) (v12 : Elt F .i32) (v15 : Elt F .i32) (v18 : Elt F .i32) (v21 : Elt F .i32) (v24 : Elt F .i32) (v27 : Elt F .i32) (v30 : Elt F .i32) (v33 : Elt F .i32) (v36 : Elt F .i32) (v39 : Elt F .i32) (v42 : Elt F .i32) (v45 : Elt F .i32) (v48 : Elt F .i32) (v51 : Elt F .i32) (v54 : Elt F .i32) (v57 : Elt F .i32) (v60 : Elt F .i32) (v63 : Elt F .i32) (v66 : Elt F .i32) (v69 : Elt F .i32) (v72 : Elt F .i32) (v75 : Elt F .i32) (v78 : Elt F .i32) (v81 : Elt F .i32) (v84 : Elt F .i32) (v87 : Elt F .i32) (v90 : Elt F .i32) (v93 : Elt F .i32) (v96 : Elt F .i32) (v99 : Elt F .i32) (v102 : Elt F .i32) (v105 : Elt F .i32) (v108 : Elt F .i32) (v111 : Elt F .i32) (v114 : Elt F .i32) (v117 : Elt F .i32) (v120 : Elt F .i32) (v123 : Elt F .i32) (v126 : Elt F .i32) (v129 : Elt F .i32) (v132 : Elt F .i32) (v135 : Elt F .i32) (v138 : Elt F .i32) (v141 : Elt F .i32)
theorem chk5_ok (k : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : ∀ v : BitVec 32, v.toNat < 16 → k0_chk5 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k v := fun v h => ⟨fun _ => (inb3 (x1 h) (by decide : 0 + 16 ≤ 16) (by decide : 0 + 4096 ≤ 4096)), fun _ => (fun _ => words3 (x1 h) (by decide : 0 + 16 ≤ 16) (by decide : 0 + 4096 ≤ 4096) (by decide) (by decide)), fun _ => (inb3 (x1 h) (by decide : 0 + 1024 ≤ 4096) (by decide : 0 + 1024 ≤ 1024)), fun _ => (fun _ => words3 (x1 h) (by decide : 0 + 1024 ≤ 4096) (by decide : 0 + 1024 ≤ 1024) (by decide) (by decide)), fun _ => (inb3 (x1 h) (by decide : 2048 + 1024 ≤ 4096) (by decide : 0 + 1024 ≤ 1024)), fun _ => (fun _ => words3 (x1 h) (by decide : 2048 + 1024 ≤ 4096) (by decide : 0 + 1024 ≤ 1024) (by decide) (by decide))⟩
theorem chk6_ok (k : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : ∀ v : BitVec 32, v.toNat < 16 → k0_chk6 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k v := fun v h => ⟨fun _ => (inb3 (x1 h) (by decide : 1024 + 1024 ≤ 4096) (by decide : 0 + 1024 ≤ 1024)), fun _ => (fun _ => words3 (x1 h) (by decide : 1024 + 1024 ≤ 4096) (by decide : 0 + 1024 ≤ 1024) (by decide) (by decide)), fun _ => (inb3 (x1 h) (by decide : 3072 + 1024 ≤ 4096) (by decide : 0 + 1024 ≤ 1024)), fun _ => (fun _ => words3 (x1 h) (by decide : 3072 + 1024 ≤ 4096) (by decide : 0 + 1024 ≤ 1024) (by decide) (by decide))⟩
theorem chk7_ok (k : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : ∀ v : BitVec 32, v.toNat < 16 → k0_chk7 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k v := fun v h => ⟨fun _ => (inb3 (x1 h) (by decide : 0 + 16 ≤ 16) (by decide : 0 + 2048 ≤ 2048)), fun _ => (fun _ => words3 (x1 h) (by decide : 0 + 16 ≤ 16) (by decide : 0 + 2048 ≤ 2048) (by decide) (by decide)), fun _ => (inb3 (x1 h) (by decide : 0 + 2048 ≤ 2048) (by decide : 0 + 1024 ≤ 1024)), fun _ => (fun _ => words3 (x1 h) (by decide : 0 + 2048 ≤ 2048) (by decide : 0 + 1024 ≤ 1024) (by decide) (by decide))⟩
end

theorem n4 : 0 + 4 ≤ 8 := by decide
theorem n8 : 4 + 4 ≤ 8 := by decide

theorem wp_done (c : Dev nD) {α : Type} {Q : α → sProp 𝕄} (a : α) : Q a ⊢ WP (F := F) c (.ret a) Q := by
  unfold WP
  rw [wp_ret]
  iintro H
  imodintro
  iexact H

/-- Reading all of a matrix is reading it. -/
theorem readAt_all (c : Dev nD) {n l : ℕ} {sp : Space} {e : EltTy} (m : Memref sig .tc sp (⟨2, ![n, l]⟩ : Shape) e) (h) (f : Buf (Elt F) (m.view.loc (c : Thread nD τ))) :
    m.view.readAt (Elt F) (Rect.unit (s := (⟨2, ![n, l]⟩ : Shape)) ![0, 0] ![n, l] h).toLoadRect f = m.view.read (Elt F) f := by
  funext x
  refine congrArg (m.view.read (Elt F) f) ?_
  funext a
  match a with
  | 0 => exact Fin.ext (by show 0 + 1 * (x 0).val = (x 0).val; omega)
  | 1 => exact Fin.ext (by show 0 + 1 * (x 1).val = (x 1).val; omega)

/-- Entry `i` of the list, zero past its end. -/
def entT (c : Dev nD) (arg9 : Memref sig .tc .smem S17 .i32) (f : Buf (Elt F) (arg9.view.loc (c : Thread nD τ))) (i : ℕ) : BitVec 32 :=
  if hi : i + 1 ≤ 17 then ent (F := F) c arg9 i hi f else 0#32

theorem ent_entT (c : Dev nD) (arg9 : Memref sig .tc .smem S17 .i32) (f : Buf (Elt F) (arg9.view.loc (c : Thread nD τ))) (i : ℕ) (hi : i + 1 ≤ 17) (k : ℕ) (h : i = k) :
    ent (F := F) c arg9 i hi f = entT c arg9 f k := by
  subst h; unfold entT; rw [dif_pos hi]

section body
variable (c : Dev nD)
  (arg1 : Memref sig .tc .vmem S24x2048 .bf16) (arg2 : Memref sig .tc .vmem S24x2 .i32) (arg3 : Memref sig .tc .vmem S24x2 .f32)
  (arg4 : Memref sig .tc .hbm S16x4096x1024 .i8) (arg5 : Memref sig .tc .hbm S16x16x4096 .bf16) (arg6 : Memref sig .tc .hbm S16x2048x1024 .i8) (arg7 : Memref sig .tc .hbm S16x16x2048 .bf16)
  (arg9 : Memref sig .tc .smem S17 .i32)
  (arg10 : Memref sig .tc .vmem S2x4096x1024 .i8) (arg11 : Memref sig .tc .vmem S2x16x4096 .bf16) (arg12 : Memref sig .tc .vmem S2x2048x1024 .i8) (arg13 : Memref sig .tc .vmem S2x16x2048 .bf16)
  (arg14 : Memref sig .tc .vmem S24x2048 .bf16) (arg15 : Memref sig .tc .vmem S24x2048 .f32) (arg16 : DmaSems sig S2x3)
  (V4 : Buf (Elt F) (arg4.view.loc (c : Thread nD τ))) (V5 : Buf (Elt F) (arg5.view.loc (c : Thread nD τ)))
  (V6 : Buf (Elt F) (arg6.view.loc (c : Thread nD τ))) (V7 : Buf (Elt F) (arg7.view.loc (c : Thread nD τ)))
  (q1 q2 q3 : PosShare TreeShare) (X : S24x2048.Idx → Elt F .bf16) (I : S24x2.Idx → Elt F .i32) (C : S24x2.Idx → Elt F .f32)

/-- Everything slot `b` needs, with no copy in flight. -/
def IdleA (b : ℕ) (hb : b < 2) : sProp 𝕄 :=
  iprop(Idle0 c arg4 arg5 arg10 arg11 arg16 V4 V5 b hb ∗ Idle1 c arg4 arg10 arg16 V4 b hb ∗ Idle2 c arg6 arg7 arg12 arg13 arg16 V6 V7 b hb)

/-- Everything slot `b` needs, with all its copies in flight. -/
def FlyA (b : ℕ) (hb : b < 2) (v : ℕ) : sProp 𝕄 :=
  iprop(Fly0 c arg4 arg5 arg10 arg11 arg16 V4 V5 b hb v ∗ Fly1 c arg4 arg10 arg16 V4 b hb v ∗ Fly2 c arg6 arg7 arg12 arg13 arg16 V6 V7 b hb v)

theorem IdleA_congr {b b' : ℕ} (e : b = b') (hb : b < 2) (hb' : b' < 2) :
    IdleA c arg4 arg5 arg6 arg7 arg10 arg11 arg12 arg13 arg16 V4 V5 V6 V7 b hb = IdleA c arg4 arg5 arg6 arg7 arg10 arg11 arg12 arg13 arg16 V4 V5 V6 V7 b' hb' := by
  subst e; rfl
theorem FlyA_congr (v : ℕ) {b b' : ℕ} (e : b = b') (hb : b < 2) (hb' : b' < 2) :
    FlyA c arg4 arg5 arg6 arg7 arg10 arg11 arg12 arg13 arg16 V4 V5 V6 V7 b hb v = FlyA c arg4 arg5 arg6 arg7 arg10 arg11 arg12 arg13 arg16 V4 V5 V6 V7 b' hb' v := by
  subst e; rfl

theorem wp_startP {α : Type} {Q : α → sProp 𝕄} (harg4 : arg4.IsWhole) (harg5 : arg5.IsWhole) (harg6 : arg6.IsWhole) (harg7 : arg7.IsWhole)
    (harg10 : arg10.IsWhole) (harg11 : arg11.IsWhole) (harg12 : arg12.IsWhole) (harg13 : arg13.IsWhole)
    (i : ℕ) (hi : i + 1 ≤ 17) (b : ℕ) (hb : b < 2)
    {C0 C1 C2 : BitVec 32 → Prop} (c0 : Chk C0) (c1 : Chk C1) (c2 : Chk C2)
    (hC0 : ∀ v : BitVec 32, v.toNat < 16 → C0 v) (hC1 : ∀ v : BitVec 32, v.toNat < 16 → C1 v) (hC2 : ∀ v : BitVec 32, v.toNat < 16 → C2 v)
    (f : Buf (Elt F) (arg9.view.loc (c : Thread nD τ))) (hf : (ent (F := F) c arg9 i hi f).toNat < 16) (k : PP F α) :
    iprop(owned c arg9 f ∗ IdleA c arg4 arg5 arg6 arg7 arg10 arg11 arg12 arg13 arg16 V4 V5 V6 V7 b hb)
      ⊢ iprop((iprop(owned c arg9 f ∗ FlyA c arg4 arg5 arg6 arg7 arg10 arg11 arg12 arg13 arg16 V4 V5 V6 V7 b hb (ent (F := F) c arg9 i hi f).toNat) -∗ WP c k Q)
        -∗ WP c (startP arg4 arg5 arg6 arg7 arg9 arg10 arg11 arg12 arg13 arg16 harg4 harg5 harg6 harg7 harg10 harg11 harg12 harg13 i hi b hb c0 c1 c2 k) Q) := by
  rw [startP_eq]
  unfold IdleA
  iintro ⟨H9, I0, I1, I2⟩ Hk
  iapply (wp_start0 c arg4 arg5 arg9 arg10 arg11 arg16 V4 V5 harg4 harg5 harg10 harg11 i hi b hb c0 hC0 f hf) $$ [H9 I0]
  · isplitl [H9]; · iexact H9
    iexact I0
  iintro ⟨H9, F0⟩
  iapply (wp_start1 c arg4 arg9 arg10 arg16 V4 harg4 harg10 i hi b hb c1 hC1 f hf) $$ [H9 I1]
  · isplitl [H9]; · iexact H9
    iexact I1
  iintro ⟨H9, F1⟩
  iapply (wp_start2 c arg6 arg7 arg9 arg12 arg13 arg16 V6 V7 harg6 harg7 harg12 harg13 i hi b hb c2 hC2 f hf) $$ [H9 I2]
  · isplitl [H9]; · iexact H9
    iexact I2
  iintro ⟨H9, F2⟩
  iapply Hk
  isplitl [H9]; · iexact H9
  unfold FlyA
  isplitl [F0]; · iexact F0
  isplitl [F1]; · iexact F1
  iexact F2

/-- What a trip reads and writes besides the two slots. -/
def Env (f : Buf (Elt F) (arg9.view.loc (c : Thread nD τ))) (Y : S24x2048.Idx → Elt F .f32) : sProp 𝕄 :=
  iprop(owned c arg9 f ∗ ro (F := F) c arg1 q1 (rdP c arg1 X) ∗ ro (F := F) c arg2 q2 (rdP c arg2 I) ∗ ro (F := F) c arg3 q3 (rdP c arg3 C) ∗ some' (F := F) c arg14 ∗ has (F := F) c arg15 (rdP c arg15 Y) ∗ (∃ W, owes (c : Thread nD τ) 0 W))

/-- The arrays the memrefs hold. -/
abbrev AA : Arrs F := ⟨X, I, C, arg4.view.read (Elt F) V4, arg5.view.read (Elt F) V5, arg6.view.read (Elt F) V6, arg7.view.read (Elt F) V7⟩

theorem wp_tripRest {Q : Unit → sProp 𝕄} (harg4 : arg4.IsWhole) (harg5 : arg5.IsWhole) (harg6 : arg6.IsWhole) (harg7 : arg7.IsWhole)
    (harg10 : arg10.IsWhole) (harg11 : arg11.IsWhole) (harg12 : arg12.IsWhole) (harg13 : arg13.IsWhole) (harg14 : arg14.IsWhole)
    (i : ℕ) (hi : i + 1 ≤ 17) (b : ℕ) (hb : b < 2) (e : Elt F .i32) (Y : S24x2048.Idx → Elt F .f32)
    (f : Buf (Elt F) (arg9.view.loc (c : Thread nD τ))) (hf : (ent (F := F) c arg9 i hi f).toNat < 16) :
    iprop(Env c arg1 arg2 arg3 arg9 arg14 arg15 q1 q2 q3 X I C f Y ∗ FlyA c arg4 arg5 arg6 arg7 arg10 arg11 arg12 arg13 arg16 V4 V5 V6 V7 b hb (e : BitVec 32).toNat)
      ⊢ iprop((iprop(Env c arg1 arg2 arg3 arg9 arg14 arg15 q1 q2 q3 X I C f (stepY (AA c arg4 arg5 arg6 arg7 V4 V5 V6 V7 X I C) e Y) ∗ IdleA c arg4 arg5 arg6 arg7 arg10 arg11 arg12 arg13 arg16 V4 V5 V6 V7 b hb) -∗ Q ())
        -∗ WP c (tripRest arg4 arg5 arg6 arg7 arg9 arg10 arg11 arg12 arg13 arg16 arg1 arg2 arg3 arg14 arg15 harg4 harg5 harg6 harg7
            harg10 harg11 harg12 harg13 harg14 i hi b hb chkD chkE chkF e) Q) := by
  unfold Env FlyA tripRest
  iintro ⟨⟨H9, H1, H2, H3, H14, H15, HW⟩, F0, F1, F2⟩ Hk
  iapply (wp_wait0 c arg4 arg5 arg9 arg10 arg11 arg16 V4 V5 harg4 harg5 harg10 harg11 i hi b hb chkD chk8_ok f hf (e : BitVec 32).toNat) $$ [H9 F0 HW]
  · isplitl [H9]; · iexact H9
    isplitl [F0]; · iexact F0
    iexact HW
  unfold Full0 Has0
  iintro ⟨H9, ⟨⟨B0, B1, B2⟩, I0⟩, HW⟩
  ihave H14 := (has_of_some c arg14 (hidP c arg14 X (expOf (F := F) (e := .i8) (arg4.view.read (Elt F) V4) (e : BitVec 32).toNat) (expOf (F := F) (e := .bf16) (arg5.view.read (Elt F) V5) (e : BitVec 32).toNat) 0) (fun f i hi => absurd hi (by omega))) $$ H14
  iapply (wp_guTiles c arg1 arg10 arg11 arg14 harg14 b hb q1 X (expOf (F := F) (e := .i8) (arg4.view.read (Elt F) V4) (e : BitVec 32).toNat) (expOf (F := F) (e := .bf16) (arg5.view.read (Elt F) V5) (e : BitVec 32).toNat) 0 0 2048 r0 r2048 rfl rfl 4 le_rfl n4) $$ [H1 B0 B1 B2 H14]
  · isplitl [H1 B0 B1 B2]
    · isplitl [H1]; · iexact H1
      isplitl [B0]; · iexact B0
      isplitl [B1]; · iexact B1
      iexact B2
    iexact H14
  iintro ⟨⟨H1, B0, B1, B2⟩, H14⟩
  iapply (wp_wait1 c arg4 arg9 arg10 arg16 V4 harg4 harg10 i hi b hb chkE chk9_ok f hf (e : BitVec 32).toNat) $$ [H9 F1 HW]
  · isplitl [H9]; · iexact H9
    isplitl [F1]; · iexact F1
    iexact HW
  unfold Full1 Has1
  iintro ⟨H9, ⟨⟨B3, B4⟩, I1⟩, HW⟩
  iapply (wp_guTiles c arg1 arg10 arg11 arg14 harg14 b hb q1 X (expOf (F := F) (e := .i8) (arg4.view.read (Elt F) V4) (e : BitVec 32).toNat) (expOf (F := F) (e := .bf16) (arg5.view.read (Elt F) V5) (e : BitVec 32).toNat) 4 1024 3072 r1024 r3072 rfl rfl 4 le_rfl n8) $$ [H1 B0 B3 B4 H14]
  · isplitl [H1 B0 B3 B4]
    · isplitl [H1]; · iexact H1
      isplitl [B0]; · iexact B0
      isplitl [B3]; · iexact B3
      iexact B4
    iexact H14
  iintro ⟨⟨H1, B0, B3, B4⟩, H14⟩
  iapply (wp_wait2 c arg6 arg7 arg9 arg12 arg13 arg16 V6 V7 harg6 harg7 harg12 harg13 i hi b hb chkF chk10_ok f hf (e : BitVec 32).toNat) $$ [H9 F2 HW]
  · isplitl [H9]; · iexact H9
    isplitl [F2]; · iexact F2
    iexact HW
  unfold Full2 Has2
  iintro ⟨H9, ⟨⟨B5, B6⟩, I2⟩, HW⟩
  ihave H14 := (has_mono c arg14 (hidP c arg14 X (expOf (F := F) (e := .i8) (arg4.view.read (Elt F) V4) (e : BitVec 32).toNat) (expOf (F := F) (e := .bf16) (arg5.view.read (Elt F) V5) (e : BitVec 32).toNat) (4 + 4)) (rdP c arg14 (hid X (expOf (F := F) (e := .i8) (arg4.view.read (Elt F) V4) (e : BitVec 32).toNat) (expOf (F := F) (e := .bf16) (arg5.view.read (Elt F) V5) (e : BitVec 32).toNat))) (fun f hf => funext fun i => hf i (by have : (i 1).val < 2048 := (i 1).isLt; omega))) $$ H14
  ihave H15 := (has_mono c arg15 (rdP c arg15 Y) (accP c arg15 (coefOf (F := F) e I C) (anyOf (F := F) e I) (hid X (expOf (F := F) (e := .i8) (arg4.view.read (Elt F) V4) (e : BitVec 32).toNat) (expOf (F := F) (e := .bf16) (arg5.view.read (Elt F) V5) (e : BitVec 32).toNat)) (expOf (F := F) (e := .i8) (arg6.view.read (Elt F) V6) (e : BitVec 32).toNat) (expOf (F := F) (e := .bf16) (arg7.view.read (Elt F) V7) (e : BitVec 32).toNat) Y 0) (fun f hf i => (congrFun hf i).trans (if_neg (by omega)).symm)) $$ H15
  iapply (wp_ld c arg2 (Rect.unit (s := S24x2) ![0, 0] S24x2.size inb_S24x2_S24x2_0_0).toLoadRect _ _ q2 (View.setOn_subset_set _ _) (rdP c arg2 I) I (fun f hf => (readAt_all c arg2 _ f).trans hf)) $$ H2
  iintro H2
  iapply (wp_ld c arg3 (Rect.unit (s := S24x2) ![0, 0] S24x2.size inb_S24x2_S24x2_0_0).toLoadRect _ _ q3 (View.setOn_subset_set _ _) (rdP c arg3 C) C (fun f hf => (readAt_all c arg3 _ f).trans hf)) $$ H3
  iintro H3
  iapply (wp_dnTiles c arg12 arg13 arg14 arg15 b hb (hid X (expOf (F := F) (e := .i8) (arg4.view.read (Elt F) V4) (e : BitVec 32).toNat) (expOf (F := F) (e := .bf16) (arg5.view.read (Elt F) V5) (e : BitVec 32).toNat)) (expOf (F := F) (e := .i8) (arg6.view.read (Elt F) V6) (e : BitVec 32).toNat) (expOf (F := F) (e := .bf16) (arg7.view.read (Elt F) V7) (e : BitVec 32).toNat) Y (coefOf (F := F) e I C) (anyOf (F := F) e I) 8 le_rfl) $$ [B5 B6 H14 H15]
  · isplitl [B5 B6 H14]
    · isplitl [B5]; · iexact B5
      isplitl [B6]; · iexact B6
      iexact H14
    iexact H15
  iintro ⟨⟨B5, B6, H14⟩, H15⟩
  ihave H14 := (has_some c arg14 _) $$ H14
  ihave H15 := (has_mono c arg15 (accP c arg15 (coefOf (F := F) e I C) (anyOf (F := F) e I) (hid X (expOf (F := F) (e := .i8) (arg4.view.read (Elt F) V4) (e : BitVec 32).toNat) (expOf (F := F) (e := .bf16) (arg5.view.read (Elt F) V5) (e : BitVec 32).toNat)) (expOf (F := F) (e := .i8) (arg6.view.read (Elt F) V6) (e : BitVec 32).toNat) (expOf (F := F) (e := .bf16) (arg7.view.read (Elt F) V7) (e : BitVec 32).toNat) Y 8) (rdP c arg15 (stepY (AA c arg4 arg5 arg6 arg7 V4 V5 V6 V7 X I C) e Y)) (fun f hf => funext fun i => (hf i).trans (if_pos (by have : (i 1).val < 2048 := (i 1).isLt; omega)))) $$ H15
  iapply (wp_done c)
  iapply Hk
  isplitl [H9 H1 H2 H3 H14 H15 HW]
  · isplitl [H9]; · iexact H9
    isplitl [H1]; · iexact H1
    isplitl [H2]; · iexact H2
    isplitl [H3]; · iexact H3
    isplitl [H14]; · iexact H14
    isplitl [H15]; · iexact H15
    iexact HW
  unfold IdleA
  isplitl [B0 B1 B2 I0]
  · iapply (Full0_idle c arg4 arg5 arg10 arg11 arg16 V4 V5 b hb (e : BitVec 32).toNat)
    unfold Full0 Has0
    isplitl [B0 B1 B2]
    · isplitl [B0]; · iexact B0
      isplitl [B1]; · iexact B1
      iexact B2
    iexact I0
  isplitl [B3 B4 I1]
  · iapply (Full1_idle c arg4 arg10 arg16 V4 b hb (e : BitVec 32).toNat)
    unfold Full1 Has1
    isplitl [B3 B4]
    · isplitl [B3]; · iexact B3
      iexact B4
    iexact I1
  iapply (Full2_idle c arg6 arg7 arg12 arg13 arg16 V6 V7 b hb (e : BitVec 32).toNat)
  unfold Full2 Has2
  isplitl [B5 B6]
  · isplitl [B5]; · iexact B5
    iexact B6
  iexact I2

section
variable (v0 : Elt F .i32) (v3 : Elt F .i32) (v6 : Elt F .i32) (v9 : Elt F .i32) (v12 : Elt F .i32) (v15 : Elt F .i32) (v18 : Elt F .i32) (v21 : Elt F .i32) (v24 : Elt F .i32) (v27 : Elt F .i32) (v30 : Elt F .i32) (v33 : Elt F .i32) (v36 : Elt F .i32) (v39 : Elt F .i32) (v42 : Elt F .i32) (v45 : Elt F .i32) (v48 : Elt F .i32) (v51 : Elt F .i32) (v54 : Elt F .i32) (v57 : Elt F .i32) (v60 : Elt F .i32) (v63 : Elt F .i32) (v66 : Elt F .i32) (v69 : Elt F .i32) (v72 : Elt F .i32) (v75 : Elt F .i32) (v78 : Elt F .i32) (v81 : Elt F .i32) (v84 : Elt F .i32) (v87 : Elt F .i32) (v90 : Elt F .i32) (v93 : Elt F .i32) (v96 : Elt F .i32) (v99 : Elt F .i32) (v102 : Elt F .i32) (v105 : Elt F .i32) (v108 : Elt F .i32) (v111 : Elt F .i32) (v114 : Elt F .i32) (v117 : Elt F .i32) (v120 : Elt F .i32) (v123 : Elt F .i32) (v126 : Elt F .i32) (v129 : Elt F .i32) (v132 : Elt F .i32) (v135 : Elt F .i32) (v138 : Elt F .i32) (v141 : Elt F .i32)

theorem wp_trip (harg4 : arg4.IsWhole) (harg5 : arg5.IsWhole) (harg6 : arg6.IsWhole) (harg7 : arg7.IsWhole)
    (harg10 : arg10.IsWhole) (harg11 : arg11.IsWhole) (harg12 : arg12.IsWhole) (harg13 : arg13.IsWhole) (harg14 : arg14.IsWhole)
    (f : Buf (Elt F) (arg9.view.loc (c : Thread nD τ))) (Y : S24x2048.Idx → Elt F .f32)
    (hf : ∀ i (hi : i + 1 ≤ 17), i < nAct (maskOf v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) → (ent (F := F) c arg9 i hi f).toNat < 16)
    (k : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) :
    iprop(Env c arg1 arg2 arg3 arg9 arg14 arg15 q1 q2 q3 X I C f Y ∗ FlyA c arg4 arg5 arg6 arg7 arg10 arg11 arg12 arg13 arg16 V4 V5 V6 V7 (tSlot k) (tSlot_in v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k) (entT c arg9 f k).toNat ∗ IdleA c arg4 arg5 arg6 arg7 arg10 arg11 arg12 arg13 arg16 V4 V5 V6 V7 (nSlot k) (nSlot_in v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k))
      ⊢ WP c (trip arg1 arg2 arg3 arg4 harg4 arg5 harg5 arg6 harg6 arg7 harg7 arg9 arg10 harg10 arg11 harg11 arg12 harg12 arg13 harg13 arg14 harg14 arg15 arg16 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k (tIx_in v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k) (tSlot_in v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k) (fun _ => nIx_in v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k) (nSlot_in v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k))
          (fun _ => iprop(Env c arg1 arg2 arg3 arg9 arg14 arg15 q1 q2 q3 X I C f (stepY (AA c arg4 arg5 arg6 arg7 V4 V5 V6 V7 X I C) (entT c arg9 f k) Y) ∗ IdleA c arg4 arg5 arg6 arg7 arg10 arg11 arg12 arg13 arg16 V4 V5 V6 V7 (tSlot k) (tSlot_in v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k)
            ∗ if (k : ℕ) + 1 < nAct (maskOf v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) then FlyA c arg4 arg5 arg6 arg7 arg10 arg11 arg12 arg13 arg16 V4 V5 V6 V7 (nSlot k) (nSlot_in v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k) (entT c arg9 f (k + 1)).toNat else IdleA c arg4 arg5 arg6 arg7 arg10 arg11 arg12 arg13 arg16 V4 V5 V6 V7 (nSlot k) (nSlot_in v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k))) := by
  have hk := trip_lt v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k
  have hk' : (k : ℕ) < nAct (maskOf v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) := lt_of_lt_of_eq k.isLt (trips_eq v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141)
  have ht : (tIx (k : ℕ)).toNat = k := tIx_toNat k (by omega)
  have hn : (nIx (k : ℕ)).toNat = k + 1 := nIx_toNat k (by omega)
  have hft := hf _ (tIx_in v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k) (by rw [ht]; exact hk')
  rw [← ent_entT c arg9 f _ (tIx_in v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k) k ht]
  unfold trip
  iintro ⟨HE, HF, HI⟩
  unfold Env
  icases HE with ⟨H9, HE⟩
  iapply (wp_ldA c arg9 _ (tIx_in v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k) f) $$ H9
  iintro H9
  by_cases hc : k0_cond1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k = 1#1
  · have hc' := (cond1_iff v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k).mp hc
    have hfn := hf _ (nIx_in v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k) (by rw [hn]; exact hc')
    rw [dif_pos hc, if_pos hc', ← ent_entT c arg9 f _ (nIx_in v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k) (k + 1) hn]
    iapply (wp_startP c arg4 arg5 arg6 arg7 arg9 arg10 arg11 arg12 arg13 arg16 V4 V5 V6 V7 harg4 harg5 harg6 harg7 harg10 harg11 harg12 harg13 _ (nIx_in v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k) _ (nSlot_in v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k) (chkA v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k hc) (chkB v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k hc) (chkC v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k hc)
      (chk5_ok v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k) (chk6_ok v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k) (chk7_ok v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k) f hfn) $$ [H9 HI]
    · isplitl [H9]; · iexact H9
      iexact HI
    iintro ⟨H9, HI⟩
    iapply (wp_tripRest c arg1 arg2 arg3 arg4 arg5 arg6 arg7 arg9 arg10 arg11 arg12 arg13 arg14 arg15 arg16 V4 V5 V6 V7 q1 q2 q3 X I C harg4 harg5 harg6 harg7 harg10 harg11 harg12 harg13 harg14 _ (tIx_in v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k) _ (tSlot_in v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k) _ Y f hft) $$ [H9 HE HF]
    · unfold Env
      isplitl [H9 HE]
      · isplitl [H9]; · iexact H9
        iexact HE
      iexact HF
    iintro ⟨HE, HF⟩
    unfold Env
    isplitl [HE]; · iexact HE
    isplitl [HF]; · iexact HF
    iexact HI
  · have hc' : ¬ (k : ℕ) + 1 < nAct (maskOf v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) := fun h => hc ((cond1_iff v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k).mpr h)
    rw [dif_neg hc, if_neg hc']
    iapply (wp_tripRest c arg1 arg2 arg3 arg4 arg5 arg6 arg7 arg9 arg10 arg11 arg12 arg13 arg14 arg15 arg16 V4 V5 V6 V7 q1 q2 q3 X I C harg4 harg5 harg6 harg7 harg10 harg11 harg12 harg13 harg14 _ (tIx_in v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k) _ (tSlot_in v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k) _ Y f hft) $$ [H9 HE HF]
    · unfold Env
      isplitl [H9 HE]
      · isplitl [H9]; · iexact H9
        iexact HE
      iexact HF
    iintro ⟨HE, HF⟩
    unfold Env
    isplitl [HE]; · iexact HE
    isplitl [HF]; · iexact HF
    iexact HI

end

end body

end Cert.Kernel.Gen
-- ==== Proof.Rest.lean ====
/- The list of active experts, the loop over them, and the program after the ids are read. -/
module

public import proofs.«01_k».proof.Proof.Body

@[expose] public section

set_option maxRecDepth 65536

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Transfers (MixedBatch sumTo)

variable {F : FTy → Type} [FloatOps F]

local notation "𝕄" => MT nD τ sig Unit (Elt F) ℕ (Pipeline.UD sig nD τ) ℕ

section list
variable (c : Dev nD) (arg9 : Memref sig .tc .smem S17 .i32)

/-- The list after `v` is written at entry `i`. -/
def wrA (i : ℕ) (hi : i + 1 ≤ 17) (v : BitVec 32) (f : Buf (Elt F) (arg9.view.loc (c : Thread nD τ))) : Buf (Elt F) (arg9.view.loc (c : Thread nD τ)) :=
  (arg9.access (Rect.unit (s := S17) ![i] S1.size (fun a => match a with | 0 => hi))).write (Elt F) f (fun _ => v) Finset.univ

theorem ent_wr_same (i : ℕ) (hi : i + 1 ≤ 17) (v : BitVec 32) (f : Buf (Elt F) (arg9.view.loc (c : Thread nD τ))) :
    ent (F := F) c arg9 i hi (wrA c arg9 i hi v f) = v := by
  unfold wrA ent
  rw [View.read_write_univ]

theorem ent_wr_ne (i j : ℕ) (hi : i + 1 ≤ 17) (hj : j + 1 ≤ 17) (h : i ≠ j) (v : BitVec 32) (f : Buf (Elt F) (arg9.view.loc (c : Thread nD τ))) :
    ent (F := F) c arg9 i hi (wrA c arg9 j hj v f) = ent (F := F) c arg9 i hi f := by
  unfold wrA ent
  refine congrFun (View.read_slice_write_slice_of_disjoint (v := arg9.view) _ _ f _ _ ?_) _
  exact Disjoint.mono_right (View.setOn_subset_set _ _) (View.disjoint_slice_of_sep arg9.view _ _ 0 rfl rfl (by
    rcases Nat.lt_or_gt_of_ne h with h | h
    · left; show i + 1 ≤ j; omega
    · right; show j + 1 ≤ i; omega))

/-- The list after the experts below `n` are written. -/
def lst (m : BitVec 32) (f : Buf (Elt F) (arg9.view.loc (c : Thread nD τ))) : (n : ℕ) → n ≤ 16 → Buf (Elt F) (arg9.view.loc (c : Thread nD τ))
  | 0, _ => f
  | n + 1, hn => wrA c arg9 (cnt m n).toNat (cnt_in m n (by omega)) (BitVec.ofNat 32 n) (lst m f n (by omega))

theorem wp_stA {α : Type} {Q : α → sProp 𝕄} (i : ℕ) (hi : i + 1 ≤ 17) (v : BitVec 32) (f : Buf (Elt F) (arg9.view.loc (c : Thread nD τ))) (k : PP F α) :
    owned c arg9 f ⊢ iprop((owned c arg9 (wrA c arg9 i hi v f) -∗ WP c k Q) -∗ WP c (stA arg9 i hi v k) Q) := by
  iintro H Hk
  unfold stA
  iapply (wp_ldA c arg9 i hi f) $$ H
  iintro H
  have hS : (arg9.access (Rect.unit (s := S17) ![i] S1.size (fun a => match a with | 0 => hi))).setOn Finset.univ ⊆ arg9.view.set :=
    (View.setOn_subset_set _ _).trans (View.set_slice_subset _ _)
  iapply (wp_store Variants.none (c : Thread nD τ) none Set.univ (f := f) hS) $$ H
  iintro H
  iapply Hk
  iexact H

theorem wp_stAll {α : Type} {Q : α → sProp 𝕄} (m : BitVec 32) (f : Buf (Elt F) (arg9.view.loc (c : Thread nD τ))) (n : ℕ) (hn : n ≤ 16) (k : PP F α) :
    owned c arg9 f ⊢ iprop((owned c arg9 (lst c arg9 m f n hn) -∗ WP c k Q) -∗ WP c (stAll arg9 m n hn k) Q) := by
  induction n generalizing k with
  | zero =>
    iintro H Hk
    unfold stAll lst
    iapply Hk
    iexact H
  | succ n ih =>
    iintro H Hk
    unfold stAll
    have hn' : n ≤ 16 := by omega
    iapply (ih hn' _) $$ H
    iintro H
    iapply (wp_stA c arg9 _ _ _ _) $$ H
    iintro H
    iapply Hk
    iexact H

theorem lst_ent (m : BitVec 32) (f : Buf (Elt F) (arg9.view.loc (c : Thread nD τ))) (n : ℕ) (hn : n ≤ 16) (i : ℕ) (hi : i + 1 ≤ 17) (h : i < cntN m n) :
    ∃ j, j < n ∧ m.getLsbD j = true ∧ cntN m j = i ∧ ent (F := F) c arg9 i hi (lst c arg9 m f n hn) = BitVec.ofNat 32 j := by
  induction n with
  | zero => exact absurd h (Nat.not_lt_zero _)
  | succ n ih =>
    have hc := cnt_toNat m n (by omega)
    unfold lst
    by_cases e : i = cntN m n
    · have hb : m.getLsbD n = true := by
        unfold cntN at h
        by_contra hb
        rw [if_neg hb] at h
        omega
      refine ⟨n, by omega, hb, e.symm, ?_⟩
      have : ∀ j (hj : j + 1 ≤ 17), j = i → ent (F := F) c arg9 i hi (wrA c arg9 j hj (BitVec.ofNat 32 n) (lst c arg9 m f n (by omega))) = BitVec.ofNat 32 n := by
        intro j hj ej
        subst ej
        exact ent_wr_same c arg9 _ _ _ _
      exact this _ _ (by omega)
    · have hlt : i < cntN m n := by
        unfold cntN at h
        split at h <;> omega
      obtain ⟨j, h1, h2, h3, h4⟩ := ih (by omega) hlt
      refine ⟨j, by omega, h2, h3, ?_⟩
      rw [ent_wr_ne c arg9 i _ hi _ (by omega), h4]

theorem lst_ok (m : BitVec 32) (f : Buf (Elt F) (arg9.view.loc (c : Thread nD τ))) (i : ℕ) (hi : i + 1 ≤ 17) (h : i < nAct m) :
    (ent (F := F) c arg9 i hi (lst c arg9 m f 16 le_rfl)).toNat < 16 := by
  obtain ⟨j, h1, -, -, h4⟩ := lst_ent c arg9 m f 16 le_rfl i hi h
  rw [h4, BitVec.toNat_ofNat]
  omega

end list

section body
variable (c : Dev nD)
  (arg1 : Memref sig .tc .vmem S24x2048 .bf16) (arg2 : Memref sig .tc .vmem S24x2 .i32) (arg3 : Memref sig .tc .vmem S24x2 .f32)
  (arg4 : Memref sig .tc .hbm S16x4096x1024 .i8) (arg5 : Memref sig .tc .hbm S16x16x4096 .bf16) (arg6 : Memref sig .tc .hbm S16x2048x1024 .i8) (arg7 : Memref sig .tc .hbm S16x16x2048 .bf16)
  (arg8 : Memref sig .tc .vmem S24x2048 .bf16) (arg9 : Memref sig .tc .smem S17 .i32)
  (arg10 : Memref sig .tc .vmem S2x4096x1024 .i8) (arg11 : Memref sig .tc .vmem S2x16x4096 .bf16) (arg12 : Memref sig .tc .vmem S2x2048x1024 .i8) (arg13 : Memref sig .tc .vmem S2x16x2048 .bf16)
  (arg14 : Memref sig .tc .vmem S24x2048 .bf16) (arg15 : Memref sig .tc .vmem S24x2048 .f32) (arg16 : DmaSems sig S2x3)
  (V4 : Buf (Elt F) (arg4.view.loc (c : Thread nD τ))) (V5 : Buf (Elt F) (arg5.view.loc (c : Thread nD τ)))
  (V6 : Buf (Elt F) (arg6.view.loc (c : Thread nD τ))) (V7 : Buf (Elt F) (arg7.view.loc (c : Thread nD τ)))
  (q1 q2 q3 : PosShare TreeShare) (X : S24x2048.Idx → Elt F .bf16) (I : S24x2.Idx → Elt F .i32) (C : S24x2.Idx → Elt F .f32)

/-- Writing all of a matrix and reading it back. -/
theorem read_putAll (c : Dev nD) {n l : ℕ} {sp : Space} {e : EltTy} (m : Memref sig .tc sp (⟨2, ![n, l]⟩ : Shape) e) (h) (f : Buf (Elt F) (m.view.loc (c : Thread nD τ)))
    (w : (⟨2, ![n, l]⟩ : Shape).Idx → Elt F e) :
    m.view.read (Elt F) ((m.access (Rect.unit (s := (⟨2, ![n, l]⟩ : Shape)) ![0, 0] ![n, l] h)).write (Elt F) f w Finset.univ) = w := by
  funext x
  have hx : x = (Rect.unit (s := (⟨2, ![n, l]⟩ : Shape)) ![0, 0] ![n, l] h).emb x := by
    funext a
    match a with
    | 0 => exact Fin.ext (by show (x 0).val = 0 + 1 * (x 0).val; omega)
    | 1 => exact Fin.ext (by show (x 1).val = 0 + 1 * (x 1).val; omega)
  exact (congrArg (m.view.read (Elt F) _) hx).trans (View.read_slice_write_emb (v := m.view) (Rect.unit (s := (⟨2, ![n, l]⟩ : Shape)) ![0, 0] ![n, l] h) f w (Finset.mem_univ x))

/-- Before trip `k` of `n`: the trip's slot is filling, the other one is idle. -/
def Inv (f : Buf (Elt F) (arg9.view.loc (c : Thread nD τ))) (n k : ℕ) : sProp 𝕄 :=
  iprop(Env c arg1 arg2 arg3 arg9 arg14 arg15 q1 q2 q3 X I C f (accK (AA c arg4 arg5 arg6 arg7 V4 V5 V6 V7 X I C) (entT c arg9 f) k)
    ∗ (if k < n then FlyA c arg4 arg5 arg6 arg7 arg10 arg11 arg12 arg13 arg16 V4 V5 V6 V7 (k % 2) (Nat.mod_lt _ (by omega)) (entT c arg9 f k).toNat else IdleA c arg4 arg5 arg6 arg7 arg10 arg11 arg12 arg13 arg16 V4 V5 V6 V7 (k % 2) (Nat.mod_lt _ (by omega)))
    ∗ IdleA c arg4 arg5 arg6 arg7 arg10 arg11 arg12 arg13 arg16 V4 V5 V6 V7 ((k + 1) % 2) (Nat.mod_lt _ (by omega)))

theorem b0 : 0 < 2 := by decide
theorem b1 : 1 < 2 := by decide

section
variable (v0 : Elt F .i32) (v3 : Elt F .i32) (v6 : Elt F .i32) (v9 : Elt F .i32) (v12 : Elt F .i32) (v15 : Elt F .i32) (v18 : Elt F .i32) (v21 : Elt F .i32) (v24 : Elt F .i32) (v27 : Elt F .i32) (v30 : Elt F .i32) (v33 : Elt F .i32) (v36 : Elt F .i32) (v39 : Elt F .i32) (v42 : Elt F .i32) (v45 : Elt F .i32) (v48 : Elt F .i32) (v51 : Elt F .i32) (v54 : Elt F .i32) (v57 : Elt F .i32) (v60 : Elt F .i32) (v63 : Elt F .i32) (v66 : Elt F .i32) (v69 : Elt F .i32) (v72 : Elt F .i32) (v75 : Elt F .i32) (v78 : Elt F .i32) (v81 : Elt F .i32) (v84 : Elt F .i32) (v87 : Elt F .i32) (v90 : Elt F .i32) (v93 : Elt F .i32) (v96 : Elt F .i32) (v99 : Elt F .i32) (v102 : Elt F .i32) (v105 : Elt F .i32) (v108 : Elt F .i32) (v111 : Elt F .i32) (v114 : Elt F .i32) (v117 : Elt F .i32) (v120 : Elt F .i32) (v123 : Elt F .i32) (v126 : Elt F .i32) (v129 : Elt F .i32) (v132 : Elt F .i32) (v135 : Elt F .i32) (v138 : Elt F .i32) (v141 : Elt F .i32)

theorem inv_step (harg4 : arg4.IsWhole) (harg5 : arg5.IsWhole) (harg6 : arg6.IsWhole) (harg7 : arg7.IsWhole)
    (harg10 : arg10.IsWhole) (harg11 : arg11.IsWhole) (harg12 : arg12.IsWhole) (harg13 : arg13.IsWhole) (harg14 : arg14.IsWhole)
    (f : Buf (Elt F) (arg9.view.loc (c : Thread nD τ)))
    (hf : ∀ i (hi : i + 1 ≤ 17), i < nAct (maskOf v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) → (ent (F := F) c arg9 i hi f).toNat < 16)
    (k : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) :
    Inv c arg1 arg2 arg3 arg4 arg5 arg6 arg7 arg9 arg10 arg11 arg12 arg13 arg14 arg15 arg16 V4 V5 V6 V7 q1 q2 q3 X I C f (nAct (maskOf v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141)) k
      ⊢ WP c (trip arg1 arg2 arg3 arg4 harg4 arg5 harg5 arg6 harg6 arg7 harg7 arg9 arg10 harg10 arg11 harg11 arg12 harg12 arg13 harg13 arg14 harg14 arg15 arg16 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k (tIx_in v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k) (tSlot_in v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k) (fun _ => nIx_in v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k) (nSlot_in v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k))
          (fun _ => Inv c arg1 arg2 arg3 arg4 arg5 arg6 arg7 arg9 arg10 arg11 arg12 arg13 arg14 arg15 arg16 V4 V5 V6 V7 q1 q2 q3 X I C f (nAct (maskOf v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141)) (k + 1)) := by
  have hk := trip_lt v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k
  have hk' : (k : ℕ) < nAct (maskOf v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) := lt_of_lt_of_eq k.isLt (trips_eq v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141)
  have h := wp_trip c arg1 arg2 arg3 arg4 arg5 arg6 arg7 arg9 arg10 arg11 arg12 arg13 arg14 arg15 arg16 V4 V5 V6 V7 q1 q2 q3 X I C v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 harg4 harg5 harg6 harg7 harg10 harg11 harg12 harg13 harg14 f (accK (AA c arg4 arg5 arg6 arg7 V4 V5 V6 V7 X I C) (entT c arg9 f) k) hf k
  have ht := tSlot_eq (k : ℕ) (by omega)
  have hn := nSlot_eq (k : ℕ) (by omega)
  have h0 : (k : ℕ) % 2 < 2 := Nat.mod_lt _ (by omega)
  have h1 : ((k : ℕ) + 1) % 2 < 2 := Nat.mod_lt _ (by omega)
  have h2 : ((k : ℕ) + 1 + 1) % 2 < 2 := Nat.mod_lt _ (by omega)
  rw [FlyA_congr c arg4 arg5 arg6 arg7 arg10 arg11 arg12 arg13 arg16 V4 V5 V6 V7 (entT c arg9 f k).toNat ht (tSlot_in v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k) h0, IdleA_congr c arg4 arg5 arg6 arg7 arg10 arg11 arg12 arg13 arg16 V4 V5 V6 V7 ht (tSlot_in v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k) h0,
    FlyA_congr c arg4 arg5 arg6 arg7 arg10 arg11 arg12 arg13 arg16 V4 V5 V6 V7 (entT c arg9 f (k + 1)).toNat hn (nSlot_in v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k) h1, IdleA_congr c arg4 arg5 arg6 arg7 arg10 arg11 arg12 arg13 arg16 V4 V5 V6 V7 hn (nSlot_in v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k) h1] at h
  unfold Inv
  rw [if_pos hk', IdleA_congr c arg4 arg5 arg6 arg7 arg10 arg11 arg12 arg13 arg16 V4 V5 V6 V7 (by omega : ((k : ℕ) + 1 + 1) % 2 = (k : ℕ) % 2) h2 h0]
  refine h.trans (wp_mono _ _ _ fun _ => ?_)
  iintro ⟨HE, HI, HF⟩
  isplitl [HE]; · iexact HE
  isplitl [HF]; · iexact HF
  iexact HI

theorem wp_mainRest (harg4 : arg4.IsWhole) (harg5 : arg5.IsWhole) (harg6 : arg6.IsWhole) (harg7 : arg7.IsWhole) (harg8 : arg8.IsWhole)
    (harg10 : arg10.IsWhole) (harg11 : arg11.IsWhole) (harg12 : arg12.IsWhole) (harg13 : arg13.IsWhole) (harg14 : arg14.IsWhole)
    (hpos : 0 < nAct (maskOf v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141)) {Q : PUnit → sProp 𝕄} :
    iprop(some' (F := F) c arg9 ∗ ro (F := F) c arg1 q1 (rdP c arg1 X) ∗ ro (F := F) c arg2 q2 (rdP c arg2 I) ∗ ro (F := F) c arg3 q3 (rdP c arg3 C) ∗ some' (F := F) c arg14 ∗ some' (F := F) c arg15 ∗ (∃ W, owes (c : Thread nD τ) 0 W)
        ∗ some' (F := F) c arg8 ∗ IdleA c arg4 arg5 arg6 arg7 arg10 arg11 arg12 arg13 arg16 V4 V5 V6 V7 0 b0 ∗ IdleA c arg4 arg5 arg6 arg7 arg10 arg11 arg12 arg13 arg16 V4 V5 V6 V7 1 b1)
      ⊢ iprop((iprop(some' (F := F) c arg9 ∗ ro (F := F) c arg1 q1 (rdP c arg1 X) ∗ ro (F := F) c arg2 q2 (rdP c arg2 I) ∗ ro (F := F) c arg3 q3 (rdP c arg3 C) ∗ some' (F := F) c arg14 ∗ some' (F := F) c arg15 ∗ (∃ W, owes (c : Thread nD τ) 0 W)
            ∗ has (F := F) c arg8 (rdP c arg8 (outM (AA c arg4 arg5 arg6 arg7 V4 V5 V6 V7 X I C) (maskOf v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141))) ∗ IdleA c arg4 arg5 arg6 arg7 arg10 arg11 arg12 arg13 arg16 V4 V5 V6 V7 0 b0 ∗ IdleA c arg4 arg5 arg6 arg7 arg10 arg11 arg12 arg13 arg16 V4 V5 V6 V7 1 b1) -∗ Q ⟨⟩)
        -∗ WP c (mainRest arg1 arg2 arg3 arg4 harg4 arg5 harg5 arg6 harg6 arg7 harg7 arg8 harg8 arg9 arg10 harg10 arg11 harg11 arg12 harg12 arg13 harg13 arg14 harg14 arg15 arg16 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) Q) := by
  unfold mainRest
  iintro ⟨⟨%f0, H9⟩, H1, H2, H3, H14, H15, HW, H8, I0, I1⟩ Hk
  have hchk := chk1_all v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141
  iapply (wp_assume _ _ _ _ hchk)
  iapply (wp_stAll c arg9 (maskOf v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) f0 16 le_rfl _) $$ H9
  iintro H9
  have hf : ∀ i (hi : i + 1 ≤ 17), i < nAct (maskOf v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) → (ent (F := F) c arg9 i hi (lst c arg9 (maskOf v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) f0 16 le_rfl)).toNat < 16 :=
    fun i hi h => lst_ok c arg9 _ f0 i hi h
  have hacc : accK (AA c arg4 arg5 arg6 arg7 V4 V5 V6 V7 X I C) (entT c arg9 (lst c arg9 (maskOf v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) f0 16 le_rfl)) (nAct (maskOf v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141)) = accE (AA c arg4 arg5 arg6 arg7 V4 V5 V6 V7 X I C) (maskOf v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) 16 :=
    accK_cntN (AA c arg4 arg5 arg6 arg7 V4 V5 V6 V7 X I C) (maskOf v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) _ (fun i h => by
      have h16 : i + 1 ≤ 17 := by have := cntN_le (maskOf v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) 16; omega
      obtain ⟨j, h1, h2, h3, h4⟩ := lst_ent c arg9 (maskOf v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) f0 16 le_rfl i h16 h
      exact ⟨j, h1, h2, h3, (ent_entT c arg9 _ i h16 i rfl).symm.trans h4⟩) 16 le_rfl
  have h00 : 0 + 1 ≤ 17 := by decide
  have hf0 := hf 0 h00 hpos
  iapply (wp_startP c arg4 arg5 arg6 arg7 arg9 arg10 arg11 arg12 arg13 arg16 V4 V5 V6 V7 harg4 harg5 harg6 harg7 harg10 harg11 harg12 harg13 0 h00 0 b0 chk2C chk3C chk4C chk2_ok chk3_ok chk4_ok _ hf0) $$ [H9 I0]
  · isplitl [H9]; · iexact H9
    iexact I0
  rw [ent_entT c arg9 _ 0 h00 0 rfl]
  iintro ⟨H9, I0⟩
  ihave H15 := (has_of_some c arg15 (fun _ => True) (fun _ => trivial)) $$ H15
  iapply (wp_ldAnyV c arg15 _ _ _ fullShare (View.setOn_subset_set _ _) _) $$ H15
  iintro %y H15
  iapply (wp_st c arg15 (Rect.unit (s := S24x2048) ![0, 0] S24x2048.size inb_S24x2048_S24x2048_0_0) (k0_pay1 (F := F)) _ _ _ (fun _ => True) (rdP c arg15 (k0_pay1 (F := F))) (fun f _ => read_putAll c arg15 _ f _)) $$ H15
  iintro H15
  have e1 : IdleA c arg4 arg5 arg6 arg7 arg10 arg11 arg12 arg13 arg16 V4 V5 V6 V7 1 b1 = IdleA c arg4 arg5 arg6 arg7 arg10 arg11 arg12 arg13 arg16 V4 V5 V6 V7 ((0 + 1) % 2) (Nat.mod_lt _ (by omega)) := IdleA_congr _ _ _ _ _ _ _ _ _ _ _ _ _ _ rfl _ _
  iapply (Scf.wp_for_bind frame (wpE (defs₀ (F := F)) Variants.none (c : Thread nD τ) none) Set.univ _ _ _ (loop_ok v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) () _
    (fun k _ => Inv c arg1 arg2 arg3 arg4 arg5 arg6 arg7 arg9 arg10 arg11 arg12 arg13 arg14 arg15 arg16 V4 V5 V6 V7 q1 q2 q3 X I C (lst c arg9 (maskOf v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) f0 16 le_rfl) (nAct (maskOf v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141)) k)
    (fun k _ => inv_step c arg1 arg2 arg3 arg4 arg5 arg6 arg7 arg9 arg10 arg11 arg12 arg13 arg14 arg15 arg16 V4 V5 V6 V7 q1 q2 q3 X I C v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 harg4 harg5 harg6 harg7 harg10 harg11 harg12 harg13 harg14 _ hf k)) $$ [H9 H1 H2 H3 H14 H15 HW I0 I1]
  · unfold Inv
    rw [if_pos hpos]
    isplitl [H9 H1 H2 H3 H14 H15 HW]
    · unfold Env
      isplitl [H9]; · iexact H9
      isplitl [H1]; · iexact H1
      isplitl [H2]; · iexact H2
      isplitl [H3]; · iexact H3
      isplitl [H14]; · iexact H14
      isplitl [H15]; · iexact H15
      iexact HW
    isplitl [I0]; · iexact I0
    iexact I1
  iintro %u HI
  have e2 : Scf.trips (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).lb (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).ub (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).st = nAct (maskOf v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) := trips_eq v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141
  rw [e2]
  unfold Inv
  rw [if_neg (lt_irrefl _)]
  icases HI with ⟨HE, I0, I1⟩
  unfold Env
  icases HE with ⟨H9, H1, H2, H3, H14, H15, HW⟩
  rw [hacc]
  iapply (wp_ld c arg15 (Rect.unit (s := S24x2048) ![0, 0] S24x2048.size inb_S24x2048_S24x2048_0_0).toLoadRect _ _ fullShare (View.setOn_subset_set _ _) (rdP c arg15 (accE (AA c arg4 arg5 arg6 arg7 V4 V5 V6 V7 X I C) (maskOf v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) 16)) (accE (AA c arg4 arg5 arg6 arg7 V4 V5 V6 V7 X I C) (maskOf v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) 16) (fun f hf => (readAt_all c arg15 _ f).trans hf)) $$ H15
  iintro H15
  ihave H8 := (has_of_some c arg8 (fun _ => True) (fun _ => trivial)) $$ H8
  iapply (wp_ldAnyV c arg8 _ _ _ fullShare (View.setOn_subset_set _ _) _) $$ H8
  iintro %o H8
  iapply (wp_st c arg8 (Rect.unit (s := S24x2048) ![0, 0] S24x2048.size inb_S24x2048_S24x2048_0_0) (outM (AA c arg4 arg5 arg6 arg7 V4 V5 V6 V7 X I C) (maskOf v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141)) _ _ _ (fun _ => True) (rdP c arg8 (outM (AA c arg4 arg5 arg6 arg7 V4 V5 V6 V7 X I C) (maskOf v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141))) (fun f _ => read_putAll c arg8 _ f _)) $$ H8
  iintro H8
  iapply (wp_done c)
  iapply Hk
  isplitl [H9]; · iexists _; iexact H9
  isplitl [H1]; · iexact H1
  isplitl [H2]; · iexact H2
  isplitl [H3]; · iexact H3
  isplitl [H14]; · iexact H14
  isplitl [H15]; · iapply (has_some c arg15 _) $$ H15
  isplitl [HW]; · iexact HW
  isplitl [H8]; · iexact H8
  have h0 : nAct (maskOf v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) % 2 < 2 := Nat.mod_lt _ (by omega)
  have h1 : (nAct (maskOf v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) + 1) % 2 < 2 := Nat.mod_lt _ (by omega)
  rcases Nat.mod_two_eq_zero_or_one (nAct (maskOf v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141)) with e | e
  · rw [IdleA_congr c arg4 arg5 arg6 arg7 arg10 arg11 arg12 arg13 arg16 V4 V5 V6 V7 e h0 b0, IdleA_congr c arg4 arg5 arg6 arg7 arg10 arg11 arg12 arg13 arg16 V4 V5 V6 V7 (by omega : (nAct (maskOf v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) + 1) % 2 = 1) h1 b1]
    exact .rfl
  · rw [IdleA_congr c arg4 arg5 arg6 arg7 arg10 arg11 arg12 arg13 arg16 V4 V5 V6 V7 e h0 b1, IdleA_congr c arg4 arg5 arg6 arg7 arg10 arg11 arg12 arg13 arg16 V4 V5 V6 V7 (by omega : (nAct (maskOf v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) + 1) % 2 = 0) h1 b0]
    exact sep_comm

omit [FloatOps F] in
theorem mask_bit (h : (v0 : BitVec 32).toNat < 16) : (maskOf v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).getLsbD (v0 : BitVec 32).toNat = true := by
  have h1 : (Scalar.shli 1#32 v0).getLsbD (v0 : BitVec 32).toNat = true := by
    unfold Scalar.shli IntOp.shli
    rw [if_pos (by omega), BitVec.shiftLeft_eq', BitVec.getLsbD_shiftLeft]
    simp
    omega
  unfold maskOf
  unfold Scalar.ori IntOp.ori
  simp only [BitVec.getLsbD_or, h1, Bool.true_or, Bool.or_true]

theorem nAct_pos (h : (v0 : BitVec 32).toNat < 16) : 0 < nAct (maskOf v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) := by
  have hb := mask_bit v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 h
  have : ∀ n (m : BitVec 32) j, j < n → m.getLsbD j = true → 0 < cntN m n := by
    intro n m j hj hm
    induction n with
    | zero => omega
    | succ n ih =>
      unfold cntN
      by_cases e : j = n
      · subst e; rw [if_pos hm]; omega
      · have := ih (by omega); omega
  exact this 16 _ _ h hb
end

/-- Choice `k` of token `t` in the ids. -/
abbrev idw (arg0 : Memref sig .tc .smem S24x2 .i32) (t k : ℕ) (ht : t + 1 ≤ 24) (hk : k + 1 ≤ 2) (f : Buf (Elt F) (arg0.view.loc (c : Thread nD τ))) : BitVec 32 :=
  (arg0.access (Rect.unit (s := S24x2) ![t, k] S1x1.size (inb2 ht hk))).read (Elt F) f (Shape.Idx.first (numel1_S1x1.symm ▸ Nat.one_pos))

theorem wp_ldId {α : Type} {Q : α → sProp 𝕄} (arg0 : Memref sig .tc .smem S24x2 .i32) (t k : ℕ) (ht : t + 1 ≤ 24) (hk : k + 1 ≤ 2) (q0 : PosShare TreeShare)
    (f : Buf (Elt F) (arg0.view.loc (c : Thread nD τ))) (kk : Elt F .i32 → PP F α) :
    (arg0.view.loc (c : Thread nD τ) ↦[arg0.view.set]{q0} f)
      ⊢ iprop(((arg0.view.loc (c : Thread nD τ) ↦[arg0.view.set]{q0} f) -∗ WP c (kk (idw (F := F) c arg0 t k ht hk f)) Q) -∗ WP c (ldId arg0 t k ht hk kk) Q) := by
  have h := wp_load_rect (defs := defs₀ (F := F)) Variants.none (c : Thread nD τ) none Set.univ (Γ := ({} : _)) (Q := Q) (q := q0) (f := f) (m := arg0)
    (r := Rect.unit (s := S24x2) ![t, k] S1x1.size (inb2 ht hk)) (hl := View.loadsAt_rect (View.loads_smem_one rfl numel1_S1x1))
    (k := fun g => kk (g (Shape.Idx.first (numel1_S1x1.symm ▸ Nat.one_pos)))) (View.set_slice_subset _ _)
  exact h

/-- The word read for a choice is the matrix's entry. -/
theorem idw_read (arg0 : Memref sig .tc .smem S24x2 .i32) (t k : ℕ) (ht : t + 1 ≤ 24) (hk : k + 1 ≤ 2) (f : Buf (Elt F) (arg0.view.loc (c : Thread nD τ))) :
    idw (F := F) c arg0 t k ht hk f = arg0.view.read (Elt F) f (ix2 ⟨t, ht⟩ ⟨k, hk⟩) := by
  refine congrArg (arg0.view.read (Elt F) f) ?_
  funext a
  match a with
  | 0 => exact Fin.ext (by show t + 1 * 0 = t; omega)
  | 1 => exact Fin.ext (by show k + 1 * 0 = k; omega)

theorem wp_ldW {α : Type} {Q : α → sProp 𝕄} (arg0 : Memref sig .tc .smem S24x2 .i32) (t k : ℕ) (ht : t + 1 ≤ 24) (hk : k + 1 ≤ 2) (q0 : PosShare TreeShare)
    (f : Buf (Elt F) (arg0.view.loc (c : Thread nD τ))) (J : S24x2.Idx → Elt F .i32) (hJ : arg0.view.read (Elt F) f = J) (kk : Elt F .i32 → PP F α) :
    (arg0.view.loc (c : Thread nD τ) ↦[arg0.view.set]{q0} f)
      ⊢ iprop(((arg0.view.loc (c : Thread nD τ) ↦[arg0.view.set]{q0} f) -∗ WP c (kk (J (ix2 ⟨t, ht⟩ ⟨k, hk⟩))) Q) -∗ WP c (ldId arg0 t k ht hk kk) Q) := by
  have h := wp_ldId (Q := Q) c arg0 t k ht hk q0 f kk
  rw [idw_read, hJ] at h
  exact h

/-- The mask of the experts that the ids name. -/
def maskM (J : S24x2.Idx → Elt F .i32) : BitVec 32 :=
  maskOf (J (ix2 ⟨0, by decide⟩ ⟨0, by decide⟩)) (J (ix2 ⟨0, by decide⟩ ⟨1, by decide⟩)) (J (ix2 ⟨1, by decide⟩ ⟨0, by decide⟩)) (J (ix2 ⟨1, by decide⟩ ⟨1, by decide⟩)) (J (ix2 ⟨2, by decide⟩ ⟨0, by decide⟩)) (J (ix2 ⟨2, by decide⟩ ⟨1, by decide⟩)) (J (ix2 ⟨3, by decide⟩ ⟨0, by decide⟩)) (J (ix2 ⟨3, by decide⟩ ⟨1, by decide⟩)) (J (ix2 ⟨4, by decide⟩ ⟨0, by decide⟩)) (J (ix2 ⟨4, by decide⟩ ⟨1, by decide⟩)) (J (ix2 ⟨5, by decide⟩ ⟨0, by decide⟩)) (J (ix2 ⟨5, by decide⟩ ⟨1, by decide⟩)) (J (ix2 ⟨6, by decide⟩ ⟨0, by decide⟩)) (J (ix2 ⟨6, by decide⟩ ⟨1, by decide⟩)) (J (ix2 ⟨7, by decide⟩ ⟨0, by decide⟩)) (J (ix2 ⟨7, by decide⟩ ⟨1, by decide⟩)) (J (ix2 ⟨8, by decide⟩ ⟨0, by decide⟩)) (J (ix2 ⟨8, by decide⟩ ⟨1, by decide⟩)) (J (ix2 ⟨9, by decide⟩ ⟨0, by decide⟩)) (J (ix2 ⟨9, by decide⟩ ⟨1, by decide⟩)) (J (ix2 ⟨10, by decide⟩ ⟨0, by decide⟩)) (J (ix2 ⟨10, by decide⟩ ⟨1, by decide⟩)) (J (ix2 ⟨11, by decide⟩ ⟨0, by decide⟩)) (J (ix2 ⟨11, by decide⟩ ⟨1, by decide⟩)) (J (ix2 ⟨12, by decide⟩ ⟨0, by decide⟩)) (J (ix2 ⟨12, by decide⟩ ⟨1, by decide⟩)) (J (ix2 ⟨13, by decide⟩ ⟨0, by decide⟩)) (J (ix2 ⟨13, by decide⟩ ⟨1, by decide⟩)) (J (ix2 ⟨14, by decide⟩ ⟨0, by decide⟩)) (J (ix2 ⟨14, by decide⟩ ⟨1, by decide⟩)) (J (ix2 ⟨15, by decide⟩ ⟨0, by decide⟩)) (J (ix2 ⟨15, by decide⟩ ⟨1, by decide⟩)) (J (ix2 ⟨16, by decide⟩ ⟨0, by decide⟩)) (J (ix2 ⟨16, by decide⟩ ⟨1, by decide⟩)) (J (ix2 ⟨17, by decide⟩ ⟨0, by decide⟩)) (J (ix2 ⟨17, by decide⟩ ⟨1, by decide⟩)) (J (ix2 ⟨18, by decide⟩ ⟨0, by decide⟩)) (J (ix2 ⟨18, by decide⟩ ⟨1, by decide⟩)) (J (ix2 ⟨19, by decide⟩ ⟨0, by decide⟩)) (J (ix2 ⟨19, by decide⟩ ⟨1, by decide⟩)) (J (ix2 ⟨20, by decide⟩ ⟨0, by decide⟩)) (J (ix2 ⟨20, by decide⟩ ⟨1, by decide⟩)) (J (ix2 ⟨21, by decide⟩ ⟨0, by decide⟩)) (J (ix2 ⟨21, by decide⟩ ⟨1, by decide⟩)) (J (ix2 ⟨22, by decide⟩ ⟨0, by decide⟩)) (J (ix2 ⟨22, by decide⟩ ⟨1, by decide⟩)) (J (ix2 ⟨23, by decide⟩ ⟨0, by decide⟩)) (J (ix2 ⟨23, by decide⟩ ⟨1, by decide⟩))

/-- The whole program: from the buffers it uses, whatever they hold, back to them. -/
theorem wp_mainP (arg0 : Memref sig .tc .smem S24x2 .i32) (q0 : PosShare TreeShare)
    (harg4 : arg4.IsWhole) (harg5 : arg5.IsWhole) (harg6 : arg6.IsWhole) (harg7 : arg7.IsWhole) (harg8 : arg8.IsWhole)
    (harg10 : arg10.IsWhole) (harg11 : arg11.IsWhole) (harg12 : arg12.IsWhole) (harg13 : arg13.IsWhole) (harg14 : arg14.IsWhole)
    (f : Buf (Elt F) (arg0.view.loc (c : Thread nD τ))) (J : S24x2.Idx → Elt F .i32) (hJ : arg0.view.read (Elt F) f = J) (hf : ((J (ix2 ⟨0, by decide⟩ ⟨0, by decide⟩)) : BitVec 32).toNat < 16) {Q : PUnit → sProp 𝕄} :
    iprop((arg0.view.loc (c : Thread nD τ) ↦[arg0.view.set]{q0} f) ∗ some' (F := F) c arg9 ∗ ro (F := F) c arg1 q1 (rdP c arg1 X) ∗ ro (F := F) c arg2 q2 (rdP c arg2 I) ∗ ro (F := F) c arg3 q3 (rdP c arg3 C) ∗ some' (F := F) c arg14 ∗ some' (F := F) c arg15 ∗ (∃ W, owes (c : Thread nD τ) 0 W)
        ∗ some' (F := F) c arg8 ∗ IdleA c arg4 arg5 arg6 arg7 arg10 arg11 arg12 arg13 arg16 V4 V5 V6 V7 0 b0 ∗ IdleA c arg4 arg5 arg6 arg7 arg10 arg11 arg12 arg13 arg16 V4 V5 V6 V7 1 b1)
      ⊢ iprop((iprop((arg0.view.loc (c : Thread nD τ) ↦[arg0.view.set]{q0} f) ∗ some' (F := F) c arg9 ∗ ro (F := F) c arg1 q1 (rdP c arg1 X) ∗ ro (F := F) c arg2 q2 (rdP c arg2 I) ∗ ro (F := F) c arg3 q3 (rdP c arg3 C) ∗ some' (F := F) c arg14 ∗ some' (F := F) c arg15 ∗ (∃ W, owes (c : Thread nD τ) 0 W)
            ∗ has (F := F) c arg8 (rdP c arg8 (outM (AA c arg4 arg5 arg6 arg7 V4 V5 V6 V7 X I C) (maskM (F := F) J))) ∗ IdleA c arg4 arg5 arg6 arg7 arg10 arg11 arg12 arg13 arg16 V4 V5 V6 V7 0 b0 ∗ IdleA c arg4 arg5 arg6 arg7 arg10 arg11 arg12 arg13 arg16 V4 V5 V6 V7 1 b1) -∗ Q ⟨⟩)
        -∗ WP c (mainP arg0 arg1 arg2 arg3 arg4 harg4 arg5 harg5 arg6 harg6 arg7 harg7 arg8 harg8 arg9 arg10 harg10 arg11 harg11 arg12 harg12 arg13 harg13 arg14 harg14 arg15 arg16) Q) := by
  unfold maskM
  unfold mainP
  iintro ⟨H0, HR⟩ Hk
  iapply (wp_ldW c arg0 0 0 _ _ q0 f J hJ _) $$ H0
  iintro H0
  iapply (wp_ldW c arg0 0 1 _ _ q0 f J hJ _) $$ H0
  iintro H0
  iapply (wp_ldW c arg0 1 0 _ _ q0 f J hJ _) $$ H0
  iintro H0
  iapply (wp_ldW c arg0 1 1 _ _ q0 f J hJ _) $$ H0
  iintro H0
  iapply (wp_ldW c arg0 2 0 _ _ q0 f J hJ _) $$ H0
  iintro H0
  iapply (wp_ldW c arg0 2 1 _ _ q0 f J hJ _) $$ H0
  iintro H0
  iapply (wp_ldW c arg0 3 0 _ _ q0 f J hJ _) $$ H0
  iintro H0
  iapply (wp_ldW c arg0 3 1 _ _ q0 f J hJ _) $$ H0
  iintro H0
  iapply (wp_ldW c arg0 4 0 _ _ q0 f J hJ _) $$ H0
  iintro H0
  iapply (wp_ldW c arg0 4 1 _ _ q0 f J hJ _) $$ H0
  iintro H0
  iapply (wp_ldW c arg0 5 0 _ _ q0 f J hJ _) $$ H0
  iintro H0
  iapply (wp_ldW c arg0 5 1 _ _ q0 f J hJ _) $$ H0
  iintro H0
  iapply (wp_ldW c arg0 6 0 _ _ q0 f J hJ _) $$ H0
  iintro H0
  iapply (wp_ldW c arg0 6 1 _ _ q0 f J hJ _) $$ H0
  iintro H0
  iapply (wp_ldW c arg0 7 0 _ _ q0 f J hJ _) $$ H0
  iintro H0
  iapply (wp_ldW c arg0 7 1 _ _ q0 f J hJ _) $$ H0
  iintro H0
  iapply (wp_ldW c arg0 8 0 _ _ q0 f J hJ _) $$ H0
  iintro H0
  iapply (wp_ldW c arg0 8 1 _ _ q0 f J hJ _) $$ H0
  iintro H0
  iapply (wp_ldW c arg0 9 0 _ _ q0 f J hJ _) $$ H0
  iintro H0
  iapply (wp_ldW c arg0 9 1 _ _ q0 f J hJ _) $$ H0
  iintro H0
  iapply (wp_ldW c arg0 10 0 _ _ q0 f J hJ _) $$ H0
  iintro H0
  iapply (wp_ldW c arg0 10 1 _ _ q0 f J hJ _) $$ H0
  iintro H0
  iapply (wp_ldW c arg0 11 0 _ _ q0 f J hJ _) $$ H0
  iintro H0
  iapply (wp_ldW c arg0 11 1 _ _ q0 f J hJ _) $$ H0
  iintro H0
  iapply (wp_ldW c arg0 12 0 _ _ q0 f J hJ _) $$ H0
  iintro H0
  iapply (wp_ldW c arg0 12 1 _ _ q0 f J hJ _) $$ H0
  iintro H0
  iapply (wp_ldW c arg0 13 0 _ _ q0 f J hJ _) $$ H0
  iintro H0
  iapply (wp_ldW c arg0 13 1 _ _ q0 f J hJ _) $$ H0
  iintro H0
  iapply (wp_ldW c arg0 14 0 _ _ q0 f J hJ _) $$ H0
  iintro H0
  iapply (wp_ldW c arg0 14 1 _ _ q0 f J hJ _) $$ H0
  iintro H0
  iapply (wp_ldW c arg0 15 0 _ _ q0 f J hJ _) $$ H0
  iintro H0
  iapply (wp_ldW c arg0 15 1 _ _ q0 f J hJ _) $$ H0
  iintro H0
  iapply (wp_ldW c arg0 16 0 _ _ q0 f J hJ _) $$ H0
  iintro H0
  iapply (wp_ldW c arg0 16 1 _ _ q0 f J hJ _) $$ H0
  iintro H0
  iapply (wp_ldW c arg0 17 0 _ _ q0 f J hJ _) $$ H0
  iintro H0
  iapply (wp_ldW c arg0 17 1 _ _ q0 f J hJ _) $$ H0
  iintro H0
  iapply (wp_ldW c arg0 18 0 _ _ q0 f J hJ _) $$ H0
  iintro H0
  iapply (wp_ldW c arg0 18 1 _ _ q0 f J hJ _) $$ H0
  iintro H0
  iapply (wp_ldW c arg0 19 0 _ _ q0 f J hJ _) $$ H0
  iintro H0
  iapply (wp_ldW c arg0 19 1 _ _ q0 f J hJ _) $$ H0
  iintro H0
  iapply (wp_ldW c arg0 20 0 _ _ q0 f J hJ _) $$ H0
  iintro H0
  iapply (wp_ldW c arg0 20 1 _ _ q0 f J hJ _) $$ H0
  iintro H0
  iapply (wp_ldW c arg0 21 0 _ _ q0 f J hJ _) $$ H0
  iintro H0
  iapply (wp_ldW c arg0 21 1 _ _ q0 f J hJ _) $$ H0
  iintro H0
  iapply (wp_ldW c arg0 22 0 _ _ q0 f J hJ _) $$ H0
  iintro H0
  iapply (wp_ldW c arg0 22 1 _ _ q0 f J hJ _) $$ H0
  iintro H0
  iapply (wp_ldW c arg0 23 0 _ _ q0 f J hJ _) $$ H0
  iintro H0
  iapply (wp_ldW c arg0 23 1 _ _ q0 f J hJ _) $$ H0
  iintro H0
  have hpos : 0 < nAct (maskM (F := F) J) := by unfold maskM; exact nAct_pos _ _ _ _ _ _ _ _ _ _ _ _ _ _ _ _ _ _ _ _ _ _ _ _ _ _ _ _ _ _ _ _ _ _ _ _ _ _ _ _ _ _ _ _ _ _ _ _ hf
  iapply (wp_mainRest c arg1 arg2 arg3 arg4 arg5 arg6 arg7 arg8 arg9 arg10 arg11 arg12 arg13 arg14 arg15 arg16 V4 V5 V6 V7 q1 q2 q3 X I C _ (J (ix2 ⟨0, _⟩ ⟨1, _⟩)) (J (ix2 ⟨1, _⟩ ⟨0, _⟩)) (J (ix2 ⟨1, _⟩ ⟨1, _⟩)) (J (ix2 ⟨2, _⟩ ⟨0, _⟩)) (J (ix2 ⟨2, _⟩ ⟨1, _⟩)) (J (ix2 ⟨3, _⟩ ⟨0, _⟩)) (J (ix2 ⟨3, _⟩ ⟨1, _⟩)) (J (ix2 ⟨4, _⟩ ⟨0, _⟩)) (J (ix2 ⟨4, _⟩ ⟨1, _⟩)) (J (ix2 ⟨5, _⟩ ⟨0, _⟩)) (J (ix2 ⟨5, _⟩ ⟨1, _⟩)) (J (ix2 ⟨6, _⟩ ⟨0, _⟩)) (J (ix2 ⟨6, _⟩ ⟨1, _⟩)) (J (ix2 ⟨7, _⟩ ⟨0, _⟩)) (J (ix2 ⟨7, _⟩ ⟨1, _⟩)) (J (ix2 ⟨8, _⟩ ⟨0, _⟩)) (J (ix2 ⟨8, _⟩ ⟨1, _⟩)) (J (ix2 ⟨9, _⟩ ⟨0, _⟩)) (J (ix2 ⟨9, _⟩ ⟨1, _⟩)) (J (ix2 ⟨10, _⟩ ⟨0, _⟩)) (J (ix2 ⟨10, _⟩ ⟨1, _⟩)) (J (ix2 ⟨11, _⟩ ⟨0, _⟩)) (J (ix2 ⟨11, _⟩ ⟨1, _⟩)) (J (ix2 ⟨12, _⟩ ⟨0, _⟩)) (J (ix2 ⟨12, _⟩ ⟨1, _⟩)) (J (ix2 ⟨13, _⟩ ⟨0, _⟩)) (J (ix2 ⟨13, _⟩ ⟨1, _⟩)) (J (ix2 ⟨14, _⟩ ⟨0, _⟩)) (J (ix2 ⟨14, _⟩ ⟨1, _⟩)) (J (ix2 ⟨15, _⟩ ⟨0, _⟩)) (J (ix2 ⟨15, _⟩ ⟨1, _⟩)) (J (ix2 ⟨16, _⟩ ⟨0, _⟩)) (J (ix2 ⟨16, _⟩ ⟨1, _⟩)) (J (ix2 ⟨17, _⟩ ⟨0, _⟩)) (J (ix2 ⟨17, _⟩ ⟨1, _⟩)) (J (ix2 ⟨18, _⟩ ⟨0, _⟩)) (J (ix2 ⟨18, _⟩ ⟨1, _⟩)) (J (ix2 ⟨19, _⟩ ⟨0, _⟩)) (J (ix2 ⟨19, _⟩ ⟨1, _⟩)) (J (ix2 ⟨20, _⟩ ⟨0, _⟩)) (J (ix2 ⟨20, _⟩ ⟨1, _⟩)) (J (ix2 ⟨21, _⟩ ⟨0, _⟩)) (J (ix2 ⟨21, _⟩ ⟨1, _⟩)) (J (ix2 ⟨22, _⟩ ⟨0, _⟩)) (J (ix2 ⟨22, _⟩ ⟨1, _⟩)) (J (ix2 ⟨23, _⟩ ⟨0, _⟩)) (J (ix2 ⟨23, _⟩ ⟨1, _⟩)) harg4 harg5 harg6 harg7 harg8 harg10 harg11 harg12 harg13 harg14 hpos) $$ HR
  iintro HR
  iapply Hk
  isplitl [H0]; · iexact H0
  iexact HR

end body

end Cert.Kernel.Gen
-- ==== Proof.Split.lean ====
/- Cutting the buffers the copies write into the parts that are in flight apart, and the arrays they read into shares. -/
module

public import proofs.«01_k».proof.Proof.Rest

@[expose] public section

set_option maxRecDepth 65536

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- A set of a buffer's elements, whatever they hold. -/
abbrev exS (ℓ : Loc nD τ sig) (S : Finset (Idx ℓ)) : sProp 𝕄 :=
  iprop(∃ f, ℓ ↦[S]{fullShare} f)

theorem exS_cut (ℓ : Loc nD τ sig) (I S : Finset (Idx ℓ)) (h : I ⊆ S) :
    (exS (F := F) ℓ S : sProp 𝕄) ⊢ iprop(exS (F := F) ℓ I ∗ exS (F := F) ℓ (S \ I)) := by
  iintro ⟨%f, H⟩
  icases (pointsTo_split_subset h).1 $$ H with ⟨H1, H2⟩
  isplitl [H1]
  · iexists f; iexact H1
  · iexists f; iexact H2

theorem exS_join (ℓ : Loc nD τ sig) (I S : Finset (Idx ℓ)) (h : I ⊆ S) :
    iprop(exS (F := F) ℓ I ∗ exS (F := F) ℓ (S \ I)) ⊢ (exS (F := F) ℓ S : sProp 𝕄) := by
  iintro ⟨⟨%f, H1⟩, ⟨%g, H2⟩⟩
  ihave H := (pointsTo_join_subset (f := g) (g := f) h) $$ [H1 H2]
  · isplitl [H1]
    · iexact H1
    · iexact H2
  iexists _
  iexact H

/-- The parts of a list, each apart, and what is left of the set. -/
def exL (ℓ : Loc nD τ sig) : Finset (Idx ℓ) → List (Finset (Idx ℓ)) → sProp 𝕄
  | S, [] => exS (F := F) ℓ S
  | S, I :: L => iprop(exS (F := F) ℓ I ∗ exL ℓ (S \ I) L)

theorem exL_sub {ℓ : Loc nD τ sig} {S I : Finset (Idx ℓ)} {L : List (Finset (Idx ℓ))}
    (hd : (I :: L).Pairwise Disjoint) (hs : ∀ J ∈ I :: L, J ⊆ S) : ∀ J ∈ L, J ⊆ S \ I := fun J hJ =>
  Finset.subset_sdiff.mpr ⟨hs J (List.mem_cons_of_mem _ hJ), ((List.pairwise_cons.mp hd).1 J hJ).symm⟩

theorem exL_cut (ℓ : Loc nD τ sig) (L : List (Finset (Idx ℓ))) : ∀ (S : Finset (Idx ℓ)), L.Pairwise Disjoint → (∀ I ∈ L, I ⊆ S) →
    ((exS (F := F) ℓ S : sProp 𝕄) ⊢ exL (F := F) ℓ S L) := by
  induction L with
  | nil => exact fun S _ _ => .rfl
  | cons I L ih =>
    exact fun S hd hs => (exS_cut ℓ I S (hs I List.mem_cons_self)).trans
      (sep_mono .rfl (ih (S \ I) (List.pairwise_cons.mp hd).2 (exL_sub hd hs)))

theorem exL_join (ℓ : Loc nD τ sig) (L : List (Finset (Idx ℓ))) : ∀ (S : Finset (Idx ℓ)), L.Pairwise Disjoint → (∀ I ∈ L, I ⊆ S) →
    (exL (F := F) ℓ S L ⊢ (exS (F := F) ℓ S : sProp 𝕄)) := by
  induction L with
  | nil => exact fun S _ _ => .rfl
  | cons I L ih =>
    exact fun S hd hs => (sep_mono .rfl (ih (S \ I) (List.pairwise_cons.mp hd).2 (exL_sub hd hs))).trans
      (exS_join ℓ I S (hs I List.mem_cons_self))

theorem rows_disj (arg10 : Memref sig .tc .vmem S2x4096x1024 .i8) (b : ℕ) (hb : b < 2) (q : ℕ) (hq : q + 1024 ≤ 4096)
    (b' : ℕ) (hb' : b' < 2) (q' : ℕ) (hq' : q' + 1024 ≤ 4096) (h : b < b' ∨ b' < b ∨ q + 1024 ≤ q' ∨ q' + 1024 ≤ q) :
    Disjoint (rowsW1 arg10 b q hb hq).view.set (rowsW1 arg10 b' q' hb' hq').view.set := by
  have hset : ∀ (b : ℕ) (hb : b < 2) (q : ℕ) (hq : q + 1024 ≤ 4096), (rowsW1 arg10 b q hb hq).view.set
      = (Rect.unit (s := S2x4096x1024) ![b, q, 0] S1x1024x1024.size (inb3 (by omega) hq (by omega))).set.map arg10.view.emb :=
    fun b hb q hq => (View.set_reshape _ _).trans (View.set_slice _ _)
  rw [hset, hset, Finset.disjoint_map, Finset.disjoint_left]
  intro x hx hx'
  have e0 := Rect.mem_set_unit.mp hx 0
  have e1 := Rect.mem_set_unit.mp hx 1
  have g0 := Rect.mem_set_unit.mp hx' 0
  have g1 := Rect.mem_set_unit.mp hx' 1
  have e0' : b ≤ (x 0 : ℕ) ∧ (x 0 : ℕ) < b + 1 := e0
  have e1' : q ≤ (x 1 : ℕ) ∧ (x 1 : ℕ) < q + 1024 := e1
  have g0' : b' ≤ (x 0 : ℕ) ∧ (x 0 : ℕ) < b' + 1 := g0
  have g1' : q' ≤ (x 1 : ℕ) ∧ (x 1 : ℕ) < q' + 1024 := g1
  omega

theorem slotS1_disj (arg11 : Memref sig .tc .vmem S2x16x4096 .bf16) :
    Disjoint (slotS1 arg11 0 b0).view.set (slotS1 arg11 1 b1).view.set := by
  rw [show (slotS1 arg11 0 b0).view.set = _ from (View.set_reshape _ _).trans (View.set_slice _ _),
    show (slotS1 arg11 1 b1).view.set = _ from (View.set_reshape _ _).trans (View.set_slice _ _), Finset.disjoint_map, Finset.disjoint_left]
  intro x hx hx'
  have e0 : 0 ≤ (x 0 : ℕ) ∧ (x 0 : ℕ) < 0 + 1 := Rect.mem_set_unit.mp hx 0
  have g0 : 1 ≤ (x 0 : ℕ) ∧ (x 0 : ℕ) < 1 + 1 := Rect.mem_set_unit.mp hx' 0
  omega

/-- The two slots of a buffer, and what is left of it. -/
abbrev slotS1_list (arg11 : Memref sig .tc .vmem S2x16x4096 .bf16) (c : Dev nD) : List (Finset (Idx (arg11.view.loc (c : Thread nD τ)))) :=
  [(slotS1 arg11 0 b0).view.set, (slotS1 arg11 1 b1).view.set]

theorem slotS1_pw (arg11 : Memref sig .tc .vmem S2x16x4096 .bf16) (c : Dev nD) : (slotS1_list arg11 c).Pairwise Disjoint :=
  List.Pairwise.cons (fun J hJ => by
    rcases List.mem_singleton.mp hJ with rfl
    exact slotS1_disj arg11) (List.Pairwise.cons (fun J hJ => absurd hJ List.not_mem_nil) List.Pairwise.nil)

theorem slotW2_disj (arg12 : Memref sig .tc .vmem S2x2048x1024 .i8) :
    Disjoint (slotW2 arg12 0 b0).view.set (slotW2 arg12 1 b1).view.set := by
  rw [show (slotW2 arg12 0 b0).view.set = _ from (View.set_reshape _ _).trans (View.set_slice _ _),
    show (slotW2 arg12 1 b1).view.set = _ from (View.set_reshape _ _).trans (View.set_slice _ _), Finset.disjoint_map, Finset.disjoint_left]
  intro x hx hx'
  have e0 : 0 ≤ (x 0 : ℕ) ∧ (x 0 : ℕ) < 0 + 1 := Rect.mem_set_unit.mp hx 0
  have g0 : 1 ≤ (x 0 : ℕ) ∧ (x 0 : ℕ) < 1 + 1 := Rect.mem_set_unit.mp hx' 0
  omega

/-- The two slots of a buffer, and what is left of it. -/
abbrev slotW2_list (arg12 : Memref sig .tc .vmem S2x2048x1024 .i8) (c : Dev nD) : List (Finset (Idx (arg12.view.loc (c : Thread nD τ)))) :=
  [(slotW2 arg12 0 b0).view.set, (slotW2 arg12 1 b1).view.set]

theorem slotW2_pw (arg12 : Memref sig .tc .vmem S2x2048x1024 .i8) (c : Dev nD) : (slotW2_list arg12 c).Pairwise Disjoint :=
  List.Pairwise.cons (fun J hJ => by
    rcases List.mem_singleton.mp hJ with rfl
    exact slotW2_disj arg12) (List.Pairwise.cons (fun J hJ => absurd hJ List.not_mem_nil) List.Pairwise.nil)

theorem slotS2_disj (arg13 : Memref sig .tc .vmem S2x16x2048 .bf16) :
    Disjoint (slotS2 arg13 0 b0).view.set (slotS2 arg13 1 b1).view.set := by
  rw [show (slotS2 arg13 0 b0).view.set = _ from (View.set_reshape _ _).trans (View.set_slice _ _),
    show (slotS2 arg13 1 b1).view.set = _ from (View.set_reshape _ _).trans (View.set_slice _ _), Finset.disjoint_map, Finset.disjoint_left]
  intro x hx hx'
  have e0 : 0 ≤ (x 0 : ℕ) ∧ (x 0 : ℕ) < 0 + 1 := Rect.mem_set_unit.mp hx 0
  have g0 : 1 ≤ (x 0 : ℕ) ∧ (x 0 : ℕ) < 1 + 1 := Rect.mem_set_unit.mp hx' 0
  omega

/-- The two slots of a buffer, and what is left of it. -/
abbrev slotS2_list (arg13 : Memref sig .tc .vmem S2x16x2048 .bf16) (c : Dev nD) : List (Finset (Idx (arg13.view.loc (c : Thread nD τ)))) :=
  [(slotS2 arg13 0 b0).view.set, (slotS2 arg13 1 b1).view.set]

theorem slotS2_pw (arg13 : Memref sig .tc .vmem S2x16x2048 .bf16) (c : Dev nD) : (slotS2_list arg13 c).Pairwise Disjoint :=
  List.Pairwise.cons (fun J hJ => by
    rcases List.mem_singleton.mp hJ with rfl
    exact slotS2_disj arg13) (List.Pairwise.cons (fun J hJ => absurd hJ List.not_mem_nil) List.Pairwise.nil)

/-- The quarters of the rows of the two slots. -/
abbrev rows_list (arg10 : Memref sig .tc .vmem S2x4096x1024 .i8) (c : Dev nD) : List (Finset (Idx (arg10.view.loc (c : Thread nD τ)))) :=
  [(rowsW1 arg10 0 0 b0 r0).view.set, (rowsW1 arg10 0 1024 b0 r1024).view.set, (rowsW1 arg10 0 2048 b0 r2048).view.set, (rowsW1 arg10 0 3072 b0 r3072).view.set, (rowsW1 arg10 1 0 b1 r0).view.set, (rowsW1 arg10 1 1024 b1 r1024).view.set, (rowsW1 arg10 1 2048 b1 r2048).view.set, (rowsW1 arg10 1 3072 b1 r3072).view.set]

theorem rows_pw (arg10 : Memref sig .tc .vmem S2x4096x1024 .i8) (c : Dev nD) : (rows_list arg10 c).Pairwise Disjoint := by
  refine List.Pairwise.cons (fun J hJ => ?_) ?_
  · simp only [List.mem_cons, List.not_mem_nil, or_false] at hJ
    rcases hJ with rfl | rfl | rfl | rfl | rfl | rfl | rfl
    · exact rows_disj arg10 0 b0 0 r0 0 b0 1024 r1024 (by omega)
    · exact rows_disj arg10 0 b0 0 r0 0 b0 2048 r2048 (by omega)
    · exact rows_disj arg10 0 b0 0 r0 0 b0 3072 r3072 (by omega)
    · exact rows_disj arg10 0 b0 0 r0 1 b1 0 r0 (by omega)
    · exact rows_disj arg10 0 b0 0 r0 1 b1 1024 r1024 (by omega)
    · exact rows_disj arg10 0 b0 0 r0 1 b1 2048 r2048 (by omega)
    · exact rows_disj arg10 0 b0 0 r0 1 b1 3072 r3072 (by omega)
  refine List.Pairwise.cons (fun J hJ => ?_) ?_
  · simp only [List.mem_cons, List.not_mem_nil, or_false] at hJ
    rcases hJ with rfl | rfl | rfl | rfl | rfl | rfl
    · exact rows_disj arg10 0 b0 1024 r1024 0 b0 2048 r2048 (by omega)
    · exact rows_disj arg10 0 b0 1024 r1024 0 b0 3072 r3072 (by omega)
    · exact rows_disj arg10 0 b0 1024 r1024 1 b1 0 r0 (by omega)
    · exact rows_disj arg10 0 b0 1024 r1024 1 b1 1024 r1024 (by omega)
    · exact rows_disj arg10 0 b0 1024 r1024 1 b1 2048 r2048 (by omega)
    · exact rows_disj arg10 0 b0 1024 r1024 1 b1 3072 r3072 (by omega)
  refine List.Pairwise.cons (fun J hJ => ?_) ?_
  · simp only [List.mem_cons, List.not_mem_nil, or_false] at hJ
    rcases hJ with rfl | rfl | rfl | rfl | rfl
    · exact rows_disj arg10 0 b0 2048 r2048 0 b0 3072 r3072 (by omega)
    · exact rows_disj arg10 0 b0 2048 r2048 1 b1 0 r0 (by omega)
    · exact rows_disj arg10 0 b0 2048 r2048 1 b1 1024 r1024 (by omega)
    · exact rows_disj arg10 0 b0 2048 r2048 1 b1 2048 r2048 (by omega)
    · exact rows_disj arg10 0 b0 2048 r2048 1 b1 3072 r3072 (by omega)
  refine List.Pairwise.cons (fun J hJ => ?_) ?_
  · simp only [List.mem_cons, List.not_mem_nil, or_false] at hJ
    rcases hJ with rfl | rfl | rfl | rfl
    · exact rows_disj arg10 0 b0 3072 r3072 1 b1 0 r0 (by omega)
    · exact rows_disj arg10 0 b0 3072 r3072 1 b1 1024 r1024 (by omega)
    · exact rows_disj arg10 0 b0 3072 r3072 1 b1 2048 r2048 (by omega)
    · exact rows_disj arg10 0 b0 3072 r3072 1 b1 3072 r3072 (by omega)
  refine List.Pairwise.cons (fun J hJ => ?_) ?_
  · simp only [List.mem_cons, List.not_mem_nil, or_false] at hJ
    rcases hJ with rfl | rfl | rfl
    · exact rows_disj arg10 1 b1 0 r0 1 b1 1024 r1024 (by omega)
    · exact rows_disj arg10 1 b1 0 r0 1 b1 2048 r2048 (by omega)
    · exact rows_disj arg10 1 b1 0 r0 1 b1 3072 r3072 (by omega)
  refine List.Pairwise.cons (fun J hJ => ?_) ?_
  · simp only [List.mem_cons, List.not_mem_nil, or_false] at hJ
    rcases hJ with rfl | rfl
    · exact rows_disj arg10 1 b1 1024 r1024 1 b1 2048 r2048 (by omega)
    · exact rows_disj arg10 1 b1 1024 r1024 1 b1 3072 r3072 (by omega)
  refine List.Pairwise.cons (fun J hJ => ?_) ?_
  · simp only [List.mem_cons, List.not_mem_nil, or_false] at hJ
    rcases hJ with rfl
    · exact rows_disj arg10 1 b1 2048 r2048 1 b1 3072 r3072 (by omega)
  refine List.Pairwise.cons (fun J hJ => ?_) ?_
  · exact absurd hJ List.not_mem_nil
  exact List.Pairwise.nil

theorem toks5 (ℓ : Loc nD τ sig) (V : Buf (Elt F) ℓ) :
    (ℓ ↦[Finset.univ]{fullShare} V : sProp 𝕄) ⊣⊢ iprop((ℓ ↦[Finset.univ]{Transfers.shareDrop fullShare 5} V) ∗ (ℓ ↦[Finset.univ]{Transfers.shareTokN fullShare 0} V) ∗ (ℓ ↦[Finset.univ]{Transfers.shareTokN fullShare 1} V) ∗ (ℓ ↦[Finset.univ]{Transfers.shareTokN fullShare 2} V) ∗ (ℓ ↦[Finset.univ]{Transfers.shareTokN fullShare 3} V) ∗ (ℓ ↦[Finset.univ]{Transfers.shareTokN fullShare 4} V)) := by
  refine (Transfers.pointsTo_toks_range fullShare 5).trans ?_
  rw [BI.bigSep_eq_bigSepL_of_eq [0, 1, 2, 3, 4] (by decide) (by decide)]
  exact ⟨.rfl, .rfl⟩

theorem toks8 (ℓ : Loc nD τ sig) (V : Buf (Elt F) ℓ) :
    (ℓ ↦[Finset.univ]{fullShare} V : sProp 𝕄) ⊣⊢ iprop((ℓ ↦[Finset.univ]{Transfers.shareDrop fullShare 8} V) ∗ (ℓ ↦[Finset.univ]{Transfers.shareTokN fullShare 0} V) ∗ (ℓ ↦[Finset.univ]{Transfers.shareTokN fullShare 1} V) ∗ (ℓ ↦[Finset.univ]{Transfers.shareTokN fullShare 2} V) ∗ (ℓ ↦[Finset.univ]{Transfers.shareTokN fullShare 3} V) ∗ (ℓ ↦[Finset.univ]{Transfers.shareTokN fullShare 4} V) ∗ (ℓ ↦[Finset.univ]{Transfers.shareTokN fullShare 5} V) ∗ (ℓ ↦[Finset.univ]{Transfers.shareTokN fullShare 6} V) ∗ (ℓ ↦[Finset.univ]{Transfers.shareTokN fullShare 7} V)) := by
  refine (Transfers.pointsTo_toks_range fullShare 8).trans ?_
  rw [BI.bigSep_eq_bigSepL_of_eq [0, 1, 2, 3, 4, 5, 6, 7] (by decide) (by decide)]
  exact ⟨.rfl, .rfl⟩

section all
variable (c : Dev nD)
  (arg4 : Memref sig .tc .hbm S16x4096x1024 .i8) (arg5 : Memref sig .tc .hbm S16x16x4096 .bf16) (arg6 : Memref sig .tc .hbm S16x2048x1024 .i8) (arg7 : Memref sig .tc .hbm S16x16x2048 .bf16)
  (arg10 : Memref sig .tc .vmem S2x4096x1024 .i8) (arg11 : Memref sig .tc .vmem S2x16x4096 .bf16) (arg12 : Memref sig .tc .vmem S2x2048x1024 .i8) (arg13 : Memref sig .tc .vmem S2x16x2048 .bf16) (arg16 : DmaSems sig S2x3)
  (V4 : Buf (Elt F) (arg4.view.loc (c : Thread nD τ))) (V5 : Buf (Elt F) (arg5.view.loc (c : Thread nD τ))) (V6 : Buf (Elt F) (arg6.view.loc (c : Thread nD τ))) (V7 : Buf (Elt F) (arg7.view.loc (c : Thread nD τ)))

/-- What of the buffers and the arrays no copy ever touches. -/
def Left : sProp 𝕄 :=
  iprop(
    exS (F := F) (arg10.view.loc (c : Thread nD τ)) ((((((((Finset.univ \ (rowsW1 arg10 0 0 b0 r0).view.set) \ (rowsW1 arg10 0 1024 b0 r1024).view.set) \ (rowsW1 arg10 0 2048 b0 r2048).view.set) \ (rowsW1 arg10 0 3072 b0 r3072).view.set) \ (rowsW1 arg10 1 0 b1 r0).view.set) \ (rowsW1 arg10 1 1024 b1 r1024).view.set) \ (rowsW1 arg10 1 2048 b1 r2048).view.set) \ (rowsW1 arg10 1 3072 b1 r3072).view.set)
    ∗ exS (F := F) (arg11.view.loc (c : Thread nD τ)) ((Finset.univ \ (slotS1 arg11 0 b0).view.set) \ (slotS1 arg11 1 b1).view.set)
    ∗ exS (F := F) (arg12.view.loc (c : Thread nD τ)) ((Finset.univ \ (slotW2 arg12 0 b0).view.set) \ (slotW2 arg12 1 b1).view.set)
    ∗ exS (F := F) (arg13.view.loc (c : Thread nD τ)) ((Finset.univ \ (slotS2 arg13 0 b0).view.set) \ (slotS2 arg13 1 b1).view.set)
    ∗ (arg4.view.loc (c : Thread nD τ) ↦[Finset.univ]{Transfers.shareDrop fullShare 8} V4)
    ∗ (arg5.view.loc (c : Thread nD τ) ↦[Finset.univ]{Transfers.shareDrop fullShare 5} V5)
    ∗ (arg5.view.loc (c : Thread nD τ) ↦[Finset.univ]{Transfers.shareTokN fullShare 1} V5)
    ∗ (arg5.view.loc (c : Thread nD τ) ↦[Finset.univ]{Transfers.shareTokN fullShare 2} V5)
    ∗ (arg5.view.loc (c : Thread nD τ) ↦[Finset.univ]{Transfers.shareTokN fullShare 3} V5)
    ∗ (arg6.view.loc (c : Thread nD τ) ↦[Finset.univ]{Transfers.shareDrop fullShare 5} V6)
    ∗ (arg6.view.loc (c : Thread nD τ) ↦[Finset.univ]{Transfers.shareTokN fullShare 1} V6)
    ∗ (arg6.view.loc (c : Thread nD τ) ↦[Finset.univ]{Transfers.shareTokN fullShare 2} V6)
    ∗ (arg6.view.loc (c : Thread nD τ) ↦[Finset.univ]{Transfers.shareTokN fullShare 3} V6)
    ∗ (arg7.view.loc (c : Thread nD τ) ↦[Finset.univ]{Transfers.shareDrop fullShare 5} V7)
    ∗ (arg7.view.loc (c : Thread nD τ) ↦[Finset.univ]{Transfers.shareTokN fullShare 1} V7)
    ∗ (arg7.view.loc (c : Thread nD τ) ↦[Finset.univ]{Transfers.shareTokN fullShare 2} V7)
    ∗ (arg7.view.loc (c : Thread nD τ) ↦[Finset.univ]{Transfers.shareTokN fullShare 3} V7))

theorem cut10 : exS (F := F) (arg10.view.loc (c : Thread nD τ)) Finset.univ ⊣⊢ iprop(some' (F := F) c (rowsW1 arg10 0 0 b0 r0)
    ∗ some' (F := F) c (rowsW1 arg10 0 1024 b0 r1024)
    ∗ some' (F := F) c (rowsW1 arg10 0 2048 b0 r2048)
    ∗ some' (F := F) c (rowsW1 arg10 0 3072 b0 r3072)
    ∗ some' (F := F) c (rowsW1 arg10 1 0 b1 r0)
    ∗ some' (F := F) c (rowsW1 arg10 1 1024 b1 r1024)
    ∗ some' (F := F) c (rowsW1 arg10 1 2048 b1 r2048)
    ∗ some' (F := F) c (rowsW1 arg10 1 3072 b1 r3072)
    ∗ exS (F := F) (arg10.view.loc (c : Thread nD τ)) ((((((((Finset.univ \ (rowsW1 arg10 0 0 b0 r0).view.set) \ (rowsW1 arg10 0 1024 b0 r1024).view.set) \ (rowsW1 arg10 0 2048 b0 r2048).view.set) \ (rowsW1 arg10 0 3072 b0 r3072).view.set) \ (rowsW1 arg10 1 0 b1 r0).view.set) \ (rowsW1 arg10 1 1024 b1 r1024).view.set) \ (rowsW1 arg10 1 2048 b1 r2048).view.set) \ (rowsW1 arg10 1 3072 b1 r3072).view.set)) :=
  ⟨exL_cut _ (rows_list arg10 c) _ (rows_pw arg10 c) (fun _ _ => Finset.subset_univ _),
    exL_join _ (rows_list arg10 c) _ (rows_pw arg10 c) (fun _ _ => Finset.subset_univ _)⟩
theorem cut11 : exS (F := F) (arg11.view.loc (c : Thread nD τ)) Finset.univ ⊣⊢ iprop(some' (F := F) c (slotS1 arg11 0 b0) ∗ some' (F := F) c (slotS1 arg11 1 b1) ∗ exS (F := F) (arg11.view.loc (c : Thread nD τ)) ((Finset.univ \ (slotS1 arg11 0 b0).view.set) \ (slotS1 arg11 1 b1).view.set)) :=
  ⟨exL_cut _ (slotS1_list arg11 c) _ (slotS1_pw arg11 c) (fun _ _ => Finset.subset_univ _),
    exL_join _ (slotS1_list arg11 c) _ (slotS1_pw arg11 c) (fun _ _ => Finset.subset_univ _)⟩
theorem cut12 : exS (F := F) (arg12.view.loc (c : Thread nD τ)) Finset.univ ⊣⊢ iprop(some' (F := F) c (slotW2 arg12 0 b0) ∗ some' (F := F) c (slotW2 arg12 1 b1) ∗ exS (F := F) (arg12.view.loc (c : Thread nD τ)) ((Finset.univ \ (slotW2 arg12 0 b0).view.set) \ (slotW2 arg12 1 b1).view.set)) :=
  ⟨exL_cut _ (slotW2_list arg12 c) _ (slotW2_pw arg12 c) (fun _ _ => Finset.subset_univ _),
    exL_join _ (slotW2_list arg12 c) _ (slotW2_pw arg12 c) (fun _ _ => Finset.subset_univ _)⟩
theorem cut13 : exS (F := F) (arg13.view.loc (c : Thread nD τ)) Finset.univ ⊣⊢ iprop(some' (F := F) c (slotS2 arg13 0 b0) ∗ some' (F := F) c (slotS2 arg13 1 b1) ∗ exS (F := F) (arg13.view.loc (c : Thread nD τ)) ((Finset.univ \ (slotS2 arg13 0 b0).view.set) \ (slotS2 arg13 1 b1).view.set)) :=
  ⟨exL_cut _ (slotS2_list arg13 c) _ (slotS2_pw arg13 c) (fun _ _ => Finset.subset_univ _),
    exL_join _ (slotS2_list arg13 c) _ (slotS2_pw arg13 c) (fun _ _ => Finset.subset_univ _)⟩

theorem split_all :
    iprop(exS (F := F) (arg10.view.loc (c : Thread nD τ)) Finset.univ
    ∗ exS (F := F) (arg11.view.loc (c : Thread nD τ)) Finset.univ
    ∗ exS (F := F) (arg12.view.loc (c : Thread nD τ)) Finset.univ
    ∗ exS (F := F) (arg13.view.loc (c : Thread nD τ)) Finset.univ
    ∗ (arg4.view.loc (c : Thread nD τ) ↦[Finset.univ]{fullShare} V4)
    ∗ (arg5.view.loc (c : Thread nD τ) ↦[Finset.univ]{fullShare} V5)
    ∗ (arg6.view.loc (c : Thread nD τ) ↦[Finset.univ]{fullShare} V6)
    ∗ (arg7.view.loc (c : Thread nD τ) ↦[Finset.univ]{fullShare} V7)
    ∗ semVal ((c : Thread nD τ), gsem arg16 0 0 b0 lt0) 0
    ∗ semVal ((c : Thread nD τ), gsem arg16 0 1 b0 lt1) 0
    ∗ semVal ((c : Thread nD τ), gsem arg16 0 2 b0 lt2) 0
    ∗ semVal ((c : Thread nD τ), gsem arg16 1 0 b1 lt0) 0
    ∗ semVal ((c : Thread nD τ), gsem arg16 1 1 b1 lt1) 0
    ∗ semVal ((c : Thread nD τ), gsem arg16 1 2 b1 lt2) 0)
      ⊢ iprop(IdleA c arg4 arg5 arg6 arg7 arg10 arg11 arg12 arg13 arg16 V4 V5 V6 V7 0 b0 ∗ IdleA c arg4 arg5 arg6 arg7 arg10 arg11 arg12 arg13 arg16 V4 V5 V6 V7 1 b1 ∗ Left c arg4 arg5 arg6 arg7 arg10 arg11 arg12 arg13 V4 V5 V6 V7) := by
  iintro ⟨H10, H11, H12, H13, H4, H5, H6, H7, S00, S01, S02, S10, S11, S12⟩
  icases (cut10 c arg10).1 $$ H10 with ⟨A00, A01, A02, A03, A10, A11, A12, A13, R10⟩
  icases (cut11 c arg11).1 $$ H11 with ⟨B0, B1, R11⟩
  icases (cut12 c arg12).1 $$ H12 with ⟨C0, C1, R12⟩
  icases (cut13 c arg13).1 $$ H13 with ⟨E0, E1, R13⟩
  icases (toks8 (arg4.view.loc (c : Thread nD τ)) V4).1 $$ H4 with ⟨D4, T40, T41, T42, T43, T44, T45, T46, T47⟩
  icases (toks5 (arg5.view.loc (c : Thread nD τ)) V5).1 $$ H5 with ⟨D5, T50, T51, T52, T53, T54⟩
  icases (toks5 (arg6.view.loc (c : Thread nD τ)) V6).1 $$ H6 with ⟨D6, T60, T61, T62, T63, T64⟩
  icases (toks5 (arg7.view.loc (c : Thread nD τ)) V7).1 $$ H7 with ⟨D7, T70, T71, T72, T73, T74⟩
  unfold IdleA Idle0 Idle1 Idle2 Buf0 Buf1 Buf2 Tok0 Tok1 Tok2 Left
  isplitl [B0 A00 A02 T50 T40 T41 S00 A01 A03 T42 T43 S01 E0 C0 T70 T60 S02]
  · isplitl [B0 A00 A02 T50 T40 T41 S00]
    · isplitl [B0 A00 A02]
      · isplitl [B0]
        · iexact B0
        isplitl [A00]
        · iexact A00
        iexact A02
      isplitl [T50 T40 T41]
      · isplitl [T50]
        · iexact T50
        isplitl [T40]
        · iexact T40
        iexact T41
      iexact S00
    isplitl [A01 A03 T42 T43 S01]
    · isplitl [A01 A03]
      · isplitl [A01]
        · iexact A01
        iexact A03
      isplitl [T42 T43]
      · isplitl [T42]
        · iexact T42
        iexact T43
      iexact S01
    isplitl [E0 C0]
    · isplitl [E0]
      · iexact E0
      iexact C0
    isplitl [T70 T60]
    · isplitl [T70]
      · iexact T70
      iexact T60
    iexact S02
  isplitl [B1 A10 A12 T54 T44 T45 S10 A11 A13 T46 T47 S11 E1 C1 T74 T64 S12]
  · isplitl [B1 A10 A12 T54 T44 T45 S10]
    · isplitl [B1 A10 A12]
      · isplitl [B1]
        · iexact B1
        isplitl [A10]
        · iexact A10
        iexact A12
      isplitl [T54 T44 T45]
      · isplitl [T54]
        · iexact T54
        isplitl [T44]
        · iexact T44
        iexact T45
      iexact S10
    isplitl [A11 A13 T46 T47 S11]
    · isplitl [A11 A13]
      · isplitl [A11]
        · iexact A11
        iexact A13
      isplitl [T46 T47]
      · isplitl [T46]
        · iexact T46
        iexact T47
      iexact S11
    isplitl [E1 C1]
    · isplitl [E1]
      · iexact E1
      iexact C1
    isplitl [T74 T64]
    · isplitl [T74]
      · iexact T74
      iexact T64
    iexact S12
  isplitl [R10]
  · iexact R10
  isplitl [R11]
  · iexact R11
  isplitl [R12]
  · iexact R12
  isplitl [R13]
  · iexact R13
  isplitl [D4]
  · iexact D4
  isplitl [D5]
  · iexact D5
  isplitl [T51]
  · iexact T51
  isplitl [T52]
  · iexact T52
  isplitl [T53]
  · iexact T53
  isplitl [D6]
  · iexact D6
  isplitl [T61]
  · iexact T61
  isplitl [T62]
  · iexact T62
  isplitl [T63]
  · iexact T63
  isplitl [D7]
  · iexact D7
  isplitl [T71]
  · iexact T71
  isplitl [T72]
  · iexact T72
  iexact T73

theorem join_all :
    iprop(IdleA c arg4 arg5 arg6 arg7 arg10 arg11 arg12 arg13 arg16 V4 V5 V6 V7 0 b0 ∗ IdleA c arg4 arg5 arg6 arg7 arg10 arg11 arg12 arg13 arg16 V4 V5 V6 V7 1 b1 ∗ Left c arg4 arg5 arg6 arg7 arg10 arg11 arg12 arg13 V4 V5 V6 V7)
      ⊢ iprop(exS (F := F) (arg10.view.loc (c : Thread nD τ)) Finset.univ
    ∗ exS (F := F) (arg11.view.loc (c : Thread nD τ)) Finset.univ
    ∗ exS (F := F) (arg12.view.loc (c : Thread nD τ)) Finset.univ
    ∗ exS (F := F) (arg13.view.loc (c : Thread nD τ)) Finset.univ
    ∗ (arg4.view.loc (c : Thread nD τ) ↦[Finset.univ]{fullShare} V4)
    ∗ (arg5.view.loc (c : Thread nD τ) ↦[Finset.univ]{fullShare} V5)
    ∗ (arg6.view.loc (c : Thread nD τ) ↦[Finset.univ]{fullShare} V6)
    ∗ (arg7.view.loc (c : Thread nD τ) ↦[Finset.univ]{fullShare} V7)
    ∗ semVal ((c : Thread nD τ), gsem arg16 0 0 b0 lt0) 0
    ∗ semVal ((c : Thread nD τ), gsem arg16 0 1 b0 lt1) 0
    ∗ semVal ((c : Thread nD τ), gsem arg16 0 2 b0 lt2) 0
    ∗ semVal ((c : Thread nD τ), gsem arg16 1 0 b1 lt0) 0
    ∗ semVal ((c : Thread nD τ), gsem arg16 1 1 b1 lt1) 0
    ∗ semVal ((c : Thread nD τ), gsem arg16 1 2 b1 lt2) 0) := by
  unfold IdleA Idle0 Idle1 Idle2 Buf0 Buf1 Buf2 Tok0 Tok1 Tok2 Left
  iintro ⟨⟨⟨⟨B0, A00, A02⟩, ⟨T50, T40, T41⟩, S00⟩, ⟨⟨A01, A03⟩, ⟨T42, T43⟩, S01⟩, ⟨⟨E0, C0⟩, ⟨T70, T60⟩, S02⟩⟩, ⟨⟨⟨B1, A10, A12⟩, ⟨T54, T44, T45⟩, S10⟩, ⟨⟨A11, A13⟩, ⟨T46, T47⟩, S11⟩, ⟨⟨E1, C1⟩, ⟨T74, T64⟩, S12⟩⟩, ⟨R10, R11, R12, R13, D4, D5, T51, T52, T53, D6, T61, T62, T63, D7, T71, T72, T73⟩⟩
  isplitl [A00 A01 A02 A03 A10 A11 A12 A13 R10]
  · iapply (cut10 c arg10).2
    isplitl [A00]
    · iexact A00
    isplitl [A01]
    · iexact A01
    isplitl [A02]
    · iexact A02
    isplitl [A03]
    · iexact A03
    isplitl [A10]
    · iexact A10
    isplitl [A11]
    · iexact A11
    isplitl [A12]
    · iexact A12
    isplitl [A13]
    · iexact A13
    iexact R10
  isplitl [B0 B1 R11]
  · iapply (cut11 c arg11).2
    isplitl [B0]
    · iexact B0
    isplitl [B1]
    · iexact B1
    iexact R11
  isplitl [C0 C1 R12]
  · iapply (cut12 c arg12).2
    isplitl [C0]
    · iexact C0
    isplitl [C1]
    · iexact C1
    iexact R12
  isplitl [E0 E1 R13]
  · iapply (cut13 c arg13).2
    isplitl [E0]
    · iexact E0
    isplitl [E1]
    · iexact E1
    iexact R13
  isplitl [D4 T40 T41 T42 T43 T44 T45 T46 T47]
  · iapply (toks8 (arg4.view.loc (c : Thread nD τ)) V4).2
    isplitl [D4]
    · iexact D4
    isplitl [T40]
    · iexact T40
    isplitl [T41]
    · iexact T41
    isplitl [T42]
    · iexact T42
    isplitl [T43]
    · iexact T43
    isplitl [T44]
    · iexact T44
    isplitl [T45]
    · iexact T45
    isplitl [T46]
    · iexact T46
    iexact T47
  isplitl [D5 T50 T51 T52 T53 T54]
  · iapply (toks5 (arg5.view.loc (c : Thread nD τ)) V5).2
    isplitl [D5]
    · iexact D5
    isplitl [T50]
    · iexact T50
    isplitl [T51]
    · iexact T51
    isplitl [T52]
    · iexact T52
    isplitl [T53]
    · iexact T53
    iexact T54
  isplitl [D6 T60 T61 T62 T63 T64]
  · iapply (toks5 (arg6.view.loc (c : Thread nD τ)) V6).2
    isplitl [D6]
    · iexact D6
    isplitl [T60]
    · iexact T60
    isplitl [T61]
    · iexact T61
    isplitl [T62]
    · iexact T62
    isplitl [T63]
    · iexact T63
    iexact T64
  isplitl [D7 T70 T71 T72 T73 T74]
  · iapply (toks5 (arg7.view.loc (c : Thread nD τ)) V7).2
    isplitl [D7]
    · iexact D7
    isplitl [T70]
    · iexact T70
    isplitl [T71]
    · iexact T71
    isplitl [T72]
    · iexact T72
    isplitl [T73]
    · iexact T73
    iexact T74
  isplitl [S00]
  · iexact S00
  isplitl [S01]
  · iexact S01
  isplitl [S02]
  · iexact S02
  isplitl [S10]
  · iexact S10
  isplitl [S11]
  · iexact S11
  iexact S12
end all
-- ==== Proof.Run.lean ====
/- The whole run: it terminates, nothing faults, every array it was given ends as it was, every counter ends at zero. -/
module

public import proofs.«01_k».proof.Proof.Split
public import proofs.«01_k».proof.Proof.Gen.Kernel.Frame
public import proofs.«01_k».proof.Proof.Gen.Kernel.Points
public import Idealize.ShloMosaic.Lib.Pipeline.FrameSuffixR

@[expose] public section

set_option maxRecDepth 65536
set_option maxHeartbeats 0

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The six counters of the copies. -/
abbrev osemA : Fin 6 → SemLoc sig := fun j => (![SemLoc.dma 5, SemLoc.dma 6, SemLoc.dma 7, SemLoc.dma 8, SemLoc.dma 9, SemLoc.dma 10] : Fin 6 → SemLoc sig) j
theorem ownSemFactsA : Pipeline.OwnSemFacts spec0 osemA := by decide

/-- The arrays the copies read. -/
def HA : Finset (Ref sig .tc) := {main_arg1, main_v3, main_arg3, main_v4}
theorem HA_sub : HA ⊆ Pipeline.restRefs sig spec0 := by decide

theorem sem_00 : gsem cc0_scratch7 0 0 b0 lt0 = SemLoc.dma 5 := by decide
theorem sem_01 : gsem cc0_scratch7 0 1 b0 lt1 = SemLoc.dma 6 := by decide
theorem sem_02 : gsem cc0_scratch7 0 2 b0 lt2 = SemLoc.dma 7 := by decide
theorem sem_10 : gsem cc0_scratch7 1 0 b1 lt0 = SemLoc.dma 8 := by decide
theorem sem_11 : gsem cc0_scratch7 1 1 b1 lt1 = SemLoc.dma 9 := by decide
theorem sem_12 : gsem cc0_scratch7 1 2 b1 lt2 = SemLoc.dma 10 := by decide

theorem ownSemsA_eq (c : Dev nD) :
    (Pipeline.ownSems0 (Ix := Unit) (Name := ℕ) (U := Pipeline.UD sig nD τ) (Lvl := ℕ) (Val := Elt F) (τ := τ) osemA c : sProp 𝕄)
      = iprop(semVal ((c : Thread nD τ), gsem cc0_scratch7 0 0 b0 lt0) 0 ∗ semVal ((c : Thread nD τ), gsem cc0_scratch7 0 1 b0 lt1) 0
          ∗ semVal ((c : Thread nD τ), gsem cc0_scratch7 0 2 b0 lt2) 0 ∗ semVal ((c : Thread nD τ), gsem cc0_scratch7 1 0 b1 lt0) 0
          ∗ semVal ((c : Thread nD τ), gsem cc0_scratch7 1 1 b1 lt1) 0 ∗ semVal ((c : Thread nD τ), gsem cc0_scratch7 1 2 b1 lt2) 0) := by
  rw [sem_00, sem_01, sem_02, sem_10, sem_11, sem_12, Pipeline.ownSems0_eq_of_list c osemA [0, 1, 2, 3, 4, 5] (by decide) (by decide)]; rfl

theorem hbmPtsA_eq (c : Dev nD) :
    (bigSep HA (fun b => ((c : Thread nD τ).loc b) ↦{fullShare} V m c b) : sProp 𝕄)
      = iprop((((c : Thread nD τ).loc main_arg1) ↦{fullShare} V m c main_arg1) ∗ (((c : Thread nD τ).loc main_v3) ↦{fullShare} V m c main_v3)
          ∗ (((c : Thread nD τ).loc main_arg3) ↦{fullShare} V m c main_arg3) ∗ (((c : Thread nD τ).loc main_v4) ↦{fullShare} V m c main_v4)) := by
  rw [BI.bigSep_eq_bigSepL_of_eq [main_arg1, main_v3, main_arg3, main_v4] (by decide) (by decide)]; rfl

theorem PhiD_eq (c : Dev nD) :
    (Pipeline.ΦD osemA spec0 HA (V m) c : sProp 𝕄)
      = iprop(iprop((∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f) ∗ (∃ f : Buf (Elt F) ((c : Thread nD τ).loc cc0_scratch4), ((c : Thread nD τ).loc cc0_scratch4) ↦{fullShare} f) ∗ (∃ f : Buf (Elt F) ((c : Thread nD τ).loc cc0_scratch5), ((c : Thread nD τ).loc cc0_scratch5) ↦{fullShare} f) ∗ (∃ f : Buf (Elt F) ((c : Thread nD τ).loc cc0_scratch6), ((c : Thread nD τ).loc cc0_scratch6) ↦{fullShare} f) ∗ (∃ f : Buf (Elt F) ((c : Thread nD τ).loc cc0_scratch0), ((c : Thread nD τ).loc cc0_scratch0) ↦{fullShare} f))
          ∗ (∃ r, prngReg c r)
          ∗ iprop(semVal ((c : Thread nD τ), gsem cc0_scratch7 0 0 b0 lt0) 0 ∗ semVal ((c : Thread nD τ), gsem cc0_scratch7 0 1 b0 lt1) 0 ∗ semVal ((c : Thread nD τ), gsem cc0_scratch7 0 2 b0 lt2) 0 ∗ semVal ((c : Thread nD τ), gsem cc0_scratch7 1 0 b1 lt0) 0 ∗ semVal ((c : Thread nD τ), gsem cc0_scratch7 1 1 b1 lt1) 0 ∗ semVal ((c : Thread nD τ), gsem cc0_scratch7 1 2 b1 lt2) 0)
          ∗ iprop((((c : Thread nD τ).loc main_arg1) ↦{fullShare} V m c main_arg1) ∗ (((c : Thread nD τ).loc main_v3) ↦{fullShare} V m c main_v3) ∗ (((c : Thread nD τ).loc main_arg3) ↦{fullShare} V m c main_arg3) ∗ (((c : Thread nD τ).loc main_v4) ↦{fullShare} V m c main_v4))) := by
  rw [Pipeline.ΦD_eq, scopedRest0_eq, ownSemsA_eq, hbmPtsA_eq]

/-- A whole buffer, whatever it holds. -/
theorem whole_some (c : Dev nD) (r : Ref sig .tc) :
    (iprop(∃ f : Buf (Elt F) ((c : Thread nD τ).loc r), ((c : Thread nD τ).loc r) ↦{fullShare} f) : sProp 𝕄) ⊣⊢ some' (F := F) c (Memref.whole r) := by
  unfold some' owned
  rw [show (Memref.whole r).view.set = Finset.univ from View.set_whole _]

/-- The arrays of the run at a point: three blocks held in fast memory, four arrays outside it. -/
def arrT (c : Dev nD) (t : Fin cfg0.N) : Arrs F :=
  AA c (Memref.whole main_arg1) (Memref.whole main_v3) (Memref.whole main_arg3) (Memref.whole main_v4) (V m c main_arg1) (V m c main_v3) (V m c main_arg3) (V m c main_v4)
    (iblk m c 1 t) (iblk m c 2 t) (iblk m c 3 t)

/-- What the run leaves in the result. -/
def outT (c : Dev nD) (t : Fin cfg0.N) : S24x2048.Idx → Elt F .bf16 := outM (arrT m c t) (maskM (F := F) (iblk m c 0 t))

def datsA (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outT m c t
  Φ _ := Pipeline.ΦD osemA spec0 HA (V m) c
  q w := Pipeline.shareOf spec0 w
  owed _ := 0

theorem after_0 (c : Dev nD) (t : Fin cfg0.N) : (datsA m 0 c).after 0 t = iblk m c 0 t := rfl
theorem after_1 (c : Dev nD) (t : Fin cfg0.N) : (datsA m 0 c).after 1 t = iblk m c 1 t := rfl
theorem after_2 (c : Dev nD) (t : Fin cfg0.N) : (datsA m 0 c).after 2 t = iblk m c 2 t := rfl
theorem after_3 (c : Dev nD) (t : Fin cfg0.N) : (datsA m 0 c).after 3 t = iblk m c 3 t := rfl
theorem after_4 (c : Dev nD) (t : Fin cfg0.N) : (datsA m 0 c).after 4 t = outT m c t := rfl

theorem beforeA_0 (c : Dev nD) (t : Fin cfg0.N) (d) : (datsA m 0 c).before 0 t d = iblk m c 0 t :=
  ((datsA m 0 c).before_in_eq_fetched 0 rfl (fun _ => rfl) (fun _ _ _ => rfl) (fun t => rfl) t d).trans rfl
theorem beforeA_1 (c : Dev nD) (t : Fin cfg0.N) (d) : (datsA m 0 c).before 1 t d = iblk m c 1 t :=
  ((datsA m 0 c).before_in_eq_fetched 1 rfl (fun _ => rfl) (fun _ _ _ => rfl) (fun t => rfl) t d).trans rfl
theorem beforeA_2 (c : Dev nD) (t : Fin cfg0.N) (d) : (datsA m 0 c).before 2 t d = iblk m c 2 t :=
  ((datsA m 0 c).before_in_eq_fetched 2 rfl (fun _ => rfl) (fun _ _ _ => rfl) (fun t => rfl) t d).trans rfl
theorem beforeA_3 (c : Dev nD) (t : Fin cfg0.N) (d) : (datsA m 0 c).before 3 t d = iblk m c 3 t :=
  ((datsA m 0 c).before_in_eq_fetched 3 rfl (fun _ => rfl) (fun _ _ _ => rfl) (fun t => rfl) t d).trans rfl

theorem v0_eq (W : Valuation τ sig (Elt F)) : StableHlo.after hostOps0 W (main_v0 : DevRef τ sig)
    = shapeCast S24x2 (W (main_arg5 : DevRef τ sig)) shapeCasts_S24x1x2_S24x2 := by
  unfold hostOps0
  after_results
  rfl

theorem v0_lt (hids : ∀ (c : Dev nD) (i), ((m ((c : Thread nD τ).loc main_arg5) i : Elt F .i32) : BitVec 32).toNat < 16) (c : Dev nD) (i) :
    ((V m c main_v0 i : Elt F .i32) : BitVec 32).toNat < 16 := by
  have h : V m c main_v0 = shapeCast S24x2 (m ((c : Thread nD τ).loc main_arg5)) shapeCasts_S24x1x2_S24x2 := by
    exact v0_eq (fun b => m (c, b))
  rw [h]
  exact hids c _

theorem id_of_iblk (hids : ∀ (c : Dev nD) (i), ((m ((c : Thread nD τ).loc main_arg5) i : Elt F .i32) : BitVec 32).toNat < 16) (c : Dev nD) (t : Fin cfg0.N) (i : S24x2.Idx) :
    ((iblk m c 0 t i : Elt F .i32) : BitVec 32).toNat < 16 :=
  v0_lt m hids c _

def bodyPre (c : Dev nD) (t : Fin cfg0.N) : sProp 𝕄 :=
  iprop((datsA m 0 c).Φ t.castSucc ∗ (datsA m 0 c).owesAt () t.castSucc
    ∗ (∃ d, owns (c : Thread nD τ) (win0_0.stage (cfg0.slots t 0)) fullShare ((datsA m 0 c).before 0 t d))
    ∗ (∃ d, owns (c : Thread nD τ) (win0_1.stage (cfg0.slots t 1)) fullShare ((datsA m 0 c).before 1 t d))
    ∗ (∃ d, owns (c : Thread nD τ) (win0_2.stage (cfg0.slots t 2)) fullShare ((datsA m 0 c).before 2 t d))
    ∗ (∃ d, owns (c : Thread nD τ) (win0_3.stage (cfg0.slots t 3)) fullShare ((datsA m 0 c).before 3 t d))
    ∗ (∃ d, owns (c : Thread nD τ) (win0_4.stage (cfg0.slots t 4)) fullShare ((datsA m 0 c).before 4 t d)))
def bodyPost (c : Dev nD) (t : Fin cfg0.N) : sProp 𝕄 :=
  iprop((datsA m 0 c).Φ t.succ ∗ (datsA m 0 c).owesAt () t.succ
    ∗ owns (c : Thread nD τ) (win0_0.stage (cfg0.slots t 0)) fullShare (iblk m c 0 t)
    ∗ owns (c : Thread nD τ) (win0_1.stage (cfg0.slots t 1)) fullShare (iblk m c 1 t)
    ∗ owns (c : Thread nD τ) (win0_2.stage (cfg0.slots t 2)) fullShare (iblk m c 2 t)
    ∗ owns (c : Thread nD τ) (win0_3.stage (cfg0.slots t 3)) fullShare (iblk m c 3 t)
    ∗ owns (c : Thread nD τ) (win0_4.stage (cfg0.slots t 4)) fullShare (outT m c t))

theorem sound_body (hids : ∀ (c : Dev nD) (i), ((m ((c : Thread nD τ).loc main_arg5) i : Elt F .i32) : BitVec 32).toNat < 16) (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (datsA m 0 c).Φ t.succ = (datsA m 0 c).Φ t.castSucc from rfl]
  rw [show (datsA m 0 c).Φ t.castSucc = Pipeline.ΦD osemA spec0 HA (V m) c from rfl, PhiD_eq]
  unfold Dat.owesAt Pipeline.owesWithin owns
  rw [show (datsA m 0 c).owed t.castSucc = 0 from rfl, show (datsA m 0 c).owed t.succ = 0 from rfl, main_eq]
  unfold outT arrT
  iintro ⟨⟨⟨HS1, HS2, HS3, HS4, HS5, HS6, HS0⟩, Hg, ⟨Q0, Q1, Q2, Q3, Q4, Q5⟩, ⟨Hh1, Hh2, Hh3, Hh4⟩⟩, ⟨%W, -, HW⟩, ⟨%d0, %f0, %hf0, H0⟩, ⟨%X1, %f1, %hf1, H1⟩, ⟨%X2, %f2, %hf2, H2⟩, ⟨%X3, %f3, %hf3, H3⟩, ⟨%X4, %f4, -, H4⟩⟩
  rw [beforeA_0] at hf0
  rw [beforeA_1] at hf1
  rw [beforeA_2] at hf2
  rw [beforeA_3] at hf3
  ihave HI := (split_all (F := F) c (Memref.whole main_arg1) (Memref.whole main_v3) (Memref.whole main_arg3) (Memref.whole main_v4) (Memref.whole cc0_scratch1) (Memref.whole cc0_scratch2) (Memref.whole cc0_scratch3) (Memref.whole cc0_scratch4) cc0_scratch7 (V m c main_arg1) (V m c main_v3) (V m c main_arg3) (V m c main_v4)) $$ [HS1 HS2 HS3 HS4 Hh1 Hh2 Hh3 Hh4 Q0 Q1 Q2 Q3 Q4 Q5]
  · isplitl [HS1]; · iexact HS1
    isplitl [HS2]; · iexact HS2
    isplitl [HS3]; · iexact HS3
    isplitl [HS4]; · iexact HS4
    isplitl [Hh1]; · iexact Hh1
    isplitl [Hh2]; · iexact Hh2
    isplitl [Hh3]; · iexact Hh3
    isplitl [Hh4]; · iexact Hh4
    isplitl [Q0]; · iexact Q0
    isplitl [Q1]; · iexact Q1
    isplitl [Q2]; · iexact Q2
    isplitl [Q3]; · iexact Q3
    isplitl [Q4]; · iexact Q4
    iexact Q5
  icases HI with ⟨I0, I1, HL⟩
  ihave HS0 := (whole_some (F := F) c cc0_scratch0).1 $$ HS0
  ihave HS5 := (whole_some (F := F) c cc0_scratch5).1 $$ HS5
  ihave HS6 := (whole_some (F := F) c cc0_scratch6).1 $$ HS6
  iapply (wp_mainP (F := F) c (win0_1.stage (cfg0.slots t 1)) (win0_2.stage (cfg0.slots t 2)) (win0_3.stage (cfg0.slots t 3)) (Memref.whole main_arg1) (Memref.whole main_v3) (Memref.whole main_arg3) (Memref.whole main_v4) (win0_4.stage (cfg0.slots t 4)) (Memref.whole cc0_scratch0) (Memref.whole cc0_scratch1) (Memref.whole cc0_scratch2) (Memref.whole cc0_scratch3) (Memref.whole cc0_scratch4) (Memref.whole cc0_scratch5) (Memref.whole cc0_scratch6) cc0_scratch7 (V m c main_arg1) (V m c main_v3) (V m c main_arg3) (V m c main_v4) fullShare fullShare fullShare (iblk m c 1 t) (iblk m c 2 t) (iblk m c 3 t)
    (win0_0.stage (cfg0.slots t 0)) fullShare (Memref.isWhole_whole _) (Memref.isWhole_whole _) (Memref.isWhole_whole _) (Memref.isWhole_whole _) (hstage0_4 0) (Memref.isWhole_whole _) (Memref.isWhole_whole _) (Memref.isWhole_whole _) (Memref.isWhole_whole _) (Memref.isWhole_whole _) f0 (iblk m c 0 t) hf0 (id_of_iblk m hids c t _)) $$ [H0 HS0 H1 H2 H3 HS5 HS6 HW H4 I0 I1]
  · isplitl [H0]; · iexact H0
    isplitl [HS0]; · iexact HS0
    isplitl [H1]; · iexists f1; isplitr; (ipureintro; exact hf1); iexact H1
    isplitl [H2]; · iexists f2; isplitr; (ipureintro; exact hf2); iexact H2
    isplitl [H3]; · iexists f3; isplitr; (ipureintro; exact hf3); iexact H3
    isplitl [HS5]; · iexact HS5
    isplitl [HS6]; · iexact HS6
    isplitl [HW]; · iexists W; iexact HW
    isplitl [H4]; · iexists f4; iexact H4
    isplitl [I0]; · iexact I0
    iexact I1
  iintro ⟨H0, HS0, ⟨%g1, %e1, H1⟩, ⟨%g2, %e2, H2⟩, ⟨%g3, %e3, H3⟩, HS5, HS6, ⟨%W', HW'⟩, ⟨%g4, %e4, H4⟩, I0, I1⟩
  ihave HS0 := (whole_some (F := F) c cc0_scratch0).2 $$ HS0
  ihave HS5 := (whole_some (F := F) c cc0_scratch5).2 $$ HS5
  ihave HS6 := (whole_some (F := F) c cc0_scratch6).2 $$ HS6
  ihave HI := (join_all (F := F) c (Memref.whole main_arg1) (Memref.whole main_v3) (Memref.whole main_arg3) (Memref.whole main_v4) (Memref.whole cc0_scratch1) (Memref.whole cc0_scratch2) (Memref.whole cc0_scratch3) (Memref.whole cc0_scratch4) cc0_scratch7 (V m c main_arg1) (V m c main_v3) (V m c main_arg3) (V m c main_v4)) $$ [I0 I1 HL]
  · isplitl [I0]; · iexact I0
    isplitl [I1]; · iexact I1
    iexact HL
  icases HI with ⟨HS1, HS2, HS3, HS4, Hh1, Hh2, Hh3, Hh4, Q0, Q1, Q2, Q3, Q4, Q5⟩
  isplitl [HS0 HS1 HS2 HS3 HS4 HS5 HS6 Hg Q0 Q1 Q2 Q3 Q4 Q5 Hh1 Hh2 Hh3 Hh4]
  · isplitl [HS0 HS1 HS2 HS3 HS4 HS5 HS6]
    · isplitl [HS1]; · iexact HS1
      isplitl [HS2]; · iexact HS2
      isplitl [HS3]; · iexact HS3
      isplitl [HS4]; · iexact HS4
      isplitl [HS5]; · iexact HS5
      isplitl [HS6]; · iexact HS6
      iexact HS0
    isplitl [Hg]; · iexact Hg
    isplitl [Q0 Q1 Q2 Q3 Q4 Q5]
    · isplitl [Q0]; · iexact Q0
      isplitl [Q1]; · iexact Q1
      isplitl [Q2]; · iexact Q2
      isplitl [Q3]; · iexact Q3
      isplitl [Q4]; · iexact Q4
      iexact Q5
    isplitl [Hh1]; · iexact Hh1
    isplitl [Hh2]; · iexact Hh2
    isplitl [Hh3]; · iexact Hh3
    iexact Hh4
  isplitl [HW']
  · iexists W'; isplitr; · ipureintro; exact fun _ _ => Or.inl trivial
    iexact HW'
  isplitl [H0]
  · iexists f0; isplitr; swap; · iexact H0
    ipureintro; exact hf0
  isplitl [H1]
  · iexists g1; isplitr; swap; · iexact H1
    ipureintro; exact e1
  isplitl [H2]
  · iexists g2; isplitr; swap; · iexact H2
    ipureintro; exact e2
  isplitl [H3]
  · iexists g3; isplitr; swap; · iexact H3
    ipureintro; exact e3
  iexists g4; isplitr; swap; · iexact H4
  ipureintro; exact e4

theorem defsA_row (t : Fin cfg0.N) :
    defs₀ (F := F) .tc cfg0.body (cfg0.bodyArgs t (cfg0.slots t)) = bodyAt0 t := by
  unfold defs₀; rw [Defs.onTc_tc]

theorem body_obligationA (hids : ∀ (c : Dev nD) (i), ((m ((c : Thread nD τ).loc main_arg5) i : Elt F .i32) : BitVec 32).toNat < 16) (c : Dev nD) :
    BodyObligation (datsA (F := F) m 0 c) (defs₀ (F := F)) Variants.none () Set.univ := fun t => by
  rw [bigSep_W0, bigSep_W0, defsA_row]
  exact triple_restated (sound_body m hids c t) rfl .rfl fun _ => .rfl

/-- @main around the region. -/
theorem hmainA : Pipeline.HMainK (Ix := Unit) (Name := ℕ) (U := Pipeline.UD sig nD τ) (Lvl := ℕ) cfgs 0 defs₀ Variants.none m (main (F := F)) (V m)
      (fun _ => Pipeline.chain ([hostOps1].map StableHlo.seq)) :=
  Pipeline.hmain_around cfgs 0 defs₀ Variants.none m main [hostOps0] [hostOps1] (by simp only [List.Forall]; exact hostOps0_sub)
    (by simp only [List.Forall]; exact hostOps0_fresh) main_chain

theorem sfx_but : ∀ ops ∈ ([hostOps1] : List (List (HloOp τ sig (Elt F)))), ∀ op ∈ ops,
    op.bufs ⊆ Pipeline.tailRefsBut sig Pipeline.Prefetch.none spec0 HA := by
  intro ops hops op hop
  simp only [List.mem_cons, List.mem_nil_iff, or_false] at hops
  rcases hops with rfl
  simp only [hostOps1, List.mem_cons, List.mem_nil_iff, or_false] at hop
  rcases hop with rfl
  show ({(main_v5 : DevRef τ sig), (main_v6 : DevRef τ sig)} : Finset (DevRef τ sig)) ⊆ _
  decide

set_option backward.isDefEq.respectTransparency.types false in
theorem run_mainA (hids : ∀ (c : Dev nD) (i), ((m ((c : Thread nD τ).loc main_arg5) i : Elt F .i32) : BitVec 32).toNat < 16) :
    θ_run defs (onTc (τ := τ) (main (F := F))) (s₀ m ρ)
      (fun r => Pipeline.FramePost cfgs (datsA m) (0 : Fin 1) (Pipeline.afterTail₀ cfgs (datsA m) (0 : Fin 1) (V0 m) [hostOps1]) r ∧ r.2.sem = fun _ => 0) :=
  Pipeline.θ_run_frame_dma_around_shared (Q' := _) cfgs (datsA m) (0 : Fin 1) launch₀0 osemA defs₀ Variants.none ownSemFactsA HA HA_sub m ρ main
    (hbody := fun c => (body_obligationA m hids c).loose) (hq := fun _ _ _ => rfl)
    (howed := fun _ _ => rfl) (V₀ := V0 m) (opss := [hostOps1]) (hsub := sfx_but) (hfresh := sfx_fresh) (hkeep := sfx_keeps)
    (hmain := hmainA m) (hA := fun _ _ => rfl)
    (hin := fun _ => .rfl) (hout := fun _ => .rfl)

/-- An argument is no array the lines after the region write. -/
theorem tail_keep (c : Dev nD) (b : Ref sig .tc) (hb : b ≠ main_v6) (hw : ∀ w, Pipeline.arrRef spec0 w ≠ b) :
    Pipeline.afterTail₀ cfgs (datsA m) (0 : Fin 1) (V0 m) [hostOps1] c b = V m c b := by
  unfold Pipeline.afterTail₀
  rw [StableHlo.after_of_forall_not_mem (b := Proc.devRef .tc b) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne hb)),
    Pipeline.withArrays_of_ne _ c (V0 m c) _ b hw]

theorem frameA (hids : ∀ (c : Dev nD) (i), ((m ((c : Thread nD τ).loc main_arg5) i : Elt F .i32) : BitVec 32).toNat < 16) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨
      (((h.1 c).2 main_arg0 (Pipeline.mem_restRefs_of main_arg0 (by decide) (by decide))).trans (tail_keep m c main_arg0 (by decide) (by decide))).trans (V_main_arg0 m c),
      (((h.1 c).2 main_arg1 (Pipeline.mem_restRefs_of main_arg1 (by decide) (by decide))).trans (tail_keep m c main_arg1 (by decide) (by decide))).trans (V_main_arg1 m c),
      (((h.1 c).2 main_arg2 (Pipeline.mem_restRefs_of main_arg2 (by decide) (by decide))).trans (tail_keep m c main_arg2 (by decide) (by decide))).trans (V_main_arg2 m c),
      (((h.1 c).2 main_arg3 (Pipeline.mem_restRefs_of main_arg3 (by decide) (by decide))).trans (tail_keep m c main_arg3 (by decide) (by decide))).trans (V_main_arg3 m c),
      (((h.1 c).2 main_arg4 (Pipeline.mem_restRefs_of main_arg4 (by decide) (by decide))).trans (tail_keep m c main_arg4 (by decide) (by decide))).trans (V_main_arg4 m c),
      (((h.1 c).2 main_arg5 (Pipeline.mem_restRefs_of main_arg5 (by decide) (by decide))).trans (tail_keep m c main_arg5 (by decide) (by decide))).trans (V_main_arg5 m c),
      (((h.1 c).2 main_arg6 (Pipeline.mem_restRefs_of main_arg6 (by decide) (by decide))).trans (tail_keep m c main_arg6 (by decide) (by decide))).trans (V_main_arg6 m c)⟩, h.2⟩)
    (run_mainA m ρ hids)

end Cert.Kernel.Gen

end
-- ==== Proof.Ideal.Plan.lean ====
/- The body of one expert of the kernel, written as nested counted passes over the tiles. -/
module

public import proofs.«01_k».proof.Proof.Gen.KernelIdeal.Skeleton

@[expose] public section

set_option maxRecDepth 65536

noncomputable section

namespace Cert.KernelIdeal.Gen

open Idealize.ShloMosaic Idealize.SL.Sem

variable {F : FTy → Type} [FloatOps F]

/-- The programs of the kernel's core. -/
abbrev PP (F : FTy → Type) (α : Type) := Prog (TpuEff nD τ sig (Elt F) Λ₀ .tc) α

/-- A tile of zeros, the start of every accumulation. -/
def zeroTile : FVec F S24x256 .f32 := broadcast S24x256 (Scalar.ofBits .f32 0x00000000#32)

/-- The four-bit codes of a tile as numbers: two rows of the result for every row of the transposed tile. -/
def nibbles (w : Vec F S256x128 .i8) : FVec F S256x256 .bf16 :=
  have t : IVec S128x256 32 := extui 32 (transpose S128x256 [1, 0] (xori w (broadcast S256x128 136#8)) transposes_S256x128_p1_0_S128x256) natLt_8_32
  sitofp .bf16 (trunci 4 (shapeCast S256x256
    (concatenate S128x2x256 1
      [⟨S128x1x256, shapeCast S128x1x256 (shrsi (shli t (broadcast S128x256 28#32)) (broadcast S128x256 28#32)) shapeCasts_S128x256_S128x1x256⟩,
       ⟨S128x1x256, shapeCast S128x1x256 (shrsi (shli t (broadcast S128x256 24#32)) (broadcast S128x256 28#32)) shapeCasts_S128x256_S128x1x256⟩]
      concatenates_S128x1x256_S128x1x256_S128x2x256_d1) shapeCasts_S128x2x256_S256x256) natLt_4_32)

/-- A weight tile: the codes times the scale of their group, group by group. -/
def wtile (w : Vec F S256x128 .i8) (s : Vec F S2x256 .bf16) : FVec F S256x256 .bf16 :=
  concatenate S256x256 0
    [⟨S128x256, mulf (extractStridedSlice S128x256 ![0, 0] (nibbles w) slices_S256x256_o0_0_S128x256)
        (broadcastTo S128x256 (extractStridedSlice S1x256 ![0, 0] s slices_S2x256_o0_0_S1x256) broadcasts_S1x256_S128x256)⟩,
     ⟨S128x256, mulf (extractStridedSlice S128x256 ![128, 0] (nibbles w) slices_S256x256_o128_0_S128x256)
        (broadcastTo S128x256 (extractStridedSlice S1x256 ![1, 0] s slices_S2x256_o1_0_S1x256) broadcasts_S1x256_S128x256)⟩]
    concatenates_S128x256_S128x256_S256x256_d0

/-- One more tile product on the accumulator. -/
def dotAcc (a : FVec F S24x256 .f32) (x : FVec F S24x256 .bf16) (w : Vec F S256x128 .i8) (s : Vec F S2x256 .bf16) : FVec F S24x256 .f32 :=
  addf a (matmul dot_S24x256_S256x256_S24x256_1_0_0_1_n_n none x (wtile w s) (constant S24x256 .f32 0x00000000#32))

/-- The hidden tile: the gate times its logistic times the up projection, rounded. -/
def hTile (g u : FVec F S24x256 .f32) : FVec F S24x256 .bf16 :=
  shapeCast S24x256 (truncf .bf16 (mulf (mulf g (logistic g)) u) bitsLt_bf16_f32) shapeCasts_S24x256_S24x256

theorem inb2 {r c a b m n : ℕ} (h0 : r + a ≤ m) (h1 : c + b ≤ n) :
    ∀ i, (![r, c] : Fin 2 → Nat) i + (![a, b] : Fin 2 → Nat) i ≤ (![m, n] : Fin 2 → Nat) i := by
  intro i; match i with
  | 0 => exact h0
  | 1 => exact h1

theorem inb3 {r c q a b e m n l : ℕ} (h0 : r + a ≤ m) (h1 : c + b ≤ n) (h2 : q + e ≤ l) :
    ∀ i, (![r, c, q] : Fin 3 → Nat) i + (![a, b, e] : Fin 3 → Nat) i ≤ (![m, n, l] : Fin 3 → Nat) i := by
  intro i; match i with
  | 0 => exact h0
  | 1 => exact h1
  | 2 => exact h2

section gu
variable (arg1 : Memref sig .tc .vmem S24x2048 .bf16) (w1 : Memref sig .tc .vmem S4096x1024 .i8) (s1 : Memref sig .tc .vmem S16x4096 .bf16)
  (arg14 : Memref sig .tc .vmem S24x2048 .bf16) (harg14 : arg14.IsWhole)

abbrev ldX (m : Memref sig .tc .vmem S24x2048 .bf16) (kb : ℕ) (hk : kb < 8) : TpuEff nD τ sig (Elt F) Λ₀ .tc (Vec F S24x256 .bf16) :=
  .load m (Rect.unit (s := S24x2048) ![0, kb * 256] S24x256.size (inb2 (by omega) (by omega))).toLoadRect (View.loadsAt_vmem h_S24x256)

abbrev ldW1 (r kb : ℕ) (hr : r + 256 ≤ 4096) (hk : kb < 8) : TpuEff nD τ sig (Elt F) Λ₀ .tc (Vec F S256x128 .i8) :=
  .load w1 (Rect.unit (s := S4096x1024) ![r, kb * 128] S256x128.size (inb2 hr (by omega))).toLoadRect (View.loadsAt_vmem h_S256x128)

abbrev ldS1 (r kb : ℕ) (hr : r + 256 ≤ 4096) (hk : kb < 8) : TpuEff nD τ sig (Elt F) Λ₀ .tc (Vec F S2x256 .bf16) :=
  .load s1 (Rect.unit (s := S16x4096) ![kb * 2, r] S2x256.size (inb2 (by omega) hr)).toLoadRect (View.loadsAt_vmem h_S2x256)

/-- The first `n` column blocks of one gate and one up tile. -/
def guLoop {α : Type} (d : ℕ) (hd : d < 8) :
    (n : ℕ) → (hn : n ≤ 8) → (FVec F S24x256 .f32 → FVec F S24x256 .f32 → PP F α) → PP F α
  | 0, _, k => k zeroTile zeroTile
  | n + 1, hn, k => guLoop d hd n (by omega) fun g u =>
      .op (ldX arg1 n hn) fun x =>
      .op (ldW1 w1 (d * 256) n (by omega) hn) fun wg =>
      .op (ldS1 s1 (d * 256) n (by omega) hn) fun sg =>
      .op (ldW1 w1 (2048 + d * 256) n (by omega) hn) fun wu =>
      .op (ldS1 s1 (2048 + d * 256) n (by omega) hn) fun su =>
      k (dotAcc g (shapeCast S24x256 x shapeCasts_S24x256_S24x256) wg sg) (dotAcc u (shapeCast S24x256 x shapeCasts_S24x256_S24x256) wu su)

theorem packedH : ∀ d (hd : d < 8), (Rect.unit (s := S24x2048) ![0, d * 256] S24x256.size (inb2 (by omega) (by omega))).PackedRows (EltTy.packing .bf16)
  | 0, _ => packedbf16_S24x2048_S24x256_0_0
  | 1, _ => packedbf16_S24x2048_S24x256_0_256
  | 2, _ => packedbf16_S24x2048_S24x256_0_512
  | 3, _ => packedbf16_S24x2048_S24x256_0_768
  | 4, _ => packedbf16_S24x2048_S24x256_0_1024
  | 5, _ => packedbf16_S24x2048_S24x256_0_1280
  | 6, _ => packedbf16_S24x2048_S24x256_0_1536
  | 7, _ => packedbf16_S24x2048_S24x256_0_1792

abbrev stH (d : ℕ) (hd : d < 8) (v : FVec F S24x256 .bf16) : TpuEff nD τ sig (Elt F) Λ₀ .tc PUnit :=
  .store arg14 (Rect.unit (s := S24x2048) ![0, d * 256] S24x256.size (inb2 (by omega) (by omega))) v Finset.univ
    (View.stores_vmem h_S24x256 (harg14.storeExact_slice rfl _ (packedH d hd)) (fun _ => rfl)) (.inl rfl)

/-- One hidden tile. -/
def guTile {α : Type} (d : ℕ) (hd : d < 8) (k : PP F α) : PP F α :=
  guLoop arg1 w1 s1 d hd 8 (by omega) fun g u =>
  .op (ldX arg14 d hd) fun _ => .op (stH arg14 harg14 d hd (hTile g u)) fun _ => k

end gu

section dn
variable (w2 : Memref sig .tc .vmem S2048x1024 .i8) (s2 : Memref sig .tc .vmem S16x2048 .bf16)
  (arg14 : Memref sig .tc .vmem S24x2048 .bf16) (arg15 : Memref sig .tc .vmem S24x2048 .f32)

abbrev ldW2 (r kb : ℕ) (hr : r + 256 ≤ 2048) (hk : kb < 8) : TpuEff nD τ sig (Elt F) Λ₀ .tc (Vec F S256x128 .i8) :=
  .load w2 (Rect.unit (s := S2048x1024) ![r, kb * 128] S256x128.size (inb2 hr (by omega))).toLoadRect (View.loadsAt_vmem h_S256x128)

abbrev ldS2 (r kb : ℕ) (hr : r + 256 ≤ 2048) (hk : kb < 8) : TpuEff nD τ sig (Elt F) Λ₀ .tc (Vec F S2x256 .bf16) :=
  .load s2 (Rect.unit (s := S16x2048) ![kb * 2, r] S2x256.size (inb2 (by omega) hr)).toLoadRect (View.loadsAt_vmem h_S2x256)

abbrev ldY (d : ℕ) (hd : d < 8) : TpuEff nD τ sig (Elt F) Λ₀ .tc (Vec F S24x256 .f32) :=
  .load arg15 (Rect.unit (s := S24x2048) ![0, d * 256] S24x256.size (inb2 (by omega) (by omega))).toLoadRect (View.loadsAt_vmem h_S24x256)

abbrev stY (d : ℕ) (hd : d < 8) (v : FVec F S24x256 .f32) : TpuEff nD τ sig (Elt F) Λ₀ .tc PUnit :=
  .store arg15 (Rect.unit (s := S24x2048) ![0, d * 256] S24x256.size (inb2 (by omega) (by omega))) v Finset.univ
    (View.stores_vmem_bits_univ h_S24x256 rfl) (.inl rfl)

/-- Which of a token's choices are the expert `e`. -/
def chose (e : Elt F .i32) (ids : Vec F S24x2 .i32) : IVec S24x2 1 :=
  cmpi .eq (shapeCast S24x2 ids shapeCasts_S24x2_S24x2) (broadcast S24x2 e)

/-- A token's weight for the expert `e`: the sum of the weights of its choices that are `e`. -/
def coefOf (e : Elt F .i32) (ids : Vec F S24x2 .i32) (cw : Vec F S24x2 .f32) : FVec F S24x1 .f32 :=
  shapeCast S24x1 (multiReduction .add [1] S24
    (select (chose (F := F) e ids) (shapeCast S24x2 cw shapeCasts_S24x2_S24x2) (broadcast S24x2 (Scalar.ofBits .f32 0x00000000#32)))
    0x00000000#32 reduces_S24x2_S24 (.inl rfl) rfl) shapeCasts_S24_S24x1

/-- Whether any of a token's choices is the expert `e`. -/
def anyOf (e : Elt F .i32) (ids : Vec F S24x2 .i32) : IVec S24x1 1 :=
  cmpi .sgt (shapeCast S24x1 (multiReductionI .add [1] S24 (extui 32 (chose (F := F) e ids) natLt_1_32) 0#32 reduces_S24x2_S24 rfl)
    shapeCasts_S24_S24x1) (broadcast S24x1 0#32)

/-- The output tile with one expert's share added. -/
def yTile (c : FVec F S24x1 .f32) (r : IVec S24x1 1) (a : FVec F S24x256 .f32) (y : Vec F S24x256 .f32) : FVec F S24x256 .f32 :=
  shapeCast S24x256 (addf y
    (select (broadcastTo S24x256 (shapeCast S24x1 r shapeCasts_S24x1_S24x1) broadcasts_S24x1_S24x256)
      (mulf a (broadcastTo S24x256 c broadcasts_S24x1_S24x256))
      (broadcast S24x256 (Scalar.ofBits .f32 0x00000000#32)))) shapeCasts_S24x256_S24x256

/-- The first `n` column blocks of one output tile. -/
def dnLoop {α : Type} (d : ℕ) (hd : d < 8) :
    (n : ℕ) → (hn : n ≤ 8) → (FVec F S24x256 .f32 → PP F α) → PP F α
  | 0, _, k => k zeroTile
  | n + 1, hn, k => dnLoop d hd n (by omega) fun a =>
      .op (ldX arg14 n hn) fun h =>
      .op (ldW2 w2 (d * 256) n (by omega) hn) fun w =>
      .op (ldS2 s2 (d * 256) n (by omega) hn) fun s =>
      k (dotAcc a h w s)

/-- One output tile. -/
def dnTile {α : Type} (c : FVec F S24x1 .f32) (r : IVec S24x1 1) (d : ℕ) (hd : d < 8) (k : PP F α) : PP F α :=
  dnLoop w2 s2 arg14 d hd 8 (by omega) fun a =>
  .op (ldY arg15 d hd) fun y => .op (ldY arg15 d hd) fun _ =>
  .op (stY arg15 d hd (yTile c r a y)) fun _ => k

end dn

section views
variable (arg4 : Memref sig .tc .hbm S16x4096x1024 .i8) (arg5 : Memref sig .tc .hbm S16x16x4096 .bf16) (arg6 : Memref sig .tc .hbm S16x2048x1024 .i8) (arg7 : Memref sig .tc .hbm S16x16x2048 .bf16)
  (arg9 : Memref sig .tc .smem S17 .i32)
  (arg10 : Memref sig .tc .vmem S2x4096x1024 .i8) (arg11 : Memref sig .tc .vmem S2x16x4096 .bf16) (arg12 : Memref sig .tc .vmem S2x2048x1024 .i8) (arg13 : Memref sig .tc .vmem S2x16x2048 .bf16) (arg16 : DmaSems sig S2x3)

/-- The semaphore of stage `st` of slot `b`. -/
abbrev semV (b st : ℕ) (hb : b < 2) (hs : st < 3) : DmaSems sig S_ :=
  (arg16.slice (Rect.unit (s := S2x3) ![b, st] S1x1.size (inb2 (by omega) (by omega)))).squeeze S_ squeezes_S1x1_S_
/-- Slot `b` of each of the four buffers, whole. -/
abbrev slotW1 (b : ℕ) (hb : b < 2) : Memref sig .tc .vmem S4096x1024 .i8 :=
  (arg10.slice (Rect.unit (s := S2x4096x1024) ![b, 0, 0] S1x4096x1024.size (inb3 (by omega) (by omega) (by omega))) (fun _ => rfl)).squeeze S4096x1024 squeezes_S1x4096x1024_S4096x1024
abbrev slotS1 (b : ℕ) (hb : b < 2) : Memref sig .tc .vmem S16x4096 .bf16 :=
  (arg11.slice (Rect.unit (s := S2x16x4096) ![b, 0, 0] S1x16x4096.size (inb3 (by omega) (by omega) (by omega))) (fun _ => rfl)).squeeze S16x4096 squeezes_S1x16x4096_S16x4096
abbrev slotW2 (b : ℕ) (hb : b < 2) : Memref sig .tc .vmem S2048x1024 .i8 :=
  (arg12.slice (Rect.unit (s := S2x2048x1024) ![b, 0, 0] S1x2048x1024.size (inb3 (by omega) (by omega) (by omega))) (fun _ => rfl)).squeeze S2048x1024 squeezes_S1x2048x1024_S2048x1024
abbrev slotS2 (b : ℕ) (hb : b < 2) : Memref sig .tc .vmem S16x2048 .bf16 :=
  (arg13.slice (Rect.unit (s := S2x16x2048) ![b, 0, 0] S1x16x2048.size (inb3 (by omega) (by omega) (by omega))) (fun _ => rfl)).squeeze S16x2048 squeezes_S1x16x2048_S16x2048
/-- A quarter of the rows of slot `b` of the first weight buffer. -/
abbrev rowsW1 (b r : ℕ) (hb : b < 2) (hr : r + 1024 ≤ 4096) : Memref sig .tc .vmem S1024x1024 .i8 :=
  (arg10.slice (Rect.unit (s := S2x4096x1024) ![b, r, 0] S1x1024x1024.size (inb3 (by omega) hr (by omega))) (fun _ => rfl)).squeeze S1024x1024 squeezes_S1x1024x1024_S1024x1024
/-- Expert `v` of each of the four arrays. -/
abbrev srcW1 (v r : ℕ) (hv : v < 16) (hr : r + 1024 ≤ 4096) : Memref sig .tc .hbm S1024x1024 .i8 :=
  (arg4.slice (Rect.unit (s := S16x4096x1024) ![v, r, 0] S1x1024x1024.size (inb3 (by omega) hr (by omega))) (fun _ => rfl)).squeeze S1024x1024 squeezes_S1x1024x1024_S1024x1024
abbrev srcS1 (v : ℕ) (hv : v < 16) : Memref sig .tc .hbm S16x4096 .bf16 :=
  (arg5.slice (Rect.unit (s := S16x16x4096) ![v, 0, 0] S1x16x4096.size (inb3 (by omega) (by omega) (by omega))) (fun _ => rfl)).squeeze S16x4096 squeezes_S1x16x4096_S16x4096
abbrev srcW2 (v : ℕ) (hv : v < 16) : Memref sig .tc .hbm S2048x1024 .i8 :=
  (arg6.slice (Rect.unit (s := S16x2048x1024) ![v, 0, 0] S1x2048x1024.size (inb3 (by omega) (by omega) (by omega))) (fun _ => rfl)).squeeze S2048x1024 squeezes_S1x2048x1024_S2048x1024
abbrev srcS2 (v : ℕ) (hv : v < 16) : Memref sig .tc .hbm S16x2048 .bf16 :=
  (arg7.slice (Rect.unit (s := S16x16x2048) ![v, 0, 0] S1x16x2048.size (inb3 (by omega) (by omega) (by omega))) (fun _ => rfl)).squeeze S16x2048 squeezes_S1x16x2048_S16x2048

variable (harg4 : arg4.IsWhole) (harg5 : arg5.IsWhole) (harg6 : arg6.IsWhole) (harg7 : arg7.IsWhole)
  (harg10 : arg10.IsWhole) (harg11 : arg11.IsWhole) (harg12 : arg12.IsWhole) (harg13 : arg13.IsWhole)

theorem wxRowsW1 (harg10 : arg10.IsWhole) (b r : ℕ) (hb : b < 2) (hr : r + 1024 ≤ 4096) (h4 : 4 ∣ r) : (rowsW1 arg10 b r hb hr).view.WordExact :=
  (harg10.wordExact_slice rfl _ (Affine.words_of_packed (Affine.packed_dvd (by decide) h4 (by decide)))).reshape _ _
theorem wxSlotS1 (harg11 : arg11.IsWhole) (b : ℕ) (hb : b < 2) : (slotS1 arg11 b hb).view.WordExact :=
  (harg11.wordExact_slice rfl _ (.inr ⟨by decide, rfl, rfl, rfl⟩)).reshape _ _
theorem wxSlotW2 (harg12 : arg12.IsWhole) (b : ℕ) (hb : b < 2) : (slotW2 arg12 b hb).view.WordExact :=
  (harg12.wordExact_slice rfl _ (.inr ⟨by decide, rfl, rfl, rfl⟩)).reshape _ _
theorem wxSlotS2 (harg13 : arg13.IsWhole) (b : ℕ) (hb : b < 2) : (slotS2 arg13 b hb).view.WordExact :=
  (harg13.wordExact_slice rfl _ (.inr ⟨by decide, rfl, rfl, rfl⟩)).reshape _ _
theorem wxSrcW1 (harg4 : arg4.IsWhole) (v r : ℕ) (hv : v < 16) (hr : r + 1024 ≤ 4096) (h4 : 4 ∣ r) : (srcW1 arg4 v r hv hr).view.WordExact :=
  (harg4.wordExact_slice rfl _ (Affine.words_of_packed (Affine.packed_dvd (by decide) h4 (by decide)))).reshape _ _
theorem wxSrcS1 (harg5 : arg5.IsWhole) (v : ℕ) (hv : v < 16) : (srcS1 arg5 v hv).view.WordExact :=
  (harg5.wordExact_slice rfl _ (.inr ⟨by decide, rfl, rfl, rfl⟩)).reshape _ _
theorem wxSrcW2 (harg6 : arg6.IsWhole) (v : ℕ) (hv : v < 16) : (srcW2 arg6 v hv).view.WordExact :=
  (harg6.wordExact_slice rfl _ (.inr ⟨by decide, rfl, rfl, rfl⟩)).reshape _ _
theorem wxSrcS2 (harg7 : arg7.IsWhole) (v : ℕ) (hv : v < 16) : (srcS2 arg7 v hv).view.WordExact :=
  (harg7.wordExact_slice rfl _ (.inr ⟨by decide, rfl, rfl, rfl⟩)).reshape _ _

/-- Read entry `i` of the list of active experts. -/
def ldA {α : Type} (i : ℕ) (hi : i + 1 ≤ 17) (k : Elt F .i32 → PP F α) : PP F α :=
  (smemLoad arg9 (Rect.unit (s := S17) ![i] S1.size (fun a => match a with | 0 => hi)) numel1_S1 rfl).bind k

/-- The checked use of a word: it names one of the sixteen experts. -/
structure Chk (C : BitVec 32 → Prop) where
  dec : ∀ v, Decidable (C v)
  lt : ∀ v, C v → v.toNat < 16

/-- Start the seven copies that fetch the expert of entry `i` into slot `b`. -/
def startP {α : Type} (harg4 : arg4.IsWhole) (harg5 : arg5.IsWhole) (harg6 : arg6.IsWhole) (harg7 : arg7.IsWhole)
    (harg10 : arg10.IsWhole) (harg11 : arg11.IsWhole) (harg12 : arg12.IsWhole) (harg13 : arg13.IsWhole)
    (i : ℕ) (hi : i + 1 ≤ 17) (b : ℕ) (hb : b < 2)
    {C0 C1 C2 : BitVec 32 → Prop} (c0 : Chk C0) (c1 : Chk C1) (c2 : Chk C2) (k : PP F α) : PP F α :=
  ldA arg9 i hi fun v => .op (.assume (C0 v) (c0.dec v)) fun h =>
  .op (.enqueueDma (srcS1 arg5 (BitVec.toNat v) (c0.lt v h.down)) (.here (slotS1 arg11 b hb)) (.dma (semV arg16 b 0 hb (by decide)).sem)
    (wxSrcS1 arg5 harg5 _ _) (wxSlotS1 arg11 harg11 b hb) ⟨Or.inl rfl, trivial⟩) fun _ =>
  .op (.enqueueDma (srcW1 arg4 (BitVec.toNat v) 0 (c0.lt v h.down) (by decide)) (.here (rowsW1 arg10 b 0 hb (by decide))) (.dma (semV arg16 b 0 hb (by decide)).sem)
    (wxSrcW1 arg4 harg4 _ _ _ (by decide) (by decide)) (wxRowsW1 arg10 harg10 b _ hb (by decide) (by decide)) ⟨Or.inl rfl, trivial⟩) fun _ =>
  .op (.enqueueDma (srcW1 arg4 (BitVec.toNat v) 2048 (c0.lt v h.down) (by decide)) (.here (rowsW1 arg10 b 2048 hb (by decide))) (.dma (semV arg16 b 0 hb (by decide)).sem)
    (wxSrcW1 arg4 harg4 _ _ _ (by decide) (by decide)) (wxRowsW1 arg10 harg10 b _ hb (by decide) (by decide)) ⟨Or.inl rfl, trivial⟩) fun _ =>
  ldA arg9 i hi fun v => .op (.assume (C1 v) (c1.dec v)) fun h =>
  .op (.enqueueDma (srcW1 arg4 (BitVec.toNat v) 1024 (c1.lt v h.down) (by decide)) (.here (rowsW1 arg10 b 1024 hb (by decide))) (.dma (semV arg16 b 1 hb (by decide)).sem)
    (wxSrcW1 arg4 harg4 _ _ _ (by decide) (by decide)) (wxRowsW1 arg10 harg10 b _ hb (by decide) (by decide)) ⟨Or.inl rfl, trivial⟩) fun _ =>
  .op (.enqueueDma (srcW1 arg4 (BitVec.toNat v) 3072 (c1.lt v h.down) (by decide)) (.here (rowsW1 arg10 b 3072 hb (by decide))) (.dma (semV arg16 b 1 hb (by decide)).sem)
    (wxSrcW1 arg4 harg4 _ _ _ (by decide) (by decide)) (wxRowsW1 arg10 harg10 b _ hb (by decide) (by decide)) ⟨Or.inl rfl, trivial⟩) fun _ =>
  ldA arg9 i hi fun v => .op (.assume (C2 v) (c2.dec v)) fun h =>
  .op (.enqueueDma (srcS2 arg7 (BitVec.toNat v) (c2.lt v h.down)) (.here (slotS2 arg13 b hb)) (.dma (semV arg16 b 2 hb (by decide)).sem)
    (wxSrcS2 arg7 harg7 _ _) (wxSlotS2 arg13 harg13 b hb) ⟨Or.inl rfl, trivial⟩) fun _ =>
  .op (.enqueueDma (srcW2 arg6 (BitVec.toNat v) (c2.lt v h.down)) (.here (slotW2 arg12 b hb)) (.dma (semV arg16 b 2 hb (by decide)).sem)
    (wxSrcW2 arg6 harg6 _ _) (wxSlotW2 arg12 harg12 b hb) ⟨Or.inl rfl, trivial⟩) fun _ =>
  k

/-- Wait for the first stage: the scales and two quarters of the first weights. -/
def wait0 {α : Type} (harg4 : arg4.IsWhole) (harg5 : arg5.IsWhole) (harg10 : arg10.IsWhole) (harg11 : arg11.IsWhole)
    (i : ℕ) (hi : i + 1 ≤ 17) (b : ℕ) (hb : b < 2) {C : BitVec 32 → Prop} (c : Chk C) (k : PP F α) : PP F α :=
  ldA arg9 i hi fun v => .op (.assume (C v) (c.dec v)) fun h =>
  .op (.waitDma2 (semV arg16 b 0 hb (by decide)).sem (srcS1 arg5 (BitVec.toNat v) (c.lt v h.down)) (slotS1 arg11 b hb)
    (wxSrcS1 arg5 harg5 _ _) (wxSlotS1 arg11 harg11 b hb)) fun _ =>
  .op (.waitDma2 (semV arg16 b 0 hb (by decide)).sem (srcW1 arg4 (BitVec.toNat v) 0 (c.lt v h.down) (by decide)) (rowsW1 arg10 b 0 hb (by decide))
    (wxSrcW1 arg4 harg4 _ _ _ (by decide) (by decide)) (wxRowsW1 arg10 harg10 b _ hb (by decide) (by decide))) fun _ =>
  .op (.waitDma2 (semV arg16 b 0 hb (by decide)).sem (srcW1 arg4 (BitVec.toNat v) 2048 (c.lt v h.down) (by decide)) (rowsW1 arg10 b 2048 hb (by decide))
    (wxSrcW1 arg4 harg4 _ _ _ (by decide) (by decide)) (wxRowsW1 arg10 harg10 b _ hb (by decide) (by decide))) fun _ =>
  k

/-- Wait for the second stage: the other two quarters of the first weights. -/
def wait1 {α : Type} (harg4 : arg4.IsWhole) (harg10 : arg10.IsWhole)
    (i : ℕ) (hi : i + 1 ≤ 17) (b : ℕ) (hb : b < 2) {C : BitVec 32 → Prop} (c : Chk C) (k : PP F α) : PP F α :=
  ldA arg9 i hi fun v => .op (.assume (C v) (c.dec v)) fun h =>
  .op (.waitDma2 (semV arg16 b 1 hb (by decide)).sem (srcW1 arg4 (BitVec.toNat v) 1024 (c.lt v h.down) (by decide)) (rowsW1 arg10 b 1024 hb (by decide))
    (wxSrcW1 arg4 harg4 _ _ _ (by decide) (by decide)) (wxRowsW1 arg10 harg10 b _ hb (by decide) (by decide))) fun _ =>
  .op (.waitDma2 (semV arg16 b 1 hb (by decide)).sem (srcW1 arg4 (BitVec.toNat v) 3072 (c.lt v h.down) (by decide)) (rowsW1 arg10 b 3072 hb (by decide))
    (wxSrcW1 arg4 harg4 _ _ _ (by decide) (by decide)) (wxRowsW1 arg10 harg10 b _ hb (by decide) (by decide))) fun _ =>
  k

/-- Wait for the third stage: the second weights and their scales. -/
def wait2 {α : Type} (harg6 : arg6.IsWhole) (harg7 : arg7.IsWhole) (harg12 : arg12.IsWhole) (harg13 : arg13.IsWhole)
    (i : ℕ) (hi : i + 1 ≤ 17) (b : ℕ) (hb : b < 2) {C : BitVec 32 → Prop} (c : Chk C) (k : PP F α) : PP F α :=
  ldA arg9 i hi fun v => .op (.assume (C v) (c.dec v)) fun h =>
  .op (.waitDma2 (semV arg16 b 2 hb (by decide)).sem (srcS2 arg7 (BitVec.toNat v) (c.lt v h.down)) (slotS2 arg13 b hb)
    (wxSrcS2 arg7 harg7 _ _) (wxSlotS2 arg13 harg13 b hb)) fun _ =>
  .op (.waitDma2 (semV arg16 b 2 hb (by decide)).sem (srcW2 arg6 (BitVec.toNat v) (c.lt v h.down)) (slotW2 arg12 b hb)
    (wxSrcW2 arg6 harg6 _ _) (wxSlotW2 arg12 harg12 b hb)) fun _ =>
  k

abbrev ldIds (m : Memref sig .tc .vmem S24x2 .i32) : TpuEff nD τ sig (Elt F) Λ₀ .tc (Vec F S24x2 .i32) :=
  .load m (Rect.unit (s := S24x2) ![0, 0] S24x2.size inb_S24x2_S24x2_0_0).toLoadRect (View.loadsAt_vmem h_S24x2)
abbrev ldCw (m : Memref sig .tc .vmem S24x2 .f32) : TpuEff nD τ sig (Elt F) Λ₀ .tc (Vec F S24x2 .f32) :=
  .load m (Rect.unit (s := S24x2) ![0, 0] S24x2.size inb_S24x2_S24x2_0_0).toLoadRect (View.loadsAt_vmem h_S24x2)

/-- Hidden tiles `d0 ≤ d < d0 + n` one after another. -/
def guTiles {α : Type} (arg1 : Memref sig .tc .vmem S24x2048 .bf16) (w1 : Memref sig .tc .vmem S4096x1024 .i8) (s1 : Memref sig .tc .vmem S16x4096 .bf16)
    (arg14 : Memref sig .tc .vmem S24x2048 .bf16) (harg14 : arg14.IsWhole) (d0 : ℕ) :
    (n : ℕ) → (hn : d0 + n ≤ 8) → PP F α → PP F α
  | 0, _, k => k
  | n + 1, hn, k => guTiles arg1 w1 s1 arg14 harg14 d0 n (by omega) (guTile arg1 w1 s1 arg14 harg14 (d0 + n) (by omega) k)

/-- The first `n` output tiles one after another. -/
def dnTiles {α : Type} (w2 : Memref sig .tc .vmem S2048x1024 .i8) (s2 : Memref sig .tc .vmem S16x2048 .bf16)
    (arg14 : Memref sig .tc .vmem S24x2048 .bf16) (arg15 : Memref sig .tc .vmem S24x2048 .f32)
    (c : FVec F S24x1 .f32) (r : IVec S24x1 1) :
    (n : ℕ) → (hn : n ≤ 8) → PP F α → PP F α
  | 0, _, k => k
  | n + 1, hn, k => dnTiles w2 s2 arg14 arg15 c r n (by omega) (dnTile w2 s2 arg14 arg15 c r n (by omega) k)

/-- What one trip does after it has started the next expert's copies. -/
def tripRest (arg1 : Memref sig .tc .vmem S24x2048 .bf16) (arg2 : Memref sig .tc .vmem S24x2 .i32) (arg3 : Memref sig .tc .vmem S24x2 .f32)
    (arg14 : Memref sig .tc .vmem S24x2048 .bf16) (arg15 : Memref sig .tc .vmem S24x2048 .f32)
    (harg4 : arg4.IsWhole) (harg5 : arg5.IsWhole) (harg6 : arg6.IsWhole) (harg7 : arg7.IsWhole)
    (harg10 : arg10.IsWhole) (harg11 : arg11.IsWhole) (harg12 : arg12.IsWhole) (harg13 : arg13.IsWhole) (harg14 : arg14.IsWhole)
    (i : ℕ) (hi : i + 1 ≤ 17) (b : ℕ) (hb : b < 2)
    {C0 C1 C2 : BitVec 32 → Prop} (c0 : Chk C0) (c1 : Chk C1) (c2 : Chk C2) (e : Elt F .i32) : PP F Unit :=
  wait0 arg4 arg5 arg9 arg10 arg11 arg16 harg4 harg5 harg10 harg11 i hi b hb c0 <|
  guTiles arg1 (slotW1 arg10 b hb) (slotS1 arg11 b hb) arg14 harg14 0 4 (by omega) <|
  wait1 arg4 arg9 arg10 arg16 harg4 harg10 i hi b hb c1 <|
  guTiles arg1 (slotW1 arg10 b hb) (slotS1 arg11 b hb) arg14 harg14 4 4 (by omega) <|
  wait2 arg6 arg7 arg9 arg12 arg13 arg16 harg6 harg7 harg12 harg13 i hi b hb c2 <|
  .op (ldIds arg2) fun ids => .op (ldCw arg3) fun cw =>
  dnTiles (slotW2 arg12 b hb) (slotS2 arg13 b hb) arg14 arg15 (coefOf e ids cw) (anyOf (F := F) e ids) 8 (by omega) (.ret ())

end views

theorem op_ext {E : Type → Type} {α β : Type} {e e' : E β} {k k' : β → Prog E α} (h : e = e') (hk : ∀ v, k v = k' v) :
    Prog.op e k = Prog.op e' k' := by
  subst h; exact congrArg _ (funext hk)

end Cert.KernelIdeal.Gen
-- ==== Proof.Ideal.Trip.lean ====
/- One trip of the loop over the active experts is the structured program. -/
module

public import proofs.«01_k».proof.Proof.Ideal.Plan

@[expose] public section

set_option maxRecDepth 65536
set_option maxHeartbeats 4000000

noncomputable section

namespace Cert.KernelIdeal.Gen

open Idealize.ShloMosaic Idealize.SL.Sem

variable {F : FTy → Type} [FloatOps F]

section
variable (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32)

def chkA (k : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (h1 : k0_cond1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k = 1#1) : Chk (k0_chk5 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k) :=
  ⟨k0_chk5.dec v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k, fun v h => by have := h.1 h1 0; exact this⟩
def chkB (k : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (h1 : k0_cond1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k = 1#1) : Chk (k0_chk6 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k) :=
  ⟨k0_chk6.dec v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k, fun v h => by have := h.1 h1 0; exact this⟩
def chkC (k : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (h1 : k0_cond1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k = 1#1) : Chk (k0_chk7 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k) :=
  ⟨k0_chk7.dec v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k, fun v h => by have := h.1 h1 0; exact this⟩
end
def chkD : Chk k0_chk8 := ⟨k0_chk8.dec, fun v h => by have := h.1 0; exact this⟩
def chkE : Chk k0_chk9 := ⟨k0_chk9.dec, fun v h => by have := h.1 0; exact this⟩
def chkF : Chk k0_chk10 := ⟨k0_chk10.dec, fun v h => by have := h.1 0; exact this⟩

theorem bind_ext {α β : Type} {m m' : PP F α} {k k' : α → PP F β} (hm : m = m') (hk : ∀ a, k a = k' a) :
    m.bind k = m'.bind k' := by
  subst hm; rw [funext hk]

omit [FloatOps F] in
theorem bassoc {α β γ : Type} {m : PP F α} {f : α → PP F β} {g : β → PP F γ} {r} (h : m.bind (fun x => (f x).bind g) = r) :
   (m.bind f).bind g = r := by
  rw [← h]; exact Prog.bind_assoc _ _ _

omit [FloatOps F] in
theorem bite_ext {α β : Type} {c : Prop} {_ : Decidable c} {a : c → PP F α} {b : PP F α} {f : α → PP F β} {a' : c → PP F β → PP F β} {r : PP F β}
    (hb : b.bind f = r) (ha : ∀ h, b.bind f = r → (a h).bind f = a' h r) :
    (dite c a (fun _ => b)).bind f = dite c (fun h => a' h r) (fun _ => r) := by
  by_cases h : c
  · rw [dif_pos h, dif_pos h]; exact ha h hb
  · rw [dif_neg h, dif_neg h]; exact hb

/-- The index of a trip as a word. -/
abbrev tIx (k : ℕ) : BitVec 32 := Scf.iv 0#32 1#32 k
/-- The slot of a trip. -/
abbrev tSlot (k : ℕ) : ℕ := (Scalar.remsi (tIx k) 2#32).toNat
/-- The index of the expert fetched ahead, as a word, and its slot. -/
abbrev nIx (k : ℕ) : BitVec 32 := Scalar.addi (tIx k) 1#32
abbrev nSlot (k : ℕ) : ℕ := (Scalar.remsi (nIx k) 2#32).toNat

section
variable (arg0 : Memref sig .tc .smem S24x2 .i32) (harg0 : arg0.IsWhole) (arg1 : Memref sig .tc .vmem S24x2048 .bf16) (harg1 : arg1.IsWhole) (arg2 : Memref sig .tc .vmem S24x2 .i32) (harg2 : arg2.IsWhole) (arg3 : Memref sig .tc .vmem S24x2 .f32) (harg3 : arg3.IsWhole) (arg4 : Memref sig .tc .hbm S16x4096x1024 .i8) (harg4 : arg4.IsWhole) (arg5 : Memref sig .tc .hbm S16x16x4096 .bf16) (harg5 : arg5.IsWhole) (arg6 : Memref sig .tc .hbm S16x2048x1024 .i8) (harg6 : arg6.IsWhole) (arg7 : Memref sig .tc .hbm S16x16x2048 .bf16) (harg7 : arg7.IsWhole) (arg8 : Memref sig .tc .vmem S24x2048 .bf16) (harg8 : arg8.IsWhole) (arg9 : Memref sig .tc .smem S17 .i32) (harg9 : arg9.IsWhole) (arg10 : Memref sig .tc .vmem S2x4096x1024 .i8) (harg10 : arg10.IsWhole) (arg11 : Memref sig .tc .vmem S2x16x4096 .bf16) (harg11 : arg11.IsWhole) (arg12 : Memref sig .tc .vmem S2x2048x1024 .i8) (harg12 : arg12.IsWhole) (arg13 : Memref sig .tc .vmem S2x16x2048 .bf16) (harg13 : arg13.IsWhole) (arg14 : Memref sig .tc .vmem S24x2048 .bf16) (harg14 : arg14.IsWhole) (arg15 : Memref sig .tc .vmem S24x2048 .f32) (harg15 : arg15.IsWhole) (arg16 : DmaSems sig S2x3)
  (v0 : Elt F .i32) (v3 : Elt F .i32) (v6 : Elt F .i32) (v9 : Elt F .i32) (v12 : Elt F .i32) (v15 : Elt F .i32) (v18 : Elt F .i32) (v21 : Elt F .i32) (v24 : Elt F .i32) (v27 : Elt F .i32) (v30 : Elt F .i32) (v33 : Elt F .i32) (v36 : Elt F .i32) (v39 : Elt F .i32) (v42 : Elt F .i32) (v45 : Elt F .i32) (v48 : Elt F .i32) (v51 : Elt F .i32) (v54 : Elt F .i32) (v57 : Elt F .i32) (v60 : Elt F .i32) (v63 : Elt F .i32) (v66 : Elt F .i32) (v69 : Elt F .i32) (v72 : Elt F .i32) (v75 : Elt F .i32) (v78 : Elt F .i32) (v81 : Elt F .i32) (v84 : Elt F .i32) (v87 : Elt F .i32) (v90 : Elt F .i32) (v93 : Elt F .i32) (v96 : Elt F .i32) (v99 : Elt F .i32) (v102 : Elt F .i32) (v105 : Elt F .i32) (v108 : Elt F .i32) (v111 : Elt F .i32) (v114 : Elt F .i32) (v117 : Elt F .i32) (v120 : Elt F .i32) (v123 : Elt F .i32) (v126 : Elt F .i32) (v129 : Elt F .i32) (v132 : Elt F .i32) (v135 : Elt F .i32) (v138 : Elt F .i32) (v141 : Elt F .i32) (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (v222 : BitVec 32)

/-- One trip: read the expert, start the next one's copies, and do the rest. -/
def trip (k : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (hi : (tIx k).toNat + 1 ≤ 17) (hb : tSlot k < 2)
    (hi' : k0_cond1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k = 1#1 → (nIx k).toNat + 1 ≤ 17) (hb' : nSlot k < 2) : PP F Unit :=
  ldA arg9 (tIx k).toNat hi fun e =>
  have r : PP F Unit := tripRest arg4 arg5 arg6 arg7 arg9 arg10 arg11 arg12 arg13 arg16 arg1 arg2 arg3 arg14 arg15 harg4 harg5 harg6 harg7
    harg10 harg11 harg12 harg13 harg14 (tIx k).toNat hi (tSlot k) hb chkD chkE chkF e
  if hc : k0_cond1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k = 1#1 then
    startP arg4 arg5 arg6 arg7 arg9 arg10 arg11 arg12 arg13 arg16 harg4 harg5 harg6 harg7 harg10 harg11 harg12 harg13
      (nIx k).toNat (hi' hc) (nSlot k) hb' (chkA v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k hc) (chkB v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k hc) (chkC v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k hc) r
   else r

theorem body_eq (k : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) (hi : (tIx k).toNat + 1 ≤ 17) (hb : tSlot k < 2)
    (hi' : k0_cond1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k = 1#1 → (nIx k).toNat + 1 ≤ 17) (hb' : nSlot k < 2) :
    k0_t1_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 v222 k () =
      trip arg1 arg2 arg3 arg4 harg4 arg5 harg5 arg6 harg6 arg7 harg7 arg9 arg10 harg10 arg11 harg11 arg12 harg12 arg13 harg13 arg14 harg14 arg15 arg16 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k hi hb hi' hb' := by
  refine op_ext rfl fun e => ?_
  refine bassoc ?_
  refine bassoc ?_
  refine bite_ext (a' := fun hc r => startP arg4 arg5 arg6 arg7 arg9 arg10 arg11 arg12 arg13 arg16 harg4 harg5 harg6 harg7 harg10 harg11 harg12 harg13
      (nIx k).toNat (hi' hc) (nSlot k) hb' (chkA v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k hc) (chkB v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k hc) (chkC v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k hc) r) ?_ (fun hc h => ?_)
  · iterate 567 refine op_ext rfl fun v => ?_
    exact rfl
  · iterate 13 refine op_ext rfl fun v => ?_
    exact h

end

end Cert.KernelIdeal.Gen
-- ==== Proof.Ideal.Facts.lean ====
/- The words the kernel computes from the expert ids: the mask of used experts, the counts of its bits, the trip count. -/
module

public import proofs.«01_k».proof.Proof.Ideal.Trip
public import Idealize.ShloMosaic.Lib.LoopRemainder

@[expose] public section

set_option maxRecDepth 65536
set_option maxHeartbeats 4000000

noncomputable section

namespace Cert.KernelIdeal.Gen

open Idealize.ShloMosaic Idealize.SL.Sem

/-- How many of the bits below `j` of the word `m` are set, as the kernel adds them up. -/
def cnt (m : BitVec 32) : ℕ → BitVec 32
  | 0 => 0#32
  | j + 1 => Scalar.addi (cnt m j) (Scalar.andi (Scalar.shrsi m (BitVec.ofNat 32 j)) 1#32)

theorem bit_of (m : BitVec 32) (j : ℕ) (hj : j < 32) :
    Scalar.andi (Scalar.shrsi m (BitVec.ofNat 32 j)) 1#32 = if m.getLsbD j then 1#32 else 0#32 := by
  have h1 : (BitVec.ofNat 32 j).toNat = j := by rw [BitVec.toNat_ofNat]; omega
  unfold Scalar.andi Scalar.shrsi IntOp.andi IntOp.shrsi
  rw [if_pos (by rw [h1]; exact hj)]
  apply BitVec.eq_of_getLsbD_eq
  intro i hi
  rw [BitVec.getLsbD_and, BitVec.sshiftRight_eq', h1, BitVec.getLsbD_sshiftRight]
  by_cases h0 : i = 0
  · subst h0
    cases hb : m.getLsbD j
    · simp [hb, hj]
    · simp [hb, hj]
  · have : (1#32).getLsbD i = false := by
      rw [BitVec.getLsbD_one]; simp [h0]
    rw [this, Bool.and_false]
    split
    · exact this.symm
    · simp

/-- The number of set bits below `j`. -/
def cntN (m : BitVec 32) : ℕ → ℕ
  | 0 => 0
  | j + 1 => cntN m j + (if m.getLsbD j then 1 else 0)

theorem cntN_le (m : BitVec 32) (j : ℕ) : cntN m j ≤ j := by
  induction j with
  | zero => exact le_rfl
  | succ j ih => unfold cntN; split <;> omega

theorem cnt_toNat (m : BitVec 32) (j : ℕ) (hj : j ≤ 16) : (cnt m j).toNat = cntN m j := by
  induction j with
  | zero => rfl
  | succ j ih =>
    have := cntN_le m j
    have ih := ih (by omega)
    unfold cnt cntN
    rw [bit_of m j (by omega)]
    unfold Scalar.addi IntOp.addi
    rw [BitVec.toNat_add, ih]
    split
    · have : (1#32 : BitVec 32).toNat = 1 := rfl
      omega
    · have : (0#32 : BitVec 32).toNat = 0 := rfl
      omega

theorem cnt_le (m : BitVec 32) (j : ℕ) (hj : j ≤ 16) : (cnt m j).toNat ≤ j := by
  rw [cnt_toNat m j hj]; exact cntN_le m j

theorem cnt_in (m : BitVec 32) (j : ℕ) (hj : j ≤ 16) : (cnt m j).toNat + 1 ≤ 17 := by
  have := cnt_le m j hj; omega

/-- The number of active experts. -/
abbrev nAct (m : BitVec 32) : ℕ := cntN m 16

theorem nAct_le (m : BitVec 32) : nAct m ≤ 16 := cntN_le m 16

theorem tIx_toNat (k : ℕ) (hk : k ≤ 16) : (tIx k).toNat = k := by
  unfold tIx Scf.iv
  rw [BitVec.mul_one, BitVec.zero_add, BitVec.toNat_ofNat]
  omega

theorem nIx_toNat (k : ℕ) (hk : k ≤ 16) : (nIx k).toNat = k + 1 := by
  unfold nIx Scalar.addi IntOp.addi
  rw [BitVec.toNat_add, tIx_toNat k hk]
  have h1 : (1#32 : BitVec 32).toNat = 1 := rfl
  omega

theorem rem2 (x : BitVec 32) (hx : x.toNat ≤ 17) : (Scalar.remsi x 2#32).toNat = x.toNat % 2 := by
  obtain ⟨k, hk, rfl⟩ : ∃ k : ℕ, k < 18 ∧ x = BitVec.ofNat 32 k := ⟨x.toNat, by omega, by simp⟩
  have H : ∀ k : Fin 18, (Scalar.remsi (BitVec.ofNat 32 k) 2#32).toNat = (BitVec.ofNat 32 k).toNat % 2 := by decide
  exact H ⟨k, hk⟩

theorem tSlot_eq (k : ℕ) (hk : k ≤ 16) : tSlot k = k % 2 := by
  unfold tSlot; rw [rem2 _ (by rw [tIx_toNat k hk]; omega), tIx_toNat k hk]

theorem nSlot_eq (k : ℕ) (hk : k ≤ 16) : nSlot k = (k + 1) % 2 := by
  unfold nSlot; rw [rem2 _ (by rw [nIx_toNat k hk]; omega), nIx_toNat k hk]

section
variable (v0 : BitVec 32) (v3 : BitVec 32) (v6 : BitVec 32) (v9 : BitVec 32) (v12 : BitVec 32) (v15 : BitVec 32) (v18 : BitVec 32) (v21 : BitVec 32) (v24 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v72 : BitVec 32) (v75 : BitVec 32) (v78 : BitVec 32) (v81 : BitVec 32) (v84 : BitVec 32) (v87 : BitVec 32) (v90 : BitVec 32) (v93 : BitVec 32) (v96 : BitVec 32) (v99 : BitVec 32) (v102 : BitVec 32) (v105 : BitVec 32) (v108 : BitVec 32) (v111 : BitVec 32) (v114 : BitVec 32) (v117 : BitVec 32) (v120 : BitVec 32) (v123 : BitVec 32) (v126 : BitVec 32) (v129 : BitVec 32) (v132 : BitVec 32) (v135 : BitVec 32) (v138 : BitVec 32) (v141 : BitVec 32)

/-- The mask of the used experts. -/
def maskOf : BitVec 32 := (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori (Scalar.ori 0#32 (Scalar.shli 1#32 v0)) (Scalar.shli 1#32 v3)) (Scalar.shli 1#32 v6)) (Scalar.shli 1#32 v9)) (Scalar.shli 1#32 v12)) (Scalar.shli 1#32 v15)) (Scalar.shli 1#32 v18)) (Scalar.shli 1#32 v21)) (Scalar.shli 1#32 v24)) (Scalar.shli 1#32 v27)) (Scalar.shli 1#32 v30)) (Scalar.shli 1#32 v33)) (Scalar.shli 1#32 v36)) (Scalar.shli 1#32 v39)) (Scalar.shli 1#32 v42)) (Scalar.shli 1#32 v45)) (Scalar.shli 1#32 v48)) (Scalar.shli 1#32 v51)) (Scalar.shli 1#32 v54)) (Scalar.shli 1#32 v57)) (Scalar.shli 1#32 v60)) (Scalar.shli 1#32 v63)) (Scalar.shli 1#32 v66)) (Scalar.shli 1#32 v69)) (Scalar.shli 1#32 v72)) (Scalar.shli 1#32 v75)) (Scalar.shli 1#32 v78)) (Scalar.shli 1#32 v81)) (Scalar.shli 1#32 v84)) (Scalar.shli 1#32 v87)) (Scalar.shli 1#32 v90)) (Scalar.shli 1#32 v93)) (Scalar.shli 1#32 v96)) (Scalar.shli 1#32 v99)) (Scalar.shli 1#32 v102)) (Scalar.shli 1#32 v105)) (Scalar.shli 1#32 v108)) (Scalar.shli 1#32 v111)) (Scalar.shli 1#32 v114)) (Scalar.shli 1#32 v117)) (Scalar.shli 1#32 v120)) (Scalar.shli 1#32 v123)) (Scalar.shli 1#32 v126)) (Scalar.shli 1#32 v129)) (Scalar.shli 1#32 v132)) (Scalar.shli 1#32 v135)) (Scalar.shli 1#32 v138)) (Scalar.shli 1#32 v141))

theorem loop_eq : k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 = ⟨0#32, Scalar.addi 0#32 (Scalar.muli (Scalar.divsi (Scalar.subi (cnt (maskOf v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) 16) 0#32) 1#32) 1#32), 1#32⟩ := rfl

theorem loop_eq' : k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 = ⟨0#32, cnt (maskOf v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) 16, 1#32⟩ := by
  rw [loop_eq, Scalar.muli_divsi_one]
  simp only [Scalar.addi, Scalar.subi, IntOp.addi, IntOp.subi, BitVec.zero_add, BitVec.sub_zero]

theorem cnt_toInt (m : BitVec 32) : (cnt m 16).toInt = nAct m := by
  have h := cnt_toNat m 16 le_rfl
  have h2 := nAct_le m
  rw [BitVec.toInt_eq_toNat_of_lt (by rw [h]; unfold nAct at h2; omega), h]

theorem trips_eq : (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips = nAct (maskOf v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) := by
  rw [loop_eq']
  unfold Scf.Loop.trips Scf.trips
  rw [cnt_toInt]
  have h1 : (1#32 : BitVec 32).toInt = 1 := by decide
  have h0 : (0#32 : BitVec 32).toInt = 0 := by decide
  simp only [h1, h0]
  omega

theorem loop_ok : (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).OK := by
  have ht := trips_eq v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141
  have := nAct_le (maskOf v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141)
  unfold Scf.Loop.OK Scf.OK
  rw [loop_eq'] at ht ⊢
  unfold Scf.Loop.trips at ht
  have h1 : (1#32 : BitVec 32).toInt = 1 := by decide
  have h0 : (0#32 : BitVec 32).toInt = 0 := by decide
  simp only [h1, h0, ht] at *
  exact ⟨by decide, by omega⟩

theorem trip_lt (k : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : (k : ℕ) < 16 := by
  have h := k.isLt
  have h2 := nAct_le (maskOf v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141)
  exact lt_of_lt_of_le h (le_trans (le_of_eq (trips_eq v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141)) h2)

theorem tIx_in (k : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : (tIx (k : ℕ)).toNat + 1 ≤ 17 := by
  have h := trip_lt v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k; rw [tIx_toNat k (by omega)]; omega
theorem nIx_in (k : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : (nIx (k : ℕ)).toNat + 1 ≤ 17 := by
  have h := trip_lt v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k; rw [nIx_toNat k (by omega)]; omega
theorem tSlot_in (k : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : tSlot (k : ℕ) + 1 ≤ 2 := by
  have h := trip_lt v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k; rw [tSlot_eq k (by omega)]; omega
theorem nSlot_in (k : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : nSlot (k : ℕ) + 1 ≤ 2 := by
  have h := trip_lt v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k; rw [nSlot_eq k (by omega)]; omega

theorem cond1_iff (k : Fin (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141).trips) : k0_cond1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k = 1#1 ↔ (k : ℕ) + 1 < nAct (maskOf v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) := by
  have hk := trip_lt v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k
  have e : k0_cond1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k = Scalar.cmpi .ne (Scalar.extui (Scalar.cmpi .slt (nIx k) (cnt (maskOf v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) 16))) 0#32 := rfl
  rw [e]
  have hn : (nIx k).toInt = (k : ℕ) + 1 := by
    have h := nIx_toNat k (by omega)
    rw [BitVec.toInt_eq_toNat_of_lt (by rw [h]; omega), h]; rfl
  have hc := cnt_toInt (maskOf v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141)
  have : Scalar.cmpi .slt (nIx k) (cnt (maskOf v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) 16) = BitVec.ofBool (decide ((k : ℕ) + 1 < nAct (maskOf v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141))) := by
    unfold Scalar.cmpi IntOp.cmpi
    simp only [BitVec.slt, hn, hc]
    congr 1
    exact decide_eq_decide.mpr (by omega)
  rw [this]
  by_cases h : (k : ℕ) + 1 < nAct (maskOf v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141)
  · simp only [h, decide_true, iff_true]; decide
  · simp only [h, decide_false, iff_false]; decide

theorem off1_eq : k0_off1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 = ![(cnt (maskOf v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) 1).toNat] := rfl
theorem off2_eq : k0_off2 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 = ![(cnt (maskOf v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) 2).toNat] := rfl
theorem off3_eq : k0_off3 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 = ![(cnt (maskOf v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) 3).toNat] := rfl
theorem off4_eq : k0_off4 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 = ![(cnt (maskOf v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) 4).toNat] := rfl
theorem off5_eq : k0_off5 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 = ![(cnt (maskOf v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) 5).toNat] := rfl
theorem off6_eq : k0_off6 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 = ![(cnt (maskOf v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) 6).toNat] := rfl
theorem off7_eq : k0_off7 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 = ![(cnt (maskOf v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) 7).toNat] := rfl
theorem off8_eq : k0_off8 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 = ![(cnt (maskOf v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) 8).toNat] := rfl
theorem off9_eq : k0_off9 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 = ![(cnt (maskOf v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) 9).toNat] := rfl
theorem off10_eq : k0_off10 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 = ![(cnt (maskOf v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) 10).toNat] := rfl
theorem off11_eq : k0_off11 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 = ![(cnt (maskOf v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) 11).toNat] := rfl
theorem off12_eq : k0_off12 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 = ![(cnt (maskOf v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) 12).toNat] := rfl
theorem off13_eq : k0_off13 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 = ![(cnt (maskOf v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) 13).toNat] := rfl
theorem off14_eq : k0_off14 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 = ![(cnt (maskOf v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) 14).toNat] := rfl
theorem off15_eq : k0_off15 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 = ![(cnt (maskOf v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) 15).toNat] := rfl

theorem inb1 {i a n : ℕ} (h : i + a ≤ n) : ∀ j, (![i] : Fin 1 → Nat) j + (![a] : Fin 1 → Nat) j ≤ (![n] : Fin 1 → Nat) j := by
  intro j; match j with
  | 0 => exact h

theorem tSlot_lt (k : ℕ) (hk : k ≤ 16) : tSlot k < 2 := by rw [tSlot_eq k hk]; omega
theorem nSlot_lt (k : ℕ) (hk : k ≤ 16) : nSlot k < 2 := by rw [nSlot_eq k hk]; omega

theorem chk1_0 : k0_chk1_0 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 :=
  ⟨inb1 (cnt_in (maskOf v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) 1 (by decide)),
   inb1 (cnt_in (maskOf v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) 2 (by decide)),
   inb1 (cnt_in (maskOf v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) 3 (by decide)),
   inb1 (cnt_in (maskOf v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) 4 (by decide)),
   inb1 (cnt_in (maskOf v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) 5 (by decide)),
   inb1 (cnt_in (maskOf v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) 6 (by decide)),
   inb1 (cnt_in (maskOf v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) 7 (by decide)),
   inb1 (cnt_in (maskOf v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) 8 (by decide)),
   inb1 (cnt_in (maskOf v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) 9 (by decide)),
   inb1 (cnt_in (maskOf v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) 10 (by decide)),
   inb1 (cnt_in (maskOf v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) 11 (by decide)),
   inb1 (cnt_in (maskOf v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) 12 (by decide)),
   inb1 (cnt_in (maskOf v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) 13 (by decide)),
   inb1 (cnt_in (maskOf v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) 14 (by decide)),
   inb1 (cnt_in (maskOf v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) 15 (by decide)),
   loop_ok v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141,
   fun k => inb1 (tIx_in v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k),
   fun k _ => inb1 (nIx_in v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k),
   fun k _ => inb2 (nSlot_in v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k) (by decide),
   fun k _ => inb3 (nSlot_in v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k) (by decide) (by decide),
   fun k _ hinb => .inr ⟨by decide, rfl, rfl, rfl⟩,
   fun k _ => inb2 (nSlot_in v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k) (by decide),
   fun k _ => inb3 (nSlot_in v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k) (by decide) (by decide),
   fun k _ hinb => Affine.words_of_packed (Affine.packed_dvd (by decide) (by first | exact (show 4 ∣ 0 by decide) | exact (show 4 ∣ 1024 by decide) | exact (show 4 ∣ 2048 by decide) | exact (show 4 ∣ 3072 by decide)) (by decide)),
   fun k _ => inb3 (nSlot_in v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k) (by decide) (by decide),
   fun k _ hinb => Affine.words_of_packed (Affine.packed_dvd (by decide) (by first | exact (show 4 ∣ 0 by decide) | exact (show 4 ∣ 1024 by decide) | exact (show 4 ∣ 2048 by decide) | exact (show 4 ∣ 3072 by decide)) (by decide)),
   fun k _ => inb1 (nIx_in v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k),
   fun k _ => inb2 (nSlot_in v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k) (by decide),
   fun k _ => inb3 (nSlot_in v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k) (by decide) (by decide),
   fun k _ hinb => Affine.words_of_packed (Affine.packed_dvd (by decide) (by first | exact (show 4 ∣ 0 by decide) | exact (show 4 ∣ 1024 by decide) | exact (show 4 ∣ 2048 by decide) | exact (show 4 ∣ 3072 by decide)) (by decide)),
   fun k _ => inb2 (nSlot_in v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k) (by decide),
   fun k _ => inb3 (nSlot_in v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k) (by decide) (by decide)⟩

theorem chk1_1 : k0_chk1_1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 :=
  ⟨fun k _ hinb => Affine.words_of_packed (Affine.packed_dvd (by decide) (by first | exact (show 4 ∣ 0 by decide) | exact (show 4 ∣ 1024 by decide) | exact (show 4 ∣ 2048 by decide) | exact (show 4 ∣ 3072 by decide)) (by decide)),
   fun k _ => inb1 (nIx_in v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k),
   fun k _ => inb2 (nSlot_in v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k) (by decide),
   fun k _ => inb3 (nSlot_in v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k) (by decide) (by decide),
   fun k _ hinb => .inr ⟨by decide, rfl, rfl, rfl⟩,
   fun k _ => inb2 (nSlot_in v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k) (by decide),
   fun k _ => inb3 (nSlot_in v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k) (by decide) (by decide),
   fun k _ hinb => .inr ⟨by decide, rfl, rfl, rfl⟩,
   fun k => inb2 (tSlot_in v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k) (by decide),
   fun k => inb3 (tSlot_in v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k) (by decide) (by decide),
   fun k hinb => .inr ⟨by decide, rfl, rfl, rfl⟩,
   fun k => inb2 (tSlot_in v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k) (by decide),
   fun k => inb3 (tSlot_in v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k) (by decide) (by decide),
   fun k hinb => Affine.words_of_packed (Affine.packed_dvd (by decide) (by first | exact (show 4 ∣ 0 by decide) | exact (show 4 ∣ 1024 by decide) | exact (show 4 ∣ 2048 by decide) | exact (show 4 ∣ 3072 by decide)) (by decide)),
   fun k => inb3 (tSlot_in v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k) (by decide) (by decide),
   fun k hinb => Affine.words_of_packed (Affine.packed_dvd (by decide) (by first | exact (show 4 ∣ 0 by decide) | exact (show 4 ∣ 1024 by decide) | exact (show 4 ∣ 2048 by decide) | exact (show 4 ∣ 3072 by decide)) (by decide)),
   fun k => inb3 (tSlot_in v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k) (by decide) (by decide),
   fun k => inb3 (tSlot_in v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k) (by decide) (by decide),
   fun k => inb1 (tIx_in v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k),
   fun k => inb2 (tSlot_in v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k) (by decide),
   fun k => inb3 (tSlot_in v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k) (by decide) (by decide),
   fun k hinb => Affine.words_of_packed (Affine.packed_dvd (by decide) (by first | exact (show 4 ∣ 0 by decide) | exact (show 4 ∣ 1024 by decide) | exact (show 4 ∣ 2048 by decide) | exact (show 4 ∣ 3072 by decide)) (by decide)),
   fun k => inb2 (tSlot_in v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k) (by decide),
   fun k => inb3 (tSlot_in v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k) (by decide) (by decide),
   fun k hinb => Affine.words_of_packed (Affine.packed_dvd (by decide) (by first | exact (show 4 ∣ 0 by decide) | exact (show 4 ∣ 1024 by decide) | exact (show 4 ∣ 2048 by decide) | exact (show 4 ∣ 3072 by decide)) (by decide)),
   fun k => inb3 (tSlot_in v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k) (by decide) (by decide),
   fun k => inb3 (tSlot_in v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k) (by decide) (by decide),
   fun k => inb1 (tIx_in v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k),
   fun k => inb2 (tSlot_in v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k) (by decide),
   fun k => inb3 (tSlot_in v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k) (by decide) (by decide),
   fun k hinb => .inr ⟨by decide, rfl, rfl, rfl⟩,
   fun k => inb2 (tSlot_in v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k) (by decide)⟩

theorem chk1_2 : k0_chk1_2 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 :=
  ⟨fun k => inb3 (tSlot_in v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k) (by decide) (by decide),
   fun k hinb => .inr ⟨by decide, rfl, rfl, rfl⟩,
   fun k => inb3 (tSlot_in v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k) (by decide) (by decide),
   Scf.rem_ok _ _,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim⟩

theorem chk1_3 : k0_chk1_3 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 :=
  ⟨fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim,
   fun k => (Scf.rem_no_trip _ _ k).elim⟩

theorem chk1_all : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 := ⟨chk1_0 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141, chk1_1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141, chk1_2 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141, chk1_3 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141⟩

end

end Cert.KernelIdeal.Gen
-- ==== Proof.Ideal.Main.lean ====
/- The whole program is the structured one: read the ids, list the used experts, start the first copies, loop, write out. -/
module

public import proofs.«01_k».proof.Proof.Ideal.Facts

@[expose] public section

set_option maxRecDepth 65536
set_option maxHeartbeats 4000000

noncomputable section

namespace Cert.KernelIdeal.Gen

open Idealize.ShloMosaic Idealize.SL.Sem

variable {F : FTy → Type} [FloatOps F]

/-- Choice `k` of token `t`, read as a word. -/
def ldId {α : Type} (arg0 : Memref sig .tc .smem S24x2 .i32) (t k : ℕ) (ht : t + 1 ≤ 24) (hk : k + 1 ≤ 2) (kk : Elt F .i32 → PP F α) : PP F α :=
  (smemLoad arg0 (Rect.unit (s := S24x2) ![t, k] S1x1.size (inb2 ht hk)) numel1_S1x1 rfl).bind kk

/-- Write `v` at entry `i` of the list of active experts. -/
def stA {α : Type} (arg9 : Memref sig .tc .smem S17 .i32) (i : ℕ) (hi : i + 1 ≤ 17) (v : BitVec 32) (k : PP F α) : PP F α :=
  ldA arg9 i hi fun _ =>
  .op (.store arg9 (Rect.unit (s := S17) ![i] S1.size (fun a => match a with | 0 => hi)) (fun _ => v) Finset.univ
    (View.stores_smem_one rfl numel1_S1) (.inl rfl)) fun _ => k

/-- Write the list of active experts: expert `j` at the count of used experts below it, for `j < n`. -/
def stAll {α : Type} (arg9 : Memref sig .tc .smem S17 .i32) (m : BitVec 32) : (n : ℕ) → (hn : n ≤ 16) → PP F α → PP F α
  | 0, _, k => k
  | n + 1, hn, k => stAll arg9 m n (by omega) (stA arg9 (cnt m n).toNat (cnt_in m n (by omega)) (BitVec.ofNat 32 n) k)

def chk2C : Chk k0_chk2 := ⟨k0_chk2.dec, fun v h => by have := h.1 0; exact this⟩
def chk3C : Chk k0_chk3 := ⟨k0_chk3.dec, fun v h => by have := h.1 0; exact this⟩
def chk4C : Chk k0_chk4 := ⟨k0_chk4.dec, fun v h => by have := h.1 0; exact this⟩

abbrev ldYA (arg15 : Memref sig .tc .vmem S24x2048 .f32) : TpuEff nD τ sig (Elt F) Λ₀ .tc (Vec F S24x2048 .f32) :=
  .load arg15 (Rect.unit (s := S24x2048) ![0, 0] S24x2048.size inb_S24x2048_S24x2048_0_0).toLoadRect (View.loadsAt_vmem h_S24x2048)
abbrev stYA (arg15 : Memref sig .tc .vmem S24x2048 .f32) (v : Vec F S24x2048 .f32) : TpuEff nD τ sig (Elt F) Λ₀ .tc PUnit :=
  .store arg15 (Rect.unit (s := S24x2048) ![0, 0] S24x2048.size inb_S24x2048_S24x2048_0_0) v Finset.univ (View.stores_vmem_bits_univ h_S24x2048 rfl) (.inl rfl)
abbrev ldO (arg8 : Memref sig .tc .vmem S24x2048 .bf16) : TpuEff nD τ sig (Elt F) Λ₀ .tc (Vec F S24x2048 .bf16) :=
  .load arg8 (Rect.unit (s := S24x2048) ![0, 0] S24x2048.size inb_S24x2048_S24x2048_0_0).toLoadRect (View.loadsAt_vmem h_S24x2048)
abbrev stO (arg8 : Memref sig .tc .vmem S24x2048 .bf16) (harg8 : arg8.IsWhole) (v : Vec F S24x2048 .bf16) : TpuEff nD τ sig (Elt F) Λ₀ .tc PUnit :=
  .store arg8 (Rect.unit (s := S24x2048) ![0, 0] S24x2048.size inb_S24x2048_S24x2048_0_0) v Finset.univ
    (View.stores_vmem h_S24x2048 (harg8.storeExact_slice rfl _ packedbf16_S24x2048_S24x2048_0_0) (fun _ => rfl)) (.inl rfl)

section starts
variable (arg4 : Memref sig .tc .hbm S16x4096x1024 .i8) (arg5 : Memref sig .tc .hbm S16x16x4096 .bf16) (arg6 : Memref sig .tc .hbm S16x2048x1024 .i8) (arg7 : Memref sig .tc .hbm S16x16x2048 .bf16)
  (arg9 : Memref sig .tc .smem S17 .i32)
  (arg10 : Memref sig .tc .vmem S2x4096x1024 .i8) (arg11 : Memref sig .tc .vmem S2x16x4096 .bf16) (arg12 : Memref sig .tc .vmem S2x2048x1024 .i8) (arg13 : Memref sig .tc .vmem S2x16x2048 .bf16) (arg16 : DmaSems sig S2x3)

/-- Start the copies of stage 0: the scales and two quarters of the first weights. -/
def start0 {α : Type} (harg4 : arg4.IsWhole) (harg5 : arg5.IsWhole) (harg10 : arg10.IsWhole) (harg11 : arg11.IsWhole)
    (i : ℕ) (hi : i + 1 ≤ 17) (b : ℕ) (hb : b < 2) {C : BitVec 32 → Prop} (c : Chk C) (k : PP F α) : PP F α :=
  ldA arg9 i hi fun v => .op (.assume (C v) (c.dec v)) fun h =>
  .op (.enqueueDma (srcS1 arg5 (BitVec.toNat v) (c.lt v h.down)) (.here (slotS1 arg11 b hb)) (.dma (semV arg16 b 0 hb (by decide)).sem)
    (wxSrcS1 arg5 harg5 _ _) (wxSlotS1 arg11 harg11 b hb) ⟨Or.inl rfl, trivial⟩) fun _ =>
  .op (.enqueueDma (srcW1 arg4 (BitVec.toNat v) 0 (c.lt v h.down) (by decide)) (.here (rowsW1 arg10 b 0 hb (by decide))) (.dma (semV arg16 b 0 hb (by decide)).sem)
    (wxSrcW1 arg4 harg4 _ _ _ (by decide) (by decide)) (wxRowsW1 arg10 harg10 b _ hb (by decide) (by decide)) ⟨Or.inl rfl, trivial⟩) fun _ =>
  .op (.enqueueDma (srcW1 arg4 (BitVec.toNat v) 2048 (c.lt v h.down) (by decide)) (.here (rowsW1 arg10 b 2048 hb (by decide))) (.dma (semV arg16 b 0 hb (by decide)).sem)
    (wxSrcW1 arg4 harg4 _ _ _ (by decide) (by decide)) (wxRowsW1 arg10 harg10 b _ hb (by decide) (by decide)) ⟨Or.inl rfl, trivial⟩) fun _ =>
  k

/-- Start the copies of stage 1: the other two quarters of the first weights. -/
def start1 {α : Type} (harg4 : arg4.IsWhole) (harg10 : arg10.IsWhole)
    (i : ℕ) (hi : i + 1 ≤ 17) (b : ℕ) (hb : b < 2) {C : BitVec 32 → Prop} (c : Chk C) (k : PP F α) : PP F α :=
  ldA arg9 i hi fun v => .op (.assume (C v) (c.dec v)) fun h =>
  .op (.enqueueDma (srcW1 arg4 (BitVec.toNat v) 1024 (c.lt v h.down) (by decide)) (.here (rowsW1 arg10 b 1024 hb (by decide))) (.dma (semV arg16 b 1 hb (by decide)).sem)
    (wxSrcW1 arg4 harg4 _ _ _ (by decide) (by decide)) (wxRowsW1 arg10 harg10 b _ hb (by decide) (by decide)) ⟨Or.inl rfl, trivial⟩) fun _ =>
  .op (.enqueueDma (srcW1 arg4 (BitVec.toNat v) 3072 (c.lt v h.down) (by decide)) (.here (rowsW1 arg10 b 3072 hb (by decide))) (.dma (semV arg16 b 1 hb (by decide)).sem)
    (wxSrcW1 arg4 harg4 _ _ _ (by decide) (by decide)) (wxRowsW1 arg10 harg10 b _ hb (by decide) (by decide)) ⟨Or.inl rfl, trivial⟩) fun _ =>
  k

/-- Start the copies of stage 2: the second weights and their scales. -/
def start2 {α : Type} (harg6 : arg6.IsWhole) (harg7 : arg7.IsWhole) (harg12 : arg12.IsWhole) (harg13 : arg13.IsWhole)
    (i : ℕ) (hi : i + 1 ≤ 17) (b : ℕ) (hb : b < 2) {C : BitVec 32 → Prop} (c : Chk C) (k : PP F α) : PP F α :=
  ldA arg9 i hi fun v => .op (.assume (C v) (c.dec v)) fun h =>
  .op (.enqueueDma (srcS2 arg7 (BitVec.toNat v) (c.lt v h.down)) (.here (slotS2 arg13 b hb)) (.dma (semV arg16 b 2 hb (by decide)).sem)
    (wxSrcS2 arg7 harg7 _ _) (wxSlotS2 arg13 harg13 b hb) ⟨Or.inl rfl, trivial⟩) fun _ =>
  .op (.enqueueDma (srcW2 arg6 (BitVec.toNat v) (c.lt v h.down)) (.here (slotW2 arg12 b hb)) (.dma (semV arg16 b 2 hb (by decide)).sem)
    (wxSrcW2 arg6 harg6 _ _) (wxSlotW2 arg12 harg12 b hb) ⟨Or.inl rfl, trivial⟩) fun _ =>
  k

theorem startP_eq {α : Type} (harg4 : arg4.IsWhole) (harg5 : arg5.IsWhole) (harg6 : arg6.IsWhole) (harg7 : arg7.IsWhole)
    (harg10 : arg10.IsWhole) (harg11 : arg11.IsWhole) (harg12 : arg12.IsWhole) (harg13 : arg13.IsWhole)
    (i : ℕ) (hi : i + 1 ≤ 17) (b : ℕ) (hb : b < 2)
    {C0 C1 C2 : BitVec 32 → Prop} (c0 : Chk C0) (c1 : Chk C1) (c2 : Chk C2) (k : PP F α) :
    startP arg4 arg5 arg6 arg7 arg9 arg10 arg11 arg12 arg13 arg16 harg4 harg5 harg6 harg7 harg10 harg11 harg12 harg13 i hi b hb c0 c1 c2 k =
    (start0 arg4 arg5 arg9 arg10 arg11 arg16 harg4 harg5 harg10 harg11 i hi b hb c0 <|
     start1 arg4 arg9 arg10 arg16 harg4 harg10 i hi b hb c1 <|
     start2 arg6 arg7 arg9 arg12 arg13 arg16 harg6 harg7 harg12 harg13 i hi b hb c2 k) := rfl

end starts

section
variable (arg0 : Memref sig .tc .smem S24x2 .i32) (harg0 : arg0.IsWhole) (arg1 : Memref sig .tc .vmem S24x2048 .bf16) (harg1 : arg1.IsWhole) (arg2 : Memref sig .tc .vmem S24x2 .i32) (harg2 : arg2.IsWhole) (arg3 : Memref sig .tc .vmem S24x2 .f32) (harg3 : arg3.IsWhole) (arg4 : Memref sig .tc .hbm S16x4096x1024 .i8) (harg4 : arg4.IsWhole) (arg5 : Memref sig .tc .hbm S16x16x4096 .bf16) (harg5 : arg5.IsWhole) (arg6 : Memref sig .tc .hbm S16x2048x1024 .i8) (harg6 : arg6.IsWhole) (arg7 : Memref sig .tc .hbm S16x16x2048 .bf16) (harg7 : arg7.IsWhole) (arg8 : Memref sig .tc .vmem S24x2048 .bf16) (harg8 : arg8.IsWhole) (arg9 : Memref sig .tc .smem S17 .i32) (harg9 : arg9.IsWhole) (arg10 : Memref sig .tc .vmem S2x4096x1024 .i8) (harg10 : arg10.IsWhole) (arg11 : Memref sig .tc .vmem S2x16x4096 .bf16) (harg11 : arg11.IsWhole) (arg12 : Memref sig .tc .vmem S2x2048x1024 .i8) (harg12 : arg12.IsWhole) (arg13 : Memref sig .tc .vmem S2x16x2048 .bf16) (harg13 : arg13.IsWhole) (arg14 : Memref sig .tc .vmem S24x2048 .bf16) (harg14 : arg14.IsWhole) (arg15 : Memref sig .tc .vmem S24x2048 .f32) (harg15 : arg15.IsWhole) (arg16 : DmaSems sig S2x3)

/-- After the ids are read. -/
def mainRest (v0 : Elt F .i32) (v3 : Elt F .i32) (v6 : Elt F .i32) (v9 : Elt F .i32) (v12 : Elt F .i32) (v15 : Elt F .i32) (v18 : Elt F .i32) (v21 : Elt F .i32) (v24 : Elt F .i32) (v27 : Elt F .i32) (v30 : Elt F .i32) (v33 : Elt F .i32) (v36 : Elt F .i32) (v39 : Elt F .i32) (v42 : Elt F .i32) (v45 : Elt F .i32) (v48 : Elt F .i32) (v51 : Elt F .i32) (v54 : Elt F .i32) (v57 : Elt F .i32) (v60 : Elt F .i32) (v63 : Elt F .i32) (v66 : Elt F .i32) (v69 : Elt F .i32) (v72 : Elt F .i32) (v75 : Elt F .i32) (v78 : Elt F .i32) (v81 : Elt F .i32) (v84 : Elt F .i32) (v87 : Elt F .i32) (v90 : Elt F .i32) (v93 : Elt F .i32) (v96 : Elt F .i32) (v99 : Elt F .i32) (v102 : Elt F .i32) (v105 : Elt F .i32) (v108 : Elt F .i32) (v111 : Elt F .i32) (v114 : Elt F .i32) (v117 : Elt F .i32) (v120 : Elt F .i32) (v123 : Elt F .i32) (v126 : Elt F .i32) (v129 : Elt F .i32) (v132 : Elt F .i32) (v135 : Elt F .i32) (v138 : Elt F .i32) (v141 : Elt F .i32) : PP F PUnit :=
  .op (.assume (k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_chk1.dec v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141)) fun h =>
  stAll arg9 (maskOf v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) 16 le_rfl <|
  startP arg4 arg5 arg6 arg7 arg9 arg10 arg11 arg12 arg13 arg16 harg4 harg5 harg6 harg7 harg10 harg11 harg12 harg13
    0 (by decide) 0 (by decide) chk2C chk3C chk4C <|
  .op (ldYA arg15) fun _ => .op (stYA arg15 (k0_pay1 (F := F))) fun _ =>
  (Scf.Loop.for (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (loop_ok v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) ()
    fun k _ => trip arg1 arg2 arg3 arg4 harg4 arg5 harg5 arg6 harg6 arg7 harg7 arg9 arg10 harg10 arg11 harg11 arg12 harg12 arg13 harg13 arg14 harg14 arg15 arg16 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k (tIx_in v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k) (tSlot_in v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k) (fun _ => nIx_in v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k) (nSlot_in v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k)).bind fun _ =>
  .op (ldYA arg15) fun v => .op (ldO arg8) fun _ => .op (stO arg8 harg8 (k0_pay4 v)) fun _ => .ret ()

/-- The whole program. -/
def mainP : PP F PUnit :=
  ldId arg0 0 0 (by decide) (by decide) fun v0 =>
  ldId arg0 0 1 (by decide) (by decide) fun v3 =>
  ldId arg0 1 0 (by decide) (by decide) fun v6 =>
  ldId arg0 1 1 (by decide) (by decide) fun v9 =>
  ldId arg0 2 0 (by decide) (by decide) fun v12 =>
  ldId arg0 2 1 (by decide) (by decide) fun v15 =>
  ldId arg0 3 0 (by decide) (by decide) fun v18 =>
  ldId arg0 3 1 (by decide) (by decide) fun v21 =>
  ldId arg0 4 0 (by decide) (by decide) fun v24 =>
  ldId arg0 4 1 (by decide) (by decide) fun v27 =>
  ldId arg0 5 0 (by decide) (by decide) fun v30 =>
  ldId arg0 5 1 (by decide) (by decide) fun v33 =>
  ldId arg0 6 0 (by decide) (by decide) fun v36 =>
  ldId arg0 6 1 (by decide) (by decide) fun v39 =>
  ldId arg0 7 0 (by decide) (by decide) fun v42 =>
  ldId arg0 7 1 (by decide) (by decide) fun v45 =>
  ldId arg0 8 0 (by decide) (by decide) fun v48 =>
  ldId arg0 8 1 (by decide) (by decide) fun v51 =>
  ldId arg0 9 0 (by decide) (by decide) fun v54 =>
  ldId arg0 9 1 (by decide) (by decide) fun v57 =>
  ldId arg0 10 0 (by decide) (by decide) fun v60 =>
  ldId arg0 10 1 (by decide) (by decide) fun v63 =>
  ldId arg0 11 0 (by decide) (by decide) fun v66 =>
  ldId arg0 11 1 (by decide) (by decide) fun v69 =>
  ldId arg0 12 0 (by decide) (by decide) fun v72 =>
  ldId arg0 12 1 (by decide) (by decide) fun v75 =>
  ldId arg0 13 0 (by decide) (by decide) fun v78 =>
  ldId arg0 13 1 (by decide) (by decide) fun v81 =>
  ldId arg0 14 0 (by decide) (by decide) fun v84 =>
  ldId arg0 14 1 (by decide) (by decide) fun v87 =>
  ldId arg0 15 0 (by decide) (by decide) fun v90 =>
  ldId arg0 15 1 (by decide) (by decide) fun v93 =>
  ldId arg0 16 0 (by decide) (by decide) fun v96 =>
  ldId arg0 16 1 (by decide) (by decide) fun v99 =>
  ldId arg0 17 0 (by decide) (by decide) fun v102 =>
  ldId arg0 17 1 (by decide) (by decide) fun v105 =>
  ldId arg0 18 0 (by decide) (by decide) fun v108 =>
  ldId arg0 18 1 (by decide) (by decide) fun v111 =>
  ldId arg0 19 0 (by decide) (by decide) fun v114 =>
  ldId arg0 19 1 (by decide) (by decide) fun v117 =>
  ldId arg0 20 0 (by decide) (by decide) fun v120 =>
  ldId arg0 20 1 (by decide) (by decide) fun v123 =>
  ldId arg0 21 0 (by decide) (by decide) fun v126 =>
  ldId arg0 21 1 (by decide) (by decide) fun v129 =>
  ldId arg0 22 0 (by decide) (by decide) fun v132 =>
  ldId arg0 22 1 (by decide) (by decide) fun v135 =>
  ldId arg0 23 0 (by decide) (by decide) fun v138 =>
  ldId arg0 23 1 (by decide) (by decide) fun v141 =>
  mainRest arg1 arg2 arg3 arg4 harg4 arg5 harg5 arg6 harg6 arg7 harg7 arg8 harg8 arg9 arg10 harg10 arg11 harg11 arg12 harg12 arg13 harg13 arg14 harg14 arg15 arg16 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141

end

/-- Write `v` at the place `off` of the list. -/
def stQ {α : Type} (arg9 : Memref sig .tc .smem S17 .i32) (off : Fin 1 → ℕ) (hi : ∀ a, off a + S1.size a ≤ S17.size a) (v : BitVec 32) (k : PP F α) : PP F α :=
  (smemLoad arg9 (Rect.unit (s := S17) off S1.size hi) numel1_S1 rfl).bind fun _ =>
  .op (.store arg9 (Rect.unit (s := S17) off S1.size hi) (fun _ => v) Finset.univ (View.stores_smem_one rfl numel1_S1) (.inl rfl)) fun _ => k

theorem ld_ext {β : Type} {m : Memref sig .tc .smem S17 .i32} {r : Rect S17} {h1} {hp} {k k' : Elt F .i32 → PP F β} (h : ∀ v, k v = k' v) : (smemLoad m r h1 hp).bind k = (smemLoad m r h1 hp).bind k' :=
  congrArg _ (funext h)

theorem stAll_16 {α : Type} (arg9 : Memref sig .tc .smem S17 .i32) (m : BitVec 32) (k : PP F α) : stAll arg9 m 16 le_rfl k =
    (stA arg9 (cnt m 0).toNat (cnt_in m 0 (by omega)) 0#32 <|
    stA arg9 (cnt m 1).toNat (cnt_in m 1 (by omega)) 1#32 <|
    stA arg9 (cnt m 2).toNat (cnt_in m 2 (by omega)) 2#32 <|
    stA arg9 (cnt m 3).toNat (cnt_in m 3 (by omega)) 3#32 <|
    stA arg9 (cnt m 4).toNat (cnt_in m 4 (by omega)) 4#32 <|
    stA arg9 (cnt m 5).toNat (cnt_in m 5 (by omega)) 5#32 <|
    stA arg9 (cnt m 6).toNat (cnt_in m 6 (by omega)) 6#32 <|
    stA arg9 (cnt m 7).toNat (cnt_in m 7 (by omega)) 7#32 <|
    stA arg9 (cnt m 8).toNat (cnt_in m 8 (by omega)) 8#32 <|
    stA arg9 (cnt m 9).toNat (cnt_in m 9 (by omega)) 9#32 <|
    stA arg9 (cnt m 10).toNat (cnt_in m 10 (by omega)) 10#32 <|
    stA arg9 (cnt m 11).toNat (cnt_in m 11 (by omega)) 11#32 <|
    stA arg9 (cnt m 12).toNat (cnt_in m 12 (by omega)) 12#32 <|
    stA arg9 (cnt m 13).toNat (cnt_in m 13 (by omega)) 13#32 <|
    stA arg9 (cnt m 14).toNat (cnt_in m 14 (by omega)) 14#32 <|
    stA arg9 (cnt m 15).toNat (cnt_in m 15 (by omega)) 15#32 <| k) := rfl

theorem rbind {α β : Type} {a : α} {f : α → PP F β} {r} (h : f a = r) : Prog.bind (.ret a) f = r := h

theorem stQ_eq {α : Type} (arg9 : Memref sig .tc .smem S17 .i32) (off : Fin 1 → ℕ) (hi : ∀ a, off a + S1.size a ≤ S17.size a) (v : BitVec 32) {k k' : PP F α}
    (i : ℕ) (hi' : i + 1 ≤ 17) (h : off = ![i]) (hk : k = k') : stQ arg9 off hi v k = stA arg9 i hi' v k' := by
  subst h; subst hk; rfl

section
variable (arg0 : Memref sig .tc .smem S24x2 .i32) (harg0 : arg0.IsWhole) (arg1 : Memref sig .tc .vmem S24x2048 .bf16) (harg1 : arg1.IsWhole) (arg2 : Memref sig .tc .vmem S24x2 .i32) (harg2 : arg2.IsWhole) (arg3 : Memref sig .tc .vmem S24x2 .f32) (harg3 : arg3.IsWhole) (arg4 : Memref sig .tc .hbm S16x4096x1024 .i8) (harg4 : arg4.IsWhole) (arg5 : Memref sig .tc .hbm S16x16x4096 .bf16) (harg5 : arg5.IsWhole) (arg6 : Memref sig .tc .hbm S16x2048x1024 .i8) (harg6 : arg6.IsWhole) (arg7 : Memref sig .tc .hbm S16x16x2048 .bf16) (harg7 : arg7.IsWhole) (arg8 : Memref sig .tc .vmem S24x2048 .bf16) (harg8 : arg8.IsWhole) (arg9 : Memref sig .tc .smem S17 .i32) (harg9 : arg9.IsWhole) (arg10 : Memref sig .tc .vmem S2x4096x1024 .i8) (harg10 : arg10.IsWhole) (arg11 : Memref sig .tc .vmem S2x16x4096 .bf16) (harg11 : arg11.IsWhole) (arg12 : Memref sig .tc .vmem S2x2048x1024 .i8) (harg12 : arg12.IsWhole) (arg13 : Memref sig .tc .vmem S2x16x2048 .bf16) (harg13 : arg13.IsWhole) (arg14 : Memref sig .tc .vmem S24x2048 .bf16) (harg14 : arg14.IsWhole) (arg15 : Memref sig .tc .vmem S24x2048 .f32) (harg15 : arg15.IsWhole) (arg16 : DmaSems sig S2x3)
  (v0 : Elt F .i32) (v3 : Elt F .i32) (v6 : Elt F .i32) (v9 : Elt F .i32) (v12 : Elt F .i32) (v15 : Elt F .i32) (v18 : Elt F .i32) (v21 : Elt F .i32) (v24 : Elt F .i32) (v27 : Elt F .i32) (v30 : Elt F .i32) (v33 : Elt F .i32) (v36 : Elt F .i32) (v39 : Elt F .i32) (v42 : Elt F .i32) (v45 : Elt F .i32) (v48 : Elt F .i32) (v51 : Elt F .i32) (v54 : Elt F .i32) (v57 : Elt F .i32) (v60 : Elt F .i32) (v63 : Elt F .i32) (v66 : Elt F .i32) (v69 : Elt F .i32) (v72 : Elt F .i32) (v75 : Elt F .i32) (v78 : Elt F .i32) (v81 : Elt F .i32) (v84 : Elt F .i32) (v87 : Elt F .i32) (v90 : Elt F .i32) (v93 : Elt F .i32) (v96 : Elt F .i32) (v99 : Elt F .i32) (v102 : Elt F .i32) (v105 : Elt F .i32) (v108 : Elt F .i32) (v111 : Elt F .i32) (v114 : Elt F .i32) (v117 : Elt F .i32) (v120 : Elt F .i32) (v123 : Elt F .i32) (v126 : Elt F .i32) (v129 : Elt F .i32) (v132 : Elt F .i32) (v135 : Elt F .i32) (v138 : Elt F .i32) (v141 : Elt F .i32)

theorem part354_eq (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (a b : BitVec 32) : ∃ w w', ∀ {α : Type} (K : _ → PP F α), (k0_part354 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 a b).bind K =
    (stQ arg9 (k0_off1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_off1_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1) 1#32 <|
    stQ arg9 (k0_off2 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_off2_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1) 2#32 <|
    stQ arg9 (k0_off3 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_off3_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1) 3#32 <|
    stQ arg9 (k0_off4 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_off4_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1) 4#32 <|
    stQ arg9 (k0_off5 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_off5_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1) 5#32 <|
    stQ arg9 (k0_off6 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_off6_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1) 6#32 <|
    stQ arg9 (k0_off7 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_off7_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1) 7#32 <| K ⟨w, w'⟩) := by
  refine ⟨(Scalar.addi (Scalar.addi (Scalar.addi (Scalar.addi (Scalar.addi (Scalar.addi b (Scalar.andi (Scalar.shrsi a 1#32) 1#32)) (Scalar.andi (Scalar.shrsi a 2#32) 1#32)) (Scalar.andi (Scalar.shrsi a 3#32) 1#32)) (Scalar.andi (Scalar.shrsi a 4#32) 1#32)) (Scalar.andi (Scalar.shrsi a 5#32) 1#32)) (Scalar.andi (Scalar.shrsi a 6#32) 1#32)), Scalar.shrsi a 7#32, fun K => ?_⟩
  iterate 14 refine op_ext rfl fun v => ?_
  exact rfl

theorem part355_eq (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (a b c : BitVec 32) : ∃ w, ∀ {α : Type} (K : _ → PP F α), (k0_part355 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 a b c).bind K =
    (stQ arg9 (k0_off8 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_off8_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1) 8#32 <|
    stQ arg9 (k0_off9 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_off9_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1) 9#32 <|
    stQ arg9 (k0_off10 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_off10_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1) 10#32 <|
    stQ arg9 (k0_off11 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_off11_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1) 11#32 <|
    stQ arg9 (k0_off12 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_off12_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1) 12#32 <|
    stQ arg9 (k0_off13 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_off13_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1) 13#32 <|
    (smemLoad arg9 (Rect.unit (s := S17) (k0_off14 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) S1.size (k0_off14_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1)) numel1_S1 rfl).bind fun _ => K ⟨w, 14#32⟩) := by
  refine ⟨(Scalar.addi (Scalar.addi (Scalar.addi (Scalar.addi (Scalar.addi (Scalar.addi (Scalar.addi b (Scalar.andi c 1#32)) (Scalar.andi (Scalar.shrsi a 8#32) 1#32)) (Scalar.andi (Scalar.shrsi a 9#32) 1#32)) (Scalar.andi (Scalar.shrsi a 10#32) 1#32)) (Scalar.andi (Scalar.shrsi a 11#32) 1#32)) (Scalar.andi (Scalar.shrsi a 12#32) 1#32)) (Scalar.andi (Scalar.shrsi a 13#32) 1#32)), fun K => ?_⟩
  iterate 13 refine op_ext rfl fun v => ?_
  exact rfl

theorem part356_eq (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (a b : BitVec 32) : ∃ w, ∀ {α : Type} (K : _ → PP F α), (k0_part356 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 a b 14#32).bind K =
    (.op (.store arg9 (Rect.unit (s := S17) (k0_off14 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) S1.size (k0_off14_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1)) (fun _ => 14#32) Finset.univ (View.stores_smem_one rfl numel1_S1) (.inl rfl)) fun _ =>
    stQ arg9 (k0_off15 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_off15_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1) 15#32 <|
    start0 arg4 arg5 arg9 arg10 arg11 arg16 harg4 harg5 harg10 harg11 0 (by decide) 0 (by decide) chk2C <| K w) := by
  refine ⟨Scalar.addi (Scalar.addi b (Scalar.andi (Scalar.shrsi a 14#32) 1#32)) (Scalar.andi (Scalar.shrsi a 15#32) 1#32), fun K => ?_⟩
  iterate 8 refine op_ext rfl fun v => ?_
  exact rfl

theorem part357_eq {α : Type} (K : _ → PP F α) : (k0_part357 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16).bind K =
    (start1 arg4 arg9 arg10 arg16 harg4 harg10 0 (by decide) 0 (by decide) chk3C <|
     ldA arg9 0 (by decide) fun v => .op (.assume (k0_chk4 v) (chk4C.dec v)) fun h =>
     .op (.enqueueDma (srcS2 arg7 (BitVec.toNat v) (chk4C.lt v h.down)) (.here (slotS2 arg13 0 (by decide))) (.dma (semV arg16 0 2 (by decide) (by decide)).sem)
       (wxSrcS2 arg7 harg7 _ _) (wxSlotS2 arg13 harg13 0 (by decide)) ⟨Or.inl rfl, trivial⟩) fun _ => K ⟨v, h.down⟩) := by
  iterate 7 refine op_ext rfl fun v => ?_
  exact rfl

/-- The program after the mask is known. -/
def restP (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (v143 v147 : BitVec 32) : PP F PUnit := do
  let ⟨v177, v180⟩ : Σ' (v177 : BitVec 32), BitVec 32 ← k0_part354 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 v143 v147
  let ⟨v212, c14_i32⟩ : Σ' (v212 : BitVec 32), BitVec 32 ← k0_part355 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 v143 v177 v180
  let v222 : BitVec 32 ← k0_part356 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 v143 v212 c14_i32
  let ⟨v255, k0_hw4⟩ : Σ' (v255 : Elt F .i32), k0_chk4 v255 ← k0_part357 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16
  let v266 : Memref sig .tc .hbm S1x2048x1024 .i8 := arg6.slice (Rect.unit (s := S16x2048x1024) (k0_off22 v255) S1x2048x1024.size (k0_off22_inb v255 k0_hw4)) (fun _ => rfl)
  let v267 : Memref sig .tc .hbm S2048x1024 .i8 := v266.squeeze S2048x1024 squeezes_S1x2048x1024_S2048x1024
  let v262 : DmaSems sig S1x1 := arg16.slice (Rect.unit (s := S2x3) ![0, 2] S1x1.size inb_S2x3_S1x1_0_2)
  let v263 : DmaSems sig S_ := v262.squeeze S_ squeezes_S1x1_S_
  let v264 : Memref sig .tc .vmem S1x2048x1024 .i8 := arg12.slice (Rect.unit (s := S2x2048x1024) ![0, 0, 0] S1x2048x1024.size inb_S2x2048x1024_S1x2048x1024_0_0_0) (fun _ => rfl)
  let v265 : Memref sig .tc .vmem S2048x1024 .i8 := v264.squeeze S2048x1024 squeezes_S1x2048x1024_S2048x1024
  Prog.lift (.enqueueDma v267 (.here v265) (.dma v263.sem) ((harg6.wordExact_slice rfl _ (k0_off22_wordsi8 v255 k0_hw4)).reshape _ _) ((harg12.wordExact_slice rfl _ wordsi8_S2x2048x1024_S1x2048x1024_0_0_0).reshape _ _) ⟨Or.inl rfl, trivial⟩)
  let v269 : Vec F S24x2048 .f32 ← Prog.lift (.load arg15 (Rect.unit (s := S24x2048) ![0, 0] S24x2048.size inb_S24x2048_S24x2048_0_0).toLoadRect (View.loadsAt_vmem h_S24x2048))
  Prog.lift (.store arg15 (Rect.unit (s := S24x2048) ![0, 0] S24x2048.size inb_S24x2048_S24x2048_0_0) (k0_pay1 (F := F)) Finset.univ (View.stores_vmem_bits_univ h_S24x2048 rfl) (.inl rfl))
  Scf.Loop.for (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t1_ok v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1) ⟨⟩ (k0_t1_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 v222)
  Scf.Loop.for (k0_t2_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_t2_ok v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1) ⟨⟩ (k0_t2_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 v222 (Scalar.addi 0#32 (Scalar.muli (Scalar.divsi (Scalar.subi v222 0#32) 1#32) 1#32)))
  let v277 : Vec F S24x2048 .f32 ← Prog.lift (.load arg15 (Rect.unit (s := S24x2048) ![0, 0] S24x2048.size inb_S24x2048_S24x2048_0_0).toLoadRect (View.loadsAt_vmem h_S24x2048))
  let v279 : Vec F S24x2048 .bf16 ← Prog.lift (.load arg8 (Rect.unit (s := S24x2048) ![0, 0] S24x2048.size inb_S24x2048_S24x2048_0_0).toLoadRect (View.loadsAt_vmem h_S24x2048))
  Prog.lift (.store arg8 (Rect.unit (s := S24x2048) ![0, 0] S24x2048.size inb_S24x2048_S24x2048_0_0) (k0_pay4 v277) Finset.univ (View.stores_vmem h_S24x2048 (harg8.storeExact_slice rfl _ packedbf16_S24x2048_S24x2048_0_0) (fun _ => rfl)) (.inl rfl))
  pure ⟨⟩

theorem restP_eq (k0_hw1 : k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (a b : BitVec 32) : restP (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 a b =
    (stQ arg9 (k0_off1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_off1_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1) 1#32 <|
    stQ arg9 (k0_off2 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_off2_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1) 2#32 <|
    stQ arg9 (k0_off3 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_off3_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1) 3#32 <|
    stQ arg9 (k0_off4 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_off4_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1) 4#32 <|
    stQ arg9 (k0_off5 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_off5_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1) 5#32 <|
    stQ arg9 (k0_off6 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_off6_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1) 6#32 <|
    stQ arg9 (k0_off7 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_off7_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1) 7#32 <|
    stQ arg9 (k0_off8 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_off8_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1) 8#32 <|
    stQ arg9 (k0_off9 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_off9_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1) 9#32 <|
    stQ arg9 (k0_off10 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_off10_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1) 10#32 <|
    stQ arg9 (k0_off11 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_off11_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1) 11#32 <|
    stQ arg9 (k0_off12 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_off12_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1) 12#32 <|
    stQ arg9 (k0_off13 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_off13_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1) 13#32 <|
    stQ arg9 (k0_off14 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_off14_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1) 14#32 <|
    stQ arg9 (k0_off15 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_off15_inb v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1) 15#32 <|
  startP arg4 arg5 arg6 arg7 arg9 arg10 arg11 arg12 arg13 arg16 harg4 harg5 harg6 harg7 harg10 harg11 harg12 harg13
    0 (by decide) 0 (by decide) chk2C chk3C chk4C <|
  .op (ldYA arg15) fun _ => .op (stYA arg15 (k0_pay1 (F := F))) fun _ =>
  (Scf.Loop.for (k0_t1_loop v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (loop_ok v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) ()
    fun k _ => trip arg1 arg2 arg3 arg4 harg4 arg5 harg5 arg6 harg6 arg7 harg7 arg9 arg10 harg10 arg11 harg11 arg12 harg12 arg13 harg13 arg14 harg14 arg15 arg16 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k (tIx_in v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k) (tSlot_in v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k) (fun _ => nIx_in v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k) (nSlot_in v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k)).bind fun _ =>
  .op (ldYA arg15) fun v => .op (ldO arg8) fun _ => .op (stO arg8 harg8 (k0_pay4 v)) fun _ => .ret ()) := by
  unfold restP
  obtain ⟨w1, w2, h⟩ := part354_eq (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 a b
  refine (h _).trans ?_
  iterate 7 refine congrArg (stQ arg9 _ _ _) ?_
  obtain ⟨w3, h⟩ := part355_eq (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 a w1 w2
  refine (h _).trans ?_
  iterate 6 refine congrArg (stQ arg9 _ _ _) ?_
  refine ld_ext fun v => ?_
  obtain ⟨w5, h⟩ := part356_eq (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 a w3
  refine (h _).trans ?_
  refine op_ext rfl fun _ => ?_
  refine congrArg (stQ arg9 _ _ _) ?_
  refine Eq.trans ?_ (startP_eq ..).symm
  refine congrArg (start0 _ _ _ _ _ _ _ _ _ _ _ _ _ _ _) ?_
  refine (part357_eq (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 _).trans ?_
  refine congrArg (start1 _ _ _ _ _ _ _ _ _ _ _) ?_
  refine op_ext rfl fun v => ?_
  iterate 5 refine op_ext rfl fun v => ?_
  refine rbind ?_
  refine bind_ext ?_ fun _ => ?_
  · refine congrArg _ ?_
    funext k u
    exact body_eq (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 k0_hw1 _ k _ _ _ _
  · refine (congrArg (fun p => Prog.bind p _) (Scf.for_rem_eq _ _ _ _ _)).trans ?_
    iterate 3 refine op_ext rfl fun v => ?_
    exact rfl

end

section
variable (arg0 : Memref sig .tc .smem S24x2 .i32) (harg0 : arg0.IsWhole) (arg1 : Memref sig .tc .vmem S24x2048 .bf16) (harg1 : arg1.IsWhole) (arg2 : Memref sig .tc .vmem S24x2 .i32) (harg2 : arg2.IsWhole) (arg3 : Memref sig .tc .vmem S24x2 .f32) (harg3 : arg3.IsWhole) (arg4 : Memref sig .tc .hbm S16x4096x1024 .i8) (harg4 : arg4.IsWhole) (arg5 : Memref sig .tc .hbm S16x16x4096 .bf16) (harg5 : arg5.IsWhole) (arg6 : Memref sig .tc .hbm S16x2048x1024 .i8) (harg6 : arg6.IsWhole) (arg7 : Memref sig .tc .hbm S16x16x2048 .bf16) (harg7 : arg7.IsWhole) (arg8 : Memref sig .tc .vmem S24x2048 .bf16) (harg8 : arg8.IsWhole) (arg9 : Memref sig .tc .smem S17 .i32) (harg9 : arg9.IsWhole) (arg10 : Memref sig .tc .vmem S2x4096x1024 .i8) (harg10 : arg10.IsWhole) (arg11 : Memref sig .tc .vmem S2x16x4096 .bf16) (harg11 : arg11.IsWhole) (arg12 : Memref sig .tc .vmem S2x2048x1024 .i8) (harg12 : arg12.IsWhole) (arg13 : Memref sig .tc .vmem S2x16x2048 .bf16) (harg13 : arg13.IsWhole) (arg14 : Memref sig .tc .vmem S24x2048 .bf16) (harg14 : arg14.IsWhole) (arg15 : Memref sig .tc .vmem S24x2048 .f32) (harg15 : arg15.IsWhole) (arg16 : DmaSems sig S2x3)

/-- The program after the ids, as the printed one continues. -/
def restQ (v0 : Elt F .i32) (v3 : Elt F .i32) (v6 : Elt F .i32) (v9 : Elt F .i32) (v12 : Elt F .i32) (v15 : Elt F .i32) (v18 : Elt F .i32) (v21 : Elt F .i32) (v24 : Elt F .i32) (v27 : Elt F .i32) (v30 : Elt F .i32) (v33 : Elt F .i32) (v36 : Elt F .i32) (v39 : Elt F .i32) (v42 : Elt F .i32) (v45 : Elt F .i32) (v48 : Elt F .i32) (v51 : Elt F .i32) (v54 : Elt F .i32) (v57 : Elt F .i32) (v60 : Elt F .i32) (v63 : Elt F .i32) (v66 : Elt F .i32) (v69 : Elt F .i32) (v72 : Elt F .i32) (v75 : Elt F .i32) (v78 : Elt F .i32) (v81 : Elt F .i32) (v84 : Elt F .i32) (v87 : Elt F .i32) (v90 : Elt F .i32) (v93 : Elt F .i32) (v96 : Elt F .i32) (v99 : Elt F .i32) (v102 : Elt F .i32) (v105 : Elt F .i32) (v108 : Elt F .i32) (v111 : Elt F .i32) (v114 : Elt F .i32) (v117 : Elt F .i32) (v120 : Elt F .i32) (v123 : Elt F .i32) (v126 : Elt F .i32) (v129 : Elt F .i32) (v132 : Elt F .i32) (v135 : Elt F .i32) (v138 : Elt F .i32) (v141 : Elt F .i32) (a b : BitVec 32) : PP F PUnit :=
  .op (.assume (k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_chk1.dec v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141)) fun h =>
  stQ arg9 ![0] inb_S17_S1_0 0#32 <|
  restP arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 h.down a b

theorem restQ_eq (v0 : Elt F .i32) (v3 : Elt F .i32) (v6 : Elt F .i32) (v9 : Elt F .i32) (v12 : Elt F .i32) (v15 : Elt F .i32) (v18 : Elt F .i32) (v21 : Elt F .i32) (v24 : Elt F .i32) (v27 : Elt F .i32) (v30 : Elt F .i32) (v33 : Elt F .i32) (v36 : Elt F .i32) (v39 : Elt F .i32) (v42 : Elt F .i32) (v45 : Elt F .i32) (v48 : Elt F .i32) (v51 : Elt F .i32) (v54 : Elt F .i32) (v57 : Elt F .i32) (v60 : Elt F .i32) (v63 : Elt F .i32) (v66 : Elt F .i32) (v69 : Elt F .i32) (v72 : Elt F .i32) (v75 : Elt F .i32) (v78 : Elt F .i32) (v81 : Elt F .i32) (v84 : Elt F .i32) (v87 : Elt F .i32) (v90 : Elt F .i32) (v93 : Elt F .i32) (v96 : Elt F .i32) (v99 : Elt F .i32) (v102 : Elt F .i32) (v105 : Elt F .i32) (v108 : Elt F .i32) (v111 : Elt F .i32) (v114 : Elt F .i32) (v117 : Elt F .i32) (v120 : Elt F .i32) (v123 : Elt F .i32) (v126 : Elt F .i32) (v129 : Elt F .i32) (v132 : Elt F .i32) (v135 : Elt F .i32) (v138 : Elt F .i32) (v141 : Elt F .i32) (a b : BitVec 32) : restQ (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 a b = mainRest (F := F) arg1 arg2 arg3 arg4 harg4 arg5 harg5 arg6 harg6 arg7 harg7 arg8 harg8 arg9 arg10 harg10 arg11 harg11 arg12 harg12 arg13 harg13 arg14 harg14 arg15 arg16 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 := by
  refine op_ext rfl fun h => ?_
  refine Eq.trans ?_ (stAll_16 ..).symm
  refine stQ_eq arg9 _ _ _ _ _ rfl ?_
  refine (restP_eq arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 _ _ _).trans ?_
  refine stQ_eq arg9 _ _ _ _ _ (off1_eq v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) ?_
  refine stQ_eq arg9 _ _ _ _ _ (off2_eq v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) ?_
  refine stQ_eq arg9 _ _ _ _ _ (off3_eq v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) ?_
  refine stQ_eq arg9 _ _ _ _ _ (off4_eq v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) ?_
  refine stQ_eq arg9 _ _ _ _ _ (off5_eq v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) ?_
  refine stQ_eq arg9 _ _ _ _ _ (off6_eq v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) ?_
  refine stQ_eq arg9 _ _ _ _ _ (off7_eq v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) ?_
  refine stQ_eq arg9 _ _ _ _ _ (off8_eq v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) ?_
  refine stQ_eq arg9 _ _ _ _ _ (off9_eq v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) ?_
  refine stQ_eq arg9 _ _ _ _ _ (off10_eq v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) ?_
  refine stQ_eq arg9 _ _ _ _ _ (off11_eq v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) ?_
  refine stQ_eq arg9 _ _ _ _ _ (off12_eq v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) ?_
  refine stQ_eq arg9 _ _ _ _ _ (off13_eq v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) ?_
  refine stQ_eq arg9 _ _ _ _ _ (off14_eq v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) ?_
  refine stQ_eq arg9 _ _ _ _ _ (off15_eq v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) ?_
  rfl

theorem part349_eq : ∃ w : Elt F .i32 → Elt F .i32 → Elt F .i32 → Elt F .i32 → Elt F .i32 → Elt F .i32 → Elt F .i32 → Elt F .i32 → Elt F .i32 →  BitVec 32, ∀ {α : Type} (K : _ → PP F α), (k0_part349 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16).bind K =
  (
    ldId arg0 0 0 (by decide) (by decide) fun v0 =>
    ldId arg0 0 1 (by decide) (by decide) fun v3 =>
    ldId arg0 1 0 (by decide) (by decide) fun v6 =>
    ldId arg0 1 1 (by decide) (by decide) fun v9 =>
    ldId arg0 2 0 (by decide) (by decide) fun v12 =>
    ldId arg0 2 1 (by decide) (by decide) fun v15 =>
    ldId arg0 3 0 (by decide) (by decide) fun v18 =>
    ldId arg0 3 1 (by decide) (by decide) fun v21 =>
    ldId arg0 4 0 (by decide) (by decide) fun v24 =>
    ldId arg0 4 1 (by decide) (by decide) fun v27 =>
    K ⟨v0, v3, v6, v9, v12, v15, v18, v21, v24, w v0 v3 v6 v9 v12 v15 v18 v21 v24, v27, Scalar.shli 1#32 v27⟩) := by
  refine ⟨fun v0 v3 v6 v9 v12 v15 v18 v21 v24 => (Scalar.ori (Scalar.ori (Scalar.ori (Scalar.ori (Scalar.ori (Scalar.ori (Scalar.ori (Scalar.ori (Scalar.ori 0#32 (Scalar.shli 1#32 v0)) (Scalar.shli 1#32 v3)) (Scalar.shli 1#32 v6)) (Scalar.shli 1#32 v9)) (Scalar.shli 1#32 v12)) (Scalar.shli 1#32 v15)) (Scalar.shli 1#32 v18)) (Scalar.shli 1#32 v21)) (Scalar.shli 1#32 v24)), fun K => ?_⟩
  iterate 10 refine op_ext rfl fun v => ?_
  exact rfl

theorem part350_eq (a b : BitVec 32) : ∃ w : Elt F .i32 → Elt F .i32 → Elt F .i32 → Elt F .i32 → Elt F .i32 → Elt F .i32 → Elt F .i32 → Elt F .i32 → Elt F .i32 →  BitVec 32, ∀ {α : Type} (K : _ → PP F α), (k0_part350 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 a b).bind K =
  (
    ldId arg0 5 0 (by decide) (by decide) fun v30 =>
    ldId arg0 5 1 (by decide) (by decide) fun v33 =>
    ldId arg0 6 0 (by decide) (by decide) fun v36 =>
    ldId arg0 6 1 (by decide) (by decide) fun v39 =>
    ldId arg0 7 0 (by decide) (by decide) fun v42 =>
    ldId arg0 7 1 (by decide) (by decide) fun v45 =>
    ldId arg0 8 0 (by decide) (by decide) fun v48 =>
    ldId arg0 8 1 (by decide) (by decide) fun v51 =>
    ldId arg0 9 0 (by decide) (by decide) fun v54 =>
    ldId arg0 9 1 (by decide) (by decide) fun v57 =>
    K ⟨v30, v33, v36, v39, v42, v45, v48, v51, v54, w v30 v33 v36 v39 v42 v45 v48 v51 v54, v57, Scalar.shli 1#32 v57⟩) := by
  refine ⟨fun v30 v33 v36 v39 v42 v45 v48 v51 v54 => (Scalar.ori (Scalar.ori (Scalar.ori (Scalar.ori (Scalar.ori (Scalar.ori (Scalar.ori (Scalar.ori (Scalar.ori (Scalar.ori a b) (Scalar.shli 1#32 v30)) (Scalar.shli 1#32 v33)) (Scalar.shli 1#32 v36)) (Scalar.shli 1#32 v39)) (Scalar.shli 1#32 v42)) (Scalar.shli 1#32 v45)) (Scalar.shli 1#32 v48)) (Scalar.shli 1#32 v51)) (Scalar.shli 1#32 v54)), fun K => ?_⟩
  iterate 10 refine op_ext rfl fun v => ?_
  exact rfl

theorem part351_eq (a b : BitVec 32) : ∃ w : Elt F .i32 → Elt F .i32 → Elt F .i32 → Elt F .i32 → Elt F .i32 → Elt F .i32 → Elt F .i32 → Elt F .i32 → Elt F .i32 →  BitVec 32, ∀ {α : Type} (K : _ → PP F α), (k0_part351 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 a b).bind K =
  (
    ldId arg0 10 0 (by decide) (by decide) fun v60 =>
    ldId arg0 10 1 (by decide) (by decide) fun v63 =>
    ldId arg0 11 0 (by decide) (by decide) fun v66 =>
    ldId arg0 11 1 (by decide) (by decide) fun v69 =>
    ldId arg0 12 0 (by decide) (by decide) fun v72 =>
    ldId arg0 12 1 (by decide) (by decide) fun v75 =>
    ldId arg0 13 0 (by decide) (by decide) fun v78 =>
    ldId arg0 13 1 (by decide) (by decide) fun v81 =>
    ldId arg0 14 0 (by decide) (by decide) fun v84 =>
    ldId arg0 14 1 (by decide) (by decide) fun v87 =>
    K ⟨v60, v63, v66, v69, v72, v75, v78, v81, v84, w v60 v63 v66 v69 v72 v75 v78 v81 v84, v87, Scalar.shli 1#32 v87⟩) := by
  refine ⟨fun v60 v63 v66 v69 v72 v75 v78 v81 v84 => (Scalar.ori (Scalar.ori (Scalar.ori (Scalar.ori (Scalar.ori (Scalar.ori (Scalar.ori (Scalar.ori (Scalar.ori (Scalar.ori a b) (Scalar.shli 1#32 v60)) (Scalar.shli 1#32 v63)) (Scalar.shli 1#32 v66)) (Scalar.shli 1#32 v69)) (Scalar.shli 1#32 v72)) (Scalar.shli 1#32 v75)) (Scalar.shli 1#32 v78)) (Scalar.shli 1#32 v81)) (Scalar.shli 1#32 v84)), fun K => ?_⟩
  iterate 10 refine op_ext rfl fun v => ?_
  exact rfl

theorem part352_eq (a b : BitVec 32) : ∃ w : Elt F .i32 → Elt F .i32 → Elt F .i32 → Elt F .i32 → Elt F .i32 → Elt F .i32 → Elt F .i32 → Elt F .i32 → Elt F .i32 →  BitVec 32, ∀ {α : Type} (K : _ → PP F α), (k0_part352 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 a b).bind K =
  (
    ldId arg0 15 0 (by decide) (by decide) fun v90 =>
    ldId arg0 15 1 (by decide) (by decide) fun v93 =>
    ldId arg0 16 0 (by decide) (by decide) fun v96 =>
    ldId arg0 16 1 (by decide) (by decide) fun v99 =>
    ldId arg0 17 0 (by decide) (by decide) fun v102 =>
    ldId arg0 17 1 (by decide) (by decide) fun v105 =>
    ldId arg0 18 0 (by decide) (by decide) fun v108 =>
    ldId arg0 18 1 (by decide) (by decide) fun v111 =>
    ldId arg0 19 0 (by decide) (by decide) fun v114 =>
    ldId arg0 19 1 (by decide) (by decide) fun v117 =>
    K ⟨v90, v93, v96, v99, v102, v105, v108, v111, v114, w v90 v93 v96 v99 v102 v105 v108 v111 v114, v117, Scalar.shli 1#32 v117⟩) := by
  refine ⟨fun v90 v93 v96 v99 v102 v105 v108 v111 v114 => (Scalar.ori (Scalar.ori (Scalar.ori (Scalar.ori (Scalar.ori (Scalar.ori (Scalar.ori (Scalar.ori (Scalar.ori (Scalar.ori a b) (Scalar.shli 1#32 v90)) (Scalar.shli 1#32 v93)) (Scalar.shli 1#32 v96)) (Scalar.shli 1#32 v99)) (Scalar.shli 1#32 v102)) (Scalar.shli 1#32 v105)) (Scalar.shli 1#32 v108)) (Scalar.shli 1#32 v111)) (Scalar.shli 1#32 v114)), fun K => ?_⟩
  iterate 10 refine op_ext rfl fun v => ?_
  exact rfl

theorem part353_eq (v0 v3 v6 v9 v12 v15 v18 v21 v24 v27 v30 v33 v36 v39 v42 v45 v48 v51 v54 v57 v60 v63 v66 v69 v72 v75 v78 v81 v84 v87 v90 v93 v96 v99 v102 v105 v108 v111 v114 v117 : Elt F .i32) (a b : BitVec 32) : ∃ w : Elt F .i32 → Elt F .i32 → Elt F .i32 → Elt F .i32 → Elt F .i32 → Elt F .i32 → Elt F .i32 → Elt F .i32 →  BitVec 32, ∀ {α : Type} (K : _ → PP F α), (k0_part353 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 v0 v3 v6 v9 v12 v15 v18 v21 v24 v27 v30 v33 v36 v39 v42 v45 v48 v51 v54 v57 v60 v63 v66 v69 v72 v75 v78 v81 v84 v87 v90 v93 v96 v99 v102 v105 v108 v111 v114 a v117 b).bind K =
  (
    ldId arg0 20 0 (by decide) (by decide) fun v120 =>
    ldId arg0 20 1 (by decide) (by decide) fun v123 =>
    ldId arg0 21 0 (by decide) (by decide) fun v126 =>
    ldId arg0 21 1 (by decide) (by decide) fun v129 =>
    ldId arg0 22 0 (by decide) (by decide) fun v132 =>
    ldId arg0 22 1 (by decide) (by decide) fun v135 =>
    ldId arg0 23 0 (by decide) (by decide) fun v138 =>
    ldId arg0 23 1 (by decide) (by decide) fun v141 =>
    .op (.assume (k0_chk1 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141) (k0_chk1.dec v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141)) fun h =>
    stQ arg9 ![0] inb_S17_S1_0 0#32 <|
    K ⟨v120, v123, v126, v129, v132, v135, v138, v141, h.down, w v120 v123 v126 v129 v132 v135 v138 v141, Scalar.addi 0#32 (Scalar.andi (Scalar.shrsi (w v120 v123 v126 v129 v132 v135 v138 v141) 0#32) 1#32)⟩) := by
  refine ⟨fun v120 v123 v126 v129 v132 v135 v138 v141 => (Scalar.ori (Scalar.ori (Scalar.ori (Scalar.ori (Scalar.ori (Scalar.ori (Scalar.ori (Scalar.ori (Scalar.ori a b) (Scalar.shli 1#32 v120)) (Scalar.shli 1#32 v123)) (Scalar.shli 1#32 v126)) (Scalar.shli 1#32 v129)) (Scalar.shli 1#32 v132)) (Scalar.shli 1#32 v135)) (Scalar.shli 1#32 v138)) (Scalar.shli 1#32 v141)), fun K => ?_⟩
  iterate 11 refine op_ext rfl fun v => ?_
  exact rfl

theorem ldId_congr {α : Type} {arg0 : Memref sig .tc .smem S24x2 .i32} {t k : ℕ} {ht : t + 1 ≤ 24} {hk : k + 1 ≤ 2} {K K' : Elt F .i32 → PP F α} (h : ∀ v, K v = K' v) :
    ldId arg0 t k ht hk K = ldId arg0 t k ht hk K' := congrArg _ (funext h)

theorem main_eq : cc0_moe_q4 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 = mainP (F := F) arg0 arg1 arg2 arg3 arg4 harg4 arg5 harg5 arg6 harg6 arg7 harg7 arg8 harg8 arg9 arg10 harg10 arg11 harg11 arg12 harg12 arg13 harg13 arg14 harg14 arg15 arg16 := by
  obtain ⟨w0, h⟩ := part349_eq (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16
  refine (h _).trans ?_
  clear h
  refine ldId_congr fun v0 => ?_
  refine ldId_congr fun v3 => ?_
  refine ldId_congr fun v6 => ?_
  refine ldId_congr fun v9 => ?_
  refine ldId_congr fun v12 => ?_
  refine ldId_congr fun v15 => ?_
  refine ldId_congr fun v18 => ?_
  refine ldId_congr fun v21 => ?_
  refine ldId_congr fun v24 => ?_
  refine ldId_congr fun v27 => ?_
  obtain ⟨w1, h⟩ := part350_eq (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 (w0 v0 v3 v6 v9 v12 v15 v18 v21 v24) (Scalar.shli 1#32 v27)
  refine (h _).trans ?_
  clear h
  refine ldId_congr fun v30 => ?_
  refine ldId_congr fun v33 => ?_
  refine ldId_congr fun v36 => ?_
  refine ldId_congr fun v39 => ?_
  refine ldId_congr fun v42 => ?_
  refine ldId_congr fun v45 => ?_
  refine ldId_congr fun v48 => ?_
  refine ldId_congr fun v51 => ?_
  refine ldId_congr fun v54 => ?_
  refine ldId_congr fun v57 => ?_
  obtain ⟨w2, h⟩ := part351_eq (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 (w1 v30 v33 v36 v39 v42 v45 v48 v51 v54) (Scalar.shli 1#32 v57)
  refine (h _).trans ?_
  clear h
  refine ldId_congr fun v60 => ?_
  refine ldId_congr fun v63 => ?_
  refine ldId_congr fun v66 => ?_
  refine ldId_congr fun v69 => ?_
  refine ldId_congr fun v72 => ?_
  refine ldId_congr fun v75 => ?_
  refine ldId_congr fun v78 => ?_
  refine ldId_congr fun v81 => ?_
  refine ldId_congr fun v84 => ?_
  refine ldId_congr fun v87 => ?_
  obtain ⟨w3, h⟩ := part352_eq (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 (w2 v60 v63 v66 v69 v72 v75 v78 v81 v84) (Scalar.shli 1#32 v87)
  refine (h _).trans ?_
  clear h
  refine ldId_congr fun v90 => ?_
  refine ldId_congr fun v93 => ?_
  refine ldId_congr fun v96 => ?_
  refine ldId_congr fun v99 => ?_
  refine ldId_congr fun v102 => ?_
  refine ldId_congr fun v105 => ?_
  refine ldId_congr fun v108 => ?_
  refine ldId_congr fun v111 => ?_
  refine ldId_congr fun v114 => ?_
  refine ldId_congr fun v117 => ?_
  obtain ⟨w4, h⟩ := part353_eq (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 v0 v3 v6 v9 v12 v15 v18 v21 v24 v27 v30 v33 v36 v39 v42 v45 v48 v51 v54 v57 v60 v63 v66 v69 v72 v75 v78 v81 v84 v87 v90 v93 v96 v99 v102 v105 v108 v111 v114 v117 (w3 v90 v93 v96 v99 v102 v105 v108 v111 v114) (Scalar.shli 1#32 v117)
  refine (h _).trans ?_
  clear h
  refine ldId_congr fun v120 => ?_
  refine ldId_congr fun v123 => ?_
  refine ldId_congr fun v126 => ?_
  refine ldId_congr fun v129 => ?_
  refine ldId_congr fun v132 => ?_
  refine ldId_congr fun v135 => ?_
  refine ldId_congr fun v138 => ?_
  refine ldId_congr fun v141 => ?_
  exact restQ_eq arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 v0 v3 v6 v9 v12 v15 v18 v21 v24 v27 v30 v33 v36 v39 v42 v45 v48 v51 v54 v57 v60 v63 v66 v69 v72 v75 v78 v81 v84 v87 v90 v93 v96 v99 v102 v105 v108 v111 v114 v117 v120 v123 v126 v129 v132 v135 v138 v141 (w4 v120 v123 v126 v129 v132 v135 v138 v141) _

end

end Cert.KernelIdeal.Gen
-- ==== Proof.Bridge.lean ====
/- The two printings of the kernel are one program. -/
module

public import proofs.«01_k».proof.Proof.Run
public import proofs.«01_k».proof.Proof.Ideal.Main

@[expose] public section

set_option maxRecDepth 65536
set_option maxHeartbeats 0

noncomputable section

namespace Cert.Proof

open Idealize.ShloMosaic Idealize.ShloMosaic.TcCoe Idealize.SL.Sem

variable {F : FTy → Type} [FloatOps F]

theorem mainP_eq : @Cert.KernelIdeal.Gen.mainP F _ = @Cert.Kernel.Gen.mainP F _ := rfl

theorem defs0_eq : Cert.KernelIdeal.defs₀ (F := F) = Cert.Kernel.defs₀ (F := F) := by
  unfold Cert.KernelIdeal.defs₀ Cert.Kernel.defs₀
  refine congrArg Defs.onTc (funext fun l => funext fun a => ?_)
  match l, a with
  | ⟨0, _⟩, (t, s) =>
    refine (Cert.KernelIdeal.Gen.main_eq _ _ _ _ _ _ _ _ _ _ _ _ _ _ _ _ _ _ _ _ _ _ _ _ _ _ _ _ _ _ _ _ _).trans ?_
    refine Eq.trans ?_ (Cert.Kernel.Gen.main_eq _ _ _ _ _ _ _ _ _ _ _ _ _ _ _ _ _ _ _ _ _ _ _ _ _ _ _ _ _ _ _ _ _).symm
    rw [mainP_eq]
  | ⟨_ + 1, h⟩, _ => exact absurd h (Nat.not_lt.2 (Nat.le_add_left _ _))

theorem defs_eq : Cert.KernelIdeal.defs (F := F) = Cert.Kernel.defs (F := F) :=
  congrArg (Idealize.ShloMosaic.Pipeline.defs Cert.Kernel.pcfgs) defs0_eq

theorem main_eq : Cert.KernelIdeal.main (F := F) = Cert.Kernel.main (F := F) := rfl

end Cert.Proof

end
-- ==== Proof.Ref.lean ====
/- The run of the reference: one straight line of array operations; what each buffer ends with. -/
module

public import Idealize.ShloMosaic.Lib.StableHlo.Run
public import proofs.«01_k».proof.Proof.Gen.ReferenceIdeal

@[expose] public section

noncomputable section

namespace Cert.Proof.Ref

open Cert.ReferenceIdeal Cert.ReferenceIdeal.Gen
open Idealize.ShloMosaic Idealize.ShloMosaic.TcCoe Idealize.ShloMosaic.StableHlo Idealize.SL.Sem

variable {F : FTy → Type} [FloatOps F]

set_option maxHeartbeats 4000000
set_option maxRecDepth 65536

/-- The operations of the reference, in order. -/
abbrev ops : List (HloOp τ sig (Elt F)) :=
  [ StableHlo.reshape main_arg5 main_v0 (rfl : (.i32 : EltTy) = .i32) shapeCasts_S24x1x2_S24x2,
    StableHlo.unary main_arg0 main_v1 (broadcastInDim S24x2x2048 ![0, 1, 2] bcast_S24x1x2048_S24x2x2048_0_1_2 : (⟨S24x1x2048, .bf16⟩ : BufTy).Contents (Elt F) → (⟨S24x2x2048, .bf16⟩ : BufTy).Contents (Elt F)),
    StableHlo.nullary main_c (constantI S_ 32 0#32),
    StableHlo.unary main_c main_v2 (broadcastInDim S24x2 ![] bcast_S_S24x2 : (⟨S_, .i32⟩ : BufTy).Contents (Elt F) → (⟨S24x2, .i32⟩ : BufTy).Contents (Elt F)),
    StableHlo.binary main_v0 main_v2 main_v3 (cmpi .slt : (⟨S24x2, .i32⟩ : BufTy).Contents (Elt F) → (⟨S24x2, .i32⟩ : BufTy).Contents (Elt F) → (⟨S24x2, .i1⟩ : BufTy).Contents (Elt F)),
    StableHlo.nullary main_c_0 (constantI S_ 32 16#32),
    StableHlo.unary main_c_0 main_v4 (broadcastInDim S24x2 ![] bcast_S_S24x2 : (⟨S_, .i32⟩ : BufTy).Contents (Elt F) → (⟨S24x2, .i32⟩ : BufTy).Contents (Elt F)),
    StableHlo.binary main_v0 main_v4 main_v5 (addi : (⟨S24x2, .i32⟩ : BufTy).Contents (Elt F) → (⟨S24x2, .i32⟩ : BufTy).Contents (Elt F) → (⟨S24x2, .i32⟩ : BufTy).Contents (Elt F)),
    StableHlo.ternary main_v3 main_v5 main_v0 main_v6 (select : (⟨S24x2, .i1⟩ : BufTy).Contents (Elt F) → (⟨S24x2, .i32⟩ : BufTy).Contents (Elt F) → (⟨S24x2, .i32⟩ : BufTy).Contents (Elt F) → (⟨S24x2, .i32⟩ : BufTy).Contents (Elt F)),
    StableHlo.unary main_v6 main_v7 (broadcastInDim S24x2x1 ![0, 1] bcast_S24x2_S24x2x1_0_1 : (⟨S24x2, .i32⟩ : BufTy).Contents (Elt F) → (⟨S24x2x1, .i32⟩ : BufTy).Contents (Elt F)),
    StableHlo.binary main_arg1 main_v7 main_v8 ((fun x i => Host.gather gather_S16x4096x1024_S24x2x1_S24x2x4096x1024_23_0_n_n_0_2_140961024 x i) : (⟨S16x4096x1024, .i8⟩ : BufTy).Contents (Elt F) → (⟨S24x2x1, .i32⟩ : BufTy).Contents (Elt F) → (⟨S24x2x4096x1024, .i8⟩ : BufTy).Contents (Elt F)),
    StableHlo.nullary main_c_1 (constantI S_ 32 0#32),
    StableHlo.unary main_c_1 main_v9 (broadcastInDim S24x2 ![] bcast_S_S24x2 : (⟨S_, .i32⟩ : BufTy).Contents (Elt F) → (⟨S24x2, .i32⟩ : BufTy).Contents (Elt F)),
    StableHlo.binary main_v0 main_v9 main_v10 (cmpi .slt : (⟨S24x2, .i32⟩ : BufTy).Contents (Elt F) → (⟨S24x2, .i32⟩ : BufTy).Contents (Elt F) → (⟨S24x2, .i1⟩ : BufTy).Contents (Elt F)),
    StableHlo.nullary main_c_2 (constantI S_ 32 16#32),
    StableHlo.unary main_c_2 main_v11 (broadcastInDim S24x2 ![] bcast_S_S24x2 : (⟨S_, .i32⟩ : BufTy).Contents (Elt F) → (⟨S24x2, .i32⟩ : BufTy).Contents (Elt F)),
    StableHlo.binary main_v0 main_v11 main_v12 (addi : (⟨S24x2, .i32⟩ : BufTy).Contents (Elt F) → (⟨S24x2, .i32⟩ : BufTy).Contents (Elt F) → (⟨S24x2, .i32⟩ : BufTy).Contents (Elt F)),
    StableHlo.ternary main_v10 main_v12 main_v0 main_v13 (select : (⟨S24x2, .i1⟩ : BufTy).Contents (Elt F) → (⟨S24x2, .i32⟩ : BufTy).Contents (Elt F) → (⟨S24x2, .i32⟩ : BufTy).Contents (Elt F) → (⟨S24x2, .i32⟩ : BufTy).Contents (Elt F)),
    StableHlo.unary main_v13 main_v14 (broadcastInDim S24x2x1 ![0, 1] bcast_S24x2_S24x2x1_0_1 : (⟨S24x2, .i32⟩ : BufTy).Contents (Elt F) → (⟨S24x2x1, .i32⟩ : BufTy).Contents (Elt F)),
    StableHlo.binary main_arg2 main_v14 main_v15 ((fun x i => Host.gather gather_S16x4096x16_S24x2x1_S24x2x4096x16_23_0_n_n_0_2_1409616 x i) : (⟨S16x4096x16, .bf16⟩ : BufTy).Contents (Elt F) → (⟨S24x2x1, .i32⟩ : BufTy).Contents (Elt F) → (⟨S24x2x4096x16, .bf16⟩ : BufTy).Contents (Elt F)),
    StableHlo.unary main_v8 main_v16 ((extui 32 · natLt_8_32) : (⟨S24x2x4096x1024, .i8⟩ : BufTy).Contents (Elt F) → (⟨S24x2x4096x1024, .i32⟩ : BufTy).Contents (Elt F)),
    StableHlo.nullary main_c_3 (constantI S_ 32 15#32),
    StableHlo.unary main_c_3 main_v17 (broadcastInDim S24x2x4096x1024 ![] bcast_S_S24x2x4096x1024 : (⟨S_, .i32⟩ : BufTy).Contents (Elt F) → (⟨S24x2x4096x1024, .i32⟩ : BufTy).Contents (Elt F)),
    StableHlo.binary main_v16 main_v17 main_v18 (andi : (⟨S24x2x4096x1024, .i32⟩ : BufTy).Contents (Elt F) → (⟨S24x2x4096x1024, .i32⟩ : BufTy).Contents (Elt F) → (⟨S24x2x4096x1024, .i32⟩ : BufTy).Contents (Elt F)),
    StableHlo.unary main_v18 main_v19 (sitofp .bf16 : (⟨S24x2x4096x1024, .i32⟩ : BufTy).Contents (Elt F) → (⟨S24x2x4096x1024, .bf16⟩ : BufTy).Contents (Elt F)),
    StableHlo.reshape main_v19 main_v20 (rfl : (.bf16 : EltTy) = .bf16) shapeCasts_S24x2x4096x1024_S24x2x4096x16x64,
    StableHlo.nullary main_cst (constant S_ .bf16 0x4100#16),
    StableHlo.unary main_cst main_v21 (broadcastInDim S24x2x4096x16x64 ![] bcast_S_S24x2x4096x16x64 : (⟨S_, .bf16⟩ : BufTy).Contents (Elt F) → (⟨S24x2x4096x16x64, .bf16⟩ : BufTy).Contents (Elt F)),
    StableHlo.binary main_v20 main_v21 main_v22 (subf : (⟨S24x2x4096x16x64, .bf16⟩ : BufTy).Contents (Elt F) → (⟨S24x2x4096x16x64, .bf16⟩ : BufTy).Contents (Elt F) → (⟨S24x2x4096x16x64, .bf16⟩ : BufTy).Contents (Elt F)),
    StableHlo.unary main_v15 main_v23 (broadcastInDim S24x2x4096x16x1 ![0, 1, 2, 3] bcast_S24x2x4096x16_S24x2x4096x16x1_0_1_2_3 : (⟨S24x2x4096x16, .bf16⟩ : BufTy).Contents (Elt F) → (⟨S24x2x4096x16x1, .bf16⟩ : BufTy).Contents (Elt F)),
    StableHlo.unary main_v23 main_v24 (broadcastInDim S24x2x4096x16x64 ![0, 1, 2, 3, 4] bcast_S24x2x4096x16x1_S24x2x4096x16x64_0_1_2_3_4 : (⟨S24x2x4096x16x1, .bf16⟩ : BufTy).Contents (Elt F) → (⟨S24x2x4096x16x64, .bf16⟩ : BufTy).Contents (Elt F)),
    StableHlo.binary main_v22 main_v24 main_v25 (mulf : (⟨S24x2x4096x16x64, .bf16⟩ : BufTy).Contents (Elt F) → (⟨S24x2x4096x16x64, .bf16⟩ : BufTy).Contents (Elt F) → (⟨S24x2x4096x16x64, .bf16⟩ : BufTy).Contents (Elt F)),
    StableHlo.reshape main_v25 main_v26 (rfl : (.bf16 : EltTy) = .bf16) shapeCasts_S24x2x4096x16x64_S24x2x4096x1024,
    StableHlo.nullary main_c_4 (constantI S_ 32 4#32),
    StableHlo.unary main_c_4 main_v27 (broadcastInDim S24x2x4096x1024 ![] bcast_S_S24x2x4096x1024 : (⟨S_, .i32⟩ : BufTy).Contents (Elt F) → (⟨S24x2x4096x1024, .i32⟩ : BufTy).Contents (Elt F)),
    StableHlo.binary main_v16 main_v27 main_v28 (Host.shrsi : (⟨S24x2x4096x1024, .i32⟩ : BufTy).Contents (Elt F) → (⟨S24x2x4096x1024, .i32⟩ : BufTy).Contents (Elt F) → (⟨S24x2x4096x1024, .i32⟩ : BufTy).Contents (Elt F)),
    StableHlo.unary main_v28 main_v29 (sitofp .bf16 : (⟨S24x2x4096x1024, .i32⟩ : BufTy).Contents (Elt F) → (⟨S24x2x4096x1024, .bf16⟩ : BufTy).Contents (Elt F)),
    StableHlo.reshape main_v29 main_v30 (rfl : (.bf16 : EltTy) = .bf16) shapeCasts_S24x2x4096x1024_S24x2x4096x16x64,
    StableHlo.nullary main_cst_5 (constant S_ .bf16 0x4100#16),
    StableHlo.unary main_cst_5 main_v31 (broadcastInDim S24x2x4096x16x64 ![] bcast_S_S24x2x4096x16x64 : (⟨S_, .bf16⟩ : BufTy).Contents (Elt F) → (⟨S24x2x4096x16x64, .bf16⟩ : BufTy).Contents (Elt F)),
    StableHlo.binary main_v30 main_v31 main_v32 (subf : (⟨S24x2x4096x16x64, .bf16⟩ : BufTy).Contents (Elt F) → (⟨S24x2x4096x16x64, .bf16⟩ : BufTy).Contents (Elt F) → (⟨S24x2x4096x16x64, .bf16⟩ : BufTy).Contents (Elt F)),
    StableHlo.unary main_v15 main_v33 (broadcastInDim S24x2x4096x16x1 ![0, 1, 2, 3] bcast_S24x2x4096x16_S24x2x4096x16x1_0_1_2_3 : (⟨S24x2x4096x16, .bf16⟩ : BufTy).Contents (Elt F) → (⟨S24x2x4096x16x1, .bf16⟩ : BufTy).Contents (Elt F)),
    StableHlo.unary main_v33 main_v34 (broadcastInDim S24x2x4096x16x64 ![0, 1, 2, 3, 4] bcast_S24x2x4096x16x1_S24x2x4096x16x64_0_1_2_3_4 : (⟨S24x2x4096x16x1, .bf16⟩ : BufTy).Contents (Elt F) → (⟨S24x2x4096x16x64, .bf16⟩ : BufTy).Contents (Elt F)),
    StableHlo.binary main_v32 main_v34 main_v35 (mulf : (⟨S24x2x4096x16x64, .bf16⟩ : BufTy).Contents (Elt F) → (⟨S24x2x4096x16x64, .bf16⟩ : BufTy).Contents (Elt F) → (⟨S24x2x4096x16x64, .bf16⟩ : BufTy).Contents (Elt F)),
    StableHlo.reshape main_v35 main_v36 (rfl : (.bf16 : EltTy) = .bf16) shapeCasts_S24x2x4096x16x64_S24x2x4096x1024,
    StableHlo.unary main_v1 main_v37 ((Host.slice S24x2x1024 ![0, 0, 0] ![1, 1, 2] · slicesBy_S24x2x2048_S24x2x1024_0s1_0s1_0s2) : (⟨S24x2x2048, .bf16⟩ : BufTy).Contents (Elt F) → (⟨S24x2x1024, .bf16⟩ : BufTy).Contents (Elt F)),
    StableHlo.binary main_v37 main_v26 main_v38 ((fun l r => Host.dotGeneral dot_S24x2x1024_S24x2x4096x1024_S24x2x4096_2_3_n_2_01_01 none l r) : (⟨S24x2x1024, .bf16⟩ : BufTy).Contents (Elt F) → (⟨S24x2x4096x1024, .bf16⟩ : BufTy).Contents (Elt F) → (⟨S24x2x4096, .f32⟩ : BufTy).Contents (Elt F)),
    StableHlo.unary main_v1 main_v39 ((Host.slice S24x2x1024 ![0, 0, 1] ![1, 1, 2] · slicesBy_S24x2x2048_S24x2x1024_0s1_0s1_1s2) : (⟨S24x2x2048, .bf16⟩ : BufTy).Contents (Elt F) → (⟨S24x2x1024, .bf16⟩ : BufTy).Contents (Elt F)),
    StableHlo.binary main_v39 main_v36 main_v40 ((fun l r => Host.dotGeneral dot_S24x2x1024_S24x2x4096x1024_S24x2x4096_2_3_n_2_01_01 none l r) : (⟨S24x2x1024, .bf16⟩ : BufTy).Contents (Elt F) → (⟨S24x2x4096x1024, .bf16⟩ : BufTy).Contents (Elt F) → (⟨S24x2x4096, .f32⟩ : BufTy).Contents (Elt F)),
    StableHlo.binary main_v38 main_v40 main_v41 (addf : (⟨S24x2x4096, .f32⟩ : BufTy).Contents (Elt F) → (⟨S24x2x4096, .f32⟩ : BufTy).Contents (Elt F) → (⟨S24x2x4096, .f32⟩ : BufTy).Contents (Elt F)),
    StableHlo.unary main_v41 main_v42 ((extractStridedSlice S24x2x2048 ![0, 0, 0] · slices_S24x2x4096_S24x2x2048_0_0_0) : (⟨S24x2x4096, .f32⟩ : BufTy).Contents (Elt F) → (⟨S24x2x2048, .f32⟩ : BufTy).Contents (Elt F)),
    StableHlo.unary main_v41 main_v43 ((extractStridedSlice S24x2x2048 ![0, 0, 2048] · slices_S24x2x4096_S24x2x2048_0_0_2048) : (⟨S24x2x4096, .f32⟩ : BufTy).Contents (Elt F) → (⟨S24x2x2048, .f32⟩ : BufTy).Contents (Elt F)),
    StableHlo.TRef.unary (.of main_v42) (.of main_call0_v0) Host.negf,
    StableHlo.TRef.unary (.of main_call0_v0) (.of main_call0_v1) Host.exp,
    StableHlo.TRef.nullary (.of main_call0_cst) (constant S_ .f32 0x3F800000#32),
    StableHlo.TRef.unary (.of main_call0_cst) (.of main_call0_v2) (broadcastInDim S24x2x2048 ![] bcast_S_S24x2x2048),
    StableHlo.TRef.binary (.of main_call0_v2) (.of main_call0_v1) (.of main_call0_v3) addf,
    StableHlo.TRef.nullary (.of main_call0_cst_0) (constant S_ .f32 0x3F800000#32),
    StableHlo.TRef.unary (.of main_call0_cst_0) (.of main_call0_v4) (broadcastInDim S24x2x2048 ![] bcast_S_S24x2x2048),
    StableHlo.TRef.binary (.of main_call0_v4) (.of main_call0_v3) (.of main_call0_v5) Host.divf,
    StableHlo.TRef.binary (.of main_v42) (.of main_call0_v5) (.of main_v44) mulf,
    StableHlo.binary main_v44 main_v43 main_v45 (mulf : (⟨S24x2x2048, .f32⟩ : BufTy).Contents (Elt F) → (⟨S24x2x2048, .f32⟩ : BufTy).Contents (Elt F) → (⟨S24x2x2048, .f32⟩ : BufTy).Contents (Elt F)),
    StableHlo.unary main_v45 main_v46 ((truncf .bf16 · bitsLt_bf16_f32) : (⟨S24x2x2048, .f32⟩ : BufTy).Contents (Elt F) → (⟨S24x2x2048, .bf16⟩ : BufTy).Contents (Elt F)),
    StableHlo.nullary main_c_6 (constantI S_ 32 0#32),
    StableHlo.unary main_c_6 main_v47 (broadcastInDim S24x2 ![] bcast_S_S24x2 : (⟨S_, .i32⟩ : BufTy).Contents (Elt F) → (⟨S24x2, .i32⟩ : BufTy).Contents (Elt F)),
    StableHlo.binary main_v0 main_v47 main_v48 (cmpi .slt : (⟨S24x2, .i32⟩ : BufTy).Contents (Elt F) → (⟨S24x2, .i32⟩ : BufTy).Contents (Elt F) → (⟨S24x2, .i1⟩ : BufTy).Contents (Elt F)),
    StableHlo.nullary main_c_7 (constantI S_ 32 16#32),
    StableHlo.unary main_c_7 main_v49 (broadcastInDim S24x2 ![] bcast_S_S24x2 : (⟨S_, .i32⟩ : BufTy).Contents (Elt F) → (⟨S24x2, .i32⟩ : BufTy).Contents (Elt F)),
    StableHlo.binary main_v0 main_v49 main_v50 (addi : (⟨S24x2, .i32⟩ : BufTy).Contents (Elt F) → (⟨S24x2, .i32⟩ : BufTy).Contents (Elt F) → (⟨S24x2, .i32⟩ : BufTy).Contents (Elt F)),
    StableHlo.ternary main_v48 main_v50 main_v0 main_v51 (select : (⟨S24x2, .i1⟩ : BufTy).Contents (Elt F) → (⟨S24x2, .i32⟩ : BufTy).Contents (Elt F) → (⟨S24x2, .i32⟩ : BufTy).Contents (Elt F) → (⟨S24x2, .i32⟩ : BufTy).Contents (Elt F)),
    StableHlo.unary main_v51 main_v52 (broadcastInDim S24x2x1 ![0, 1] bcast_S24x2_S24x2x1_0_1 : (⟨S24x2, .i32⟩ : BufTy).Contents (Elt F) → (⟨S24x2x1, .i32⟩ : BufTy).Contents (Elt F)),
    StableHlo.binary main_arg3 main_v52 main_v53 ((fun x i => Host.gather gather_S16x2048x1024_S24x2x1_S24x2x2048x1024_23_0_n_n_0_2_120481024 x i) : (⟨S16x2048x1024, .i8⟩ : BufTy).Contents (Elt F) → (⟨S24x2x1, .i32⟩ : BufTy).Contents (Elt F) → (⟨S24x2x2048x1024, .i8⟩ : BufTy).Contents (Elt F)),
    StableHlo.nullary main_c_8 (constantI S_ 32 0#32),
    StableHlo.unary main_c_8 main_v54 (broadcastInDim S24x2 ![] bcast_S_S24x2 : (⟨S_, .i32⟩ : BufTy).Contents (Elt F) → (⟨S24x2, .i32⟩ : BufTy).Contents (Elt F)),
    StableHlo.binary main_v0 main_v54 main_v55 (cmpi .slt : (⟨S24x2, .i32⟩ : BufTy).Contents (Elt F) → (⟨S24x2, .i32⟩ : BufTy).Contents (Elt F) → (⟨S24x2, .i1⟩ : BufTy).Contents (Elt F)),
    StableHlo.nullary main_c_9 (constantI S_ 32 16#32),
    StableHlo.unary main_c_9 main_v56 (broadcastInDim S24x2 ![] bcast_S_S24x2 : (⟨S_, .i32⟩ : BufTy).Contents (Elt F) → (⟨S24x2, .i32⟩ : BufTy).Contents (Elt F)),
    StableHlo.binary main_v0 main_v56 main_v57 (addi : (⟨S24x2, .i32⟩ : BufTy).Contents (Elt F) → (⟨S24x2, .i32⟩ : BufTy).Contents (Elt F) → (⟨S24x2, .i32⟩ : BufTy).Contents (Elt F)),
    StableHlo.ternary main_v55 main_v57 main_v0 main_v58 (select : (⟨S24x2, .i1⟩ : BufTy).Contents (Elt F) → (⟨S24x2, .i32⟩ : BufTy).Contents (Elt F) → (⟨S24x2, .i32⟩ : BufTy).Contents (Elt F) → (⟨S24x2, .i32⟩ : BufTy).Contents (Elt F)),
    StableHlo.unary main_v58 main_v59 (broadcastInDim S24x2x1 ![0, 1] bcast_S24x2_S24x2x1_0_1 : (⟨S24x2, .i32⟩ : BufTy).Contents (Elt F) → (⟨S24x2x1, .i32⟩ : BufTy).Contents (Elt F)),
    StableHlo.binary main_arg4 main_v59 main_v60 ((fun x i => Host.gather gather_S16x2048x16_S24x2x1_S24x2x2048x16_23_0_n_n_0_2_1204816 x i) : (⟨S16x2048x16, .bf16⟩ : BufTy).Contents (Elt F) → (⟨S24x2x1, .i32⟩ : BufTy).Contents (Elt F) → (⟨S24x2x2048x16, .bf16⟩ : BufTy).Contents (Elt F)),
    StableHlo.unary main_v53 main_v61 ((extui 32 · natLt_8_32) : (⟨S24x2x2048x1024, .i8⟩ : BufTy).Contents (Elt F) → (⟨S24x2x2048x1024, .i32⟩ : BufTy).Contents (Elt F)),
    StableHlo.nullary main_c_10 (constantI S_ 32 15#32),
    StableHlo.unary main_c_10 main_v62 (broadcastInDim S24x2x2048x1024 ![] bcast_S_S24x2x2048x1024 : (⟨S_, .i32⟩ : BufTy).Contents (Elt F) → (⟨S24x2x2048x1024, .i32⟩ : BufTy).Contents (Elt F)),
    StableHlo.binary main_v61 main_v62 main_v63 (andi : (⟨S24x2x2048x1024, .i32⟩ : BufTy).Contents (Elt F) → (⟨S24x2x2048x1024, .i32⟩ : BufTy).Contents (Elt F) → (⟨S24x2x2048x1024, .i32⟩ : BufTy).Contents (Elt F)),
    StableHlo.unary main_v63 main_v64 (sitofp .bf16 : (⟨S24x2x2048x1024, .i32⟩ : BufTy).Contents (Elt F) → (⟨S24x2x2048x1024, .bf16⟩ : BufTy).Contents (Elt F)),
    StableHlo.reshape main_v64 main_v65 (rfl : (.bf16 : EltTy) = .bf16) shapeCasts_S24x2x2048x1024_S24x2x2048x16x64,
    StableHlo.nullary main_cst_11 (constant S_ .bf16 0x4100#16),
    StableHlo.unary main_cst_11 main_v66 (broadcastInDim S24x2x2048x16x64 ![] bcast_S_S24x2x2048x16x64 : (⟨S_, .bf16⟩ : BufTy).Contents (Elt F) → (⟨S24x2x2048x16x64, .bf16⟩ : BufTy).Contents (Elt F)),
    StableHlo.binary main_v65 main_v66 main_v67 (subf : (⟨S24x2x2048x16x64, .bf16⟩ : BufTy).Contents (Elt F) → (⟨S24x2x2048x16x64, .bf16⟩ : BufTy).Contents (Elt F) → (⟨S24x2x2048x16x64, .bf16⟩ : BufTy).Contents (Elt F)),
    StableHlo.unary main_v60 main_v68 (broadcastInDim S24x2x2048x16x1 ![0, 1, 2, 3] bcast_S24x2x2048x16_S24x2x2048x16x1_0_1_2_3 : (⟨S24x2x2048x16, .bf16⟩ : BufTy).Contents (Elt F) → (⟨S24x2x2048x16x1, .bf16⟩ : BufTy).Contents (Elt F)),
    StableHlo.unary main_v68 main_v69 (broadcastInDim S24x2x2048x16x64 ![0, 1, 2, 3, 4] bcast_S24x2x2048x16x1_S24x2x2048x16x64_0_1_2_3_4 : (⟨S24x2x2048x16x1, .bf16⟩ : BufTy).Contents (Elt F) → (⟨S24x2x2048x16x64, .bf16⟩ : BufTy).Contents (Elt F)),
    StableHlo.binary main_v67 main_v69 main_v70 (mulf : (⟨S24x2x2048x16x64, .bf16⟩ : BufTy).Contents (Elt F) → (⟨S24x2x2048x16x64, .bf16⟩ : BufTy).Contents (Elt F) → (⟨S24x2x2048x16x64, .bf16⟩ : BufTy).Contents (Elt F)),
    StableHlo.reshape main_v70 main_v71 (rfl : (.bf16 : EltTy) = .bf16) shapeCasts_S24x2x2048x16x64_S24x2x2048x1024,
    StableHlo.nullary main_c_12 (constantI S_ 32 4#32),
    StableHlo.unary main_c_12 main_v72 (broadcastInDim S24x2x2048x1024 ![] bcast_S_S24x2x2048x1024 : (⟨S_, .i32⟩ : BufTy).Contents (Elt F) → (⟨S24x2x2048x1024, .i32⟩ : BufTy).Contents (Elt F)),
    StableHlo.binary main_v61 main_v72 main_v73 (Host.shrsi : (⟨S24x2x2048x1024, .i32⟩ : BufTy).Contents (Elt F) → (⟨S24x2x2048x1024, .i32⟩ : BufTy).Contents (Elt F) → (⟨S24x2x2048x1024, .i32⟩ : BufTy).Contents (Elt F)),
    StableHlo.unary main_v73 main_v74 (sitofp .bf16 : (⟨S24x2x2048x1024, .i32⟩ : BufTy).Contents (Elt F) → (⟨S24x2x2048x1024, .bf16⟩ : BufTy).Contents (Elt F)),
    StableHlo.reshape main_v74 main_v75 (rfl : (.bf16 : EltTy) = .bf16) shapeCasts_S24x2x2048x1024_S24x2x2048x16x64,
    StableHlo.nullary main_cst_13 (constant S_ .bf16 0x4100#16),
    StableHlo.unary main_cst_13 main_v76 (broadcastInDim S24x2x2048x16x64 ![] bcast_S_S24x2x2048x16x64 : (⟨S_, .bf16⟩ : BufTy).Contents (Elt F) → (⟨S24x2x2048x16x64, .bf16⟩ : BufTy).Contents (Elt F)),
    StableHlo.binary main_v75 main_v76 main_v77 (subf : (⟨S24x2x2048x16x64, .bf16⟩ : BufTy).Contents (Elt F) → (⟨S24x2x2048x16x64, .bf16⟩ : BufTy).Contents (Elt F) → (⟨S24x2x2048x16x64, .bf16⟩ : BufTy).Contents (Elt F)),
    StableHlo.unary main_v60 main_v78 (broadcastInDim S24x2x2048x16x1 ![0, 1, 2, 3] bcast_S24x2x2048x16_S24x2x2048x16x1_0_1_2_3 : (⟨S24x2x2048x16, .bf16⟩ : BufTy).Contents (Elt F) → (⟨S24x2x2048x16x1, .bf16⟩ : BufTy).Contents (Elt F)),
    StableHlo.unary main_v78 main_v79 (broadcastInDim S24x2x2048x16x64 ![0, 1, 2, 3, 4] bcast_S24x2x2048x16x1_S24x2x2048x16x64_0_1_2_3_4 : (⟨S24x2x2048x16x1, .bf16⟩ : BufTy).Contents (Elt F) → (⟨S24x2x2048x16x64, .bf16⟩ : BufTy).Contents (Elt F)),
    StableHlo.binary main_v77 main_v79 main_v80 (mulf : (⟨S24x2x2048x16x64, .bf16⟩ : BufTy).Contents (Elt F) → (⟨S24x2x2048x16x64, .bf16⟩ : BufTy).Contents (Elt F) → (⟨S24x2x2048x16x64, .bf16⟩ : BufTy).Contents (Elt F)),
    StableHlo.reshape main_v80 main_v81 (rfl : (.bf16 : EltTy) = .bf16) shapeCasts_S24x2x2048x16x64_S24x2x2048x1024,
    StableHlo.unary main_v46 main_v82 ((Host.slice S24x2x1024 ![0, 0, 0] ![1, 1, 2] · slicesBy_S24x2x2048_S24x2x1024_0s1_0s1_0s2) : (⟨S24x2x2048, .bf16⟩ : BufTy).Contents (Elt F) → (⟨S24x2x1024, .bf16⟩ : BufTy).Contents (Elt F)),
    StableHlo.binary main_v82 main_v71 main_v83 ((fun l r => Host.dotGeneral dot_S24x2x1024_S24x2x2048x1024_S24x2x2048_2_3_n_2_01_01 none l r) : (⟨S24x2x1024, .bf16⟩ : BufTy).Contents (Elt F) → (⟨S24x2x2048x1024, .bf16⟩ : BufTy).Contents (Elt F) → (⟨S24x2x2048, .f32⟩ : BufTy).Contents (Elt F)),
    StableHlo.unary main_v46 main_v84 ((Host.slice S24x2x1024 ![0, 0, 1] ![1, 1, 2] · slicesBy_S24x2x2048_S24x2x1024_0s1_0s1_1s2) : (⟨S24x2x2048, .bf16⟩ : BufTy).Contents (Elt F) → (⟨S24x2x1024, .bf16⟩ : BufTy).Contents (Elt F)),
    StableHlo.binary main_v84 main_v81 main_v85 ((fun l r => Host.dotGeneral dot_S24x2x1024_S24x2x2048x1024_S24x2x2048_2_3_n_2_01_01 none l r) : (⟨S24x2x1024, .bf16⟩ : BufTy).Contents (Elt F) → (⟨S24x2x2048x1024, .bf16⟩ : BufTy).Contents (Elt F) → (⟨S24x2x2048, .f32⟩ : BufTy).Contents (Elt F)),
    StableHlo.binary main_v83 main_v85 main_v86 (addf : (⟨S24x2x2048, .f32⟩ : BufTy).Contents (Elt F) → (⟨S24x2x2048, .f32⟩ : BufTy).Contents (Elt F) → (⟨S24x2x2048, .f32⟩ : BufTy).Contents (Elt F)),
    StableHlo.reshape main_arg6 main_v87 (rfl : (.f32 : EltTy) = .f32) shapeCasts_S24x1x2_S24x2x1,
    StableHlo.unary main_v87 main_v88 (broadcastInDim S24x2x2048 ![0, 1, 2] bcast_S24x2x1_S24x2x2048_0_1_2 : (⟨S24x2x1, .f32⟩ : BufTy).Contents (Elt F) → (⟨S24x2x2048, .f32⟩ : BufTy).Contents (Elt F)),
    StableHlo.binary main_v86 main_v88 main_v89 (mulf : (⟨S24x2x2048, .f32⟩ : BufTy).Contents (Elt F) → (⟨S24x2x2048, .f32⟩ : BufTy).Contents (Elt F) → (⟨S24x2x2048, .f32⟩ : BufTy).Contents (Elt F)),
    StableHlo.nullary main_cst_14 (constant S_ .f32 0x00000000#32),
    StableHlo.binary main_v89 main_cst_14 main_v90 ((fun x v => Host.reduceAdd x v reducesTo_S24x2x2048_S24x2048_d1 h_S_) : (⟨S24x2x2048, .f32⟩ : BufTy).Contents (Elt F) → (⟨S_, .f32⟩ : BufTy).Contents (Elt F) → (⟨S24x2048, .f32⟩ : BufTy).Contents (Elt F)),
    StableHlo.unary main_v90 main_v91 ((truncf .bf16 · bitsLt_bf16_f32) : (⟨S24x2048, .f32⟩ : BufTy).Contents (Elt F) → (⟨S24x2048, .bf16⟩ : BufTy).Contents (Elt F)),
    StableHlo.reshape main_v91 main_v92 (rfl : (.bf16 : EltTy) = .bf16) shapeCasts_S24x2048_S24x1x2048 ]

/-- The reference is that straight line. -/
theorem main_eq (c : Dev nD) : main (F := F) c = seq ops := rfl

theorem arg0_eq (V : Valuation τ sig (Elt F)) : after ops V (main_arg0 : DevRef τ sig) = V (main_arg0 : DevRef τ sig) := by
  after_results

theorem arg1_eq (V : Valuation τ sig (Elt F)) : after ops V (main_arg1 : DevRef τ sig) = V (main_arg1 : DevRef τ sig) := by
  after_results

theorem arg2_eq (V : Valuation τ sig (Elt F)) : after ops V (main_arg2 : DevRef τ sig) = V (main_arg2 : DevRef τ sig) := by
  after_results

theorem arg3_eq (V : Valuation τ sig (Elt F)) : after ops V (main_arg3 : DevRef τ sig) = V (main_arg3 : DevRef τ sig) := by
  after_results

theorem arg4_eq (V : Valuation τ sig (Elt F)) : after ops V (main_arg4 : DevRef τ sig) = V (main_arg4 : DevRef τ sig) := by
  after_results

theorem arg5_eq (V : Valuation τ sig (Elt F)) : after ops V (main_arg5 : DevRef τ sig) = V (main_arg5 : DevRef τ sig) := by
  after_results

theorem arg6_eq (V : Valuation τ sig (Elt F)) : after ops V (main_arg6 : DevRef τ sig) = V (main_arg6 : DevRef τ sig) := by
  after_results

/-- Nothing is scoped here. -/
theorem scopedRefs_eq : (Finset.univ.filter fun b : Ref sig .tc => b.isScoped) = ∅ := by decide
theorem scopedSems_eq : (Finset.univ.filter fun sm : SemLoc sig => sm.isScoped .tc) = ∅ := by decide

/-- Every operation touches ordinary arrays only. -/
theorem ops_sub : (ops : List (HloOp τ sig (Elt F))).Forall fun op => op.bufs ⊆ tcRefs τ sig :=
  ⟨reshape_bufs_sub ..,
    unary_bufs_sub ..,
    nullary_bufs_sub ..,
    unary_bufs_sub ..,
    binary_bufs_sub ..,
    nullary_bufs_sub ..,
    unary_bufs_sub ..,
    binary_bufs_sub ..,
    ternary_bufs_sub ..,
    unary_bufs_sub ..,
    binary_bufs_sub ..,
    nullary_bufs_sub ..,
    unary_bufs_sub ..,
    binary_bufs_sub ..,
    nullary_bufs_sub ..,
    unary_bufs_sub ..,
    binary_bufs_sub ..,
    ternary_bufs_sub ..,
    unary_bufs_sub ..,
    binary_bufs_sub ..,
    unary_bufs_sub ..,
    nullary_bufs_sub ..,
    unary_bufs_sub ..,
    binary_bufs_sub ..,
    unary_bufs_sub ..,
    reshape_bufs_sub ..,
    nullary_bufs_sub ..,
    unary_bufs_sub ..,
    binary_bufs_sub ..,
    unary_bufs_sub ..,
    unary_bufs_sub ..,
    binary_bufs_sub ..,
    reshape_bufs_sub ..,
    nullary_bufs_sub ..,
    unary_bufs_sub ..,
    binary_bufs_sub ..,
    unary_bufs_sub ..,
    reshape_bufs_sub ..,
    nullary_bufs_sub ..,
    unary_bufs_sub ..,
    binary_bufs_sub ..,
    unary_bufs_sub ..,
    unary_bufs_sub ..,
    binary_bufs_sub ..,
    reshape_bufs_sub ..,
    unary_bufs_sub ..,
    binary_bufs_sub ..,
    unary_bufs_sub ..,
    binary_bufs_sub ..,
    binary_bufs_sub ..,
    unary_bufs_sub ..,
    unary_bufs_sub ..,
    unary_bufs_sub ..,
    unary_bufs_sub ..,
    nullary_bufs_sub ..,
    unary_bufs_sub ..,
    binary_bufs_sub ..,
    nullary_bufs_sub ..,
    unary_bufs_sub ..,
    binary_bufs_sub ..,
    binary_bufs_sub ..,
    binary_bufs_sub ..,
    unary_bufs_sub ..,
    nullary_bufs_sub ..,
    unary_bufs_sub ..,
    binary_bufs_sub ..,
    nullary_bufs_sub ..,
    unary_bufs_sub ..,
    binary_bufs_sub ..,
    ternary_bufs_sub ..,
    unary_bufs_sub ..,
    binary_bufs_sub ..,
    nullary_bufs_sub ..,
    unary_bufs_sub ..,
    binary_bufs_sub ..,
    nullary_bufs_sub ..,
    unary_bufs_sub ..,
    binary_bufs_sub ..,
    ternary_bufs_sub ..,
    unary_bufs_sub ..,
    binary_bufs_sub ..,
    unary_bufs_sub ..,
    nullary_bufs_sub ..,
    unary_bufs_sub ..,
    binary_bufs_sub ..,
    unary_bufs_sub ..,
    reshape_bufs_sub ..,
    nullary_bufs_sub ..,
    unary_bufs_sub ..,
    binary_bufs_sub ..,
    unary_bufs_sub ..,
    unary_bufs_sub ..,
    binary_bufs_sub ..,
    reshape_bufs_sub ..,
    nullary_bufs_sub ..,
    unary_bufs_sub ..,
    binary_bufs_sub ..,
    unary_bufs_sub ..,
    reshape_bufs_sub ..,
    nullary_bufs_sub ..,
    unary_bufs_sub ..,
    binary_bufs_sub ..,
    unary_bufs_sub ..,
    unary_bufs_sub ..,
    binary_bufs_sub ..,
    reshape_bufs_sub ..,
    unary_bufs_sub ..,
    binary_bufs_sub ..,
    unary_bufs_sub ..,
    binary_bufs_sub ..,
    binary_bufs_sub ..,
    reshape_bufs_sub ..,
    unary_bufs_sub ..,
    binary_bufs_sub ..,
    nullary_bufs_sub ..,
    binary_bufs_sub ..,
    unary_bufs_sub ..,
    reshape_bufs_sub ..⟩

/-- The reference runs to its end, and every array ends at the folded operations. -/
theorem run_main (m : (ℓ : Loc nD τ sig) → Buf (Elt F) ℓ) (ρ : Dev nD → PrngReg) :
    θ_run defs (onTc (τ := τ) (main (F := F))) ⟨m, fun _ => 0, ρ⟩ fun r =>
      ∀ c : Dev nD, r.2.mem ((c.tc : Thread nD τ).loc main_v92) = after ops (launchContents m c) (main_v92 : DevRef τ sig)
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6) :=
  (θ_run defs _ _).mono (fun _ h c => ⟨h c main_v92, (h c main_arg0).trans (arg0_eq _), (h c main_arg1).trans (arg1_eq _), (h c main_arg2).trans (arg2_eq _), (h c main_arg3).trans (arg3_eq _), (h c main_arg4).trans (arg4_eq _), (h c main_arg5).trans (arg5_eq _), (h c main_arg6).trans (arg6_eq _)⟩)
    (run_seq scopedRefs_eq scopedSems_eq defs main (fun _ => ops) main_eq (fun _ => ops_sub) m ρ)

end Cert.Proof.Ref

end
-- ==== Proof.Value.lean ====
/- What the run leaves in the result buffer. -/
module

public import proofs.«01_k».proof.Proof.Run
public import Idealize.ShloMosaic.Lib.Pipeline.ValueKit

@[expose] public section

set_option maxRecDepth 65536
set_option maxHeartbeats 0

noncomputable section

namespace Cert.Kernel.Gen

open Idealize.ShloMosaic Idealize.ShloMosaic.TcCoe Idealize.ShloMosaic.Tactic Idealize.SL.Sem
open Idealize.ShloMosaic.Pipeline (Dat Cfg Window cellOf)

variable {F : FTy → Type} [FloatOps F]
variable (m : (ℓ : Loc nD τ sig) → Buf (Elt F) ℓ) (ρ : Dev nD → PrngReg)

theorem v1_eq (W : Valuation τ sig (Elt F)) : StableHlo.after hostOps0 W (main_v1 : DevRef τ sig)
    = shapeCast S24x2048 (W (main_arg0 : DevRef τ sig)) shapeCasts_S24x1x2048_S24x2048 := by
  unfold hostOps0
  after_results
  rfl
theorem v2_eq (W : Valuation τ sig (Elt F)) : StableHlo.after hostOps0 W (main_v2 : DevRef τ sig)
    = shapeCast S24x2 (W (main_arg6 : DevRef τ sig)) shapeCasts_S24x1x2_S24x2 := by
  unfold hostOps0
  after_results
  rfl
theorem v3_eq (W : Valuation τ sig (Elt F)) : StableHlo.after hostOps0 W (main_v3 : DevRef τ sig)
    = transpose S16x16x4096 [0, 2, 1] (W (main_arg2 : DevRef τ sig)) transposes_S16x4096x16_S16x16x4096_0_2_1 := by
  unfold hostOps0
  after_results
theorem v4_eq (W : Valuation τ sig (Elt F)) : StableHlo.after hostOps0 W (main_v4 : DevRef τ sig)
    = transpose S16x16x2048 [0, 2, 1] (W (main_arg4 : DevRef τ sig)) transposes_S16x2048x16_S16x16x2048_0_2_1 := by
  unfold hostOps0
  after_results

/-- The arrays the trips read, from the arguments. -/
def arrM (c : Dev nD) : Arrs F where
  X := shapeCast S24x2048 (m ((c : Thread nD τ).loc main_arg0)) shapeCasts_S24x1x2048_S24x2048
  I := shapeCast S24x2 (m ((c : Thread nD τ).loc main_arg5)) shapeCasts_S24x1x2_S24x2
  C := shapeCast S24x2 (m ((c : Thread nD τ).loc main_arg6)) shapeCasts_S24x1x2_S24x2
  W1 := m ((c : Thread nD τ).loc main_arg1)
  S1 := transpose S16x16x4096 [0, 2, 1] (m ((c : Thread nD τ).loc main_arg2)) transposes_S16x4096x16_S16x16x4096_0_2_1
  W2 := m ((c : Thread nD τ).loc main_arg3)
  S2 := transpose S16x16x2048 [0, 2, 1] (m ((c : Thread nD τ).loc main_arg4)) transposes_S16x2048x16_S16x16x2048_0_2_1

theorem iblk0_eq (c : Dev nD) (t : Fin cfg0.N) : iblk m c 0 t = (arrM m c).I := by
  refine Eq.trans ?_ (v0_eq (fun b => m (c, b)))
  have h : ∀ t : Fin cfg0.N, win0_0.index t 0 = 0 ∧ win0_0.index t 1 = 0 := by decide +kernel
  funext y
  unfold iblk
  exact congrArg (V m c main_v0) (by
    funext a; apply Fin.ext; blk_simp
    match a with
    | 0 => exact (congrArg (· * win0_0.size 0 + (y 0).val) (h t).1).trans (by simp)
    | 1 => exact (congrArg (· * win0_0.size 1 + (y 1).val) (h t).2).trans (by simp))
theorem iblk1_eq (c : Dev nD) (t : Fin cfg0.N) : iblk m c 1 t = (arrM m c).X := by
  refine Eq.trans ?_ (v1_eq (fun b => m (c, b)))
  have h : ∀ t : Fin cfg0.N, win0_1.index t 0 = 0 ∧ win0_1.index t 1 = 0 := by decide +kernel
  funext y
  unfold iblk
  exact congrArg (V m c main_v1) (by
    funext a; apply Fin.ext; blk_simp
    match a with
    | 0 => exact (congrArg (· * win0_1.size 0 + (y 0).val) (h t).1).trans (by simp)
    | 1 => exact (congrArg (· * win0_1.size 1 + (y 1).val) (h t).2).trans (by simp))
theorem iblk2_eq (c : Dev nD) (t : Fin cfg0.N) : iblk m c 2 t = (arrM m c).I := by
  refine Eq.trans ?_ (v0_eq (fun b => m (c, b)))
  have h : ∀ t : Fin cfg0.N, win0_2.index t 0 = 0 ∧ win0_2.index t 1 = 0 := by decide +kernel
  funext y
  unfold iblk
  exact congrArg (V m c main_v0) (by
    funext a; apply Fin.ext; blk_simp
    match a with
    | 0 => exact (congrArg (· * win0_2.size 0 + (y 0).val) (h t).1).trans (by simp)
    | 1 => exact (congrArg (· * win0_2.size 1 + (y 1).val) (h t).2).trans (by simp))
theorem iblk3_eq (c : Dev nD) (t : Fin cfg0.N) : iblk m c 3 t = (arrM m c).C := by
  refine Eq.trans ?_ (v2_eq (fun b => m (c, b)))
  have h : ∀ t : Fin cfg0.N, win0_3.index t 0 = 0 ∧ win0_3.index t 1 = 0 := by decide +kernel
  funext y
  unfold iblk
  exact congrArg (V m c main_v2) (by
    funext a; apply Fin.ext; blk_simp
    match a with
    | 0 => exact (congrArg (· * win0_3.size 0 + (y 0).val) (h t).1).trans (by simp)
    | 1 => exact (congrArg (· * win0_3.size 1 + (y 1).val) (h t).2).trans (by simp))

/-- What the run leaves in the result matrix. -/
def outF (c : Dev nD) : S24x2048.Idx → Elt F .bf16 := outM (arrM m c) (maskM (F := F) (arrM m c).I)

theorem arrT_eq (c : Dev nD) (t : Fin cfg0.N) : arrT m c t = arrM m c := by
  have e1 : V m c main_arg1 = m ((c : Thread nD τ).loc main_arg1) := V_main_arg1 m c
  have e3 : V m c main_arg3 = m ((c : Thread nD τ).loc main_arg3) := V_main_arg3 m c
  have e4 : V m c main_v3 = (arrM m c).S1 := v3_eq (fun b => m (c, b))
  have e5 : V m c main_v4 = (arrM m c).S2 := v4_eq (fun b => m (c, b))
  unfold arrT AA
  rw [iblk1_eq, iblk2_eq, iblk3_eq, e1, e3, e4, e5]
  rfl

theorem outT_eq (c : Dev nD) (t : Fin cfg0.N) : outT m c t = outF m c := by
  unfold outT outF
  rw [arrT_eq, iblk0_eq]

theorem arrAt_out (c : Dev nD) : (datsA m 0 c).arrAt 4 cfg0.N = outF m c := by
  refine (datsA m 0 c).arrAt_eq_of_covers 4 _ (by decide +kernel) fun t hf y => ?_
  have h : ∀ t : Fin cfg0.N, win0_4.index t 0 = 0 ∧ win0_4.index t 1 = 0 := by decide +kernel
  have e : (datsA m 0 c).after 4 t = outF m c := outT_eq m c t
  refine (congrFun e ?_).trans ?_
  refine congrArg (outF m c) ?_
  funext a; apply Fin.ext; blk_simp
  match a with
  | 0 => exact ((congrArg (· * win0_4.size 0 + (y 0).val) (h t).1).trans (by simp)).symm
  | 1 => exact ((congrArg (· * win0_4.size 1 + (y 1).val) (h t).2).trans (by simp)).symm

theorem tail_out (c : Dev nD) :
    Pipeline.afterTail₀ cfgs (datsA m) (0 : Fin 1) (V0 m) [hostOps1] c main_v6 = shapeCast S24x1x2048 (outF m c) shapeCasts_S24x2048_S24x1x2048 := by
  unfold Pipeline.afterTail₀
  have h : ∀ W : Valuation τ sig (Elt F), StableHlo.after (List.flatten [hostOps1]) W (main_v6 : DevRef τ sig)
      = shapeCast S24x1x2048 (W (main_v5 : DevRef τ sig)) shapeCasts_S24x2048_S24x1x2048 := by
    intro W
    rw [List.flatten_cons, List.flatten_nil, List.append_nil]
    unfold hostOps1
    after_results
    rfl
  refine (h _).trans ?_
  refine congrArg (fun v => shapeCast S24x1x2048 v shapeCasts_S24x2048_S24x1x2048) ?_
  refine Eq.trans ?_ (arrAt_out m c)
  exact Pipeline.withArrays_arr_shared spec0 c (V0 m c) _ ((datsA m 0 c).arrAt_sharedIn sharedIn0 (V0 m c) (fun _ => rfl) cfg0.N) 4

/-- The run, with what it computes. -/
theorem valueA (hids : ∀ (c : Dev nD) (i), ((m ((c : Thread nD τ).loc main_arg5) i : Elt F .i32) : BitVec 32).toNat < 16) :
    θ_run defs (onTc (τ := τ) (main (F := F))) ⟨m, fun _ => 0, ρ⟩ (fun r => ∀ c : Dev nD,
      r.2.mem ((c.tc : Thread nD τ).loc main_v6) = shapeCast S24x1x2048 (outF m c) shapeCasts_S24x2048_S24x1x2048
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h.1 c).2 main_v6 (Pipeline.mem_restRefs_of main_v6 (by decide) (by decide))).trans (tail_out m c),
      (((h.1 c).2 main_arg0 (Pipeline.mem_restRefs_of main_arg0 (by decide) (by decide))).trans (tail_keep m c main_arg0 (by decide) (by decide))).trans (V_main_arg0 m c),
      (((h.1 c).2 main_arg1 (Pipeline.mem_restRefs_of main_arg1 (by decide) (by decide))).trans (tail_keep m c main_arg1 (by decide) (by decide))).trans (V_main_arg1 m c),
      (((h.1 c).2 main_arg2 (Pipeline.mem_restRefs_of main_arg2 (by decide) (by decide))).trans (tail_keep m c main_arg2 (by decide) (by decide))).trans (V_main_arg2 m c),
      (((h.1 c).2 main_arg3 (Pipeline.mem_restRefs_of main_arg3 (by decide) (by decide))).trans (tail_keep m c main_arg3 (by decide) (by decide))).trans (V_main_arg3 m c),
      (((h.1 c).2 main_arg4 (Pipeline.mem_restRefs_of main_arg4 (by decide) (by decide))).trans (tail_keep m c main_arg4 (by decide) (by decide))).trans (V_main_arg4 m c),
      (((h.1 c).2 main_arg5 (Pipeline.mem_restRefs_of main_arg5 (by decide) (by decide))).trans (tail_keep m c main_arg5 (by decide) (by decide))).trans (V_main_arg5 m c),
      (((h.1 c).2 main_arg6 (Pipeline.mem_restRefs_of main_arg6 (by decide) (by decide))).trans (tail_keep m c main_arg6 (by decide) (by decide))).trans (V_main_arg6 m c)⟩)
    (run_mainA m ρ hids)

end Cert.Kernel.Gen

end
-- ==== Proof.Mask.lean ====
/- Every id has its bit in the mask of the experts the ids name. -/
module

public import proofs.«01_k».proof.Proof.Rest

@[expose] public section

set_option maxHeartbeats 0
set_option maxRecDepth 65536

noncomputable section

namespace Cert.Kernel.Gen

open Idealize.ShloMosaic Idealize.ShloMosaic.TcCoe Idealize.SL.Sem

variable {F : FTy → Type}

theorem shl_bit (v : BitVec 32) (h : v.toNat < 16) : (Scalar.shli 1#32 v).getLsbD v.toNat = true := by
  unfold Scalar.shli IntOp.shli
  rw [if_pos (by omega), BitVec.shiftLeft_eq', BitVec.getLsbD_shiftLeft]
  simp
  omega

theorem maskM_bit (J : S24x2.Idx → Elt F .i32) (t k : ℕ) (ht : t < 24) (hk : k < 2) (h : (J (ValueIdx.ix2 ⟨t, ht⟩ ⟨k, hk⟩) : BitVec 32).toNat < 16) :
    (maskM (F := F) J).getLsbD (J (ValueIdx.ix2 ⟨t, ht⟩ ⟨k, hk⟩) : BitVec 32).toNat = true := by
  have h1 := shl_bit _ h
  generalize (J (ValueIdx.ix2 ⟨t, ht⟩ ⟨k, hk⟩) : BitVec 32).toNat = j at h h1 ⊢
  unfold maskM maskOf
  unfold Scalar.ori IntOp.ori
  simp only [BitVec.getLsbD_or]
  interval_cases t <;> interval_cases k <;> simp only [h1, Bool.true_or, Bool.or_true]

end Cert.Kernel.Gen

end
-- ==== Proof.Spec.lean ====
/- The plain mathematics both programs compute, row by row, on the extended reals. -/
module

public import Idealize.ShloMosaic.Lib.Pointwise

@[expose] public section

noncomputable section

namespace Cert.Proof

open Idealize.ShloMosaic

/-- The signed four-bit number in a byte: the low half at an even place, the high half at an odd one, each less eight. -/
def nib (b : BitVec 8) (p : ℕ) : ℤ := if p % 2 = 0 then (b.toNat % 16 : ℕ) - 8 else (b.toNat / 16 : ℕ) - 8

/-- One number as an extended real. -/
def nibE (b : BitVec 8) (p : ℕ) : EReal := ((nib b p : ℝ) : EReal)

/-- One term of a row product: an activation times (a code times its group's scale). -/
def term (X : Fin 2048 → EReal) (W : Fin 1024 → BitVec 8) (S : Fin 16 → EReal) (j : ℕ) : EReal :=
  if h : j < 2048 then X ⟨j, h⟩ * (nibE (W ⟨j / 2, by omega⟩) j * S ⟨j / 128, by omega⟩) else 0

/-- A row of activations against a row of packed weights. -/
def dotP (X : Fin 2048 → EReal) (W : Fin 1024 → BitVec 8) (S : Fin 16 → EReal) : EReal :=
  ∑ j ∈ Finset.range 2048, term X W S j

/-- A row of the hidden layer: the gate times its logistic times the other half. -/
def hidS (X : Fin 2048 → EReal) (W : Fin 4096 → Fin 1024 → BitVec 8) (S : Fin 4096 → Fin 16 → EReal) (o : Fin 2048) : EReal :=
  dotP X (W ⟨o.val, by omega⟩) (S ⟨o.val, by omega⟩)
    * Ideal.div 1 (1 + Ideal.exp (-dotP X (W ⟨o.val, by omega⟩) (S ⟨o.val, by omega⟩)))
    * dotP X (W ⟨2048 + o.val, by omega⟩) (S ⟨2048 + o.val, by omega⟩)

theorem sum_even_odd {M : Type} [AddCommMonoid M] (f : ℕ → M) (n : ℕ) :
    ∑ i ∈ Finset.range (2 * n), f i = ∑ i ∈ Finset.range n, f (2 * i) + ∑ i ∈ Finset.range n, f (1 + 2 * i) := by
  induction n with
  | zero => simp
  | succ n ih =>
    rw [show 2 * (n + 1) = 2 * n + 1 + 1 from by omega, Finset.sum_range_succ, Finset.sum_range_succ, ih,
      Finset.sum_range_succ, Finset.sum_range_succ, show 1 + 2 * n = 2 * n + 1 from by omega]
    ac_rfl

/-- A row product, even columns first. -/
theorem dotP_even_odd (X : Fin 2048 → EReal) (W : Fin 1024 → BitVec 8) (S : Fin 16 → EReal) :
    dotP X W S = ∑ x : Fin 1024, X ⟨2 * x.val, by omega⟩ * (nibE (W x) 0 * S ⟨x.val / 64, by omega⟩)
      + ∑ x : Fin 1024, X ⟨1 + 2 * x.val, by omega⟩ * (nibE (W x) 1 * S ⟨x.val / 64, by omega⟩) := by
  refine (sum_even_odd (term X W S) 1024).trans ?_
  rw [← Fin.sum_univ_eq_sum_range (fun i => term X W S (2 * i)),
    ← Fin.sum_univ_eq_sum_range (fun i => term X W S (1 + 2 * i))]
  refine congrArg₂ (· + ·) (Finset.sum_congr rfl fun x _ => ?_) (Finset.sum_congr rfl fun x _ => ?_)
  · have hx := x.isLt
    unfold term
    rw [dif_pos (by omega)]
    have e1 : (⟨2 * x.val / 2, by omega⟩ : Fin 1024) = x := Fin.ext (by show 2 * x.val / 2 = x.val; omega)
    have e2 : (⟨2 * x.val / 128, by omega⟩ : Fin 16) = ⟨x.val / 64, by omega⟩ := Fin.ext (by show 2 * x.val / 128 = x.val / 64; omega)
    have e3 : nibE (W x) (2 * x.val) = nibE (W x) 0 := by unfold nibE nib; rw [if_pos (by omega), if_pos (by omega)]
    rw [e1, e2, e3]
  · have hx := x.isLt
    unfold term
    rw [dif_pos (by omega)]
    have e1 : (⟨(1 + 2 * x.val) / 2, by omega⟩ : Fin 1024) = x := Fin.ext (by show (1 + 2 * x.val) / 2 = x.val; omega)
    have e2 : (⟨(1 + 2 * x.val) / 128, by omega⟩ : Fin 16) = ⟨x.val / 64, by omega⟩ := Fin.ext (by show (1 + 2 * x.val) / 128 = x.val / 64; omega)
    have e3 : nibE (W x) (1 + 2 * x.val) = nibE (W x) 1 := by unfold nibE nib; rw [if_neg (by omega), if_neg (by omega)]
    rw [e1, e2, e3]

end Cert.Proof

end
-- ==== Proof.AlgK.lean ====
/- The kernel's result read at an index. -/
module

public import proofs.«01_k».proof.Proof.Vals
public import proofs.«01_k».proof.Proof.Spec

@[expose] public section

set_option maxHeartbeats 0
set_option maxRecDepth 65536

noncomputable section

namespace Cert.Kernel.Gen

open Cert.Proof
open Idealize.ShloMosaic Idealize.ShloMosaic.TcCoe Idealize.SL.Sem

theorem lo4 (b : BitVec 8) : (BitVec.setWidth 4 (IntOp.shrsi ArithUnit.vector (IntOp.shli ArithUnit.vector
    (BitVec.setWidth 32 (IntOp.xori b 136#8)) 28#32) 28#32)).toInt = (b.toNat % 16 : ℕ) - 8 := by
  revert b; decide +kernel
theorem hi4 (b : BitVec 8) : (BitVec.setWidth 4 (IntOp.shrsi ArithUnit.vector (IntOp.shli ArithUnit.vector
    (BitVec.setWidth 32 (IntOp.xori b 136#8)) 24#32) 28#32)).toInt = (b.toNat / 16 : ℕ) - 8 := by
  revert b; decide +kernel

theorem nibbles_apply (w : S256x128.Idx → BitVec 8) (k n : Fin 256) :
    nibbles (F := Ideal) w (ix2 k n) = nibE (w (ix2 n ⟨k.val / 2, by omega⟩)) k.val := by
  unfold nibbles
  pointwise
  unfold nibE nib
  by_cases h : k.val % 2 = 0
  · rw [dif_pos (by omega), if_pos h]
    exact congrArg (fun z : ℤ => ((z : ℝ) : EReal)) (lo4 _)
  · rw [dif_neg (by omega), if_neg h]
    exact congrArg (fun z : ℤ => ((z : ℝ) : EReal)) (hi4 _)

theorem wtile_apply (w : S256x128.Idx → BitVec 8) (s : S2x256.Idx → EReal) (k n : Fin 256) :
    wtile (F := Ideal) w s (ix2 k n) = (nibE (w (ix2 n ⟨k.val / 2, by omega⟩)) k.val * s (ix2 ⟨k.val / 128, by omega⟩ n) : EReal) := by
  unfold wtile
  pointwise
  by_cases h : k.val < 128
  · rw [dif_pos h, nibbles_apply]
    have e : (⟨k.val / 128, by omega⟩ : Fin 2) = 0 := Fin.ext (by show k.val / 128 = 0; omega)
    rw [e]
  · rw [dif_neg h]
    have e : (⟨k.val / 128, by omega⟩ : Fin 2) = 1 := Fin.ext (by show k.val / 128 = 1; omega)
    have e' : (⟨128 + (k.val - 128), by omega⟩ : Fin 256) = k := Fin.ext (by show 128 + (k.val - 128) = k.val; omega)
    rw [e, e', nibbles_apply]

theorem dotAcc_apply (a : S24x256.Idx → EReal) (x : S24x256.Idx → EReal) (w : S256x128.Idx → BitVec 8) (s : S2x256.Idx → EReal) (t : Fin 24) (n : Fin 256) :
    dotAcc (F := Ideal) a x w s (ix2 t n) = (a (ix2 t n) + ∑ k : Fin 256, x (ix2 t k) * wtile (F := Ideal) w s (ix2 k n) : EReal) := by
  unfold dotAcc
  pointwise

theorem hTile_apply (g u : S24x256.Idx → EReal) (t : Fin 24) (n : Fin 256) :
    hTile (F := Ideal) g u (ix2 t n)
      = (g (ix2 t n) * Ideal.div 1 (1 + Ideal.exp (-g (ix2 t n))) * u (ix2 t n) : EReal) := by
  unfold hTile
  pointwise
  rfl

theorem zeroTile_apply (t : Fin 24) (n : Fin 256) : zeroTile (F := Ideal) (ix2 t n) = (0 : EReal) := by
  unfold zeroTile
  pointwise

theorem cast_self (x : S24x256.Idx → EReal) : shapeCast S24x256 x shapeCasts_S24x256_S24x256 = x := by
  funext i
  obtain ⟨t, n, rfl⟩ : ∃ t n, i = ix2 t n := ⟨i 0, i 1, by funext a; match a with | 0 => rfl | 1 => rfl⟩
  pointwise

theorem tileX_apply {e : EltTy} (X : S24x2048.Idx → Elt Ideal e) (d : ℕ) (hd : d < 8) (t : Fin 24) (n : Fin 256) :
    tileX (F := Ideal) (e := e) X d hd (ix2 t n) = X (ix2 t ⟨d * 256 + n.val, by omega⟩) := by
  unfold tileX
  refine congrArg X (funext fun a => Fin.ext ?_)
  match a with
  | 0 => show 0 + 1 * t.val = t.val; omega
  | 1 => show d * 256 + 1 * n.val = d * 256 + n.val; omega

theorem tileW1_apply (W : S4096x1024.Idx → BitVec 8) (r d : ℕ) (hr : r + 256 ≤ 4096) (hd : d < 8) (c : Fin 256) (i : Fin 128) :
    tileW1 (F := Ideal) W r d hr hd (ix2 c i) = W (ix2 ⟨r + c.val, by omega⟩ ⟨d * 128 + i.val, by omega⟩) := by
  unfold tileW1
  refine congrArg W (funext fun a => Fin.ext ?_)
  match a with
  | 0 => show r + 1 * c.val = r + c.val; omega
  | 1 => show d * 128 + 1 * i.val = d * 128 + i.val; omega

theorem tileW2_apply (W : S2048x1024.Idx → BitVec 8) (r d : ℕ) (hr : r + 256 ≤ 2048) (hd : d < 8) (c : Fin 256) (i : Fin 128) :
    tileW2 (F := Ideal) W r d hr hd (ix2 c i) = W (ix2 ⟨r + c.val, by omega⟩ ⟨d * 128 + i.val, by omega⟩) := by
  unfold tileW2
  refine congrArg W (funext fun a => Fin.ext ?_)
  match a with
  | 0 => show r + 1 * c.val = r + c.val; omega
  | 1 => show d * 128 + 1 * i.val = d * 128 + i.val; omega

theorem tileS1_apply (S : S16x4096.Idx → EReal) (r d : ℕ) (hr : r + 256 ≤ 4096) (hd : d < 8) (q : Fin 2) (c : Fin 256) :
    tileS1 (F := Ideal) S r d hr hd (ix2 q c) = S (ix2 ⟨d * 2 + q.val, by omega⟩ ⟨r + c.val, by omega⟩) := by
  unfold tileS1
  refine congrArg S (funext fun a => Fin.ext ?_)
  match a with
  | 0 => show d * 2 + 1 * q.val = d * 2 + q.val; omega
  | 1 => show r + 1 * c.val = r + c.val; omega

theorem tileS2_apply (S : S16x2048.Idx → EReal) (r d : ℕ) (hr : r + 256 ≤ 2048) (hd : d < 8) (q : Fin 2) (c : Fin 256) :
    tileS2 (F := Ideal) S r d hr hd (ix2 q c) = S (ix2 ⟨d * 2 + q.val, by omega⟩ ⟨r + c.val, by omega⟩) := by
  unfold tileS2
  refine congrArg S (funext fun a => Fin.ext ?_)
  match a with
  | 0 => show d * 2 + 1 * q.val = d * 2 + q.val; omega
  | 1 => show r + 1 * c.val = r + c.val; omega

/-- The terms of one more block of 256 columns. -/
theorem block_sum (f : ℕ → EReal) (n : ℕ) :
    ∑ j ∈ Finset.range ((n + 1) * 256), f j = ∑ j ∈ Finset.range (n * 256), f j + ∑ k : Fin 256, f (n * 256 + k.val) := by
  rw [Nat.succ_mul, Finset.sum_range_add, Fin.sum_univ_eq_sum_range (fun k => f (n * 256 + k))]

/-- A term in block `d`. -/
theorem term_block (X : Fin 2048 → EReal) (W : Fin 1024 → BitVec 8) (S : Fin 16 → EReal) (d : ℕ) (hd : d < 8) (k : Fin 256) :
    term X W S (d * 256 + k.val) = X ⟨d * 256 + k.val, by omega⟩
      * (nibE (W ⟨d * 128 + k.val / 2, by omega⟩) k.val * S ⟨d * 2 + k.val / 128, by omega⟩) := by
  have hk := k.isLt
  unfold term
  rw [dif_pos (by omega)]
  have e1 : (⟨(d * 256 + k.val) / 2, by omega⟩ : Fin 1024) = ⟨d * 128 + k.val / 2, by omega⟩ := Fin.ext (by show (d * 256 + k.val) / 2 = d * 128 + k.val / 2; omega)
  have e2 : (⟨(d * 256 + k.val) / 128, by omega⟩ : Fin 16) = ⟨d * 2 + k.val / 128, by omega⟩ := Fin.ext (by show (d * 256 + k.val) / 128 = d * 2 + k.val / 128; omega)
  have e3 : ∀ b, nibE b (d * 256 + k.val) = nibE b k.val := fun b => by
    unfold nibE nib
    rw [show (d * 256 + k.val) % 2 = k.val % 2 from by omega]
  rw [e1, e2, e3]

theorem gAcc_apply (X : S24x2048.Idx → EReal) (W : S4096x1024.Idx → BitVec 8) (S : S16x4096.Idx → EReal) (r : ℕ) (hr : r + 256 ≤ 4096)
    (t : Fin 24) (c : Fin 256) : ∀ (n : ℕ) (hn : n ≤ 8), gAcc (F := Ideal) X W S r hr n hn (ix2 t c)
      = (∑ j ∈ Finset.range (n * 256), term (fun j => X (ix2 t j)) (fun i => W (ix2 ⟨r + c.val, by omega⟩ i)) (fun q => S (ix2 q ⟨r + c.val, by omega⟩)) j : EReal)
  | 0, _ => by
    unfold gAcc
    rw [zeroTile_apply, Nat.zero_mul, Finset.sum_range_zero]
  | n + 1, hn => by
    unfold gAcc
    rw [dotAcc_apply, gAcc_apply X W S r hr t c n (by omega), block_sum]
    refine congrArg (_ + ·) (Finset.sum_congr rfl fun k _ => ?_)
    rw [term_block _ _ _ n (by omega), cast_self, wtile_apply, tileX_apply, tileW1_apply, tileS1_apply]

theorem aAcc_apply (H : S24x2048.Idx → EReal) (W : S2048x1024.Idx → BitVec 8) (S : S16x2048.Idx → EReal) (r : ℕ) (hr : r + 256 ≤ 2048)
    (t : Fin 24) (c : Fin 256) : ∀ (n : ℕ) (hn : n ≤ 8), aAcc (F := Ideal) H W S r hr n hn (ix2 t c)
      = (∑ j ∈ Finset.range (n * 256), term (fun j => H (ix2 t j)) (fun i => W (ix2 ⟨r + c.val, by omega⟩ i)) (fun q => S (ix2 q ⟨r + c.val, by omega⟩)) j : EReal)
  | 0, _ => by
    unfold aAcc
    rw [zeroTile_apply, Nat.zero_mul, Finset.sum_range_zero]
  | n + 1, hn => by
    unfold aAcc
    rw [dotAcc_apply, aAcc_apply H W S r hr t c n (by omega), block_sum]
    refine congrArg (_ + ·) (Finset.sum_congr rfl fun k _ => ?_)
    rw [term_block _ _ _ n (by omega), wtile_apply, tileX_apply, tileW2_apply, tileS2_apply]

theorem ofTiles_apply {e : EltTy} (T : (d : ℕ) → d < 8 → S24x256.Idx → Elt Ideal e) (t : Fin 24) (o : Fin 2048) :
    ofTiles (F := Ideal) (e := e) T (ix2 t o) = T (o.val / 256) (tl8 o) (ix2 t ⟨o.val % 256, Nat.mod_lt _ (by decide)⟩) := by
  rw [ix2_eq_valueIdx t (⟨o.val % 256, _⟩ : Fin 256)]
  rfl

theorem hid_apply (X : S24x2048.Idx → EReal) (W : S4096x1024.Idx → BitVec 8) (S : S16x4096.Idx → EReal) (t : Fin 24) (o : Fin 2048) :
    hid (F := Ideal) X W S (ix2 t o) = hidS (fun j => X (ix2 t j)) (fun r i => W (ix2 r i)) (fun r q => S (ix2 q r)) o := by
  have ho := o.isLt
  have e0 : (⟨o.val / 256 * 256 + o.val % 256, by omega⟩ : Fin 4096) = ⟨o.val, by omega⟩ := Fin.ext (by show o.val / 256 * 256 + o.val % 256 = o.val; omega)
  have e1 : (⟨2048 + o.val / 256 * 256 + o.val % 256, by omega⟩ : Fin 4096) = ⟨2048 + o.val, by omega⟩ := Fin.ext (by show 2048 + o.val / 256 * 256 + o.val % 256 = 2048 + o.val; omega)
  unfold hid
  rw [ofTiles_apply]
  unfold hidT
  rw [hTile_apply, gAcc_apply, gAcc_apply]
  show _ = (dotP _ _ _ * Ideal.div 1 (1 + Ideal.exp (-dotP _ _ _)) * dotP _ _ _ : EReal)
  unfold dotP
  rw [e0, e1]

theorem yTile_apply (c : S24x1.Idx → EReal) (r : S24x1.Idx → BitVec 1) (a y : S24x256.Idx → EReal) (t : Fin 24) (n : Fin 256) :
    yTile (F := Ideal) c r a y (ix2 t n)
      = (y (ix2 t n) + Scalar.select (r (ix2 t (0 : Fin 1))) (a (ix2 t n) * c (ix2 t (0 : Fin 1))) 0 : EReal) := by
  unfold yTile
  pointwise

theorem accM_apply (cf : S24x1.Idx → EReal) (rt : S24x1.Idx → BitVec 1) (H : S24x2048.Idx → EReal) (W : S2048x1024.Idx → BitVec 8)
    (S : S16x2048.Idx → EReal) (Y : S24x2048.Idx → EReal) (t : Fin 24) (o : Fin 2048) :
    accM (F := Ideal) cf rt H W S Y (ix2 t o)
      = (Y (ix2 t o) + Scalar.select (rt (ix2 t (0 : Fin 1)))
          (dotP (fun j => H (ix2 t j)) (fun i => W (ix2 o i)) (fun q => S (ix2 q o)) * cf (ix2 t (0 : Fin 1))) 0 : EReal) := by
  have ho := o.isLt
  have e0 : (⟨o.val / 256 * 256 + o.val % 256, by omega⟩ : Fin 2048) = o := Fin.ext (by show o.val / 256 * 256 + o.val % 256 = o.val; omega)
  unfold accM
  rw [ofTiles_apply]
  unfold accT
  rw [yTile_apply, aAcc_apply, tileX_apply]
  unfold dotP
  rw [e0]

theorem coefOf_apply (e : BitVec 32) (I : S24x2.Idx → BitVec 32) (C : S24x2.Idx → EReal) (t : Fin 24) :
    coefOf (F := Ideal) e I C (ix2 t (0 : Fin 1))
      = (∑ x : Fin 2, Scalar.select (IntOp.cmpi .eq (I (ix2 t x)) e) (C (ix2 t x)) 0 : EReal) := by
  unfold coefOf chose
  pointwise

theorem fold2 (f : Fin 2 → BitVec 32) : Finset.fold IntOp.addi (0#32) f Finset.univ = IntOp.addi (f 0) (IntOp.addi (f 1) 0#32) := rfl

theorem anyOf_apply (e : BitVec 32) (I : S24x2.Idx → BitVec 32) (t : Fin 24) :
    anyOf (F := Ideal) e I (ix2 t (0 : Fin 1))
      = IntOp.cmpi .sgt (IntOp.addi (BitVec.setWidth 32 (IntOp.cmpi .eq (I (ix2 t (0 : Fin 2))) e))
          (IntOp.addi (BitVec.setWidth 32 (IntOp.cmpi .eq (I (ix2 t (1 : Fin 2))) e)) 0#32)) 0#32 := by
  unfold anyOf chose
  pointwise
  rw [fold2]

/-- One expert's row product, from the arrays the kernel reads. -/
def expD (A : Arrs Ideal) (t : Fin 24) (o : Fin 2048) (e : Fin 16) : EReal :=
  dotP (hidS (fun j => A.X (ix2 t j)) (fun r i => A.W1 (ix3 e r i)) (fun r q => A.S1 (ix3 e q r)))
    (fun i => A.W2 (ix3 e o i)) (fun q => A.S2 (ix3 e q o))

theorem expOf_apply {B C : ℕ} {e : EltTy} (X : (⟨3, ![16, B, C]⟩ : Shape).Idx → Elt Ideal e) (j : Fin 16) (r : Fin B) (c : Fin C) :
    expOf (F := Ideal) (e := e) X (BitVec.ofNat 32 j.val).toNat (ix2 r c) = X (ix3 j r c) := by
  have e0 : (⟨(BitVec.ofNat 32 j.val).toNat % 16, Nat.mod_lt _ (by decide)⟩ : Fin 16) = j := by revert j; decide
  unfold expOf
  rw [e0, ix3_eq_valueIdx]
  rfl

/-- What one choice adds to a token's row. -/
def share (A : Arrs Ideal) (t : Fin 24) (o : Fin 2048) (e0 e1 j : Fin 16) : EReal :=
  if e0 = j then expD A t o j * A.C (ix2 t (0 : Fin 2)) else if e1 = j then expD A t o j * A.C (ix2 t (1 : Fin 2)) else 0

theorem stepY_apply (A : Arrs Ideal) (Y : S24x2048.Idx → EReal) (t : Fin 24) (o : Fin 2048) (e0 e1 : Fin 16) (hne : e0 ≠ e1)
    (h0 : A.I (ix2 t (0 : Fin 2)) = BitVec.ofNat 32 e0.val) (h1 : A.I (ix2 t (1 : Fin 2)) = BitVec.ofNat 32 e1.val) (j : Fin 16) :
    stepY A (BitVec.ofNat 32 j.val) Y (ix2 t o) = (Y (ix2 t o) + share A t o e0 e1 j : EReal) := by
  have eqb : ∀ a b : Fin 16, a = b → IntOp.cmpi .eq (BitVec.ofNat 32 a.val) (BitVec.ofNat 32 b.val) = 1#1 := by decide
  have neb : ∀ a b : Fin 16, a ≠ b → IntOp.cmpi .eq (BitVec.ofNat 32 a.val) (BitVec.ofNat 32 b.val) = 0#1 := by decide
  unfold stepY
  rw [accM_apply, coefOf_apply, anyOf_apply, Fin.sum_univ_two, h0, h1]
  refine congrArg (_ + ·) ?_
  have eD : dotP (fun k => hid (F := Ideal) A.X (expOf (F := Ideal) (e := .i8) A.W1 (BitVec.ofNat 32 j.val).toNat)
        (expOf (F := Ideal) (e := .bf16) A.S1 (BitVec.ofNat 32 j.val).toNat) (ix2 t k))
      (fun i => expOf (F := Ideal) (e := .i8) A.W2 (BitVec.ofNat 32 j.val).toNat (ix2 o i))
      (fun q => expOf (F := Ideal) (e := .bf16) A.S2 (BitVec.ofNat 32 j.val).toNat (ix2 q o)) = expD A t o j := by
    unfold expD
    have a1 : (fun k => hid (F := Ideal) A.X (expOf (F := Ideal) (e := .i8) A.W1 (BitVec.ofNat 32 j.val).toNat)
        (expOf (F := Ideal) (e := .bf16) A.S1 (BitVec.ofNat 32 j.val).toNat) (ix2 t k))
        = hidS (fun j => A.X (ix2 t j)) (fun r i => A.W1 (ix3 j r i)) (fun r q => A.S1 (ix3 j q r)) := by
      funext k
      rw [hid_apply]
      refine congrFun (congrArg₂ (hidS _) ?_ ?_) k
      · funext r i; exact expOf_apply (e := .i8) A.W1 j r i
      · funext r q; exact expOf_apply (e := .bf16) A.S1 j q r
    rw [a1]
    refine congrArg₂ (dotP _) ?_ ?_
    · funext i; exact expOf_apply (e := .i8) A.W2 j o i
    · funext q; exact expOf_apply (e := .bf16) A.S2 j q o
  refine (congrArg (fun D => Scalar.select _ (D * _) _) eD).trans ?_
  unfold share
  by_cases c0 : e0 = j
  · have c1 : e1 ≠ j := fun h => hne (c0.trans h.symm)
    rw [if_pos c0, eqb _ _ c0, neb _ _ c1]
    show expD A t o j * (A.C (ix2 t (0 : Fin 2)) + 0) = _
    rw [add_zero]
  · by_cases c1 : e1 = j
    · rw [if_neg c0, if_pos c1, neb _ _ c0, eqb _ _ c1]
      show expD A t o j * (0 + A.C (ix2 t (1 : Fin 2))) = _
      rw [zero_add]
    · rw [if_neg c0, if_neg c1, neb _ _ c0, neb _ _ c1]
      rfl

theorem pay1_apply (t : Fin 24) (n : Fin 2048) : k0_pay1 (F := Ideal) (ix2 t n) = (0 : EReal) := by
  unfold k0_pay1
  pointwise

theorem pay4_apply (y : S24x2048.Idx → EReal) (t : Fin 24) (n : Fin 2048) : k0_pay4 (F := Ideal) y (ix2 t n) = y (ix2 t n) := by
  unfold k0_pay4
  pointwise

theorem accE_apply (A : Arrs Ideal) (m : BitVec 32) (t : Fin 24) (o : Fin 2048) (e0 e1 : Fin 16) (hne : e0 ≠ e1)
    (h0 : A.I (ix2 t (0 : Fin 2)) = BitVec.ofNat 32 e0.val) (h1 : A.I (ix2 t (1 : Fin 2)) = BitVec.ofNat 32 e1.val)
    (hm0 : m.getLsbD e0.val = true) (hm1 : m.getLsbD e1.val = true) :
    ∀ n, n ≤ 16 → accE A m n (ix2 t o)
      = (∑ j ∈ Finset.range n, if h : j < 16 then share A t o e0 e1 ⟨j, h⟩ else 0 : EReal)
  | 0, _ => by
    unfold accE
    rw [pay1_apply, Finset.sum_range_zero]
  | n + 1, hn => by
    have ih := accE_apply A m t o e0 e1 hne h0 h1 hm0 hm1 n (by omega)
    rw [Finset.sum_range_succ, dif_pos (show n < 16 by omega)]
    unfold accE
    by_cases hb : m.getLsbD n = true
    · rw [if_pos hb]
      refine (stepY_apply A (accE A m n) t o e0 e1 hne h0 h1 ⟨n, by omega⟩).trans ?_
      rw [ih]
    · rw [if_neg hb, ih]
      have z : share A t o e0 e1 ⟨n, by omega⟩ = 0 := by
        unfold share
        rw [if_neg (fun h => hb (by rw [h] at hm0; exact hm0)), if_neg (fun h => hb (by rw [h] at hm1; exact hm1))]
      rw [z, add_zero]

/-- The kernel read at an index, for two different choices that the mask has. -/
theorem outM_apply (A : Arrs Ideal) (m : BitVec 32) (t : Fin 24) (o : Fin 2048) (e0 e1 : Fin 16) (hne : e0 ≠ e1)
    (h0 : A.I (ix2 t (0 : Fin 2)) = BitVec.ofNat 32 e0.val) (h1 : A.I (ix2 t (1 : Fin 2)) = BitVec.ofNat 32 e1.val)
    (hm0 : m.getLsbD e0.val = true) (hm1 : m.getLsbD e1.val = true) :
    outM A m (ix2 t o) = (expD A t o e0 * A.C (ix2 t (0 : Fin 2)) + expD A t o e1 * A.C (ix2 t (1 : Fin 2)) : EReal) := by
  unfold outM
  rw [pay4_apply, accE_apply A m t o e0 e1 hne h0 h1 hm0 hm1 16 le_rfl,
    ← Fin.sum_univ_eq_sum_range (fun j => if h : j < 16 then share A t o e0 e1 ⟨j, h⟩ else 0)]
  have e : ∀ j : Fin 16, (if h : j.val < 16 then share A t o e0 e1 ⟨j.val, h⟩ else 0)
      = (if e0 = j then expD A t o j * A.C (ix2 t (0 : Fin 2)) else 0) + (if e1 = j then expD A t o j * A.C (ix2 t (1 : Fin 2)) else 0) := fun j => by
    rw [dif_pos j.isLt]
    unfold share
    by_cases c0 : e0 = j
    · rw [if_pos c0, if_pos c0, if_neg (fun h => hne (c0.trans h.symm)), add_zero]
    · rw [if_neg c0, if_neg c0, zero_add]
  rw [Finset.sum_congr rfl (fun j _ => e j), Finset.sum_add_distrib, Finset.sum_ite_eq, Finset.sum_ite_eq, if_pos (Finset.mem_univ _), if_pos (Finset.mem_univ _)]

end Cert.Kernel.Gen

end
-- ==== Proof.RefVal.lean ====
/- The reference's result as one term, stage by stage. -/
module

public import proofs.«01_k».proof.Proof.Ref

@[expose] public section

noncomputable section

namespace Cert.Proof.Ref

open Cert.ReferenceIdeal Cert.ReferenceIdeal.Gen
open Idealize.ShloMosaic Idealize.ShloMosaic.TcCoe Idealize.ShloMosaic.StableHlo Idealize.SL.Sem

variable {F : FTy → Type} [FloatOps F]

set_option maxHeartbeats 0
set_option maxRecDepth 65536

/-- The ids as the gathers take them: a negative one counted from the end. -/
def selI (I : IVec S24x2 32) : IVec S24x2x1 32 :=
  broadcastInDim S24x2x1 ![0, 1] bcast_S24x2_S24x2x1_0_1
    (select (cmpi .slt I (broadcastInDim S24x2 ![] bcast_S_S24x2 (constantI S_ 32 0#32))) (addi I (broadcastInDim S24x2 ![] bcast_S_S24x2 (constantI S_ 32 16#32))) I)

/-- The packed codes of each token's experts, as words. -/
def cod1 (W : IVec S16x4096x1024 8) (J : IVec S24x2x1 32) : IVec S24x2x4096x1024 32 :=
  extui 32 (Host.gather gather_S16x4096x1024_S24x2x1_S24x2x4096x1024_23_0_n_n_0_2_140961024 W J) natLt_8_32

/-- The group scales of each token's experts. -/
def scl1 (S : FVec F S16x4096x16 .bf16) (J : IVec S24x2x1 32) : FVec F S24x2x4096x16 .bf16 :=
  Host.gather gather_S16x4096x16_S24x2x1_S24x2x4096x16_23_0_n_n_0_2_1409616 S J

/-- One field of the weights: the code less eight, times the scale of its group. -/
def fld1 (n : IVec S24x2x4096x1024 32) (S : FVec F S24x2x4096x16 .bf16) : FVec F S24x2x4096x1024 .bf16 :=
  shapeCast S24x2x4096x1024
    (mulf (subf (shapeCast S24x2x4096x16x64 (sitofp .bf16 n : FVec F S24x2x4096x1024 .bf16) shapeCasts_S24x2x4096x1024_S24x2x4096x16x64)
        (broadcastInDim S24x2x4096x16x64 ![] bcast_S_S24x2x4096x16x64 (constant S_ .bf16 0x4100#16)))
      (broadcastInDim S24x2x4096x16x64 ![0, 1, 2, 3, 4] bcast_S24x2x4096x16x1_S24x2x4096x16x64_0_1_2_3_4
        (broadcastInDim S24x2x4096x16x1 ![0, 1, 2, 3] bcast_S24x2x4096x16_S24x2x4096x16x1_0_1_2_3 S)))
    shapeCasts_S24x2x4096x16x64_S24x2x4096x1024

/-- The product with the packed weights: the even columns with the low codes, the odd with the high. -/
def mm1 (a : FVec F S24x2x2048 .bf16) (cd : IVec S24x2x4096x1024 32) (S : FVec F S24x2x4096x16 .bf16) : FVec F S24x2x4096 .f32 :=
  addf
    (Host.dotGeneral dot_S24x2x1024_S24x2x4096x1024_S24x2x4096_2_3_n_2_01_01 none (Host.slice S24x2x1024 ![0, 0, 0] ![1, 1, 2] a slicesBy_S24x2x2048_S24x2x1024_0s1_0s1_0s2)
      (fld1 (andi cd (broadcastInDim S24x2x4096x1024 ![] bcast_S_S24x2x4096x1024 (constantI S_ 32 15#32))) S))
    (Host.dotGeneral dot_S24x2x1024_S24x2x4096x1024_S24x2x4096_2_3_n_2_01_01 none (Host.slice S24x2x1024 ![0, 0, 1] ![1, 1, 2] a slicesBy_S24x2x2048_S24x2x1024_0s1_0s1_1s2)
      (fld1 (Host.shrsi cd (broadcastInDim S24x2x4096x1024 ![] bcast_S_S24x2x4096x1024 (constantI S_ 32 4#32))) S))

/-- The packed codes of each token's experts, as words. -/
def cod2 (W : IVec S16x2048x1024 8) (J : IVec S24x2x1 32) : IVec S24x2x2048x1024 32 :=
  extui 32 (Host.gather gather_S16x2048x1024_S24x2x1_S24x2x2048x1024_23_0_n_n_0_2_120481024 W J) natLt_8_32

/-- The group scales of each token's experts. -/
def scl2 (S : FVec F S16x2048x16 .bf16) (J : IVec S24x2x1 32) : FVec F S24x2x2048x16 .bf16 :=
  Host.gather gather_S16x2048x16_S24x2x1_S24x2x2048x16_23_0_n_n_0_2_1204816 S J

/-- One field of the weights: the code less eight, times the scale of its group. -/
def fld2 (n : IVec S24x2x2048x1024 32) (S : FVec F S24x2x2048x16 .bf16) : FVec F S24x2x2048x1024 .bf16 :=
  shapeCast S24x2x2048x1024
    (mulf (subf (shapeCast S24x2x2048x16x64 (sitofp .bf16 n : FVec F S24x2x2048x1024 .bf16) shapeCasts_S24x2x2048x1024_S24x2x2048x16x64)
        (broadcastInDim S24x2x2048x16x64 ![] bcast_S_S24x2x2048x16x64 (constant S_ .bf16 0x4100#16)))
      (broadcastInDim S24x2x2048x16x64 ![0, 1, 2, 3, 4] bcast_S24x2x2048x16x1_S24x2x2048x16x64_0_1_2_3_4
        (broadcastInDim S24x2x2048x16x1 ![0, 1, 2, 3] bcast_S24x2x2048x16_S24x2x2048x16x1_0_1_2_3 S)))
    shapeCasts_S24x2x2048x16x64_S24x2x2048x1024

/-- The product with the packed weights: the even columns with the low codes, the odd with the high. -/
def mm2 (a : FVec F S24x2x2048 .bf16) (cd : IVec S24x2x2048x1024 32) (S : FVec F S24x2x2048x16 .bf16) : FVec F S24x2x2048 .f32 :=
  addf
    (Host.dotGeneral dot_S24x2x1024_S24x2x2048x1024_S24x2x2048_2_3_n_2_01_01 none (Host.slice S24x2x1024 ![0, 0, 0] ![1, 1, 2] a slicesBy_S24x2x2048_S24x2x1024_0s1_0s1_0s2)
      (fld2 (andi cd (broadcastInDim S24x2x2048x1024 ![] bcast_S_S24x2x2048x1024 (constantI S_ 32 15#32))) S))
    (Host.dotGeneral dot_S24x2x1024_S24x2x2048x1024_S24x2x2048_2_3_n_2_01_01 none (Host.slice S24x2x1024 ![0, 0, 1] ![1, 1, 2] a slicesBy_S24x2x2048_S24x2x1024_0s1_0s1_1s2)
      (fld2 (Host.shrsi cd (broadcastInDim S24x2x2048x1024 ![] bcast_S_S24x2x2048x1024 (constantI S_ 32 4#32))) S))

/-- The gate's activation. -/
def silu (g : FVec F S24x2x2048 .f32) : FVec F S24x2x2048 .f32 :=
  mulf g (Host.divf (broadcastInDim S24x2x2048 ![] bcast_S_S24x2x2048 (constant S_ .f32 0x3F800000#32))
    (addf (broadcastInDim S24x2x2048 ![] bcast_S_S24x2x2048 (constant S_ .f32 0x3F800000#32)) (Host.exp (Host.negf g))))

/-- The hidden layer from the first product. -/
def hidR (g : FVec F S24x2x4096 .f32) : FVec F S24x2x2048 .bf16 :=
  truncf .bf16 (mulf (silu (extractStridedSlice S24x2x2048 ![0, 0, 0] g slices_S24x2x4096_S24x2x2048_0_0_0))
    (extractStridedSlice S24x2x2048 ![0, 0, 2048] g slices_S24x2x4096_S24x2x2048_0_0_2048)) bitsLt_bf16_f32

/-- The weighted sum over a token's experts. -/
def mixR (y : FVec F S24x2x2048 .f32) (a6 : FVec F S24x1x2 .f32) : FVec F S24x2048 .bf16 :=
  truncf .bf16 (Host.reduceAdd (mulf y (broadcastInDim S24x2x2048 ![0, 1, 2] bcast_S24x2x1_S24x2x2048_0_1_2 (shapeCast S24x2x1 a6 shapeCasts_S24x1x2_S24x2x1)))
    (constant S_ .f32 0x00000000#32) reducesTo_S24x2x2048_S24x2048_d1 h_S_) bitsLt_bf16_f32

/-- The whole reference. -/
def outR (a0 : FVec F S24x1x2048 .bf16) (a1 : IVec S16x4096x1024 8) (a2 : FVec F S16x4096x16 .bf16) (a3 : IVec S16x2048x1024 8) (a4 : FVec F S16x2048x16 .bf16)
    (a5 : IVec S24x1x2 32) (a6 : FVec F S24x1x2 .f32) : FVec F S24x2048 .bf16 :=
  mixR (mm2 (hidR (mm1 (broadcastInDim S24x2x2048 ![0, 1, 2] bcast_S24x1x2048_S24x2x2048_0_1_2 a0)
      (cod1 a1 (selI (shapeCast S24x2 a5 shapeCasts_S24x1x2_S24x2))) (scl1 a2 (selI (shapeCast S24x2 a5 shapeCasts_S24x1x2_S24x2)))))
    (cod2 a3 (selI (shapeCast S24x2 a5 shapeCasts_S24x1x2_S24x2))) (scl2 a4 (selI (shapeCast S24x2 a5 shapeCasts_S24x1x2_S24x2)))) a6

theorem out_eq (V : Valuation τ sig (Elt F)) : after ops V (main_v92 : DevRef τ sig)
    = shapeCast S24x1x2048 (outR (V (main_arg0 : DevRef τ sig)) (V (main_arg1 : DevRef τ sig)) (V (main_arg2 : DevRef τ sig)) (V (main_arg3 : DevRef τ sig))
        (V (main_arg4 : DevRef τ sig)) (V (main_arg5 : DevRef τ sig)) (V (main_arg6 : DevRef τ sig))) shapeCasts_S24x2048_S24x1x2048 := by
  after_results
  rfl

end Cert.Proof.Ref

end
-- ==== Proof.AlgR.lean ====
/- The reference's result read at an index. -/
module

public import proofs.«01_k».proof.Proof.RefVal
public import proofs.«01_k».proof.Proof.Spec

@[expose] public section

set_option maxHeartbeats 0
set_option maxRecDepth 65536

noncomputable section

namespace Cert.Proof.Ref

open Cert.ReferenceIdeal Cert.ReferenceIdeal.Gen
open Idealize.ShloMosaic Idealize.ShloMosaic.TcCoe Idealize.ShloMosaic.StableHlo Idealize.SL.Sem

/-- The dimension numbers of a gather of whole matrices from a stack of sixteen. -/
abbrev stackDims (B C : ℕ)
    (wf : GatherDims.WF ⟨3, ![16, B, C]⟩ ⟨3, ![24, 2, 1]⟩ ⟨4, ![24, 2, B, C]⟩ [2, 3] [0] [] [0] [] 2 ![1, B, C]) :
    GatherDims ⟨3, ![16, B, C]⟩ ⟨3, ![24, 2, 1]⟩ ⟨4, ![24, 2, B, C]⟩ where
  offsetDims := [2, 3]
  collapsedSliceDims := [0]
  operandBatchingDims := []
  startIndicesBatchingDims := []
  startIndexMap := [0]
  indexVectorDim := 2
  sliceSizes := ![1, B, C]
  wf := wf

theorem gather_stack {α : Type} {B C : ℕ}
    (wf : GatherDims.WF ⟨3, ![16, B, C]⟩ ⟨3, ![24, 2, 1]⟩ ⟨4, ![24, 2, B, C]⟩ [2, 3] [0] [] [0] [] 2 ![1, B, C])
    (x : (⟨3, ![16, B, C]⟩ : Shape).Idx → α) (J : IVec ⟨3, ![24, 2, 1]⟩ 32) (t : Fin 24) (k : Fin 2) (o : Fin B) (i : Fin C)
    (e : Fin 16) (he : J (ix3 t k (0 : Fin 1)) = BitVec.ofNat 32 e.val) :
    Host.gather (stackDims B C wf) x J (ix4 t k o i) = x (ix3 e o i) := by
  unfold Host.gather
  refine congrArg x (funext fun a => Fin.ext ?_)
  show (stackDims B C wf).start (ix4 t k o i) J a + (stackDims B C wf).batchCoord (ix4 t k o i) a
    + (stackDims B C wf).offCoord (ix4 t k o i) a = _
  rw [GatherDims.batchCoord_eq_zero _ _ _ List.not_mem_nil]
  match a with
  | ⟨0, _⟩ =>
    have hm : (0 : Fin 3) ∈ (stackDims B C wf).startIndexMap := List.mem_singleton.mpr rfl
    show (stackDims B C wf).start (ix4 t k o i) J 0 + 0 + (stackDims B C wf).offCoord (ix4 t k o i) 0 = e.val
    rw [GatherDims.offCoord_eq_zero _ _ _ (fun h => ((GatherDims.mem_sKept _ _).mp h).1 (List.mem_singleton.mpr rfl))]
    unfold GatherDims.start
    rw [dif_pos hm]
    have hsi : (stackDims B C wf).siIdx (ix4 t k o i) ⟨List.idxOf (0 : Fin 3) (stackDims B C wf).startIndexMap,
        List.idxOf_lt_length_iff.2 hm⟩ = ix3 t k (0 : Fin 1) := by
      funext b; refine Fin.ext ?_
      match b with
      | ⟨0, _⟩ => rfl
      | ⟨1, _⟩ => rfl
      | ⟨2, _⟩ => rfl
    rw [hsi, he]
    have h : ∀ e : Fin 16, min ((BitVec.ofNat 32 e.val).toInt.toNat) 15 + 0 + 0 = e.val := by decide
    exact h e
  | ⟨1, _⟩ =>
    have hm : (1 : Fin 3) ∉ (stackDims B C wf).startIndexMap := fun h => absurd (congrArg Fin.val (List.mem_singleton.mp h)) Nat.one_ne_zero
    show (stackDims B C wf).start (ix4 t k o i) J 1 + 0 + (stackDims B C wf).offCoord (ix4 t k o i) 1 = o.val
    unfold GatherDims.start
    rw [dif_neg hm, Nat.zero_add]
    rfl
  | ⟨2, _⟩ =>
    have hm : (2 : Fin 3) ∉ (stackDims B C wf).startIndexMap := fun h => absurd (congrArg Fin.val (List.mem_singleton.mp h)) (Nat.succ_ne_zero 1)
    show (stackDims B C wf).start (ix4 t k o i) J 2 + 0 + (stackDims B C wf).offCoord (ix4 t k o i) 2 = i.val
    unfold GatherDims.start
    rw [dif_neg hm, Nat.zero_add]
    rfl

section one
variable (W : IVec S16x4096x1024 8) (S : FVec Ideal S16x4096x16 .bf16) (J : IVec S24x2x1 32) (t : Fin 24) (k : Fin 2) (o : Fin 4096)
  (e : Fin 16) (he : J (ix3 t k (0 : Fin 1)) = BitVec.ofNat 32 e.val)
include he

theorem cod1_apply (i : Fin 1024) : cod1 W J (ix4 t k o i) = BitVec.setWidth 32 (W (ix3 e o i)) :=
  congrArg (BitVec.setWidth 32) (gather_stack _ W J t k o i e he)

theorem scl1_apply (i : Fin 16) : scl1 (F := Ideal) S J (ix4 t k o i) = S (ix3 e o i) := gather_stack _ S J t k o i e he
end one

section two
variable (W : IVec S16x2048x1024 8) (S : FVec Ideal S16x2048x16 .bf16) (J : IVec S24x2x1 32) (t : Fin 24) (k : Fin 2) (o : Fin 2048)
  (e : Fin 16) (he : J (ix3 t k (0 : Fin 1)) = BitVec.ofNat 32 e.val)
include he

theorem cod2_apply (i : Fin 1024) : cod2 W J (ix4 t k o i) = BitVec.setWidth 32 (W (ix3 e o i)) :=
  congrArg (BitVec.setWidth 32) (gather_stack _ W J t k o i e he)

theorem scl2_apply (i : Fin 16) : scl2 (F := Ideal) S J (ix4 t k o i) = S (ix3 e o i) := gather_stack _ S J t k o i e he
end two

theorem lo_int (b : BitVec 8) : (IntOp.andi (BitVec.setWidth 32 b) 15#32).toInt = ((b.toNat % 16 : ℕ) : ℤ) := by
  revert b; decide +kernel
theorem hi_int (b : BitVec 8) : (Host.shrsi (s := ⟨0, ![]⟩) (fun _ => BitVec.setWidth 32 b) (fun _ => 4#32) (fun i => i.elim0)).toInt = ((b.toNat / 16 : ℕ) : ℤ) := by
  revert b; decide +kernel

theorem eight : Ideal.ofBits FTy.bf16 16640#16 = ((8 : ℝ) : EReal) := by
  simp [Ideal.ofBits, Ideal.ieee, -EReal.coe_mul]; norm_num

theorem fld1_apply (n : IVec S24x2x4096x1024 32) (S : FVec Ideal S24x2x4096x16 .bf16) (t : Fin 24) (k : Fin 2) (o : Fin 4096) (i : Fin 1024) :
    fld1 (F := Ideal) n S (ix4 t k o i) = ((((n (ix4 t k o i)).toInt - 8 : ℤ) : ℝ) : EReal) * S (ix4 t k o ⟨i.val / 64, by omega⟩) := by
  unfold fld1
  pointwise
  rw [eight]
  refine congrArg (· * _) ?_
  show (((n (ix4 t k o i)).toInt : ℝ) : EReal) - ((8 : ℝ) : EReal) = _
  rw [← EReal.coe_sub]
  push_cast
  rfl
theorem fld2_apply (n : IVec S24x2x2048x1024 32) (S : FVec Ideal S24x2x2048x16 .bf16) (t : Fin 24) (k : Fin 2) (o : Fin 2048) (i : Fin 1024) :
    fld2 (F := Ideal) n S (ix4 t k o i) = ((((n (ix4 t k o i)).toInt - 8 : ℤ) : ℝ) : EReal) * S (ix4 t k o ⟨i.val / 64, by omega⟩) := by
  unfold fld2
  pointwise
  rw [eight]
  refine congrArg (· * _) ?_
  show (((n (ix4 t k o i)).toInt : ℝ) : EReal) - ((8 : ℝ) : EReal) = _
  rw [← EReal.coe_sub]
  push_cast
  rfl

theorem mm1_apply (a : FVec Ideal S24x2x2048 .bf16) (W : IVec S16x4096x1024 8) (S : FVec Ideal S16x4096x16 .bf16) (J : IVec S24x2x1 32)
    (t : Fin 24) (k : Fin 2) (o : Fin 4096) (e : Fin 16) (he : J (ix3 t k (0 : Fin 1)) = BitVec.ofNat 32 e.val) :
    mm1 (F := Ideal) a (cod1 W J) (scl1 (F := Ideal) S J) (ix3 t k o)
      = dotP (fun j => a (ix3 t k j)) (fun i => W (ix3 e o i)) (fun q => S (ix3 e o q)) := by
  rw [dotP_even_odd]
  unfold mm1
  pointwise
  refine congrArg₂ (· + ·) (Finset.sum_congr rfl fun x _ => ?_) (Finset.sum_congr rfl fun x _ => ?_)
  · rw [fld1_apply, scl1_apply S J t k o e he]
    refine congrArg (_ * ·) (congrArg (· * _) ?_)
    show (((((IntOp.andi (cod1 W J (ix4 t k o x)) 15#32).toInt - 8 : ℤ)) : ℝ) : EReal) = _
    rw [cod1_apply W J t k o e he, lo_int]
    rfl
  · rw [fld1_apply, scl1_apply S J t k o e he]
    refine congrArg (_ * ·) (congrArg (· * _) ?_)
    show ((((Host.shrsi (s := ⟨0, ![]⟩) (fun _ => cod1 W J (ix4 t k o x)) (fun _ => 4#32) (fun i => i.elim0)).toInt - 8 : ℤ) : ℝ) : EReal) = _
    rw [cod1_apply W J t k o e he, hi_int]
    rfl

theorem mm2_apply (a : FVec Ideal S24x2x2048 .bf16) (W : IVec S16x2048x1024 8) (S : FVec Ideal S16x2048x16 .bf16) (J : IVec S24x2x1 32)
    (t : Fin 24) (k : Fin 2) (o : Fin 2048) (e : Fin 16) (he : J (ix3 t k (0 : Fin 1)) = BitVec.ofNat 32 e.val) :
    mm2 (F := Ideal) a (cod2 W J) (scl2 (F := Ideal) S J) (ix3 t k o)
      = dotP (fun j => a (ix3 t k j)) (fun i => W (ix3 e o i)) (fun q => S (ix3 e o q)) := by
  rw [dotP_even_odd]
  unfold mm2
  pointwise
  refine congrArg₂ (· + ·) (Finset.sum_congr rfl fun x _ => ?_) (Finset.sum_congr rfl fun x _ => ?_)
  · rw [fld2_apply, scl2_apply S J t k o e he]
    refine congrArg (_ * ·) (congrArg (· * _) ?_)
    show (((((IntOp.andi (cod2 W J (ix4 t k o x)) 15#32).toInt - 8 : ℤ)) : ℝ) : EReal) = _
    rw [cod2_apply W J t k o e he, lo_int]
    rfl
  · rw [fld2_apply, scl2_apply S J t k o e he]
    refine congrArg (_ * ·) (congrArg (· * _) ?_)
    show ((((Host.shrsi (s := ⟨0, ![]⟩) (fun _ => cod2 W J (ix4 t k o x)) (fun _ => 4#32) (fun i => i.elim0)).toInt - 8 : ℤ) : ℝ) : EReal) = _
    rw [cod2_apply W J t k o e he, hi_int]
    rfl

theorem selI_apply (I : IVec S24x2 32) (t : Fin 24) (k : Fin 2) (e : Fin 16) (he : I (ix2 t k) = BitVec.ofNat 32 e.val) :
    selI I (ix3 t k (0 : Fin 1)) = BitVec.ofNat 32 e.val := by
  unfold selI
  pointwise
  rw [he]
  have h : ∀ e : Fin 16, Scalar.select (IntOp.cmpi .slt (BitVec.ofNat 32 e.val) 0#32) (IntOp.addi (BitVec.ofNat 32 e.val) 16#32) (BitVec.ofNat 32 e.val)
    = BitVec.ofNat 32 e.val := by decide
  exact h e

theorem hidR_apply (g : FVec Ideal S24x2x4096 .f32) (t : Fin 24) (k : Fin 2) (o : Fin 2048) :
    hidR (F := Ideal) g (ix3 t k o) = (g (ix3 t k ⟨o.val, by omega⟩)
      * Ideal.div 1 (1 + Ideal.exp (-g (ix3 t k ⟨o.val, by omega⟩)))
      * g (ix3 t k ⟨2048 + o.val, by omega⟩) : EReal) := by
  unfold hidR silu
  pointwise

theorem mixR_apply (y : FVec Ideal S24x2x2048 .f32) (a6 : FVec Ideal S24x1x2 .f32) (t : Fin 24) (o : Fin 2048) :
    mixR (F := Ideal) y a6 (ix2 t o) = (∑ x : Fin 2, y (ix3 t x o) * a6 (ix3 t (0 : Fin 1) x) : EReal) := by
  unfold mixR
  pointwise

/-- The reference read at an index. -/
theorem outR_apply (a0 : FVec Ideal S24x1x2048 .bf16) (a1 : IVec S16x4096x1024 8) (a2 : FVec Ideal S16x4096x16 .bf16) (a3 : IVec S16x2048x1024 8)
    (a4 : FVec Ideal S16x2048x16 .bf16) (a5 : IVec S24x1x2 32) (a6 : FVec Ideal S24x1x2 .f32) (t : Fin 24) (o : Fin 2048)
    (e : Fin 2 → Fin 16) (he : ∀ k, a5 (ix3 t (0 : Fin 1) k) = BitVec.ofNat 32 (e k).val) :
    outR (F := Ideal) a0 a1 a2 a3 a4 a5 a6 (ix2 t o)
      = (∑ k : Fin 2, dotP (hidS (fun j => a0 (ix3 t (0 : Fin 1) j)) (fun r i => a1 (ix3 (e k) r i)) (fun r q => a2 (ix3 (e k) r q)))
          (fun i => a3 (ix3 (e k) o i)) (fun q => a4 (ix3 (e k) o q)) * a6 (ix3 t (0 : Fin 1) k) : EReal) := by
  unfold outR
  rw [mixR_apply]
  refine Finset.sum_congr rfl fun k _ => congrArg (· * _) ?_
  have hI : shapeCast S24x2 a5 shapeCasts_S24x1x2_S24x2 (ix2 t k) = BitVec.ofNat 32 (e k).val := by
    pointwise
    exact he k
  have hJ := selI_apply (shapeCast S24x2 a5 shapeCasts_S24x1x2_S24x2) t k (e k) hI
  rw [mm2_apply _ _ _ _ _ _ _ _ hJ]
  refine congrArg (fun f => dotP f _ _) (funext fun j => ?_)
  rw [hidR_apply, mm1_apply _ _ _ _ _ _ _ _ hJ, mm1_apply _ _ _ _ _ _ _ _ hJ]
  unfold hidS
  have hb : (fun j => broadcastInDim S24x2x2048 ![0, 1, 2] bcast_S24x1x2048_S24x2x2048_0_1_2 a0 (ix3 t k j)) = fun j => a0 (ix3 t (0 : Fin 1) j) := by
    funext j
    pointwise
  rw [hb]

end Cert.Proof.Ref

end
-- ==== Proof.Algebra.lean ====
/- The kernel's result is the reference's, for ids in range and a token's two ids different. -/
module

public import proofs.«01_k».proof.Defs
public import proofs.«01_k».proof.Proof.Value
public import proofs.«01_k».proof.Proof.Mask
public import proofs.«01_k».proof.Proof.AlgK
public import proofs.«01_k».proof.Proof.AlgR

@[expose] public section

set_option maxHeartbeats 0
set_option maxRecDepth 65536

noncomputable section

namespace Cert.Proof

open Idealize.ShloMosaic Idealize.ShloMosaic.TcCoe Idealize.SL.Sem
open Cert.Kernel Cert.Kernel.Gen

variable (m : (ℓ : Loc nD τ sig) → Buf (Elt Ideal) ℓ) (c : Dev nD)

theorem arrM_X (t : Fin 24) (j : Fin 2048) : (arrM (F := Ideal) m c).X (ix2 t j) = m ((c : Thread nD τ).loc main_arg0) (ix3 t (0 : Fin 1) j) := by
  show shapeCast S24x2048 (m ((c : Thread nD τ).loc main_arg0) : S24x1x2048.Idx → EReal) shapeCasts_S24x1x2048_S24x2048 (ix2 t j) = _
  generalize (m ((c : Thread nD τ).loc main_arg0) : S24x1x2048.Idx → EReal) = f
  pointwise
theorem arrM_I (t : Fin 24) (j : Fin 2) : (arrM (F := Ideal) m c).I (ix2 t j) = m ((c : Thread nD τ).loc main_arg5) (ix3 t (0 : Fin 1) j) := by
  show shapeCast S24x2 (m ((c : Thread nD τ).loc main_arg5) : S24x1x2.Idx → BitVec 32) shapeCasts_S24x1x2_S24x2 (ix2 t j) = _
  generalize (m ((c : Thread nD τ).loc main_arg5) : S24x1x2.Idx → BitVec 32) = f
  pointwise
theorem arrM_C (t : Fin 24) (j : Fin 2) : (arrM (F := Ideal) m c).C (ix2 t j) = m ((c : Thread nD τ).loc main_arg6) (ix3 t (0 : Fin 1) j) := by
  show shapeCast S24x2 (m ((c : Thread nD τ).loc main_arg6) : S24x1x2.Idx → EReal) shapeCasts_S24x1x2_S24x2 (ix2 t j) = _
  generalize (m ((c : Thread nD τ).loc main_arg6) : S24x1x2.Idx → EReal) = f
  pointwise
theorem arrM_S1 (e q : Fin 16) (r : Fin 4096) : (arrM (F := Ideal) m c).S1 (ix3 e q r) = m ((c : Thread nD τ).loc main_arg2) (ix3 e r q) := by
  show transpose S16x16x4096 [0, 2, 1] (m ((c : Thread nD τ).loc main_arg2) : S16x4096x16.Idx → EReal) transposes_S16x4096x16_S16x16x4096_0_2_1 (ix3 e q r) = _
  generalize (m ((c : Thread nD τ).loc main_arg2) : S16x4096x16.Idx → EReal) = f
  pointwise
theorem arrM_S2 (e q : Fin 16) (r : Fin 2048) : (arrM (F := Ideal) m c).S2 (ix3 e q r) = m ((c : Thread nD τ).loc main_arg4) (ix3 e r q) := by
  show transpose S16x16x2048 [0, 2, 1] (m ((c : Thread nD τ).loc main_arg4) : S16x2048x16.Idx → EReal) transposes_S16x2048x16_S16x16x2048_0_2_1 (ix3 e q r) = _
  generalize (m ((c : Thread nD τ).loc main_arg4) : S16x2048x16.Idx → EReal) = f
  pointwise

theorem expD_eq (t : Fin 24) (o : Fin 2048) (e : Fin 16) : expD (arrM (F := Ideal) m c) t o e
    = dotP (hidS (fun j => m ((c : Thread nD τ).loc main_arg0) (ix3 t (0 : Fin 1) j)) (fun r i => m ((c : Thread nD τ).loc main_arg1) (ix3 e r i))
        (fun r q => m ((c : Thread nD τ).loc main_arg2) (ix3 e r q)))
      (fun i => m ((c : Thread nD τ).loc main_arg3) (ix3 e o i)) (fun q => m ((c : Thread nD τ).loc main_arg4) (ix3 e o q)) := by
  unfold expD
  have a0 : (fun j => (arrM (F := Ideal) m c).X (ix2 t j)) = fun j => m ((c : Thread nD τ).loc main_arg0) (ix3 t (0 : Fin 1) j) := funext fun j => arrM_X m c t j
  have a1 : (fun r q => (arrM (F := Ideal) m c).S1 (ix3 e q r)) = fun r q => m ((c : Thread nD τ).loc main_arg2) (ix3 e r q) := funext fun r => funext fun q => arrM_S1 m c e q r
  have a2 : (fun q => (arrM (F := Ideal) m c).S2 (ix3 e q o)) = fun q => m ((c : Thread nD τ).loc main_arg4) (ix3 e o q) := funext fun q => arrM_S2 m c e q o
  rw [a0, a1, a2]
  rfl

/-- The two results agree at every index. -/
theorem outF_eq (hids : ∀ i, (m ((c : Thread nD τ).loc main_arg5) i : BitVec 32).toNat < 16)
    (hne : ∀ t : Fin 24, (m ((c : Thread nD τ).loc main_arg5) (ix3 t (0 : Fin 1) (0 : Fin 2)) : BitVec 32) ≠ m ((c : Thread nD τ).loc main_arg5) (ix3 t (0 : Fin 1) (1 : Fin 2))) :
    outF (F := Ideal) m c = Ref.outR (F := Ideal) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6)) := by
  funext i
  obtain ⟨t, o, rfl⟩ : ∃ t o, i = ix2 t o := ⟨i 0, i 1, by funext a; match a with | 0 => rfl | 1 => rfl⟩
  have hE : ∀ k : Fin 2, ∃ e : Fin 16, (m ((c : Thread nD τ).loc main_arg5) (ix3 t (0 : Fin 1) k) : BitVec 32) = BitVec.ofNat 32 e.val := fun k =>
    ⟨⟨_, hids (ix3 t (0 : Fin 1) k)⟩, by rw [BitVec.ofNat_toNat, BitVec.setWidth_eq]⟩
  choose e he using hE
  have hd : e 0 ≠ e 1 := fun h => hne t (by rw [he 0, he 1, h])
  have hn : ∀ e : Fin 16, (BitVec.ofNat 32 e.val).toNat = e.val := by decide
  have h0 : (arrM (F := Ideal) m c).I (ix2 t (0 : Fin 2)) = BitVec.ofNat 32 (e 0).val := (arrM_I m c t 0).trans (he 0)
  have h1 : (arrM (F := Ideal) m c).I (ix2 t (1 : Fin 2)) = BitVec.ofNat 32 (e 1).val := (arrM_I m c t 1).trans (he 1)
  have hb : ∀ k : Fin 2, (arrM (F := Ideal) m c).I (ix2 t k) = BitVec.ofNat 32 (e k).val →
      (maskM (F := Ideal) (arrM (F := Ideal) m c).I).getLsbD (e k).val = true := fun k hk => by
    have hv : ((arrM (F := Ideal) m c).I (ValueIdx.ix2 ⟨t.val, t.isLt⟩ ⟨k.val, k.isLt⟩) : BitVec 32) = BitVec.ofNat 32 (e k).val := by
      rw [← ix2_eq_valueIdx]; exact hk
    have := maskM_bit (F := Ideal) (arrM (F := Ideal) m c).I t.val k.val t.isLt k.isLt (by rw [hv, hn]; exact (e k).isLt)
    rw [hv, hn] at this
    exact this
  refine (outM_apply (arrM (F := Ideal) m c) (maskM (F := Ideal) (arrM (F := Ideal) m c).I) t o (e 0) (e 1) hd h0 h1 (hb 0 h0) (hb 1 h1)).trans ?_
  refine Eq.trans ?_ (Ref.outR_apply _ _ _ _ _ _ _ t o e he).symm
  rw [Fin.sum_univ_two, expD_eq, expD_eq, arrM_C, arrM_C]

end Cert.Proof

end
-- ==== Proof.lean ====
/- The proof of the certificate's claims, put together from its modules. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Run
public import proofs.«01_k».proof.Proof.Bridge
public import proofs.«01_k».proof.Proof.Ref
public import proofs.«01_k».proof.Proof.Algebra
public import Idealize.ShloMosaic.Adequacy
public import Idealize.ShloMosaic.Init

@[expose] public section

set_option maxRecDepth 65536
set_option maxHeartbeats 0

noncomputable section

namespace Cert.Proof

open Idealize.ShloMosaic Idealize.ShloMosaic.TcCoe Idealize.SL.Sem

theorem pre_facts : Cert.Pre_ids_in_range.Facts where
  bcast_S_S24x1x2 := by decide

/-- Signed between zero and sixteen is unsigned below sixteen. -/
theorem toNat_lt_of_cmp (x : BitVec 32)
    (h : IntOp.andi (IntOp.cmpi .sge x 0#32) (IntOp.cmpi .slt x 16#32) = 1#1) : x.toNat < 16 := by
  have h1 : BitVec.sle 0#32 x = true := by
    by_contra hc
    rw [Bool.not_eq_true] at hc
    simp [IntOp.cmpi, IntOp.andi, hc] at h
  have h2 : BitVec.slt x 16#32 = true := by
    by_contra hc
    rw [Bool.not_eq_true] at hc
    simp [IntOp.cmpi, IntOp.andi, hc] at h
  have h1' : (0#32 : BitVec 32).toInt ≤ x.toInt := by simpa [BitVec.sle] using h1
  have h2' : x.toInt < (16#32 : BitVec 32).toInt := by simpa [BitVec.slt] using h2
  have e0 : (0#32 : BitVec 32).toInt = 0 := by decide
  have e16 : (16#32 : BitVec 32).toInt = 16 := by decide
  rw [e0] at h1'
  rw [e16] at h2'
  rw [BitVec.toInt_eq_toNat_cond] at h1' h2'
  have := x.isLt
  split at h1' <;> omega

/-- What the precondition says of the ids. -/
theorem ids_of_pre [Cert.Pre_ids_in_range.Facts] {F : FTy → Type} [FloatOps F] (a0 a1 a2 a3 a4 a5 a6)
    (h : Cert.Pre_ids_in_range.fn (F := F) a0 a1 a2 a3 a4 a5 a6 = fun _ => 1#1) (i) : (a5 i).toNat < 16 :=
  toNat_lt_of_cmp (a5 i) (congrFun h i)

theorem frame_kernel : @Cert.quiescent_Kernel Cert.Kernel.Gen.facts pre_facts := fun m g hm =>
  Cert.Kernel.Gen.frameA (F := Bits) m g fun c => @ids_of_pre pre_facts Bits _ _ _ _ _ _ _ _ (hm c)

theorem frame_kernelIdeal : @Cert.quiescent_KernelIdeal Cert.KernelIdeal.Gen.facts pre_facts := fun m g hm => by
  have h := Cert.Kernel.Gen.frameA (F := Ideal) m g fun c => @ids_of_pre pre_facts Ideal _ _ _ _ _ _ _ _ (hm c)
  rw [← defs_eq, ← main_eq] at h
  exact h

theorem frame_reference : @Cert.quiescent_ReferenceIdeal Cert.ReferenceIdeal.Gen.facts := fun m g _ =>
  (θ_run Cert.ReferenceIdeal.defs _ _).mono
    (fun r h => ⟨fun c => (h c).2, Idealize.ShloMosaic.sem_eq_zero_of_no_sems (by decide) r.2⟩) (Cert.Proof.Ref.run_main (F := Ideal) m g)

theorem pre_distinct_facts : Cert.Pre_ids_distinct.Facts where
  bcast_S_S24x1x2 := by decide
  slices_S24x1x2_S24x1x1_0_0_0 := by decide
  slices_S24x1x2_S24x1x1_0_0_1 := by decide
  bcast_S24x1x1_S24x1x2_0_1_2 := by decide

/-- What the second precondition says of the ids at one place. -/
theorem distinct_at [Cert.Pre_ids_distinct.Facts] (a0 a1 a2 a3 a4 a5 a6) (t : Fin 24) (k : Fin 2)
    (h : Cert.Pre_ids_distinct.fn (F := Ideal) a0 a1 a2 a3 a4 a5 a6 = fun _ => 1#1) :
    IntOp.andi (IntOp.andi (IntOp.cmpi .sge (a5 (ix3 t (0 : Fin 1) k)) 0#32) (IntOp.cmpi .slt (a5 (ix3 t (0 : Fin 1) k)) 16#32))
      (IntOp.cmpi .ne (a5 (ix3 t (0 : Fin 1) (0 : Fin 2))) (a5 (ix3 t (0 : Fin 1) (1 : Fin 2)))) = 1#1 := by
  have h' := congrFun h (ix3 t (0 : Fin 1) k)
  refine Eq.trans ?_ h'
  unfold Cert.Pre_ids_distinct.fn
  pointwise

theorem andi_one : ∀ a b : BitVec 1, IntOp.andi a b = 1#1 → a = 1#1 ∧ b = 1#1 := by decide

theorem ids_of_distinct [Cert.Pre_ids_distinct.Facts] (a0 a1 a2 a3 a4 a5 a6)
    (h : Cert.Pre_ids_distinct.fn (F := Ideal) a0 a1 a2 a3 a4 a5 a6 = fun _ => 1#1) (i) : (a5 i).toNat < 16 := by
  obtain ⟨t, k, rfl⟩ : ∃ t k, i = ix3 t (0 : Fin 1) k := ⟨i 0, i 2, by
    funext a
    match a with
    | 0 => rfl
    | 1 => exact Subsingleton.elim (α := Fin 1) _ _
    | 2 => rfl⟩
  exact toNat_lt_of_cmp _ (andi_one _ _ (distinct_at a0 a1 a2 a3 a4 a5 a6 t k h)).1

theorem ne_of_distinct [Cert.Pre_ids_distinct.Facts] (a0 a1 a2 a3 a4 a5 a6)
    (h : Cert.Pre_ids_distinct.fn (F := Ideal) a0 a1 a2 a3 a4 a5 a6 = fun _ => 1#1) (t : Fin 24) :
    a5 (ix3 t (0 : Fin 1) (0 : Fin 2)) ≠ a5 (ix3 t (0 : Fin 1) (1 : Fin 2)) := fun e => by
  have h' := (andi_one _ _ (distinct_at a0 a1 a2 a3 a4 a5 a6 t 0 h)).2
  rw [e] at h'
  simp [IntOp.cmpi] at h'

theorem frame_kernelIdeal_distinct : @Cert.quiescent_KernelIdeal_pre_ids_distinct Cert.KernelIdeal.Gen.facts pre_distinct_facts := fun m g hm => by
  have h := Cert.Kernel.Gen.frameA (F := Ideal) m g fun c => @ids_of_distinct pre_distinct_facts _ _ _ _ _ _ _ (hm c)
  rw [← defs_eq, ← main_eq] at h
  exact h

theorem frame_reference_distinct : @Cert.quiescent_ReferenceIdeal_pre_ids_distinct Cert.ReferenceIdeal.Gen.facts pre_distinct_facts := fun m g _ =>
  (θ_run Cert.ReferenceIdeal.defs _ _).mono
    (fun r h => ⟨fun c => (h c).2, Idealize.ShloMosaic.sem_eq_zero_of_no_sems (by decide) r.2⟩) (Cert.Proof.Ref.run_main (F := Ideal) m g)

theorem algebraic : @Cert.algebraic_KernelIdeal_ReferenceIdeal_pre_ids_distinct Cert.KernelIdeal.Gen.facts Cert.ReferenceIdeal.Gen.facts pre_distinct_facts :=
  fun m g m' g' hm hag => by
  have hids : ∀ (c : Dev Cert.Kernel.nD) (i), ((m ((c : Thread Cert.Kernel.nD Cert.Kernel.τ).loc Cert.Kernel.main_arg5) i : Elt Ideal .i32) : BitVec 32).toNat < 16 :=
    fun c => @ids_of_distinct pre_distinct_facts _ _ _ _ _ _ _ (hm c)
  have h := Cert.Kernel.Gen.valueA (F := Ideal) m g hids
  rw [← defs_eq, ← main_eq] at h
  refine ⟨fun c => shapeCast Cert.Kernel.S24x1x2048 (Cert.Kernel.Gen.outF (F := Ideal) m c) Cert.Kernel.Gen.shapeCasts_S24x2048_S24x1x2048, h, ?_⟩
  refine (θ_run Cert.ReferenceIdeal.defs _ _).mono (fun r hr c => ⟨(hr c).1.trans ?_, (hr c).2⟩) (Cert.Proof.Ref.run_main (F := Ideal) m' g')
  refine (Cert.Proof.Ref.out_eq _).trans ?_
  obtain ⟨e0, e1, e2, e3, e4, e5, e6⟩ := hag c
  refine Eq.trans ?_ (congrArg (fun z => shapeCast Cert.Kernel.S24x1x2048 z Cert.Kernel.Gen.shapeCasts_S24x2048_S24x1x2048)
    (outF_eq m c (hids c) (@ne_of_distinct pre_distinct_facts _ _ _ _ _ _ _ (hm c)))).symm
  show shapeCast _ (Cert.Proof.Ref.outR (F := Ideal) (m' ((c.tc : Thread Cert.ReferenceIdeal.nD Cert.ReferenceIdeal.τ).loc Cert.ReferenceIdeal.main_arg0))
    (m' ((c.tc : Thread Cert.ReferenceIdeal.nD Cert.ReferenceIdeal.τ).loc Cert.ReferenceIdeal.main_arg1))
    (m' ((c.tc : Thread Cert.ReferenceIdeal.nD Cert.ReferenceIdeal.τ).loc Cert.ReferenceIdeal.main_arg2))
    (m' ((c.tc : Thread Cert.ReferenceIdeal.nD Cert.ReferenceIdeal.τ).loc Cert.ReferenceIdeal.main_arg3))
    (m' ((c.tc : Thread Cert.ReferenceIdeal.nD Cert.ReferenceIdeal.τ).loc Cert.ReferenceIdeal.main_arg4))
    (m' ((c.tc : Thread Cert.ReferenceIdeal.nD Cert.ReferenceIdeal.τ).loc Cert.ReferenceIdeal.main_arg5))
    (m' ((c.tc : Thread Cert.ReferenceIdeal.nD Cert.ReferenceIdeal.τ).loc Cert.ReferenceIdeal.main_arg6))) _ = _
  rw [e0, e1, e2, e3, e4, e5, e6]

theorem claim : Cert.Claim :=
  ⟨Cert.Kernel.Gen.facts, Cert.KernelIdeal.Gen.facts, Cert.ReferenceIdeal.Gen.facts, pre_facts, pre_distinct_facts,
    frame_kernel, frame_kernelIdeal, frame_kernelIdeal_distinct, frame_reference, frame_reference_distinct, trivial, algebraic⟩

end Cert.Proof

end
